-- ==== Defs.lean ====
def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixedIdeal (m : (ℓ : Loc Cert.MixedIdeal.nD Cert.MixedIdeal.τ Cert.MixedIdeal.sig) → Buf (Elt Ideal) ℓ) : Prop :=
  True

def Pre_SampleProject (m : (ℓ : Loc Cert.SampleProject.nD Cert.SampleProject.τ Cert.SampleProject.sig) → Buf (Elt Bits) ℓ) : Prop :=
  True

def Pre_SampleProjectIdeal (m : (ℓ : Loc Cert.SampleProjectIdeal.nD Cert.SampleProjectIdeal.τ Cert.SampleProjectIdeal.sig) → Buf (Elt Ideal) ℓ) : Prop :=
  True

def Pre_SampleProjectedIdeal (m : (ℓ : Loc Cert.SampleProjectedIdeal.nD Cert.SampleProjectedIdeal.τ Cert.SampleProjectedIdeal.sig) → Buf (Elt Ideal) ℓ) : Prop :=
  True

def Pre_SampleMix (m : (ℓ : Loc Cert.SampleMix.nD Cert.SampleMix.τ Cert.SampleMix.sig) → Buf (Elt Bits) ℓ) : Prop :=
  True

def Pre_SampleMixIdeal (m : (ℓ : Loc Cert.SampleMixIdeal.nD Cert.SampleMixIdeal.τ Cert.SampleMixIdeal.sig) → Buf (Elt Ideal) ℓ) : Prop :=
  True

def Pre_SampleMixedIdeal (m : (ℓ : Loc Cert.SampleMixedIdeal.nD Cert.SampleMixedIdeal.τ Cert.SampleMixedIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_ExpertsIdeal (m : (ℓ : Loc Cert.ExpertsIdeal.nD Cert.ExpertsIdeal.τ Cert.ExpertsIdeal.sig) → Buf (Elt Ideal) ℓ) : Prop :=
  True

def Pre_SampleDense (m : (ℓ : Loc Cert.SampleDense.nD Cert.SampleDense.τ Cert.SampleDense.sig) → Buf (Elt Bits) ℓ) : Prop :=
  True

def Pre_SampleDenseIdeal (m : (ℓ : Loc Cert.SampleDenseIdeal.nD Cert.SampleDenseIdeal.τ Cert.SampleDenseIdeal.sig) → Buf (Elt Ideal) ℓ) : Prop :=
  True

def Pre_SampleExpertsIdeal (m : (ℓ : Loc Cert.SampleExpertsIdeal.nD Cert.SampleExpertsIdeal.τ Cert.SampleExpertsIdeal.sig) → Buf (Elt Ideal) ℓ) : Prop :=
  True

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1Ideal_finite_queries_and_keys [hPre_finite_queries_and_keys : Cert.Pre_finite_queries_and_keys.Facts] (m : (ℓ : Loc Cert.Attn1Ideal.nD Cert.Attn1Ideal.τ Cert.Attn1Ideal.sig) → Buf (Elt Ideal) ℓ) : Prop :=
  ∀ c : Dev Cert.Attn1Ideal.nD,
    (Cert.Pre_finite_queries_and_keys.fn (F := Ideal) (m ((c.tc : Thread Cert.Attn1Ideal.nD Cert.Attn1Ideal.τ).loc Cert.Attn1Ideal.main_arg0))) = (fun _ => 1#1)

def Pre_Dilated1Ideal (m : (ℓ : Loc Cert.Dilated1Ideal.nD Cert.Dilated1Ideal.τ Cert.Dilated1Ideal.sig) → Buf (Elt Ideal) ℓ) : Prop :=
  True

def Pre_Dilated1Ideal_finite_queries_and_keys [hPre_finite_queries_and_keys : Cert.Pre_finite_queries_and_keys.Facts] (m : (ℓ : Loc Cert.Dilated1Ideal.nD Cert.Dilated1Ideal.τ Cert.Dilated1Ideal.sig) → Buf (Elt Ideal) ℓ) : Prop :=
  ∀ c : Dev Cert.Dilated1Ideal.nD,
    (Cert.Pre_finite_queries_and_keys.fn (F := Ideal) (m ((c.tc : Thread Cert.Dilated1Ideal.nD Cert.Dilated1Ideal.τ).loc Cert.Dilated1Ideal.main_arg0))) = (fun _ => 1#1)

def Pre_Attn4 (m : (ℓ : Loc Cert.Attn4.nD Cert.Attn4.τ Cert.Attn4.sig) → Buf (Elt Bits) ℓ) : Prop :=
  True

def Pre_Attn4Ideal (m : (ℓ : Loc Cert.Attn4Ideal.nD Cert.Attn4Ideal.τ Cert.Attn4Ideal.sig) → Buf (Elt Ideal) ℓ) : Prop :=
  True

def Pre_Attn4Ideal_finite_queries_and_keys [hPre_finite_queries_and_keys : Cert.Pre_finite_queries_and_keys.Facts] (m : (ℓ : Loc Cert.Attn4Ideal.nD Cert.Attn4Ideal.τ Cert.Attn4Ideal.sig) → Buf (Elt Ideal) ℓ) : Prop :=
  ∀ c : Dev Cert.Attn4Ideal.nD,
    (Cert.Pre_finite_queries_and_keys.fn (F := Ideal) (m ((c.tc : Thread Cert.Attn4Ideal.nD Cert.Attn4Ideal.τ).loc Cert.Attn4Ideal.main_arg0))) = (fun _ => 1#1)

def Pre_Dilated4Ideal (m : (ℓ : Loc Cert.Dilated4Ideal.nD Cert.Dilated4Ideal.τ Cert.Dilated4Ideal.sig) → Buf (Elt Ideal) ℓ) : Prop :=
  True

def Pre_Dilated4Ideal_finite_queries_and_keys [hPre_finite_queries_and_keys : Cert.Pre_finite_queries_and_keys.Facts] (m : (ℓ : Loc Cert.Dilated4Ideal.nD Cert.Dilated4Ideal.τ Cert.Dilated4Ideal.sig) → Buf (Elt Ideal) ℓ) : Prop :=
  ∀ c : Dev Cert.Dilated4Ideal.nD,
    (Cert.Pre_finite_queries_and_keys.fn (F := Ideal) (m ((c.tc : Thread Cert.Dilated4Ideal.nD Cert.Dilated4Ideal.τ).loc Cert.Dilated4Ideal.main_arg0))) = (fun _ => 1#1)

def Pre_Attn16 (m : (ℓ : Loc Cert.Attn16.nD Cert.Attn16.τ Cert.Attn16.sig) → Buf (Elt Bits) ℓ) : Prop :=
  True

def Pre_Attn16Ideal (m : (ℓ : Loc Cert.Attn16Ideal.nD Cert.Attn16Ideal.τ Cert.Attn16Ideal.sig) → Buf (Elt Ideal) ℓ) : Prop :=
  True

def Pre_Attn16Ideal_finite_queries_and_keys [hPre_finite_queries_and_keys : Cert.Pre_finite_queries_and_keys.Facts] (m : (ℓ : Loc Cert.Attn16Ideal.nD Cert.Attn16Ideal.τ Cert.Attn16Ideal.sig) → Buf (Elt Ideal) ℓ) : Prop :=
  ∀ c : Dev Cert.Attn16Ideal.nD,
    (Cert.Pre_finite_queries_and_keys.fn (F := Ideal) (m ((c.tc : Thread Cert.Attn16Ideal.nD Cert.Attn16Ideal.τ).loc Cert.Attn16Ideal.main_arg0))) = (fun _ => 1#1)

def Pre_Dilated16Ideal (m : (ℓ : Loc Cert.Dilated16Ideal.nD Cert.Dilated16Ideal.τ Cert.Dilated16Ideal.sig) → Buf (Elt Ideal) ℓ) : Prop :=
  True

def Pre_Dilated16Ideal_finite_queries_and_keys [hPre_finite_queries_and_keys : Cert.Pre_finite_queries_and_keys.Facts] (m : (ℓ : Loc Cert.Dilated16Ideal.nD Cert.Dilated16Ideal.τ Cert.Dilated16Ideal.sig) → Buf (Elt Ideal) ℓ) : Prop :=
  ∀ c : Dev Cert.Dilated16Ideal.nD,
    (Cert.Pre_finite_queries_and_keys.fn (F := Ideal) (m ((c.tc : Thread Cert.Dilated16Ideal.nD Cert.Dilated16Ideal.τ).loc Cert.Dilated16Ideal.main_arg0))) = (fun _ => 1#1)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
      ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
      ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9)
      ∧ r.2.mem ((c.tc : Thread Cert.MixedIdeal.nD Cert.MixedIdeal.τ).loc Cert.MixedIdeal.main_arg10) = m ((c.tc : Thread Cert.MixedIdeal.nD Cert.MixedIdeal.τ).loc Cert.MixedIdeal.main_arg10)
      ∧ r.2.mem ((c.tc : Thread Cert.MixedIdeal.nD Cert.MixedIdeal.τ).loc Cert.MixedIdeal.main_arg11) = m ((c.tc : Thread Cert.MixedIdeal.nD Cert.MixedIdeal.τ).loc Cert.MixedIdeal.main_arg11)
      ∧ r.2.mem ((c.tc : Thread Cert.MixedIdeal.nD Cert.MixedIdeal.τ).loc Cert.MixedIdeal.main_arg12) = m ((c.tc : Thread Cert.MixedIdeal.nD Cert.MixedIdeal.τ).loc Cert.MixedIdeal.main_arg12)
      ∧ r.2.mem ((c.tc : Thread Cert.MixedIdeal.nD Cert.MixedIdeal.τ).loc Cert.MixedIdeal.main_arg13) = m ((c.tc : Thread Cert.MixedIdeal.nD Cert.MixedIdeal.τ).loc Cert.MixedIdeal.main_arg13)
      ∧ r.2.mem ((c.tc : Thread Cert.MixedIdeal.nD Cert.MixedIdeal.τ).loc Cert.MixedIdeal.main_arg14) = m ((c.tc : Thread Cert.MixedIdeal.nD Cert.MixedIdeal.τ).loc Cert.MixedIdeal.main_arg14))
      ∧ r.2.sem = fun _ => 0)

def quiescent_SampleProject [hSampleProject : Cert.SampleProject.Facts] : Prop :=
  ∀ (m : (ℓ : Loc Cert.SampleProject.nD Cert.SampleProject.τ Cert.SampleProject.sig) → Buf (Elt Bits) ℓ) (g : Dev Cert.SampleProject.nD → PrngReg), Pre_SampleProject m →
    θ_run (Cert.SampleProject.defs (F := Bits)) (onTc (τ := Cert.SampleProject.τ) (Cert.SampleProject.main (F := Bits))) ⟨m, fun _ => 0, g⟩ (fun r => (∀ c : Dev Cert.SampleProject.nD,
      r.2.mem ((c.tc : Thread Cert.SampleProject.nD Cert.SampleProject.τ).loc Cert.SampleProject.main_arg0) = m ((c.tc : Thread Cert.SampleProject.nD Cert.SampleProject.τ).loc Cert.SampleProject.main_arg0)
      ∧ r.2.mem ((c.tc : Thread Cert.SampleProject.nD Cert.SampleProject.τ).loc Cert.SampleProject.main_arg1) = m ((c.tc : Thread Cert.SampleProject.nD Cert.SampleProject.τ).loc Cert.SampleProject.main_arg1)
      ∧ r.2.mem ((c.tc : Thread Cert.SampleProject.nD Cert.SampleProject.τ).loc Cert.SampleProject.main_arg2) = m ((c.tc : Thread Cert.SampleProject.nD Cert.SampleProject.τ).loc Cert.SampleProject.main_arg2))
      ∧ r.2.sem = fun _ => 0)

def quiescent_SampleProjectIdeal [hSampleProjectIdeal : Cert.SampleProjectIdeal.Facts] : Prop :=
  ∀ (m : (ℓ : Loc Cert.SampleProjectIdeal.nD Cert.SampleProjectIdeal.τ Cert.SampleProjectIdeal.sig) → Buf (Elt Ideal) ℓ) (g : Dev Cert.SampleProjectIdeal.nD → PrngReg), Pre_SampleProjectIdeal m →
    θ_run (Cert.SampleProjectIdeal.defs (F := Ideal)) (onTc (τ := Cert.SampleProjectIdeal.τ) (Cert.SampleProjectIdeal.main (F := Ideal))) ⟨m, fun _ => 0, g⟩ (fun r => (∀ c : Dev Cert.SampleProjectIdeal.nD,
      r.2.mem ((c.tc : Thread Cert.SampleProjectIdeal.nD Cert.SampleProjectIdeal.τ).loc Cert.SampleProjectIdeal.main_arg0) = m ((c.tc : Thread Cert.SampleProjectIdeal.nD Cert.SampleProjectIdeal.τ).loc Cert.SampleProjectIdeal.main_arg0)
      ∧ r.2.mem ((c.tc : Thread Cert.SampleProjectIdeal.nD Cert.SampleProjectIdeal.τ).loc Cert.SampleProjectIdeal.main_arg1) = m ((c.tc : Thread Cert.SampleProjectIdeal.nD Cert.SampleProjectIdeal.τ).loc Cert.SampleProjectIdeal.main_arg1)
      ∧ r.2.mem ((c.tc : Thread Cert.SampleProjectIdeal.nD Cert.SampleProjectIdeal.τ).loc Cert.SampleProjectIdeal.main_arg2) = m ((c.tc : Thread Cert.SampleProjectIdeal.nD Cert.SampleProjectIdeal.τ).loc Cert.SampleProjectIdeal.main_arg2))
      ∧ r.2.sem = fun _ => 0)

def quiescent_SampleProjectedIdeal [hSampleProjectedIdeal : Cert.SampleProjectedIdeal.Facts] : Prop :=
  ∀ (m : (ℓ : Loc Cert.SampleProjectedIdeal.nD Cert.SampleProjectedIdeal.τ Cert.SampleProjectedIdeal.sig) → Buf (Elt Ideal) ℓ) (g : Dev Cert.SampleProjectedIdeal.nD → PrngReg), Pre_SampleProjectedIdeal m →
    θ_run (Cert.SampleProjectedIdeal.defs (F := Ideal)) (onTc (τ := Cert.SampleProjectedIdeal.τ) (Cert.SampleProjectedIdeal.main (F := Ideal))) ⟨m, fun _ => 0, g⟩ (fun r => (∀ c : Dev Cert.SampleProjectedIdeal.nD,
      r.2.mem ((c.tc : Thread Cert.SampleProjectedIdeal.nD Cert.SampleProjectedIdeal.τ).loc Cert.SampleProjectedIdeal.main_arg0) = m ((c.tc : Thread Cert.SampleProjectedIdeal.nD Cert.SampleProjectedIdeal.τ).loc Cert.SampleProjectedIdeal.main_arg0)
      ∧ r.2.mem ((c.tc : Thread Cert.SampleProjectedIdeal.nD Cert.SampleProjectedIdeal.τ).loc Cert.SampleProjectedIdeal.main_arg1) = m ((c.tc : Thread Cert.SampleProjectedIdeal.nD Cert.SampleProjectedIdeal.τ).loc Cert.SampleProjectedIdeal.main_arg1)
      ∧ r.2.mem ((c.tc : Thread Cert.SampleProjectedIdeal.nD Cert.SampleProjectedIdeal.τ).loc Cert.SampleProjectedIdeal.main_arg2) = m ((c.tc : Thread Cert.SampleProjectedIdeal.nD Cert.SampleProjectedIdeal.τ).loc Cert.SampleProjectedIdeal.main_arg2))
      ∧ r.2.sem = fun _ => 0)

def quiescent_SampleMix [hSampleMix : Cert.SampleMix.Facts] : Prop :=
  ∀ (m : (ℓ : Loc Cert.SampleMix.nD Cert.SampleMix.τ Cert.SampleMix.sig) → Buf (Elt Bits) ℓ) (g : Dev Cert.SampleMix.nD → PrngReg), Pre_SampleMix m →
    θ_run (Cert.SampleMix.defs (F := Bits)) (onTc (τ := Cert.SampleMix.τ) (Cert.SampleMix.main (F := Bits))) ⟨m, fun _ => 0, g⟩ (fun r => (∀ c : Dev Cert.SampleMix.nD,
      r.2.mem ((c.tc : Thread Cert.SampleMix.nD Cert.SampleMix.τ).loc Cert.SampleMix.main_arg0) = m ((c.tc : Thread Cert.SampleMix.nD Cert.SampleMix.τ).loc Cert.SampleMix.main_arg0)
      ∧ r.2.mem ((c.tc : Thread Cert.SampleMix.nD Cert.SampleMix.τ).loc Cert.SampleMix.main_arg1) = m ((c.tc : Thread Cert.SampleMix.nD Cert.SampleMix.τ).loc Cert.SampleMix.main_arg1)
      ∧ r.2.mem ((c.tc : Thread Cert.SampleMix.nD Cert.SampleMix.τ).loc Cert.SampleMix.main_arg2) = m ((c.tc : Thread Cert.SampleMix.nD Cert.SampleMix.τ).loc Cert.SampleMix.main_arg2)
      ∧ r.2.mem ((c.tc : Thread Cert.SampleMix.nD Cert.SampleMix.τ).loc Cert.SampleMix.main_arg3) = m ((c.tc : Thread Cert.SampleMix.nD Cert.SampleMix.τ).loc Cert.SampleMix.main_arg3)
      ∧ r.2.mem ((c.tc : Thread Cert.SampleMix.nD Cert.SampleMix.τ).loc Cert.SampleMix.main_arg4) = m ((c.tc : Thread Cert.SampleMix.nD Cert.SampleMix.τ).loc Cert.SampleMix.main_arg4)
      ∧ r.2.mem ((c.tc : Thread Cert.SampleMix.nD Cert.SampleMix.τ).loc Cert.SampleMix.main_arg5) = m ((c.tc : Thread Cert.SampleMix.nD Cert.SampleMix.τ).loc Cert.SampleMix.main_arg5)
      ∧ r.2.mem ((c.tc : Thread Cert.SampleMix.nD Cert.SampleMix.τ).loc Cert.SampleMix.main_arg6) = m ((c.tc : Thread Cert.SampleMix.nD Cert.SampleMix.τ).loc Cert.SampleMix.main_arg6)
      ∧ r.2.mem ((c.tc : Thread Cert.SampleMix.nD Cert.SampleMix.τ).loc Cert.SampleMix.main_arg7) = m ((c.tc : Thread Cert.SampleMix.nD Cert.SampleMix.τ).loc Cert.SampleMix.main_arg7)
      ∧ r.2.mem ((c.tc : Thread Cert.SampleMix.nD Cert.SampleMix.τ).loc Cert.SampleMix.main_arg8) = m ((c.tc : Thread Cert.SampleMix.nD Cert.SampleMix.τ).loc Cert.SampleMix.main_arg8)
      ∧ r.2.mem ((c.tc : Thread Cert.SampleMix.nD Cert.SampleMix.τ).loc Cert.SampleMix.main_arg9) = m ((c.tc : Thread Cert.SampleMix.nD Cert.SampleMix.τ).loc Cert.SampleMix.main_arg9)
      ∧ r.2.mem ((c.tc : Thread Cert.SampleMix.nD Cert.SampleMix.τ).loc Cert.SampleMix.main_arg10) = m ((c.tc : Thread Cert.SampleMix.nD Cert.SampleMix.τ).loc Cert.SampleMix.main_arg10)
      ∧ r.2.mem ((c.tc : Thread Cert.SampleMix.nD Cert.SampleMix.τ).loc Cert.SampleMix.main_arg11) = m ((c.tc : Thread Cert.SampleMix.nD Cert.SampleMix.τ).loc Cert.SampleMix.main_arg11)
      ∧ r.2.mem ((c.tc : Thread Cert.SampleMix.nD Cert.SampleMix.τ).loc Cert.SampleMix.main_arg12) = m ((c.tc : Thread Cert.SampleMix.nD Cert.SampleMix.τ).loc Cert.SampleMix.main_arg12)
      ∧ r.2.mem ((c.tc : Thread Cert.SampleMix.nD Cert.SampleMix.τ).loc Cert.SampleMix.main_arg13) = m ((c.tc : Thread Cert.SampleMix.nD Cert.SampleMix.τ).loc Cert.SampleMix.main_arg13)
      ∧ r.2.mem ((c.tc : Thread Cert.SampleMix.nD Cert.SampleMix.τ).loc Cert.SampleMix.main_arg14) = m ((c.tc : Thread Cert.SampleMix.nD Cert.SampleMix.τ).loc Cert.SampleMix.main_arg14))
      ∧ r.2.sem = fun _ => 0)

def quiescent_SampleMixIdeal [hSampleMixIdeal : Cert.SampleMixIdeal.Facts] : Prop :=
  ∀ (m : (ℓ : Loc Cert.SampleMixIdeal.nD Cert.SampleMixIdeal.τ Cert.SampleMixIdeal.sig) → Buf (Elt Ideal) ℓ) (g : Dev Cert.SampleMixIdeal.nD → PrngReg), Pre_SampleMixIdeal m →
    θ_run (Cert.SampleMixIdeal.defs (F := Ideal)) (onTc (τ := Cert.SampleMixIdeal.τ) (Cert.SampleMixIdeal.main (F := Ideal))) ⟨m, fun _ => 0, g⟩ (fun r => (∀ c : Dev Cert.SampleMixIdeal.nD,
      r.2.mem ((c.tc : Thread Cert.SampleMixIdeal.nD Cert.SampleMixIdeal.τ).loc Cert.SampleMixIdeal.main_arg0) = m ((c.tc : Thread Cert.SampleMixIdeal.nD Cert.SampleMixIdeal.τ).loc Cert.SampleMixIdeal.main_arg0)
      ∧ r.2.mem ((c.tc : Thread Cert.SampleMixIdeal.nD Cert.SampleMixIdeal.τ).loc Cert.SampleMixIdeal.main_arg1) = m ((c.tc : Thread Cert.SampleMixIdeal.nD Cert.SampleMixIdeal.τ).loc Cert.SampleMixIdeal.main_arg1)
      ∧ r.2.mem ((c.tc : Thread Cert.SampleMixIdeal.nD Cert.SampleMixIdeal.τ).loc Cert.SampleMixIdeal.main_arg2) = m ((c.tc : Thread Cert.SampleMixIdeal.nD Cert.SampleMixIdeal.τ).loc Cert.SampleMixIdeal.main_arg2)
      ∧ r.2.mem ((c.tc : Thread Cert.SampleMixIdeal.nD Cert.SampleMixIdeal.τ).loc Cert.SampleMixIdeal.main_arg3) = m ((c.tc : Thread Cert.SampleMixIdeal.nD Cert.SampleMixIdeal.τ).loc Cert.SampleMixIdeal.main_arg3)
      ∧ r.2.mem ((c.tc : Thread Cert.SampleMixIdeal.nD Cert.SampleMixIdeal.τ).loc Cert.SampleMixIdeal.main_arg4) = m ((c.tc : Thread Cert.SampleMixIdeal.nD Cert.SampleMixIdeal.τ).loc Cert.SampleMixIdeal.main_arg4)
      ∧ r.2.mem ((c.tc : Thread Cert.SampleMixIdeal.nD Cert.SampleMixIdeal.τ).loc Cert.SampleMixIdeal.main_arg5) = m ((c.tc : Thread Cert.SampleMixIdeal.nD Cert.SampleMixIdeal.τ).loc Cert.SampleMixIdeal.main_arg5)
      ∧ r.2.mem ((c.tc : Thread Cert.SampleMixIdeal.nD Cert.SampleMixIdeal.τ).loc Cert.SampleMixIdeal.main_arg6) = m ((c.tc : Thread Cert.SampleMixIdeal.nD Cert.SampleMixIdeal.τ).loc Cert.SampleMixIdeal.main_arg6)
      ∧ r.2.mem ((c.tc : Thread Cert.SampleMixIdeal.nD Cert.SampleMixIdeal.τ).loc Cert.SampleMixIdeal.main_arg7) = m ((c.tc : Thread Cert.SampleMixIdeal.nD Cert.SampleMixIdeal.τ).loc Cert.SampleMixIdeal.main_arg7)
      ∧ r.2.mem ((c.tc : Thread Cert.SampleMixIdeal.nD Cert.SampleMixIdeal.τ).loc Cert.SampleMixIdeal.main_arg8) = m ((c.tc : Thread Cert.SampleMixIdeal.nD Cert.SampleMixIdeal.τ).loc Cert.SampleMixIdeal.main_arg8)
      ∧ r.2.mem ((c.tc : Thread Cert.SampleMixIdeal.nD Cert.SampleMixIdeal.τ).loc Cert.SampleMixIdeal.main_arg9) = m ((c.tc : Thread Cert.SampleMixIdeal.nD Cert.SampleMixIdeal.τ).loc Cert.SampleMixIdeal.main_arg9)
      ∧ r.2.mem ((c.tc : Thread Cert.SampleMixIdeal.nD Cert.SampleMixIdeal.τ).loc Cert.SampleMixIdeal.main_arg10) = m ((c.tc : Thread Cert.SampleMixIdeal.nD Cert.SampleMixIdeal.τ).loc Cert.SampleMixIdeal.main_arg10)
      ∧ r.2.mem ((c.tc : Thread Cert.SampleMixIdeal.nD Cert.SampleMixIdeal.τ).loc Cert.SampleMixIdeal.main_arg11) = m ((c.tc : Thread Cert.SampleMixIdeal.nD Cert.SampleMixIdeal.τ).loc Cert.SampleMixIdeal.main_arg11)
      ∧ r.2.mem ((c.tc : Thread Cert.SampleMixIdeal.nD Cert.SampleMixIdeal.τ).loc Cert.SampleMixIdeal.main_arg12) = m ((c.tc : Thread Cert.SampleMixIdeal.nD Cert.SampleMixIdeal.τ).loc Cert.SampleMixIdeal.main_arg12)
      ∧ r.2.mem ((c.tc : Thread Cert.SampleMixIdeal.nD Cert.SampleMixIdeal.τ).loc Cert.SampleMixIdeal.main_arg13) = m ((c.tc : Thread Cert.SampleMixIdeal.nD Cert.SampleMixIdeal.τ).loc Cert.SampleMixIdeal.main_arg13)
      ∧ r.2.mem ((c.tc : Thread Cert.SampleMixIdeal.nD Cert.SampleMixIdeal.τ).loc Cert.SampleMixIdeal.main_arg14) = m ((c.tc : Thread Cert.SampleMixIdeal.nD Cert.SampleMixIdeal.τ).loc Cert.SampleMixIdeal.main_arg14))
      ∧ r.2.sem = fun _ => 0)

def quiescent_SampleMixedIdeal [hSampleMixedIdeal : Cert.SampleMixedIdeal.Facts] : Prop :=
  ∀ (m : (ℓ : Loc Cert.SampleMixedIdeal.nD Cert.SampleMixedIdeal.τ Cert.SampleMixedIdeal.sig) → Buf (Elt Ideal) ℓ) (g : Dev Cert.SampleMixedIdeal.nD → PrngReg), Pre_SampleMixedIdeal m →
    θ_run (Cert.SampleMixedIdeal.defs (F := Ideal)) (onTc (τ := Cert.SampleMixedIdeal.τ) (Cert.SampleMixedIdeal.main (F := Ideal))) ⟨m, fun _ => 0, g⟩ (fun r => (∀ c : Dev Cert.SampleMixedIdeal.nD,
      r.2.mem ((c.tc : Thread Cert.SampleMixedIdeal.nD Cert.SampleMixedIdeal.τ).loc Cert.SampleMixedIdeal.main_arg0) = m ((c.tc : Thread Cert.SampleMixedIdeal.nD Cert.SampleMixedIdeal.τ).loc Cert.SampleMixedIdeal.main_arg0)
      ∧ r.2.mem ((c.tc : Thread Cert.SampleMixedIdeal.nD Cert.SampleMixedIdeal.τ).loc Cert.SampleMixedIdeal.main_arg1) = m ((c.tc : Thread Cert.SampleMixedIdeal.nD Cert.SampleMixedIdeal.τ).loc Cert.SampleMixedIdeal.main_arg1)
      ∧ r.2.mem ((c.tc : Thread Cert.SampleMixedIdeal.nD Cert.SampleMixedIdeal.τ).loc Cert.SampleMixedIdeal.main_arg2) = m ((c.tc : Thread Cert.SampleMixedIdeal.nD Cert.SampleMixedIdeal.τ).loc Cert.SampleMixedIdeal.main_arg2)
      ∧ r.2.mem ((c.tc : Thread Cert.SampleMixedIdeal.nD Cert.SampleMixedIdeal.τ).loc Cert.SampleMixedIdeal.main_arg3) = m ((c.tc : Thread Cert.SampleMixedIdeal.nD Cert.SampleMixedIdeal.τ).loc Cert.SampleMixedIdeal.main_arg3)
      ∧ r.2.mem ((c.tc : Thread Cert.SampleMixedIdeal.nD Cert.SampleMixedIdeal.τ).loc Cert.SampleMixedIdeal.main_arg4) = m ((c.tc : Thread Cert.SampleMixedIdeal.nD Cert.SampleMixedIdeal.τ).loc Cert.SampleMixedIdeal.main_arg4)
      ∧ r.2.mem ((c.tc : Thread Cert.SampleMixedIdeal.nD Cert.SampleMixedIdeal.τ).loc Cert.SampleMixedIdeal.main_arg5) = m ((c.tc : Thread Cert.SampleMixedIdeal.nD Cert.SampleMixedIdeal.τ).loc Cert.SampleMixedIdeal.main_arg5)
      ∧ r.2.mem ((c.tc : Thread Cert.SampleMixedIdeal.nD Cert.SampleMixedIdeal.τ).loc Cert.SampleMixedIdeal.main_arg6) = m ((c.tc : Thread Cert.SampleMixedIdeal.nD Cert.SampleMixedIdeal.τ).loc Cert.SampleMixedIdeal.main_arg6)
      ∧ r.2.mem ((c.tc : Thread Cert.SampleMixedIdeal.nD Cert.SampleMixedIdeal.τ).loc Cert.SampleMixedIdeal.main_arg7) = m ((c.tc : Thread Cert.SampleMixedIdeal.nD Cert.SampleMixedIdeal.τ).loc Cert.SampleMixedIdeal.main_arg7)
      ∧ r.2.mem ((c.tc : Thread Cert.SampleMixedIdeal.nD Cert.SampleMixedIdeal.τ).loc Cert.SampleMixedIdeal.main_arg8) = m ((c.tc : Thread Cert.SampleMixedIdeal.nD Cert.SampleMixedIdeal.τ).loc Cert.SampleMixedIdeal.main_arg8)
      ∧ r.2.mem ((c.tc : Thread Cert.SampleMixedIdeal.nD Cert.SampleMixedIdeal.τ).loc Cert.SampleMixedIdeal.main_arg9) = m ((c.tc : Thread Cert.SampleMixedIdeal.nD Cert.SampleMixedIdeal.τ).loc Cert.SampleMixedIdeal.main_arg9)
      ∧ r.2.mem ((c.tc : Thread Cert.SampleMixedIdeal.nD Cert.SampleMixedIdeal.τ).loc Cert.SampleMixedIdeal.main_arg10) = m ((c.tc : Thread Cert.SampleMixedIdeal.nD Cert.SampleMixedIdeal.τ).loc Cert.SampleMixedIdeal.main_arg10)
      ∧ r.2.mem ((c.tc : Thread Cert.SampleMixedIdeal.nD Cert.SampleMixedIdeal.τ).loc Cert.SampleMixedIdeal.main_arg11) = m ((c.tc : Thread Cert.SampleMixedIdeal.nD Cert.SampleMixedIdeal.τ).loc Cert.SampleMixedIdeal.main_arg11)
      ∧ r.2.mem ((c.tc : Thread Cert.SampleMixedIdeal.nD Cert.SampleMixedIdeal.τ).loc Cert.SampleMixedIdeal.main_arg12) = m ((c.tc : Thread Cert.SampleMixedIdeal.nD Cert.SampleMixedIdeal.τ).loc Cert.SampleMixedIdeal.main_arg12)
      ∧ r.2.mem ((c.tc : Thread Cert.SampleMixedIdeal.nD Cert.SampleMixedIdeal.τ).loc Cert.SampleMixedIdeal.main_arg13) = m ((c.tc : Thread Cert.SampleMixedIdeal.nD Cert.SampleMixedIdeal.τ).loc Cert.SampleMixedIdeal.main_arg13)
      ∧ r.2.mem ((c.tc : Thread Cert.SampleMixedIdeal.nD Cert.SampleMixedIdeal.τ).loc Cert.SampleMixedIdeal.main_arg14) = m ((c.tc : Thread Cert.SampleMixedIdeal.nD Cert.SampleMixedIdeal.τ).loc Cert.SampleMixedIdeal.main_arg14))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_SampleDense [hSampleDense : Cert.SampleDense.Facts] : Prop :=
  ∀ (m : (ℓ : Loc Cert.SampleDense.nD Cert.SampleDense.τ Cert.SampleDense.sig) → Buf (Elt Bits) ℓ) (g : Dev Cert.SampleDense.nD → PrngReg), Pre_SampleDense m →
    θ_run (Cert.SampleDense.defs (F := Bits)) (onTc (τ := Cert.SampleDense.τ) (Cert.SampleDense.main (F := Bits))) ⟨m, fun _ => 0, g⟩ (fun r => (∀ c : Dev Cert.SampleDense.nD,
      r.2.mem ((c.tc : Thread Cert.SampleDense.nD Cert.SampleDense.τ).loc Cert.SampleDense.main_arg0) = m ((c.tc : Thread Cert.SampleDense.nD Cert.SampleDense.τ).loc Cert.SampleDense.main_arg0)
      ∧ r.2.mem ((c.tc : Thread Cert.SampleDense.nD Cert.SampleDense.τ).loc Cert.SampleDense.main_arg1) = m ((c.tc : Thread Cert.SampleDense.nD Cert.SampleDense.τ).loc Cert.SampleDense.main_arg1)
      ∧ r.2.mem ((c.tc : Thread Cert.SampleDense.nD Cert.SampleDense.τ).loc Cert.SampleDense.main_arg2) = m ((c.tc : Thread Cert.SampleDense.nD Cert.SampleDense.τ).loc Cert.SampleDense.main_arg2)
      ∧ r.2.mem ((c.tc : Thread Cert.SampleDense.nD Cert.SampleDense.τ).loc Cert.SampleDense.main_arg3) = m ((c.tc : Thread Cert.SampleDense.nD Cert.SampleDense.τ).loc Cert.SampleDense.main_arg3)
      ∧ r.2.mem ((c.tc : Thread Cert.SampleDense.nD Cert.SampleDense.τ).loc Cert.SampleDense.main_arg4) = m ((c.tc : Thread Cert.SampleDense.nD Cert.SampleDense.τ).loc Cert.SampleDense.main_arg4)
      ∧ r.2.mem ((c.tc : Thread Cert.SampleDense.nD Cert.SampleDense.τ).loc Cert.SampleDense.main_arg5) = m ((c.tc : Thread Cert.SampleDense.nD Cert.SampleDense.τ).loc Cert.SampleDense.main_arg5)
      ∧ r.2.mem ((c.tc : Thread Cert.SampleDense.nD Cert.SampleDense.τ).loc Cert.SampleDense.main_arg6) = m ((c.tc : Thread Cert.SampleDense.nD Cert.SampleDense.τ).loc Cert.SampleDense.main_arg6)
      ∧ r.2.mem ((c.tc : Thread Cert.SampleDense.nD Cert.SampleDense.τ).loc Cert.SampleDense.main_arg7) = m ((c.tc : Thread Cert.SampleDense.nD Cert.SampleDense.τ).loc Cert.SampleDense.main_arg7)
      ∧ r.2.mem ((c.tc : Thread Cert.SampleDense.nD Cert.SampleDense.τ).loc Cert.SampleDense.main_arg8) = m ((c.tc : Thread Cert.SampleDense.nD Cert.SampleDense.τ).loc Cert.SampleDense.main_arg8))
      ∧ r.2.sem = fun _ => 0)

def quiescent_SampleDenseIdeal [hSampleDenseIdeal : Cert.SampleDenseIdeal.Facts] : Prop :=
  ∀ (m : (ℓ : Loc Cert.SampleDenseIdeal.nD Cert.SampleDenseIdeal.τ Cert.SampleDenseIdeal.sig) → Buf (Elt Ideal) ℓ) (g : Dev Cert.SampleDenseIdeal.nD → PrngReg), Pre_SampleDenseIdeal m →
    θ_run (Cert.SampleDenseIdeal.defs (F := Ideal)) (onTc (τ := Cert.SampleDenseIdeal.τ) (Cert.SampleDenseIdeal.main (F := Ideal))) ⟨m, fun _ => 0, g⟩ (fun r => (∀ c : Dev Cert.SampleDenseIdeal.nD,
      r.2.mem ((c.tc : Thread Cert.SampleDenseIdeal.nD Cert.SampleDenseIdeal.τ).loc Cert.SampleDenseIdeal.main_arg0) = m ((c.tc : Thread Cert.SampleDenseIdeal.nD Cert.SampleDenseIdeal.τ).loc Cert.SampleDenseIdeal.main_arg0)
      ∧ r.2.mem ((c.tc : Thread Cert.SampleDenseIdeal.nD Cert.SampleDenseIdeal.τ).loc Cert.SampleDenseIdeal.main_arg1) = m ((c.tc : Thread Cert.SampleDenseIdeal.nD Cert.SampleDenseIdeal.τ).loc Cert.SampleDenseIdeal.main_arg1)
      ∧ r.2.mem ((c.tc : Thread Cert.SampleDenseIdeal.nD Cert.SampleDenseIdeal.τ).loc Cert.SampleDenseIdeal.main_arg2) = m ((c.tc : Thread Cert.SampleDenseIdeal.nD Cert.SampleDenseIdeal.τ).loc Cert.SampleDenseIdeal.main_arg2)
      ∧ r.2.mem ((c.tc : Thread Cert.SampleDenseIdeal.nD Cert.SampleDenseIdeal.τ).loc Cert.SampleDenseIdeal.main_arg3) = m ((c.tc : Thread Cert.SampleDenseIdeal.nD Cert.SampleDenseIdeal.τ).loc Cert.SampleDenseIdeal.main_arg3)
      ∧ r.2.mem ((c.tc : Thread Cert.SampleDenseIdeal.nD Cert.SampleDenseIdeal.τ).loc Cert.SampleDenseIdeal.main_arg4) = m ((c.tc : Thread Cert.SampleDenseIdeal.nD Cert.SampleDenseIdeal.τ).loc Cert.SampleDenseIdeal.main_arg4)
      ∧ r.2.mem ((c.tc : Thread Cert.SampleDenseIdeal.nD Cert.SampleDenseIdeal.τ).loc Cert.SampleDenseIdeal.main_arg5) = m ((c.tc : Thread Cert.SampleDenseIdeal.nD Cert.SampleDenseIdeal.τ).loc Cert.SampleDenseIdeal.main_arg5)
      ∧ r.2.mem ((c.tc : Thread Cert.SampleDenseIdeal.nD Cert.SampleDenseIdeal.τ).loc Cert.SampleDenseIdeal.main_arg6) = m ((c.tc : Thread Cert.SampleDenseIdeal.nD Cert.SampleDenseIdeal.τ).loc Cert.SampleDenseIdeal.main_arg6)
      ∧ r.2.mem ((c.tc : Thread Cert.SampleDenseIdeal.nD Cert.SampleDenseIdeal.τ).loc Cert.SampleDenseIdeal.main_arg7) = m ((c.tc : Thread Cert.SampleDenseIdeal.nD Cert.SampleDenseIdeal.τ).loc Cert.SampleDenseIdeal.main_arg7)
      ∧ r.2.mem ((c.tc : Thread Cert.SampleDenseIdeal.nD Cert.SampleDenseIdeal.τ).loc Cert.SampleDenseIdeal.main_arg8) = m ((c.tc : Thread Cert.SampleDenseIdeal.nD Cert.SampleDenseIdeal.τ).loc Cert.SampleDenseIdeal.main_arg8))
      ∧ r.2.sem = fun _ => 0)

def quiescent_SampleExpertsIdeal [hSampleExpertsIdeal : Cert.SampleExpertsIdeal.Facts] : Prop :=
  ∀ (m : (ℓ : Loc Cert.SampleExpertsIdeal.nD Cert.SampleExpertsIdeal.τ Cert.SampleExpertsIdeal.sig) → Buf (Elt Ideal) ℓ) (g : Dev Cert.SampleExpertsIdeal.nD → PrngReg), Pre_SampleExpertsIdeal m →
    θ_run (Cert.SampleExpertsIdeal.defs (F := Ideal)) (onTc (τ := Cert.SampleExpertsIdeal.τ) (Cert.SampleExpertsIdeal.main (F := Ideal))) ⟨m, fun _ => 0, g⟩ (fun r => (∀ c : Dev Cert.SampleExpertsIdeal.nD,
      r.2.mem ((c.tc : Thread Cert.SampleExpertsIdeal.nD Cert.SampleExpertsIdeal.τ).loc Cert.SampleExpertsIdeal.main_arg0) = m ((c.tc : Thread Cert.SampleExpertsIdeal.nD Cert.SampleExpertsIdeal.τ).loc Cert.SampleExpertsIdeal.main_arg0)
      ∧ r.2.mem ((c.tc : Thread Cert.SampleExpertsIdeal.nD Cert.SampleExpertsIdeal.τ).loc Cert.SampleExpertsIdeal.main_arg1) = m ((c.tc : Thread Cert.SampleExpertsIdeal.nD Cert.SampleExpertsIdeal.τ).loc Cert.SampleExpertsIdeal.main_arg1)
      ∧ r.2.mem ((c.tc : Thread Cert.SampleExpertsIdeal.nD Cert.SampleExpertsIdeal.τ).loc Cert.SampleExpertsIdeal.main_arg2) = m ((c.tc : Thread Cert.SampleExpertsIdeal.nD Cert.SampleExpertsIdeal.τ).loc Cert.SampleExpertsIdeal.main_arg2)
      ∧ r.2.mem ((c.tc : Thread Cert.SampleExpertsIdeal.nD Cert.SampleExpertsIdeal.τ).loc Cert.SampleExpertsIdeal.main_arg3) = m ((c.tc : Thread Cert.SampleExpertsIdeal.nD Cert.SampleExpertsIdeal.τ).loc Cert.SampleExpertsIdeal.main_arg3)
      ∧ r.2.mem ((c.tc : Thread Cert.SampleExpertsIdeal.nD Cert.SampleExpertsIdeal.τ).loc Cert.SampleExpertsIdeal.main_arg4) = m ((c.tc : Thread Cert.SampleExpertsIdeal.nD Cert.SampleExpertsIdeal.τ).loc Cert.SampleExpertsIdeal.main_arg4)
      ∧ r.2.mem ((c.tc : Thread Cert.SampleExpertsIdeal.nD Cert.SampleExpertsIdeal.τ).loc Cert.SampleExpertsIdeal.main_arg5) = m ((c.tc : Thread Cert.SampleExpertsIdeal.nD Cert.SampleExpertsIdeal.τ).loc Cert.SampleExpertsIdeal.main_arg5)
      ∧ r.2.mem ((c.tc : Thread Cert.SampleExpertsIdeal.nD Cert.SampleExpertsIdeal.τ).loc Cert.SampleExpertsIdeal.main_arg6) = m ((c.tc : Thread Cert.SampleExpertsIdeal.nD Cert.SampleExpertsIdeal.τ).loc Cert.SampleExpertsIdeal.main_arg6)
      ∧ r.2.mem ((c.tc : Thread Cert.SampleExpertsIdeal.nD Cert.SampleExpertsIdeal.τ).loc Cert.SampleExpertsIdeal.main_arg7) = m ((c.tc : Thread Cert.SampleExpertsIdeal.nD Cert.SampleExpertsIdeal.τ).loc Cert.SampleExpertsIdeal.main_arg7)
      ∧ r.2.mem ((c.tc : Thread Cert.SampleExpertsIdeal.nD Cert.SampleExpertsIdeal.τ).loc Cert.SampleExpertsIdeal.main_arg8) = m ((c.tc : Thread Cert.SampleExpertsIdeal.nD Cert.SampleExpertsIdeal.τ).loc Cert.SampleExpertsIdeal.main_arg8))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_Attn1Ideal_pre_finite_queries_and_keys [hAttn1Ideal : Cert.Attn1Ideal.Facts] [hPre_finite_queries_and_keys : Cert.Pre_finite_queries_and_keys.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal_finite_queries_and_keys m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_Dilated1Ideal [hDilated1Ideal : Cert.Dilated1Ideal.Facts] : Prop :=
  ∀ (m : (ℓ : Loc Cert.Dilated1Ideal.nD Cert.Dilated1Ideal.τ Cert.Dilated1Ideal.sig) → Buf (Elt Ideal) ℓ) (g : Dev Cert.Dilated1Ideal.nD → PrngReg), Pre_Dilated1Ideal m →
    θ_run (Cert.Dilated1Ideal.defs (F := Ideal)) (onTc (τ := Cert.Dilated1Ideal.τ) (Cert.Dilated1Ideal.main (F := Ideal))) ⟨m, fun _ => 0, g⟩ (fun r => (∀ c : Dev Cert.Dilated1Ideal.nD,
      r.2.mem ((c.tc : Thread Cert.Dilated1Ideal.nD Cert.Dilated1Ideal.τ).loc Cert.Dilated1Ideal.main_arg0) = m ((c.tc : Thread Cert.Dilated1Ideal.nD Cert.Dilated1Ideal.τ).loc Cert.Dilated1Ideal.main_arg0))
      ∧ r.2.sem = fun _ => 0)

def quiescent_Dilated1Ideal_pre_finite_queries_and_keys [hDilated1Ideal : Cert.Dilated1Ideal.Facts] [hPre_finite_queries_and_keys : Cert.Pre_finite_queries_and_keys.Facts] : Prop :=
  ∀ (m : (ℓ : Loc Cert.Dilated1Ideal.nD Cert.Dilated1Ideal.τ Cert.Dilated1Ideal.sig) → Buf (Elt Ideal) ℓ) (g : Dev Cert.Dilated1Ideal.nD → PrngReg), Pre_Dilated1Ideal_finite_queries_and_keys m →
    θ_run (Cert.Dilated1Ideal.defs (F := Ideal)) (onTc (τ := Cert.Dilated1Ideal.τ) (Cert.Dilated1Ideal.main (F := Ideal))) ⟨m, fun _ => 0, g⟩ (fun r => (∀ c : Dev Cert.Dilated1Ideal.nD,
      r.2.mem ((c.tc : Thread Cert.Dilated1Ideal.nD Cert.Dilated1Ideal.τ).loc Cert.Dilated1Ideal.main_arg0) = m ((c.tc : Thread Cert.Dilated1Ideal.nD Cert.Dilated1Ideal.τ).loc Cert.Dilated1Ideal.main_arg0))
      ∧ r.2.sem = fun _ => 0)

def quiescent_Attn4 [hAttn4 : Cert.Attn4.Facts] : Prop :=
  ∀ (m : (ℓ : Loc Cert.Attn4.nD Cert.Attn4.τ Cert.Attn4.sig) → Buf (Elt Bits) ℓ) (g : Dev Cert.Attn4.nD → PrngReg), Pre_Attn4 m →
    θ_run (Cert.Attn4.defs (F := Bits)) (onTc (τ := Cert.Attn4.τ) (Cert.Attn4.main (F := Bits))) ⟨m, fun _ => 0, g⟩ (fun r => (∀ c : Dev Cert.Attn4.nD,
      r.2.mem ((c.tc : Thread Cert.Attn4.nD Cert.Attn4.τ).loc Cert.Attn4.main_arg0) = m ((c.tc : Thread Cert.Attn4.nD Cert.Attn4.τ).loc Cert.Attn4.main_arg0))
      ∧ r.2.sem = fun _ => 0)

def quiescent_Attn4Ideal [hAttn4Ideal : Cert.Attn4Ideal.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0))
      ∧ r.2.sem = fun _ => 0)

def quiescent_Attn4Ideal_pre_finite_queries_and_keys [hAttn4Ideal : Cert.Attn4Ideal.Facts] [hPre_finite_queries_and_keys : Cert.Pre_finite_queries_and_keys.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal_finite_queries_and_keys m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0))
      ∧ r.2.sem = fun _ => 0)

def quiescent_Dilated4Ideal [hDilated4Ideal : Cert.Dilated4Ideal.Facts] : Prop :=
  ∀ (m : (ℓ : Loc Cert.Dilated4Ideal.nD Cert.Dilated4Ideal.τ Cert.Dilated4Ideal.sig) → Buf (Elt Ideal) ℓ) (g : Dev Cert.Dilated4Ideal.nD → PrngReg), Pre_Dilated4Ideal m →
    θ_run (Cert.Dilated4Ideal.defs (F := Ideal)) (onTc (τ := Cert.Dilated4Ideal.τ) (Cert.Dilated4Ideal.main (F := Ideal))) ⟨m, fun _ => 0, g⟩ (fun r => (∀ c : Dev Cert.Dilated4Ideal.nD,
      r.2.mem ((c.tc : Thread Cert.Dilated4Ideal.nD Cert.Dilated4Ideal.τ).loc Cert.Dilated4Ideal.main_arg0) = m ((c.tc : Thread Cert.Dilated4Ideal.nD Cert.Dilated4Ideal.τ).loc Cert.Dilated4Ideal.main_arg0))
      ∧ r.2.sem = fun _ => 0)

def quiescent_Dilated4Ideal_pre_finite_queries_and_keys [hDilated4Ideal : Cert.Dilated4Ideal.Facts] [hPre_finite_queries_and_keys : Cert.Pre_finite_queries_and_keys.Facts] : Prop :=
  ∀ (m : (ℓ : Loc Cert.Dilated4Ideal.nD Cert.Dilated4Ideal.τ Cert.Dilated4Ideal.sig) → Buf (Elt Ideal) ℓ) (g : Dev Cert.Dilated4Ideal.nD → PrngReg), Pre_Dilated4Ideal_finite_queries_and_keys m →
    θ_run (Cert.Dilated4Ideal.defs (F := Ideal)) (onTc (τ := Cert.Dilated4Ideal.τ) (Cert.Dilated4Ideal.main (F := Ideal))) ⟨m, fun _ => 0, g⟩ (fun r => (∀ c : Dev Cert.Dilated4Ideal.nD,
      r.2.mem ((c.tc : Thread Cert.Dilated4Ideal.nD Cert.Dilated4Ideal.τ).loc Cert.Dilated4Ideal.main_arg0) = m ((c.tc : Thread Cert.Dilated4Ideal.nD Cert.Dilated4Ideal.τ).loc Cert.Dilated4Ideal.main_arg0))
      ∧ r.2.sem = fun _ => 0)

def quiescent_Attn16 [hAttn16 : Cert.Attn16.Facts] : Prop :=
  ∀ (m : (ℓ : Loc Cert.Attn16.nD Cert.Attn16.τ Cert.Attn16.sig) → Buf (Elt Bits) ℓ) (g : Dev Cert.Attn16.nD → PrngReg), Pre_Attn16 m →
    θ_run (Cert.Attn16.defs (F := Bits)) (onTc (τ := Cert.Attn16.τ) (Cert.Attn16.main (F := Bits))) ⟨m, fun _ => 0, g⟩ (fun r => (∀ c : Dev Cert.Attn16.nD,
      r.2.mem ((c.tc : Thread Cert.Attn16.nD Cert.Attn16.τ).loc Cert.Attn16.main_arg0) = m ((c.tc : Thread Cert.Attn16.nD Cert.Attn16.τ).loc Cert.Attn16.main_arg0))
      ∧ r.2.sem = fun _ => 0)

def quiescent_Attn16Ideal [hAttn16Ideal : Cert.Attn16Ideal.Facts] : Prop :=
  ∀ (m : (ℓ : Loc Cert.Attn16Ideal.nD Cert.Attn16Ideal.τ Cert.Attn16Ideal.sig) → Buf (Elt Ideal) ℓ) (g : Dev Cert.Attn16Ideal.nD → PrngReg), Pre_Attn16Ideal m →
    θ_run (Cert.Attn16Ideal.defs (F := Ideal)) (onTc (τ := Cert.Attn16Ideal.τ) (Cert.Attn16Ideal.main (F := Ideal))) ⟨m, fun _ => 0, g⟩ (fun r => (∀ c : Dev Cert.Attn16Ideal.nD,
      r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0))
      ∧ r.2.sem = fun _ => 0)

def quiescent_Attn16Ideal_pre_finite_queries_and_keys [hAttn16Ideal : Cert.Attn16Ideal.Facts] [hPre_finite_queries_and_keys : Cert.Pre_finite_queries_and_keys.Facts] : Prop :=
  ∀ (m : (ℓ : Loc Cert.Attn16Ideal.nD Cert.Attn16Ideal.τ Cert.Attn16Ideal.sig) → Buf (Elt Ideal) ℓ) (g : Dev Cert.Attn16Ideal.nD → PrngReg), Pre_Attn16Ideal_finite_queries_and_keys m →
    θ_run (Cert.Attn16Ideal.defs (F := Ideal)) (onTc (τ := Cert.Attn16Ideal.τ) (Cert.Attn16Ideal.main (F := Ideal))) ⟨m, fun _ => 0, g⟩ (fun r => (∀ c : Dev Cert.Attn16Ideal.nD,
      r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0))
      ∧ r.2.sem = fun _ => 0)

def quiescent_Dilated16Ideal [hDilated16Ideal : Cert.Dilated16Ideal.Facts] : Prop :=
  ∀ (m : (ℓ : Loc Cert.Dilated16Ideal.nD Cert.Dilated16Ideal.τ Cert.Dilated16Ideal.sig) → Buf (Elt Ideal) ℓ) (g : Dev Cert.Dilated16Ideal.nD → PrngReg), Pre_Dilated16Ideal m →
    θ_run (Cert.Dilated16Ideal.defs (F := Ideal)) (onTc (τ := Cert.Dilated16Ideal.τ) (Cert.Dilated16Ideal.main (F := Ideal))) ⟨m, fun _ => 0, g⟩ (fun r => (∀ c : Dev Cert.Dilated16Ideal.nD,
      r.2.mem ((c.tc : Thread Cert.Dilated16Ideal.nD Cert.Dilated16Ideal.τ).loc Cert.Dilated16Ideal.main_arg0) = m ((c.tc : Thread Cert.Dilated16Ideal.nD Cert.Dilated16Ideal.τ).loc Cert.Dilated16Ideal.main_arg0))
      ∧ r.2.sem = fun _ => 0)

def quiescent_Dilated16Ideal_pre_finite_queries_and_keys [hDilated16Ideal : Cert.Dilated16Ideal.Facts] [hPre_finite_queries_and_keys : Cert.Pre_finite_queries_and_keys.Facts] : Prop :=
  ∀ (m : (ℓ : Loc Cert.Dilated16Ideal.nD Cert.Dilated16Ideal.τ Cert.Dilated16Ideal.sig) → Buf (Elt Ideal) ℓ) (g : Dev Cert.Dilated16Ideal.nD → PrngReg), Pre_Dilated16Ideal_finite_queries_and_keys m →
    θ_run (Cert.Dilated16Ideal.defs (F := Ideal)) (onTc (τ := Cert.Dilated16Ideal.τ) (Cert.Dilated16Ideal.main (F := Ideal))) ⟨m, fun _ => 0, g⟩ (fun r => (∀ c : Dev Cert.Dilated16Ideal.nD,
      r.2.mem ((c.tc : Thread Cert.Dilated16Ideal.nD Cert.Dilated16Ideal.τ).loc Cert.Dilated16Ideal.main_arg0) = m ((c.tc : Thread Cert.Dilated16Ideal.nD Cert.Dilated16Ideal.τ).loc Cert.Dilated16Ideal.main_arg0))
      ∧ r.2.sem = fun _ => 0)

def preserves_Project_ProjectIdeal : Prop :=
  True

def algebraic_ProjectIdeal_ProjectedIdeal [hProjectIdeal : Cert.ProjectIdeal.Facts] [hProjectedIdeal : Cert.ProjectedIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjectIdeal m →
    (∀ c : Dev Cert.ProjectIdeal.nD,
      m' ((c.tc : Thread Cert.ProjectedIdeal.nD Cert.ProjectedIdeal.τ).loc Cert.ProjectedIdeal.main_arg0) = m ((c.tc : Thread Cert.ProjectIdeal.nD Cert.ProjectIdeal.τ).loc Cert.ProjectIdeal.main_arg0)
      ∧ m' ((c.tc : Thread Cert.ProjectedIdeal.nD Cert.ProjectedIdeal.τ).loc Cert.ProjectedIdeal.main_arg1) = m ((c.tc : Thread Cert.ProjectIdeal.nD Cert.ProjectIdeal.τ).loc Cert.ProjectIdeal.main_arg1)
      ∧ m' ((c.tc : Thread Cert.ProjectedIdeal.nD Cert.ProjectedIdeal.τ).loc Cert.ProjectedIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v27)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v27) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v90) = v0 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1)
          ∧ r.2.mem ((c.tc : Thread Cert.ProjectedIdeal.nD Cert.ProjectedIdeal.τ).loc Cert.ProjectedIdeal.main_arg2) = m' ((c.tc : Thread Cert.ProjectedIdeal.nD Cert.ProjectedIdeal.τ).loc Cert.ProjectedIdeal.main_arg2))

def preserves_Mix_MixIdeal : Prop :=
  True

def algebraic_MixIdeal_MixedIdeal [hMixIdeal : Cert.MixIdeal.Facts] [hMixedIdeal : Cert.MixedIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixedIdeal.nD Cert.MixedIdeal.τ Cert.MixedIdeal.sig) → Buf (Elt Ideal) ℓ) (g' : Dev Cert.MixedIdeal.nD → PrngReg), Pre_MixIdeal m →
    (∀ c : Dev Cert.MixIdeal.nD,
      m' ((c.tc : Thread Cert.MixedIdeal.nD Cert.MixedIdeal.τ).loc Cert.MixedIdeal.main_arg0) = m ((c.tc : Thread Cert.MixIdeal.nD Cert.MixIdeal.τ).loc Cert.MixIdeal.main_arg0)
      ∧ m' ((c.tc : Thread Cert.MixedIdeal.nD Cert.MixedIdeal.τ).loc Cert.MixedIdeal.main_arg1) = m ((c.tc : Thread Cert.MixIdeal.nD Cert.MixIdeal.τ).loc Cert.MixIdeal.main_arg1)
      ∧ m' ((c.tc : Thread Cert.MixedIdeal.nD Cert.MixedIdeal.τ).loc Cert.MixedIdeal.main_arg2) = m ((c.tc : Thread Cert.MixIdeal.nD Cert.MixIdeal.τ).loc Cert.MixIdeal.main_arg2)
      ∧ m' ((c.tc : Thread Cert.MixedIdeal.nD Cert.MixedIdeal.τ).loc Cert.MixedIdeal.main_arg3) = m ((c.tc : Thread Cert.MixIdeal.nD Cert.MixIdeal.τ).loc Cert.MixIdeal.main_arg3)
      ∧ m' ((c.tc : Thread Cert.MixedIdeal.nD Cert.MixedIdeal.τ).loc Cert.MixedIdeal.main_arg4) = m ((c.tc : Thread Cert.MixIdeal.nD Cert.MixIdeal.τ).loc Cert.MixIdeal.main_arg4)
      ∧ m' ((c.tc : Thread Cert.MixedIdeal.nD Cert.MixedIdeal.τ).loc Cert.MixedIdeal.main_arg5) = m ((c.tc : Thread Cert.MixIdeal.nD Cert.MixIdeal.τ).loc Cert.MixIdeal.main_arg5)
      ∧ m' ((c.tc : Thread Cert.MixedIdeal.nD Cert.MixedIdeal.τ).loc Cert.MixedIdeal.main_arg6) = m ((c.tc : Thread Cert.MixIdeal.nD Cert.MixIdeal.τ).loc Cert.MixIdeal.main_arg6)
      ∧ m' ((c.tc : Thread Cert.MixedIdeal.nD Cert.MixedIdeal.τ).loc Cert.MixedIdeal.main_arg7) = m ((c.tc : Thread Cert.MixIdeal.nD Cert.MixIdeal.τ).loc Cert.MixIdeal.main_arg7)
      ∧ m' ((c.tc : Thread Cert.MixedIdeal.nD Cert.MixedIdeal.τ).loc Cert.MixedIdeal.main_arg8) = m ((c.tc : Thread Cert.MixIdeal.nD Cert.MixIdeal.τ).loc Cert.MixIdeal.main_arg8)
      ∧ m' ((c.tc : Thread Cert.MixedIdeal.nD Cert.MixedIdeal.τ).loc Cert.MixedIdeal.main_arg9) = m ((c.tc : Thread Cert.MixIdeal.nD Cert.MixIdeal.τ).loc Cert.MixIdeal.main_arg9)
      ∧ m' ((c.tc : Thread Cert.MixedIdeal.nD Cert.MixedIdeal.τ).loc Cert.MixedIdeal.main_arg10) = m ((c.tc : Thread Cert.MixIdeal.nD Cert.MixIdeal.τ).loc Cert.MixIdeal.main_arg10)
      ∧ m' ((c.tc : Thread Cert.MixedIdeal.nD Cert.MixedIdeal.τ).loc Cert.MixedIdeal.main_arg11) = m ((c.tc : Thread Cert.MixIdeal.nD Cert.MixIdeal.τ).loc Cert.MixIdeal.main_arg11)
      ∧ m' ((c.tc : Thread Cert.MixedIdeal.nD Cert.MixedIdeal.τ).loc Cert.MixedIdeal.main_arg12) = m ((c.tc : Thread Cert.MixIdeal.nD Cert.MixIdeal.τ).loc Cert.MixIdeal.main_arg12)
      ∧ m' ((c.tc : Thread Cert.MixedIdeal.nD Cert.MixedIdeal.τ).loc Cert.MixedIdeal.main_arg13) = m ((c.tc : Thread Cert.MixIdeal.nD Cert.MixIdeal.τ).loc Cert.MixIdeal.main_arg13)
      ∧ m' ((c.tc : Thread Cert.MixedIdeal.nD Cert.MixedIdeal.τ).loc Cert.MixedIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v6_0)) (v1 : (c : Dev Cert.MixIdeal.nD) → Buf (Elt Ideal) ((c.tc : Thread Cert.MixIdeal.nD Cert.MixIdeal.τ).loc Cert.MixIdeal.main_v6_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6_0) = v0 c
          ∧ r.2.mem ((c.tc : Thread Cert.MixIdeal.nD Cert.MixIdeal.τ).loc Cert.MixIdeal.main_v6_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixedIdeal.defs (F := Ideal)) (onTc (τ := Cert.MixedIdeal.τ) (Cert.MixedIdeal.main (F := Ideal))) ⟨m', fun _ => 0, g'⟩ (fun r => ∀ c : Dev Cert.MixedIdeal.nD,
          r.2.mem ((c.tc : Thread Cert.MixedIdeal.nD Cert.MixedIdeal.τ).loc Cert.MixedIdeal.main_v109) = v0 c
          ∧ r.2.mem ((c.tc : Thread Cert.MixedIdeal.nD Cert.MixedIdeal.τ).loc Cert.MixedIdeal.main_v110) = v1 c
          ∧ r.2.mem ((c.tc : Thread Cert.MixedIdeal.nD Cert.MixedIdeal.τ).loc Cert.MixedIdeal.main_arg0) = m' ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m' ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m' ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m' ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m' ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m' ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m' ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m' ((c.tc : Thread Cert.MixedIdeal.nD Cert.MixedIdeal.τ).loc Cert.MixedIdeal.main_arg7)
          ∧ r.2.mem ((c.tc : Thread Cert.MixedIdeal.nD Cert.MixedIdeal.τ).loc Cert.MixedIdeal.main_arg8) = m' ((c.tc : Thread Cert.MixedIdeal.nD Cert.MixedIdeal.τ).loc Cert.MixedIdeal.main_arg8)
          ∧ r.2.mem ((c.tc : Thread Cert.MixedIdeal.nD Cert.MixedIdeal.τ).loc Cert.MixedIdeal.main_arg9) = m' ((c.tc : Thread Cert.MixedIdeal.nD Cert.MixedIdeal.τ).loc Cert.MixedIdeal.main_arg9)
          ∧ r.2.mem ((c.tc : Thread Cert.MixedIdeal.nD Cert.MixedIdeal.τ).loc Cert.MixedIdeal.main_arg10) = m' ((c.tc : Thread Cert.MixedIdeal.nD Cert.MixedIdeal.τ).loc Cert.MixedIdeal.main_arg10)
          ∧ r.2.mem ((c.tc : Thread Cert.MixedIdeal.nD Cert.MixedIdeal.τ).loc Cert.MixedIdeal.main_arg11) = m' ((c.tc : Thread Cert.MixedIdeal.nD Cert.MixedIdeal.τ).loc Cert.MixedIdeal.main_arg11)
          ∧ r.2.mem ((c.tc : Thread Cert.MixedIdeal.nD Cert.MixedIdeal.τ).loc Cert.MixedIdeal.main_arg12) = m' ((c.tc : Thread Cert.MixedIdeal.nD Cert.MixedIdeal.τ).loc Cert.MixedIdeal.main_arg12)
          ∧ r.2.mem ((c.tc : Thread Cert.MixedIdeal.nD Cert.MixedIdeal.τ).loc Cert.MixedIdeal.main_arg13) = m' ((c.tc : Thread Cert.MixedIdeal.nD Cert.MixedIdeal.τ).loc Cert.MixedIdeal.main_arg13)
          ∧ r.2.mem ((c.tc : Thread Cert.MixedIdeal.nD Cert.MixedIdeal.τ).loc Cert.MixedIdeal.main_arg14) = m' ((c.tc : Thread Cert.MixedIdeal.nD Cert.MixedIdeal.τ).loc Cert.MixedIdeal.main_arg14))

def preserves_SampleProject_SampleProjectIdeal : Prop :=
  True

def algebraic_SampleProjectIdeal_SampleProjectedIdeal [hSampleProjectIdeal : Cert.SampleProjectIdeal.Facts] [hSampleProjectedIdeal : Cert.SampleProjectedIdeal.Facts] : Prop :=
  ∀ (m : (ℓ : Loc Cert.SampleProjectIdeal.nD Cert.SampleProjectIdeal.τ Cert.SampleProjectIdeal.sig) → Buf (Elt Ideal) ℓ) (g : Dev Cert.SampleProjectIdeal.nD → PrngReg)
    (m' : (ℓ : Loc Cert.SampleProjectedIdeal.nD Cert.SampleProjectedIdeal.τ Cert.SampleProjectedIdeal.sig) → Buf (Elt Ideal) ℓ) (g' : Dev Cert.SampleProjectedIdeal.nD → PrngReg), Pre_SampleProjectIdeal m →
    (∀ c : Dev Cert.SampleProjectIdeal.nD,
      m' ((c.tc : Thread Cert.SampleProjectedIdeal.nD Cert.SampleProjectedIdeal.τ).loc Cert.SampleProjectedIdeal.main_arg0) = m ((c.tc : Thread Cert.SampleProjectIdeal.nD Cert.SampleProjectIdeal.τ).loc Cert.SampleProjectIdeal.main_arg0)
      ∧ m' ((c.tc : Thread Cert.SampleProjectedIdeal.nD Cert.SampleProjectedIdeal.τ).loc Cert.SampleProjectedIdeal.main_arg1) = m ((c.tc : Thread Cert.SampleProjectIdeal.nD Cert.SampleProjectIdeal.τ).loc Cert.SampleProjectIdeal.main_arg1)
      ∧ m' ((c.tc : Thread Cert.SampleProjectedIdeal.nD Cert.SampleProjectedIdeal.τ).loc Cert.SampleProjectedIdeal.main_arg2) = m ((c.tc : Thread Cert.SampleProjectIdeal.nD Cert.SampleProjectIdeal.τ).loc Cert.SampleProjectIdeal.main_arg2)) →
    ∃ (v0 : (c : Dev Cert.SampleProjectIdeal.nD) → Buf (Elt Ideal) ((c.tc : Thread Cert.SampleProjectIdeal.nD Cert.SampleProjectIdeal.τ).loc Cert.SampleProjectIdeal.main_v32)),
      θ_run (Cert.SampleProjectIdeal.defs (F := Ideal)) (onTc (τ := Cert.SampleProjectIdeal.τ) (Cert.SampleProjectIdeal.main (F := Ideal))) ⟨m, fun _ => 0, g⟩ (fun r => ∀ c : Dev Cert.SampleProjectIdeal.nD,
          r.2.mem ((c.tc : Thread Cert.SampleProjectIdeal.nD Cert.SampleProjectIdeal.τ).loc Cert.SampleProjectIdeal.main_v32) = v0 c
          ∧ r.2.mem ((c.tc : Thread Cert.SampleProjectIdeal.nD Cert.SampleProjectIdeal.τ).loc Cert.SampleProjectIdeal.main_arg0) = m ((c.tc : Thread Cert.SampleProjectIdeal.nD Cert.SampleProjectIdeal.τ).loc Cert.SampleProjectIdeal.main_arg0)
          ∧ r.2.mem ((c.tc : Thread Cert.SampleProjectIdeal.nD Cert.SampleProjectIdeal.τ).loc Cert.SampleProjectIdeal.main_arg1) = m ((c.tc : Thread Cert.SampleProjectIdeal.nD Cert.SampleProjectIdeal.τ).loc Cert.SampleProjectIdeal.main_arg1)
          ∧ r.2.mem ((c.tc : Thread Cert.SampleProjectIdeal.nD Cert.SampleProjectIdeal.τ).loc Cert.SampleProjectIdeal.main_arg2) = m ((c.tc : Thread Cert.SampleProjectIdeal.nD Cert.SampleProjectIdeal.τ).loc Cert.SampleProjectIdeal.main_arg2))
      ∧ θ_run (Cert.SampleProjectedIdeal.defs (F := Ideal)) (onTc (τ := Cert.SampleProjectedIdeal.τ) (Cert.SampleProjectedIdeal.main (F := Ideal))) ⟨m', fun _ => 0, g'⟩ (fun r => ∀ c : Dev Cert.SampleProjectedIdeal.nD,
          r.2.mem ((c.tc : Thread Cert.SampleProjectedIdeal.nD Cert.SampleProjectedIdeal.τ).loc Cert.SampleProjectedIdeal.main_v92) = v0 c
          ∧ r.2.mem ((c.tc : Thread Cert.SampleProjectedIdeal.nD Cert.SampleProjectedIdeal.τ).loc Cert.SampleProjectedIdeal.main_arg0) = m' ((c.tc : Thread Cert.SampleProjectedIdeal.nD Cert.SampleProjectedIdeal.τ).loc Cert.SampleProjectedIdeal.main_arg0)
          ∧ r.2.mem ((c.tc : Thread Cert.SampleProjectedIdeal.nD Cert.SampleProjectedIdeal.τ).loc Cert.SampleProjectedIdeal.main_arg1) = m' ((c.tc : Thread Cert.SampleProjectedIdeal.nD Cert.SampleProjectedIdeal.τ).loc Cert.SampleProjectedIdeal.main_arg1)
          ∧ r.2.mem ((c.tc : Thread Cert.SampleProjectedIdeal.nD Cert.SampleProjectedIdeal.τ).loc Cert.SampleProjectedIdeal.main_arg2) = m' ((c.tc : Thread Cert.SampleProjectedIdeal.nD Cert.SampleProjectedIdeal.τ).loc Cert.SampleProjectedIdeal.main_arg2))

def preserves_SampleMix_SampleMixIdeal : Prop :=
  True

def algebraic_SampleMixIdeal_SampleMixedIdeal [hSampleMixIdeal : Cert.SampleMixIdeal.Facts] [hSampleMixedIdeal : Cert.SampleMixedIdeal.Facts] : Prop :=
  ∀ (m : (ℓ : Loc Cert.SampleMixIdeal.nD Cert.SampleMixIdeal.τ Cert.SampleMixIdeal.sig) → Buf (Elt Ideal) ℓ) (g : Dev Cert.SampleMixIdeal.nD → PrngReg)
    (m' : (ℓ : Loc Cert.SampleMixedIdeal.nD Cert.SampleMixedIdeal.τ Cert.SampleMixedIdeal.sig) → Buf (Elt Ideal) ℓ) (g' : Dev Cert.SampleMixedIdeal.nD → PrngReg), Pre_SampleMixIdeal m →
    (∀ c : Dev Cert.SampleMixIdeal.nD,
      m' ((c.tc : Thread Cert.SampleMixedIdeal.nD Cert.SampleMixedIdeal.τ).loc Cert.SampleMixedIdeal.main_arg0) = m ((c.tc : Thread Cert.SampleMixIdeal.nD Cert.SampleMixIdeal.τ).loc Cert.SampleMixIdeal.main_arg0)
      ∧ m' ((c.tc : Thread Cert.SampleMixedIdeal.nD Cert.SampleMixedIdeal.τ).loc Cert.SampleMixedIdeal.main_arg1) = m ((c.tc : Thread Cert.SampleMixIdeal.nD Cert.SampleMixIdeal.τ).loc Cert.SampleMixIdeal.main_arg1)
      ∧ m' ((c.tc : Thread Cert.SampleMixedIdeal.nD Cert.SampleMixedIdeal.τ).loc Cert.SampleMixedIdeal.main_arg2) = m ((c.tc : Thread Cert.SampleMixIdeal.nD Cert.SampleMixIdeal.τ).loc Cert.SampleMixIdeal.main_arg2)
      ∧ m' ((c.tc : Thread Cert.SampleMixedIdeal.nD Cert.SampleMixedIdeal.τ).loc Cert.SampleMixedIdeal.main_arg3) = m ((c.tc : Thread Cert.SampleMixIdeal.nD Cert.SampleMixIdeal.τ).loc Cert.SampleMixIdeal.main_arg3)
      ∧ m' ((c.tc : Thread Cert.SampleMixedIdeal.nD Cert.SampleMixedIdeal.τ).loc Cert.SampleMixedIdeal.main_arg4) = m ((c.tc : Thread Cert.SampleMixIdeal.nD Cert.SampleMixIdeal.τ).loc Cert.SampleMixIdeal.main_arg4)
      ∧ m' ((c.tc : Thread Cert.SampleMixedIdeal.nD Cert.SampleMixedIdeal.τ).loc Cert.SampleMixedIdeal.main_arg5) = m ((c.tc : Thread Cert.SampleMixIdeal.nD Cert.SampleMixIdeal.τ).loc Cert.SampleMixIdeal.main_arg5)
      ∧ m' ((c.tc : Thread Cert.SampleMixedIdeal.nD Cert.SampleMixedIdeal.τ).loc Cert.SampleMixedIdeal.main_arg6) = m ((c.tc : Thread Cert.SampleMixIdeal.nD Cert.SampleMixIdeal.τ).loc Cert.SampleMixIdeal.main_arg6)
      ∧ m' ((c.tc : Thread Cert.SampleMixedIdeal.nD Cert.SampleMixedIdeal.τ).loc Cert.SampleMixedIdeal.main_arg7) = m ((c.tc : Thread Cert.SampleMixIdeal.nD Cert.SampleMixIdeal.τ).loc Cert.SampleMixIdeal.main_arg7)
      ∧ m' ((c.tc : Thread Cert.SampleMixedIdeal.nD Cert.SampleMixedIdeal.τ).loc Cert.SampleMixedIdeal.main_arg8) = m ((c.tc : Thread Cert.SampleMixIdeal.nD Cert.SampleMixIdeal.τ).loc Cert.SampleMixIdeal.main_arg8)
      ∧ m' ((c.tc : Thread Cert.SampleMixedIdeal.nD Cert.SampleMixedIdeal.τ).loc Cert.SampleMixedIdeal.main_arg9) = m ((c.tc : Thread Cert.SampleMixIdeal.nD Cert.SampleMixIdeal.τ).loc Cert.SampleMixIdeal.main_arg9)
      ∧ m' ((c.tc : Thread Cert.SampleMixedIdeal.nD Cert.SampleMixedIdeal.τ).loc Cert.SampleMixedIdeal.main_arg10) = m ((c.tc : Thread Cert.SampleMixIdeal.nD Cert.SampleMixIdeal.τ).loc Cert.SampleMixIdeal.main_arg10)
      ∧ m' ((c.tc : Thread Cert.SampleMixedIdeal.nD Cert.SampleMixedIdeal.τ).loc Cert.SampleMixedIdeal.main_arg11) = m ((c.tc : Thread Cert.SampleMixIdeal.nD Cert.SampleMixIdeal.τ).loc Cert.SampleMixIdeal.main_arg11)
      ∧ m' ((c.tc : Thread Cert.SampleMixedIdeal.nD Cert.SampleMixedIdeal.τ).loc Cert.SampleMixedIdeal.main_arg12) = m ((c.tc : Thread Cert.SampleMixIdeal.nD Cert.SampleMixIdeal.τ).loc Cert.SampleMixIdeal.main_arg12)
      ∧ m' ((c.tc : Thread Cert.SampleMixedIdeal.nD Cert.SampleMixedIdeal.τ).loc Cert.SampleMixedIdeal.main_arg13) = m ((c.tc : Thread Cert.SampleMixIdeal.nD Cert.SampleMixIdeal.τ).loc Cert.SampleMixIdeal.main_arg13)
      ∧ m' ((c.tc : Thread Cert.SampleMixedIdeal.nD Cert.SampleMixedIdeal.τ).loc Cert.SampleMixedIdeal.main_arg14) = m ((c.tc : Thread Cert.SampleMixIdeal.nD Cert.SampleMixIdeal.τ).loc Cert.SampleMixIdeal.main_arg14)) →
    ∃ (v0 : (c : Dev Cert.SampleMixIdeal.nD) → Buf (Elt Ideal) ((c.tc : Thread Cert.SampleMixIdeal.nD Cert.SampleMixIdeal.τ).loc Cert.SampleMixIdeal.main_v18_0)) (v1 : (c : Dev Cert.SampleMixIdeal.nD) → Buf (Elt Ideal) ((c.tc : Thread Cert.SampleMixIdeal.nD Cert.SampleMixIdeal.τ).loc Cert.SampleMixIdeal.main_v18_1)),
      θ_run (Cert.SampleMixIdeal.defs (F := Ideal)) (onTc (τ := Cert.SampleMixIdeal.τ) (Cert.SampleMixIdeal.main (F := Ideal))) ⟨m, fun _ => 0, g⟩ (fun r => ∀ c : Dev Cert.SampleMixIdeal.nD,
          r.2.mem ((c.tc : Thread Cert.SampleMixIdeal.nD Cert.SampleMixIdeal.τ).loc Cert.SampleMixIdeal.main_v18_0) = v0 c
          ∧ r.2.mem ((c.tc : Thread Cert.SampleMixIdeal.nD Cert.SampleMixIdeal.τ).loc Cert.SampleMixIdeal.main_v18_1) = v1 c
          ∧ r.2.mem ((c.tc : Thread Cert.SampleMixIdeal.nD Cert.SampleMixIdeal.τ).loc Cert.SampleMixIdeal.main_arg0) = m ((c.tc : Thread Cert.SampleMixIdeal.nD Cert.SampleMixIdeal.τ).loc Cert.SampleMixIdeal.main_arg0)
          ∧ r.2.mem ((c.tc : Thread Cert.SampleMixIdeal.nD Cert.SampleMixIdeal.τ).loc Cert.SampleMixIdeal.main_arg1) = m ((c.tc : Thread Cert.SampleMixIdeal.nD Cert.SampleMixIdeal.τ).loc Cert.SampleMixIdeal.main_arg1)
          ∧ r.2.mem ((c.tc : Thread Cert.SampleMixIdeal.nD Cert.SampleMixIdeal.τ).loc Cert.SampleMixIdeal.main_arg2) = m ((c.tc : Thread Cert.SampleMixIdeal.nD Cert.SampleMixIdeal.τ).loc Cert.SampleMixIdeal.main_arg2)
          ∧ r.2.mem ((c.tc : Thread Cert.SampleMixIdeal.nD Cert.SampleMixIdeal.τ).loc Cert.SampleMixIdeal.main_arg3) = m ((c.tc : Thread Cert.SampleMixIdeal.nD Cert.SampleMixIdeal.τ).loc Cert.SampleMixIdeal.main_arg3)
          ∧ r.2.mem ((c.tc : Thread Cert.SampleMixIdeal.nD Cert.SampleMixIdeal.τ).loc Cert.SampleMixIdeal.main_arg4) = m ((c.tc : Thread Cert.SampleMixIdeal.nD Cert.SampleMixIdeal.τ).loc Cert.SampleMixIdeal.main_arg4)
          ∧ r.2.mem ((c.tc : Thread Cert.SampleMixIdeal.nD Cert.SampleMixIdeal.τ).loc Cert.SampleMixIdeal.main_arg5) = m ((c.tc : Thread Cert.SampleMixIdeal.nD Cert.SampleMixIdeal.τ).loc Cert.SampleMixIdeal.main_arg5)
          ∧ r.2.mem ((c.tc : Thread Cert.SampleMixIdeal.nD Cert.SampleMixIdeal.τ).loc Cert.SampleMixIdeal.main_arg6) = m ((c.tc : Thread Cert.SampleMixIdeal.nD Cert.SampleMixIdeal.τ).loc Cert.SampleMixIdeal.main_arg6)
          ∧ r.2.mem ((c.tc : Thread Cert.SampleMixIdeal.nD Cert.SampleMixIdeal.τ).loc Cert.SampleMixIdeal.main_arg7) = m ((c.tc : Thread Cert.SampleMixIdeal.nD Cert.SampleMixIdeal.τ).loc Cert.SampleMixIdeal.main_arg7)
          ∧ r.2.mem ((c.tc : Thread Cert.SampleMixIdeal.nD Cert.SampleMixIdeal.τ).loc Cert.SampleMixIdeal.main_arg8) = m ((c.tc : Thread Cert.SampleMixIdeal.nD Cert.SampleMixIdeal.τ).loc Cert.SampleMixIdeal.main_arg8)
          ∧ r.2.mem ((c.tc : Thread Cert.SampleMixIdeal.nD Cert.SampleMixIdeal.τ).loc Cert.SampleMixIdeal.main_arg9) = m ((c.tc : Thread Cert.SampleMixIdeal.nD Cert.SampleMixIdeal.τ).loc Cert.SampleMixIdeal.main_arg9)
          ∧ r.2.mem ((c.tc : Thread Cert.SampleMixIdeal.nD Cert.SampleMixIdeal.τ).loc Cert.SampleMixIdeal.main_arg10) = m ((c.tc : Thread Cert.SampleMixIdeal.nD Cert.SampleMixIdeal.τ).loc Cert.SampleMixIdeal.main_arg10)
          ∧ r.2.mem ((c.tc : Thread Cert.SampleMixIdeal.nD Cert.SampleMixIdeal.τ).loc Cert.SampleMixIdeal.main_arg11) = m ((c.tc : Thread Cert.SampleMixIdeal.nD Cert.SampleMixIdeal.τ).loc Cert.SampleMixIdeal.main_arg11)
          ∧ r.2.mem ((c.tc : Thread Cert.SampleMixIdeal.nD Cert.SampleMixIdeal.τ).loc Cert.SampleMixIdeal.main_arg12) = m ((c.tc : Thread Cert.SampleMixIdeal.nD Cert.SampleMixIdeal.τ).loc Cert.SampleMixIdeal.main_arg12)
          ∧ r.2.mem ((c.tc : Thread Cert.SampleMixIdeal.nD Cert.SampleMixIdeal.τ).loc Cert.SampleMixIdeal.main_arg13) = m ((c.tc : Thread Cert.SampleMixIdeal.nD Cert.SampleMixIdeal.τ).loc Cert.SampleMixIdeal.main_arg13)
          ∧ r.2.mem ((c.tc : Thread Cert.SampleMixIdeal.nD Cert.SampleMixIdeal.τ).loc Cert.SampleMixIdeal.main_arg14) = m ((c.tc : Thread Cert.SampleMixIdeal.nD Cert.SampleMixIdeal.τ).loc Cert.SampleMixIdeal.main_arg14))
      ∧ θ_run (Cert.SampleMixedIdeal.defs (F := Ideal)) (onTc (τ := Cert.SampleMixedIdeal.τ) (Cert.SampleMixedIdeal.main (F := Ideal))) ⟨m', fun _ => 0, g'⟩ (fun r => ∀ c : Dev Cert.SampleMixedIdeal.nD,
          r.2.mem ((c.tc : Thread Cert.SampleMixedIdeal.nD Cert.SampleMixedIdeal.τ).loc Cert.SampleMixedIdeal.main_v111) = v0 c
          ∧ r.2.mem ((c.tc : Thread Cert.SampleMixedIdeal.nD Cert.SampleMixedIdeal.τ).loc Cert.SampleMixedIdeal.main_v112) = v1 c
          ∧ r.2.mem ((c.tc : Thread Cert.SampleMixedIdeal.nD Cert.SampleMixedIdeal.τ).loc Cert.SampleMixedIdeal.main_arg0) = m' ((c.tc : Thread Cert.SampleMixedIdeal.nD Cert.SampleMixedIdeal.τ).loc Cert.SampleMixedIdeal.main_arg0)
          ∧ r.2.mem ((c.tc : Thread Cert.SampleMixedIdeal.nD Cert.SampleMixedIdeal.τ).loc Cert.SampleMixedIdeal.main_arg1) = m' ((c.tc : Thread Cert.SampleMixedIdeal.nD Cert.SampleMixedIdeal.τ).loc Cert.SampleMixedIdeal.main_arg1)
          ∧ r.2.mem ((c.tc : Thread Cert.SampleMixedIdeal.nD Cert.SampleMixedIdeal.τ).loc Cert.SampleMixedIdeal.main_arg2) = m' ((c.tc : Thread Cert.SampleMixedIdeal.nD Cert.SampleMixedIdeal.τ).loc Cert.SampleMixedIdeal.main_arg2)
          ∧ r.2.mem ((c.tc : Thread Cert.SampleMixedIdeal.nD Cert.SampleMixedIdeal.τ).loc Cert.SampleMixedIdeal.main_arg3) = m' ((c.tc : Thread Cert.SampleMixedIdeal.nD Cert.SampleMixedIdeal.τ).loc Cert.SampleMixedIdeal.main_arg3)
          ∧ r.2.mem ((c.tc : Thread Cert.SampleMixedIdeal.nD Cert.SampleMixedIdeal.τ).loc Cert.SampleMixedIdeal.main_arg4) = m' ((c.tc : Thread Cert.SampleMixedIdeal.nD Cert.SampleMixedIdeal.τ).loc Cert.SampleMixedIdeal.main_arg4)
          ∧ r.2.mem ((c.tc : Thread Cert.SampleMixedIdeal.nD Cert.SampleMixedIdeal.τ).loc Cert.SampleMixedIdeal.main_arg5) = m' ((c.tc : Thread Cert.SampleMixedIdeal.nD Cert.SampleMixedIdeal.τ).loc Cert.SampleMixedIdeal.main_arg5)
          ∧ r.2.mem ((c.tc : Thread Cert.SampleMixedIdeal.nD Cert.SampleMixedIdeal.τ).loc Cert.SampleMixedIdeal.main_arg6) = m' ((c.tc : Thread Cert.SampleMixedIdeal.nD Cert.SampleMixedIdeal.τ).loc Cert.SampleMixedIdeal.main_arg6)
          ∧ r.2.mem ((c.tc : Thread Cert.SampleMixedIdeal.nD Cert.SampleMixedIdeal.τ).loc Cert.SampleMixedIdeal.main_arg7) = m' ((c.tc : Thread Cert.SampleMixedIdeal.nD Cert.SampleMixedIdeal.τ).loc Cert.SampleMixedIdeal.main_arg7)
          ∧ r.2.mem ((c.tc : Thread Cert.SampleMixedIdeal.nD Cert.SampleMixedIdeal.τ).loc Cert.SampleMixedIdeal.main_arg8) = m' ((c.tc : Thread Cert.SampleMixedIdeal.nD Cert.SampleMixedIdeal.τ).loc Cert.SampleMixedIdeal.main_arg8)
          ∧ r.2.mem ((c.tc : Thread Cert.SampleMixedIdeal.nD Cert.SampleMixedIdeal.τ).loc Cert.SampleMixedIdeal.main_arg9) = m' ((c.tc : Thread Cert.SampleMixedIdeal.nD Cert.SampleMixedIdeal.τ).loc Cert.SampleMixedIdeal.main_arg9)
          ∧ r.2.mem ((c.tc : Thread Cert.SampleMixedIdeal.nD Cert.SampleMixedIdeal.τ).loc Cert.SampleMixedIdeal.main_arg10) = m' ((c.tc : Thread Cert.SampleMixedIdeal.nD Cert.SampleMixedIdeal.τ).loc Cert.SampleMixedIdeal.main_arg10)
          ∧ r.2.mem ((c.tc : Thread Cert.SampleMixedIdeal.nD Cert.SampleMixedIdeal.τ).loc Cert.SampleMixedIdeal.main_arg11) = m' ((c.tc : Thread Cert.SampleMixedIdeal.nD Cert.SampleMixedIdeal.τ).loc Cert.SampleMixedIdeal.main_arg11)
          ∧ r.2.mem ((c.tc : Thread Cert.SampleMixedIdeal.nD Cert.SampleMixedIdeal.τ).loc Cert.SampleMixedIdeal.main_arg12) = m' ((c.tc : Thread Cert.SampleMixedIdeal.nD Cert.SampleMixedIdeal.τ).loc Cert.SampleMixedIdeal.main_arg12)
          ∧ r.2.mem ((c.tc : Thread Cert.SampleMixedIdeal.nD Cert.SampleMixedIdeal.τ).loc Cert.SampleMixedIdeal.main_arg13) = m' ((c.tc : Thread Cert.SampleMixedIdeal.nD Cert.SampleMixedIdeal.τ).loc Cert.SampleMixedIdeal.main_arg13)
          ∧ r.2.mem ((c.tc : Thread Cert.SampleMixedIdeal.nD Cert.SampleMixedIdeal.τ).loc Cert.SampleMixedIdeal.main_arg14) = m' ((c.tc : Thread Cert.SampleMixedIdeal.nD Cert.SampleMixedIdeal.τ).loc Cert.SampleMixedIdeal.main_arg14))

def preserves_Dense_DenseIdeal : Prop :=
  True

def algebraic_DenseIdeal_ExpertsIdeal [hDenseIdeal : Cert.DenseIdeal.Facts] [hExpertsIdeal : Cert.ExpertsIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.ExpertsIdeal.nD Cert.ExpertsIdeal.τ Cert.ExpertsIdeal.sig) → Buf (Elt Ideal) ℓ) (g' : Dev Cert.ExpertsIdeal.nD → PrngReg), Pre_DenseIdeal m →
    (∀ c : Dev Cert.DenseIdeal.nD,
      m' ((c.tc : Thread Cert.ExpertsIdeal.nD Cert.ExpertsIdeal.τ).loc Cert.ExpertsIdeal.main_arg0) = m ((c.tc : Thread Cert.DenseIdeal.nD Cert.DenseIdeal.τ).loc Cert.DenseIdeal.main_arg0)
      ∧ m' ((c.tc : Thread Cert.ExpertsIdeal.nD Cert.ExpertsIdeal.τ).loc Cert.ExpertsIdeal.main_arg1) = m ((c.tc : Thread Cert.DenseIdeal.nD Cert.DenseIdeal.τ).loc Cert.DenseIdeal.main_arg1)
      ∧ m' ((c.tc : Thread Cert.ExpertsIdeal.nD Cert.ExpertsIdeal.τ).loc Cert.ExpertsIdeal.main_arg2) = m ((c.tc : Thread Cert.DenseIdeal.nD Cert.DenseIdeal.τ).loc Cert.DenseIdeal.main_arg2)
      ∧ m' ((c.tc : Thread Cert.ExpertsIdeal.nD Cert.ExpertsIdeal.τ).loc Cert.ExpertsIdeal.main_arg3) = m ((c.tc : Thread Cert.DenseIdeal.nD Cert.DenseIdeal.τ).loc Cert.DenseIdeal.main_arg3)
      ∧ m' ((c.tc : Thread Cert.ExpertsIdeal.nD Cert.ExpertsIdeal.τ).loc Cert.ExpertsIdeal.main_arg4) = m ((c.tc : Thread Cert.DenseIdeal.nD Cert.DenseIdeal.τ).loc Cert.DenseIdeal.main_arg4)
      ∧ m' ((c.tc : Thread Cert.ExpertsIdeal.nD Cert.ExpertsIdeal.τ).loc Cert.ExpertsIdeal.main_arg5) = m ((c.tc : Thread Cert.DenseIdeal.nD Cert.DenseIdeal.τ).loc Cert.DenseIdeal.main_arg5)
      ∧ m' ((c.tc : Thread Cert.ExpertsIdeal.nD Cert.ExpertsIdeal.τ).loc Cert.ExpertsIdeal.main_arg6) = m ((c.tc : Thread Cert.DenseIdeal.nD Cert.DenseIdeal.τ).loc Cert.DenseIdeal.main_arg6)
      ∧ m' ((c.tc : Thread Cert.ExpertsIdeal.nD Cert.ExpertsIdeal.τ).loc Cert.ExpertsIdeal.main_arg7) = m ((c.tc : Thread Cert.DenseIdeal.nD Cert.DenseIdeal.τ).loc Cert.DenseIdeal.main_arg7)
      ∧ m' ((c.tc : Thread Cert.ExpertsIdeal.nD Cert.ExpertsIdeal.τ).loc Cert.ExpertsIdeal.main_arg8) = m ((c.tc : Thread Cert.DenseIdeal.nD Cert.DenseIdeal.τ).loc Cert.DenseIdeal.main_arg8)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ θ_run (Cert.ExpertsIdeal.defs (F := Ideal)) (onTc (τ := Cert.ExpertsIdeal.τ) (Cert.ExpertsIdeal.main (F := Ideal))) ⟨m', fun _ => 0, g'⟩ (fun r => ∀ c : Dev Cert.ExpertsIdeal.nD,
          r.2.mem ((c.tc : Thread Cert.ExpertsIdeal.nD Cert.ExpertsIdeal.τ).loc Cert.ExpertsIdeal.main_v43) = v0 c
          ∧ r.2.mem ((c.tc : Thread Cert.ExpertsIdeal.nD Cert.ExpertsIdeal.τ).loc Cert.ExpertsIdeal.main_arg0) = m' ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m' ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m' ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m' ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m' ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m' ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m' ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m' ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m' ((c.tc : Thread Cert.ExpertsIdeal.nD Cert.ExpertsIdeal.τ).loc Cert.ExpertsIdeal.main_arg8))

def preserves_SampleDense_SampleDenseIdeal : Prop :=
  True

def algebraic_SampleDenseIdeal_SampleExpertsIdeal [hSampleDenseIdeal : Cert.SampleDenseIdeal.Facts] [hSampleExpertsIdeal : Cert.SampleExpertsIdeal.Facts] : Prop :=
  ∀ (m : (ℓ : Loc Cert.SampleDenseIdeal.nD Cert.SampleDenseIdeal.τ Cert.SampleDenseIdeal.sig) → Buf (Elt Ideal) ℓ) (g : Dev Cert.SampleDenseIdeal.nD → PrngReg)
    (m' : (ℓ : Loc Cert.SampleExpertsIdeal.nD Cert.SampleExpertsIdeal.τ Cert.SampleExpertsIdeal.sig) → Buf (Elt Ideal) ℓ) (g' : Dev Cert.SampleExpertsIdeal.nD → PrngReg), Pre_SampleDenseIdeal m →
    (∀ c : Dev Cert.SampleDenseIdeal.nD,
      m' ((c.tc : Thread Cert.SampleExpertsIdeal.nD Cert.SampleExpertsIdeal.τ).loc Cert.SampleExpertsIdeal.main_arg0) = m ((c.tc : Thread Cert.SampleDenseIdeal.nD Cert.SampleDenseIdeal.τ).loc Cert.SampleDenseIdeal.main_arg0)
      ∧ m' ((c.tc : Thread Cert.SampleExpertsIdeal.nD Cert.SampleExpertsIdeal.τ).loc Cert.SampleExpertsIdeal.main_arg1) = m ((c.tc : Thread Cert.SampleDenseIdeal.nD Cert.SampleDenseIdeal.τ).loc Cert.SampleDenseIdeal.main_arg1)
      ∧ m' ((c.tc : Thread Cert.SampleExpertsIdeal.nD Cert.SampleExpertsIdeal.τ).loc Cert.SampleExpertsIdeal.main_arg2) = m ((c.tc : Thread Cert.SampleDenseIdeal.nD Cert.SampleDenseIdeal.τ).loc Cert.SampleDenseIdeal.main_arg2)
      ∧ m' ((c.tc : Thread Cert.SampleExpertsIdeal.nD Cert.SampleExpertsIdeal.τ).loc Cert.SampleExpertsIdeal.main_arg3) = m ((c.tc : Thread Cert.SampleDenseIdeal.nD Cert.SampleDenseIdeal.τ).loc Cert.SampleDenseIdeal.main_arg3)
      ∧ m' ((c.tc : Thread Cert.SampleExpertsIdeal.nD Cert.SampleExpertsIdeal.τ).loc Cert.SampleExpertsIdeal.main_arg4) = m ((c.tc : Thread Cert.SampleDenseIdeal.nD Cert.SampleDenseIdeal.τ).loc Cert.SampleDenseIdeal.main_arg4)
      ∧ m' ((c.tc : Thread Cert.SampleExpertsIdeal.nD Cert.SampleExpertsIdeal.τ).loc Cert.SampleExpertsIdeal.main_arg5) = m ((c.tc : Thread Cert.SampleDenseIdeal.nD Cert.SampleDenseIdeal.τ).loc Cert.SampleDenseIdeal.main_arg5)
      ∧ m' ((c.tc : Thread Cert.SampleExpertsIdeal.nD Cert.SampleExpertsIdeal.τ).loc Cert.SampleExpertsIdeal.main_arg6) = m ((c.tc : Thread Cert.SampleDenseIdeal.nD Cert.SampleDenseIdeal.τ).loc Cert.SampleDenseIdeal.main_arg6)
      ∧ m' ((c.tc : Thread Cert.SampleExpertsIdeal.nD Cert.SampleExpertsIdeal.τ).loc Cert.SampleExpertsIdeal.main_arg7) = m ((c.tc : Thread Cert.SampleDenseIdeal.nD Cert.SampleDenseIdeal.τ).loc Cert.SampleDenseIdeal.main_arg7)
      ∧ m' ((c.tc : Thread Cert.SampleExpertsIdeal.nD Cert.SampleExpertsIdeal.τ).loc Cert.SampleExpertsIdeal.main_arg8) = m ((c.tc : Thread Cert.SampleDenseIdeal.nD Cert.SampleDenseIdeal.τ).loc Cert.SampleDenseIdeal.main_arg8)) →
    ∃ (v0 : (c : Dev Cert.SampleDenseIdeal.nD) → Buf (Elt Ideal) ((c.tc : Thread Cert.SampleDenseIdeal.nD Cert.SampleDenseIdeal.τ).loc Cert.SampleDenseIdeal.main_v4)),
      θ_run (Cert.SampleDenseIdeal.defs (F := Ideal)) (onTc (τ := Cert.SampleDenseIdeal.τ) (Cert.SampleDenseIdeal.main (F := Ideal))) ⟨m, fun _ => 0, g⟩ (fun r => ∀ c : Dev Cert.SampleDenseIdeal.nD,
          r.2.mem ((c.tc : Thread Cert.SampleDenseIdeal.nD Cert.SampleDenseIdeal.τ).loc Cert.SampleDenseIdeal.main_v4) = v0 c
          ∧ r.2.mem ((c.tc : Thread Cert.SampleDenseIdeal.nD Cert.SampleDenseIdeal.τ).loc Cert.SampleDenseIdeal.main_arg0) = m ((c.tc : Thread Cert.SampleDenseIdeal.nD Cert.SampleDenseIdeal.τ).loc Cert.SampleDenseIdeal.main_arg0)
          ∧ r.2.mem ((c.tc : Thread Cert.SampleDenseIdeal.nD Cert.SampleDenseIdeal.τ).loc Cert.SampleDenseIdeal.main_arg1) = m ((c.tc : Thread Cert.SampleDenseIdeal.nD Cert.SampleDenseIdeal.τ).loc Cert.SampleDenseIdeal.main_arg1)
          ∧ r.2.mem ((c.tc : Thread Cert.SampleDenseIdeal.nD Cert.SampleDenseIdeal.τ).loc Cert.SampleDenseIdeal.main_arg2) = m ((c.tc : Thread Cert.SampleDenseIdeal.nD Cert.SampleDenseIdeal.τ).loc Cert.SampleDenseIdeal.main_arg2)
          ∧ r.2.mem ((c.tc : Thread Cert.SampleDenseIdeal.nD Cert.SampleDenseIdeal.τ).loc Cert.SampleDenseIdeal.main_arg3) = m ((c.tc : Thread Cert.SampleDenseIdeal.nD Cert.SampleDenseIdeal.τ).loc Cert.SampleDenseIdeal.main_arg3)
          ∧ r.2.mem ((c.tc : Thread Cert.SampleDenseIdeal.nD Cert.SampleDenseIdeal.τ).loc Cert.SampleDenseIdeal.main_arg4) = m ((c.tc : Thread Cert.SampleDenseIdeal.nD Cert.SampleDenseIdeal.τ).loc Cert.SampleDenseIdeal.main_arg4)
          ∧ r.2.mem ((c.tc : Thread Cert.SampleDenseIdeal.nD Cert.SampleDenseIdeal.τ).loc Cert.SampleDenseIdeal.main_arg5) = m ((c.tc : Thread Cert.SampleDenseIdeal.nD Cert.SampleDenseIdeal.τ).loc Cert.SampleDenseIdeal.main_arg5)
          ∧ r.2.mem ((c.tc : Thread Cert.SampleDenseIdeal.nD Cert.SampleDenseIdeal.τ).loc Cert.SampleDenseIdeal.main_arg6) = m ((c.tc : Thread Cert.SampleDenseIdeal.nD Cert.SampleDenseIdeal.τ).loc Cert.SampleDenseIdeal.main_arg6)
          ∧ r.2.mem ((c.tc : Thread Cert.SampleDenseIdeal.nD Cert.SampleDenseIdeal.τ).loc Cert.SampleDenseIdeal.main_arg7) = m ((c.tc : Thread Cert.SampleDenseIdeal.nD Cert.SampleDenseIdeal.τ).loc Cert.SampleDenseIdeal.main_arg7)
          ∧ r.2.mem ((c.tc : Thread Cert.SampleDenseIdeal.nD Cert.SampleDenseIdeal.τ).loc Cert.SampleDenseIdeal.main_arg8) = m ((c.tc : Thread Cert.SampleDenseIdeal.nD Cert.SampleDenseIdeal.τ).loc Cert.SampleDenseIdeal.main_arg8))
      ∧ θ_run (Cert.SampleExpertsIdeal.defs (F := Ideal)) (onTc (τ := Cert.SampleExpertsIdeal.τ) (Cert.SampleExpertsIdeal.main (F := Ideal))) ⟨m', fun _ => 0, g'⟩ (fun r => ∀ c : Dev Cert.SampleExpertsIdeal.nD,
          r.2.mem ((c.tc : Thread Cert.SampleExpertsIdeal.nD Cert.SampleExpertsIdeal.τ).loc Cert.SampleExpertsIdeal.main_v43) = v0 c
          ∧ r.2.mem ((c.tc : Thread Cert.SampleExpertsIdeal.nD Cert.SampleExpertsIdeal.τ).loc Cert.SampleExpertsIdeal.main_arg0) = m' ((c.tc : Thread Cert.SampleExpertsIdeal.nD Cert.SampleExpertsIdeal.τ).loc Cert.SampleExpertsIdeal.main_arg0)
          ∧ r.2.mem ((c.tc : Thread Cert.SampleExpertsIdeal.nD Cert.SampleExpertsIdeal.τ).loc Cert.SampleExpertsIdeal.main_arg1) = m' ((c.tc : Thread Cert.SampleExpertsIdeal.nD Cert.SampleExpertsIdeal.τ).loc Cert.SampleExpertsIdeal.main_arg1)
          ∧ r.2.mem ((c.tc : Thread Cert.SampleExpertsIdeal.nD Cert.SampleExpertsIdeal.τ).loc Cert.SampleExpertsIdeal.main_arg2) = m' ((c.tc : Thread Cert.SampleExpertsIdeal.nD Cert.SampleExpertsIdeal.τ).loc Cert.SampleExpertsIdeal.main_arg2)
          ∧ r.2.mem ((c.tc : Thread Cert.SampleExpertsIdeal.nD Cert.SampleExpertsIdeal.τ).loc Cert.SampleExpertsIdeal.main_arg3) = m' ((c.tc : Thread Cert.SampleExpertsIdeal.nD Cert.SampleExpertsIdeal.τ).loc Cert.SampleExpertsIdeal.main_arg3)
          ∧ r.2.mem ((c.tc : Thread Cert.SampleExpertsIdeal.nD Cert.SampleExpertsIdeal.τ).loc Cert.SampleExpertsIdeal.main_arg4) = m' ((c.tc : Thread Cert.SampleExpertsIdeal.nD Cert.SampleExpertsIdeal.τ).loc Cert.SampleExpertsIdeal.main_arg4)
          ∧ r.2.mem ((c.tc : Thread Cert.SampleExpertsIdeal.nD Cert.SampleExpertsIdeal.τ).loc Cert.SampleExpertsIdeal.main_arg5) = m' ((c.tc : Thread Cert.SampleExpertsIdeal.nD Cert.SampleExpertsIdeal.τ).loc Cert.SampleExpertsIdeal.main_arg5)
          ∧ r.2.mem ((c.tc : Thread Cert.SampleExpertsIdeal.nD Cert.SampleExpertsIdeal.τ).loc Cert.SampleExpertsIdeal.main_arg6) = m' ((c.tc : Thread Cert.SampleExpertsIdeal.nD Cert.SampleExpertsIdeal.τ).loc Cert.SampleExpertsIdeal.main_arg6)
          ∧ r.2.mem ((c.tc : Thread Cert.SampleExpertsIdeal.nD Cert.SampleExpertsIdeal.τ).loc Cert.SampleExpertsIdeal.main_arg7) = m' ((c.tc : Thread Cert.SampleExpertsIdeal.nD Cert.SampleExpertsIdeal.τ).loc Cert.SampleExpertsIdeal.main_arg7)
          ∧ r.2.mem ((c.tc : Thread Cert.SampleExpertsIdeal.nD Cert.SampleExpertsIdeal.τ).loc Cert.SampleExpertsIdeal.main_arg8) = m' ((c.tc : Thread Cert.SampleExpertsIdeal.nD Cert.SampleExpertsIdeal.τ).loc Cert.SampleExpertsIdeal.main_arg8))

def preserves_Attn1_Attn1Ideal : Prop :=
  IdealRules.named_const.Statement Cert.Attn1Ideal.κ "mask" .f32 0xFF7F0000#32 ⊥

def algebraic_Attn1Ideal_Dilated1Ideal_pre_finite_queries_and_keys [hAttn1Ideal : Cert.Attn1Ideal.Facts] [hDilated1Ideal : Cert.Dilated1Ideal.Facts] [hPre_finite_queries_and_keys : Cert.Pre_finite_queries_and_keys.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Dilated1Ideal.nD Cert.Dilated1Ideal.τ Cert.Dilated1Ideal.sig) → Buf (Elt Ideal) ℓ) (g' : Dev Cert.Dilated1Ideal.nD → PrngReg), Pre_Attn1Ideal_finite_queries_and_keys m →
    (∀ c : Dev Cert.Attn1Ideal.nD,
      m' ((c.tc : Thread Cert.Dilated1Ideal.nD Cert.Dilated1Ideal.τ).loc Cert.Dilated1Ideal.main_arg0) = m ((c.tc : Thread Cert.Attn1Ideal.nD Cert.Attn1Ideal.τ).loc Cert.Attn1Ideal.main_arg0)) →
    ∃ (v0 : (c : Dev Cert.Attn1Ideal.nD) → Buf (Elt Ideal) ((c.tc : Thread Cert.Attn1Ideal.nD Cert.Attn1Ideal.τ).loc Cert.Attn1Ideal.main_v0_0)) (v1 : (c : Dev Cert.Attn1Ideal.nD) → Buf (Elt Ideal) ((c.tc : Thread Cert.Attn1Ideal.nD Cert.Attn1Ideal.τ).loc Cert.Attn1Ideal.main_v0_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v0_0) = v0 c
          ∧ r.2.mem ((c.tc : Thread Cert.Attn1Ideal.nD Cert.Attn1Ideal.τ).loc Cert.Attn1Ideal.main_v0_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ θ_run (Cert.Dilated1Ideal.defs (F := Ideal)) (onTc (τ := Cert.Dilated1Ideal.τ) (Cert.Dilated1Ideal.main (F := Ideal))) ⟨m', fun _ => 0, g'⟩ (fun r => ∀ c : Dev Cert.Dilated1Ideal.nD,
          r.2.mem ((c.tc : Thread Cert.Dilated1Ideal.nD Cert.Dilated1Ideal.τ).loc Cert.Dilated1Ideal.main_v56) = v0 c
          ∧ r.2.mem ((c.tc : Thread Cert.Dilated1Ideal.nD Cert.Dilated1Ideal.τ).loc Cert.Dilated1Ideal.main_v57) = v1 c
          ∧ r.2.mem ((c.tc : Thread Cert.Dilated1Ideal.nD Cert.Dilated1Ideal.τ).loc Cert.Dilated1Ideal.main_arg0) = m' ((c.tc : Thread Cert.Dilated1Ideal.nD Cert.Dilated1Ideal.τ).loc Cert.Dilated1Ideal.main_arg0))

def preserves_Attn4_Attn4Ideal : Prop :=
  IdealRules.named_const.Statement Cert.Attn4Ideal.κ "mask" .f32 0xFF7F0000#32 ⊥

def algebraic_Attn4Ideal_Dilated4Ideal_pre_finite_queries_and_keys [hAttn4Ideal : Cert.Attn4Ideal.Facts] [hDilated4Ideal : Cert.Dilated4Ideal.Facts] [hPre_finite_queries_and_keys : Cert.Pre_finite_queries_and_keys.Facts] : Prop :=
  ∀ (m : (ℓ : Loc Cert.Attn4Ideal.nD Cert.Attn4Ideal.τ Cert.Attn4Ideal.sig) → Buf (Elt Ideal) ℓ) (g : Dev Cert.Attn4Ideal.nD → PrngReg)
    (m' : (ℓ : Loc Cert.Dilated4Ideal.nD Cert.Dilated4Ideal.τ Cert.Dilated4Ideal.sig) → Buf (Elt Ideal) ℓ) (g' : Dev Cert.Dilated4Ideal.nD → PrngReg), Pre_Attn4Ideal_finite_queries_and_keys m →
    (∀ c : Dev Cert.Attn4Ideal.nD,
      m' ((c.tc : Thread Cert.Dilated4Ideal.nD Cert.Dilated4Ideal.τ).loc Cert.Dilated4Ideal.main_arg0) = m ((c.tc : Thread Cert.Attn4Ideal.nD Cert.Attn4Ideal.τ).loc Cert.Attn4Ideal.main_arg0)) →
    ∃ (v0 : (c : Dev Cert.Attn4Ideal.nD) → Buf (Elt Ideal) ((c.tc : Thread Cert.Attn4Ideal.nD Cert.Attn4Ideal.τ).loc Cert.Attn4Ideal.main_v1_0)) (v1 : (c : Dev Cert.Attn4Ideal.nD) → Buf (Elt Ideal) ((c.tc : Thread Cert.Attn4Ideal.nD Cert.Attn4Ideal.τ).loc Cert.Attn4Ideal.main_v1_1)),
      θ_run (Cert.Attn4Ideal.defs (F := Ideal)) (onTc (τ := Cert.Attn4Ideal.τ) (Cert.Attn4Ideal.main (F := Ideal))) ⟨m, fun _ => 0, g⟩ (fun r => ∀ c : Dev Cert.Attn4Ideal.nD,
          r.2.mem ((c.tc : Thread Cert.Attn4Ideal.nD Cert.Attn4Ideal.τ).loc Cert.Attn4Ideal.main_v1_0) = v0 c
          ∧ r.2.mem ((c.tc : Thread Cert.Attn4Ideal.nD Cert.Attn4Ideal.τ).loc Cert.Attn4Ideal.main_v1_1) = v1 c
          ∧ r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0))
      ∧ θ_run (Cert.Dilated4Ideal.defs (F := Ideal)) (onTc (τ := Cert.Dilated4Ideal.τ) (Cert.Dilated4Ideal.main (F := Ideal))) ⟨m', fun _ => 0, g'⟩ (fun r => ∀ c : Dev Cert.Dilated4Ideal.nD,
          r.2.mem ((c.tc : Thread Cert.Dilated4Ideal.nD Cert.Dilated4Ideal.τ).loc Cert.Dilated4Ideal.main_v56) = v0 c
          ∧ r.2.mem ((c.tc : Thread Cert.Dilated4Ideal.nD Cert.Dilated4Ideal.τ).loc Cert.Dilated4Ideal.main_v57) = v1 c
          ∧ r.2.mem ((c.tc : Thread Cert.Dilated4Ideal.nD Cert.Dilated4Ideal.τ).loc Cert.Dilated4Ideal.main_arg0) = m' ((c.tc : Thread Cert.Dilated4Ideal.nD Cert.Dilated4Ideal.τ).loc Cert.Dilated4Ideal.main_arg0))

def preserves_Attn16_Attn16Ideal : Prop :=
  IdealRules.named_const.Statement Cert.Attn16Ideal.κ "mask" .f32 0xFF7F0000#32 ⊥

def algebraic_Attn16Ideal_Dilated16Ideal_pre_finite_queries_and_keys [hAttn16Ideal : Cert.Attn16Ideal.Facts] [hDilated16Ideal : Cert.Dilated16Ideal.Facts] [hPre_finite_queries_and_keys : Cert.Pre_finite_queries_and_keys.Facts] : Prop :=
  ∀ (m : (ℓ : Loc Cert.Attn16Ideal.nD Cert.Attn16Ideal.τ Cert.Attn16Ideal.sig) → Buf (Elt Ideal) ℓ) (g : Dev Cert.Attn16Ideal.nD → PrngReg)
    (m' : (ℓ : Loc Cert.Dilated16Ideal.nD Cert.Dilated16Ideal.τ Cert.Dilated16Ideal.sig) → Buf (Elt Ideal) ℓ) (g' : Dev Cert.Dilated16Ideal.nD → PrngReg), Pre_Attn16Ideal_finite_queries_and_keys m →
    (∀ c : Dev Cert.Attn16Ideal.nD,
      m' ((c.tc : Thread Cert.Dilated16Ideal.nD Cert.Dilated16Ideal.τ).loc Cert.Dilated16Ideal.main_arg0) = m ((c.tc : Thread Cert.Attn16Ideal.nD Cert.Attn16Ideal.τ).loc Cert.Attn16Ideal.main_arg0)) →
    ∃ (v0 : (c : Dev Cert.Attn16Ideal.nD) → Buf (Elt Ideal) ((c.tc : Thread Cert.Attn16Ideal.nD Cert.Attn16Ideal.τ).loc Cert.Attn16Ideal.main_v1_0)) (v1 : (c : Dev Cert.Attn16Ideal.nD) → Buf (Elt Ideal) ((c.tc : Thread Cert.Attn16Ideal.nD Cert.Attn16Ideal.τ).loc Cert.Attn16Ideal.main_v1_1)),
      θ_run (Cert.Attn16Ideal.defs (F := Ideal)) (onTc (τ := Cert.Attn16Ideal.τ) (Cert.Attn16Ideal.main (F := Ideal))) ⟨m, fun _ => 0, g⟩ (fun r => ∀ c : Dev Cert.Attn16Ideal.nD,
          r.2.mem ((c.tc : Thread Cert.Attn16Ideal.nD Cert.Attn16Ideal.τ).loc Cert.Attn16Ideal.main_v1_0) = v0 c
          ∧ r.2.mem ((c.tc : Thread Cert.Attn16Ideal.nD Cert.Attn16Ideal.τ).loc Cert.Attn16Ideal.main_v1_1) = v1 c
          ∧ r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0))
      ∧ θ_run (Cert.Dilated16Ideal.defs (F := Ideal)) (onTc (τ := Cert.Dilated16Ideal.τ) (Cert.Dilated16Ideal.main (F := Ideal))) ⟨m', fun _ => 0, g'⟩ (fun r => ∀ c : Dev Cert.Dilated16Ideal.nD,
          r.2.mem ((c.tc : Thread Cert.Dilated16Ideal.nD Cert.Dilated16Ideal.τ).loc Cert.Dilated16Ideal.main_v56) = v0 c
          ∧ r.2.mem ((c.tc : Thread Cert.Dilated16Ideal.nD Cert.Dilated16Ideal.τ).loc Cert.Dilated16Ideal.main_v57) = v1 c
          ∧ r.2.mem ((c.tc : Thread Cert.Dilated16Ideal.nD Cert.Dilated16Ideal.τ).loc Cert.Dilated16Ideal.main_arg0) = m' ((c.tc : Thread Cert.Dilated16Ideal.nD Cert.Dilated16Ideal.τ).loc Cert.Dilated16Ideal.main_arg0))

def Claim : Prop :=
  ∃ (hProject : Cert.Project.Facts) (hProjectIdeal : Cert.ProjectIdeal.Facts) (hProjectedIdeal : Cert.ProjectedIdeal.Facts) (hMix : Cert.Mix.Facts) (hMixIdeal : Cert.MixIdeal.Facts) (hMixedIdeal : Cert.MixedIdeal.Facts) (hSampleProject : Cert.SampleProject.Facts) (hSampleProjectIdeal : Cert.SampleProjectIdeal.Facts) (hSampleProjectedIdeal : Cert.SampleProjectedIdeal.Facts) (hSampleMix : Cert.SampleMix.Facts) (hSampleMixIdeal : Cert.SampleMixIdeal.Facts) (hSampleMixedIdeal : Cert.SampleMixedIdeal.Facts) (hDense : Cert.Dense.Facts) (hDenseIdeal : Cert.DenseIdeal.Facts) (hExpertsIdeal : Cert.ExpertsIdeal.Facts) (hSampleDense : Cert.SampleDense.Facts) (hSampleDenseIdeal : Cert.SampleDenseIdeal.Facts) (hSampleExpertsIdeal : Cert.SampleExpertsIdeal.Facts) (hAttn1 : Cert.Attn1.Facts) (hAttn1Ideal : Cert.Attn1Ideal.Facts) (hDilated1Ideal : Cert.Dilated1Ideal.Facts) (hAttn4 : Cert.Attn4.Facts) (hAttn4Ideal : Cert.Attn4Ideal.Facts) (hDilated4Ideal : Cert.Dilated4Ideal.Facts) (hAttn16 : Cert.Attn16.Facts) (hAttn16Ideal : Cert.Attn16Ideal.Facts) (hDilated16Ideal : Cert.Dilated16Ideal.Facts) (hPre_finite_queries_and_keys : Cert.Pre_finite_queries_and_keys.Facts),
    quiescent_Project (hProject := hProject)
    ∧ quiescent_ProjectIdeal (hProjectIdeal := hProjectIdeal)
    ∧ quiescent_ProjectedIdeal (hProjectedIdeal := hProjectedIdeal)
    ∧ quiescent_Mix (hMix := hMix)
    ∧ quiescent_MixIdeal (hMixIdeal := hMixIdeal)
    ∧ quiescent_MixedIdeal (hMixedIdeal := hMixedIdeal)
    ∧ quiescent_SampleProject (hSampleProject := hSampleProject)
    ∧ quiescent_SampleProjectIdeal (hSampleProjectIdeal := hSampleProjectIdeal)
    ∧ quiescent_SampleProjectedIdeal (hSampleProjectedIdeal := hSampleProjectedIdeal)
    ∧ quiescent_SampleMix (hSampleMix := hSampleMix)
    ∧ quiescent_SampleMixIdeal (hSampleMixIdeal := hSampleMixIdeal)
    ∧ quiescent_SampleMixedIdeal (hSampleMixedIdeal := hSampleMixedIdeal)
    ∧ quiescent_Dense (hDense := hDense)
    ∧ quiescent_DenseIdeal (hDenseIdeal := hDenseIdeal)
    ∧ quiescent_ExpertsIdeal (hExpertsIdeal := hExpertsIdeal)
    ∧ quiescent_SampleDense (hSampleDense := hSampleDense)
    ∧ quiescent_SampleDenseIdeal (hSampleDenseIdeal := hSampleDenseIdeal)
    ∧ quiescent_SampleExpertsIdeal (hSampleExpertsIdeal := hSampleExpertsIdeal)
    ∧ quiescent_Attn1 (hAttn1 := hAttn1)
    ∧ quiescent_Attn1Ideal (hAttn1Ideal := hAttn1Ideal)
    ∧ quiescent_Attn1Ideal_pre_finite_queries_and_keys (hAttn1Ideal := hAttn1Ideal) (hPre_finite_queries_and_keys := hPre_finite_queries_and_keys)
    ∧ quiescent_Dilated1Ideal (hDilated1Ideal := hDilated1Ideal)
    ∧ quiescent_Dilated1Ideal_pre_finite_queries_and_keys (hDilated1Ideal := hDilated1Ideal) (hPre_finite_queries_and_keys := hPre_finite_queries_and_keys)
    ∧ quiescent_Attn4 (hAttn4 := hAttn4)
    ∧ quiescent_Attn4Ideal (hAttn4Ideal := hAttn4Ideal)
    ∧ quiescent_Attn4Ideal_pre_finite_queries_and_keys (hAttn4Ideal := hAttn4Ideal) (hPre_finite_queries_and_keys := hPre_finite_queries_and_keys)
    ∧ quiescent_Dilated4Ideal (hDilated4Ideal := hDilated4Ideal)
    ∧ quiescent_Dilated4Ideal_pre_finite_queries_and_keys (hDilated4Ideal := hDilated4Ideal) (hPre_finite_queries_and_keys := hPre_finite_queries_and_keys)
    ∧ quiescent_Attn16 (hAttn16 := hAttn16)
    ∧ quiescent_Attn16Ideal (hAttn16Ideal := hAttn16Ideal)
    ∧ quiescent_Attn16Ideal_pre_finite_queries_and_keys (hAttn16Ideal := hAttn16Ideal) (hPre_finite_queries_and_keys := hPre_finite_queries_and_keys)
    ∧ quiescent_Dilated16Ideal (hDilated16Ideal := hDilated16Ideal)
    ∧ quiescent_Dilated16Ideal_pre_finite_queries_and_keys (hDilated16Ideal := hDilated16Ideal) (hPre_finite_queries_and_keys := hPre_finite_queries_and_keys)
    ∧ preserves_Project_ProjectIdeal
    ∧ algebraic_ProjectIdeal_ProjectedIdeal (hProjectIdeal := hProjectIdeal) (hProjectedIdeal := hProjectedIdeal)
    ∧ preserves_Mix_MixIdeal
    ∧ algebraic_MixIdeal_MixedIdeal (hMixIdeal := hMixIdeal) (hMixedIdeal := hMixedIdeal)
    ∧ preserves_SampleProject_SampleProjectIdeal
    ∧ algebraic_SampleProjectIdeal_SampleProjectedIdeal (hSampleProjectIdeal := hSampleProjectIdeal) (hSampleProjectedIdeal := hSampleProjectedIdeal)
    ∧ preserves_SampleMix_SampleMixIdeal
    ∧ algebraic_SampleMixIdeal_SampleMixedIdeal (hSampleMixIdeal := hSampleMixIdeal) (hSampleMixedIdeal := hSampleMixedIdeal)
    ∧ preserves_Dense_DenseIdeal
    ∧ algebraic_DenseIdeal_ExpertsIdeal (hDenseIdeal := hDenseIdeal) (hExpertsIdeal := hExpertsIdeal)
    ∧ preserves_SampleDense_SampleDenseIdeal
    ∧ algebraic_SampleDenseIdeal_SampleExpertsIdeal (hSampleDenseIdeal := hSampleDenseIdeal) (hSampleExpertsIdeal := hSampleExpertsIdeal)
    ∧ preserves_Attn1_Attn1Ideal
    ∧ algebraic_Attn1Ideal_Dilated1Ideal_pre_finite_queries_and_keys (hAttn1Ideal := hAttn1Ideal) (hDilated1Ideal := hDilated1Ideal) (hPre_finite_queries_and_keys := hPre_finite_queries_and_keys)
    ∧ preserves_Attn4_Attn4Ideal
    ∧ algebraic_Attn4Ideal_Dilated4Ideal_pre_finite_queries_and_keys (hAttn4Ideal := hAttn4Ideal) (hDilated4Ideal := hDilated4Ideal) (hPre_finite_queries_and_keys := hPre_finite_queries_and_keys)
    ∧ preserves_Attn16_Attn16Ideal
    ∧ algebraic_Attn16Ideal_Dilated16Ideal_pre_finite_queries_and_keys (hAttn16Ideal := hAttn16Ideal) (hDilated16Ideal := hDilated16Ideal) (hPre_finite_queries_and_keys := hPre_finite_queries_and_keys)
-- ==== Pre_finite_queries_and_keys.lean ====
abbrev S16384x8704 : Shape := ⟨2, ![16384, 8704]⟩
abbrev S16384x3072 : Shape := ⟨2, ![16384, 3072]⟩
abbrev S_ : Shape := ⟨0, ![]⟩

class Facts : Prop where
  slices_S16384x8704_S16384x3072_0_2048 : S16384x8704.Slices ![0, 2048] S16384x3072
  bcast_S_S16384x3072 : S_.BroadcastsInDim S16384x3072 (![] : Fin 0 → Fin S16384x3072.rank)

variable [Facts]

def fn {F : FTy → Type} [FloatOps F] (main_arg0 : FVec F S16384x8704 .f32) : IVec S16384x3072 1 :=
  let main_v0 : FVec F S16384x3072 .f32 := (extractStridedSlice S16384x3072 ![0, 2048] · slices_S16384x8704_S16384x3072_0_2048) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  main_v3
-- ==== Project.lean ====
abbrev S16384x1024 : Shape := ⟨2, ![16384, 1024]⟩
abbrev S1024 : Shape := ⟨1, ![1024]⟩
abbrev S1024x8704 : Shape := ⟨2, ![1024, 8704]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S1x1024 : Shape := ⟨2, ![1, 1024]⟩
abbrev S16384x8704 : Shape := ⟨2, ![16384, 8704]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 34
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S4096, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S4096x32, .f32⟩
  | .hbm, ⟨24, _⟩ => ⟨S4096x64, .f32⟩
  | .hbm, ⟨25, _⟩ => ⟨S1x4096x1x64, .f32⟩
  | .hbm, ⟨26, _⟩ => ⟨S1x4096x8x64, .f32⟩
  | .hbm, ⟨27, _⟩ => ⟨S4096x512, .f32⟩
  | .hbm, ⟨28, _⟩ => ⟨S1x4096x1x64, .f32⟩
  | .hbm, ⟨29, _⟩ => ⟨S1x4096x8x64, .f32⟩
  | .hbm, ⟨30, _⟩ => ⟨S4096x512, .f32⟩
  | .hbm, ⟨31, _⟩ => ⟨S1x1024, .f32⟩
  | .hbm, ⟨32, _⟩ => ⟨S1024x8704, .bf16⟩
  | .hbm, ⟨33, _⟩ => ⟨S16384x8704, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 17], ![false, false]⟩

def k0_cond2 (i : grid0.Coords) : BitVec 1 :=
  let arg1 : BitVec 32 := BitVec.ofNat 32 (i 1).val
  let c4_i32 : BitVec 32 := 4#32
  let v7 : BitVec 1 := Scalar.cmpi .sge arg1 c4_i32
  let c10_i32 : BitVec 32 := 10#32
  let v8 : BitVec 1 := Scalar.cmpi .slt arg1 c10_i32
  let v9 : BitVec 1 := Scalar.andi v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c4_i32 : BitVec 32 := 4#32
  let v7 : BitVec 1 := Scalar.cmpi .sge arg1 c4_i32
  let c10_i32 : BitVec 32 := 10#32
  let v8 : BitVec 1 := Scalar.cmpi .slt arg1 c10_i32
  let v9 : BitVec 1 := Scalar.andi v7 v8
  let v_true : BitVec 1 := 1#1
  let v12 : BitVec 1 := Scalar.xori v9 v_true
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjectedIdeal.lean ====
abbrev S16384x1024 : Shape := ⟨2, ![16384, 1024]⟩
abbrev S1024 : Shape := ⟨1, ![1024]⟩
abbrev S1024x8704 : Shape := ⟨2, ![1024, 8704]⟩
abbrev S4096 : Shape := ⟨1, ![4096]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8704 : Shape := ⟨3, ![4, 4096, 8704]⟩
abbrev S4x4096x4608 : Shape := ⟨3, ![4, 4096, 4608]⟩
abbrev S4x4096x3x3x8x64 : Shape := ⟨6, ![4, 4096, 3, 3, 8, 64]⟩
abbrev S4x4096x1x3x8x64 : Shape := ⟨6, ![4, 4096, 1, 3, 8, 64]⟩
abbrev S4x4096x3x8x64 : Shape := ⟨5, ![4, 4096, 3, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x1x32 : Shape := ⟨5, ![1, 4096, 1, 1, 32]⟩
abbrev S4x4096x3x8x32 : Shape := ⟨5, ![4, 4096, 3, 8, 32]⟩
abbrev S4x4096x2048 : Shape := ⟨3, ![4, 4096, 2048]⟩
abbrev S4x4096x1536 : Shape := ⟨3, ![4, 4096, 1536]⟩
abbrev S16384x8704 : Shape := ⟨2, ![16384, 8704]⟩

abbrev nBuf : Space → Nat
  | .hbm => 103
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S4096, .i32⟩
  | .hbm, ⟨4, _⟩ => ⟨S4x4096x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x8704, .f32⟩
  | .hbm, ⟨22, _⟩ => ⟨S4x4096x4608, .f32⟩
  | .hbm, ⟨23, _⟩ => ⟨S4x4096x3x3x8x64, .f32⟩
  | .hbm, ⟨24, _⟩ => ⟨S4x4096x1x3x8x64, .f32⟩
  | .hbm, ⟨25, _⟩ => ⟨S4x4096x3x8x64, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S4096, .f32⟩
  | .hbm, ⟨37, _⟩ => ⟨S4096x1, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S1x4096x1x1x32, .f32⟩
  | .hbm, ⟨44, _⟩ => ⟨S4096x32, .f32⟩
  | .hbm, ⟨45, _⟩ => ⟨S1x4096x1x1x32, .f32⟩
  | .hbm, ⟨46, _⟩ => ⟨S4x4096x3x8x32, .f32⟩
  | .hbm, ⟨47, _⟩ => ⟨S4x4096x3x8x32, .f32⟩
  | .hbm, ⟨48, _⟩ => ⟨S4x4096x3x8x32, .f32⟩
  | .hbm, ⟨49, _⟩ => ⟨S4x4096x3x8x32, .f32⟩
  | .hbm, ⟨50, _⟩ => ⟨S4x4096x3x8x32, .f32⟩
  | .hbm, ⟨51, _⟩ => ⟨S4x4096x3x8x32, .f32⟩
  | .hbm, ⟨52, _⟩ => ⟨S4x4096x3x8x32, .f32⟩
  | .hbm, ⟨53, _⟩ => ⟨S4x4096x3x8x32, .f32⟩
  | .hbm, ⟨54, _⟩ => ⟨S4x4096x3x8x32, .f32⟩
  | .hbm, ⟨55, _⟩ => ⟨S4x4096x3x8x32, .f32⟩
  | .hbm, ⟨56, _⟩ => ⟨S4x4096x3x8x32, .f32⟩
  | .hbm, ⟨57, _⟩ => ⟨S4x4096x3x8x32, .f32⟩
  | .hbm, ⟨58, _⟩ => ⟨S4x4096x3x8x64, .f32⟩
  | .hbm, ⟨59, _⟩ => ⟨S4x4096x1x3x8x64, .f32⟩
  | .hbm, ⟨60, _⟩ => ⟨S4x4096x3x8x64, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S4096, .f32⟩
  | .hbm, ⟨72, _⟩ => ⟨S4096x1, .f32⟩
  | .hbm, ⟨73, _⟩ => ⟨S1x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S1x4096x1x1x32, .f32⟩
  | .hbm, ⟨79, _⟩ => ⟨S4096x32, .f32⟩
  | .hbm, ⟨80, _⟩ => ⟨S1x4096x1x1x32, .f32⟩
  | .hbm, ⟨81, _⟩ => ⟨S4x4096x3x8x32, .f32⟩
  | .hbm, ⟨82, _⟩ => ⟨S4x4096x3x8x32, .f32⟩
  | .hbm, ⟨83, _⟩ => ⟨S4x4096x3x8x32, .f32⟩
  | .hbm, ⟨84, _⟩ => ⟨S4x4096x3x8x32, .f32⟩
  | .hbm, ⟨85, _⟩ => ⟨S4x4096x3x8x32, .f32⟩
  | .hbm, ⟨86, _⟩ => ⟨S4x4096x3x8x32, .f32⟩
  | .hbm, ⟨87, _⟩ => ⟨S4x4096x3x8x32, .f32⟩
  | .hbm, ⟨88, _⟩ => ⟨S4x4096x3x8x32, .f32⟩
  | .hbm, ⟨89, _⟩ => ⟨S4x4096x3x8x32, .f32⟩
  | .hbm, ⟨90, _⟩ => ⟨S4x4096x3x8x32, .f32⟩
  | .hbm, ⟨91, _⟩ => ⟨S4x4096x3x8x32, .f32⟩
  | .hbm, ⟨92, _⟩ => ⟨S4x4096x3x8x32, .f32⟩
  | .hbm, ⟨93, _⟩ => ⟨S4x4096x3x8x64, .f32⟩
  | .hbm, ⟨94, _⟩ => ⟨S4x4096x1x3x8x64, .f32⟩
  | .hbm, ⟨95, _⟩ => ⟨S4x4096x3x8x64, .f32⟩
  | .hbm, ⟨96, _⟩ => ⟨S4x4096x2048, .f32⟩
  | .hbm, ⟨97, _⟩ => ⟨S4x4096x1536, .f32⟩
  | .hbm, ⟨98, _⟩ => ⟨S4x4096x1536, .f32⟩
  | .hbm, ⟨99, _⟩ => ⟨S4x4096x1536, .f32⟩
  | .hbm, ⟨100, _⟩ => ⟨S4x4096x2048, .f32⟩
  | .hbm, ⟨101, _⟩ => ⟨S4x4096x8704, .f32⟩
  | .hbm, ⟨102, _⟩ => ⟨S16384x8704, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩

abbrev nD : Nat := 1
abbrev τ : Topo := Topo.v7x

variable {F : FTy → Type} [FloatOps F]
-- ==== Mix.lean ====
abbrev S16384x8704 : Shape := ⟨2, ![16384, 8704]⟩
abbrev S16384x512 : Shape := ⟨2, ![16384, 512]⟩
abbrev S16384x1024 : Shape := ⟨2, ![16384, 1024]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S512x1024 : Shape := ⟨2, ![512, 1024]⟩
abbrev S1x1024 : Shape := ⟨2, ![1, 1024]⟩
abbrev S128x8 : Shape := ⟨2, ![128, 8]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x1024 : Shape := ⟨2, ![128, 1024]⟩

abbrev nBuf : Space → Nat
  | .hbm => 23
  | .vmem => 37
  | .smem => 0
  | _ => 0

abbrev bufTy : (tb : Table) → Fin (tcTables nBuf tb) → BufTy
  | .hbm, ⟨0, _⟩ => ⟨S16384x8704, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S8x128x128, .f32⟩
  | .hbm, ⟨11, _⟩ => ⟨S8x128, .f32⟩
  | .hbm, ⟨12, _⟩ => ⟨S1024x1024, .f32⟩
  | .hbm, ⟨13, _⟩ => ⟨S512x1024, .f32⟩
  | .hbm, ⟨14, _⟩ => ⟨S1024x1024, .f32⟩
  | .hbm, ⟨15, _⟩ => ⟨S1x1024, .f32⟩
  | .hbm, ⟨16, _⟩ => ⟨S1x1024, .f32⟩
  | .hbm, ⟨17, _⟩ => ⟨S128x8, .f32⟩
  | .hbm, ⟨18, _⟩ => ⟨S1024x1024, .bf16⟩
  | .hbm, ⟨19, _⟩ => ⟨S512x1024, .bf16⟩
  | .hbm, ⟨20, _⟩ => ⟨S1024x1024, .bf16⟩
  | .hbm, ⟨21, _⟩ => ⟨S16384x1024, .f32⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S1x1024, .f32⟩
  | .local _ .vmem, ⟨28, _⟩ => ⟨S8x128x128, .f32⟩
  | .local _ .vmem, ⟨29, _⟩ => ⟨S128x8, .f32⟩
  | .local _ .vmem, ⟨30, _⟩ => ⟨S1024x1024, .bf16⟩
  | .local _ .vmem, ⟨31, _⟩ => ⟨S512x1024, .bf16⟩
  | .local _ .vmem, ⟨32, _⟩ => ⟨S1024x1024, .bf16⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | _, _ => ⟨S16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MixedIdeal.lean ====
abbrev S16384x8704 : Shape := ⟨2, ![16384, 8704]⟩
abbrev S16384x512 : Shape := ⟨2, ![16384, 512]⟩
abbrev S16384x1024 : Shape := ⟨2, ![16384, 1024]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S512x1024 : Shape := ⟨2, ![512, 1024]⟩
abbrev S4x4096x8704 : Shape := ⟨3, ![4, 4096, 8704]⟩
abbrev S4x4096x1024 : Shape := ⟨3, ![4, 4096, 1024]⟩
abbrev S1x16384x512 : Shape := ⟨3, ![1, 16384, 512]⟩
abbrev S3x16384x512 : Shape := ⟨3, ![3, 16384, 512]⟩
abbrev S_ : Shape := ⟨0, ![]⟩
abbrev S4x4096x512 : Shape := ⟨3, ![4, 4096, 512]⟩
abbrev S4x4096 : Shape := ⟨2, ![4, 4096]⟩
abbrev S4x4096x1 : Shape := ⟨3, ![4, 4096, 1]⟩
abbrev S1x1x1024 : Shape := ⟨3, ![1, 1, 1024]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩

abbrev nBuf : Space → Nat
  | .hbm => 156
  | .vmem => 0
  | .smem => 0
  | _ => 0

abbrev hbmTy0_0 (i : Nat) : BufTy := match i % 128 with
  | 0 => ⟨S16384x8704, .f32⟩
  | 1 => ⟨S16384x512, .f32⟩
  | 2 => ⟨S16384x512, .f32⟩
  | 3 => ⟨S16384x512, .f32⟩
  | 4 => ⟨S16384x512, .f32⟩
  | 5 => ⟨S16384x512, .f32⟩
  | 6 => ⟨S16384x512, .f32⟩
  | 7 => ⟨S16384x1024, .f32⟩
  | 8 => ⟨S1024, .f32⟩
  | 9 => ⟨S1024, .f32⟩
  | 10 => ⟨S8x128x128, .f32⟩
  | 11 => ⟨S8x128, .f32⟩
  | 12 => ⟨S1024x1024, .f32⟩
  | 13 => ⟨S512x1024, .f32⟩
  | 14 => ⟨S1024x1024, .f32⟩
  | 15 => ⟨S4x4096x8704, .f32⟩
  | 16 => ⟨S4x4096x1024, .f32⟩
  | 17 => ⟨S4x4096x1024, .f32⟩
  | 18 => ⟨S4x4096x1024, .f32⟩
  | 19 => ⟨S4x4096x1024, .f32⟩
  | 20 => ⟨S1x16384x512, .f32⟩
  | 21 => ⟨S1x16384x512, .f32⟩
  | 22 => ⟨S1x16384x512, .f32⟩
  | 23 => ⟨S3x16384x512, .f32⟩
  | 24 => ⟨S_, .f32⟩
  | 25 => ⟨S16384x512, .f32⟩
  | 26 => ⟨S_, .f32⟩
  | 27 => ⟨S16384x512, .f32⟩
  | 28 => ⟨S16384x512, .f32⟩
  | 29 => ⟨S1x16384x512, .f32⟩
  | 30 => ⟨S3x16384x512, .f32⟩
  | 31 => ⟨S3x16384x512, .f32⟩
  | 32 => ⟨S3x16384x512, .f32⟩
  | 33 => ⟨S_, .f32⟩
  | 34 => ⟨S16384x512, .f32⟩
  | 35 => ⟨S1x16384x512, .f32⟩
  | 36 => ⟨S3x16384x512, .f32⟩
  | 37 => ⟨S3x16384x512, .f32⟩
  | 38 => ⟨S1x16384x512, .f32⟩
  | 39 => ⟨S1x16384x512, .f32⟩
  | 40 => ⟨S1x16384x512, .f32⟩
  | 41 => ⟨S3x16384x512, .f32⟩
  | 42 => ⟨S3x16384x512, .f32⟩
  | 43 => ⟨S_, .f32⟩
  | 44 => ⟨S16384x512, .f32⟩
  | 45 => ⟨S4x4096x512, .f32⟩
  | 46 => ⟨S4x4096x1024, .f32⟩
  | 47 => ⟨S4x4096x1024, .f32⟩
  | 48 => ⟨S_, .f32⟩
  | 49 => ⟨S4x4096x1024, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S4x4096x1024, .f32⟩
  | 56 => ⟨S_, .f32⟩
  | 57 => ⟨S4x4096x1024, .f32⟩
  | 58 => ⟨S4x4096x1024, .f32⟩
  | 59 => ⟨S_, .f32⟩
  | 60 => ⟨S4x4096x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S_, .f32⟩
  | 66 => ⟨S4x4096x1024, .f32⟩
  | 67 => ⟨S4x4096x1024, .f32⟩
  | 68 => ⟨S4x4096x1024, .f32⟩
  | 69 => ⟨S_, .f32⟩
  | 70 => ⟨S4x4096x1024, .f32⟩
  | 71 => ⟨S4x4096x1024, .f32⟩
  | 72 => ⟨S4x4096x1024, .f32⟩
  | 73 => ⟨S_, .f32⟩
  | 74 => ⟨S4x4096x1024, .f32⟩
  | 75 => ⟨S4x4096x1024, .f32⟩
  | 76 => ⟨S_, .f32⟩
  | 77 => ⟨S4x4096x1024, .f32⟩
  | 78 => ⟨S4x4096x1024, .f32⟩
  | 79 => ⟨S4x4096x1024, .f32⟩
  | 80 => ⟨S_, .f32⟩
  | 81 => ⟨S4x4096, .f32⟩
  | 82 => ⟨S4x4096x1, .f32⟩
  | 83 => ⟨S_, .f32⟩
  | 84 => ⟨S4x4096x1, .f32⟩
  | 85 => ⟨S4x4096x1, .f32⟩
  | 86 => ⟨S4x4096x1024, .f32⟩
  | 87 => ⟨S4x4096x1024, .f32⟩
  | 88 => ⟨S4x4096x1024, .f32⟩
  | 89 => ⟨S_, .f32⟩
  | 90 => ⟨S4x4096, .f32⟩
  | 91 => ⟨S4x4096x1, .f32⟩
  | 92 => ⟨S_, .f32⟩
  | 93 => ⟨S4x4096x1, .f32⟩
  | 94 => ⟨S4x4096x1, .f32⟩
  | 95 => ⟨S_, .f32⟩
  | 96 => ⟨S4x4096x1, .f32⟩
  | 97 => ⟨S4x4096x1, .f32⟩
  | 98 => ⟨S4x4096x1, .f32⟩
  | 99 => ⟨S4x4096x1024, .f32⟩
  | 100 => ⟨S4x4096x1024, .f32⟩
  | 101 => ⟨S1x1x1024, .f32⟩
  | 102 => ⟨S4x4096x1024, .f32⟩
  | 103 => ⟨S4x4096x1024, .f32⟩
  | 104 => ⟨S1x1x1024, .f32⟩
  | 105 => ⟨S4x4096x1024, .f32⟩
  | 106 => ⟨S4x4096x1024, .f32⟩
  | 107 => ⟨S4x32x128x8x128, .f32⟩
  | 108 => ⟨S_, .f32⟩
  | 109 => ⟨S128x128, .f32⟩
  | 110 => ⟨S128x128, .i32⟩
  | 111 => ⟨S_, .i32⟩
  | 112 => ⟨S128x128, .i32⟩
  | 113 => ⟨S128x128, .i32⟩
  | 114 => ⟨S128x128, .i32⟩
  | 115 => ⟨S128x128, .i1⟩
  | 116 => ⟨S_, .f32⟩
  | 117 => ⟨S128x128, .f32⟩
  | 118 => ⟨S128x128, .f32⟩
  | 119 => ⟨S1x128x128, .f32⟩
  | 120 => ⟨S8x128x128, .f32⟩
  | 121 => ⟨S8x128x128, .f32⟩
  | 122 => ⟨S8x4x32x128x128, .f32⟩
  | 123 => ⟨S4x32x128x8x128, .f32⟩
  | 124 => ⟨S128x8, .f32⟩
  | 125 => ⟨S1x1x128x8x1, .f32⟩
  | 126 => ⟨S4x32x128x8x128, .f32⟩
  | 127 => ⟨S4x32x128x8x128, .f32⟩
  | _ => ⟨S16384x8704, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S4x4096x1024, .f32⟩
  | 4 => ⟨S_, .f32⟩
  | 5 => ⟨S4x4096x1024, .f32⟩
  | 6 => ⟨S4x4096x1024, .f32⟩
  | 7 => ⟨S_, .f32⟩
  | 8 => ⟨S4x4096x1024, .f32⟩
  | 9 => ⟨S4x4096x1024, .f32⟩
  | 10 => ⟨S4x4096x1024, .f32⟩
  | 11 => ⟨S4x4096x1024, .f32⟩
  | 12 => ⟨S4x4096x1024, .f32⟩
  | 13 => ⟨S4x4096x1024, .f32⟩
  | 14 => ⟨S_, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S4x4096x1024, .f32⟩
  | 26 => ⟨S16384x1024, .f32⟩
  | 27 => ⟨S16384x1024, .f32⟩
  | _ => ⟨S16384x8704, .f32⟩

abbrev hbmTy (i : Nat) : BufTy := match i / 128 with
  | 0 => hbmTy0_0 i
  | 1 => hbmTy0_1 i
  | _ => ⟨S16384x8704, .f32⟩

abbrev bufTy : (tb : Table) → Fin (tcTables nBuf tb) → BufTy
  | .hbm, ⟨i, _⟩ => hbmTy i
  | _, _ => ⟨S16384x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_call0_v0 : Ref sig .tc := ⟨.hbm, 110, rfl⟩
abbrev main_call0_c : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_cst : Ref sig .tc := ⟨.hbm, 116, rfl⟩
abbrev main_call0_v5 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_17 : Ref sig .tc := ⟨.hbm, 132, rfl⟩
abbrev main_v91 : Ref sig .tc := ⟨.hbm, 133, rfl⟩
abbrev main_v92 : Ref sig .tc := ⟨.hbm, 134, rfl⟩
abbrev main_cst_18 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_19 : Ref sig .tc := ⟨.hbm, 142, rfl⟩
abbrev main_v99 : Ref sig .tc := ⟨.hbm, 143, rfl⟩
abbrev main_v100 : Ref sig .tc := ⟨.hbm, 144, rfl⟩
abbrev main_cst_20 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩

abbrev nD : Nat := 1
abbrev τ : Topo := Topo.v7x

variable {F : FTy → Type} [FloatOps F]
-- ==== SampleProject.lean ====
abbrev S128x1024 : Shape := ⟨2, ![128, 1024]⟩
abbrev S1024 : Shape := ⟨1, ![1024]⟩
abbrev S1024x8704 : Shape := ⟨2, ![1024, 8704]⟩
abbrev S4 : Shape := ⟨1, ![4]⟩
abbrev S1x4 : Shape := ⟨2, ![1, 4]⟩
abbrev S32x4 : Shape := ⟨2, ![32, 4]⟩
abbrev S128 : Shape := ⟨1, ![128]⟩
abbrev S_ : Shape := ⟨0, ![]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x8x64 : Shape := ⟨4, ![1, 128, 8, 64]⟩
abbrev S128x512 : Shape := ⟨2, ![128, 512]⟩
abbrev S1x1024 : Shape := ⟨2, ![1, 1024]⟩
abbrev S128x8704 : Shape := ⟨2, ![128, 8704]⟩
abbrev S1024x512 : Shape := ⟨2, ![1024, 512]⟩

abbrev nBuf : Space → Nat
  | .hbm => 40
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x8704, .f32⟩
  | .hbm, ⟨3, _⟩ => ⟨S4, .i32⟩
  | .hbm, ⟨4, _⟩ => ⟨S1x4, .i32⟩
  | .hbm, ⟨5, _⟩ => ⟨S32x4, .i32⟩
  | .hbm, ⟨6, _⟩ => ⟨S128, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S128, .f32⟩
  | .hbm, ⟨21, _⟩ => ⟨S128x1, .f32⟩
  | .hbm, ⟨22, _⟩ => ⟨S1x32, .f32⟩
  | .hbm, ⟨23, _⟩ => ⟨S128x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x64, .f32⟩
  | .hbm, ⟨29, _⟩ => ⟨S128x32, .f32⟩
  | .hbm, ⟨30, _⟩ => ⟨S128x64, .f32⟩
  | .hbm, ⟨31, _⟩ => ⟨S1x128x1x64, .f32⟩
  | .hbm, ⟨32, _⟩ => ⟨S1x128x8x64, .f32⟩
  | .hbm, ⟨33, _⟩ => ⟨S128x512, .f32⟩
  | .hbm, ⟨34, _⟩ => ⟨S1x128x1x64, .f32⟩
  | .hbm, ⟨35, _⟩ => ⟨S1x128x8x64, .f32⟩
  | .hbm, ⟨36, _⟩ => ⟨S128x512, .f32⟩
  | .hbm, ⟨37, _⟩ => ⟨S1x1024, .f32⟩
  | .hbm, ⟨38, _⟩ => ⟨S1024x8704, .bf16⟩
  | .hbm, ⟨39, _⟩ => ⟨S128x8704, .f32⟩
  | .local _ .vmem, ⟨0, _⟩ => ⟨S128x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 17], ![false, false]⟩

def k0_cond2 (i : grid0.Coords) : BitVec 1 :=
  let arg1 : BitVec 32 := BitVec.ofNat 32 (i 1).val
  let c4_i32 : BitVec 32 := 4#32
  let v7 : BitVec 1 := Scalar.cmpi .sge arg1 c4_i32
  let c10_i32 : BitVec 32 := 10#32
  let v8 : BitVec 1 := Scalar.cmpi .slt arg1 c10_i32
  let v9 : BitVec 1 := Scalar.andi v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c4_i32 : BitVec 32 := 4#32
  let v7 : BitVec 1 := Scalar.cmpi .sge arg1 c4_i32
  let c10_i32 : BitVec 32 := 10#32
  let v8 : BitVec 1 := Scalar.cmpi .slt arg1 c10_i32
  let v9 : BitVec 1 := Scalar.andi v7 v8
  let v_true : BitVec 1 := 1#1
  let v12 : BitVec 1 := Scalar.xori v9 v_true
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SampleProjectedIdeal.lean ====
abbrev S128x1024 : Shape := ⟨2, ![128, 1024]⟩
abbrev S1024 : Shape := ⟨1, ![1024]⟩
abbrev S1024x8704 : Shape := ⟨2, ![1024, 8704]⟩
abbrev S4 : Shape := ⟨1, ![4]⟩
abbrev S_ : Shape := ⟨0, ![]⟩
abbrev S32x4x1024 : Shape := ⟨3, ![32, 4, 1024]⟩
abbrev S32x4 : Shape := ⟨2, ![32, 4]⟩
abbrev S32x4x1 : Shape := ⟨3, ![32, 4, 1]⟩
abbrev S1x1x1024 : Shape := ⟨3, ![1, 1, 1024]⟩
abbrev S32x4x8704 : Shape := ⟨3, ![32, 4, 8704]⟩
abbrev S32x4x4608 : Shape := ⟨3, ![32, 4, 4608]⟩
abbrev S32x4x3x3x8x64 : Shape := ⟨6, ![32, 4, 3, 3, 8, 64]⟩
abbrev S32x4x1x3x8x64 : Shape := ⟨6, ![32, 4, 1, 3, 8, 64]⟩
abbrev S32x4x3x8x64 : Shape := ⟨5, ![32, 4, 3, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x1x32 : Shape := ⟨5, ![1, 4, 1, 1, 32]⟩
abbrev S32x4x3x8x32 : Shape := ⟨5, ![32, 4, 3, 8, 32]⟩
abbrev S32x4x2048 : Shape := ⟨3, ![32, 4, 2048]⟩
abbrev S32x4x1536 : Shape := ⟨3, ![32, 4, 1536]⟩
abbrev S128x8704 : Shape := ⟨2, ![128, 8704]⟩

abbrev nBuf : Space → Nat
  | .hbm => 106
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x8704, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S32x4x1024, .f32⟩
  | .hbm, ⟨8, _⟩ => ⟨S32x4x1024, .f32⟩
  | .hbm, ⟨9, _⟩ => ⟨S_, .f32⟩
  | .hbm, ⟨10, _⟩ => ⟨S32x4, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S32x4x1, .f32⟩
  | .hbm, ⟨19, _⟩ => ⟨S32x4x1024, .f32⟩
  | .hbm, ⟨20, _⟩ => ⟨S32x4x1024, .f32⟩
  | .hbm, ⟨21, _⟩ => ⟨S1x1x1024, .f32⟩
  | .hbm, ⟨22, _⟩ => ⟨S32x4x1024, .f32⟩
  | .hbm, ⟨23, _⟩ => ⟨S32x4x1024, .f32⟩
  | .hbm, ⟨24, _⟩ => ⟨S32x4x8704, .f32⟩
  | .hbm, ⟨25, _⟩ => ⟨S32x4x4608, .f32⟩
  | .hbm, ⟨26, _⟩ => ⟨S32x4x3x3x8x64, .f32⟩
  | .hbm, ⟨27, _⟩ => ⟨S32x4x1x3x8x64, .f32⟩
  | .hbm, ⟨28, _⟩ => ⟨S32x4x3x8x64, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4, .f32⟩
  | .hbm, ⟨40, _⟩ => ⟨S4x1, .f32⟩
  | .hbm, ⟨41, _⟩ => ⟨S1x32, .f32⟩
  | .hbm, ⟨42, _⟩ => ⟨S4x32, .f32⟩
  | .hbm, ⟨43, _⟩ => ⟨S4x32, .f32⟩
  | .hbm, ⟨44, _⟩ => ⟨S4x32, .f32⟩
  | .hbm, ⟨45, _⟩ => ⟨S4x32, .f32⟩
  | .hbm, ⟨46, _⟩ => ⟨S1x4x1x1x32, .f32⟩
  | .hbm, ⟨47, _⟩ => ⟨S4x32, .f32⟩
  | .hbm, ⟨48, _⟩ => ⟨S1x4x1x1x32, .f32⟩
  | .hbm, ⟨49, _⟩ => ⟨S32x4x3x8x32, .f32⟩
  | .hbm, ⟨50, _⟩ => ⟨S32x4x3x8x32, .f32⟩
  | .hbm, ⟨51, _⟩ => ⟨S32x4x3x8x32, .f32⟩
  | .hbm, ⟨52, _⟩ => ⟨S32x4x3x8x32, .f32⟩
  | .hbm, ⟨53, _⟩ => ⟨S32x4x3x8x32, .f32⟩
  | .hbm, ⟨54, _⟩ => ⟨S32x4x3x8x32, .f32⟩
  | .hbm, ⟨55, _⟩ => ⟨S32x4x3x8x32, .f32⟩
  | .hbm, ⟨56, _⟩ => ⟨S32x4x3x8x32, .f32⟩
  | .hbm, ⟨57, _⟩ => ⟨S32x4x3x8x32, .f32⟩
  | .hbm, ⟨58, _⟩ => ⟨S32x4x3x8x32, .f32⟩
  | .hbm, ⟨59, _⟩ => ⟨S32x4x3x8x32, .f32⟩
  | .hbm, ⟨60, _⟩ => ⟨S32x4x3x8x32, .f32⟩
  | .hbm, ⟨61, _⟩ => ⟨S32x4x3x8x64, .f32⟩
  | .hbm, ⟨62, _⟩ => ⟨S32x4x1x3x8x64, .f32⟩
  | .hbm, ⟨63, _⟩ => ⟨S32x4x3x8x64, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S4, .f32⟩
  | .hbm, ⟨75, _⟩ => ⟨S4x1, .f32⟩
  | .hbm, ⟨76, _⟩ => ⟨S1x32, .f32⟩
  | .hbm, ⟨77, _⟩ => ⟨S4x32, .f32⟩
  | .hbm, ⟨78, _⟩ => ⟨S4x32, .f32⟩
  | .hbm, ⟨79, _⟩ => ⟨S4x32, .f32⟩
  | .hbm, ⟨80, _⟩ => ⟨S4x32, .f32⟩
  | .hbm, ⟨81, _⟩ => ⟨S1x4x1x1x32, .f32⟩
  | .hbm, ⟨82, _⟩ => ⟨S4x32, .f32⟩
  | .hbm, ⟨83, _⟩ => ⟨S1x4x1x1x32, .f32⟩
  | .hbm, ⟨84, _⟩ => ⟨S32x4x3x8x32, .f32⟩
  | .hbm, ⟨85, _⟩ => ⟨S32x4x3x8x32, .f32⟩
  | .hbm, ⟨86, _⟩ => ⟨S32x4x3x8x32, .f32⟩
  | .hbm, ⟨87, _⟩ => ⟨S32x4x3x8x32, .f32⟩
  | .hbm, ⟨88, _⟩ => ⟨S32x4x3x8x32, .f32⟩
  | .hbm, ⟨89, _⟩ => ⟨S32x4x3x8x32, .f32⟩
  | .hbm, ⟨90, _⟩ => ⟨S32x4x3x8x32, .f32⟩
  | .hbm, ⟨91, _⟩ => ⟨S32x4x3x8x32, .f32⟩
  | .hbm, ⟨92, _⟩ => ⟨S32x4x3x8x32, .f32⟩
  | .hbm, ⟨93, _⟩ => ⟨S32x4x3x8x32, .f32⟩
  | .hbm, ⟨94, _⟩ => ⟨S32x4x3x8x32, .f32⟩
  | .hbm, ⟨95, _⟩ => ⟨S32x4x3x8x32, .f32⟩
  | .hbm, ⟨96, _⟩ => ⟨S32x4x3x8x64, .f32⟩
  | .hbm, ⟨97, _⟩ => ⟨S32x4x1x3x8x64, .f32⟩
  | .hbm, ⟨98, _⟩ => ⟨S32x4x3x8x64, .f32⟩
  | .hbm, ⟨99, _⟩ => ⟨S32x4x2048, .f32⟩
  | .hbm, ⟨100, _⟩ => ⟨S32x4x1536, .f32⟩
  | .hbm, ⟨101, _⟩ => ⟨S32x4x1536, .f32⟩
  | .hbm, ⟨102, _⟩ => ⟨S32x4x1536, .f32⟩
  | .hbm, ⟨103, _⟩ => ⟨S32x4x2048, .f32⟩
  | .hbm, ⟨104, _⟩ => ⟨S32x4x8704, .f32⟩
  | .hbm, ⟨105, _⟩ => ⟨S128x8704, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩

abbrev nD : Nat := 1
abbrev τ : Topo := Topo.v7x

variable {F : FTy → Type} [FloatOps F]
-- ==== SampleMix.lean ====
abbrev S128x8704 : Shape := ⟨2, ![128, 8704]⟩
abbrev S128x512 : Shape := ⟨2, ![128, 512]⟩
abbrev S128x1024 : Shape := ⟨2, ![128, 1024]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S512x1024 : Shape := ⟨2, ![512, 1024]⟩
abbrev S32x32 : Shape := ⟨2, ![32, 32]⟩
abbrev S_ : Shape := ⟨0, ![]⟩
abbrev S8x4x4 : Shape := ⟨3, ![8, 4, 4]⟩
abbrev S32x1x32x1 : Shape := ⟨4, ![32, 1, 32, 1]⟩
abbrev S8x1x4x1x4 : Shape := ⟨5, ![8, 1, 4, 1, 4]⟩
abbrev S1x32x1x32x1 : Shape := ⟨5, ![1, 32, 1, 32, 1]⟩
abbrev S8x32x4x32x4 : Shape := ⟨5, ![8, 32, 4, 32, 4]⟩
abbrev S8x4 : Shape := ⟨2, ![8, 4]⟩
abbrev S1x8x1x4 : Shape := ⟨4, ![1, 8, 1, 4]⟩
abbrev S1x8x32x4 : Shape := ⟨4, ![1, 8, 32, 4]⟩
abbrev S128x8 : Shape := ⟨2, ![128, 8]⟩
abbrev S1x1024 : Shape := ⟨2, ![1, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 42
  | .vmem => 22
  | .smem => 0
  | _ => 0

abbrev bufTy : (tb : Table) → Fin (tcTables nBuf tb) → BufTy
  | .hbm, ⟨0, _⟩ => ⟨S128x8704, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x1024, .f32⟩
  | .hbm, ⟨8, _⟩ => ⟨S1024, .f32⟩
  | .hbm, ⟨9, _⟩ => ⟨S1024, .f32⟩
  | .hbm, ⟨10, _⟩ => ⟨S8x128x128, .f32⟩
  | .hbm, ⟨11, _⟩ => ⟨S8x128, .f32⟩
  | .hbm, ⟨12, _⟩ => ⟨S1024x1024, .f32⟩
  | .hbm, ⟨13, _⟩ => ⟨S512x1024, .f32⟩
  | .hbm, ⟨14, _⟩ => ⟨S1024x1024, .f32⟩
  | .hbm, ⟨15, _⟩ => ⟨S32x32, .i32⟩
  | .hbm, ⟨16, _⟩ => ⟨S32x32, .i32⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S32x32, .i1⟩
  | .hbm, ⟨21, _⟩ => ⟨S32x32, .f32⟩
  | .hbm, ⟨22, _⟩ => ⟨S8x4x4, .f32⟩
  | .hbm, ⟨23, _⟩ => ⟨S32x1x32x1, .f32⟩
  | .hbm, ⟨24, _⟩ => ⟨S8x1x4x1x4, .f32⟩
  | .hbm, ⟨25, _⟩ => ⟨S1x32x1x32x1, .f32⟩
  | .hbm, ⟨26, _⟩ => ⟨S8x32x4x32x4, .f32⟩
  | .hbm, ⟨27, _⟩ => ⟨S8x32x4x32x4, .f32⟩
  | .hbm, ⟨28, _⟩ => ⟨S8x32x4x32x4, .f32⟩
  | .hbm, ⟨29, _⟩ => ⟨S8x128x128, .f32⟩
  | .hbm, ⟨30, _⟩ => ⟨S8x4, .f32⟩
  | .hbm, ⟨31, _⟩ => ⟨S1x8x1x4, .f32⟩
  | .hbm, ⟨32, _⟩ => ⟨S1x8x32x4, .f32⟩
  | .hbm, ⟨33, _⟩ => ⟨S8x128, .f32⟩
  | .hbm, ⟨34, _⟩ => ⟨S128x8, .f32⟩
  | .hbm, ⟨35, _⟩ => ⟨S1x1024, .f32⟩
  | .hbm, ⟨36, _⟩ => ⟨S1x1024, .f32⟩
  | .hbm, ⟨37, _⟩ => ⟨S1024x1024, .bf16⟩
  | .hbm, ⟨38, _⟩ => ⟨S512x1024, .bf16⟩
  | .hbm, ⟨39, _⟩ => ⟨S1024x1024, .bf16⟩
  | .hbm, ⟨40, _⟩ => ⟨S128x1024, .f32⟩
  | .hbm, ⟨41, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x1024, .f32⟩
  | .local _ .vmem, ⟨13, _⟩ => ⟨S1x1024, .f32⟩
  | .local _ .vmem, ⟨14, _⟩ => ⟨S1x1024, .f32⟩
  | .local _ .vmem, ⟨15, _⟩ => ⟨S8x128x128, .f32⟩
  | .local _ .vmem, ⟨16, _⟩ => ⟨S128x8, .f32⟩
  | .local _ .vmem, ⟨17, _⟩ => ⟨S1024x1024, .bf16⟩
  | .local _ .vmem, ⟨18, _⟩ => ⟨S512x1024, .bf16⟩
  | .local _ .vmem, ⟨19, _⟩ => ⟨S1024x1024, .bf16⟩
  | .local _ .vmem, ⟨20, _⟩ => ⟨S128x1024, .f32⟩
  | .local _ .vmem, ⟨21, _⟩ => ⟨S128x1024, .f32⟩
  | _, _ => ⟨S128x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]
-- ==== SampleMixedIdeal.lean ====
abbrev S128x8704 : Shape := ⟨2, ![128, 8704]⟩
abbrev S128x512 : Shape := ⟨2, ![128, 512]⟩
abbrev S128x1024 : Shape := ⟨2, ![128, 1024]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S512x1024 : Shape := ⟨2, ![512, 1024]⟩
abbrev S32x4x8704 : Shape := ⟨3, ![32, 4, 8704]⟩
abbrev S32x4x1024 : Shape := ⟨3, ![32, 4, 1024]⟩
abbrev S1x128x512 : Shape := ⟨3, ![1, 128, 512]⟩
abbrev S3x128x512 : Shape := ⟨3, ![3, 128, 512]⟩
abbrev S_ : Shape := ⟨0, ![]⟩
abbrev S32x4x512 : Shape := ⟨3, ![32, 4, 512]⟩
abbrev S32x4 : Shape := ⟨2, ![32, 4]⟩
abbrev S32x4x1 : Shape := ⟨3, ![32, 4, 1]⟩
abbrev S1x1x1024 : Shape := ⟨3, ![1, 1, 1024]⟩
abbrev S32x1x4x8x128 : Shape := ⟨5, ![32, 1, 4, 8, 128]⟩
abbrev S8x4x4 : Shape := ⟨3, ![8, 4, 4]⟩
abbrev S4x4 : Shape := ⟨2, ![4, 4]⟩
abbrev S1x4x4 : Shape := ⟨3, ![1, 4, 4]⟩
abbrev S8x32x1x128x4 : Shape := ⟨5, ![8, 32, 1, 128, 4]⟩
abbrev S8x4 : Shape := ⟨2, ![8, 4]⟩
abbrev S4x8 : Shape := ⟨2, ![4, 8]⟩
abbrev S1x1x4x8x1 : Shape := ⟨5, ![1, 1, 4, 8, 1]⟩

abbrev nBuf : Space → Nat
  | .hbm => 158
  | .vmem => 0
  | .smem => 0
  | _ => 0

abbrev hbmTy0_0 (i : Nat) : BufTy := match i % 128 with
  | 0 => ⟨S128x8704, .f32⟩
  | 1 => ⟨S128x512, .f32⟩
  | 2 => ⟨S128x512, .f32⟩
  | 3 => ⟨S128x512, .f32⟩
  | 4 => ⟨S128x512, .f32⟩
  | 5 => ⟨S128x512, .f32⟩
  | 6 => ⟨S128x512, .f32⟩
  | 7 => ⟨S128x1024, .f32⟩
  | 8 => ⟨S1024, .f32⟩
  | 9 => ⟨S1024, .f32⟩
  | 10 => ⟨S8x128x128, .f32⟩
  | 11 => ⟨S8x128, .f32⟩
  | 12 => ⟨S1024x1024, .f32⟩
  | 13 => ⟨S512x1024, .f32⟩
  | 14 => ⟨S1024x1024, .f32⟩
  | 15 => ⟨S32x4x8704, .f32⟩
  | 16 => ⟨S32x4x1024, .f32⟩
  | 17 => ⟨S32x4x1024, .f32⟩
  | 18 => ⟨S32x4x1024, .f32⟩
  | 19 => ⟨S32x4x1024, .f32⟩
  | 20 => ⟨S1x128x512, .f32⟩
  | 21 => ⟨S1x128x512, .f32⟩
  | 22 => ⟨S1x128x512, .f32⟩
  | 23 => ⟨S3x128x512, .f32⟩
  | 24 => ⟨S_, .f32⟩
  | 25 => ⟨S128x512, .f32⟩
  | 26 => ⟨S_, .f32⟩
  | 27 => ⟨S128x512, .f32⟩
  | 28 => ⟨S128x512, .f32⟩
  | 29 => ⟨S1x128x512, .f32⟩
  | 30 => ⟨S3x128x512, .f32⟩
  | 31 => ⟨S3x128x512, .f32⟩
  | 32 => ⟨S3x128x512, .f32⟩
  | 33 => ⟨S_, .f32⟩
  | 34 => ⟨S128x512, .f32⟩
  | 35 => ⟨S1x128x512, .f32⟩
  | 36 => ⟨S3x128x512, .f32⟩
  | 37 => ⟨S3x128x512, .f32⟩
  | 38 => ⟨S1x128x512, .f32⟩
  | 39 => ⟨S1x128x512, .f32⟩
  | 40 => ⟨S1x128x512, .f32⟩
  | 41 => ⟨S3x128x512, .f32⟩
  | 42 => ⟨S3x128x512, .f32⟩
  | 43 => ⟨S_, .f32⟩
  | 44 => ⟨S128x512, .f32⟩
  | 45 => ⟨S32x4x512, .f32⟩
  | 46 => ⟨S32x4x1024, .f32⟩
  | 47 => ⟨S32x4x1024, .f32⟩
  | 48 => ⟨S_, .f32⟩
  | 49 => ⟨S32x4x1024, .f32⟩
  | 50 => ⟨S32x4x1024, .f32⟩
  | 51 => ⟨S32x4x1024, .f32⟩
  | 52 => ⟨S_, .f32⟩
  | 53 => ⟨S32x4x1024, .f32⟩
  | 54 => ⟨S32x4x1024, .f32⟩
  | 55 => ⟨S32x4x1024, .f32⟩
  | 56 => ⟨S_, .f32⟩
  | 57 => ⟨S32x4x1024, .f32⟩
  | 58 => ⟨S32x4x1024, .f32⟩
  | 59 => ⟨S_, .f32⟩
  | 60 => ⟨S32x4x1024, .f32⟩
  | 61 => ⟨S32x4x1024, .f32⟩
  | 62 => ⟨S32x4x1024, .f32⟩
  | 63 => ⟨S32x4x1024, .f32⟩
  | 64 => ⟨S32x4x1024, .f32⟩
  | 65 => ⟨S_, .f32⟩
  | 66 => ⟨S32x4x1024, .f32⟩
  | 67 => ⟨S32x4x1024, .f32⟩
  | 68 => ⟨S32x4x1024, .f32⟩
  | 69 => ⟨S_, .f32⟩
  | 70 => ⟨S32x4x1024, .f32⟩
  | 71 => ⟨S32x4x1024, .f32⟩
  | 72 => ⟨S32x4x1024, .f32⟩
  | 73 => ⟨S_, .f32⟩
  | 74 => ⟨S32x4x1024, .f32⟩
  | 75 => ⟨S32x4x1024, .f32⟩
  | 76 => ⟨S_, .f32⟩
  | 77 => ⟨S32x4x1024, .f32⟩
  | 78 => ⟨S32x4x1024, .f32⟩
  | 79 => ⟨S32x4x1024, .f32⟩
  | 80 => ⟨S_, .f32⟩
  | 81 => ⟨S32x4, .f32⟩
  | 82 => ⟨S32x4x1, .f32⟩
  | 83 => ⟨S_, .f32⟩
  | 84 => ⟨S32x4x1, .f32⟩
  | 85 => ⟨S32x4x1, .f32⟩
  | 86 => ⟨S32x4x1024, .f32⟩
  | 87 => ⟨S32x4x1024, .f32⟩
  | 88 => ⟨S32x4x1024, .f32⟩
  | 89 => ⟨S_, .f32⟩
  | 90 => ⟨S32x4, .f32⟩
  | 91 => ⟨S32x4x1, .f32⟩
  | 92 => ⟨S_, .f32⟩
  | 93 => ⟨S32x4x1, .f32⟩
  | 94 => ⟨S32x4x1, .f32⟩
  | 95 => ⟨S_, .f32⟩
  | 96 => ⟨S32x4x1, .f32⟩
  | 97 => ⟨S32x4x1, .f32⟩
  | 98 => ⟨S32x4x1, .f32⟩
  | 99 => ⟨S32x4x1024, .f32⟩
  | 100 => ⟨S32x4x1024, .f32⟩
  | 101 => ⟨S1x1x1024, .f32⟩
  | 102 => ⟨S32x4x1024, .f32⟩
  | 103 => ⟨S32x4x1024, .f32⟩
  | 104 => ⟨S1x1x1024, .f32⟩
  | 105 => ⟨S32x4x1024, .f32⟩
  | 106 => ⟨S32x4x1024, .f32⟩
  | 107 => ⟨S32x1x4x8x128, .f32⟩
  | 108 => ⟨S8x4x4, .f32⟩
  | 109 => ⟨S_, .f32⟩
  | 110 => ⟨S4x4, .f32⟩
  | 111 => ⟨S4x4, .i32⟩
  | 112 => ⟨S_, .i32⟩
  | 113 => ⟨S4x4, .i32⟩
  | 114 => ⟨S4x4, .i32⟩
  | 115 => ⟨S4x4, .i32⟩
  | 116 => ⟨S4x4, .i1⟩
  | 117 => ⟨S_, .f32⟩
  | 118 => ⟨S4x4, .f32⟩
  | 119 => ⟨S4x4, .f32⟩
  | 120 => ⟨S1x4x4, .f32⟩
  | 121 => ⟨S8x4x4, .f32⟩
  | 122 => ⟨S8x4x4, .f32⟩
  | 123 => ⟨S8x32x1x128x4, .f32⟩
  | 124 => ⟨S32x1x4x8x128, .f32⟩
  | 125 => ⟨S8x4, .f32⟩
  | 126 => ⟨S4x8, .f32⟩
  | 127 => ⟨S1x1x4x8x1, .f32⟩
  | _ => ⟨S128x8704, .f32⟩

abbrev hbmTy0_1 (i : Nat) : BufTy := match i % 128 with
  | 0 => ⟨S32x1x4x8x128, .f32⟩
  | 1 => ⟨S32x1x4x8x128, .f32⟩
  | 2 => ⟨S32x4x1024, .f32⟩
  | 3 => ⟨S32x4x1024, .f32⟩
  | 4 => ⟨S32x4x1024, .f32⟩
  | 5 => ⟨S32x4x1024, .f32⟩
  | 6 => ⟨S_, .f32⟩
  | 7 => ⟨S32x4x1024, .f32⟩
  | 8 => ⟨S32x4x1024, .f32⟩
  | 9 => ⟨S_, .f32⟩
  | 10 => ⟨S32x4x1024, .f32⟩
  | 11 => ⟨S32x4x1024, .f32⟩
  | 12 => ⟨S32x4x1024, .f32⟩
  | 13 => ⟨S32x4x1024, .f32⟩
  | 14 => ⟨S32x4x1024, .f32⟩
  | 15 => ⟨S32x4x1024, .f32⟩
  | 16 => ⟨S_, .f32⟩
  | 17 => ⟨S32x4x1024, .f32⟩
  | 18 => ⟨S32x4x1024, .f32⟩
  | 19 => ⟨S_, .f32⟩
  | 20 => ⟨S32x4x1024, .f32⟩
  | 21 => ⟨S32x4x1024, .f32⟩
  | 22 => ⟨S32x4x1024, .f32⟩
  | 23 => ⟨S32x4x1024, .f32⟩
  | 24 => ⟨S32x4x1024, .f32⟩
  | 25 => ⟨S32x4x1024, .f32⟩
  | 26 => ⟨S32x4x1024, .f32⟩
  | 27 => ⟨S32x4x1024, .f32⟩
  | 28 => ⟨S128x1024, .f32⟩
  | 29 => ⟨S128x1024, .f32⟩
  | _ => ⟨S128x8704, .f32⟩

abbrev hbmTy (i : Nat) : BufTy := match i / 128 with
  | 0 => hbmTy0_0 i
  | 1 => hbmTy0_1 i
  | _ => ⟨S128x8704, .f32⟩

abbrev bufTy : (tb : Table) → Fin (tcTables nBuf tb) → BufTy
  | .hbm, ⟨i, _⟩ => hbmTy i
  | _, _ => ⟨S128x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_call0_v0 : Ref sig .tc := ⟨.hbm, 111, rfl⟩
abbrev main_call0_c : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_cst : Ref sig .tc := ⟨.hbm, 117, rfl⟩
abbrev main_call0_v5 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_17 : Ref sig .tc := ⟨.hbm, 134, rfl⟩
abbrev main_v93 : Ref sig .tc := ⟨.hbm, 135, rfl⟩
abbrev main_v94 : Ref sig .tc := ⟨.hbm, 136, rfl⟩
abbrev main_cst_18 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_19 : Ref sig .tc := ⟨.hbm, 144, rfl⟩
abbrev main_v101 : Ref sig .tc := ⟨.hbm, 145, rfl⟩
abbrev main_v102 : Ref sig .tc := ⟨.hbm, 146, rfl⟩
abbrev main_cst_20 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩

abbrev nD : Nat := 1
abbrev τ : Topo := Topo.v7x

variable {F : FTy → Type} [FloatOps F]
-- ==== Dense.lean ====
abbrev S1024x16384 : Shape := ⟨2, ![1024, 16384]⟩
abbrev S8x128x16384 : Shape := ⟨3, ![8, 128, 16384]⟩
abbrev S16384x1024 : Shape := ⟨2, ![16384, 1024]⟩
abbrev S1024 : Shape := ⟨1, ![1024]⟩
abbrev S1x1024 : Shape := ⟨2, ![1, 1024]⟩
abbrev S1024x512 : Shape := ⟨2, ![1024, 512]⟩
abbrev S1024x1024 : Shape := ⟨2, ![1024, 1024]⟩
abbrev S8x8x512 : Shape := ⟨3, ![8, 8, 512]⟩
abbrev S8x128x512 : Shape := ⟨3, ![8, 128, 512]⟩
abbrev S512x1024 : Shape := ⟨2, ![512, 1024]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 14
  | .vmem => 21
  | .smem => 0
  | _ => 0

abbrev bufTy : (tb : Table) → Fin (tcTables nBuf tb) → BufTy
  | .hbm, ⟨0, _⟩ => ⟨S1024x16384, .bf16⟩
  | .hbm, ⟨1, _⟩ => ⟨S8x128x16384, .f32⟩
  | .hbm, ⟨2, _⟩ => ⟨S8x128x16384, .f32⟩
  | .hbm, ⟨3, _⟩ => ⟨S8x128x16384, .f32⟩
  | .hbm, ⟨4, _⟩ => ⟨S8x128x16384, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024, .f32⟩
  | .hbm, ⟨9, _⟩ => ⟨S16384x1024, .bf16⟩
  | .hbm, ⟨10, _⟩ => ⟨S1024x16384, .f32⟩
  | .hbm, ⟨11, _⟩ => ⟨S1024x16384, .bf16⟩
  | .hbm, ⟨12, _⟩ => ⟨S1x1024, .f32⟩
  | .hbm, ⟨13, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x8x512, .f32⟩
  | .local _ .vmem, ⟨7, _⟩ => ⟨S8x8x512, .f32⟩
  | .local _ .vmem, ⟨8, _⟩ => ⟨S8x8x512, .f32⟩
  | .local _ .vmem, ⟨9, _⟩ => ⟨S8x8x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1024x512, .f32⟩
  | .local _ .vmem, ⟨20, _⟩ => ⟨S1024x512, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v1029 : BitVec 1 := Scalar.cmpi .eq arg1 c15_i32
  let v1030 : BitVec 32 := Scalar.extui v1029
  let c0_i32_851 : BitVec 32 := 0#32
  let v1031 : BitVec 1 := Scalar.cmpi .ne v1030 c0_i32_851
  v1031

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ExpertsIdeal.lean ====
abbrev S1024x16384 : Shape := ⟨2, ![1024, 16384]⟩
abbrev S8x128x16384 : Shape := ⟨3, ![8, 128, 16384]⟩
abbrev S16384x1024 : Shape := ⟨2, ![16384, 1024]⟩
abbrev S1024 : Shape := ⟨1, ![1024]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩
abbrev S16384 : Shape := ⟨1, ![16384]⟩
abbrev S16384x1 : Shape := ⟨2, ![16384, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S8x128x16384, .f32⟩
  | .hbm, ⟨2, _⟩ => ⟨S8x128x16384, .f32⟩
  | .hbm, ⟨3, _⟩ => ⟨S8x128x16384, .f32⟩
  | .hbm, ⟨4, _⟩ => ⟨S8x128x16384, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024, .f32⟩
  | .hbm, ⟨9, _⟩ => ⟨S8x1x128x16384, .f32⟩
  | .hbm, ⟨10, _⟩ => ⟨S8x128x1x16384, .f32⟩
  | .hbm, ⟨11, _⟩ => ⟨S8x128x128x16384, .f32⟩
  | .hbm, ⟨12, _⟩ => ⟨S8x128x128x16384, .f32⟩
  | .hbm, ⟨13, _⟩ => ⟨S8x128x128x16384, .i1⟩
  | .hbm, ⟨14, _⟩ => ⟨S8x128x1x16384, .f32⟩
  | .hbm, ⟨15, _⟩ => ⟨S8x1x128x16384, .f32⟩
  | .hbm, ⟨16, _⟩ => ⟨S8x128x128x16384, .f32⟩
  | .hbm, ⟨17, _⟩ => ⟨S8x128x128x16384, .f32⟩
  | .hbm, ⟨18, _⟩ => ⟨S8x128x128x16384, .f32⟩
  | .hbm, ⟨19, _⟩ => ⟨S_, .f32⟩
  | .hbm, ⟨20, _⟩ => ⟨S_, .f32⟩
  | .hbm, ⟨21, _⟩ => ⟨S8x128x128x16384, .f32⟩
  | .hbm, ⟨22, _⟩ => ⟨S8x128x128x16384, .f32⟩
  | .hbm, ⟨23, _⟩ => ⟨S_, .f32⟩
  | .hbm, ⟨24, _⟩ => ⟨S128x128x16384, .f32⟩
  | .hbm, ⟨25, _⟩ => ⟨S1024x16384, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S_, .f32⟩
  | .hbm, ⟨30, _⟩ => ⟨S16384x16384, .f32⟩
  | .hbm, ⟨31, _⟩ => ⟨S16384x16384, .f32⟩
  | .hbm, ⟨32, _⟩ => ⟨S16384x16384, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384x16384, .f32⟩
  | .hbm, ⟨39, _⟩ => ⟨S16384x16384, .f32⟩
  | .hbm, ⟨40, _⟩ => ⟨S_, .f32⟩
  | .hbm, ⟨41, _⟩ => ⟨S16384x16384, .f32⟩
  | .hbm, ⟨42, _⟩ => ⟨S16384x16384, .f32⟩
  | .hbm, ⟨43, _⟩ => ⟨S16384x16384, .f32⟩
  | .hbm, ⟨44, _⟩ => ⟨S16384x16384, .f32⟩
  | .hbm, ⟨45, _⟩ => ⟨S16384x16384, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== SampleDense.lean ====
abbrev S1024x128 : Shape := ⟨2, ![1024, 128]⟩
abbrev S8x128x128 : Shape := ⟨3, ![8, 128, 128]⟩
abbrev S128x1024 : Shape := ⟨2, ![128, 1024]⟩
abbrev S16384x1024 : Shape := ⟨2, ![16384, 1024]⟩
abbrev S1024 : Shape := ⟨1, ![1024]⟩
abbrev S1024x16384 : Shape := ⟨2, ![1024, 16384]⟩
abbrev S1x1024 : Shape := ⟨2, ![1, 1024]⟩
abbrev S1024x1024 : Shape := ⟨2, ![1024, 1024]⟩
abbrev S8x8x128 : Shape := ⟨3, ![8, 8, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩

abbrev nBuf : Space → Nat
  | .hbm => 14
  | .vmem => 16
  | .smem => 0
  | _ => 0

abbrev bufTy : (tb : Table) → Fin (tcTables nBuf tb) → BufTy
  | .hbm, ⟨0, _⟩ => ⟨S1024x128, .bf16⟩
  | .hbm, ⟨1, _⟩ => ⟨S8x128x128, .f32⟩
  | .hbm, ⟨2, _⟩ => ⟨S8x128x128, .f32⟩
  | .hbm, ⟨3, _⟩ => ⟨S8x128x128, .f32⟩
  | .hbm, ⟨4, _⟩ => ⟨S8x128x128, .f32⟩
  | .hbm, ⟨5, _⟩ => ⟨S128x1024, .f32⟩
  | .hbm, ⟨6, _⟩ => ⟨S16384x1024, .f32⟩
  | .hbm, ⟨7, _⟩ => ⟨S16384x1024, .f32⟩
  | .hbm, ⟨8, _⟩ => ⟨S1024, .f32⟩
  | .hbm, ⟨9, _⟩ => ⟨S16384x1024, .bf16⟩
  | .hbm, ⟨10, _⟩ => ⟨S1024x16384, .f32⟩
  | .hbm, ⟨11, _⟩ => ⟨S1024x16384, .bf16⟩
  | .hbm, ⟨12, _⟩ => ⟨S1x1024, .f32⟩
  | .hbm, ⟨13, _⟩ => ⟨S128x1024, .f32⟩
  | .local _ .vmem, ⟨0, _⟩ => ⟨S1024x128, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x8x128, .f32⟩
  | .local _ .vmem, ⟨6, _⟩ => ⟨S8x8x128, .f32⟩
  | .local _ .vmem, ⟨7, _⟩ => ⟨S8x8x128, .f32⟩
  | .local _ .vmem, ⟨8, _⟩ => ⟨S8x8x128, .f32⟩
  | .local _ .vmem, ⟨9, _⟩ => ⟨S8x128x128, .f32⟩
  | .local _ .vmem, ⟨10, _⟩ => ⟨S8x128x128, .f32⟩
  | .local _ .vmem, ⟨11, _⟩ => ⟨S128x1024, .f32⟩
  | .local _ .vmem, ⟨12, _⟩ => ⟨S1x1024, .f32⟩
  | .local _ .vmem, ⟨13, _⟩ => ⟨S128x1024, .f32⟩
  | .local _ .vmem, ⟨14, _⟩ => ⟨S1024x128, .f32⟩
  | .local _ .vmem, ⟨15, _⟩ => ⟨S1024x128, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v1029 : BitVec 1 := Scalar.cmpi .eq arg1 c15_i32
  let v1030 : BitVec 32 := Scalar.extui v1029
  let c0_i32_851 : BitVec 32 := 0#32
  let v1031 : BitVec 1 := Scalar.cmpi .ne v1030 c0_i32_851
  v1031

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== SampleExpertsIdeal.lean ====
abbrev S1024x128 : Shape := ⟨2, ![1024, 128]⟩
abbrev S8x128x128 : Shape := ⟨3, ![8, 128, 128]⟩
abbrev S128x1024 : Shape := ⟨2, ![128, 1024]⟩
abbrev S16384x1024 : Shape := ⟨2, ![16384, 1024]⟩
abbrev S1024 : Shape := ⟨1, ![1024]⟩
abbrev S8x1x128x128 : Shape := ⟨4, ![8, 1, 128, 128]⟩
abbrev S8x128x1x128 : Shape := ⟨4, ![8, 128, 1, 128]⟩
abbrev S8x128x128x128 : Shape := ⟨4, ![8, 128, 128, 128]⟩
abbrev S_ : Shape := ⟨0, ![]⟩
abbrev S128x128x128 : Shape := ⟨3, ![128, 128, 128]⟩
abbrev S16384x128 : Shape := ⟨2, ![16384, 128]⟩
abbrev S128 : Shape := ⟨1, ![128]⟩
abbrev S128x1 : Shape := ⟨2, ![128, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1024x128, .bf16⟩
  | .hbm, ⟨1, _⟩ => ⟨S8x128x128, .f32⟩
  | .hbm, ⟨2, _⟩ => ⟨S8x128x128, .f32⟩
  | .hbm, ⟨3, _⟩ => ⟨S8x128x128, .f32⟩
  | .hbm, ⟨4, _⟩ => ⟨S8x128x128, .f32⟩
  | .hbm, ⟨5, _⟩ => ⟨S128x1024, .f32⟩
  | .hbm, ⟨6, _⟩ => ⟨S16384x1024, .f32⟩
  | .hbm, ⟨7, _⟩ => ⟨S16384x1024, .f32⟩
  | .hbm, ⟨8, _⟩ => ⟨S1024, .f32⟩
  | .hbm, ⟨9, _⟩ => ⟨S8x1x128x128, .f32⟩
  | .hbm, ⟨10, _⟩ => ⟨S8x128x1x128, .f32⟩
  | .hbm, ⟨11, _⟩ => ⟨S8x128x128x128, .f32⟩
  | .hbm, ⟨12, _⟩ => ⟨S8x128x128x128, .f32⟩
  | .hbm, ⟨13, _⟩ => ⟨S8x128x128x128, .i1⟩
  | .hbm, ⟨14, _⟩ => ⟨S8x128x1x128, .f32⟩
  | .hbm, ⟨15, _⟩ => ⟨S8x1x128x128, .f32⟩
  | .hbm, ⟨16, _⟩ => ⟨S8x128x128x128, .f32⟩
  | .hbm, ⟨17, _⟩ => ⟨S8x128x128x128, .f32⟩
  | .hbm, ⟨18, _⟩ => ⟨S8x128x128x128, .f32⟩
  | .hbm, ⟨19, _⟩ => ⟨S_, .f32⟩
  | .hbm, ⟨20, _⟩ => ⟨S_, .f32⟩
  | .hbm, ⟨21, _⟩ => ⟨S8x128x128x128, .f32⟩
  | .hbm, ⟨22, _⟩ => ⟨S8x128x128x128, .f32⟩
  | .hbm, ⟨23, _⟩ => ⟨S_, .f32⟩
  | .hbm, ⟨24, _⟩ => ⟨S128x128x128, .f32⟩
  | .hbm, ⟨25, _⟩ => ⟨S1024x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S_, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S_, .f32⟩
  | .hbm, ⟨38, _⟩ => ⟨S16384x128, .f32⟩
  | .hbm, ⟨39, _⟩ => ⟨S16384x128, .f32⟩
  | .hbm, ⟨40, _⟩ => ⟨S_, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128, .f32⟩
  | .hbm, ⟨51, _⟩ => ⟨S128x1, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S_, .f32⟩
  | .hbm, ⟨56, _⟩ => ⟨S128x1, .f32⟩
  | .hbm, ⟨57, _⟩ => ⟨S128x1, .f32⟩
  | .hbm, ⟨58, _⟩ => ⟨S128x1, .f32⟩
  | .hbm, ⟨59, _⟩ => ⟨S128x1024, .f32⟩
  | .hbm, ⟨60, _⟩ => ⟨S128x1024, .f32⟩
  | .hbm, ⟨61, _⟩ => ⟨S1x1024, .f32⟩
  | .hbm, ⟨62, _⟩ => ⟨S128x1024, .f32⟩
  | .hbm, ⟨63, _⟩ => ⟨S128x1024, .f32⟩
  | _, _ => ⟨S1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Attn1.lean ====
abbrev S16384x8704 : Shape := ⟨2, ![16384, 8704]⟩
abbrev S16384x512 : Shape := ⟨2, ![16384, 512]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S16384x8704, .f32⟩
  | .hbm, ⟨1, _⟩ => ⟨S16384x512, .f32⟩
  | .hbm, ⟨2, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c17_i32 : BitVec 32 := 17#32
  let v2 : BitVec 32 := Scalar.muli arg1 c17_i32
  let c4_i32 : BitVec 32 := 4#32
  let v3 : BitVec 32 := Scalar.addi v2 c4_i32
  let c0_i32 : BitVec 32 := 0#32
  let v4 : BitVec 32 := Scalar.addi v3 c0_i32
  let c0_i32_0 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c7_i32 : BitVec 32 := 7#32
  let v5 : BitVec 32 := Scalar.addi v4 c7_i32
  let c0_i32_0 : BitVec 32 := 0#32
  let v6 : BitVec 32 := Scalar.addi v5 c0_i32_0
  let c0_i32_1 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c17_i32 : BitVec 32 := 17#32
  let v2 : BitVec 32 := Scalar.muli arg1 c17_i32
  let c7_i32 : BitVec 32 := 7#32
  let v3 : BitVec 32 := Scalar.addi v2 c7_i32
  let c0_i32 : BitVec 32 := 0#32
  let v4 : BitVec 32 := Scalar.addi v3 c0_i32
  let c0_i32_0 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c10_i32 : BitVec 32 := 10#32
  let v5 : BitVec 32 := Scalar.addi v4 c10_i32
  let c0_i32_0 : BitVec 32 := 0#32
  let v6 : BitVec 32 := Scalar.addi v5 c0_i32_0
  let c0_i32_1 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c17_i32 : BitVec 32 := 17#32
  let v2 : BitVec 32 := Scalar.muli arg1 c17_i32
  let c10_i32 : BitVec 32 := 10#32
  let v3 : BitVec 32 := Scalar.addi v2 c10_i32
  let c0_i32 : BitVec 32 := 0#32
  let v4 : BitVec 32 := Scalar.addi v3 c0_i32
  let c0_i32_0 : BitVec 32 := 0#32
  ![v1.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Attn1Ideal.lean ====
abbrev S16384x8704 : Shape := ⟨2, ![16384, 8704]⟩
abbrev S16384x512 : Shape := ⟨2, ![16384, 512]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S16384x8704, .f32⟩
  | .hbm, ⟨1, _⟩ => ⟨S16384x512, .f32⟩
  | .hbm, ⟨2, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨3, ![4, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c17_i32 : BitVec 32 := 17#32
  let v2 : BitVec 32 := Scalar.muli arg1 c17_i32
  let c4_i32 : BitVec 32 := 4#32
  let v3 : BitVec 32 := Scalar.addi v2 c4_i32
  let c0_i32 : BitVec 32 := 0#32
  let v4 : BitVec 32 := Scalar.addi v3 c0_i32
  let c0_i32_0 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c7_i32 : BitVec 32 := 7#32
  let v5 : BitVec 32 := Scalar.addi v4 c7_i32
  let c0_i32_0 : BitVec 32 := 0#32
  let v6 : BitVec 32 := Scalar.addi v5 c0_i32_0
  let c0_i32_1 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c17_i32 : BitVec 32 := 17#32
  let v2 : BitVec 32 := Scalar.muli arg1 c17_i32
  let c7_i32 : BitVec 32 := 7#32
  let v3 : BitVec 32 := Scalar.addi v2 c7_i32
  let c0_i32 : BitVec 32 := 0#32
  let v4 : BitVec 32 := Scalar.addi v3 c0_i32
  let c0_i32_0 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c10_i32 : BitVec 32 := 10#32
  let v5 : BitVec 32 := Scalar.addi v4 c10_i32
  let c0_i32_0 : BitVec 32 := 0#32
  let v6 : BitVec 32 := Scalar.addi v5 c0_i32_0
  let c0_i32_1 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c17_i32 : BitVec 32 := 17#32
  let v2 : BitVec 32 := Scalar.muli arg1 c17_i32
  let c10_i32 : BitVec 32 := 10#32
  let v3 : BitVec 32 := Scalar.addi v2 c10_i32
  let c0_i32 : BitVec 32 := 0#32
  let v4 : BitVec 32 := Scalar.addi v3 c0_i32
  let c0_i32_0 : BitVec 32 := 0#32
  ![v1.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dilated1Ideal.lean ====
abbrev S16384x8704 : Shape := ⟨2, ![16384, 8704]⟩
abbrev S16384x4608 : Shape := ⟨2, ![16384, 4608]⟩
abbrev S4x4096x3x3x8x64 : Shape := ⟨6, ![4, 4096, 3, 3, 8, 64]⟩
abbrev S4x4096x1x1x8x64 : Shape := ⟨6, ![4, 4096, 1, 1, 8, 64]⟩
abbrev S4x4096x8x64 : Shape := ⟨4, ![4, 4096, 8, 64]⟩
abbrev S4096 : Shape := ⟨1, ![4096]⟩
abbrev S129 : Shape := ⟨1, ![129]⟩
abbrev S_ : Shape := ⟨0, ![]⟩
abbrev S4096x1 : Shape := ⟨2, ![4096, 1]⟩
abbrev S1x129 : Shape := ⟨2, ![1, 129]⟩
abbrev S4096x129 : Shape := ⟨2, ![4096, 129]⟩
abbrev S4096x129x1 : Shape := ⟨3, ![4096, 129, 1]⟩
abbrev S4x4096x129x8x64 : Shape := ⟨5, ![4, 4096, 129, 8, 64]⟩
abbrev S4x8x4096x129 : Shape := ⟨4, ![4, 8, 4096, 129]⟩
abbrev S1x1x4096x129 : Shape := ⟨4, ![1, 1, 4096, 129]⟩
abbrev S4x8x4096 : Shape := ⟨3, ![4, 8, 4096]⟩
abbrev S4x8x4096x1 : Shape := ⟨4, ![4, 8, 4096, 1]⟩
abbrev S4x4096x8 : Shape := ⟨3, ![4, 4096, 8]⟩
abbrev S4x4096x8x1 : Shape := ⟨4, ![4, 4096, 8, 1]⟩
abbrev S16384x512 : Shape := ⟨2, ![16384, 512]⟩

abbrev nBuf : Space → Nat
  | .hbm => 73
  | .vmem => 0
  | .smem => 0
  | _ => 0

abbrev bufTy : (tb : Table) → Fin (tcTables nBuf tb) → BufTy
  | .hbm, ⟨0, _⟩ => ⟨S16384x8704, .f32⟩
  | .hbm, ⟨1, _⟩ => ⟨S16384x4608, .f32⟩
  | .hbm, ⟨2, _⟩ => ⟨S4x4096x3x3x8x64, .f32⟩
  | .hbm, ⟨3, _⟩ => ⟨S4x4096x1x1x8x64, .f32⟩
  | .hbm, ⟨4, _⟩ => ⟨S4x4096x8x64, .f32⟩
  | .hbm, ⟨5, _⟩ => ⟨S4x4096x1x1x8x64, .f32⟩
  | .hbm, ⟨6, _⟩ => ⟨S4x4096x8x64, .f32⟩
  | .hbm, ⟨7, _⟩ => ⟨S4x4096x1x1x8x64, .f32⟩
  | .hbm, ⟨8, _⟩ => ⟨S4x4096x8x64, .f32⟩
  | .hbm, ⟨9, _⟩ => ⟨S4096, .i32⟩
  | .hbm, ⟨10, _⟩ => ⟨S129, .i32⟩
  | .hbm, ⟨11, _⟩ => ⟨S_, .i32⟩
  | .hbm, ⟨12, _⟩ => ⟨S129, .i32⟩
  | .hbm, ⟨13, _⟩ => ⟨S129, .i32⟩
  | .hbm, ⟨14, _⟩ => ⟨S4096x1, .i32⟩
  | .hbm, ⟨15, _⟩ => ⟨S1x129, .i32⟩
  | .hbm, ⟨16, _⟩ => ⟨S4096x129, .i32⟩
  | .hbm, ⟨17, _⟩ => ⟨S4096x129, .i32⟩
  | .hbm, ⟨18, _⟩ => ⟨S4096x129, .i32⟩
  | .hbm, ⟨19, _⟩ => ⟨S_, .i32⟩
  | .hbm, ⟨20, _⟩ => ⟨S4096x129, .i32⟩
  | .hbm, ⟨21, _⟩ => ⟨S4096x129, .i1⟩
  | .hbm, ⟨22, _⟩ => ⟨S_, .i32⟩
  | .hbm, ⟨23, _⟩ => ⟨S4096x129, .i32⟩
  | .hbm, ⟨24, _⟩ => ⟨S4096x129, .i32⟩
  | .hbm, ⟨25, _⟩ => ⟨S_, .i32⟩
  | .hbm, ⟨26, _⟩ => ⟨S4096x129, .i32⟩
  | .hbm, ⟨27, _⟩ => ⟨S4096x129, .i1⟩
  | .hbm, ⟨28, _⟩ => ⟨S_, .i32⟩
  | .hbm, ⟨29, _⟩ => ⟨S4096x129, .i32⟩
  | .hbm, ⟨30, _⟩ => ⟨S4096x129, .i32⟩
  | .hbm, ⟨31, _⟩ => ⟨S4096x129, .i32⟩
  | .hbm, ⟨32, _⟩ => ⟨S4096x129x1, .i32⟩
  | .hbm, ⟨33, _⟩ => ⟨S4x4096x129x8x64, .f32⟩
  | .hbm, ⟨34, _⟩ => ⟨S_, .i32⟩
  | .hbm, ⟨35, _⟩ => ⟨S4096x129, .i32⟩
  | .hbm, ⟨36, _⟩ => ⟨S4096x129, .i1⟩
  | .hbm, ⟨37, _⟩ => ⟨S_, .i32⟩
  | .hbm, ⟨38, _⟩ => ⟨S4096x129, .i32⟩
  | .hbm, ⟨39, _⟩ => ⟨S4096x129, .i32⟩
  | .hbm, ⟨40, _⟩ => ⟨S4096x129, .i32⟩
  | .hbm, ⟨41, _⟩ => ⟨S4096x129x1, .i32⟩
  | .hbm, ⟨42, _⟩ => ⟨S4x4096x129x8x64, .f32⟩
  | .hbm, ⟨43, _⟩ => ⟨S4x8x4096x129, .f32⟩
  | .hbm, ⟨44, _⟩ => ⟨S_, .f32⟩
  | .hbm, ⟨45, _⟩ => ⟨S4x8x4096x129, .f32⟩
  | .hbm, ⟨46, _⟩ => ⟨S4x8x4096x129, .f32⟩
  | .hbm, ⟨47, _⟩ => ⟨S1x1x4096x129, .i1⟩
  | .hbm, ⟨48, _⟩ => ⟨S_, .f32⟩
  | .hbm, ⟨49, _⟩ => ⟨S_, .f32⟩
  | .hbm, ⟨50, _⟩ => ⟨S4x8x4096x129, .i1⟩
  | .hbm, ⟨51, _⟩ => ⟨S4x8x4096x129, .f32⟩
  | .hbm, ⟨52, _⟩ => ⟨S4x8x4096x129, .f32⟩
  | .hbm, ⟨53, _⟩ => ⟨S_, .f32⟩
  | .hbm, ⟨54, _⟩ => ⟨S4x8x4096, .f32⟩
  | .hbm, ⟨55, _⟩ => ⟨S4x8x4096x1, .f32⟩
  | .hbm, ⟨56, _⟩ => ⟨S4x8x4096x129, .f32⟩
  | .hbm, ⟨57, _⟩ => ⟨S4x8x4096x129, .f32⟩
  | .hbm, ⟨58, _⟩ => ⟨S4x8x4096x129, .f32⟩
  | .hbm, ⟨59, _⟩ => ⟨S_, .f32⟩
  | .hbm, ⟨60, _⟩ => ⟨S4x8x4096, .f32⟩
  | .hbm, ⟨61, _⟩ => ⟨S4x8x4096x1, .f32⟩
  | .hbm, ⟨62, _⟩ => ⟨S4x8x4096x129, .f32⟩
  | .hbm, ⟨63, _⟩ => ⟨S4x8x4096x129, .f32⟩
  | .hbm, ⟨64, _⟩ => ⟨S4x4096x8x64, .f32⟩
  | .hbm, ⟨65, _⟩ => ⟨S4x8x4096, .f32⟩
  | .hbm, ⟨66, _⟩ => ⟨S4x8x4096, .f32⟩
  | .hbm, ⟨67, _⟩ => ⟨S4x8x4096, .f32⟩
  | .hbm, ⟨68, _⟩ => ⟨S4x4096x8, .f32⟩
  | .hbm, ⟨69, _⟩ => ⟨S4x4096x8x1, .f32⟩
  | .hbm, ⟨70, _⟩ => ⟨S4x4096x8x64, .f32⟩
  | .hbm, ⟨71, _⟩ => ⟨S16384x512, .f32⟩
  | .hbm, ⟨72, _⟩ => ⟨S16384x512, .f32⟩
  | _, _ => ⟨S16384x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_c_2 : Ref sig .tc := ⟨.hbm, 25, rfl⟩
abbrev main_v21 : Ref sig .tc := ⟨.hbm, 26, rfl⟩
abbrev main_v22 : Ref sig .tc := ⟨.hbm, 27, rfl⟩
abbrev main_c_3 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_4 : Ref sig .tc := ⟨.hbm, 34, rfl⟩
abbrev main_v28 : Ref sig .tc := ⟨.hbm, 35, rfl⟩
abbrev main_v29 : Ref sig .tc := ⟨.hbm, 36, rfl⟩
abbrev main_c_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Attn4.lean ====
abbrev S16384x8704 : Shape := ⟨2, ![16384, 8704]⟩
abbrev S4096x34816 : Shape := ⟨2, ![4096, 34816]⟩
abbrev S4096x2048 : Shape := ⟨2, ![4096, 2048]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x8704, .f32⟩
  | .hbm, ⟨1, _⟩ => ⟨S4096x34816, .f32⟩
  | .hbm, ⟨2, _⟩ => ⟨S4096x2048, .f32⟩
  | .hbm, ⟨3, _⟩ => ⟨S4096x2048, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c17_i32 : BitVec 32 := 17#32
  let v2 : BitVec 32 := Scalar.muli arg1 c17_i32
  let c4_i32 : BitVec 32 := 4#32
  let v3 : BitVec 32 := Scalar.addi v2 c4_i32
  let c1_i32 : BitVec 32 := 1#32
  let v4 : BitVec 32 := Scalar.addi v3 c1_i32
  let c0_i32 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c7_i32 : BitVec 32 := 7#32
  let v5 : BitVec 32 := Scalar.addi v4 c7_i32
  let c1_i32_0 : BitVec 32 := 1#32
  let v6 : BitVec 32 := Scalar.addi v5 c1_i32_0
  let c0_i32_1 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c17_i32 : BitVec 32 := 17#32
  let v2 : BitVec 32 := Scalar.muli arg1 c17_i32
  let c7_i32 : BitVec 32 := 7#32
  let v3 : BitVec 32 := Scalar.addi v2 c7_i32
  let c1_i32 : BitVec 32 := 1#32
  let v4 : BitVec 32 := Scalar.addi v3 c1_i32
  let c0_i32 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c10_i32 : BitVec 32 := 10#32
  let v5 : BitVec 32 := Scalar.addi v4 c10_i32
  let c1_i32_0 : BitVec 32 := 1#32
  let v6 : BitVec 32 := Scalar.addi v5 c1_i32_0
  let c0_i32_1 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c17_i32 : BitVec 32 := 17#32
  let v2 : BitVec 32 := Scalar.muli arg1 c17_i32
  let c10_i32 : BitVec 32 := 10#32
  let v3 : BitVec 32 := Scalar.addi v2 c10_i32
  let c1_i32 : BitVec 32 := 1#32
  let v4 : BitVec 32 := Scalar.addi v3 c1_i32
  let c0_i32 : BitVec 32 := 0#32
  ![v1.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Attn4Ideal.lean ====
abbrev S16384x8704 : Shape := ⟨2, ![16384, 8704]⟩
abbrev S4096x34816 : Shape := ⟨2, ![4096, 34816]⟩
abbrev S4096x2048 : Shape := ⟨2, ![4096, 2048]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x8704, .f32⟩
  | .hbm, ⟨1, _⟩ => ⟨S4096x34816, .f32⟩
  | .hbm, ⟨2, _⟩ => ⟨S4096x2048, .f32⟩
  | .hbm, ⟨3, _⟩ => ⟨S4096x2048, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c17_i32 : BitVec 32 := 17#32
  let v2 : BitVec 32 := Scalar.muli arg1 c17_i32
  let c4_i32 : BitVec 32 := 4#32
  let v3 : BitVec 32 := Scalar.addi v2 c4_i32
  let c1_i32 : BitVec 32 := 1#32
  let v4 : BitVec 32 := Scalar.addi v3 c1_i32
  let c0_i32 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c7_i32 : BitVec 32 := 7#32
  let v5 : BitVec 32 := Scalar.addi v4 c7_i32
  let c1_i32_0 : BitVec 32 := 1#32
  let v6 : BitVec 32 := Scalar.addi v5 c1_i32_0
  let c0_i32_1 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c17_i32 : BitVec 32 := 17#32
  let v2 : BitVec 32 := Scalar.muli arg1 c17_i32
  let c7_i32 : BitVec 32 := 7#32
  let v3 : BitVec 32 := Scalar.addi v2 c7_i32
  let c1_i32 : BitVec 32 := 1#32
  let v4 : BitVec 32 := Scalar.addi v3 c1_i32
  let c0_i32 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c10_i32 : BitVec 32 := 10#32
  let v5 : BitVec 32 := Scalar.addi v4 c10_i32
  let c1_i32_0 : BitVec 32 := 1#32
  let v6 : BitVec 32 := Scalar.addi v5 c1_i32_0
  let c0_i32_1 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c17_i32 : BitVec 32 := 17#32
  let v2 : BitVec 32 := Scalar.muli arg1 c17_i32
  let c10_i32 : BitVec 32 := 10#32
  let v3 : BitVec 32 := Scalar.addi v2 c10_i32
  let c1_i32 : BitVec 32 := 1#32
  let v4 : BitVec 32 := Scalar.addi v3 c1_i32
  let c0_i32 : BitVec 32 := 0#32
  ![v1.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dilated4Ideal.lean ====
abbrev S16384x8704 : Shape := ⟨2, ![16384, 8704]⟩
abbrev S16384x4608 : Shape := ⟨2, ![16384, 4608]⟩
abbrev S4x4096x3x3x8x64 : Shape := ⟨6, ![4, 4096, 3, 3, 8, 64]⟩
abbrev S4x4096x1x1x8x64 : Shape := ⟨6, ![4, 4096, 1, 1, 8, 64]⟩
abbrev S4x4096x8x64 : Shape := ⟨4, ![4, 4096, 8, 64]⟩
abbrev S4096 : Shape := ⟨1, ![4096]⟩
abbrev S129 : Shape := ⟨1, ![129]⟩
abbrev S_ : Shape := ⟨0, ![]⟩
abbrev S4096x1 : Shape := ⟨2, ![4096, 1]⟩
abbrev S1x129 : Shape := ⟨2, ![1, 129]⟩
abbrev S4096x129 : Shape := ⟨2, ![4096, 129]⟩
abbrev S4096x129x1 : Shape := ⟨3, ![4096, 129, 1]⟩
abbrev S4x4096x129x8x64 : Shape := ⟨5, ![4, 4096, 129, 8, 64]⟩
abbrev S4x8x4096x129 : Shape := ⟨4, ![4, 8, 4096, 129]⟩
abbrev S1x1x4096x129 : Shape := ⟨4, ![1, 1, 4096, 129]⟩
abbrev S4x8x4096 : Shape := ⟨3, ![4, 8, 4096]⟩
abbrev S4x8x4096x1 : Shape := ⟨4, ![4, 8, 4096, 1]⟩
abbrev S4x4096x8 : Shape := ⟨3, ![4, 4096, 8]⟩
abbrev S4x4096x8x1 : Shape := ⟨4, ![4, 4096, 8, 1]⟩
abbrev S4096x2048 : Shape := ⟨2, ![4096, 2048]⟩

abbrev nBuf : Space → Nat
  | .hbm => 73
  | .vmem => 0
  | .smem => 0
  | _ => 0

abbrev bufTy : (tb : Table) → Fin (tcTables nBuf tb) → BufTy
  | .hbm, ⟨0, _⟩ => ⟨S16384x8704, .f32⟩
  | .hbm, ⟨1, _⟩ => ⟨S16384x4608, .f32⟩
  | .hbm, ⟨2, _⟩ => ⟨S4x4096x3x3x8x64, .f32⟩
  | .hbm, ⟨3, _⟩ => ⟨S4x4096x1x1x8x64, .f32⟩
  | .hbm, ⟨4, _⟩ => ⟨S4x4096x8x64, .f32⟩
  | .hbm, ⟨5, _⟩ => ⟨S4x4096x1x1x8x64, .f32⟩
  | .hbm, ⟨6, _⟩ => ⟨S4x4096x8x64, .f32⟩
  | .hbm, ⟨7, _⟩ => ⟨S4x4096x1x1x8x64, .f32⟩
  | .hbm, ⟨8, _⟩ => ⟨S4x4096x8x64, .f32⟩
  | .hbm, ⟨9, _⟩ => ⟨S4096, .i32⟩
  | .hbm, ⟨10, _⟩ => ⟨S129, .i32⟩
  | .hbm, ⟨11, _⟩ => ⟨S_, .i32⟩
  | .hbm, ⟨12, _⟩ => ⟨S129, .i32⟩
  | .hbm, ⟨13, _⟩ => ⟨S129, .i32⟩
  | .hbm, ⟨14, _⟩ => ⟨S4096x1, .i32⟩
  | .hbm, ⟨15, _⟩ => ⟨S1x129, .i32⟩
  | .hbm, ⟨16, _⟩ => ⟨S4096x129, .i32⟩
  | .hbm, ⟨17, _⟩ => ⟨S4096x129, .i32⟩
  | .hbm, ⟨18, _⟩ => ⟨S4096x129, .i32⟩
  | .hbm, ⟨19, _⟩ => ⟨S_, .i32⟩
  | .hbm, ⟨20, _⟩ => ⟨S4096x129, .i32⟩
  | .hbm, ⟨21, _⟩ => ⟨S4096x129, .i1⟩
  | .hbm, ⟨22, _⟩ => ⟨S_, .i32⟩
  | .hbm, ⟨23, _⟩ => ⟨S4096x129, .i32⟩
  | .hbm, ⟨24, _⟩ => ⟨S4096x129, .i32⟩
  | .hbm, ⟨25, _⟩ => ⟨S_, .i32⟩
  | .hbm, ⟨26, _⟩ => ⟨S4096x129, .i32⟩
  | .hbm, ⟨27, _⟩ => ⟨S4096x129, .i1⟩
  | .hbm, ⟨28, _⟩ => ⟨S_, .i32⟩
  | .hbm, ⟨29, _⟩ => ⟨S4096x129, .i32⟩
  | .hbm, ⟨30, _⟩ => ⟨S4096x129, .i32⟩
  | .hbm, ⟨31, _⟩ => ⟨S4096x129, .i32⟩
  | .hbm, ⟨32, _⟩ => ⟨S4096x129x1, .i32⟩
  | .hbm, ⟨33, _⟩ => ⟨S4x4096x129x8x64, .f32⟩
  | .hbm, ⟨34, _⟩ => ⟨S_, .i32⟩
  | .hbm, ⟨35, _⟩ => ⟨S4096x129, .i32⟩
  | .hbm, ⟨36, _⟩ => ⟨S4096x129, .i1⟩
  | .hbm, ⟨37, _⟩ => ⟨S_, .i32⟩
  | .hbm, ⟨38, _⟩ => ⟨S4096x129, .i32⟩
  | .hbm, ⟨39, _⟩ => ⟨S4096x129, .i32⟩
  | .hbm, ⟨40, _⟩ => ⟨S4096x129, .i32⟩
  | .hbm, ⟨41, _⟩ => ⟨S4096x129x1, .i32⟩
  | .hbm, ⟨42, _⟩ => ⟨S4x4096x129x8x64, .f32⟩
  | .hbm, ⟨43, _⟩ => ⟨S4x8x4096x129, .f32⟩
  | .hbm, ⟨44, _⟩ => ⟨S_, .f32⟩
  | .hbm, ⟨45, _⟩ => ⟨S4x8x4096x129, .f32⟩
  | .hbm, ⟨46, _⟩ => ⟨S4x8x4096x129, .f32⟩
  | .hbm, ⟨47, _⟩ => ⟨S1x1x4096x129, .i1⟩
  | .hbm, ⟨48, _⟩ => ⟨S_, .f32⟩
  | .hbm, ⟨49, _⟩ => ⟨S_, .f32⟩
  | .hbm, ⟨50, _⟩ => ⟨S4x8x4096x129, .i1⟩
  | .hbm, ⟨51, _⟩ => ⟨S4x8x4096x129, .f32⟩
  | .hbm, ⟨52, _⟩ => ⟨S4x8x4096x129, .f32⟩
  | .hbm, ⟨53, _⟩ => ⟨S_, .f32⟩
  | .hbm, ⟨54, _⟩ => ⟨S4x8x4096, .f32⟩
  | .hbm, ⟨55, _⟩ => ⟨S4x8x4096x1, .f32⟩
  | .hbm, ⟨56, _⟩ => ⟨S4x8x4096x129, .f32⟩
  | .hbm, ⟨57, _⟩ => ⟨S4x8x4096x129, .f32⟩
  | .hbm, ⟨58, _⟩ => ⟨S4x8x4096x129, .f32⟩
  | .hbm, ⟨59, _⟩ => ⟨S_, .f32⟩
  | .hbm, ⟨60, _⟩ => ⟨S4x8x4096, .f32⟩
  | .hbm, ⟨61, _⟩ => ⟨S4x8x4096x1, .f32⟩
  | .hbm, ⟨62, _⟩ => ⟨S4x8x4096x129, .f32⟩
  | .hbm, ⟨63, _⟩ => ⟨S4x8x4096x129, .f32⟩
  | .hbm, ⟨64, _⟩ => ⟨S4x4096x8x64, .f32⟩
  | .hbm, ⟨65, _⟩ => ⟨S4x8x4096, .f32⟩
  | .hbm, ⟨66, _⟩ => ⟨S4x8x4096, .f32⟩
  | .hbm, ⟨67, _⟩ => ⟨S4x8x4096, .f32⟩
  | .hbm, ⟨68, _⟩ => ⟨S4x4096x8, .f32⟩
  | .hbm, ⟨69, _⟩ => ⟨S4x4096x8x1, .f32⟩
  | .hbm, ⟨70, _⟩ => ⟨S4x4096x8x64, .f32⟩
  | .hbm, ⟨71, _⟩ => ⟨S4096x2048, .f32⟩
  | .hbm, ⟨72, _⟩ => ⟨S4096x2048, .f32⟩
  | _, _ => ⟨S16384x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_c_2 : Ref sig .tc := ⟨.hbm, 25, rfl⟩
abbrev main_v21 : Ref sig .tc := ⟨.hbm, 26, rfl⟩
abbrev main_v22 : Ref sig .tc := ⟨.hbm, 27, rfl⟩
abbrev main_c_3 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_4 : Ref sig .tc := ⟨.hbm, 34, rfl⟩
abbrev main_v28 : Ref sig .tc := ⟨.hbm, 35, rfl⟩
abbrev main_v29 : Ref sig .tc := ⟨.hbm, 36, rfl⟩
abbrev main_c_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Attn16.lean ====
abbrev S16384x8704 : Shape := ⟨2, ![16384, 8704]⟩
abbrev S1024x139264 : Shape := ⟨2, ![1024, 139264]⟩
abbrev S1024x8192 : Shape := ⟨2, ![1024, 8192]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x8704, .f32⟩
  | .hbm, ⟨1, _⟩ => ⟨S1024x139264, .f32⟩
  | .hbm, ⟨2, _⟩ => ⟨S1024x8192, .f32⟩
  | .hbm, ⟨3, _⟩ => ⟨S1024x8192, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c17_i32 : BitVec 32 := 17#32
  let v2 : BitVec 32 := Scalar.muli arg1 c17_i32
  let c4_i32 : BitVec 32 := 4#32
  let v3 : BitVec 32 := Scalar.addi v2 c4_i32
  let c2_i32_0 : BitVec 32 := 2#32
  let v4 : BitVec 32 := Scalar.addi v3 c2_i32_0
  let c0_i32 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c7_i32 : BitVec 32 := 7#32
  let v5 : BitVec 32 := Scalar.addi v4 c7_i32
  let c2_i32_0 : BitVec 32 := 2#32
  let v6 : BitVec 32 := Scalar.addi v5 c2_i32_0
  let c0_i32_1 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c17_i32 : BitVec 32 := 17#32
  let v2 : BitVec 32 := Scalar.muli arg1 c17_i32
  let c7_i32 : BitVec 32 := 7#32
  let v3 : BitVec 32 := Scalar.addi v2 c7_i32
  let c2_i32_0 : BitVec 32 := 2#32
  let v4 : BitVec 32 := Scalar.addi v3 c2_i32_0
  let c0_i32 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c17_i32 : BitVec 32 := 17#32
  let v4 : BitVec 32 := Scalar.muli arg1 c17_i32
  let c10_i32 : BitVec 32 := 10#32
  let v5 : BitVec 32 := Scalar.addi v4 c10_i32
  let c2_i32_0 : BitVec 32 := 2#32
  let v6 : BitVec 32 := Scalar.addi v5 c2_i32_0
  let c0_i32_1 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c17_i32 : BitVec 32 := 17#32
  let v2 : BitVec 32 := Scalar.muli arg1 c17_i32
  let c10_i32 : BitVec 32 := 10#32
  let v3 : BitVec 32 := Scalar.addi v2 c10_i32
  let c2_i32_0 : BitVec 32 := 2#32
  let v4 : BitVec 32 := Scalar.addi v3 c2_i32_0
  let c0_i32 : BitVec 32 := 0#32
  ![v1.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Attn16Ideal.lean ====
variable {F : FTy → Type} [FloatOps F] [Named F]
def κ : String → Option EReal := fun
  | "mask" => some ⊥
  | _ => none
-- ==== Dilated16Ideal.lean ====
abbrev S16384x8704 : Shape := ⟨2, ![16384, 8704]⟩
abbrev S16384x4608 : Shape := ⟨2, ![16384, 4608]⟩
abbrev S4x4096x3x3x8x64 : Shape := ⟨6, ![4, 4096, 3, 3, 8, 64]⟩
abbrev S4x4096x1x1x8x64 : Shape := ⟨6, ![4, 4096, 1, 1, 8, 64]⟩
abbrev S4x4096x8x64 : Shape := ⟨4, ![4, 4096, 8, 64]⟩
abbrev S4096 : Shape := ⟨1, ![4096]⟩
abbrev S129 : Shape := ⟨1, ![129]⟩
abbrev S_ : Shape := ⟨0, ![]⟩
abbrev S4096x1 : Shape := ⟨2, ![4096, 1]⟩
abbrev S1x129 : Shape := ⟨2, ![1, 129]⟩
abbrev S4096x129 : Shape := ⟨2, ![4096, 129]⟩
abbrev S4096x129x1 : Shape := ⟨3, ![4096, 129, 1]⟩
abbrev S4x4096x129x8x64 : Shape := ⟨5, ![4, 4096, 129, 8, 64]⟩
abbrev S4x8x4096x129 : Shape := ⟨4, ![4, 8, 4096, 129]⟩
abbrev S1x1x4096x129 : Shape := ⟨4, ![1, 1, 4096, 129]⟩
abbrev S4x8x4096 : Shape := ⟨3, ![4, 8, 4096]⟩
abbrev S4x8x4096x1 : Shape := ⟨4, ![4, 8, 4096, 1]⟩
abbrev S4x4096x8 : Shape := ⟨3, ![4, 4096, 8]⟩
abbrev S4x4096x8x1 : Shape := ⟨4, ![4, 4096, 8, 1]⟩
abbrev S1024x8192 : Shape := ⟨2, ![1024, 8192]⟩

abbrev nBuf : Space → Nat
  | .hbm => 73
  | .vmem => 0
  | .smem => 0
  | _ => 0

abbrev bufTy : (tb : Table) → Fin (tcTables nBuf tb) → BufTy
  | .hbm, ⟨0, _⟩ => ⟨S16384x8704, .f32⟩
  | .hbm, ⟨1, _⟩ => ⟨S16384x4608, .f32⟩
  | .hbm, ⟨2, _⟩ => ⟨S4x4096x3x3x8x64, .f32⟩
  | .hbm, ⟨3, _⟩ => ⟨S4x4096x1x1x8x64, .f32⟩
  | .hbm, ⟨4, _⟩ => ⟨S4x4096x8x64, .f32⟩
  | .hbm, ⟨5, _⟩ => ⟨S4x4096x1x1x8x64, .f32⟩
  | .hbm, ⟨6, _⟩ => ⟨S4x4096x8x64, .f32⟩
  | .hbm, ⟨7, _⟩ => ⟨S4x4096x1x1x8x64, .f32⟩
  | .hbm, ⟨8, _⟩ => ⟨S4x4096x8x64, .f32⟩
  | .hbm, ⟨9, _⟩ => ⟨S4096, .i32⟩
  | .hbm, ⟨10, _⟩ => ⟨S129, .i32⟩
  | .hbm, ⟨11, _⟩ => ⟨S_, .i32⟩
  | .hbm, ⟨12, _⟩ => ⟨S129, .i32⟩
  | .hbm, ⟨13, _⟩ => ⟨S129, .i32⟩
  | .hbm, ⟨14, _⟩ => ⟨S4096x1, .i32⟩
  | .hbm, ⟨15, _⟩ => ⟨S1x129, .i32⟩
  | .hbm, ⟨16, _⟩ => ⟨S4096x129, .i32⟩
  | .hbm, ⟨17, _⟩ => ⟨S4096x129, .i32⟩
  | .hbm, ⟨18, _⟩ => ⟨S4096x129, .i32⟩
  | .hbm, ⟨19, _⟩ => ⟨S_, .i32⟩
  | .hbm, ⟨20, _⟩ => ⟨S4096x129, .i32⟩
  | .hbm, ⟨21, _⟩ => ⟨S4096x129, .i1⟩
  | .hbm, ⟨22, _⟩ => ⟨S_, .i32⟩
  | .hbm, ⟨23, _⟩ => ⟨S4096x129, .i32⟩
  | .hbm, ⟨24, _⟩ => ⟨S4096x129, .i32⟩
  | .hbm, ⟨25, _⟩ => ⟨S_, .i32⟩
  | .hbm, ⟨26, _⟩ => ⟨S4096x129, .i32⟩
  | .hbm, ⟨27, _⟩ => ⟨S4096x129, .i1⟩
  | .hbm, ⟨28, _⟩ => ⟨S_, .i32⟩
  | .hbm, ⟨29, _⟩ => ⟨S4096x129, .i32⟩
  | .hbm, ⟨30, _⟩ => ⟨S4096x129, .i32⟩
  | .hbm, ⟨31, _⟩ => ⟨S4096x129, .i32⟩
  | .hbm, ⟨32, _⟩ => ⟨S4096x129x1, .i32⟩
  | .hbm, ⟨33, _⟩ => ⟨S4x4096x129x8x64, .f32⟩
  | .hbm, ⟨34, _⟩ => ⟨S_, .i32⟩
  | .hbm, ⟨35, _⟩ => ⟨S4096x129, .i32⟩
  | .hbm, ⟨36, _⟩ => ⟨S4096x129, .i1⟩
  | .hbm, ⟨37, _⟩ => ⟨S_, .i32⟩
  | .hbm, ⟨38, _⟩ => ⟨S4096x129, .i32⟩
  | .hbm, ⟨39, _⟩ => ⟨S4096x129, .i32⟩
  | .hbm, ⟨40, _⟩ => ⟨S4096x129, .i32⟩
  | .hbm, ⟨41, _⟩ => ⟨S4096x129x1, .i32⟩
  | .hbm, ⟨42, _⟩ => ⟨S4x4096x129x8x64, .f32⟩
  | .hbm, ⟨43, _⟩ => ⟨S4x8x4096x129, .f32⟩
  | .hbm, ⟨44, _⟩ => ⟨S_, .f32⟩
  | .hbm, ⟨45, _⟩ => ⟨S4x8x4096x129, .f32⟩
  | .hbm, ⟨46, _⟩ => ⟨S4x8x4096x129, .f32⟩
  | .hbm, ⟨47, _⟩ => ⟨S1x1x4096x129, .i1⟩
  | .hbm, ⟨48, _⟩ => ⟨S_, .f32⟩
  | .hbm, ⟨49, _⟩ => ⟨S_, .f32⟩
  | .hbm, ⟨50, _⟩ => ⟨S4x8x4096x129, .i1⟩
  | .hbm, ⟨51, _⟩ => ⟨S4x8x4096x129, .f32⟩
  | .hbm, ⟨52, _⟩ => ⟨S4x8x4096x129, .f32⟩
  | .hbm, ⟨53, _⟩ => ⟨S_, .f32⟩
  | .hbm, ⟨54, _⟩ => ⟨S4x8x4096, .f32⟩
  | .hbm, ⟨55, _⟩ => ⟨S4x8x4096x1, .f32⟩
  | .hbm, ⟨56, _⟩ => ⟨S4x8x4096x129, .f32⟩
  | .hbm, ⟨57, _⟩ => ⟨S4x8x4096x129, .f32⟩
  | .hbm, ⟨58, _⟩ => ⟨S4x8x4096x129, .f32⟩
  | .hbm, ⟨59, _⟩ => ⟨S_, .f32⟩
  | .hbm, ⟨60, _⟩ => ⟨S4x8x4096, .f32⟩
  | .hbm, ⟨61, _⟩ => ⟨S4x8x4096x1, .f32⟩
  | .hbm, ⟨62, _⟩ => ⟨S4x8x4096x129, .f32⟩
  | .hbm, ⟨63, _⟩ => ⟨S4x8x4096x129, .f32⟩
  | .hbm, ⟨64, _⟩ => ⟨S4x4096x8x64, .f32⟩
  | .hbm, ⟨65, _⟩ => ⟨S4x8x4096, .f32⟩
  | .hbm, ⟨66, _⟩ => ⟨S4x8x4096, .f32⟩
  | .hbm, ⟨67, _⟩ => ⟨S4x8x4096, .f32⟩
  | .hbm, ⟨68, _⟩ => ⟨S4x4096x8, .f32⟩
  | .hbm, ⟨69, _⟩ => ⟨S4x4096x8x1, .f32⟩
  | .hbm, ⟨70, _⟩ => ⟨S4x4096x8x64, .f32⟩
  | .hbm, ⟨71, _⟩ => ⟨S1024x8192, .f32⟩
  | .hbm, ⟨72, _⟩ => ⟨S1024x8192, .f32⟩
  | _, _ => ⟨S16384x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_c_2 : Ref sig .tc := ⟨.hbm, 25, rfl⟩
abbrev main_v21 : Ref sig .tc := ⟨.hbm, 26, rfl⟩
abbrev main_v22 : Ref sig .tc := ⟨.hbm, 27, rfl⟩
abbrev main_c_3 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_4 : Ref sig .tc := ⟨.hbm, 34, rfl⟩
abbrev main_v28 : Ref sig .tc := ⟨.hbm, 35, rfl⟩
abbrev main_v29 : Ref sig .tc := ⟨.hbm, 36, rfl⟩
abbrev main_c_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Proof.Rotary.lean ====
/-
The projection of the tokens, written out: a token is normalised by the root of its mean square and by the gain, multiplied
with the weights, and the columns of the queries and the keys are rotated by the token's position, head by head.
-/
module

public import proofs.«01_k».proof.ProjectedIdeal
public import Idealize.ShloMosaic.Lib.Pointwise

@[expose] public section

set_option maxRecDepth 16384

noncomputable section

namespace Cert.Rotary

open Idealize.ShloMosaic Idealize.SL.Sem

/-- A token divided by the root of its mean square (and the small constant), times the gain. -/
def normed (x g : Fin 1024 → EReal) (k : Fin 1024) : EReal :=
  x k * Ideal.rsqrt (Ideal.div (∑ l, x l * x l) (Ideal.ofBits .f32 0x44800000#32) + Ideal.ofBits .f32 0x358637BD#32) * g k

/-- A column of a token's projection. -/
def projected (x g w : Fin 1024 → EReal) : EReal := ∑ k, normed x g k * w k

/-- The angle of position `p` and frequency `d`. -/
def angle (p d : ℕ) : EReal :=
  FloatOps.sitofp (F := Ideal) .f32 (BitVec.ofNat 32 p) * Ideal.div 1 (Ideal.pow (Ideal.ofBits .f32 0x461C4000#32) (FloatOps.sitofp (F := Ideal) .f32 (BitVec.ofNat 32 d) * Ideal.ofBits .f32 0x3D000000#32))

/-- A token's columns after the rotation at position `p`: the queries and the keys, columns 2048 to 5119, are rotated in each head
of 64 columns, the first half against the second; the others stay. -/
def rotated (P : ℕ → EReal) (p n : ℕ) : EReal :=
  if n < 2048 ∨ 5120 ≤ n then P n
  else if n % 64 < 32 then P n * Ideal.cos (angle p (n % 64)) - P (n + 32) * Ideal.sin (angle p (n % 64))
  else P n * Ideal.cos (angle p (n % 64 - 32)) + P (n - 32) * Ideal.sin (angle p (n % 64 - 32))

/-- Row `R` of a matrix with 1024 columns. -/
def rowOf {h : ℕ} (x : FVec Ideal ⟨2, ![h, 1024]⟩ .f32) (R : Fin h) : Fin 1024 → EReal := fun k => x (ix2 R k)

/-- Column `n` of the weights. -/
def columnOf (w : FVec Ideal ⟨2, ![1024, 8704]⟩ .f32) (n : ℕ) : Fin 1024 → EReal := fun k => if h : n < 8704 then w (ix2 k ⟨n, h⟩) else 0

theorem columnOf_lt (w : FVec Ideal ⟨2, ![1024, 8704]⟩ .f32) (n : ℕ) (h : n < 8704) : columnOf w n = fun k => w (ix2 k ⟨n, h⟩) := by
  funext k; simp only [columnOf, dif_pos h]

/-- Entry `(R, n)` of the projection: token `R` stands at position `R % 4096` of its sequence. -/
def entry (x : FVec Ideal ⟨2, ![16384, 1024]⟩ .f32) (g : Fin 1024 → EReal) (w : FVec Ideal ⟨2, ![1024, 8704]⟩ .f32) (R : Fin 16384) (n : ℕ) : EReal :=
  rotated (fun n => projected (rowOf x R) g (columnOf w n)) (R % 4096) n

/-- Entry `(R, n)` of the sample's projection: token `R` stands at position `16384 + R % 4` of its sequence. -/
def sampleEntry (x : FVec Ideal ⟨2, ![128, 1024]⟩ .f32) (g : Fin 1024 → EReal) (w : FVec Ideal ⟨2, ![1024, 8704]⟩ .f32) (R : Fin 128) (n : ℕ) : EReal :=
  rotated (fun n => projected (rowOf x R) g (columnOf w n)) (16384 + R % 4) n

theorem later (p : ℕ) : IntOp.addi 16384#32 (BitVec.ofNat 32 p) = BitVec.ofNat 32 (16384 + p) :=
  (BitVec.ofNat_add 16384 p).symm

end Cert.Rotary
-- ==== Proof.Tokens.lean ====
/-
The tiles the projection stores, at an index, and what its scratch carries along a row of tiles: the normalised tokens.
-/
module

public import proofs.«01_k».proof.Proof.Gen.ProjectIdeal.Value
public import proofs.«01_k».proof.Proof.Rotary
public import Idealize.ShloMosaic.Lib.Pointwise
public import Idealize.ShloMosaic.Lib.Pipeline.ValueKit

@[expose] public section

set_option maxRecDepth 16384

noncomputable section

namespace Cert.ProjectIdeal.Value

open Idealize.ShloMosaic Idealize.ShloMosaic.TcCoe Idealize.SL.Sem
open Idealize.ShloMosaic.Pipeline (Dat)
open Cert.ProjectIdeal Cert.ProjectIdeal.Gen
open Cert.Rotary

theorem normed_at (x : Vec Ideal S1024x1024 .f32) (g : Vec Ideal S1x1024 .f32) (r k : Fin 1024) :
    k0_pay1 (F := Ideal) x g (ix2 r k) = normed (fun l => x (ix2 r l)) (fun l => g (ix2 0 l)) k := by
  pointwise [k0_pay1]
  rfl

theorem product_at (h : Vec Ideal S1024x1024 .bf16) (w : Vec Ideal S1024x512 .bf16) (r : Fin 1024) (n : Fin 512) :
    k0_pay2 (F := Ideal) h w (ix2 r n) = ∑ k, h (ix2 r k) * w (ix2 k n) := by
  pointwise [k0_pay2]

/-- Whether a lane lies in the first half of its head. -/
def firstHalf (n : BitVec 32) : BitVec 1 :=
  let d : BitVec 32 := Scalar.select (Scalar.cmpi CmpIPredicate.eq 64#32 0#32) 1#32 64#32
  let r : BitVec 32 := IntOp.remsi ArithUnit.vector n d
  IntOp.cmpi CmpIPredicate.slt (Scalar.select (IntOp.andi (IntOp.xori (IntOp.cmpi CmpIPredicate.slt r 0#32) (Scalar.cmpi CmpIPredicate.slt d 0#32)) (IntOp.cmpi CmpIPredicate.ne r 0#32)) (IntOp.addi r d) r) 32#32

theorem firstHalf_eq : ∀ n : Fin 512, firstHalf (BitVec.ofNat 32 n.val) = if n.val % 64 < 32 then 1#1 else 0#1 := by
  decide +kernel

theorem turned_at (h : Vec Ideal S1024x1024 .bf16) (w : Vec Ideal S1024x512 .bf16) (c s : Vec Ideal S1024x512 .f32) (r : Fin 1024) (n : Fin 512) :
    k0_pay3 (F := Ideal) h w c s (ix2 r n) = k0_pay2 (F := Ideal) h w (ix2 r n) * c (ix2 r n)
      + (if n.val % 64 < 32 then k0_pay2 (F := Ideal) h w (ix2 r ⟨(n + 512 - 480) % 512, Nat.mod_lt _ (by decide)⟩) else k0_pay2 (F := Ideal) h w (ix2 r ⟨(n + 512 - 32) % 512, Nat.mod_lt _ (by decide)⟩)) * s (ix2 r n) := by
  have e : ∀ a b : EReal, Scalar.select (firstHalf (BitVec.ofNat 32 n.val)) a b = if n.val % 64 < 32 then a else b := by
    intro a b
    rw [firstHalf_eq]
    split_ifs <;> rfl
  pointwise [k0_pay3]
  exact congrArg (fun z => _ + z * _) (e _ _)

variable (m : (ℓ : Loc nD τ sig) → Buf (Elt Ideal) ℓ) (c : Dev nD)

theorem idx : ∀ t : Fin cfg0.N, win0_0.index t = ![t.val / 17, 0] ∧ win0_1.index t = ![0, 0] ∧ win0_2.index t = ![0, t.val % 17]
    ∧ win0_3.index t = ![t.val / 17 % 4, 0] ∧ win0_4.index t = ![t.val / 17 % 4, 0] ∧ win0_5.index t = ![t.val / 17, t.val % 17] :=
  (by decide +kernel : ∀ t : Fin grid0.N, _)

theorem scratch_first (t : Fin cfg0.N) (h0 : t.val % 17 = 0) : (outsAt0 m c t.val t.isLt).2 = k0_pay1 (iblk m c 0 t) (iblk m c 1 t) := by
  rw [outsAt0_A m c t h0 (by omega) (by omega)]
  frame_out

theorem scratch_next (t : Fin cfg0.N) (h0 : ¬ t.val % 17 = 0) : (outsAt0 m c t.val t.isLt).2 = (outsAt0 m c (t.val - 1) (Nat.lt_of_le_of_lt (Nat.sub_le _ _) t.isLt)).2 := by
  by_cases h1 : 4 ≤ t.val % 17 ∧ t.val % 17 ≤ 9
  · rw [outsAt0_C m c t h0 h1 (not_not_intro h1)]
    rfl
  · rw [outsAt0_B m c t h0 h1 h1]
    rfl

theorem tile_first (t : Fin cfg0.N) (h0 : t.val % 17 = 0) : (outsAt0 m c t.val t.isLt).1 = k0_pay2 (outsAt0 m c t.val t.isLt).2 (iblk m c 2 t) := by
  rw [scratch_first m c t h0, outsAt0_A m c t h0 (by omega) (by omega)]
  frame_out

theorem tile_plain (t : Fin cfg0.N) (h0 : ¬ t.val % 17 = 0) (h1 : ¬(4 ≤ t.val % 17 ∧ t.val % 17 ≤ 9)) : (outsAt0 m c t.val t.isLt).1 = k0_pay2 (outsAt0 m c t.val t.isLt).2 (iblk m c 2 t) := by
  rw [scratch_next m c t h0, outsAt0_B m c t h0 h1 h1]
  frame_out
  exact congrArg (fun z => k0_pay2 z (iblk m c 2 t)) (Memref.IsWhole.read_unread _ _)

theorem tile_turned (t : Fin cfg0.N) (h1 : 4 ≤ t.val % 17 ∧ t.val % 17 ≤ 9) : (outsAt0 m c t.val t.isLt).1 = k0_pay3 (outsAt0 m c t.val t.isLt).2 (iblk m c 2 t) (iblk m c 3 t) (iblk m c 4 t) := by
  rw [scratch_next m c t (by omega), outsAt0_C m c t (by omega) h1 (not_not_intro h1)]
  frame_out
  exact congrArg (fun z => k0_pay3 z (iblk m c 2 t) (iblk m c 3 t) (iblk m c 4 t)) (Memref.IsWhole.read_unread _ _)

theorem cos_at (p : Fin 4096) (n : Fin 512) :
    (V m c main_v21 : FVec Ideal S4096x512 .f32) (ix2 p n) = if n.val % 64 < 32 then Ideal.cos (angle p (n % 64)) else Ideal.cos (angle p (n % 64 - 32)) := by
  entry_read
  pointwise
  rfl

theorem sin_at (p : Fin 4096) (n : Fin 512) :
    (V m c main_v24 : FVec Ideal S4096x512 .f32) (ix2 p n) = if n.val % 64 < 32 then -Ideal.sin (angle p (n % 64)) else Ideal.sin (angle p (n % 64 - 32)) := by
  entry_read
  pointwise
  rfl

theorem gain_at (k : Fin 1024) : (V m c main_v25 : FVec Ideal S1x1024 .f32) (ix2 0 k) = (m ((c : Thread nD τ).loc main_arg1) : FVec Ideal S1024 .f32) (ix1 k) := by
  entry_read
  pointwise

theorem weight_at (k : Fin 1024) (n : Fin 8704) : (V m c main_v26 : FVec Ideal S1024x8704 .bf16) (ix2 k n) = (m ((c : Thread nD τ).loc main_arg2) : FVec Ideal S1024x8704 .f32) (ix2 k n) := by
  entry_read
  pointwise

/-- The tokens. -/
abbrev tokens : FVec Ideal S16384x1024 .f32 := m ((c : Thread nD τ).loc main_arg0)

/-- The gain of the normalisation. -/
abbrev gain (k : Fin 1024) : EReal := (m ((c : Thread nD τ).loc main_arg1) : FVec Ideal S1024 .f32) (ix1 k)

/-- The weights. -/
abbrev weights : FVec Ideal S1024x8704 .f32 := m ((c : Thread nD τ).loc main_arg2)

/-! The blocks the windows read. -/

theorem token_block (t : Fin cfg0.N) (r k : Fin 1024) (R : Fin 16384) (hR : (R : ℕ) = t.val / 17 * 1024 + r) :
    (iblk m c 0 t : Vec Ideal S1024x1024 .f32) (ix2 r k) = tokens m c (ix2 R k) := by
  blk_ext [iblk, V, idx t]

theorem gain_block (t : Fin cfg0.N) (k : Fin 1024) : (iblk m c 1 t : Vec Ideal S1x1024 .f32) (ix2 0 k) = gain m c k := by
  rw [gain, ← gain_at m c k]
  blk_ext [iblk, idx t]

theorem weight_block (t : Fin cfg0.N) (k : Fin 1024) (n : Fin 512) (N : Fin 8704) (hN : (N : ℕ) = t.val % 17 * 512 + n) :
    (iblk m c 2 t : Vec Ideal S1024x512 .bf16) (ix2 k n) = weights m c (ix2 k N) := by
  refine Eq.trans ?_ (weight_at m c k N)
  blk_ext [iblk, idx t]

theorem cos_block (t : Fin cfg0.N) (r : Fin 1024) (n : Fin 512) (p : Fin 4096) (hp : (p : ℕ) = t.val / 17 % 4 * 1024 + r) :
    (iblk m c 3 t : Vec Ideal S1024x512 .f32) (ix2 r n) = if n.val % 64 < 32 then Ideal.cos (angle p (n % 64)) else Ideal.cos (angle p (n % 64 - 32)) := by
  rw [← cos_at m c p n]
  blk_ext [iblk, idx t]

theorem sin_block (t : Fin cfg0.N) (r : Fin 1024) (n : Fin 512) (p : Fin 4096) (hp : (p : ℕ) = t.val / 17 % 4 * 1024 + r) :
    (iblk m c 4 t : Vec Ideal S1024x512 .f32) (ix2 r n) = if n.val % 64 < 32 then -Ideal.sin (angle p (n % 64)) else Ideal.sin (angle p (n % 64 - 32)) := by
  rw [← sin_at m c p n]
  blk_ext [iblk, idx t]

/-- What the scratch carries: the block's tokens, normalised. -/
theorem carried : ∀ (n : ℕ) (hn : n < cfg0.N) (r k : Fin 1024) (R : Fin 16384), (R : ℕ) = n / 17 * 1024 + r →
    (outsAt0 m c n hn).2 (ix2 r k) = normed (rowOf (tokens m c) R) (gain m c) k := by
  intro n
  induction n with
  | zero =>
    intro hn r k R hR
    rw [scratch_first m c ⟨0, hn⟩ rfl, normed_at]
    refine congrArg₂ (fun u v => normed u v k) (funext fun l => token_block m c _ r l R hR) (funext fun l => gain_block m c _ l)
  | succ n ih =>
    intro hn r k R hR
    by_cases h0 : (n + 1) % 17 = 0
    · rw [scratch_first m c ⟨n + 1, hn⟩ h0, normed_at]
      refine congrArg₂ (fun u v => normed u v k) (funext fun l => token_block m c _ r l R hR) (funext fun l => gain_block m c _ l)
    · rw [scratch_next m c ⟨n + 1, hn⟩ h0]
      exact ih _ r k R (by omega)

theorem product_block (t : Fin cfg0.N) (r : Fin 1024) (n : Fin 512) (R : Fin 16384) (N : ℕ) (hR : (R : ℕ) = t.val / 17 * 1024 + r) (hN : N = t.val % 17 * 512 + n) :
    k0_pay2 (F := Ideal) (outsAt0 m c t.val t.isLt).2 (iblk m c 2 t) (ix2 r n) = projected (rowOf (tokens m c) R) (gain m c) (columnOf (weights m c) N) := by
  have hlt : N < 8704 := by omega
  rw [product_at, columnOf_lt _ _ hlt]
  exact Finset.sum_congr rfl fun k _ => congrArg₂ (· * ·) (carried m c _ _ r k R hR) (weight_block m c t k n ⟨N, hlt⟩ hN)

/-- A stored tile at an index. -/
theorem tile_at (t : Fin cfg0.N) (r : Fin 1024) (n : Fin 512) (R : Fin 16384) (N : ℕ) (hR : (R : ℕ) = t.val / 17 * 1024 + r) (hN : N = t.val % 17 * 512 + n) :
    (outsAt0 m c t.val t.isLt).1 (ix2 r n) = entry (tokens m c) (gain m c) (weights m c) R N := by
  unfold entry rotated
  by_cases h1 : 4 ≤ t.val % 17 ∧ t.val % 17 ≤ 9
  · rw [if_neg (by omega), tile_turned m c t h1, turned_at, product_block m c t r n R N hR hN,
      cos_block m c t r n ⟨R % 4096, by omega⟩ (by show (R : ℕ) % 4096 = _; omega), sin_block m c t r n ⟨R % 4096, by omega⟩ (by show (R : ℕ) % 4096 = _; omega)]
    have e : N % 64 = n % 64 := by omega
    by_cases hd : (n : ℕ) % 64 < 32
    · rw [if_pos hd, if_pos hd, if_pos hd, if_pos (by omega), e, product_block m c t r _ R (N + 32) hR (by show _ = t.val % 17 * 512 + ((n : ℕ) + 512 - 480) % 512; omega), mul_neg, ← sub_eq_add_neg]
    · rw [if_neg hd, if_neg hd, if_neg hd, if_neg (by omega), e, product_block m c t r _ R (N - 32) hR (by show _ = t.val % 17 * 512 + ((n : ℕ) + 512 - 32) % 512; omega)]
  · rw [if_pos (by omega)]
    refine Eq.trans ?_ (product_block m c t r n R N hR hN)
    by_cases h0 : t.val % 17 = 0
    · rw [← tile_first m c t h0]
    · rw [← tile_plain m c t h0 h1]

/-- The array of the result. -/
theorem final5_at :
    (dats m 0 c).arrAt 5 (cfgs 0).N = fun i => entry (tokens m c) (gain m c) (weights m c) (i 0 : Fin 16384) ((i 1 : Fin 8704) : ℕ) := by
  refine (dats m 0 c).arrAt_eq_of_covers 5 _ (by decide +kernel) fun t _ y => ?_
  blk_simp
  rw [after0_5]
  refine Eq.trans ?_ (tile_at m c t (y 0) (y 1) _ _ ?_ ?_)
  · exact congrArg _ (eq_ix2 y)
  · blk_simp [idx t]
  · blk_simp [idx t]

end Cert.ProjectIdeal.Value
-- ==== Proof.Projected.lean ====
/-
The plain projection, its result at an index.
-/
module

public import proofs.«01_k».proof.Proof.Gen.ProjectedIdeal.Run
public import proofs.«01_k».proof.Proof.Rotary
public import Idealize.ShloMosaic.Lib.Pointwise

@[expose] public section

set_option maxRecDepth 16384

noncomputable section

namespace Cert.ProjectedIdeal.Value

open Idealize.ShloMosaic Idealize.ShloMosaic.TcCoe Idealize.SL.Sem
open Cert.ProjectedIdeal Cert.ProjectedIdeal.Gen
open Cert.Rotary

variable (x : FVec Ideal S16384x1024 .f32) (g : FVec Ideal S1024 .f32) (w : FVec Ideal S1024x8704 .f32)

/-- The tokens as four sequences. -/
def tokens : FVec Ideal S4x4096x1024 .f32 := shapeCast S4x4096x1024 x shapeCasts_S16384x1024_S4x4096x1024

/-- The normalised tokens. -/
def rms : FVec Ideal S4x4096x1024 .f32 :=
  mulf (mulf (tokens x) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (tokens x) (tokens x)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- Their projection, before the rotation. -/
def columns : FVec Ideal S4x4096x8704 .f32 := Host.dotGeneral dot_S4x4096x1024_S1024x8704_S4x4096x8704_2_0_01_1_n_n none (rms x g) w

/-- The angles by position and frequency. -/
def angles : FVec Ideal S4096x32 .f32 := mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (mulf (sitofp .f32 (iotaInDim S32 32 0)) (broadcastInDim S32 ![] bcast_S_S32 (constant S_ .f32 0x3D000000#32)))))))

/-- A table of the angles, for every head. -/
def perHead (a : FVec Ideal S4096x32 .f32) : FVec Ideal S4x4096x3x8x32 .f32 :=
  broadcastInDim S4x4096x3x8x32 ![0, 1, 2, 3, 4] bcast_S1x4096x1x1x32_S4x4096x3x8x32_0_1_2_3_4 (broadcastInDim S1x4096x1x1x32 ![1, 4] bcast_S4096x32_S1x4096x1x1x32_1_4 a)

theorem tokens_at (b : Fin 4) (p : Fin 4096) (k : Fin 1024) (R : Fin 16384) (hR : (R : ℕ) = b * 4096 + p) : tokens x (ix3 b p k) = x (ix2 R k) := by
  pointwise [tokens]
  congr 1
  refine (ix2_inj ..).2 ⟨Fin.ext ?_, Fin.ext ?_⟩ <;> simp only [hR] <;> omega

theorem rms_at (b : Fin 4) (p : Fin 4096) (k : Fin 1024) : rms x g (ix3 b p k) = normed (fun l => tokens x (ix3 b p l)) (fun l => g (ix1 l)) k := by
  pointwise [rms]
  rfl

theorem columns_at (b : Fin 4) (p : Fin 4096) (n : Fin 8704) : columns x g w (ix3 b p n) = ∑ k, rms x g (ix3 b p k) * w (ix2 k n) := by
  pointwise [columns]

theorem angles_at (p : Fin 4096) (d : Fin 32) : angles (ix2 p d) = angle p d := by
  pointwise [angles]
  rfl

theorem perHead_at (a : FVec Ideal S4096x32 .f32) (b : Fin 4) (p : Fin 4096) (e : Fin 3) (h : Fin 8) (d : Fin 32) : perHead a (ix5 b p e h d) = a (ix2 p d) := by
  pointwise [perHead]

section
variable (y : FVec Ideal S4x4096x8704 .f32)

/-- The columns of the queries, keys and values, by part, group, head and lane. -/
def parts : FVec Ideal S4x4096x3x3x8x64 .f32 :=
  shapeCast S4x4096x3x3x8x64 (extractStridedSlice S4x4096x4608 ![0, 0, 2048] y slices_S4x4096x8704_S4x4096x4608_0_0_2048) shapeCasts_S4x4096x4608_S4x4096x3x3x8x64

theorem parts_at (b : Fin 4) (p : Fin 4096) (a e : Fin 3) (h : Fin 8) (d : Fin 64) (n : Fin 8704) (hn : (n : ℕ) = 2048 + a * 1536 + e * 512 + h * 64 + d) :
    parts y (ix6 b p a e h d) = y (ix3 b p n) := by
  pointwise [parts]
  congr 1
  refine (ix3_inj ..).2 ⟨Fin.ext ?_, Fin.ext ?_, Fin.ext ?_⟩ <;> simp only [hn] <;> omega

/-- One of the three parts. -/
def part (a : ℕ) (sl : S4x4096x3x3x8x64.Slices ![0, 0, a, 0, 0, 0] S4x4096x1x3x8x64) : FVec Ideal S4x4096x3x8x64 .f32 :=
  shapeCast S4x4096x3x8x64 (extractStridedSlice S4x4096x1x3x8x64 ![0, 0, a, 0, 0, 0] (parts y) sl) shapeCasts_S4x4096x1x3x8x64_S4x4096x3x8x64

theorem part_at (a : ℕ) (ha : a < 3) (sl : S4x4096x3x3x8x64.Slices ![0, 0, a, 0, 0, 0] S4x4096x1x3x8x64) (b : Fin 4) (p : Fin 4096) (e : Fin 3) (h : Fin 8) (d : Fin 64) :
    part y a sl (ix5 b p e h d) = parts y (ix6 b p ⟨a, ha⟩ e h d) := by
  pointwise [part]

/-- A part, rotated. -/
def turned (z : FVec Ideal S4x4096x3x8x64 .f32) : FVec Ideal S4x4096x3x8x64 .f32 :=
  concatenate S4x4096x3x8x64 4 [⟨S4x4096x3x8x32, (subf (mulf (extractStridedSlice S4x4096x3x8x32 ![0, 0, 0, 0, 0] z slices_S4x4096x3x8x64_S4x4096x3x8x32_0_0_0_0_0) (perHead (Host.cos angles))) (mulf (extractStridedSlice S4x4096x3x8x32 ![0, 0, 0, 0, 32] z slices_S4x4096x3x8x64_S4x4096x3x8x32_0_0_0_0_32) (perHead (Host.sin angles))))⟩, ⟨S4x4096x3x8x32, (addf (mulf (extractStridedSlice S4x4096x3x8x32 ![0, 0, 0, 0, 32] z slices_S4x4096x3x8x64_S4x4096x3x8x32_0_0_0_0_32) (perHead (Host.cos angles))) (mulf (extractStridedSlice S4x4096x3x8x32 ![0, 0, 0, 0, 0] z slices_S4x4096x3x8x64_S4x4096x3x8x32_0_0_0_0_0) (perHead (Host.sin angles))))⟩] concatenates_S4x4096x3x8x32_S4x4096x3x8x32_S4x4096x3x8x64_d4

theorem turned_lo (z : FVec Ideal S4x4096x3x8x64 .f32) (b : Fin 4) (p : Fin 4096) (e : Fin 3) (h : Fin 8) (d d' : Fin 64) (f : Fin 32) (hd : (d : ℕ) = f) (hd' : (d' : ℕ) = f + 32) :
    turned z (ix5 b p e h d) = z (ix5 b p e h d) * Ideal.cos (angle p f) - z (ix5 b p e h d') * Ideal.sin (angle p f) := by
  obtain rfl : d = ⟨(f : ℕ), Nat.lt_of_lt_of_le f.isLt (by decide)⟩ := Fin.ext hd
  obtain rfl : d' = ⟨32 + (f : ℕ), Nat.add_lt_add_left f.isLt 32⟩ := Fin.ext (by simp only [hd']; omega)
  pointwise [turned]
  rw [perHead_at, perHead_at]
  pointwise
  rw [angles_at]

theorem turned_hi (z : FVec Ideal S4x4096x3x8x64 .f32) (b : Fin 4) (p : Fin 4096) (e : Fin 3) (h : Fin 8) (d d' : Fin 64) (f : Fin 32) (hd : (d : ℕ) = f + 32) (hd' : (d' : ℕ) = f) :
    turned z (ix5 b p e h d) = z (ix5 b p e h d) * Ideal.cos (angle p f) + z (ix5 b p e h d') * Ideal.sin (angle p f) := by
  obtain rfl : d' = ⟨(f : ℕ), Nat.lt_of_lt_of_le f.isLt (by decide)⟩ := Fin.ext hd'
  obtain rfl : d = ⟨32 + (f : ℕ), Nat.add_lt_add_left f.isLt 32⟩ := Fin.ext (by simp only [hd]; omega)
  pointwise [turned]
  rw [perHead_at, perHead_at]
  pointwise
  rw [angles_at]

/-- A part as columns. -/
def flat (z : FVec Ideal S4x4096x3x8x64 .f32) : FVec Ideal S4x4096x1536 .f32 := shapeCast S4x4096x1536 z shapeCasts_S4x4096x3x8x64_S4x4096x1536

theorem flat_at (z : FVec Ideal S4x4096x3x8x64 .f32) (b : Fin 4) (p : Fin 4096) (j : Fin 1536) (e : Fin 3) (h : Fin 8) (d : Fin 64) (hj : (j : ℕ) = e * 512 + h * 64 + d) :
    flat z (ix3 b p j) = z (ix5 b p e h d) := by
  pointwise [flat]
  congr 1
  refine (ix5_inj ..).2 ⟨Fin.ext ?_, Fin.ext ?_, Fin.ext ?_, Fin.ext ?_, Fin.ext ?_⟩ <;> simp only [hj] <;> omega

/-- Five pieces side by side. -/
def sideBySide (u0 : FVec Ideal S4x4096x2048 .f32) (u1 u2 u3 : FVec Ideal S4x4096x1536 .f32) (u4 : FVec Ideal S4x4096x2048 .f32) : FVec Ideal S4x4096x8704 .f32 :=
  concatenate S4x4096x8704 2 [⟨S4x4096x2048, u0⟩, ⟨S4x4096x1536, u1⟩, ⟨S4x4096x1536, u2⟩, ⟨S4x4096x1536, u3⟩, ⟨S4x4096x2048, u4⟩] concatenates_S4x4096x2048_S4x4096x1536_S4x4096x1536_S4x4096x1536_S4x4096x2048_S4x4096x8704_d2

theorem sideBySide_at (T : ℕ → EReal) (u0 : FVec Ideal S4x4096x2048 .f32) (u1 u2 u3 : FVec Ideal S4x4096x1536 .f32) (u4 : FVec Ideal S4x4096x2048 .f32) (b : Fin 4) (p : Fin 4096)
    (h0 : ∀ j : Fin 2048, u0 (ix3 b p j) = T j) (h1 : ∀ j : Fin 1536, u1 (ix3 b p j) = T (2048 + j)) (h2 : ∀ j : Fin 1536, u2 (ix3 b p j) = T (3584 + j))
    (h3 : ∀ j : Fin 1536, u3 (ix3 b p j) = T (5120 + j)) (h4 : ∀ j : Fin 2048, u4 (ix3 b p j) = T (6656 + j)) (n : Fin 8704) :
    sideBySide u0 u1 u2 u3 u4 (ix3 b p n) = T n := by
  pointwise [sideBySide]
  simp only [h0, h1, h2, h3, h4]
  have hn : (n : ℕ) < 8704 := n.isLt
  split_ifs
  · rfl
  all_goals exact congrArg T (by omega)

/-- The columns after the rotation. -/
def joined : FVec Ideal S4x4096x8704 .f32 :=
  sideBySide (extractStridedSlice S4x4096x2048 ![0, 0, 0] y slices_S4x4096x8704_S4x4096x2048_0_0_0) (flat (turned (part y 0 slices_S4x4096x3x3x8x64_S4x4096x1x3x8x64_0_0_0_0_0_0))) (flat (turned (part y 1 slices_S4x4096x3x3x8x64_S4x4096x1x3x8x64_0_0_1_0_0_0))) (flat (part y 2 slices_S4x4096x3x3x8x64_S4x4096x1x3x8x64_0_0_2_0_0_0)) (extractStridedSlice S4x4096x2048 ![0, 0, 6656] y slices_S4x4096x8704_S4x4096x2048_0_0_6656)

/-- A token's columns, as a function of the column's number. -/
def column (b : Fin 4) (p : Fin 4096) (n : ℕ) : EReal := if h : n < 8704 then y (ix3 b p ⟨n, h⟩) else 0

theorem column_at (b : Fin 4) (p : Fin 4096) (n : Fin 8704) (k : ℕ) (h : k = n) : y (ix3 b p n) = column y b p k := by
  subst h; simp only [column, dif_pos n.isLt]

theorem turned_part (a : ℕ) (ha : a < 2) (sl : S4x4096x3x3x8x64.Slices ![0, 0, a, 0, 0, 0] S4x4096x1x3x8x64) (b : Fin 4) (p : Fin 4096) (j : Fin 1536) (n : ℕ) (hn : n = 2048 + a * 1536 + j) :
    flat (turned (part y a sl)) (ix3 b p j) = rotated (column y b p) p n := by
  have hj : (j : ℕ) < 1536 := j.isLt
  rw [flat_at _ b p j ⟨j / 512, by omega⟩ ⟨j % 512 / 64, by omega⟩ ⟨j % 64, by omega⟩ (by show (j : ℕ) = j / 512 * 512 + j % 512 / 64 * 64 + j % 64; omega)]
  unfold rotated
  rw [if_neg (by omega)]
  by_cases hd : (j : ℕ) % 64 < 32
  · rw [if_pos (by omega), turned_lo _ _ _ _ _ _ ⟨j % 64 + 32, by omega⟩ ⟨j % 64, hd⟩ rfl rfl,
      part_at y a (by omega), part_at y a (by omega), parts_at y b p _ _ _ _ ⟨2048 + a * 1536 + j, by omega⟩ (by show 2048 + a * 1536 + (j : ℕ) = 2048 + a * 1536 + j / 512 * 512 + j % 512 / 64 * 64 + j % 64; omega),
      parts_at y b p _ _ _ _ ⟨2048 + a * 1536 + j + 32, by omega⟩ (by show 2048 + a * 1536 + (j : ℕ) + 32 = 2048 + a * 1536 + j / 512 * 512 + j % 512 / 64 * 64 + (j % 64 + 32); omega),
      column_at y b p _ n hn, column_at y b p _ (n + 32) (by show _ = 2048 + a * 1536 + (j : ℕ) + 32; omega), show n % 64 = j % 64 by omega]
  · rw [if_neg (by omega), turned_hi _ _ _ _ _ _ ⟨j % 64 - 32, by omega⟩ ⟨j % 64 - 32, by omega⟩ (by show (j : ℕ) % 64 = j % 64 - 32 + 32; omega) rfl,
      part_at y a (by omega), part_at y a (by omega), parts_at y b p _ _ _ _ ⟨2048 + a * 1536 + j, by omega⟩ (by show 2048 + a * 1536 + (j : ℕ) = 2048 + a * 1536 + j / 512 * 512 + j % 512 / 64 * 64 + j % 64; omega),
      parts_at y b p _ _ _ _ ⟨2048 + a * 1536 + j - 32, by omega⟩ (by show 2048 + a * 1536 + (j : ℕ) - 32 = 2048 + a * 1536 + j / 512 * 512 + j % 512 / 64 * 64 + (j % 64 - 32); omega),
      column_at y b p _ n hn, column_at y b p _ (n - 32) (by show _ = 2048 + a * 1536 + (j : ℕ) - 32; omega), show n % 64 = j % 64 by omega]

theorem plain_part (sl : S4x4096x3x3x8x64.Slices ![0, 0, 2, 0, 0, 0] S4x4096x1x3x8x64) (b : Fin 4) (p : Fin 4096) (j : Fin 1536) (n : ℕ) (hn : n = 5120 + j) :
    flat (part y 2 sl) (ix3 b p j) = column y b p n := by
  have hj : (j : ℕ) < 1536 := j.isLt
  rw [flat_at _ b p j ⟨j / 512, by omega⟩ ⟨j % 512 / 64, by omega⟩ ⟨j % 64, by omega⟩ (by show (j : ℕ) = j / 512 * 512 + j % 512 / 64 * 64 + j % 64; omega), part_at y 2 (by omega),
    parts_at y b p _ _ _ _ ⟨5120 + j, by omega⟩ (by show 5120 + (j : ℕ) = 2048 + 2 * 1536 + j / 512 * 512 + j % 512 / 64 * 64 + j % 64; omega), column_at y b p _ n hn]

theorem joined_at (b : Fin 4) (p : Fin 4096) (n : Fin 8704) : joined y (ix3 b p n) = rotated (column y b p) p n := by
  unfold joined
  refine sideBySide_at (rotated (column y b p) p) _ _ _ _ _ b p (fun j => ?_) (fun j => turned_part y 0 (by omega) _ b p j _ rfl) (fun j => turned_part y 1 (by omega) _ b p j _ rfl)
    (fun j => ?_) (fun j => ?_) n
  · have hj : (j : ℕ) < 2048 := j.isLt
    pointwise
    rw [column_at y b p _ j rfl]; unfold rotated; rw [if_pos (by omega)]
  · rw [plain_part y _ b p j _ rfl]; unfold rotated; rw [if_pos (by omega)]
  · pointwise
    rw [column_at y b p _ (6656 + j) rfl]; unfold rotated; rw [if_pos (by omega)]

end

theorem rejoin_at (y : FVec Ideal S4x4096x8704 .f32) (R : Fin 16384) (n : Fin 8704) (b : Fin 4) (p : Fin 4096) (hR : (R : ℕ) = b * 4096 + p) :
    shapeCast S16384x8704 y shapeCasts_S4x4096x8704_S16384x8704 (ix2 R n) = y (ix3 b p n) := by
  pointwise
  congr 1
  refine (ix3_inj ..).2 ⟨Fin.ext ?_, Fin.ext ?_, Fin.ext ?_⟩ <;> simp only [hR] <;> omega

theorem out0_eq (m : (ℓ : Loc nD τ sig) → Buf (Elt Ideal) ℓ) (c : Dev nD) :
    res_out0 (F := Ideal) m c = shapeCast S16384x8704 (joined (columns (m ((c.tc : Thread nD τ).loc main_arg0)) (m ((c.tc : Thread nD τ).loc main_arg1)) (m ((c.tc : Thread nD τ).loc main_arg2)))) shapeCasts_S4x4096x8704_S16384x8704 := by
  unfold res_out0 res_main_v90 joined sideBySide flat turned part parts perHead angles columns rms tokens
  with_reducible_and_instances rfl

/-- The result of the plain projection at an index. -/
theorem out0_at (m : (ℓ : Loc nD τ sig) → Buf (Elt Ideal) ℓ) (c : Dev nD) (R : Fin 16384) (n : Fin 8704) :
    res_out0 (F := Ideal) m c (ix2 R n) = entry (m ((c.tc : Thread nD τ).loc main_arg0)) (fun k => (m ((c.tc : Thread nD τ).loc main_arg1) : FVec Ideal S1024 .f32) (ix1 k)) (m ((c.tc : Thread nD τ).loc main_arg2)) R n := by
  have hR : (R : ℕ) < 16384 := R.isLt
  rw [out0_eq]
  generalize m ((c.tc : Thread nD τ).loc main_arg0) = x
  generalize m ((c.tc : Thread nD τ).loc main_arg1) = g
  generalize m ((c.tc : Thread nD τ).loc main_arg2) = w
  rw [rejoin_at _ R n ⟨R / 4096, by omega⟩ ⟨R % 4096, by omega⟩ (by show (R : ℕ) = R / 4096 * 4096 + R % 4096; omega), joined_at]
  unfold entry
  congr 1
  funext k
  unfold column projected
  split_ifs with hk
  · rw [columns_at]
    refine Finset.sum_congr rfl fun l _ => ?_
    rw [rms_at, columnOf_lt w k hk]
    congr 2
    funext l
    exact tokens_at x _ _ l R (by show (R : ℕ) = R / 4096 * 4096 + R % 4096; omega)
  · refine (Finset.sum_eq_zero fun l _ => ?_).symm
    simp only [columnOf, dif_neg hk, mul_zero]

end Cert.ProjectedIdeal.Value
-- ==== Proof.Gate.lean ====
/-
The mixing of a token's two branches, entry by entry: the gated spatial branch, the attention branch weighted over its three
groups, and their projections.
-/
module

public import proofs.«01_k».proof.Defs
public import Idealize.ShloMosaic.Lib.Pointwise

@[expose] public section

set_option maxRecDepth 16384

noncomputable section

namespace Cert.Gate

open Idealize.ShloMosaic Idealize.SL.Sem

/-- The smooth rectifier, by the hyperbolic tangent of a cubic. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- A row after the rectifier, less its mean. -/
def centred (v : Fin 1024 → EReal) (k : Fin 1024) : EReal := gelu (v k) - Ideal.div (∑ l, gelu (v l)) (Ideal.ofBits .f32 0x44800000#32)

/-- A row after the rectifier, less its mean, divided by its deviation, times the gain, plus the shift. -/
def standard (v g b : Fin 1024 → EReal) (k : Fin 1024) : EReal :=
  centred v k * Ideal.rsqrt (Ideal.div (∑ l, centred v l * centred v l) (Ideal.ofBits .f32 0x44800000#32) + Ideal.ofBits .f32 0x358637BD#32) * g k + b k

/-- A chunk's rows up to row `i`, weighted. -/
def spatial (w v : Fin 128 → EReal) (i : ℕ) : EReal := ∑ j : Fin 128, (if (j : ℕ) ≤ i then w j else 0) * v j

/-- Three outputs, weighted by the exponentials of three logarithms. -/
def weighted (l0 l1 l2 o0 o1 o2 : EReal) : EReal :=
  Ideal.div (Ideal.exp (l0 - max (max l0 l1) l2)) (Ideal.exp (l0 - max (max l0 l1) l2) + Ideal.exp (l1 - max (max l0 l1) l2) + Ideal.exp (l2 - max (max l0 l1) l2)) * o0
    + Ideal.div (Ideal.exp (l1 - max (max l0 l1) l2)) (Ideal.exp (l0 - max (max l0 l1) l2) + Ideal.exp (l1 - max (max l0 l1) l2) + Ideal.exp (l2 - max (max l0 l1) l2)) * o1
    + Ideal.div (Ideal.exp (l2 - max (max l0 l1) l2)) (Ideal.exp (l0 - max (max l0 l1) l2) + Ideal.exp (l1 - max (max l0 l1) l2) + Ideal.exp (l2 - max (max l0 l1) l2)) * o2

/-- The logistic function. -/
def sigmoid (x : EReal) : EReal := Ideal.div 1 (1 + Ideal.exp (-x))

/-! The entries of the two results. -/

variable (z : FVec Ideal ⟨2, ![16384, 8704]⟩ .f32) (g b : FVec Ideal ⟨1, ![1024]⟩ .f32)

/-- The second result: the second half's columns, standardised. -/
def standardised (R : Fin 16384) (k : Fin 1024) : EReal :=
  standard (fun l => z (ix2 R ⟨1024 + l, Nat.lt_of_lt_of_le (Nat.add_lt_add_left l.isLt 1024) (by decide)⟩)) (fun l => g (ix1 l)) (fun l => b (ix1 l)) k

variable (ws : FVec Ideal ⟨3, ![8, 128, 128]⟩ .f32) (bs : FVec Ideal ⟨2, ![8, 128]⟩ .f32)

/-- The gated branch: the first half's columns times the chunk's rows weighted by the group's matrix. -/
def gated (R : Fin 16384) (k : Fin 1024) : EReal :=
  gelu (z (ix2 R ⟨k, Nat.lt_of_lt_of_le k.isLt (by decide)⟩))
    * (spatial (fun j => ws (ix3 ⟨k / 128, by omega⟩ ⟨R % 128, by omega⟩ j)) (fun j => standardised z g b ⟨R / 128 * 128 + j, by omega⟩ k) (R % 128)
      + bs (ix2 ⟨k / 128, by omega⟩ ⟨R % 128, by omega⟩))

variable (o0 o1 o2 l0 l1 l2 : FVec Ideal ⟨2, ![16384, 512]⟩ .f32)

/-- The attention branch. -/
def attended (R : Fin 16384) (k : Fin 512) : EReal :=
  weighted (l0 (ix2 R k)) (l1 (ix2 R k)) (l2 (ix2 R k)) (o0 (ix2 R k)) (o1 (ix2 R k)) (o2 (ix2 R k))

variable (wa wo : FVec Ideal ⟨2, ![1024, 1024]⟩ .f32) (wb : FVec Ideal ⟨2, ![512, 1024]⟩ .f32)

/-- The two branches' projections, each times its gate. -/
def merged (R : Fin 16384) (n : Fin 1024) : EReal :=
  sigmoid (z (ix2 R ⟨6656 + n, Nat.lt_of_lt_of_le (Nat.add_lt_add_left n.isLt 6656) (by decide)⟩)) * (∑ k, gated z g b ws bs R k * wa (ix2 k n))
    + sigmoid (z (ix2 R ⟨7680 + n, Nat.lt_of_lt_of_le (Nat.add_lt_add_left n.isLt 7680) (by decide)⟩)) * (∑ k, attended o0 o1 o2 l0 l1 l2 R k * wb (ix2 k n))

variable (x : FVec Ideal ⟨2, ![16384, 1024]⟩ .f32)

/-- The first result: the token plus the merged branches' projection. -/
def mixed (R : Fin 16384) (n : Fin 1024) : EReal :=
  x (ix2 R n) + ∑ k, merged z g b ws bs o0 o1 o2 l0 l1 l2 wa wb R k * wo (ix2 k n)

end Cert.Gate
-- ==== Proof.Mixing.lean ====
/-
The mixing kernel's stored tiles at an index.
-/
module

public import proofs.«01_k».proof.Proof.Gen.MixIdeal.Value
public import proofs.«01_k».proof.Proof.Gate
public import Idealize.ShloMosaic.Lib.Pointwise
public import Idealize.ShloMosaic.Lib.Pipeline.ValueKit

@[expose] public section

set_option maxRecDepth 16384

noncomputable section

namespace Cert.MixIdeal.Value

open Idealize.ShloMosaic Idealize.ShloMosaic.TcCoe Idealize.SL.Sem
open Idealize.ShloMosaic.Pipeline (Dat)
open Cert.MixIdeal Cert.MixIdeal.Gen
open Cert.Gate

/-! The payloads at an index. -/

theorem rectified_at (u : Vec Ideal S256x1024 .f32) (r : Fin 256) (k : Fin 1024) : k0_pay2 (F := Ideal) u (ix2 r k) = gelu (u (ix2 r k)) := by
  pointwise [k0_pay2]
  rfl

theorem centred_at (v : Vec Ideal S256x1024 .f32) (r : Fin 256) (k : Fin 1024) : k0_pay3 (F := Ideal) v (ix2 r k) = centred (fun l => v (ix2 r l)) k := by
  pointwise [k0_pay3]
  rfl

theorem standard_at (v : Vec Ideal S256x1024 .f32) (g b : Vec Ideal S1x1024 .f32) (r : Fin 256) (k : Fin 1024) :
    k0_pay5 (F := Ideal) (k0_pay3 v) (k0_pay4 v) g b (ix2 r k) = standard (fun l => v (ix2 r l)) (fun l => g (ix2 0 l)) (fun l => b (ix2 0 l)) k := by
  pointwise [k0_pay5, k0_pay4]
  simp only [centred_at]
  rfl

theorem attended_at (l0 l1 l2 o0 o1 o2 : Vec Ideal S256x512 .f32) (r : Fin 256) (k : Fin 512) :
    k0_pay26 (F := Ideal) l0 l1 l2 o0 o1 o2 (ix2 r k) = weighted (l0 (ix2 r k)) (l1 (ix2 r k)) (l2 (ix2 r k)) (o0 (ix2 r k)) (o1 (ix2 r k)) (o2 (ix2 r k)) := by
  pointwise [k0_pay26]
  rfl

/-- A group's matrix, with the entries above the diagonal cleared, times the group's columns of a chunk, plus the group's shift. -/
def piece (V : FVec Ideal S256x1024 .bf16) (w : Vec Ideal S1x128x128 .f32) (b : Vec Ideal S128x1 .f32) (o p : ℕ) (sl : S256x1024.Slices ![o, p] S128x128) : FVec Ideal S128x128 .f32 :=
  addf (matmul dot_S128x128_S128x128_S128x128_1_0_0_1_n_n none (truncf .bf16 (select k0_pay6 (shapeCast S128x128 w shapeCasts_S1x128x128_S128x128) (broadcast S128x128 (Scalar.ofBits (F := Ideal) .f32 0x00000000#32))) bitsLt_bf16_f32) (extractStridedSlice S128x128 ![o, p] V sl) (constant S128x128 .f32 0x00000000#32)) (broadcastTo S128x128 (shapeCast S128x1 b shapeCasts_S128x1_S128x1) broadcasts_S128x1_S128x128)

theorem below_diagonal : ∀ i j : Fin 128, IntOp.cmpi CmpIPredicate.sge (BitVec.ofNat 32 i.val) (BitVec.ofNat 32 j.val) = if j.val ≤ i.val then 1#1 else 0#1 := by
  decide +kernel

theorem piece_at (V : FVec Ideal S256x1024 .bf16) (w : Vec Ideal S1x128x128 .f32) (b : Vec Ideal S128x1 .f32) (o p : ℕ) (sl : S256x1024.Slices ![o, p] S128x128) (v : Fin 128 → EReal) (i j : Fin 128)
    (hv : ∀ (l : Fin 128) (R : Fin 256) (K : Fin 1024), (R : ℕ) = o + l → (K : ℕ) = p + j → V (ix2 R K) = v l) :
    piece V w b o p sl (ix2 i j) = spatial (fun l => w (ix3 0 i l)) v i + b (ix2 i 0) := by
  have h : ∀ (l : Fin 128) (a b : EReal), Scalar.select (IntOp.cmpi CmpIPredicate.sge (BitVec.ofNat 32 i.val) (BitVec.ofNat 32 l.val)) a b = if l.val ≤ i.val then a else b := by
    intro l a b
    rw [below_diagonal]
    split_ifs <;> rfl
  pointwise [piece, k0_pay6]
  refine congrArg (· + _) (Finset.sum_congr rfl fun l _ => ?_)
  refine (h l _ _).trans ?_
  split_ifs
  · exact congrArg (_ * ·) (hv l _ _ rfl rfl)
  · exact (zero_mul _).symm

/-- Eight pieces side by side. -/
def eight (u0 u1 u2 u3 u4 u5 u6 u7 : FVec Ideal S128x128 .f32) : FVec Ideal S128x1024 .f32 :=
  concatenate S128x1024 1 [⟨S128x128, u0⟩, ⟨S128x128, u1⟩, ⟨S128x128, u2⟩, ⟨S128x128, u3⟩, ⟨S128x128, u4⟩, ⟨S128x128, u5⟩, ⟨S128x128, u6⟩, ⟨S128x128, u7⟩] concatenates_S128x128_S128x128_S128x128_S128x128_S128x128_S128x128_S128x128_S128x128_S128x1024_d1

theorem eight_at (T : ℕ → EReal) (u0 u1 u2 u3 u4 u5 u6 u7 : FVec Ideal S128x128 .f32) (i : Fin 128)
    (h0 : ∀ j : Fin 128, u0 (ix2 i j) = T j) (h1 : ∀ j : Fin 128, u1 (ix2 i j) = T (128 + j)) (h2 : ∀ j : Fin 128, u2 (ix2 i j) = T (256 + j)) (h3 : ∀ j : Fin 128, u3 (ix2 i j) = T (384 + j))
    (h4 : ∀ j : Fin 128, u4 (ix2 i j) = T (512 + j)) (h5 : ∀ j : Fin 128, u5 (ix2 i j) = T (640 + j)) (h6 : ∀ j : Fin 128, u6 (ix2 i j) = T (768 + j)) (h7 : ∀ j : Fin 128, u7 (ix2 i j) = T (896 + j)) (k : Fin 1024) :
    eight u0 u1 u2 u3 u4 u5 u6 u7 (ix2 i k) = T k := by
  pointwise [eight]
  simp only [h0, h1, h2, h3, h4, h5, h6, h7]
  have hk : (k : ℕ) < 1024 := k.isLt
  split_ifs
  · rfl
  all_goals exact congrArg T (by omega)

/-- Two chunks, one under the other. -/
def under (a b : FVec Ideal S128x1024 .f32) : FVec Ideal S256x1024 .f32 :=
  concatenate S256x1024 0 [⟨S128x1024, a⟩, ⟨S128x1024, b⟩] concatenates_S128x1024_S128x1024_S256x1024_d0

theorem under_at (T : ℕ → EReal) (a b : FVec Ideal S128x1024 .f32) (k : Fin 1024) (h0 : ∀ i : Fin 128, a (ix2 i k) = T i) (h1 : ∀ i : Fin 128, b (ix2 i k) = T (128 + i)) (r : Fin 256) :
    under a b (ix2 r k) = T r := by
  pointwise [under]
  simp only [h0, h1]
  have hr : (r : ℕ) < 256 := r.isLt
  split_ifs
  · rfl
  · exact congrArg T (by omega)

theorem matrix_at (W : Vec Ideal S8x128x128 .f32) (e : ℕ) (he : e < 8) (inb) (i l : Fin 128) :
    View.ld W (Rect.unit ![e, 0, 0] ![1, 128, 128] inb) (ix3 0 i l) = W (ix3 ⟨e, he⟩ i l) := by
  pointwise

theorem shift_at (B : Vec Ideal S128x8 .f32) (e : ℕ) (he : e < 8) (inb) (i : Fin 128) :
    View.ld B (Rect.unit ![0, e] ![128, 1] inb) (ix2 i 0) = B (ix2 i ⟨e, he⟩) := by
  pointwise

/-- The chunks' rows, weighted group by group. -/
def spatialTile (V : FVec Ideal S256x1024 .bf16) (W : Vec Ideal S8x128x128 .f32) (B : Vec Ideal S128x8 .f32) : FVec Ideal S256x1024 .f32 :=
  under (eight
    (piece V (View.ld W (Rect.unit ![0, 0, 0] ![1, 128, 128] inb_S8x128x128_S1x128x128_0_0_0)) (View.ld B (Rect.unit ![0, 0] ![128, 1] inb_S128x8_S128x1_0_0)) 0 0 slices_S256x1024_o0_0_S128x128)
    (piece V (View.ld W (Rect.unit ![1, 0, 0] ![1, 128, 128] inb_S8x128x128_S1x128x128_1_0_0)) (View.ld B (Rect.unit ![0, 1] ![128, 1] inb_S128x8_S128x1_0_1)) 0 128 slices_S256x1024_o0_128_S128x128)
    (piece V (View.ld W (Rect.unit ![2, 0, 0] ![1, 128, 128] inb_S8x128x128_S1x128x128_2_0_0)) (View.ld B (Rect.unit ![0, 2] ![128, 1] inb_S128x8_S128x1_0_2)) 0 256 slices_S256x1024_o0_256_S128x128)
    (piece V (View.ld W (Rect.unit ![3, 0, 0] ![1, 128, 128] inb_S8x128x128_S1x128x128_3_0_0)) (View.ld B (Rect.unit ![0, 3] ![128, 1] inb_S128x8_S128x1_0_3)) 0 384 slices_S256x1024_o0_384_S128x128)
    (piece V (View.ld W (Rect.unit ![4, 0, 0] ![1, 128, 128] inb_S8x128x128_S1x128x128_4_0_0)) (View.ld B (Rect.unit ![0, 4] ![128, 1] inb_S128x8_S128x1_0_4)) 0 512 slices_S256x1024_o0_512_S128x128)
    (piece V (View.ld W (Rect.unit ![5, 0, 0] ![1, 128, 128] inb_S8x128x128_S1x128x128_5_0_0)) (View.ld B (Rect.unit ![0, 5] ![128, 1] inb_S128x8_S128x1_0_5)) 0 640 slices_S256x1024_o0_640_S128x128)
    (piece V (View.ld W (Rect.unit ![6, 0, 0] ![1, 128, 128] inb_S8x128x128_S1x128x128_6_0_0)) (View.ld B (Rect.unit ![0, 6] ![128, 1] inb_S128x8_S128x1_0_6)) 0 768 slices_S256x1024_o0_768_S128x128)
    (piece V (View.ld W (Rect.unit ![7, 0, 0] ![1, 128, 128] inb_S8x128x128_S1x128x128_7_0_0)) (View.ld B (Rect.unit ![0, 7] ![128, 1] inb_S128x8_S128x1_0_7)) 0 896 slices_S256x1024_o0_896_S128x128))
  (eight
    (piece V (View.ld W (Rect.unit ![0, 0, 0] ![1, 128, 128] inb_S8x128x128_S1x128x128_0_0_0)) (View.ld B (Rect.unit ![0, 0] ![128, 1] inb_S128x8_S128x1_0_0)) 128 0 slices_S256x1024_o128_0_S128x128)
    (piece V (View.ld W (Rect.unit ![1, 0, 0] ![1, 128, 128] inb_S8x128x128_S1x128x128_1_0_0)) (View.ld B (Rect.unit ![0, 1] ![128, 1] inb_S128x8_S128x1_0_1)) 128 128 slices_S256x1024_o128_128_S128x128)
    (piece V (View.ld W (Rect.unit ![2, 0, 0] ![1, 128, 128] inb_S8x128x128_S1x128x128_2_0_0)) (View.ld B (Rect.unit ![0, 2] ![128, 1] inb_S128x8_S128x1_0_2)) 128 256 slices_S256x1024_o128_256_S128x128)
    (piece V (View.ld W (Rect.unit ![3, 0, 0] ![1, 128, 128] inb_S8x128x128_S1x128x128_3_0_0)) (View.ld B (Rect.unit ![0, 3] ![128, 1] inb_S128x8_S128x1_0_3)) 128 384 slices_S256x1024_o128_384_S128x128)
    (piece V (View.ld W (Rect.unit ![4, 0, 0] ![1, 128, 128] inb_S8x128x128_S1x128x128_4_0_0)) (View.ld B (Rect.unit ![0, 4] ![128, 1] inb_S128x8_S128x1_0_4)) 128 512 slices_S256x1024_o128_512_S128x128)
    (piece V (View.ld W (Rect.unit ![5, 0, 0] ![1, 128, 128] inb_S8x128x128_S1x128x128_5_0_0)) (View.ld B (Rect.unit ![0, 5] ![128, 1] inb_S128x8_S128x1_0_5)) 128 640 slices_S256x1024_o128_640_S128x128)
    (piece V (View.ld W (Rect.unit ![6, 0, 0] ![1, 128, 128] inb_S8x128x128_S1x128x128_6_0_0)) (View.ld B (Rect.unit ![0, 6] ![128, 1] inb_S128x8_S128x1_0_6)) 128 768 slices_S256x1024_o128_768_S128x128)
    (piece V (View.ld W (Rect.unit ![7, 0, 0] ![1, 128, 128] inb_S8x128x128_S1x128x128_7_0_0)) (View.ld B (Rect.unit ![0, 7] ![128, 1] inb_S128x8_S128x1_0_7)) 128 896 slices_S256x1024_o128_896_S128x128))

/-- What the weighted rows hold at row `r` and column `n`. -/
def spatialEntry (V : FVec Ideal S256x1024 .bf16) (W : Vec Ideal S8x128x128 .f32) (B : Vec Ideal S128x8 .f32) (r n : ℕ) : EReal :=
  if h : r < 256 ∧ n < 1024 then
    spatial (fun l => W (ix3 ⟨n / 128, by omega⟩ ⟨r % 128, by omega⟩ l)) (fun l => V (ix2 ⟨r / 128 * 128 + l, by omega⟩ ⟨n, h.2⟩)) (r % 128) + B (ix2 ⟨r % 128, by omega⟩ ⟨n / 128, by omega⟩)
  else 0

theorem piece_entry (V : FVec Ideal S256x1024 .bf16) (W : Vec Ideal S8x128x128 .f32) (B : Vec Ideal S128x8 .f32) (e q : ℕ) (he : e < 8) (hq : q < 2) (inb inb') (sl : S256x1024.Slices ![q * 128, e * 128] S128x128) (i j : Fin 128) :
    piece V (View.ld W (Rect.unit ![e, 0, 0] ![1, 128, 128] inb)) (View.ld B (Rect.unit ![0, e] ![128, 1] inb')) (q * 128) (e * 128) sl (ix2 i j) = spatialEntry V W B (q * 128 + i) (e * 128 + j) := by
  have hb : q * 128 + (i : ℕ) < 256 ∧ e * 128 + (j : ℕ) < 1024 := by omega
  rw [piece_at V _ _ _ _ sl (fun l => V (ix2 ⟨q * 128 + l, by omega⟩ ⟨e * 128 + j, hb.2⟩)) i j fun l R K hR hK => by
    congr 1; exact (ix2_inj ..).2 ⟨Fin.ext hR, Fin.ext hK⟩]
  unfold spatialEntry
  rw [dif_pos hb]
  have h1 : (⟨(e * 128 + j) / 128, by omega⟩ : Fin 8) = ⟨e, he⟩ := Fin.ext (by show (e * 128 + (j : ℕ)) / 128 = e; omega)
  have h2 : (⟨(q * 128 + i) % 128, by omega⟩ : Fin 128) = i := Fin.ext (by show (q * 128 + (i : ℕ)) % 128 = i; omega)
  have h3 : ∀ l : Fin 128, (⟨(q * 128 + i) / 128 * 128 + l, by omega⟩ : Fin 256) = ⟨q * 128 + l, by omega⟩ := fun l => Fin.ext (by show (q * 128 + (i : ℕ)) / 128 * 128 + l = q * 128 + l; omega)
  have h4 : (q * 128 + (i : ℕ)) % 128 = i := by omega
  simp only [h1, h2, h3, h4]
  exact congrArg₂ (· + ·) (congrArg (fun w => spatial w _ _) (funext fun l => matrix_at W e he inb i l)) (shift_at B e he inb' i)

theorem spatialTile_at (V : FVec Ideal S256x1024 .bf16) (W : Vec Ideal S8x128x128 .f32) (B : Vec Ideal S128x8 .f32) (r : Fin 256) (k : Fin 1024) :
    spatialTile V W B (ix2 r k) = spatialEntry V W B r k := by
  unfold spatialTile
  refine under_at (fun R => spatialEntry V W B R k) _ _ k (fun i => ?_) (fun i => ?_) r
  · refine (eight_at (fun n => spatialEntry V W B (0 * 128 + i) n) _ _ _ _ _ _ _ _ i (fun j => ?_) (fun j => ?_) (fun j => ?_) (fun j => ?_) (fun j => ?_) (fun j => ?_) (fun j => ?_) (fun j => ?_) k).trans (congrArg (fun R => spatialEntry V W B R k) (by omega))
    · exact (piece_entry V W B 0 0 (by decide) (by decide) _ _ _ i j).trans (congrArg (spatialEntry V W B (0 * 128 + i)) (by omega))
    · exact piece_entry V W B 1 0 (by decide) (by decide) _ _ _ i j
    · exact piece_entry V W B 2 0 (by decide) (by decide) _ _ _ i j
    · exact piece_entry V W B 3 0 (by decide) (by decide) _ _ _ i j
    · exact piece_entry V W B 4 0 (by decide) (by decide) _ _ _ i j
    · exact piece_entry V W B 5 0 (by decide) (by decide) _ _ _ i j
    · exact piece_entry V W B 6 0 (by decide) (by decide) _ _ _ i j
    · exact piece_entry V W B 7 0 (by decide) (by decide) _ _ _ i j
  · refine (eight_at (fun n => spatialEntry V W B (1 * 128 + i) n) _ _ _ _ _ _ _ _ i (fun j => ?_) (fun j => ?_) (fun j => ?_) (fun j => ?_) (fun j => ?_) (fun j => ?_) (fun j => ?_) (fun j => ?_) k).trans (congrArg (fun R => spatialEntry V W B R k) (by omega))
    · exact (piece_entry V W B 0 1 (by decide) (by decide) _ _ _ i j).trans (congrArg (spatialEntry V W B (1 * 128 + i)) (by omega))
    · exact piece_entry V W B 1 1 (by decide) (by decide) _ _ _ i j
    · exact piece_entry V W B 2 1 (by decide) (by decide) _ _ _ i j
    · exact piece_entry V W B 3 1 (by decide) (by decide) _ _ _ i j
    · exact piece_entry V W B 4 1 (by decide) (by decide) _ _ _ i j
    · exact piece_entry V W B 5 1 (by decide) (by decide) _ _ _ i j
    · exact piece_entry V W B 6 1 (by decide) (by decide) _ _ _ i j
    · exact piece_entry V W B 7 1 (by decide) (by decide) _ _ _ i j

/-- The gated branch's projection. -/
def gatedProduct (u s : FVec Ideal S256x1024 .f32) (wa : Vec Ideal S1024x1024 .bf16) : FVec Ideal S256x1024 .f32 :=
  matmul dot_S256x1024_S1024x1024_S256x1024_1_0_0_1_n_n none (truncf .bf16 (mulf u s) bitsLt_bf16_f32) (shapeCast S1024x1024 wa shapeCasts_S1024x1024_S1024x1024 : FVec Ideal S1024x1024 .bf16) (constant S256x1024 .f32 0x00000000#32)

theorem gatedProduct_at (u s : FVec Ideal S256x1024 .f32) (wa : Vec Ideal S1024x1024 .bf16) (r : Fin 256) (n : Fin 1024) :
    gatedProduct u s wa (ix2 r n) = ∑ k, u (ix2 r k) * s (ix2 r k) * wa (ix2 k n) := by
  pointwise [gatedProduct]

/-- Two halves side by side. -/
def halves (a b : Vec Ideal S256x512 .f32) : FVec Ideal S256x1024 .f32 := concatenate S256x1024 1 [⟨S256x512, a⟩, ⟨S256x512, b⟩] concatenates_S256x512_S256x512_S256x1024_d1

theorem halves_at (T : ℕ → EReal) (a b : Vec Ideal S256x512 .f32) (r : Fin 256) (h0 : ∀ j : Fin 512, a (ix2 r j) = T j) (h1 : ∀ j : Fin 512, b (ix2 r j) = T (512 + j)) (n : Fin 1024) :
    halves a b (ix2 r n) = T n := by
  pointwise [halves]
  simp only [h0, h1]
  have hn : (n : ℕ) < 1024 := n.isLt
  split_ifs
  · rfl
  · exact congrArg T (by omega)

/-- The two projections, each times its gate. -/
def mergedTile (p : FVec Ideal S256x1024 .f32) (y : FVec Ideal S256x512 .bf16) (wb : Vec Ideal S512x1024 .bf16) (ga gb : FVec Ideal S256x1024 .f32) : FVec Ideal S256x1024 .f32 :=
  addf (mulf (logistic ga) p) (mulf (logistic gb) (matmul dot_S256x512_S512x1024_S256x1024_1_0_0_1_n_n none y (shapeCast S512x1024 wb shapeCasts_S512x1024_S512x1024 : FVec Ideal S512x1024 .bf16) (constant S256x1024 .f32 0x00000000#32)))

theorem mergedTile_at (p : FVec Ideal S256x1024 .f32) (y : FVec Ideal S256x512 .bf16) (wb : Vec Ideal S512x1024 .bf16) (ga gb : FVec Ideal S256x1024 .f32) (r : Fin 256) (n : Fin 1024) :
    mergedTile p y wb ga gb (ix2 r n) = sigmoid (ga (ix2 r n)) * p (ix2 r n) + sigmoid (gb (ix2 r n)) * ∑ k, y (ix2 r k) * wb (ix2 k n) := by
  pointwise [mergedTile]
  rfl

/-- The token plus the merged branches' projection. -/
def finish (q : FVec Ideal S256x1024 .f32) (x : Vec Ideal S256x1024 .f32) (wo : Vec Ideal S1024x1024 .bf16) : FVec Ideal S256x1024 .f32 :=
  addf x (matmul dot_S256x1024_S1024x1024_S256x1024_1_0_0_1_n_n none (truncf .bf16 q bitsLt_bf16_f32) (shapeCast S1024x1024 wo shapeCasts_S1024x1024_S1024x1024 : FVec Ideal S1024x1024 .bf16) (constant S256x1024 .f32 0x00000000#32))

theorem finish_at (q : FVec Ideal S256x1024 .f32) (x : Vec Ideal S256x1024 .f32) (wo : Vec Ideal S1024x1024 .bf16) (r : Fin 256) (n : Fin 1024) :
    finish q x wo (ix2 r n) = x (ix2 r n) + ∑ k, q (ix2 r k) * wo (ix2 k n) := by
  pointwise [finish]

variable (m : (ℓ : Loc nD τ sig) → Buf (Elt Ideal) ℓ) (c : Dev nD)

theorem second_tile (t : Fin cfg0.N) : (outsAt0 m c t).2 = k0_pay5 (k0_pay3 (X0_1 m c t)) (k0_pay4 (X0_1 m c t)) (iblk m c 13 t) (iblk m c 14 t) := by
  unfold outsAt0
  frame_out

theorem first_tile (t : Fin cfg0.N) : (outsAt0 m c t).1 =
    finish (mergedTile (gatedProduct (k0_pay2 (X0_0 m c t)) (spatialTile (k0_pay7 (k0_pay3 (X0_1 m c t)) (k0_pay4 (X0_1 m c t)) (iblk m c 13 t) (iblk m c 14 t)) (iblk m c 15 t) (iblk m c 16 t)) (iblk m c 17 t))
      (k0_pay26 (iblk m c 9 t) (iblk m c 10 t) (iblk m c 11 t) (iblk m c 6 t) (iblk m c 7 t) (iblk m c 8 t)) (iblk m c 18 t) (halves (iblk m c 2 t) (iblk m c 3 t)) (halves (iblk m c 4 t) (iblk m c 5 t)))
      (iblk m c 12 t) (iblk m c 19 t) := by
  unfold outsAt0
  frame_out
  unfold finish mergedTile gatedProduct spatialTile under eight piece halves k0_pay1 k0_pay25 k0_pay14 k0_pay8 k0_pay9 k0_pay10 k0_pay11 k0_pay12 k0_pay13 k0_pay15 k0_pay16 k0_pay17 k0_pay18 k0_pay19 k0_pay20 k0_pay21 k0_pay22 k0_pay23 k0_pay24
  with_reducible_and_instances rfl

theorem idx : ∀ t : Fin cfg0.N, win0_0.index t = ![t.val, 0] ∧ win0_1.index t = ![t.val, 1] ∧ win0_2.index t = ![t.val, 13] ∧ win0_3.index t = ![t.val, 14] ∧ win0_4.index t = ![t.val, 15] ∧ win0_5.index t = ![t.val, 16]
    ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0]
    ∧ win0_13.index t = ![0, 0] ∧ win0_14.index t = ![0, 0] ∧ win0_15.index t = ![0, 0, 0] ∧ win0_16.index t = ![0, 0] ∧ win0_17.index t = ![0, 0] ∧ win0_18.index t = ![0, 0] ∧ win0_19.index t = ![0, 0]
    ∧ win0_20.index t = ![t.val, 0] ∧ win0_21.index t = ![t.val, 0] :=
  (by decide +kernel : ∀ t : Fin grid0.N, _)

end Cert.MixIdeal.Value
-- ==== Proof.Mixture.lean ====
/-
The mixing kernel's two results as arrays.
-/
module

public import proofs.«01_k».proof.Proof.Mixing
public import proofs.«01_k».proof.Proof.Gate
public import Idealize.ShloMosaic.Lib.Pointwise
public import Idealize.ShloMosaic.Lib.Pipeline.ValueKit

@[expose] public section

set_option maxRecDepth 16384

noncomputable section

namespace Cert.MixIdeal.Value

open Idealize.ShloMosaic Idealize.ShloMosaic.TcCoe Idealize.SL.Sem
open Idealize.ShloMosaic.Pipeline (Dat)
open Cert.MixIdeal Cert.MixIdeal.Gen
open Cert.Gate

variable (m : (ℓ : Loc nD τ sig) → Buf (Elt Ideal) ℓ) (c : Dev nD)

/-! The arguments. -/

abbrev rows : FVec Ideal S16384x8704 .f32 := m ((c : Thread nD τ).loc main_arg0)

abbrev out0 : FVec Ideal S16384x512 .f32 := m ((c : Thread nD τ).loc main_arg1)

abbrev out1 : FVec Ideal S16384x512 .f32 := m ((c : Thread nD τ).loc main_arg2)

abbrev out2 : FVec Ideal S16384x512 .f32 := m ((c : Thread nD τ).loc main_arg3)

abbrev log0 : FVec Ideal S16384x512 .f32 := m ((c : Thread nD τ).loc main_arg4)

abbrev log1 : FVec Ideal S16384x512 .f32 := m ((c : Thread nD τ).loc main_arg5)

abbrev log2 : FVec Ideal S16384x512 .f32 := m ((c : Thread nD τ).loc main_arg6)

abbrev token : FVec Ideal S16384x1024 .f32 := m ((c : Thread nD τ).loc main_arg7)

abbrev gain : FVec Ideal S1024 .f32 := m ((c : Thread nD τ).loc main_arg8)

abbrev shift : FVec Ideal S1024 .f32 := m ((c : Thread nD τ).loc main_arg9)

abbrev matrices : FVec Ideal S8x128x128 .f32 := m ((c : Thread nD τ).loc main_arg10)

abbrev shifts : FVec Ideal S8x128 .f32 := m ((c : Thread nD τ).loc main_arg11)

abbrev weightsA : FVec Ideal S1024x1024 .f32 := m ((c : Thread nD τ).loc main_arg12)

abbrev weightsB : FVec Ideal S512x1024 .f32 := m ((c : Thread nD τ).loc main_arg13)

abbrev weightsO : FVec Ideal S1024x1024 .f32 := m ((c : Thread nD τ).loc main_arg14)

/-! The arrays the host makes. -/

theorem gain_at (k : Fin 1024) : (V m c main_v0 : FVec Ideal S1x1024 .f32) (ix2 0 k) = gain m c (ix1 k) := by
  entry_read
  pointwise

theorem shiftRow_at (k : Fin 1024) : (V m c main_v1 : FVec Ideal S1x1024 .f32) (ix2 0 k) = shift m c (ix1 k) := by
  entry_read
  pointwise

theorem shifts_at (i : Fin 128) (e : Fin 8) : (V m c main_v2 : FVec Ideal S128x8 .f32) (ix2 i e) = shifts m c (ix2 e i) := by
  entry_read
  pointwise

theorem weightsA_at (k n : Fin 1024) : (V m c main_v3 : FVec Ideal S1024x1024 .bf16) (ix2 k n) = weightsA m c (ix2 k n) := by
  entry_read
  pointwise

theorem weightsB_at (k : Fin 512) (n : Fin 1024) : (V m c main_v4 : FVec Ideal S512x1024 .bf16) (ix2 k n) = weightsB m c (ix2 k n) := by
  entry_read
  pointwise

theorem weightsO_at (k n : Fin 1024) : (V m c main_v5 : FVec Ideal S1024x1024 .bf16) (ix2 k n) = weightsO m c (ix2 k n) := by
  entry_read
  pointwise

/-! The blocks the windows read. -/

theorem row_block0 (t : Fin cfg0.N) (r : Fin 256) (k : Fin 1024) (R : Fin 16384) (K : Fin 8704) (hR : (R : ℕ) = t.val * 256 + r) (hK : (K : ℕ) = k) : (X0_0 m c t : Vec Ideal S256x1024 .f32) (ix2 r k) = rows m c (ix2 R K) := by
  unfold X0_0 Pipeline.Window.fill
  rw [dif_pos (moved0_0 t _)]
  blk_ext [iblk, V, idx t]

theorem row_block1 (t : Fin cfg0.N) (r : Fin 256) (k : Fin 1024) (R : Fin 16384) (K : Fin 8704) (hR : (R : ℕ) = t.val * 256 + r) (hK : (K : ℕ) = 1024 + k) : (X0_1 m c t : Vec Ideal S256x1024 .f32) (ix2 r k) = rows m c (ix2 R K) := by
  unfold X0_1 Pipeline.Window.fill
  rw [dif_pos (moved0_1 t _)]
  blk_ext [iblk, V, idx t]

theorem row_block2 (t : Fin cfg0.N) (r : Fin 256) (k : Fin 512) (R : Fin 16384) (K : Fin 8704) (hR : (R : ℕ) = t.val * 256 + r) (hK : (K : ℕ) = 6656 + k) : (iblk m c 2 t : Vec Ideal S256x512 .f32) (ix2 r k) = rows m c (ix2 R K) := by
  blk_ext [iblk, V, idx t]

theorem row_block3 (t : Fin cfg0.N) (r : Fin 256) (k : Fin 512) (R : Fin 16384) (K : Fin 8704) (hR : (R : ℕ) = t.val * 256 + r) (hK : (K : ℕ) = 7168 + k) : (iblk m c 3 t : Vec Ideal S256x512 .f32) (ix2 r k) = rows m c (ix2 R K) := by
  blk_ext [iblk, V, idx t]

theorem row_block4 (t : Fin cfg0.N) (r : Fin 256) (k : Fin 512) (R : Fin 16384) (K : Fin 8704) (hR : (R : ℕ) = t.val * 256 + r) (hK : (K : ℕ) = 7680 + k) : (iblk m c 4 t : Vec Ideal S256x512 .f32) (ix2 r k) = rows m c (ix2 R K) := by
  blk_ext [iblk, V, idx t]

theorem row_block5 (t : Fin cfg0.N) (r : Fin 256) (k : Fin 512) (R : Fin 16384) (K : Fin 8704) (hR : (R : ℕ) = t.val * 256 + r) (hK : (K : ℕ) = 8192 + k) : (iblk m c 5 t : Vec Ideal S256x512 .f32) (ix2 r k) = rows m c (ix2 R K) := by
  blk_ext [iblk, V, idx t]

theorem out0_block (t : Fin cfg0.N) (r : Fin 256) (k : Fin 512) (R : Fin 16384) (hR : (R : ℕ) = t.val * 256 + r) : (iblk m c 6 t : Vec Ideal S256x512 .f32) (ix2 r k) = out0 m c (ix2 R k) := by
  blk_ext [iblk, V, idx t]

theorem out1_block (t : Fin cfg0.N) (r : Fin 256) (k : Fin 512) (R : Fin 16384) (hR : (R : ℕ) = t.val * 256 + r) : (iblk m c 7 t : Vec Ideal S256x512 .f32) (ix2 r k) = out1 m c (ix2 R k) := by
  blk_ext [iblk, V, idx t]

theorem out2_block (t : Fin cfg0.N) (r : Fin 256) (k : Fin 512) (R : Fin 16384) (hR : (R : ℕ) = t.val * 256 + r) : (iblk m c 8 t : Vec Ideal S256x512 .f32) (ix2 r k) = out2 m c (ix2 R k) := by
  blk_ext [iblk, V, idx t]

theorem log0_block (t : Fin cfg0.N) (r : Fin 256) (k : Fin 512) (R : Fin 16384) (hR : (R : ℕ) = t.val * 256 + r) : (iblk m c 9 t : Vec Ideal S256x512 .f32) (ix2 r k) = log0 m c (ix2 R k) := by
  blk_ext [iblk, V, idx t]

theorem log1_block (t : Fin cfg0.N) (r : Fin 256) (k : Fin 512) (R : Fin 16384) (hR : (R : ℕ) = t.val * 256 + r) : (iblk m c 10 t : Vec Ideal S256x512 .f32) (ix2 r k) = log1 m c (ix2 R k) := by
  blk_ext [iblk, V, idx t]

theorem log2_block (t : Fin cfg0.N) (r : Fin 256) (k : Fin 512) (R : Fin 16384) (hR : (R : ℕ) = t.val * 256 + r) : (iblk m c 11 t : Vec Ideal S256x512 .f32) (ix2 r k) = log2 m c (ix2 R k) := by
  blk_ext [iblk, V, idx t]

theorem token_block (t : Fin cfg0.N) (r : Fin 256) (k : Fin 1024) (R : Fin 16384) (hR : (R : ℕ) = t.val * 256 + r) : (iblk m c 12 t : Vec Ideal S256x1024 .f32) (ix2 r k) = token m c (ix2 R k) := by
  blk_ext [iblk, V, idx t]

theorem gain_block (t : Fin cfg0.N) (k : Fin 1024) : (iblk m c 13 t : Vec Ideal S1x1024 .f32) (ix2 0 k) = gain m c (ix1 k) := by
  refine Eq.trans ?_ (gain_at m c k)
  blk_ext [iblk, idx t]

theorem shift_block (t : Fin cfg0.N) (k : Fin 1024) : (iblk m c 14 t : Vec Ideal S1x1024 .f32) (ix2 0 k) = shift m c (ix1 k) := by
  refine Eq.trans ?_ (shiftRow_at m c k)
  blk_ext [iblk, idx t]

theorem matrix_block (t : Fin cfg0.N) (e : Fin 8) (i l : Fin 128) : (iblk m c 15 t : Vec Ideal S8x128x128 .f32) (ix3 e i l) = matrices m c (ix3 e i l) := by
  blk_ext [iblk, V, idx t]

theorem shifts_block (t : Fin cfg0.N) (e : Fin 8) (i : Fin 128) : (iblk m c 16 t : Vec Ideal S128x8 .f32) (ix2 i e) = shifts m c (ix2 e i) := by
  refine Eq.trans ?_ (shifts_at m c i e)
  blk_ext [iblk, idx t]

theorem weightsA_block (t : Fin cfg0.N) (k n : Fin 1024) : (iblk m c 17 t : Vec Ideal S1024x1024 .bf16) (ix2 k n) = weightsA m c (ix2 k n) := by
  refine Eq.trans ?_ (weightsA_at m c k n)
  blk_ext [iblk, idx t]

theorem weightsB_block (t : Fin cfg0.N) (k : Fin 512) (n : Fin 1024) : (iblk m c 18 t : Vec Ideal S512x1024 .bf16) (ix2 k n) = weightsB m c (ix2 k n) := by
  refine Eq.trans ?_ (weightsB_at m c k n)
  blk_ext [iblk, idx t]

theorem weightsO_block (t : Fin cfg0.N) (k n : Fin 1024) : (iblk m c 19 t : Vec Ideal S1024x1024 .bf16) (ix2 k n) = weightsO m c (ix2 k n) := by
  refine Eq.trans ?_ (weightsO_at m c k n)
  blk_ext [iblk, idx t]

/-! The stored tiles. -/

/-- The second tile at an index. -/
theorem standard_tile (t : Fin cfg0.N) (r : Fin 256) (k : Fin 1024) (R : Fin 16384) (hR : (R : ℕ) = t.val * 256 + r) :
    k0_pay5 (F := Ideal) (k0_pay3 (X0_1 m c t)) (k0_pay4 (X0_1 m c t)) (iblk m c 13 t) (iblk m c 14 t) (ix2 r k) = standardised (rows m c) (gain m c) (shift m c) R k := by
  rw [Cert.MixIdeal.Value.standard_at]
  unfold standardised
  congr 1
  · funext l; exact row_block1 m c t r l R _ hR rfl
  · funext l; exact gain_block m c t l
  · funext l; exact shift_block m c t l

theorem second_at (t : Fin cfg0.N) (r : Fin 256) (k : Fin 1024) (R : Fin 16384) (K : Fin 1024) (hR : (R : ℕ) = t.val * 256 + r) (hK : (K : ℕ) = k) :
    (outsAt0 m c t).2 (ix2 r k) = standardised (rows m c) (gain m c) (shift m c) R K := by
  obtain rfl : K = k := Fin.ext hK
  rw [second_tile]
  exact standard_tile m c t r K R hR

/-- The gated branch at an index. -/
theorem gated_tile (t : Fin cfg0.N) (r : Fin 256) (k : Fin 1024) (R : Fin 16384) (hR : (R : ℕ) = t.val * 256 + r) :
    k0_pay2 (F := Ideal) (X0_0 m c t) (ix2 r k) * spatialTile (k0_pay7 (k0_pay3 (X0_1 m c t)) (k0_pay4 (X0_1 m c t)) (iblk m c 13 t) (iblk m c 14 t)) (iblk m c 15 t) (iblk m c 16 t) (ix2 r k)
      = gated (rows m c) (gain m c) (shift m c) (matrices m c) (shifts m c) R k := by
  have hr : (r : ℕ) < 256 := r.isLt
  have hk : (k : ℕ) < 1024 := k.isLt
  have hRl : (R : ℕ) < 16384 := R.isLt
  have e1 : (R : ℕ) % 128 = r % 128 := by omega
  have e2 : ∀ l : ℕ, (R : ℕ) / 128 * 128 + l = t.val * 256 + ((r : ℕ) / 128 * 128 + l) := by intro l; omega
  have e3 : (⟨(R : ℕ) % 128, by omega⟩ : Fin 128) = ⟨(r : ℕ) % 128, by omega⟩ := Fin.ext e1
  rw [rectified_at, row_block0 m c t r k R ⟨k, by omega⟩ hR rfl, spatialTile_at]
  unfold spatialEntry gated
  rw [dif_pos ⟨hr, hk⟩, e3, e1]
  refine congrArg (gelu _ * ·) (congrArg₂ (· + ·) ?_ (shifts_block m c t _ _))
  congr 1
  · funext l; exact matrix_block m c t _ _ l
  · funext l
    exact standard_tile m c t ⟨(r : ℕ) / 128 * 128 + l, by omega⟩ k ⟨(R : ℕ) / 128 * 128 + l, by omega⟩ (e2 l)

/-- The attention branch at an index. -/
theorem attended_tile (t : Fin cfg0.N) (r : Fin 256) (k : Fin 512) (R : Fin 16384) (hR : (R : ℕ) = t.val * 256 + r) :
    k0_pay26 (F := Ideal) (iblk m c 9 t) (iblk m c 10 t) (iblk m c 11 t) (iblk m c 6 t) (iblk m c 7 t) (iblk m c 8 t) (ix2 r k)
      = attended (out0 m c) (out1 m c) (out2 m c) (log0 m c) (log1 m c) (log2 m c) R k := by
  rw [Cert.MixIdeal.Value.attended_at, log0_block m c t r k R hR, log1_block m c t r k R hR, log2_block m c t r k R hR, out0_block m c t r k R hR, out1_block m c t r k R hR, out2_block m c t r k R hR]
  rfl

/-- The two gates at an index. -/
theorem gateA_tile (t : Fin cfg0.N) (r : Fin 256) (n : Fin 1024) (R : Fin 16384) (hR : (R : ℕ) = t.val * 256 + r) :
    halves (iblk m c 2 t) (iblk m c 3 t) (ix2 r n) = rows m c (ix2 R ⟨6656 + n, by omega⟩) := by
  have hn : (n : ℕ) < 1024 := n.isLt
  refine (halves_at (fun j => if h : j < 1024 then rows m c (ix2 R ⟨6656 + j, by omega⟩) else 0) _ _ r (fun j => ?_) (fun j => ?_) n).trans (dif_pos hn)
  · refine Eq.trans ?_ (dif_pos (by omega)).symm
    exact row_block2 m c t r j R _ hR rfl
  · refine Eq.trans ?_ (dif_pos (by omega)).symm
    exact row_block3 m c t r j R _ hR (by show 6656 + (512 + (j : ℕ)) = 7168 + j; omega)

theorem gateB_tile (t : Fin cfg0.N) (r : Fin 256) (n : Fin 1024) (R : Fin 16384) (hR : (R : ℕ) = t.val * 256 + r) :
    halves (iblk m c 4 t) (iblk m c 5 t) (ix2 r n) = rows m c (ix2 R ⟨7680 + n, by omega⟩) := by
  have hn : (n : ℕ) < 1024 := n.isLt
  refine (halves_at (fun j => if h : j < 1024 then rows m c (ix2 R ⟨7680 + j, by omega⟩) else 0) _ _ r (fun j => ?_) (fun j => ?_) n).trans (dif_pos hn)
  · refine Eq.trans ?_ (dif_pos (by omega)).symm
    exact row_block4 m c t r j R _ hR rfl
  · refine Eq.trans ?_ (dif_pos (by omega)).symm
    exact row_block5 m c t r j R _ hR (by show 7680 + (512 + (j : ℕ)) = 8192 + j; omega)

/-- The first tile at an index. -/
theorem first_at (t : Fin cfg0.N) (r : Fin 256) (n : Fin 1024) (R : Fin 16384) (N : Fin 1024) (hR : (R : ℕ) = t.val * 256 + r) (hN : (N : ℕ) = n) :
    (outsAt0 m c t).1 (ix2 r n) = mixed (rows m c) (gain m c) (shift m c) (matrices m c) (shifts m c) (out0 m c) (out1 m c) (out2 m c) (log0 m c) (log1 m c) (log2 m c) (weightsA m c) (weightsO m c) (weightsB m c) (token m c) R N := by
  obtain rfl : N = n := Fin.ext hN
  rw [first_tile, finish_at, token_block m c t r N R hR]
  unfold mixed merged
  refine congrArg (_ + ·) (Finset.sum_congr rfl fun k _ => congrArg₂ (· * ·) ?_ (weightsO_block m c t k N))
  rw [mergedTile_at, gatedProduct_at, gateA_tile m c t r k R hR, gateB_tile m c t r k R hR]
  refine congrArg₂ (· + ·) (congrArg (_ * ·) (Finset.sum_congr rfl fun j _ => ?_)) (congrArg (_ * ·) (Finset.sum_congr rfl fun j _ => ?_))
  · exact congrArg₂ (· * ·) (gated_tile m c t r j R hR) (weightsA_block m c t j k)
  · exact congrArg₂ (· * ·) (attended_tile m c t r j R hR) (weightsB_block m c t j k)

/-- The array of the first result. -/
theorem final20_at : (dats m 0 c).arrAt 20 (cfgs 0).N = fun i => mixed (rows m c) (gain m c) (shift m c) (matrices m c) (shifts m c) (out0 m c) (out1 m c) (out2 m c) (log0 m c) (log1 m c) (log2 m c) (weightsA m c) (weightsO m c) (weightsB m c) (token m c) (i 0 : Fin 16384) (i 1 : Fin 1024) := by
  refine (dats m 0 c).arrAt_eq_of_covers 20 _ (by decide +kernel) fun t _ y => ?_
  blk_simp
  rw [after0_20]
  refine Eq.trans ?_ (first_at m c t (y 0) (y 1) _ _ ?_ ?_)
  · exact congrArg _ (eq_ix2 y)
  · blk_simp [idx t]
  · blk_simp [idx t]

/-- The array of the second result. -/
theorem final21_at : (dats m 0 c).arrAt 21 (cfgs 0).N = fun i => standardised (rows m c) (gain m c) (shift m c) (i 0 : Fin 16384) (i 1 : Fin 1024) := by
  refine (dats m 0 c).arrAt_eq_of_covers 21 _ (by decide +kernel) fun t _ y => ?_
  blk_simp
  rw [after0_21]
  refine Eq.trans ?_ (second_at m c t (y 0) (y 1) _ _ ?_ ?_)
  · exact congrArg _ (eq_ix2 y)
  · blk_simp [idx t]
  · blk_simp [idx t]

end Cert.MixIdeal.Value
-- ==== Proof.Gated.lean ====
/-
The plain mixing, its two results at an index.
-/
module

public import proofs.«01_k».proof.Proof.Gen.MixedIdeal.Run
public import proofs.«01_k».proof.Proof.Gate
public import Idealize.ShloMosaic.Lib.Pointwise

@[expose] public section

set_option maxRecDepth 16384

noncomputable section

namespace Cert.MixedIdeal.Value

open Idealize.ShloMosaic Idealize.ShloMosaic.TcCoe Idealize.SL.Sem
open Cert.MixedIdeal Cert.MixedIdeal.Gen
open Cert.Gate

section
variable (t : FVec Ideal S4x4096x1024 .f32)

/-- A number at every entry. -/
def everywhere (b : BitVec 32) : FVec Ideal S4x4096x1024 .f32 := broadcastInDim S4x4096x1024 ![] bcast_S_S4x4096x1024 (constant S_ .f32 b)

/-- The rectifier. -/
def geluArray : FVec Ideal S4x4096x1024 .f32 :=
  mulf t (mulf (everywhere 0x3F000000#32) (addf (everywhere 0x3F800000#32) (Host.tanh (mulf (everywhere 0x3F4C422A#32) (addf t (mulf (everywhere 0x3D372713#32) (mulf (mulf t t) t)))))))

theorem geluArray_at (i : Fin 4) (p : Fin 4096) (k : Fin 1024) : geluArray t (ix3 i p k) = gelu (t (ix3 i p k)) := by
  pointwise [geluArray, everywhere]
  unfold gelu
  rw [mul_comm (t (ix3 i p k)) (t (ix3 i p k) * t (ix3 i p k))]

/-- A mean of each row's sums. -/
def meanOf : FVec Ideal S4x4096x1 .f32 :=
  Host.divf (broadcastInDim S4x4096x1 ![0, 1] bcast_S4x4096_S4x4096x1_0_1 (Host.reduceAdd t (constant S_ .f32 0x00000000#32) reducesTo_S4x4096x1024_S4x4096_d2 h_S_)) (broadcastInDim S4x4096x1 ![] bcast_S_S4x4096x1 (constant S_ .f32 0x44800000#32))

theorem meanOf_at (i : Fin 4) (p : Fin 4096) (o : Fin 1) : meanOf t (ix3 i p o) = Ideal.div (∑ l, t (ix3 i p l)) (Ideal.ofBits .f32 0x44800000#32) := by
  pointwise [meanOf]

/-- Each row less its mean. -/
def centredArray : FVec Ideal S4x4096x1024 .f32 := subf t (broadcastInDim S4x4096x1024 ![0, 1, 2] bcast_S4x4096x1_S4x4096x1024_0_1_2 (meanOf t))

theorem centredArray_at (i : Fin 4) (p : Fin 4096) (k : Fin 1024) : centredArray t (ix3 i p k) = t (ix3 i p k) - Ideal.div (∑ l, t (ix3 i p l)) (Ideal.ofBits .f32 0x44800000#32) := by
  pointwise [centredArray]
  rw [meanOf_at]

/-- A row of numbers for every token. -/
def everyToken (g : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 g)

theorem everyToken_at (g : FVec Ideal S1024 .f32) (i : Fin 4) (p : Fin 4096) (k : Fin 1024) : everyToken g (ix3 i p k) = g (ix1 k) := by
  pointwise [everyToken]

/-- The rows standardised. -/
def standardArray (g b : FVec Ideal S1024 .f32) : FVec Ideal S4x4096x1024 .f32 :=
  addf (mulf (mulf (centredArray t) (broadcastInDim S4x4096x1024 ![0, 1, 2] bcast_S4x4096x1_S4x4096x1024_0_1_2 (Host.rsqrt (addf (meanOf (mulf (centredArray t) (centredArray t))) (broadcastInDim S4x4096x1 ![] bcast_S_S4x4096x1 (constant S_ .f32 0x358637BD#32)))))) (everyToken g)) (everyToken b)

theorem standardArray_at (g b : FVec Ideal S1024 .f32) (v : Fin 1024 → EReal) (i : Fin 4) (p : Fin 4096) (h : ∀ l, t (ix3 i p l) = gelu (v l)) (k : Fin 1024) :
    standardArray t g b (ix3 i p k) = standard v (fun l => g (ix1 l)) (fun l => b (ix1 l)) k := by
  have e : ∀ l, centredArray t (ix3 i p l) = centred v l := by
    intro l
    rw [centredArray_at, h]
    exact congrArg (fun s => _ - Ideal.div s _) (Finset.sum_congr rfl fun l _ => h l)
  pointwise [standardArray]
  rw [meanOf_at, everyToken_at, everyToken_at, e]
  unfold standard
  have e2 : (∑ l, mulf (centredArray t) (centredArray t) (ix3 i p l)) = ∑ l, centred v l * centred v l :=
    Finset.sum_congr rfl fun l _ => congrArg₂ (· * ·) (e l) (e l)
  rw [e2]

/-- The logistic function. -/
def sigmoidArray : FVec Ideal S4x4096x1024 .f32 := Host.divf (everywhere 0x3F800000#32) (addf (everywhere 0x3F800000#32) (Host.exp (Host.negf t)))

theorem sigmoidArray_at (i : Fin 4) (p : Fin 4096) (k : Fin 1024) : sigmoidArray t (ix3 i p k) = sigmoid (t (ix3 i p k)) := by
  pointwise [sigmoidArray, everywhere]
  rfl
end

section
variable (z : FVec Ideal S16384x8704 .f32)

/-- The projected tokens as four sequences. -/
def sequences : FVec Ideal S4x4096x8704 .f32 := shapeCast S4x4096x8704 z shapeCasts_S16384x8704_S4x4096x8704

/-- 1024 of their columns. -/
def columnsFrom (o : ℕ) (sl : S4x4096x8704.Slices ![0, 0, o] S4x4096x1024) : FVec Ideal S4x4096x1024 .f32 := extractStridedSlice S4x4096x1024 ![0, 0, o] (sequences z) sl

theorem columnsFrom_at (o : ℕ) (sl : S4x4096x8704.Slices ![0, 0, o] S4x4096x1024) (i : Fin 4) (p : Fin 4096) (k : Fin 1024) (R : Fin 16384) (n : Fin 8704) (hR : (R : ℕ) = i * 4096 + p) (hn : (n : ℕ) = o + k) :
    columnsFrom z o sl (ix3 i p k) = z (ix2 R n) := by
  pointwise [columnsFrom, sequences]
  congr 1
  refine (ix2_inj ..).2 ⟨Fin.ext ?_, Fin.ext ?_⟩ <;> simp only [hR, hn] <;> omega
end

section
variable (ws : FVec Ideal S8x128x128 .f32) (bs : FVec Ideal S8x128 .f32)

/-- The groups' matrices with the entries above the diagonal cleared. -/
def lower : FVec Ideal S8x128x128 .f32 :=
  mulf ws (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

theorem below_diagonal : ∀ i j : Fin 128, IntOp.cmpi CmpIPredicate.sge (IntOp.addi (BitVec.ofNat 32 i.val) 0#32) (BitVec.ofNat 32 j.val) = if j.val ≤ i.val then 1#1 else 0#1 := by
  decide +kernel

theorem lower_at (e : Fin 8) (i j : Fin 128) : lower ws (ix3 e i j) = if j.val ≤ i.val then ws (ix3 e i j) else 0 := by
  have h : ∀ a b : EReal, Scalar.select (IntOp.cmpi CmpIPredicate.sge (IntOp.addi (BitVec.ofNat 32 i.val) 0#32) (BitVec.ofNat 32 j.val)) a b = if j.val ≤ i.val then a else b := by
    intro a b
    rw [below_diagonal]
    split_ifs <;> rfl
  pointwise [lower]
  exact h _ _

/-- The chunks' rows, weighted. -/
def spatialArray (t : FVec Ideal S4x4096x1024 .f32) : FVec Ideal S4x4096x1024 .f32 :=
  shapeCast S4x4096x1024 (addf (transpose S4x32x128x8x128 [1, 2, 4, 0, 3] (Host.dotGeneral dot_S4x32x128x8x128_S8x128x128_S8x4x32x128x128_2_2_014_1_3_0 none (shapeCast S4x32x128x8x128 t shapeCasts_S4x4096x1024_S4x32x128x8x128) (lower ws)) transposes_S8x4x32x128x128_S4x32x128x8x128_1_2_4_0_3) (broadcastInDim S4x32x128x8x128 ![0, 1, 2, 3, 4] bcast_S1x1x128x8x1_S4x32x128x8x128_0_1_2_3_4 (broadcastInDim S1x1x128x8x1 ![2, 3] bcast_S128x8_S1x1x128x8x1_2_3 (transpose S128x8 [1, 0] bs transposes_S8x128_S128x8_1_0)))) shapeCasts_S4x32x128x8x128_S4x4096x1024

theorem spatialArray_at (t : FVec Ideal S4x4096x1024 .f32) (i : Fin 4) (p : Fin 4096) (k : Fin 1024) :
    spatialArray ws bs t (ix3 i p k) = spatial (fun j => ws (ix3 ⟨k / 128, by omega⟩ ⟨p % 128, by omega⟩ j)) (fun j => t (ix3 i ⟨p / 128 * 128 + j, by omega⟩ k)) (p % 128) + bs (ix2 ⟨k / 128, by omega⟩ ⟨p % 128, by omega⟩) := by
  pointwise [spatialArray]
  refine congrArg (· + _) (Finset.sum_congr rfl fun j _ => ?_)
  rw [lower_at, mul_comm]
end

end Cert.MixedIdeal.Value
-- ==== Proof.Stacked.lean ====
/-
The plain mixing's attention branch: the three groups' outputs, weighted.
-/
module

public import proofs.«01_k».proof.Proof.Gen.MixedIdeal.Run
public import proofs.«01_k».proof.Proof.Gate
public import Idealize.ShloMosaic.Lib.Pointwise

@[expose] public section

set_option maxRecDepth 16384

noncomputable section

namespace Cert.MixedIdeal.Value

open Idealize.ShloMosaic Idealize.ShloMosaic.TcCoe Idealize.SL.Sem
open Cert.MixedIdeal Cert.MixedIdeal.Gen
open Cert.Gate

section
variable (a0 a1 a2 : FVec Ideal S16384x512 .f32)

/-- Three arrays, stacked. -/
def stacked : FVec Ideal S3x16384x512 .f32 :=
  concatenate S3x16384x512 0 [⟨S1x16384x512, (broadcastInDim S1x16384x512 ![1, 2] bcast_S16384x512_S1x16384x512_1_2 a0)⟩, ⟨S1x16384x512, (broadcastInDim S1x16384x512 ![1, 2] bcast_S16384x512_S1x16384x512_1_2 a1)⟩, ⟨S1x16384x512, (broadcastInDim S1x16384x512 ![1, 2] bcast_S16384x512_S1x16384x512_1_2 a2)⟩] concatenates_S1x16384x512_S1x16384x512_S1x16384x512_S3x16384x512_d0

theorem stacked_at0 (R : Fin 16384) (k : Fin 512) : stacked a0 a1 a2 (ix3 0 R k) = a0 (ix2 R k) := by
  pointwise [stacked]

theorem stacked_at1 (R : Fin 16384) (k : Fin 512) : stacked a0 a1 a2 (ix3 1 R k) = a1 (ix2 R k) := by
  pointwise [stacked]

theorem stacked_at2 (R : Fin 16384) (k : Fin 512) : stacked a0 a1 a2 (ix3 2 R k) = a2 (ix2 R k) := by
  pointwise [stacked]

end

end Cert.MixedIdeal.Value
-- ==== Proof.Largest.lean ====
/-
The plain mixing's weights of the three groups' outputs.
-/
module

public import proofs.«01_k».proof.Proof.Gen.MixedIdeal.Run
public import proofs.«01_k».proof.Proof.Gate
public import Idealize.ShloMosaic.Lib.Pointwise

@[expose] public section

set_option maxRecDepth 16384

noncomputable section

namespace Cert.MixedIdeal.Value

open Idealize.ShloMosaic Idealize.ShloMosaic.TcCoe Idealize.SL.Sem
open Cert.MixedIdeal Cert.MixedIdeal.Gen
open Cert.Gate

section
variable (s v : FVec Ideal S3x16384x512 .f32)

/-- The largest of the three. -/
def largest : FVec Ideal S16384x512 .f32 := Host.reduce FloatOps.maximumf s (constant S_ .f32 0xFF800000#32) reducesTo_S3x16384x512_S16384x512_d0 h_S_

theorem largest_at (R : Fin 16384) (k : Fin 512) : largest s (ix2 R k) = Finset.univ.fold max (Ideal.ofBits .f32 0xFF800000#32) fun e : Fin 3 => s (ix3 e R k) := by
  pointwise [largest]

theorem bottom : Ideal.ofBits .f32 0xFF800000#32 = ⊥ := by simp [Ideal.ofBits, Ideal.ieee]

theorem fold_three (f : Fin 3 → EReal) : Finset.univ.fold max ⊥ f = max (max (f 0) (f 1)) (f 2) := by
  have hu : (Finset.univ : Finset (Fin 3)) = {0, 1, 2} := by decide
  rw [hu, Finset.fold_insert (by decide), Finset.fold_insert (by decide), Finset.fold_singleton, max_eq_left bot_le, max_assoc]

theorem largest_three (R : Fin 16384) (k : Fin 512) : largest s (ix2 R k) = max (max (s (ix3 0 R k)) (s (ix3 1 R k))) (s (ix3 2 R k)) := by
  rw [largest_at, bottom, fold_three]

/-- The largest of the three, and `⊥`. -/
def greatestOf (u : FVec Ideal S16384x512 .f32) : FVec Ideal S16384x512 .f32 := maximumf (broadcastInDim S16384x512 ![] bcast_S_S16384x512 (constant S_ .f32 0xFF800000#32)) u

theorem greatestOf_at (u : FVec Ideal S16384x512 .f32) (R : Fin 16384) (k : Fin 512) : greatestOf u (ix2 R k) = max (Ideal.ofBits .f32 0xFF800000#32) (u (ix2 R k)) := by
  pointwise [greatestOf]

/-- The exponentials of the entries less another array's. -/
def lowered (u : FVec Ideal S16384x512 .f32) : FVec Ideal S3x16384x512 .f32 :=
  Host.exp (subf s (broadcastInDim S3x16384x512 ![0, 1, 2] bcast_S1x16384x512_S3x16384x512_0_1_2 (broadcastInDim S1x16384x512 ![1, 2] bcast_S16384x512_S1x16384x512_1_2 u)))

theorem lowered_at (u : FVec Ideal S16384x512 .f32) (e : Fin 3) (R : Fin 16384) (k : Fin 512) : lowered s u (ix3 e R k) = Ideal.exp (s (ix3 e R k) - u (ix2 R k)) := by
  pointwise [lowered]

/-- The exponentials of the entries less the largest of the three. -/
def raised : FVec Ideal S3x16384x512 .f32 := lowered s (greatestOf (largest s))

theorem raised_at (e : Fin 3) (R : Fin 16384) (k : Fin 512) :
    raised s (ix3 e R k) = Ideal.exp (s (ix3 e R k) - max (max (s (ix3 0 R k)) (s (ix3 1 R k))) (s (ix3 2 R k))) := by
  unfold raised
  rw [lowered_at, greatestOf_at, bottom, max_eq_right bot_le, largest_three]

/-- The sum of the three. -/
def summed (w : FVec Ideal S3x16384x512 .f32) : FVec Ideal S16384x512 .f32 := Host.reduceAdd w (constant S_ .f32 0x00000000#32) reducesTo_S3x16384x512_S16384x512_d0 h_S_

theorem summed_at (w : FVec Ideal S3x16384x512 .f32) (R : Fin 16384) (k : Fin 512) : summed w (ix2 R k) = w (ix3 0 R k) + w (ix3 1 R k) + w (ix3 2 R k) := by
  refine Eq.trans ?_ (Fin.sum_univ_three fun e => w (ix3 e R k))
  pointwise [summed]

/-- The entries times the shares of the total. -/
def shared (w : FVec Ideal S3x16384x512 .f32) (d : FVec Ideal S16384x512 .f32) : FVec Ideal S3x16384x512 .f32 :=
  mulf (Host.divf w (broadcastInDim S3x16384x512 ![0, 1, 2] bcast_S1x16384x512_S3x16384x512_0_1_2 (broadcastInDim S1x16384x512 ![1, 2] bcast_S16384x512_S1x16384x512_1_2 d))) v

theorem shared_at (w : FVec Ideal S3x16384x512 .f32) (d : FVec Ideal S16384x512 .f32) (e : Fin 3) (R : Fin 16384) (k : Fin 512) :
    shared v w d (ix3 e R k) = Ideal.div (w (ix3 e R k)) (d (ix2 R k)) * v (ix3 e R k) := by
  pointwise [shared]

/-- The entries weighted by the exponentials. -/
def weightedArray : FVec Ideal S16384x512 .f32 := summed (shared v (raised s) (summed (raised s)))

theorem weightedArray_at (R : Fin 16384) (k : Fin 512) :
    weightedArray s v (ix2 R k) = weighted (s (ix3 0 R k)) (s (ix3 1 R k)) (s (ix3 2 R k)) (v (ix3 0 R k)) (v (ix3 1 R k)) (v (ix3 2 R k)) := by
  unfold weightedArray
  rw [summed_at, shared_at, shared_at, shared_at, summed_at, raised_at, raised_at, raised_at]
  rfl
end

end Cert.MixedIdeal.Value
-- ==== Proof.Mixed.lean ====
/-
The plain mixing's two results at an index.
-/
module

public import proofs.«01_k».proof.Proof.Gen.MixedIdeal.Run
public import proofs.«01_k».proof.Proof.Gated
public import proofs.«01_k».proof.Proof.Stacked
public import proofs.«01_k».proof.Proof.Largest
public import Idealize.ShloMosaic.Lib.Pointwise

@[expose] public section

set_option maxRecDepth 16384

noncomputable section

namespace Cert.MixedIdeal.Value

open Idealize.ShloMosaic Idealize.ShloMosaic.TcCoe Idealize.SL.Sem
open Cert.MixedIdeal Cert.MixedIdeal.Gen
open Cert.Gate

section
variable (z : FVec Ideal S16384x8704 .f32) (g b : FVec Ideal S1024 .f32)

/-- The second half's columns, standardised. -/
def standardColumns : FVec Ideal S4x4096x1024 .f32 := standardArray (geluArray (columnsFrom z 1024 slices_S4x4096x8704_S4x4096x1024_0_0_1024)) g b

theorem standardColumns_at (i : Fin 4) (p : Fin 4096) (k : Fin 1024) (R : Fin 16384) (hR : (R : ℕ) = i * 4096 + p) : standardColumns z g b (ix3 i p k) = standardised z g b R k := by
  unfold standardColumns standardised
  exact standardArray_at _ g b _ i p (fun l => (geluArray_at _ i p l).trans (congrArg gelu (columnsFrom_at z 1024 _ i p l R _ hR rfl))) k

variable (ws : FVec Ideal S8x128x128 .f32) (bs : FVec Ideal S8x128 .f32)

/-- The gated branch. -/
def gatedColumns : FVec Ideal S4x4096x1024 .f32 := mulf (geluArray (columnsFrom z 0 slices_S4x4096x8704_S4x4096x1024_0_0_0)) (spatialArray ws bs (standardColumns z g b))

theorem gatedColumns_at (i : Fin 4) (p : Fin 4096) (k : Fin 1024) (R : Fin 16384) (hR : (R : ℕ) = i * 4096 + p) : gatedColumns z g b ws bs (ix3 i p k) = gated z g b ws bs R k := by
  have hp : (p : ℕ) < 4096 := p.isLt
  have hRl : (R : ℕ) < 16384 := R.isLt
  have e1 : (R : ℕ) % 128 = p % 128 := by omega
  have e3 : (⟨(R : ℕ) % 128, by omega⟩ : Fin 128) = ⟨(p : ℕ) % 128, by omega⟩ := Fin.ext e1
  unfold gated
  rw [e3, e1]
  refine congrArg₂ (· * ·) ((geluArray_at _ i p k).trans (congrArg gelu (columnsFrom_at z 0 _ i p k R _ hR (by show (k : ℕ) = 0 + k; omega)))) ?_
  rw [spatialArray_at]
  refine congrArg (fun v => spatial _ v _ + _) (funext fun j => ?_)
  exact standardColumns_at z g b i _ k _ (by show (R : ℕ) / 128 * 128 + j = i * 4096 + ((p : ℕ) / 128 * 128 + j); omega)
end

section
variable (a0 a1 a2 l0 l1 l2 : FVec Ideal S16384x512 .f32)

/-- The attention branch. -/
def attendedColumns : FVec Ideal S4x4096x512 .f32 := shapeCast S4x4096x512 (weightedArray (stacked l0 l1 l2) (stacked a0 a1 a2)) shapeCasts_S16384x512_S4x4096x512

theorem attendedColumns_at (i : Fin 4) (p : Fin 4096) (k : Fin 512) (R : Fin 16384) (hR : (R : ℕ) = i * 4096 + p) : attendedColumns a0 a1 a2 l0 l1 l2 (ix3 i p k) = attended a0 a1 a2 l0 l1 l2 R k := by
  have e : attendedColumns a0 a1 a2 l0 l1 l2 (ix3 i p k) = weightedArray (stacked l0 l1 l2) (stacked a0 a1 a2) (ix2 R k) := by
    pointwise [attendedColumns]
    congr 1
    refine (ix2_inj ..).2 ⟨Fin.ext ?_, Fin.ext ?_⟩ <;> simp only [hR] <;> omega
  rw [e, weightedArray_at]
  simp only [stacked_at0, stacked_at1, stacked_at2]
  rfl
end

/-- A product over 1024 columns. -/
def productOf (t : FVec Ideal S4x4096x1024 .f32) (w : FVec Ideal S1024x1024 .f32) : FVec Ideal S4x4096x1024 .f32 := Host.dotGeneral dot_S4x4096x1024_S1024x1024_S4x4096x1024_2_0_01_1_n_n none t w

theorem productOf_at (t : FVec Ideal S4x4096x1024 .f32) (w : FVec Ideal S1024x1024 .f32) (i : Fin 4) (p : Fin 4096) (n : Fin 1024) : productOf t w (ix3 i p n) = ∑ k, t (ix3 i p k) * w (ix2 k n) := by
  pointwise [productOf]

/-- A product over 512 columns. -/
def productOf512 (t : FVec Ideal S4x4096x512 .f32) (w : FVec Ideal S512x1024 .f32) : FVec Ideal S4x4096x1024 .f32 := Host.dotGeneral dot_S4x4096x512_S512x1024_S4x4096x1024_2_0_01_1_n_n none t w

theorem productOf512_at (t : FVec Ideal S4x4096x512 .f32) (w : FVec Ideal S512x1024 .f32) (i : Fin 4) (p : Fin 4096) (n : Fin 1024) : productOf512 t w (ix3 i p n) = ∑ k, t (ix3 i p k) * w (ix2 k n) := by
  pointwise [productOf512]

section
variable (z : FVec Ideal S16384x8704 .f32) (g b : FVec Ideal S1024 .f32) (ws : FVec Ideal S8x128x128 .f32) (bs : FVec Ideal S8x128 .f32) (a0 a1 a2 l0 l1 l2 : FVec Ideal S16384x512 .f32)
  (wa : FVec Ideal S1024x1024 .f32) (wb : FVec Ideal S512x1024 .f32) (wo : FVec Ideal S1024x1024 .f32) (x : FVec Ideal S16384x1024 .f32)

/-- The two projections, each times its gate. -/
def mergedColumns : FVec Ideal S4x4096x1024 .f32 :=
  addf (mulf (sigmoidArray (columnsFrom z 6656 slices_S4x4096x8704_S4x4096x1024_0_0_6656)) (productOf (gatedColumns z g b ws bs) wa))
    (mulf (sigmoidArray (columnsFrom z 7680 slices_S4x4096x8704_S4x4096x1024_0_0_7680)) (productOf512 (attendedColumns a0 a1 a2 l0 l1 l2) wb))

theorem mergedColumns_at (i : Fin 4) (p : Fin 4096) (n : Fin 1024) (R : Fin 16384) (hR : (R : ℕ) = i * 4096 + p) :
    mergedColumns z g b ws bs a0 a1 a2 l0 l1 l2 wa wb (ix3 i p n) = merged z g b ws bs a0 a1 a2 l0 l1 l2 wa wb R n := by
  unfold merged
  refine congrArg₂ (· + ·) (congrArg₂ (· * ·) ?_ ?_) (congrArg₂ (· * ·) ?_ ?_)
  · exact (sigmoidArray_at _ i p n).trans (congrArg sigmoid (columnsFrom_at z 6656 _ i p n R _ hR rfl))
  · rw [productOf_at]
    exact Finset.sum_congr rfl fun k _ => congrArg (· * _) (gatedColumns_at z g b ws bs i p k R hR)
  · exact (sigmoidArray_at _ i p n).trans (congrArg sigmoid (columnsFrom_at z 7680 _ i p n R _ hR rfl))
  · rw [productOf512_at]
    exact Finset.sum_congr rfl fun k _ => by rw [attendedColumns_at a0 a1 a2 l0 l1 l2 i p k R hR]

/-- The tokens plus the merged branches' projection. -/
def mixedRows : FVec Ideal S4x4096x1024 .f32 :=
  addf (shapeCast S4x4096x1024 x shapeCasts_S16384x1024_S4x4096x1024) (productOf (mergedColumns z g b ws bs a0 a1 a2 l0 l1 l2 wa wb) wo)

theorem rows_at (i : Fin 4) (p : Fin 4096) (n : Fin 1024) (R : Fin 16384) (hR : (R : ℕ) = i * 4096 + p) :
    shapeCast S4x4096x1024 x shapeCasts_S16384x1024_S4x4096x1024 (ix3 i p n) = x (ix2 R n) := by
  pointwise
  congr 1
  refine (ix2_inj ..).2 ⟨Fin.ext ?_, Fin.ext ?_⟩ <;> simp only [hR] <;> omega

theorem mixedRows_at (i : Fin 4) (p : Fin 4096) (n : Fin 1024) (R : Fin 16384) (hR : (R : ℕ) = i * 4096 + p) :
    mixedRows z g b ws bs a0 a1 a2 l0 l1 l2 wa wb wo x (ix3 i p n) = mixed z g b ws bs a0 a1 a2 l0 l1 l2 wa wo wb x R n := by
  unfold mixed
  refine congrArg₂ (· + ·) (rows_at x i p n R hR) ?_
  rw [productOf_at]
  exact Finset.sum_congr rfl fun k _ => congrArg (· * _) (mergedColumns_at z g b ws bs a0 a1 a2 l0 l1 l2 wa wb i p k R hR)
end

theorem rejoin_at (y : FVec Ideal S4x4096x1024 .f32) (R : Fin 16384) (n : Fin 1024) :
    shapeCast S16384x1024 y shapeCasts_S4x4096x1024_S16384x1024 (ix2 R n) = y (ix3 ⟨R / 4096, by omega⟩ ⟨R % 4096, by omega⟩ n) := by
  have hR : (R : ℕ) < 16384 := R.isLt
  pointwise

variable (m : (ℓ : Loc nD τ sig) → Buf (Elt Ideal) ℓ) (c : Dev nD)

theorem out1_eq : res_out1 (F := Ideal) m c = shapeCast S16384x1024 (standardColumns (m ((c.tc : Thread nD τ).loc main_arg0)) (m ((c.tc : Thread nD τ).loc main_arg8)) (m ((c.tc : Thread nD τ).loc main_arg9))) shapeCasts_S4x4096x1024_S16384x1024 := by
  unfold res_out1 res_main_v110 standardColumns standardArray centredArray meanOf everyToken geluArray everywhere columnsFrom sequences
  with_reducible_and_instances rfl

theorem out0_eq : res_out0 (F := Ideal) m c = shapeCast S16384x1024 (mixedRows (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg12)) (m ((c.tc : Thread nD τ).loc main_arg13)) (m ((c.tc : Thread nD τ).loc main_arg14)) (m ((c.tc : Thread nD τ).loc main_arg7))) shapeCasts_S4x4096x1024_S16384x1024 := by
  unfold res_out0 res_main_v109 mixedRows mergedColumns gatedColumns attendedColumns productOf productOf512 sigmoidArray spatialArray lower weightedArray summed shared raised lowered greatestOf largest stacked
    standardColumns standardArray centredArray meanOf everyToken geluArray everywhere columnsFrom sequences
  with_reducible_and_instances rfl

/-- The first result at an index. -/
theorem out0_at (R : Fin 16384) (n : Fin 1024) : res_out0 (F := Ideal) m c (ix2 R n) = mixed (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg12)) (m ((c.tc : Thread nD τ).loc main_arg14)) (m ((c.tc : Thread nD τ).loc main_arg13)) (m ((c.tc : Thread nD τ).loc main_arg7)) R n := by
  rw [out0_eq]
  exact (rejoin_at _ R n).trans (mixedRows_at _ _ _ _ _ _ _ _ _ _ _ _ _ _ _ _ _ n R (by show (R : ℕ) = R / 4096 * 4096 + R % 4096; omega))

/-- The second result at an index. -/
theorem out1_at (R : Fin 16384) (n : Fin 1024) : res_out1 (F := Ideal) m c (ix2 R n) = standardised (m ((c.tc : Thread nD τ).loc main_arg0)) (m ((c.tc : Thread nD τ).loc main_arg8)) (m ((c.tc : Thread nD τ).loc main_arg9)) R n := by
  rw [out1_eq]
  exact (rejoin_at _ R n).trans (standardColumns_at _ _ _ _ _ n R (by show (R : ℕ) = R / 4096 * 4096 + R % 4096; omega))

end Cert.MixedIdeal.Value
-- ==== Proof.SampleTokens.lean ====
/-
The tiles the projection of the sample stores, at an index, and what its scratch carries along a row of tiles: the normalised tokens.
-/
module

public import proofs.«01_k».proof.Proof.Gen.SampleProjectIdeal.Value
public import proofs.«01_k».proof.Proof.Rotary
public import Idealize.ShloMosaic.Lib.Pointwise
public import Idealize.ShloMosaic.Lib.Pipeline.ValueKit

@[expose] public section

set_option maxRecDepth 16384

noncomputable section

namespace Cert.SampleProjectIdeal.Value

open Idealize.ShloMosaic Idealize.ShloMosaic.TcCoe Idealize.SL.Sem
open Idealize.ShloMosaic.Pipeline (Dat)
open Cert.SampleProjectIdeal Cert.SampleProjectIdeal.Gen
open Cert.Rotary

theorem normed_at (x : Vec Ideal S128x1024 .f32) (g : Vec Ideal S1x1024 .f32) (r : Fin 128) (k : Fin 1024) :
    k0_pay1 (F := Ideal) x g (ix2 r k) = normed (fun l => x (ix2 r l)) (fun l => g (ix2 0 l)) k := by
  pointwise [k0_pay1]
  rfl

theorem product_at (h : Vec Ideal S128x1024 .bf16) (w : Vec Ideal S1024x512 .bf16) (r : Fin 128) (n : Fin 512) :
    k0_pay2 (F := Ideal) h w (ix2 r n) = ∑ k, h (ix2 r k) * w (ix2 k n) := by
  pointwise [k0_pay2]

/-- Whether a lane lies in the first half of its head. -/
def firstHalf (n : BitVec 32) : BitVec 1 :=
  let d : BitVec 32 := Scalar.select (Scalar.cmpi CmpIPredicate.eq 64#32 0#32) 1#32 64#32
  let r : BitVec 32 := IntOp.remsi ArithUnit.vector n d
  IntOp.cmpi CmpIPredicate.slt (Scalar.select (IntOp.andi (IntOp.xori (IntOp.cmpi CmpIPredicate.slt r 0#32) (Scalar.cmpi CmpIPredicate.slt d 0#32)) (IntOp.cmpi CmpIPredicate.ne r 0#32)) (IntOp.addi r d) r) 32#32

theorem firstHalf_eq : ∀ n : Fin 512, firstHalf (BitVec.ofNat 32 n.val) = if n.val % 64 < 32 then 1#1 else 0#1 := by
  decide +kernel

theorem turned_at (h : Vec Ideal S128x1024 .bf16) (w : Vec Ideal S1024x512 .bf16) (c s : Vec Ideal S128x512 .f32) (r : Fin 128) (n : Fin 512) :
    k0_pay3 (F := Ideal) h w c s (ix2 r n) = k0_pay2 (F := Ideal) h w (ix2 r n) * c (ix2 r n)
      + (if n.val % 64 < 32 then k0_pay2 (F := Ideal) h w (ix2 r ⟨(n + 512 - 480) % 512, Nat.mod_lt _ (by decide)⟩) else k0_pay2 (F := Ideal) h w (ix2 r ⟨(n + 512 - 32) % 512, Nat.mod_lt _ (by decide)⟩)) * s (ix2 r n) := by
  have e : ∀ a b : EReal, Scalar.select (firstHalf (BitVec.ofNat 32 n.val)) a b = if n.val % 64 < 32 then a else b := by
    intro a b
    rw [firstHalf_eq]
    split_ifs <;> rfl
  pointwise [k0_pay3]
  exact congrArg (fun z => _ + z * _) (e _ _)

variable (m : (ℓ : Loc nD τ sig) → Buf (Elt Ideal) ℓ) (c : Dev nD)

theorem idx : ∀ t : Fin cfg0.N, win0_0.index t = ![0, 0] ∧ win0_1.index t = ![0, 0] ∧ win0_2.index t = ![0, t.val % 17]
    ∧ win0_3.index t = ![0, 0] ∧ win0_4.index t = ![0, 0] ∧ win0_5.index t = ![0, t.val % 17] :=
  (by decide +kernel : ∀ t : Fin grid0.N, _)

theorem scratch_first (t : Fin cfg0.N) (h0 : t.val % 17 = 0) : (outsAt0 m c t.val t.isLt).2 = k0_pay1 (iblk m c 0 t) (iblk m c 1 t) := by
  rw [outsAt0_A m c t h0 (by omega) (by omega)]
  frame_out

theorem scratch_next (t : Fin cfg0.N) (h0 : ¬ t.val % 17 = 0) : (outsAt0 m c t.val t.isLt).2 = (outsAt0 m c (t.val - 1) (Nat.lt_of_le_of_lt (Nat.sub_le _ _) t.isLt)).2 := by
  by_cases h1 : 4 ≤ t.val % 17 ∧ t.val % 17 ≤ 9
  · rw [outsAt0_C m c t h0 h1 (not_not_intro h1)]
    rfl
  · rw [outsAt0_B m c t h0 h1 h1]
    rfl

theorem tile_first (t : Fin cfg0.N) (h0 : t.val % 17 = 0) : (outsAt0 m c t.val t.isLt).1 = k0_pay2 (outsAt0 m c t.val t.isLt).2 (iblk m c 2 t) := by
  rw [scratch_first m c t h0, outsAt0_A m c t h0 (by omega) (by omega)]
  frame_out

theorem tile_plain (t : Fin cfg0.N) (h0 : ¬ t.val % 17 = 0) (h1 : ¬(4 ≤ t.val % 17 ∧ t.val % 17 ≤ 9)) : (outsAt0 m c t.val t.isLt).1 = k0_pay2 (outsAt0 m c t.val t.isLt).2 (iblk m c 2 t) := by
  rw [scratch_next m c t h0, outsAt0_B m c t h0 h1 h1]
  frame_out
  exact congrArg (fun z => k0_pay2 z (iblk m c 2 t)) (Memref.IsWhole.read_unread _ _)

theorem tile_turned (t : Fin cfg0.N) (h1 : 4 ≤ t.val % 17 ∧ t.val % 17 ≤ 9) : (outsAt0 m c t.val t.isLt).1 = k0_pay3 (outsAt0 m c t.val t.isLt).2 (iblk m c 2 t) (iblk m c 3 t) (iblk m c 4 t) := by
  rw [scratch_next m c t (by omega), outsAt0_C m c t (by omega) h1 (not_not_intro h1)]
  frame_out
  exact congrArg (fun z => k0_pay3 z (iblk m c 2 t) (iblk m c 3 t) (iblk m c 4 t)) (Memref.IsWhole.read_unread _ _)

theorem cos_at (p : Fin 128) (n : Fin 512) :
    (V m c main_v26 : FVec Ideal S128x512 .f32) (ix2 p n) = if n.val % 64 < 32 then Ideal.cos (angle (16384 + p % 4) (n % 64)) else Ideal.cos (angle (16384 + p % 4) (n % 64 - 32)) := by
  entry_read
  pointwise
  simp only [later]
  rfl

theorem sin_at (p : Fin 128) (n : Fin 512) :
    (V m c main_v29 : FVec Ideal S128x512 .f32) (ix2 p n) = if n.val % 64 < 32 then -Ideal.sin (angle (16384 + p % 4) (n % 64)) else Ideal.sin (angle (16384 + p % 4) (n % 64 - 32)) := by
  entry_read
  pointwise
  simp only [later]
  rfl

theorem gain_at (k : Fin 1024) : (V m c main_v30 : FVec Ideal S1x1024 .f32) (ix2 0 k) = (m ((c : Thread nD τ).loc main_arg1) : FVec Ideal S1024 .f32) (ix1 k) := by
  entry_read
  pointwise

theorem weight_at (k : Fin 1024) (n : Fin 8704) : (V m c main_v31 : FVec Ideal S1024x8704 .bf16) (ix2 k n) = (m ((c : Thread nD τ).loc main_arg2) : FVec Ideal S1024x8704 .f32) (ix2 k n) := by
  entry_read
  pointwise

/-- The tokens. -/
abbrev tokens : FVec Ideal S128x1024 .f32 := m ((c : Thread nD τ).loc main_arg0)

/-- The gain of the normalisation. -/
abbrev gain (k : Fin 1024) : EReal := (m ((c : Thread nD τ).loc main_arg1) : FVec Ideal S1024 .f32) (ix1 k)

/-- The weights. -/
abbrev weights : FVec Ideal S1024x8704 .f32 := m ((c : Thread nD τ).loc main_arg2)

/-! The blocks the windows read. -/

theorem token_block (t : Fin cfg0.N) (r : Fin 128) (k : Fin 1024) (R : Fin 128) (hR : (R : ℕ) = r) :
    (iblk m c 0 t : Vec Ideal S128x1024 .f32) (ix2 r k) = tokens m c (ix2 R k) := by
  blk_ext [iblk, V, idx t]

theorem gain_block (t : Fin cfg0.N) (k : Fin 1024) : (iblk m c 1 t : Vec Ideal S1x1024 .f32) (ix2 0 k) = gain m c k := by
  rw [gain, ← gain_at m c k]
  blk_ext [iblk, idx t]

theorem weight_block (t : Fin cfg0.N) (k : Fin 1024) (n : Fin 512) (N : Fin 8704) (hN : (N : ℕ) = t.val % 17 * 512 + n) :
    (iblk m c 2 t : Vec Ideal S1024x512 .bf16) (ix2 k n) = weights m c (ix2 k N) := by
  refine Eq.trans ?_ (weight_at m c k N)
  blk_ext [iblk, idx t]

theorem cos_block (t : Fin cfg0.N) (r : Fin 128) (n : Fin 512) (p : Fin 128) (hp : (p : ℕ) = (r : ℕ)) :
    (iblk m c 3 t : Vec Ideal S128x512 .f32) (ix2 r n) = if n.val % 64 < 32 then Ideal.cos (angle (16384 + p % 4) (n % 64)) else Ideal.cos (angle (16384 + p % 4) (n % 64 - 32)) := by
  rw [← cos_at m c p n]
  blk_ext [iblk, idx t]

theorem sin_block (t : Fin cfg0.N) (r : Fin 128) (n : Fin 512) (p : Fin 128) (hp : (p : ℕ) = (r : ℕ)) :
    (iblk m c 4 t : Vec Ideal S128x512 .f32) (ix2 r n) = if n.val % 64 < 32 then -Ideal.sin (angle (16384 + p % 4) (n % 64)) else Ideal.sin (angle (16384 + p % 4) (n % 64 - 32)) := by
  rw [← sin_at m c p n]
  blk_ext [iblk, idx t]

/-- What the scratch carries: the block's tokens, normalised. -/
theorem carried : ∀ (n : ℕ) (hn : n < cfg0.N) (r : Fin 128) (k : Fin 1024) (R : Fin 128), (R : ℕ) = r →
    (outsAt0 m c n hn).2 (ix2 r k) = normed (rowOf (tokens m c) R) (gain m c) k := by
  intro n
  induction n with
  | zero =>
    intro hn r k R hR
    rw [scratch_first m c ⟨0, hn⟩ rfl, normed_at]
    refine congrArg₂ (fun u v => normed u v k) (funext fun l => token_block m c _ r l R hR) (funext fun l => gain_block m c _ l)
  | succ n ih =>
    intro hn r k R hR
    by_cases h0 : (n + 1) % 17 = 0
    · rw [scratch_first m c ⟨n + 1, hn⟩ h0, normed_at]
      refine congrArg₂ (fun u v => normed u v k) (funext fun l => token_block m c _ r l R hR) (funext fun l => gain_block m c _ l)
    · rw [scratch_next m c ⟨n + 1, hn⟩ h0]
      exact ih _ r k R (by omega)

theorem product_block (t : Fin cfg0.N) (r : Fin 128) (n : Fin 512) (R : Fin 128) (N : ℕ) (hR : (R : ℕ) = r) (hN : N = t.val % 17 * 512 + n) :
    k0_pay2 (F := Ideal) (outsAt0 m c t.val t.isLt).2 (iblk m c 2 t) (ix2 r n) = projected (rowOf (tokens m c) R) (gain m c) (columnOf (weights m c) N) := by
  have hlt : N < 8704 := by omega
  rw [product_at, columnOf_lt _ _ hlt]
  exact Finset.sum_congr rfl fun k _ => congrArg₂ (· * ·) (carried m c _ _ r k R hR) (weight_block m c t k n ⟨N, hlt⟩ hN)

/-- A stored tile at an index. -/
theorem tile_at (t : Fin cfg0.N) (r : Fin 128) (n : Fin 512) (R : Fin 128) (N : ℕ) (hR : (R : ℕ) = r) (hN : N = t.val % 17 * 512 + n) :
    (outsAt0 m c t.val t.isLt).1 (ix2 r n) = sampleEntry (tokens m c) (gain m c) (weights m c) R N := by
  unfold sampleEntry rotated
  by_cases h1 : 4 ≤ t.val % 17 ∧ t.val % 17 ≤ 9
  · rw [if_neg (by omega), tile_turned m c t h1, turned_at, product_block m c t r n R N hR hN,
      cos_block m c t r n R hR, sin_block m c t r n R hR]
    have e : N % 64 = n % 64 := by omega
    by_cases hd : (n : ℕ) % 64 < 32
    · rw [if_pos hd, if_pos hd, if_pos hd, if_pos (by omega), e, product_block m c t r _ R (N + 32) hR (by show _ = t.val % 17 * 512 + ((n : ℕ) + 512 - 480) % 512; omega), mul_neg, ← sub_eq_add_neg]
    · rw [if_neg hd, if_neg hd, if_neg hd, if_neg (by omega), e, product_block m c t r _ R (N - 32) hR (by show _ = t.val % 17 * 512 + ((n : ℕ) + 512 - 32) % 512; omega)]
  · rw [if_pos (by omega)]
    refine Eq.trans ?_ (product_block m c t r n R N hR hN)
    by_cases h0 : t.val % 17 = 0
    · rw [← tile_first m c t h0]
    · rw [← tile_plain m c t h0 h1]

/-- The array of the result. -/
theorem final5_at :
    (dats m 0 c).arrAt 5 (cfgs 0).N = fun i => sampleEntry (tokens m c) (gain m c) (weights m c) (i 0 : Fin 128) ((i 1 : Fin 8704) : ℕ) := by
  refine (dats m 0 c).arrAt_eq_of_covers 5 _ (by decide +kernel) fun t _ y => ?_
  blk_simp
  rw [after0_5]
  refine Eq.trans ?_ (tile_at m c t (y 0) (y 1) _ _ ?_ ?_)
  · exact congrArg _ (eq_ix2 y)
  · blk_simp [idx t]
  · blk_simp [idx t]

end Cert.SampleProjectIdeal.Value
-- ==== Proof.SampleProjected.lean ====
/-
The plain projection of the sample, its result at an index.
-/
module

public import proofs.«01_k».proof.Proof.Gen.SampleProjectedIdeal.Run
public import proofs.«01_k».proof.Proof.Rotary
public import Idealize.ShloMosaic.Lib.Pointwise

@[expose] public section

set_option maxRecDepth 16384

noncomputable section

namespace Cert.SampleProjectedIdeal.Value

open Idealize.ShloMosaic Idealize.ShloMosaic.TcCoe Idealize.SL.Sem
open Cert.SampleProjectedIdeal Cert.SampleProjectedIdeal.Gen
open Cert.Rotary

variable (x : FVec Ideal S128x1024 .f32) (g : FVec Ideal S1024 .f32) (w : FVec Ideal S1024x8704 .f32)

/-- The tokens as thirty-two sequences. -/
def tokens : FVec Ideal S32x4x1024 .f32 := shapeCast S32x4x1024 x shapeCasts_S128x1024_S32x4x1024

/-- The normalised tokens. -/
def rms : FVec Ideal S32x4x1024 .f32 :=
  mulf (mulf (tokens x) (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf (tokens x) (tokens x)) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))

/-- Their projection, before the rotation. -/
def columns : FVec Ideal S32x4x8704 .f32 := Host.dotGeneral dot_S32x4x1024_S1024x8704_S32x4x8704_2_0_01_1_n_n none (rms x g) w

/-- The angles by position and frequency. -/
def angles : FVec Ideal S4x32 .f32 := mulf (broadcastInDim S4x32 ![0, 1] bcast_S4x1_S4x32_0_1 (broadcastInDim S4x1 ![0] bcast_S4_S4x1_0 (sitofp .f32 (addi (broadcastInDim S4 ![] bcast_S_S4 (constantI S_ 32 16384#32)) (iotaInDim S4 32 0))))) (broadcastInDim S4x32 ![0, 1] bcast_S1x32_S4x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (mulf (sitofp .f32 (iotaInDim S32 32 0)) (broadcastInDim S32 ![] bcast_S_S32 (constant S_ .f32 0x3D000000#32)))))))

/-- A table of the angles, for every head. -/
def perHead (a : FVec Ideal S4x32 .f32) : FVec Ideal S32x4x3x8x32 .f32 :=
  broadcastInDim S32x4x3x8x32 ![0, 1, 2, 3, 4] bcast_S1x4x1x1x32_S32x4x3x8x32_0_1_2_3_4 (broadcastInDim S1x4x1x1x32 ![1, 4] bcast_S4x32_S1x4x1x1x32_1_4 a)

theorem tokens_at (b : Fin 32) (p : Fin 4) (k : Fin 1024) (R : Fin 128) (hR : (R : ℕ) = b * 4 + p) : tokens x (ix3 b p k) = x (ix2 R k) := by
  pointwise [tokens]
  congr 1
  refine (ix2_inj ..).2 ⟨Fin.ext ?_, Fin.ext ?_⟩ <;> simp only [hR] <;> omega

theorem rms_at (b : Fin 32) (p : Fin 4) (k : Fin 1024) : rms x g (ix3 b p k) = normed (fun l => tokens x (ix3 b p l)) (fun l => g (ix1 l)) k := by
  pointwise [rms]
  rfl

theorem columns_at (b : Fin 32) (p : Fin 4) (n : Fin 8704) : columns x g w (ix3 b p n) = ∑ k, rms x g (ix3 b p k) * w (ix2 k n) := by
  pointwise [columns]

theorem angles_at (p : Fin 4) (d : Fin 32) : angles (ix2 p d) = angle (16384 + p) d := by
  pointwise [angles]
  simp only [later]
  rfl

theorem perHead_at (a : FVec Ideal S4x32 .f32) (b : Fin 32) (p : Fin 4) (e : Fin 3) (h : Fin 8) (d : Fin 32) : perHead a (ix5 b p e h d) = a (ix2 p d) := by
  pointwise [perHead]

section
variable (y : FVec Ideal S32x4x8704 .f32)

/-- The columns of the queries, keys and values, by part, group, head and lane. -/
def parts : FVec Ideal S32x4x3x3x8x64 .f32 :=
  shapeCast S32x4x3x3x8x64 (extractStridedSlice S32x4x4608 ![0, 0, 2048] y slices_S32x4x8704_S32x4x4608_0_0_2048) shapeCasts_S32x4x4608_S32x4x3x3x8x64

theorem parts_at (b : Fin 32) (p : Fin 4) (a e : Fin 3) (h : Fin 8) (d : Fin 64) (n : Fin 8704) (hn : (n : ℕ) = 2048 + a * 1536 + e * 512 + h * 64 + d) :
    parts y (ix6 b p a e h d) = y (ix3 b p n) := by
  pointwise [parts]
  congr 1
  refine (ix3_inj ..).2 ⟨Fin.ext ?_, Fin.ext ?_, Fin.ext ?_⟩ <;> simp only [hn] <;> omega

/-- One of the three parts. -/
def part (a : ℕ) (sl : S32x4x3x3x8x64.Slices ![0, 0, a, 0, 0, 0] S32x4x1x3x8x64) : FVec Ideal S32x4x3x8x64 .f32 :=
  shapeCast S32x4x3x8x64 (extractStridedSlice S32x4x1x3x8x64 ![0, 0, a, 0, 0, 0] (parts y) sl) shapeCasts_S32x4x1x3x8x64_S32x4x3x8x64

theorem part_at (a : ℕ) (ha : a < 3) (sl : S32x4x3x3x8x64.Slices ![0, 0, a, 0, 0, 0] S32x4x1x3x8x64) (b : Fin 32) (p : Fin 4) (e : Fin 3) (h : Fin 8) (d : Fin 64) :
    part y a sl (ix5 b p e h d) = parts y (ix6 b p ⟨a, ha⟩ e h d) := by
  pointwise [part]

/-- A part, rotated. -/
def turned (z : FVec Ideal S32x4x3x8x64 .f32) : FVec Ideal S32x4x3x8x64 .f32 :=
  concatenate S32x4x3x8x64 4 [⟨S32x4x3x8x32, (subf (mulf (extractStridedSlice S32x4x3x8x32 ![0, 0, 0, 0, 0] z slices_S32x4x3x8x64_S32x4x3x8x32_0_0_0_0_0) (perHead (Host.cos angles))) (mulf (extractStridedSlice S32x4x3x8x32 ![0, 0, 0, 0, 32] z slices_S32x4x3x8x64_S32x4x3x8x32_0_0_0_0_32) (perHead (Host.sin angles))))⟩, ⟨S32x4x3x8x32, (addf (mulf (extractStridedSlice S32x4x3x8x32 ![0, 0, 0, 0, 32] z slices_S32x4x3x8x64_S32x4x3x8x32_0_0_0_0_32) (perHead (Host.cos angles))) (mulf (extractStridedSlice S32x4x3x8x32 ![0, 0, 0, 0, 0] z slices_S32x4x3x8x64_S32x4x3x8x32_0_0_0_0_0) (perHead (Host.sin angles))))⟩] concatenates_S32x4x3x8x32_S32x4x3x8x32_S32x4x3x8x64_d4

theorem turned_lo (z : FVec Ideal S32x4x3x8x64 .f32) (b : Fin 32) (p : Fin 4) (e : Fin 3) (h : Fin 8) (d d' : Fin 64) (f : Fin 32) (hd : (d : ℕ) = f) (hd' : (d' : ℕ) = f + 32) :
    turned z (ix5 b p e h d) = z (ix5 b p e h d) * Ideal.cos (angle (16384 + p) f) - z (ix5 b p e h d') * Ideal.sin (angle (16384 + p) f) := by
  obtain rfl : d = ⟨(f : ℕ), Nat.lt_of_lt_of_le f.isLt (by decide)⟩ := Fin.ext hd
  obtain rfl : d' = ⟨32 + (f : ℕ), Nat.add_lt_add_left f.isLt 32⟩ := Fin.ext (by simp only [hd']; omega)
  pointwise [turned]
  rw [perHead_at, perHead_at]
  pointwise
  rw [angles_at]

theorem turned_hi (z : FVec Ideal S32x4x3x8x64 .f32) (b : Fin 32) (p : Fin 4) (e : Fin 3) (h : Fin 8) (d d' : Fin 64) (f : Fin 32) (hd : (d : ℕ) = f + 32) (hd' : (d' : ℕ) = f) :
    turned z (ix5 b p e h d) = z (ix5 b p e h d) * Ideal.cos (angle (16384 + p) f) + z (ix5 b p e h d') * Ideal.sin (angle (16384 + p) f) := by
  obtain rfl : d' = ⟨(f : ℕ), Nat.lt_of_lt_of_le f.isLt (by decide)⟩ := Fin.ext hd'
  obtain rfl : d = ⟨32 + (f : ℕ), Nat.add_lt_add_left f.isLt 32⟩ := Fin.ext (by simp only [hd]; omega)
  pointwise [turned]
  rw [perHead_at, perHead_at]
  pointwise
  rw [angles_at]

/-- A part as columns. -/
def flat (z : FVec Ideal S32x4x3x8x64 .f32) : FVec Ideal S32x4x1536 .f32 := shapeCast S32x4x1536 z shapeCasts_S32x4x3x8x64_S32x4x1536

theorem flat_at (z : FVec Ideal S32x4x3x8x64 .f32) (b : Fin 32) (p : Fin 4) (j : Fin 1536) (e : Fin 3) (h : Fin 8) (d : Fin 64) (hj : (j : ℕ) = e * 512 + h * 64 + d) :
    flat z (ix3 b p j) = z (ix5 b p e h d) := by
  pointwise [flat]
  congr 1
  refine (ix5_inj ..).2 ⟨Fin.ext ?_, Fin.ext ?_, Fin.ext ?_, Fin.ext ?_, Fin.ext ?_⟩ <;> simp only [hj] <;> omega

/-- Five pieces side by side. -/
def sideBySide (u0 : FVec Ideal S32x4x2048 .f32) (u1 u2 u3 : FVec Ideal S32x4x1536 .f32) (u4 : FVec Ideal S32x4x2048 .f32) : FVec Ideal S32x4x8704 .f32 :=
  concatenate S32x4x8704 2 [⟨S32x4x2048, u0⟩, ⟨S32x4x1536, u1⟩, ⟨S32x4x1536, u2⟩, ⟨S32x4x1536, u3⟩, ⟨S32x4x2048, u4⟩] concatenates_S32x4x2048_S32x4x1536_S32x4x1536_S32x4x1536_S32x4x2048_S32x4x8704_d2

theorem sideBySide_at (T : ℕ → EReal) (u0 : FVec Ideal S32x4x2048 .f32) (u1 u2 u3 : FVec Ideal S32x4x1536 .f32) (u4 : FVec Ideal S32x4x2048 .f32) (b : Fin 32) (p : Fin 4)
    (h0 : ∀ j : Fin 2048, u0 (ix3 b p j) = T j) (h1 : ∀ j : Fin 1536, u1 (ix3 b p j) = T (2048 + j)) (h2 : ∀ j : Fin 1536, u2 (ix3 b p j) = T (3584 + j))
    (h3 : ∀ j : Fin 1536, u3 (ix3 b p j) = T (5120 + j)) (h4 : ∀ j : Fin 2048, u4 (ix3 b p j) = T (6656 + j)) (n : Fin 8704) :
    sideBySide u0 u1 u2 u3 u4 (ix3 b p n) = T n := by
  pointwise [sideBySide]
  simp only [h0, h1, h2, h3, h4]
  have hn : (n : ℕ) < 8704 := n.isLt
  split_ifs
  · rfl
  all_goals exact congrArg T (by omega)

/-- The columns after the rotation. -/
def joined : FVec Ideal S32x4x8704 .f32 :=
  sideBySide (extractStridedSlice S32x4x2048 ![0, 0, 0] y slices_S32x4x8704_S32x4x2048_0_0_0) (flat (turned (part y 0 slices_S32x4x3x3x8x64_S32x4x1x3x8x64_0_0_0_0_0_0))) (flat (turned (part y 1 slices_S32x4x3x3x8x64_S32x4x1x3x8x64_0_0_1_0_0_0))) (flat (part y 2 slices_S32x4x3x3x8x64_S32x4x1x3x8x64_0_0_2_0_0_0)) (extractStridedSlice S32x4x2048 ![0, 0, 6656] y slices_S32x4x8704_S32x4x2048_0_0_6656)

/-- A token's columns, as a function of the column's number. -/
def column (b : Fin 32) (p : Fin 4) (n : ℕ) : EReal := if h : n < 8704 then y (ix3 b p ⟨n, h⟩) else 0

theorem column_at (b : Fin 32) (p : Fin 4) (n : Fin 8704) (k : ℕ) (h : k = n) : y (ix3 b p n) = column y b p k := by
  subst h; simp only [column, dif_pos n.isLt]

theorem turned_part (a : ℕ) (ha : a < 2) (sl : S32x4x3x3x8x64.Slices ![0, 0, a, 0, 0, 0] S32x4x1x3x8x64) (b : Fin 32) (p : Fin 4) (j : Fin 1536) (n : ℕ) (hn : n = 2048 + a * 1536 + j) :
    flat (turned (part y a sl)) (ix3 b p j) = rotated (column y b p) (16384 + p) n := by
  have hj : (j : ℕ) < 1536 := j.isLt
  rw [flat_at _ b p j ⟨j / 512, by omega⟩ ⟨j % 512 / 64, by omega⟩ ⟨j % 64, by omega⟩ (by show (j : ℕ) = j / 512 * 512 + j % 512 / 64 * 64 + j % 64; omega)]
  unfold rotated
  rw [if_neg (by omega)]
  by_cases hd : (j : ℕ) % 64 < 32
  · rw [if_pos (by omega), turned_lo _ _ _ _ _ _ ⟨j % 64 + 32, by omega⟩ ⟨j % 64, hd⟩ rfl rfl,
      part_at y a (by omega), part_at y a (by omega), parts_at y b p _ _ _ _ ⟨2048 + a * 1536 + j, by omega⟩ (by show 2048 + a * 1536 + (j : ℕ) = 2048 + a * 1536 + j / 512 * 512 + j % 512 / 64 * 64 + j % 64; omega),
      parts_at y b p _ _ _ _ ⟨2048 + a * 1536 + j + 32, by omega⟩ (by show 2048 + a * 1536 + (j : ℕ) + 32 = 2048 + a * 1536 + j / 512 * 512 + j % 512 / 64 * 64 + (j % 64 + 32); omega),
      column_at y b p _ n hn, column_at y b p _ (n + 32) (by show _ = 2048 + a * 1536 + (j : ℕ) + 32; omega), show n % 64 = j % 64 by omega]
  · rw [if_neg (by omega), turned_hi _ _ _ _ _ _ ⟨j % 64 - 32, by omega⟩ ⟨j % 64 - 32, by omega⟩ (by show (j : ℕ) % 64 = j % 64 - 32 + 32; omega) rfl,
      part_at y a (by omega), part_at y a (by omega), parts_at y b p _ _ _ _ ⟨2048 + a * 1536 + j, by omega⟩ (by show 2048 + a * 1536 + (j : ℕ) = 2048 + a * 1536 + j / 512 * 512 + j % 512 / 64 * 64 + j % 64; omega),
      parts_at y b p _ _ _ _ ⟨2048 + a * 1536 + j - 32, by omega⟩ (by show 2048 + a * 1536 + (j : ℕ) - 32 = 2048 + a * 1536 + j / 512 * 512 + j % 512 / 64 * 64 + (j % 64 - 32); omega),
      column_at y b p _ n hn, column_at y b p _ (n - 32) (by show _ = 2048 + a * 1536 + (j : ℕ) - 32; omega), show n % 64 = j % 64 by omega]

theorem plain_part (sl : S32x4x3x3x8x64.Slices ![0, 0, 2, 0, 0, 0] S32x4x1x3x8x64) (b : Fin 32) (p : Fin 4) (j : Fin 1536) (n : ℕ) (hn : n = 5120 + j) :
    flat (part y 2 sl) (ix3 b p j) = column y b p n := by
  have hj : (j : ℕ) < 1536 := j.isLt
  rw [flat_at _ b p j ⟨j / 512, by omega⟩ ⟨j % 512 / 64, by omega⟩ ⟨j % 64, by omega⟩ (by show (j : ℕ) = j / 512 * 512 + j % 512 / 64 * 64 + j % 64; omega), part_at y 2 (by omega),
    parts_at y b p _ _ _ _ ⟨5120 + j, by omega⟩ (by show 5120 + (j : ℕ) = 2048 + 2 * 1536 + j / 512 * 512 + j % 512 / 64 * 64 + j % 64; omega), column_at y b p _ n hn]

theorem joined_at (b : Fin 32) (p : Fin 4) (n : Fin 8704) : joined y (ix3 b p n) = rotated (column y b p) (16384 + p) n := by
  unfold joined
  refine sideBySide_at (rotated (column y b p) (16384 + p)) _ _ _ _ _ b p (fun j => ?_) (fun j => turned_part y 0 (by omega) _ b p j _ rfl) (fun j => turned_part y 1 (by omega) _ b p j _ rfl)
    (fun j => ?_) (fun j => ?_) n
  · have hj : (j : ℕ) < 2048 := j.isLt
    pointwise
    rw [column_at y b p _ j rfl]; unfold rotated; rw [if_pos (by omega)]
  · rw [plain_part y _ b p j _ rfl]; unfold rotated; rw [if_pos (by omega)]
  · pointwise
    rw [column_at y b p _ (6656 + j) rfl]; unfold rotated; rw [if_pos (by omega)]

end

theorem rejoin_at (y : FVec Ideal S32x4x8704 .f32) (R : Fin 128) (n : Fin 8704) (b : Fin 32) (p : Fin 4) (hR : (R : ℕ) = b * 4 + p) :
    shapeCast S128x8704 y shapeCasts_S32x4x8704_S128x8704 (ix2 R n) = y (ix3 b p n) := by
  pointwise
  congr 1
  refine (ix3_inj ..).2 ⟨Fin.ext ?_, Fin.ext ?_, Fin.ext ?_⟩ <;> simp only [hR] <;> omega

theorem out0_eq (m : (ℓ : Loc nD τ sig) → Buf (Elt Ideal) ℓ) (c : Dev nD) :
    res_out0 (F := Ideal) m c = shapeCast S128x8704 (joined (columns (m ((c.tc : Thread nD τ).loc main_arg0)) (m ((c.tc : Thread nD τ).loc main_arg1)) (m ((c.tc : Thread nD τ).loc main_arg2)))) shapeCasts_S32x4x8704_S128x8704 := by
  unfold res_out0 res_main_v92 joined sideBySide flat turned part parts perHead angles columns rms tokens
  with_reducible_and_instances rfl

/-- The result of the plain projection at an index. -/
theorem out0_at (m : (ℓ : Loc nD τ sig) → Buf (Elt Ideal) ℓ) (c : Dev nD) (R : Fin 128) (n : Fin 8704) :
    res_out0 (F := Ideal) m c (ix2 R n) = sampleEntry (m ((c.tc : Thread nD τ).loc main_arg0)) (fun k => (m ((c.tc : Thread nD τ).loc main_arg1) : FVec Ideal S1024 .f32) (ix1 k)) (m ((c.tc : Thread nD τ).loc main_arg2)) R n := by
  have hR : (R : ℕ) < 128 := R.isLt
  rw [out0_eq]
  generalize m ((c.tc : Thread nD τ).loc main_arg0) = x
  generalize m ((c.tc : Thread nD τ).loc main_arg1) = g
  generalize m ((c.tc : Thread nD τ).loc main_arg2) = w
  rw [rejoin_at _ R n ⟨R / 4, by omega⟩ ⟨R % 4, by omega⟩ (by show (R : ℕ) = R / 4 * 4 + R % 4; omega), joined_at]
  unfold sampleEntry
  congr 1
  funext k
  unfold column projected
  split_ifs with hk
  · rw [columns_at]
    refine Finset.sum_congr rfl fun l _ => ?_
    rw [rms_at, columnOf_lt w k hk]
    congr 2
    funext l
    exact tokens_at x _ _ l R (by show (R : ℕ) = R / 4 * 4 + R % 4; omega)
  · refine (Finset.sum_eq_zero fun l _ => ?_).symm
    simp only [columnOf, dif_neg hk, mul_zero]

end Cert.SampleProjectedIdeal.Value
-- ==== Proof.SampleGate.lean ====
/-
The mixing of a sample token's two branches, entry by entry, in sequences of four tokens.
-/
module

public import proofs.«01_k».proof.Proof.Gate
public import Idealize.ShloMosaic.Lib.Pointwise

@[expose] public section

set_option maxRecDepth 16384

noncomputable section

namespace Cert.SampleGate

open Idealize.ShloMosaic Idealize.SL.Sem
open Cert.Gate

/-- Four rows up to row `i`, weighted. -/
def spatial4 (w v : Fin 4 → EReal) (i : ℕ) : EReal := ∑ j : Fin 4, (if (j : ℕ) ≤ i then w j else 0) * v j

/-- A matrix of thirty-two equal blocks of four rows along its diagonal weights a row with its own block's rows alone. -/
theorem spatial_blocks (w : Fin 4 → EReal) (v : Fin 128 → EReal) (i : Fin 128) :
    spatial (fun l => if (i : ℕ) / 4 = l / 4 then w ⟨l % 4, Nat.mod_lt _ (by decide)⟩ else 0) v i = spatial4 w (fun j => v ⟨i / 4 * 4 + j, by omega⟩) (i % 4) := by
  unfold spatial spatial4
  refine Eq.trans (Equiv.sum_comp (finProdFinEquiv : Fin 32 × Fin 4 ≃ Fin 128) _).symm ?_
  rw [Fintype.sum_prod_type, Finset.sum_eq_single (⟨i / 4, by omega⟩ : Fin 32)]
  · refine Finset.sum_congr rfl fun j _ => ?_
    have hv : ((finProdFinEquiv ((⟨i / 4, by omega⟩ : Fin 32), j) : Fin 128) : ℕ) = j + 4 * (i / 4) := rfl
    have e1 : (i : ℕ) / 4 = (i / 4 * 4 + j) / 4 := by omega
    have e2 : ((i : ℕ) / 4 * 4 + j) % 4 = j := by omega
    have e3 : (i : ℕ) / 4 * 4 + j ≤ i ↔ (j : ℕ) ≤ i % 4 := by omega
    have e4 : (finProdFinEquiv ((⟨i / 4, by omega⟩ : Fin 32), j) : Fin 128) = ⟨i / 4 * 4 + j, by omega⟩ := Fin.ext (by rw [hv]; show _ = (i : ℕ) / 4 * 4 + j; omega)
    have e5 : ∀ h, (⟨((i : ℕ) / 4 * 4 + j) % 4, h⟩ : Fin 4) = j := fun h => Fin.ext e2
    simp only [e4, e3, e5, ← e1, if_true]
  · intro q _ hq
    refine Finset.sum_eq_zero fun j _ => ?_
    have hv : ((finProdFinEquiv (q, j) : Fin 128) : ℕ) = j + 4 * q := rfl
    have hne : (q : ℕ) ≠ i / 4 := fun h => hq (Fin.ext h)
    have hj : (j : ℕ) < 4 := j.isLt
    simp only [hv, if_neg (show ¬ (i : ℕ) / 4 = (j + 4 * q) / 4 by omega), ite_self, zero_mul]
  · intro h
    exact absurd (Finset.mem_univ _) h

/-! The entries of the two results. -/

variable (z : FVec Ideal ⟨2, ![128, 8704]⟩ .f32) (g b : FVec Ideal ⟨1, ![1024]⟩ .f32)

/-- The second result: the second half's columns, standardised. -/
def standardised (R : Fin 128) (k : Fin 1024) : EReal :=
  standard (fun l => z (ix2 R ⟨1024 + l, Nat.lt_of_lt_of_le (Nat.add_lt_add_left l.isLt 1024) (by decide)⟩)) (fun l => g (ix1 l)) (fun l => b (ix1 l)) k

variable (ws : FVec Ideal ⟨3, ![8, 128, 128]⟩ .f32) (bs : FVec Ideal ⟨2, ![8, 128]⟩ .f32)

/-- The gated branch: the first half's columns times the sequence's rows weighted by the group's first four rows and columns. -/
def gated (R : Fin 128) (k : Fin 1024) : EReal :=
  gelu (z (ix2 R ⟨k, Nat.lt_of_lt_of_le k.isLt (by decide)⟩))
    * (spatial4 (fun j => ws (ix3 ⟨k / 128, by omega⟩ ⟨R % 4, by omega⟩ ⟨j, by omega⟩)) (fun j => standardised z g b ⟨R / 4 * 4 + j, by omega⟩ k) (R % 4)
      + bs (ix2 ⟨k / 128, by omega⟩ ⟨R % 4, by omega⟩))

variable (o0 o1 o2 l0 l1 l2 : FVec Ideal ⟨2, ![128, 512]⟩ .f32)

/-- The attention branch. -/
def attended (R : Fin 128) (k : Fin 512) : EReal :=
  weighted (l0 (ix2 R k)) (l1 (ix2 R k)) (l2 (ix2 R k)) (o0 (ix2 R k)) (o1 (ix2 R k)) (o2 (ix2 R k))

variable (wa wo : FVec Ideal ⟨2, ![1024, 1024]⟩ .f32) (wb : FVec Ideal ⟨2, ![512, 1024]⟩ .f32)

/-- The two branches' projections, each times its gate. -/
def merged (R : Fin 128) (n : Fin 1024) : EReal :=
  sigmoid (z (ix2 R ⟨6656 + n, Nat.lt_of_lt_of_le (Nat.add_lt_add_left n.isLt 6656) (by decide)⟩)) * (∑ k, gated z g b ws bs R k * wa (ix2 k n))
    + sigmoid (z (ix2 R ⟨7680 + n, Nat.lt_of_lt_of_le (Nat.add_lt_add_left n.isLt 7680) (by decide)⟩)) * (∑ k, attended o0 o1 o2 l0 l1 l2 R k * wb (ix2 k n))

variable (x : FVec Ideal ⟨2, ![128, 1024]⟩ .f32)

/-- The first result: the token plus the merged branches' projection. -/
def mixed (R : Fin 128) (n : Fin 1024) : EReal :=
  x (ix2 R n) + ∑ k, merged z g b ws bs o0 o1 o2 l0 l1 l2 wa wb R k * wo (ix2 k n)

end Cert.SampleGate
-- ==== Proof.SampleMixing.lean ====
/-
The stored tiles of the sample's mixing kernel, at an index.
-/
module

public import proofs.«01_k».proof.Proof.Gen.SampleMixIdeal.Value
public import proofs.«01_k».proof.Proof.SampleGate
public import Idealize.ShloMosaic.Lib.Pointwise
public import Idealize.ShloMosaic.Lib.Pipeline.ValueKit

@[expose] public section

set_option maxRecDepth 16384

noncomputable section

namespace Cert.SampleMixIdeal.Value

open Idealize.ShloMosaic Idealize.ShloMosaic.TcCoe Idealize.SL.Sem
open Idealize.ShloMosaic.Pipeline (Dat)
open Cert.SampleMixIdeal Cert.SampleMixIdeal.Gen
open Cert.Gate hiding standardised gated attended merged mixed
open Cert.SampleGate

/-! The payloads at an index. -/

theorem rectified_at (u : Vec Ideal S128x1024 .f32) (r : Fin 128) (k : Fin 1024) : k0_pay2 (F := Ideal) u (ix2 r k) = gelu (u (ix2 r k)) := by
  pointwise [k0_pay2]
  rfl

theorem centred_at (v : Vec Ideal S128x1024 .f32) (r : Fin 128) (k : Fin 1024) : k0_pay3 (F := Ideal) v (ix2 r k) = centred (fun l => v (ix2 r l)) k := by
  pointwise [k0_pay3]
  rfl

theorem standard_at (v : Vec Ideal S128x1024 .f32) (g b : Vec Ideal S1x1024 .f32) (r : Fin 128) (k : Fin 1024) :
    k0_pay5 (F := Ideal) (k0_pay3 v) (k0_pay4 v) g b (ix2 r k) = standard (fun l => v (ix2 r l)) (fun l => g (ix2 0 l)) (fun l => b (ix2 0 l)) k := by
  pointwise [k0_pay5, k0_pay4]
  simp only [centred_at]
  rfl

/-- The exponential of an array less another. -/
def raisedTile (l u : FVec Ideal S128x512 .f32) : FVec Ideal S128x512 .f32 := exp (subf l u)

/-- The attention branch: three outputs weighted by the exponentials of three logarithms. -/
def attendedTile (l0 l1 l2 o0 o1 o2 : FVec Ideal S128x512 .f32) : FVec Ideal S128x512 .bf16 :=
  truncf .bf16 (addf (addf (mulf (divf (raisedTile l0 (maximumf (maximumf l0 l1) l2)) (addf (addf (raisedTile l0 (maximumf (maximumf l0 l1) l2)) (raisedTile l1 (maximumf (maximumf l0 l1) l2))) (raisedTile l2 (maximumf (maximumf l0 l1) l2)))) o0)
    (mulf (divf (raisedTile l1 (maximumf (maximumf l0 l1) l2)) (addf (addf (raisedTile l0 (maximumf (maximumf l0 l1) l2)) (raisedTile l1 (maximumf (maximumf l0 l1) l2))) (raisedTile l2 (maximumf (maximumf l0 l1) l2)))) o1))
    (mulf (divf (raisedTile l2 (maximumf (maximumf l0 l1) l2)) (addf (addf (raisedTile l0 (maximumf (maximumf l0 l1) l2)) (raisedTile l1 (maximumf (maximumf l0 l1) l2))) (raisedTile l2 (maximumf (maximumf l0 l1) l2)))) o2)) bitsLt_bf16_f32

theorem attended_at (l0 l1 l2 o0 o1 o2 : FVec Ideal S128x512 .f32) (r : Fin 128) (k : Fin 512) :
    attendedTile l0 l1 l2 o0 o1 o2 (ix2 r k) = weighted (l0 (ix2 r k)) (l1 (ix2 r k)) (l2 (ix2 r k)) (o0 (ix2 r k)) (o1 (ix2 r k)) (o2 (ix2 r k)) := by
  pointwise [attendedTile, raisedTile]
  rfl

/-- A group's matrix, with the entries above the diagonal cleared, times the group's columns of a chunk, plus the group's shift. -/
def piece (V : FVec Ideal S128x1024 .bf16) (w : Vec Ideal S1x128x128 .f32) (b : Vec Ideal S128x1 .f32) (o p : ℕ) (sl : S128x1024.Slices ![o, p] S128x128) : FVec Ideal S128x128 .f32 :=
  addf (matmul dot_S128x128_S128x128_S128x128_1_0_0_1_n_n none (truncf .bf16 (select k0_pay6 (shapeCast S128x128 w shapeCasts_S1x128x128_S128x128) (broadcast S128x128 (Scalar.ofBits (F := Ideal) .f32 0x00000000#32))) bitsLt_bf16_f32) (extractStridedSlice S128x128 ![o, p] V sl) (constant S128x128 .f32 0x00000000#32)) (broadcastTo S128x128 (shapeCast S128x1 b shapeCasts_S128x1_S128x1) broadcasts_S128x1_S128x128)

theorem below_diagonal : ∀ i j : Fin 128, IntOp.cmpi CmpIPredicate.sge (BitVec.ofNat 32 i.val) (BitVec.ofNat 32 j.val) = if j.val ≤ i.val then 1#1 else 0#1 := by
  decide +kernel

theorem piece_at (V : FVec Ideal S128x1024 .bf16) (w : Vec Ideal S1x128x128 .f32) (b : Vec Ideal S128x1 .f32) (o p : ℕ) (sl : S128x1024.Slices ![o, p] S128x128) (v : Fin 128 → EReal) (i j : Fin 128)
    (hv : ∀ (l : Fin 128) (R : Fin 128) (K : Fin 1024), (R : ℕ) = o + l → (K : ℕ) = p + j → V (ix2 R K) = v l) :
    piece V w b o p sl (ix2 i j) = spatial (fun l => w (ix3 0 i l)) v i + b (ix2 i 0) := by
  have h : ∀ (l : Fin 128) (a b : EReal), Scalar.select (IntOp.cmpi CmpIPredicate.sge (BitVec.ofNat 32 i.val) (BitVec.ofNat 32 l.val)) a b = if l.val ≤ i.val then a else b := by
    intro l a b
    rw [below_diagonal]
    split_ifs <;> rfl
  pointwise [piece, k0_pay6]
  refine congrArg (· + _) (Finset.sum_congr rfl fun l _ => ?_)
  refine (h l _ _).trans ?_
  split_ifs
  · exact congrArg (_ * ·) (hv l _ _ rfl rfl)
  · exact (zero_mul _).symm

/-- Eight pieces side by side. -/
def eight (u0 u1 u2 u3 u4 u5 u6 u7 : FVec Ideal S128x128 .f32) : FVec Ideal S128x1024 .f32 :=
  concatenate S128x1024 1 [⟨S128x128, u0⟩, ⟨S128x128, u1⟩, ⟨S128x128, u2⟩, ⟨S128x128, u3⟩, ⟨S128x128, u4⟩, ⟨S128x128, u5⟩, ⟨S128x128, u6⟩, ⟨S128x128, u7⟩] concatenates_S128x128_S128x128_S128x128_S128x128_S128x128_S128x128_S128x128_S128x128_S128x1024_d1

theorem eight_at (T : ℕ → EReal) (u0 u1 u2 u3 u4 u5 u6 u7 : FVec Ideal S128x128 .f32) (i : Fin 128)
    (h0 : ∀ j : Fin 128, u0 (ix2 i j) = T j) (h1 : ∀ j : Fin 128, u1 (ix2 i j) = T (128 + j)) (h2 : ∀ j : Fin 128, u2 (ix2 i j) = T (256 + j)) (h3 : ∀ j : Fin 128, u3 (ix2 i j) = T (384 + j))
    (h4 : ∀ j : Fin 128, u4 (ix2 i j) = T (512 + j)) (h5 : ∀ j : Fin 128, u5 (ix2 i j) = T (640 + j)) (h6 : ∀ j : Fin 128, u6 (ix2 i j) = T (768 + j)) (h7 : ∀ j : Fin 128, u7 (ix2 i j) = T (896 + j)) (k : Fin 1024) :
    eight u0 u1 u2 u3 u4 u5 u6 u7 (ix2 i k) = T k := by
  pointwise [eight]
  simp only [h0, h1, h2, h3, h4, h5, h6, h7]
  have hk : (k : ℕ) < 1024 := k.isLt
  split_ifs
  · rfl
  all_goals exact congrArg T (by omega)

theorem matrix_at (W : Vec Ideal S8x128x128 .f32) (e : ℕ) (he : e < 8) (inb) (i l : Fin 128) :
    View.ld W (Rect.unit ![e, 0, 0] ![1, 128, 128] inb) (ix3 0 i l) = W (ix3 ⟨e, he⟩ i l) := by
  pointwise

theorem shift_at (B : Vec Ideal S128x8 .f32) (e : ℕ) (he : e < 8) (inb) (i : Fin 128) :
    View.ld B (Rect.unit ![0, e] ![128, 1] inb) (ix2 i 0) = B (ix2 i ⟨e, he⟩) := by
  pointwise

/-- The rows, weighted group by group. -/
def spatialTile (V : FVec Ideal S128x1024 .bf16) (W : Vec Ideal S8x128x128 .f32) (B : Vec Ideal S128x8 .f32) : FVec Ideal S128x1024 .f32 :=
  eight
    (piece V (View.ld W (Rect.unit ![0, 0, 0] ![1, 128, 128] inb_S8x128x128_S1x128x128_0_0_0)) (View.ld B (Rect.unit ![0, 0] ![128, 1] inb_S128x8_S128x1_0_0)) 0 0 slices_S128x1024_o0_0_S128x128)
    (piece V (View.ld W (Rect.unit ![1, 0, 0] ![1, 128, 128] inb_S8x128x128_S1x128x128_1_0_0)) (View.ld B (Rect.unit ![0, 1] ![128, 1] inb_S128x8_S128x1_0_1)) 0 128 slices_S128x1024_o0_128_S128x128)
    (piece V (View.ld W (Rect.unit ![2, 0, 0] ![1, 128, 128] inb_S8x128x128_S1x128x128_2_0_0)) (View.ld B (Rect.unit ![0, 2] ![128, 1] inb_S128x8_S128x1_0_2)) 0 256 slices_S128x1024_o0_256_S128x128)
    (piece V (View.ld W (Rect.unit ![3, 0, 0] ![1, 128, 128] inb_S8x128x128_S1x128x128_3_0_0)) (View.ld B (Rect.unit ![0, 3] ![128, 1] inb_S128x8_S128x1_0_3)) 0 384 slices_S128x1024_o0_384_S128x128)
    (piece V (View.ld W (Rect.unit ![4, 0, 0] ![1, 128, 128] inb_S8x128x128_S1x128x128_4_0_0)) (View.ld B (Rect.unit ![0, 4] ![128, 1] inb_S128x8_S128x1_0_4)) 0 512 slices_S128x1024_o0_512_S128x128)
    (piece V (View.ld W (Rect.unit ![5, 0, 0] ![1, 128, 128] inb_S8x128x128_S1x128x128_5_0_0)) (View.ld B (Rect.unit ![0, 5] ![128, 1] inb_S128x8_S128x1_0_5)) 0 640 slices_S128x1024_o0_640_S128x128)
    (piece V (View.ld W (Rect.unit ![6, 0, 0] ![1, 128, 128] inb_S8x128x128_S1x128x128_6_0_0)) (View.ld B (Rect.unit ![0, 6] ![128, 1] inb_S128x8_S128x1_0_6)) 0 768 slices_S128x1024_o0_768_S128x128)
    (piece V (View.ld W (Rect.unit ![7, 0, 0] ![1, 128, 128] inb_S8x128x128_S1x128x128_7_0_0)) (View.ld B (Rect.unit ![0, 7] ![128, 1] inb_S128x8_S128x1_0_7)) 0 896 slices_S128x1024_o0_896_S128x128)

/-- What the weighted rows hold at row `i` and column `n`. -/
def spatialEntry (V : FVec Ideal S128x1024 .bf16) (W : Vec Ideal S8x128x128 .f32) (B : Vec Ideal S128x8 .f32) (i : Fin 128) (n : ℕ) : EReal :=
  if h : n < 1024 then
    spatial (fun l => W (ix3 ⟨n / 128, by omega⟩ i l)) (fun l => V (ix2 l ⟨n, h⟩)) i + B (ix2 i ⟨n / 128, by omega⟩)
  else 0

theorem piece_entry (V : FVec Ideal S128x1024 .bf16) (W : Vec Ideal S8x128x128 .f32) (B : Vec Ideal S128x8 .f32) (e : ℕ) (he : e < 8) (inb inb') (sl : S128x1024.Slices ![0, e * 128] S128x128) (i j : Fin 128) :
    piece V (View.ld W (Rect.unit ![e, 0, 0] ![1, 128, 128] inb)) (View.ld B (Rect.unit ![0, e] ![128, 1] inb')) 0 (e * 128) sl (ix2 i j) = spatialEntry V W B i (e * 128 + j) := by
  have hb : e * 128 + (j : ℕ) < 1024 := by omega
  rw [piece_at V _ _ _ _ sl (fun l => V (ix2 l ⟨e * 128 + j, hb⟩)) i j fun l R K hR hK => by
    congr 1; exact (ix2_inj ..).2 ⟨Fin.ext (hR.trans (Nat.zero_add _)), Fin.ext hK⟩]
  unfold spatialEntry
  rw [dif_pos hb]
  have h1 : (⟨(e * 128 + j) / 128, by omega⟩ : Fin 8) = ⟨e, he⟩ := Fin.ext (by show (e * 128 + (j : ℕ)) / 128 = e; omega)
  simp only [h1]
  exact congrArg₂ (· + ·) (congrArg (fun w => spatial w _ _) (funext fun l => matrix_at W e he inb i l)) (shift_at B e he inb' i)

theorem spatialTile_at (V : FVec Ideal S128x1024 .bf16) (W : Vec Ideal S8x128x128 .f32) (B : Vec Ideal S128x8 .f32) (i : Fin 128) (k : Fin 1024) :
    spatialTile V W B (ix2 i k) = spatialEntry V W B i k := by
  unfold spatialTile
  refine eight_at (fun n => spatialEntry V W B i n) _ _ _ _ _ _ _ _ i (fun j => ?_) (fun j => ?_) (fun j => ?_) (fun j => ?_) (fun j => ?_) (fun j => ?_) (fun j => ?_) (fun j => ?_) k
  · exact (piece_entry V W B 0 (by decide) _ _ _ i j).trans (congrArg (spatialEntry V W B i) (by omega))
  · exact piece_entry V W B 1 (by decide) _ _ _ i j
  · exact piece_entry V W B 2 (by decide) _ _ _ i j
  · exact piece_entry V W B 3 (by decide) _ _ _ i j
  · exact piece_entry V W B 4 (by decide) _ _ _ i j
  · exact piece_entry V W B 5 (by decide) _ _ _ i j
  · exact piece_entry V W B 6 (by decide) _ _ _ i j
  · exact piece_entry V W B 7 (by decide) _ _ _ i j

/-- The gated branch's projection. -/
def gatedProduct (u s : FVec Ideal S128x1024 .f32) (wa : Vec Ideal S1024x1024 .bf16) : FVec Ideal S128x1024 .f32 :=
  matmul dot_S128x1024_S1024x1024_S128x1024_1_0_0_1_n_n none (truncf .bf16 (mulf u s) bitsLt_bf16_f32) (shapeCast S1024x1024 wa shapeCasts_S1024x1024_S1024x1024 : FVec Ideal S1024x1024 .bf16) (constant S128x1024 .f32 0x00000000#32)

theorem gatedProduct_at (u s : FVec Ideal S128x1024 .f32) (wa : Vec Ideal S1024x1024 .bf16) (r : Fin 128) (n : Fin 1024) :
    gatedProduct u s wa (ix2 r n) = ∑ k, u (ix2 r k) * s (ix2 r k) * wa (ix2 k n) := by
  pointwise [gatedProduct]

/-- Two halves side by side. -/
def halves (a b : Vec Ideal S128x512 .f32) : FVec Ideal S128x1024 .f32 := concatenate S128x1024 1 [⟨S128x512, a⟩, ⟨S128x512, b⟩] concatenates_S128x512_S128x512_S128x1024_d1

theorem halves_at (T : ℕ → EReal) (a b : Vec Ideal S128x512 .f32) (r : Fin 128) (h0 : ∀ j : Fin 512, a (ix2 r j) = T j) (h1 : ∀ j : Fin 512, b (ix2 r j) = T (512 + j)) (n : Fin 1024) :
    halves a b (ix2 r n) = T n := by
  pointwise [halves]
  simp only [h0, h1]
  have hn : (n : ℕ) < 1024 := n.isLt
  split_ifs
  · rfl
  · exact congrArg T (by omega)

/-- The two projections, each times its gate. -/
def mergedTile (p : FVec Ideal S128x1024 .f32) (y : FVec Ideal S128x512 .bf16) (wb : Vec Ideal S512x1024 .bf16) (ga gb : FVec Ideal S128x1024 .f32) : FVec Ideal S128x1024 .f32 :=
  addf (mulf (logistic ga) p) (mulf (logistic gb) (matmul dot_S128x512_S512x1024_S128x1024_1_0_0_1_n_n none y (shapeCast S512x1024 wb shapeCasts_S512x1024_S512x1024 : FVec Ideal S512x1024 .bf16) (constant S128x1024 .f32 0x00000000#32)))

theorem mergedTile_at (p : FVec Ideal S128x1024 .f32) (y : FVec Ideal S128x512 .bf16) (wb : Vec Ideal S512x1024 .bf16) (ga gb : FVec Ideal S128x1024 .f32) (r : Fin 128) (n : Fin 1024) :
    mergedTile p y wb ga gb (ix2 r n) = sigmoid (ga (ix2 r n)) * p (ix2 r n) + sigmoid (gb (ix2 r n)) * ∑ k, y (ix2 r k) * wb (ix2 k n) := by
  pointwise [mergedTile]
  rfl

/-- The token plus the merged branches' projection. -/
def finish (q : FVec Ideal S128x1024 .f32) (x : Vec Ideal S128x1024 .f32) (wo : Vec Ideal S1024x1024 .bf16) : FVec Ideal S128x1024 .f32 :=
  addf x (matmul dot_S128x1024_S1024x1024_S128x1024_1_0_0_1_n_n none (truncf .bf16 q bitsLt_bf16_f32) (shapeCast S1024x1024 wo shapeCasts_S1024x1024_S1024x1024 : FVec Ideal S1024x1024 .bf16) (constant S128x1024 .f32 0x00000000#32))

theorem finish_at (q : FVec Ideal S128x1024 .f32) (x : Vec Ideal S128x1024 .f32) (wo : Vec Ideal S1024x1024 .bf16) (r : Fin 128) (n : Fin 1024) :
    finish q x wo (ix2 r n) = x (ix2 r n) + ∑ k, q (ix2 r k) * wo (ix2 k n) := by
  pointwise [finish]

variable (m : (ℓ : Loc nD τ sig) → Buf (Elt Ideal) ℓ) (c : Dev nD)

theorem second_tile (t : Fin cfg0.N) : (outsAt0 m c t).2 = k0_pay5 (k0_pay3 (X0_1 m c t)) (k0_pay4 (X0_1 m c t)) (iblk m c 13 t) (iblk m c 14 t) := by
  unfold outsAt0
  frame_out

theorem first_tile (t : Fin cfg0.N) : (outsAt0 m c t).1 =
    finish (mergedTile (gatedProduct (k0_pay2 (X0_0 m c t)) (spatialTile (k0_pay7 (k0_pay3 (X0_1 m c t)) (k0_pay4 (X0_1 m c t)) (iblk m c 13 t) (iblk m c 14 t)) (iblk m c 15 t) (iblk m c 16 t)) (iblk m c 17 t))
      (attendedTile (iblk m c 9 t) (iblk m c 10 t) (iblk m c 11 t) (iblk m c 6 t) (iblk m c 7 t) (iblk m c 8 t)) (iblk m c 18 t) (halves (iblk m c 2 t) (iblk m c 3 t)) (halves (iblk m c 4 t) (iblk m c 5 t)))
      (iblk m c 12 t) (iblk m c 19 t) := by
  unfold outsAt0
  frame_out
  unfold finish mergedTile gatedProduct spatialTile eight piece halves attendedTile raisedTile k0_pay1 k0_pay15 k0_pay14 k0_pay8 k0_pay9 k0_pay10 k0_pay11 k0_pay12 k0_pay13
  with_reducible_and_instances rfl

theorem idx : ∀ t : Fin cfg0.N, win0_0.index t = ![0, 0] ∧ win0_1.index t = ![0, 1] ∧ win0_2.index t = ![0, 13] ∧ win0_3.index t = ![0, 14] ∧ win0_4.index t = ![0, 15] ∧ win0_5.index t = ![0, 16]
    ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0, 0] ∧ win0_16.index t = ![0, 0] ∧ win0_17.index t = ![0, 0] ∧ win0_18.index t = ![0, 0] ∧ win0_19.index t = ![0, 0]
    ∧ win0_20.index t = ![0, 0] ∧ win0_21.index t = ![0, 0] :=
  (by decide +kernel : ∀ t : Fin grid0.N, _)

end Cert.SampleMixIdeal.Value
-- ==== Proof.SampleMixture.lean ====
/-
The two results of the sample's mixing kernel as arrays.
-/
module

public import proofs.«01_k».proof.Proof.SampleMixing
public import proofs.«01_k».proof.Proof.SampleGate
public import Idealize.ShloMosaic.Lib.Pointwise
public import Idealize.ShloMosaic.Lib.Pipeline.ValueKit

@[expose] public section

set_option maxRecDepth 16384

noncomputable section

namespace Cert.SampleMixIdeal.Value

open Idealize.ShloMosaic Idealize.ShloMosaic.TcCoe Idealize.SL.Sem
open Idealize.ShloMosaic.Pipeline (Dat)
open Cert.SampleMixIdeal Cert.SampleMixIdeal.Gen
open Cert.Gate hiding standardised gated attended merged mixed
open Cert.SampleGate

variable (m : (ℓ : Loc nD τ sig) → Buf (Elt Ideal) ℓ) (c : Dev nD)

/-! The arguments. -/

abbrev rows : FVec Ideal S128x8704 .f32 := m ((c : Thread nD τ).loc main_arg0)

abbrev out0 : FVec Ideal S128x512 .f32 := m ((c : Thread nD τ).loc main_arg1)

abbrev out1 : FVec Ideal S128x512 .f32 := m ((c : Thread nD τ).loc main_arg2)

abbrev out2 : FVec Ideal S128x512 .f32 := m ((c : Thread nD τ).loc main_arg3)

abbrev log0 : FVec Ideal S128x512 .f32 := m ((c : Thread nD τ).loc main_arg4)

abbrev log1 : FVec Ideal S128x512 .f32 := m ((c : Thread nD τ).loc main_arg5)

abbrev log2 : FVec Ideal S128x512 .f32 := m ((c : Thread nD τ).loc main_arg6)

abbrev token : FVec Ideal S128x1024 .f32 := m ((c : Thread nD τ).loc main_arg7)

abbrev gain : FVec Ideal S1024 .f32 := m ((c : Thread nD τ).loc main_arg8)

abbrev shift : FVec Ideal S1024 .f32 := m ((c : Thread nD τ).loc main_arg9)

abbrev matrices : FVec Ideal S8x128x128 .f32 := m ((c : Thread nD τ).loc main_arg10)

abbrev shifts : FVec Ideal S8x128 .f32 := m ((c : Thread nD τ).loc main_arg11)

abbrev weightsA : FVec Ideal S1024x1024 .f32 := m ((c : Thread nD τ).loc main_arg12)

abbrev weightsB : FVec Ideal S512x1024 .f32 := m ((c : Thread nD τ).loc main_arg13)

abbrev weightsO : FVec Ideal S1024x1024 .f32 := m ((c : Thread nD τ).loc main_arg14)

/-! The arrays the host makes. -/

theorem gain_at (k : Fin 1024) : (V m c main_v13 : FVec Ideal S1x1024 .f32) (ix2 0 k) = gain m c (ix1 k) := by
  simp only [V, hostOps0, hostOps0_1, hostOps0_2, List.flatten_cons, List.flatten_nil, List.append_nil, List.cons_append, List.nil_append]
  entry_read
  pointwise

theorem shiftRow_at (k : Fin 1024) : (V m c main_v14 : FVec Ideal S1x1024 .f32) (ix2 0 k) = shift m c (ix1 k) := by
  simp only [V, hostOps0, hostOps0_1, hostOps0_2, List.flatten_cons, List.flatten_nil, List.append_nil, List.cons_append, List.nil_append]
  entry_read
  pointwise

theorem shifts_at (i : Fin 128) (e : Fin 8) : (V m c main_v12 : FVec Ideal S128x8 .f32) (ix2 i e) = shifts m c (ix2 e ⟨i % 4, by omega⟩) := by
  simp only [V, hostOps0, hostOps0_1, hostOps0_2, List.flatten_cons, List.flatten_nil, List.append_nil, List.cons_append, List.nil_append]
  entry_read
  pointwise

theorem same_block : ∀ i l : Fin 32, IntOp.cmpi CmpIPredicate.eq (IntOp.addi (BitVec.ofNat 32 i.val) 0#32) (BitVec.ofNat 32 l.val) = if i.val = l.val then 1#1 else 0#1 := by
  decide +kernel

theorem block_factor (i l : Fin 32) : FloatOps.uitofp (F := Ideal) .f32 (IntOp.cmpi CmpIPredicate.eq (IntOp.addi (BitVec.ofNat 32 i.val) 0#32) (BitVec.ofNat 32 l.val)) = if i.val = l.val then (1 : EReal) else 0 := by
  rw [same_block]
  split_ifs
  · show ((((1#1 : BitVec 1).toNat : ℝ)) : EReal) = 1
    simp
  · show ((((0#1 : BitVec 1).toNat : ℝ)) : EReal) = 0
    simp

/-- A group's first four rows and columns, thirty-two times along the diagonal. -/
def diagonal (w : FVec Ideal S8x128x128 .f32) : FVec Ideal S8x128x128 .f32 :=
  shapeCast S8x128x128 (mulf (broadcastInDim S8x32x4x32x4 ![0, 1, 2, 3, 4] bcast_S1x32x1x32x1_S8x32x4x32x4_0_1_2_3_4 (broadcastInDim S1x32x1x32x1 ![1, 2, 3, 4] bcast_S32x1x32x1_S1x32x1x32x1_1_2_3_4 (broadcastInDim S32x1x32x1 ![0, 2] bcast_S32x32_S32x1x32x1_0_2 (uitofp .f32 (cmpi .eq (addi (iotaInDim S32x32 32 0) (broadcastInDim S32x32 ![] bcast_S_S32x32 (constantI S_ 32 0#32))) (iotaInDim S32x32 32 1)) : FVec Ideal S32x32 .f32))))
    (broadcastInDim S8x32x4x32x4 ![0, 1, 2, 3, 4] bcast_S8x1x4x1x4_S8x32x4x32x4_0_1_2_3_4 (broadcastInDim S8x1x4x1x4 ![0, 2, 4] bcast_S8x4x4_S8x1x4x1x4_0_2_4 (extractStridedSlice S8x4x4 ![0, 0, 0] w slices_S8x128x128_S8x4x4_0_0_0)))) shapeCasts_S8x32x4x32x4_S8x128x128

theorem diagonal_at (w : FVec Ideal S8x128x128 .f32) (e : Fin 8) (i l : Fin 128) : diagonal w (ix3 e i l) = if (i : ℕ) / 4 = l / 4 then w (ix3 e ⟨i % 4, by omega⟩ ⟨l % 4, by omega⟩) else 0 := by
  pointwise [diagonal]
  refine (congrArg (· * _) (block_factor ⟨i / 4, by omega⟩ ⟨l / 4, by omega⟩)).trans ?_
  show (if (i : ℕ) / 4 = l / 4 then (1 : EReal) else 0) * w (ix3 e ⟨i % 4, by omega⟩ ⟨l % 4, by omega⟩) = _
  split_ifs
  · exact one_mul _
  · exact zero_mul _

theorem matrices_at (e : Fin 8) (i l : Fin 128) : (V m c main_v7 : FVec Ideal S8x128x128 .f32) (ix3 e i l) = if (i : ℕ) / 4 = l / 4 then matrices m c (ix3 e ⟨i % 4, by omega⟩ ⟨l % 4, by omega⟩) else 0 := by
  refine Eq.trans ?_ (diagonal_at (matrices m c) e i l)
  simp only [V, hostOps0, hostOps0_1, hostOps0_2, List.flatten_cons, List.flatten_nil, List.append_nil, List.cons_append, List.nil_append]
  entry_read
  rfl

theorem weightsA_at (k n : Fin 1024) : (V m c main_v15 : FVec Ideal S1024x1024 .bf16) (ix2 k n) = weightsA m c (ix2 k n) := by
  simp only [V, hostOps0, hostOps0_1, hostOps0_2, List.flatten_cons, List.flatten_nil, List.append_nil, List.cons_append, List.nil_append]
  entry_read
  pointwise

theorem weightsB_at (k : Fin 512) (n : Fin 1024) : (V m c main_v16 : FVec Ideal S512x1024 .bf16) (ix2 k n) = weightsB m c (ix2 k n) := by
  simp only [V, hostOps0, hostOps0_1, hostOps0_2, List.flatten_cons, List.flatten_nil, List.append_nil, List.cons_append, List.nil_append]
  entry_read
  pointwise

theorem weightsO_at (k n : Fin 1024) : (V m c main_v17 : FVec Ideal S1024x1024 .bf16) (ix2 k n) = weightsO m c (ix2 k n) := by
  simp only [V, hostOps0, hostOps0_1, hostOps0_2, List.flatten_cons, List.flatten_nil, List.append_nil, List.cons_append, List.nil_append]
  entry_read
  pointwise

/-! The blocks the windows read. -/

theorem row_block0 (t : Fin cfg0.N) (r : Fin 128) (k : Fin 1024) (R : Fin 128) (K : Fin 8704) (hR : (R : ℕ) = r) (hK : (K : ℕ) = k) : (X0_0 m c t : Vec Ideal S128x1024 .f32) (ix2 r k) = rows m c (ix2 R K) := by
  unfold X0_0 Pipeline.Window.fill
  rw [dif_pos (moved0_0 t _)]
  blk_ext [iblk, V, idx t]

theorem row_block1 (t : Fin cfg0.N) (r : Fin 128) (k : Fin 1024) (R : Fin 128) (K : Fin 8704) (hR : (R : ℕ) = r) (hK : (K : ℕ) = 1024 + k) : (X0_1 m c t : Vec Ideal S128x1024 .f32) (ix2 r k) = rows m c (ix2 R K) := by
  unfold X0_1 Pipeline.Window.fill
  rw [dif_pos (moved0_1 t _)]
  blk_ext [iblk, V, idx t]

theorem row_block2 (t : Fin cfg0.N) (r : Fin 128) (k : Fin 512) (R : Fin 128) (K : Fin 8704) (hR : (R : ℕ) = r) (hK : (K : ℕ) = 6656 + k) : (iblk m c 2 t : Vec Ideal S128x512 .f32) (ix2 r k) = rows m c (ix2 R K) := by
  blk_ext [iblk, V, idx t]

theorem row_block3 (t : Fin cfg0.N) (r : Fin 128) (k : Fin 512) (R : Fin 128) (K : Fin 8704) (hR : (R : ℕ) = r) (hK : (K : ℕ) = 7168 + k) : (iblk m c 3 t : Vec Ideal S128x512 .f32) (ix2 r k) = rows m c (ix2 R K) := by
  blk_ext [iblk, V, idx t]

theorem row_block4 (t : Fin cfg0.N) (r : Fin 128) (k : Fin 512) (R : Fin 128) (K : Fin 8704) (hR : (R : ℕ) = r) (hK : (K : ℕ) = 7680 + k) : (iblk m c 4 t : Vec Ideal S128x512 .f32) (ix2 r k) = rows m c (ix2 R K) := by
  blk_ext [iblk, V, idx t]

theorem row_block5 (t : Fin cfg0.N) (r : Fin 128) (k : Fin 512) (R : Fin 128) (K : Fin 8704) (hR : (R : ℕ) = r) (hK : (K : ℕ) = 8192 + k) : (iblk m c 5 t : Vec Ideal S128x512 .f32) (ix2 r k) = rows m c (ix2 R K) := by
  blk_ext [iblk, V, idx t]

theorem out0_block (t : Fin cfg0.N) (r : Fin 128) (k : Fin 512) (R : Fin 128) (hR : (R : ℕ) = r) : (iblk m c 6 t : Vec Ideal S128x512 .f32) (ix2 r k) = out0 m c (ix2 R k) := by
  blk_ext [iblk, V, idx t]

theorem out1_block (t : Fin cfg0.N) (r : Fin 128) (k : Fin 512) (R : Fin 128) (hR : (R : ℕ) = r) : (iblk m c 7 t : Vec Ideal S128x512 .f32) (ix2 r k) = out1 m c (ix2 R k) := by
  blk_ext [iblk, V, idx t]

theorem out2_block (t : Fin cfg0.N) (r : Fin 128) (k : Fin 512) (R : Fin 128) (hR : (R : ℕ) = r) : (iblk m c 8 t : Vec Ideal S128x512 .f32) (ix2 r k) = out2 m c (ix2 R k) := by
  blk_ext [iblk, V, idx t]

theorem log0_block (t : Fin cfg0.N) (r : Fin 128) (k : Fin 512) (R : Fin 128) (hR : (R : ℕ) = r) : (iblk m c 9 t : Vec Ideal S128x512 .f32) (ix2 r k) = log0 m c (ix2 R k) := by
  blk_ext [iblk, V, idx t]

theorem log1_block (t : Fin cfg0.N) (r : Fin 128) (k : Fin 512) (R : Fin 128) (hR : (R : ℕ) = r) : (iblk m c 10 t : Vec Ideal S128x512 .f32) (ix2 r k) = log1 m c (ix2 R k) := by
  blk_ext [iblk, V, idx t]

theorem log2_block (t : Fin cfg0.N) (r : Fin 128) (k : Fin 512) (R : Fin 128) (hR : (R : ℕ) = r) : (iblk m c 11 t : Vec Ideal S128x512 .f32) (ix2 r k) = log2 m c (ix2 R k) := by
  blk_ext [iblk, V, idx t]

theorem token_block (t : Fin cfg0.N) (r : Fin 128) (k : Fin 1024) (R : Fin 128) (hR : (R : ℕ) = r) : (iblk m c 12 t : Vec Ideal S128x1024 .f32) (ix2 r k) = token m c (ix2 R k) := by
  blk_ext [iblk, V, idx t]

theorem gain_block (t : Fin cfg0.N) (k : Fin 1024) : (iblk m c 13 t : Vec Ideal S1x1024 .f32) (ix2 0 k) = gain m c (ix1 k) := by
  refine Eq.trans ?_ (gain_at m c k)
  blk_ext [iblk, idx t]

theorem shift_block (t : Fin cfg0.N) (k : Fin 1024) : (iblk m c 14 t : Vec Ideal S1x1024 .f32) (ix2 0 k) = shift m c (ix1 k) := by
  refine Eq.trans ?_ (shiftRow_at m c k)
  blk_ext [iblk, idx t]

theorem matrix_block (t : Fin cfg0.N) (e : Fin 8) (i l : Fin 128) : (iblk m c 15 t : Vec Ideal S8x128x128 .f32) (ix3 e i l) = if (i : ℕ) / 4 = l / 4 then matrices m c (ix3 e ⟨i % 4, by omega⟩ ⟨l % 4, by omega⟩) else 0 := by
  refine Eq.trans ?_ (matrices_at m c e i l)
  blk_ext [iblk, idx t]

theorem shifts_block (t : Fin cfg0.N) (e : Fin 8) (i : Fin 128) : (iblk m c 16 t : Vec Ideal S128x8 .f32) (ix2 i e) = shifts m c (ix2 e ⟨i % 4, by omega⟩) := by
  refine Eq.trans ?_ (shifts_at m c i e)
  blk_ext [iblk, idx t]

theorem weightsA_block (t : Fin cfg0.N) (k n : Fin 1024) : (iblk m c 17 t : Vec Ideal S1024x1024 .bf16) (ix2 k n) = weightsA m c (ix2 k n) := by
  refine Eq.trans ?_ (weightsA_at m c k n)
  blk_ext [iblk, idx t]

theorem weightsB_block (t : Fin cfg0.N) (k : Fin 512) (n : Fin 1024) : (iblk m c 18 t : Vec Ideal S512x1024 .bf16) (ix2 k n) = weightsB m c (ix2 k n) := by
  refine Eq.trans ?_ (weightsB_at m c k n)
  blk_ext [iblk, idx t]

theorem weightsO_block (t : Fin cfg0.N) (k n : Fin 1024) : (iblk m c 19 t : Vec Ideal S1024x1024 .bf16) (ix2 k n) = weightsO m c (ix2 k n) := by
  refine Eq.trans ?_ (weightsO_at m c k n)
  blk_ext [iblk, idx t]

/-! The stored tiles. -/

/-- The second tile at an index. -/
theorem standard_tile (t : Fin cfg0.N) (r : Fin 128) (k : Fin 1024) (R : Fin 128) (hR : (R : ℕ) = r) :
    k0_pay5 (F := Ideal) (k0_pay3 (X0_1 m c t)) (k0_pay4 (X0_1 m c t)) (iblk m c 13 t) (iblk m c 14 t) (ix2 r k) = standardised (rows m c) (gain m c) (shift m c) R k := by
  rw [Cert.SampleMixIdeal.Value.standard_at]
  unfold standardised
  congr 1
  · funext l; exact row_block1 m c t r l R _ hR rfl
  · funext l; exact gain_block m c t l
  · funext l; exact shift_block m c t l

theorem second_at (t : Fin cfg0.N) (r : Fin 128) (k : Fin 1024) (R : Fin 128) (K : Fin 1024) (hR : (R : ℕ) = r) (hK : (K : ℕ) = k) :
    (outsAt0 m c t).2 (ix2 r k) = standardised (rows m c) (gain m c) (shift m c) R K := by
  obtain rfl : K = k := Fin.ext hK
  rw [second_tile]
  exact standard_tile m c t r K R hR

/-- The gated branch at an index. -/
theorem gated_tile (t : Fin cfg0.N) (r : Fin 128) (k : Fin 1024) (R : Fin 128) (hR : (R : ℕ) = r) :
    k0_pay2 (F := Ideal) (X0_0 m c t) (ix2 r k) * spatialTile (k0_pay7 (k0_pay3 (X0_1 m c t)) (k0_pay4 (X0_1 m c t)) (iblk m c 13 t) (iblk m c 14 t)) (iblk m c 15 t) (iblk m c 16 t) (ix2 r k)
      = gated (rows m c) (gain m c) (shift m c) (matrices m c) (shifts m c) R k := by
  obtain rfl : R = r := Fin.ext hR
  have hk : (k : ℕ) < 1024 := k.isLt
  rw [rectified_at, row_block0 m c t R k R ⟨k, by omega⟩ rfl rfl, spatialTile_at]
  unfold spatialEntry gated
  rw [dif_pos hk]
  refine congrArg (gelu _ * ·) (congrArg₂ (· + ·) ?_ (shifts_block m c t _ R))
  refine Eq.trans ?_ (spatial_blocks (fun j => matrices m c (ix3 ⟨k / 128, by omega⟩ ⟨R % 4, by omega⟩ ⟨j, by omega⟩)) (fun l => standardised (rows m c) (gain m c) (shift m c) l k) R)
  congr 1
  · funext l; exact matrix_block m c t _ R l
  · funext l; exact standard_tile m c t l k l rfl

/-- The attention branch at an index. -/
theorem attended_tile (t : Fin cfg0.N) (r : Fin 128) (k : Fin 512) (R : Fin 128) (hR : (R : ℕ) = r) :
    attendedTile (iblk m c 9 t) (iblk m c 10 t) (iblk m c 11 t) (iblk m c 6 t) (iblk m c 7 t) (iblk m c 8 t) (ix2 r k)
      = attended (out0 m c) (out1 m c) (out2 m c) (log0 m c) (log1 m c) (log2 m c) R k := by
  rw [Cert.SampleMixIdeal.Value.attended_at, log0_block m c t r k R hR, log1_block m c t r k R hR, log2_block m c t r k R hR, out0_block m c t r k R hR, out1_block m c t r k R hR, out2_block m c t r k R hR]
  rfl

/-- The two gates at an index. -/
theorem gateA_tile (t : Fin cfg0.N) (r : Fin 128) (n : Fin 1024) (R : Fin 128) (hR : (R : ℕ) = r) :
    halves (iblk m c 2 t) (iblk m c 3 t) (ix2 r n) = rows m c (ix2 R ⟨6656 + n, by omega⟩) := by
  have hn : (n : ℕ) < 1024 := n.isLt
  refine (halves_at (fun j => if h : j < 1024 then rows m c (ix2 R ⟨6656 + j, by omega⟩) else 0) _ _ r (fun j => ?_) (fun j => ?_) n).trans (dif_pos hn)
  · refine Eq.trans ?_ (dif_pos (by omega)).symm
    exact row_block2 m c t r j R _ hR rfl
  · refine Eq.trans ?_ (dif_pos (by omega)).symm
    exact row_block3 m c t r j R _ hR (by show 6656 + (512 + (j : ℕ)) = 7168 + j; omega)

theorem gateB_tile (t : Fin cfg0.N) (r : Fin 128) (n : Fin 1024) (R : Fin 128) (hR : (R : ℕ) = r) :
    halves (iblk m c 4 t) (iblk m c 5 t) (ix2 r n) = rows m c (ix2 R ⟨7680 + n, by omega⟩) := by
  have hn : (n : ℕ) < 1024 := n.isLt
  refine (halves_at (fun j => if h : j < 1024 then rows m c (ix2 R ⟨7680 + j, by omega⟩) else 0) _ _ r (fun j => ?_) (fun j => ?_) n).trans (dif_pos hn)
  · refine Eq.trans ?_ (dif_pos (by omega)).symm
    exact row_block4 m c t r j R _ hR rfl
  · refine Eq.trans ?_ (dif_pos (by omega)).symm
    exact row_block5 m c t r j R _ hR (by show 7680 + (512 + (j : ℕ)) = 8192 + j; omega)

/-- The first tile at an index. -/
theorem first_at (t : Fin cfg0.N) (r : Fin 128) (n : Fin 1024) (R : Fin 128) (N : Fin 1024) (hR : (R : ℕ) = r) (hN : (N : ℕ) = n) :
    (outsAt0 m c t).1 (ix2 r n) = mixed (rows m c) (gain m c) (shift m c) (matrices m c) (shifts m c) (out0 m c) (out1 m c) (out2 m c) (log0 m c) (log1 m c) (log2 m c) (weightsA m c) (weightsO m c) (weightsB m c) (token m c) R N := by
  obtain rfl : N = n := Fin.ext hN
  rw [first_tile, finish_at, token_block m c t r N R hR]
  unfold mixed merged
  refine congrArg (_ + ·) (Finset.sum_congr rfl fun k _ => congrArg₂ (· * ·) ?_ (weightsO_block m c t k N))
  rw [mergedTile_at, gatedProduct_at, gateA_tile m c t r k R hR, gateB_tile m c t r k R hR]
  refine congrArg₂ (· + ·) (congrArg (_ * ·) (Finset.sum_congr rfl fun j _ => ?_)) (congrArg (_ * ·) (Finset.sum_congr rfl fun j _ => ?_))
  · exact congrArg₂ (· * ·) (gated_tile m c t r j R hR) (weightsA_block m c t j k)
  · exact congrArg₂ (· * ·) (attended_tile m c t r j R hR) (weightsB_block m c t j k)

/-- The array of the first result. -/
theorem final20_at : (dats m 0 c).arrAt 20 (cfgs 0).N = fun i => mixed (rows m c) (gain m c) (shift m c) (matrices m c) (shifts m c) (out0 m c) (out1 m c) (out2 m c) (log0 m c) (log1 m c) (log2 m c) (weightsA m c) (weightsO m c) (weightsB m c) (token m c) (i 0 : Fin 128) (i 1 : Fin 1024) := by
  refine (dats m 0 c).arrAt_eq_of_covers 20 _ (by decide +kernel) fun t _ y => ?_
  blk_simp
  rw [after0_20]
  refine Eq.trans ?_ (first_at m c t (y 0) (y 1) _ _ ?_ ?_)
  · exact congrArg _ (eq_ix2 y)
  · blk_simp [idx t]
  · blk_simp [idx t]

/-- The array of the second result. -/
theorem final21_at : (dats m 0 c).arrAt 21 (cfgs 0).N = fun i => standardised (rows m c) (gain m c) (shift m c) (i 0 : Fin 128) (i 1 : Fin 1024) := by
  refine (dats m 0 c).arrAt_eq_of_covers 21 _ (by decide +kernel) fun t _ y => ?_
  blk_simp
  rw [after0_21]
  refine Eq.trans ?_ (second_at m c t (y 0) (y 1) _ _ ?_ ?_)
  · exact congrArg _ (eq_ix2 y)
  · blk_simp [idx t]
  · blk_simp [idx t]

end Cert.SampleMixIdeal.Value
-- ==== Proof.SampleGated.lean ====
/-
The plain mixing of the sample, its two results at an index.
-/
module

public import proofs.«01_k».proof.Proof.Gen.SampleMixedIdeal.Run
public import proofs.«01_k».proof.Proof.SampleGate
public import Idealize.ShloMosaic.Lib.Pointwise

@[expose] public section

set_option maxRecDepth 16384

noncomputable section

namespace Cert.SampleMixedIdeal.Value

open Idealize.ShloMosaic Idealize.ShloMosaic.TcCoe Idealize.SL.Sem
open Cert.SampleMixedIdeal Cert.SampleMixedIdeal.Gen
open Cert.Gate hiding standardised gated attended merged mixed
open Cert.SampleGate

section
variable (t : FVec Ideal S32x4x1024 .f32)

/-- A number at every entry. -/
def everywhere (b : BitVec 32) : FVec Ideal S32x4x1024 .f32 := broadcastInDim S32x4x1024 ![] bcast_S_S32x4x1024 (constant S_ .f32 b)

/-- The rectifier. -/
def geluArray : FVec Ideal S32x4x1024 .f32 :=
  mulf t (mulf (everywhere 0x3F000000#32) (addf (everywhere 0x3F800000#32) (Host.tanh (mulf (everywhere 0x3F4C422A#32) (addf t (mulf (everywhere 0x3D372713#32) (mulf (mulf t t) t)))))))

theorem geluArray_at (i : Fin 32) (p : Fin 4) (k : Fin 1024) : geluArray t (ix3 i p k) = gelu (t (ix3 i p k)) := by
  pointwise [geluArray, everywhere]
  unfold gelu
  rw [mul_comm (t (ix3 i p k)) (t (ix3 i p k) * t (ix3 i p k))]

/-- A mean of each row's sums. -/
def meanOf : FVec Ideal S32x4x1 .f32 :=
  Host.divf (broadcastInDim S32x4x1 ![0, 1] bcast_S32x4_S32x4x1_0_1 (Host.reduceAdd t (constant S_ .f32 0x00000000#32) reducesTo_S32x4x1024_S32x4_d2 h_S_)) (broadcastInDim S32x4x1 ![] bcast_S_S32x4x1 (constant S_ .f32 0x44800000#32))

theorem meanOf_at (i : Fin 32) (p : Fin 4) (o : Fin 1) : meanOf t (ix3 i p o) = Ideal.div (∑ l, t (ix3 i p l)) (Ideal.ofBits .f32 0x44800000#32) := by
  pointwise [meanOf]

/-- Each row less its mean. -/
def centredArray : FVec Ideal S32x4x1024 .f32 := subf t (broadcastInDim S32x4x1024 ![0, 1, 2] bcast_S32x4x1_S32x4x1024_0_1_2 (meanOf t))

theorem centredArray_at (i : Fin 32) (p : Fin 4) (k : Fin 1024) : centredArray t (ix3 i p k) = t (ix3 i p k) - Ideal.div (∑ l, t (ix3 i p l)) (Ideal.ofBits .f32 0x44800000#32) := by
  pointwise [centredArray]
  rw [meanOf_at]

/-- A row of numbers for every token. -/
def everyToken (g : FVec Ideal S1024 .f32) : FVec Ideal S32x4x1024 .f32 :=
  broadcastInDim S32x4x1024 ![0, 1, 2] bcast_S1x1x1024_S32x4x1024_0_1_2 (broadcastInDim S1x1x1024 ![2] bcast_S1024_S1x1x1024_2 g)

theorem everyToken_at (g : FVec Ideal S1024 .f32) (i : Fin 32) (p : Fin 4) (k : Fin 1024) : everyToken g (ix3 i p k) = g (ix1 k) := by
  pointwise [everyToken]

/-- The rows standardised. -/
def standardArray (g b : FVec Ideal S1024 .f32) : FVec Ideal S32x4x1024 .f32 :=
  addf (mulf (mulf (centredArray t) (broadcastInDim S32x4x1024 ![0, 1, 2] bcast_S32x4x1_S32x4x1024_0_1_2 (Host.rsqrt (addf (meanOf (mulf (centredArray t) (centredArray t))) (broadcastInDim S32x4x1 ![] bcast_S_S32x4x1 (constant S_ .f32 0x358637BD#32)))))) (everyToken g)) (everyToken b)

theorem standardArray_at (g b : FVec Ideal S1024 .f32) (v : Fin 1024 → EReal) (i : Fin 32) (p : Fin 4) (h : ∀ l, t (ix3 i p l) = gelu (v l)) (k : Fin 1024) :
    standardArray t g b (ix3 i p k) = standard v (fun l => g (ix1 l)) (fun l => b (ix1 l)) k := by
  have e : ∀ l, centredArray t (ix3 i p l) = centred v l := by
    intro l
    rw [centredArray_at, h]
    exact congrArg (fun s => _ - Ideal.div s _) (Finset.sum_congr rfl fun l _ => h l)
  pointwise [standardArray]
  rw [meanOf_at, everyToken_at, everyToken_at, e]
  unfold standard
  have e2 : (∑ l, mulf (centredArray t) (centredArray t) (ix3 i p l)) = ∑ l, centred v l * centred v l :=
    Finset.sum_congr rfl fun l _ => congrArg₂ (· * ·) (e l) (e l)
  rw [e2]

/-- The logistic function. -/
def sigmoidArray : FVec Ideal S32x4x1024 .f32 := Host.divf (everywhere 0x3F800000#32) (addf (everywhere 0x3F800000#32) (Host.exp (Host.negf t)))

theorem sigmoidArray_at (i : Fin 32) (p : Fin 4) (k : Fin 1024) : sigmoidArray t (ix3 i p k) = sigmoid (t (ix3 i p k)) := by
  pointwise [sigmoidArray, everywhere]
  rfl
end

section
variable (z : FVec Ideal S128x8704 .f32)

/-- The projected tokens as thirty-two sequences. -/
def sequences : FVec Ideal S32x4x8704 .f32 := shapeCast S32x4x8704 z shapeCasts_S128x8704_S32x4x8704

/-- 1024 of their columns. -/
def columnsFrom (o : ℕ) (sl : S32x4x8704.Slices ![0, 0, o] S32x4x1024) : FVec Ideal S32x4x1024 .f32 := extractStridedSlice S32x4x1024 ![0, 0, o] (sequences z) sl

theorem columnsFrom_at (o : ℕ) (sl : S32x4x8704.Slices ![0, 0, o] S32x4x1024) (i : Fin 32) (p : Fin 4) (k : Fin 1024) (R : Fin 128) (n : Fin 8704) (hR : (R : ℕ) = i * 4 + p) (hn : (n : ℕ) = o + k) :
    columnsFrom z o sl (ix3 i p k) = z (ix2 R n) := by
  pointwise [columnsFrom, sequences]
  congr 1
  refine (ix2_inj ..).2 ⟨Fin.ext ?_, Fin.ext ?_⟩ <;> simp only [hR, hn] <;> omega
end

section
variable (ws : FVec Ideal S8x128x128 .f32) (bs : FVec Ideal S8x128 .f32)

/-- The groups' first four rows and columns with the entries above the diagonal cleared. -/
def lower : FVec Ideal S8x4x4 .f32 :=
  mulf (extractStridedSlice S8x4x4 ![0, 0, 0] ws slices_S8x128x128_S8x4x4_0_0_0) (broadcastInDim S8x4x4 ![0, 1, 2] bcast_S1x4x4_S8x4x4_0_1_2 (broadcastInDim S1x4x4 ![1, 2] bcast_S4x4_S1x4x4_1_2 (select (cmpi .sge (addi (iotaInDim S4x4 32 0) (broadcastInDim S4x4 ![] bcast_S_S4x4 (constantI S_ 32 0#32))) (iotaInDim S4x4 32 1)) (broadcastInDim S4x4 ![] bcast_S_S4x4 (constant S_ .f32 0x3F800000#32)) (broadcastInDim S4x4 ![] bcast_S_S4x4 (constant S_ .f32 0x00000000#32)))))

theorem below_diagonal : ∀ i j : Fin 4, IntOp.cmpi CmpIPredicate.sge (IntOp.addi (BitVec.ofNat 32 i.val) 0#32) (BitVec.ofNat 32 j.val) = if j.val ≤ i.val then 1#1 else 0#1 := by
  decide +kernel

theorem lower_at (e : Fin 8) (i j : Fin 4) : lower ws (ix3 e i j) = if j.val ≤ i.val then ws (ix3 e ⟨i, by omega⟩ ⟨j, by omega⟩) else 0 := by
  have h : ∀ a b : EReal, Scalar.select (IntOp.cmpi CmpIPredicate.sge (IntOp.addi (BitVec.ofNat 32 i.val) 0#32) (BitVec.ofNat 32 j.val)) a b = if j.val ≤ i.val then a else b := by
    intro a b
    rw [below_diagonal]
    split_ifs <;> rfl
  pointwise [lower]
  exact h _ _

/-- The sequences' rows, weighted. -/
def spatialArray (t : FVec Ideal S32x4x1024 .f32) : FVec Ideal S32x4x1024 .f32 :=
  shapeCast S32x4x1024 (addf (transpose S32x1x4x8x128 [1, 2, 4, 0, 3] (Host.dotGeneral dot_S32x1x4x8x128_S8x4x4_S8x32x1x128x4_2_2_014_1_3_0 none (shapeCast S32x1x4x8x128 t shapeCasts_S32x4x1024_S32x1x4x8x128) (lower ws)) transposes_S8x32x1x128x4_S32x1x4x8x128_1_2_4_0_3) (broadcastInDim S32x1x4x8x128 ![0, 1, 2, 3, 4] bcast_S1x1x4x8x1_S32x1x4x8x128_0_1_2_3_4 (broadcastInDim S1x1x4x8x1 ![2, 3] bcast_S4x8_S1x1x4x8x1_2_3 (transpose S4x8 [1, 0] (extractStridedSlice S8x4 ![0, 0] bs slices_S8x128_S8x4_0_0) transposes_S8x4_S4x8_1_0)))) shapeCasts_S32x1x4x8x128_S32x4x1024

theorem spatialArray_at (t : FVec Ideal S32x4x1024 .f32) (i : Fin 32) (p : Fin 4) (k : Fin 1024) :
    spatialArray ws bs t (ix3 i p k) = spatial4 (fun j => ws (ix3 ⟨k / 128, by omega⟩ ⟨p, by omega⟩ ⟨j, by omega⟩)) (fun j => t (ix3 i j k)) p + bs (ix2 ⟨k / 128, by omega⟩ ⟨p, by omega⟩) := by
  pointwise [spatialArray]
  refine congrArg (· + _) (Finset.sum_congr rfl fun j _ => ?_)
  rw [lower_at, mul_comm]
end

end Cert.SampleMixedIdeal.Value
-- ==== Proof.SampleStacked.lean ====
/-
The plain mixing's attention branch: the three groups' outputs, weighted.
-/
module

public import proofs.«01_k».proof.Proof.Gen.SampleMixedIdeal.Run
public import proofs.«01_k».proof.Proof.SampleGate
public import Idealize.ShloMosaic.Lib.Pointwise

@[expose] public section

set_option maxRecDepth 16384

noncomputable section

namespace Cert.SampleMixedIdeal.Value

open Idealize.ShloMosaic Idealize.ShloMosaic.TcCoe Idealize.SL.Sem
open Cert.SampleMixedIdeal Cert.SampleMixedIdeal.Gen
open Cert.Gate hiding standardised gated attended merged mixed
open Cert.SampleGate

section
variable (a0 a1 a2 : FVec Ideal S128x512 .f32)

/-- Three arrays, stacked. -/
def stacked : FVec Ideal S3x128x512 .f32 :=
  concatenate S3x128x512 0 [⟨S1x128x512, (broadcastInDim S1x128x512 ![1, 2] bcast_S128x512_S1x128x512_1_2 a0)⟩, ⟨S1x128x512, (broadcastInDim S1x128x512 ![1, 2] bcast_S128x512_S1x128x512_1_2 a1)⟩, ⟨S1x128x512, (broadcastInDim S1x128x512 ![1, 2] bcast_S128x512_S1x128x512_1_2 a2)⟩] concatenates_S1x128x512_S1x128x512_S1x128x512_S3x128x512_d0

theorem stacked_at0 (R : Fin 128) (k : Fin 512) : stacked a0 a1 a2 (ix3 0 R k) = a0 (ix2 R k) := by
  pointwise [stacked]

theorem stacked_at1 (R : Fin 128) (k : Fin 512) : stacked a0 a1 a2 (ix3 1 R k) = a1 (ix2 R k) := by
  pointwise [stacked]

theorem stacked_at2 (R : Fin 128) (k : Fin 512) : stacked a0 a1 a2 (ix3 2 R k) = a2 (ix2 R k) := by
  pointwise [stacked]

end

end Cert.SampleMixedIdeal.Value
-- ==== Proof.SampleLargest.lean ====
/-
The plain mixing's weights of the three groups' outputs.
-/
module

public import proofs.«01_k».proof.Proof.Gen.SampleMixedIdeal.Run
public import proofs.«01_k».proof.Proof.SampleGate
public import Idealize.ShloMosaic.Lib.Pointwise

@[expose] public section

set_option maxRecDepth 16384

noncomputable section

namespace Cert.SampleMixedIdeal.Value

open Idealize.ShloMosaic Idealize.ShloMosaic.TcCoe Idealize.SL.Sem
open Cert.SampleMixedIdeal Cert.SampleMixedIdeal.Gen
open Cert.Gate hiding standardised gated attended merged mixed
open Cert.SampleGate

section
variable (s v : FVec Ideal S3x128x512 .f32)

/-- The largest of the three. -/
def largest : FVec Ideal S128x512 .f32 := Host.reduce FloatOps.maximumf s (constant S_ .f32 0xFF800000#32) reducesTo_S3x128x512_S128x512_d0 h_S_

theorem largest_at (R : Fin 128) (k : Fin 512) : largest s (ix2 R k) = Finset.univ.fold max (Ideal.ofBits .f32 0xFF800000#32) fun e : Fin 3 => s (ix3 e R k) := by
  pointwise [largest]

theorem bottom : Ideal.ofBits .f32 0xFF800000#32 = ⊥ := by simp [Ideal.ofBits, Ideal.ieee]

theorem fold_three (f : Fin 3 → EReal) : Finset.univ.fold max ⊥ f = max (max (f 0) (f 1)) (f 2) := by
  have hu : (Finset.univ : Finset (Fin 3)) = {0, 1, 2} := by decide
  rw [hu, Finset.fold_insert (by decide), Finset.fold_insert (by decide), Finset.fold_singleton, max_eq_left bot_le, max_assoc]

theorem largest_three (R : Fin 128) (k : Fin 512) : largest s (ix2 R k) = max (max (s (ix3 0 R k)) (s (ix3 1 R k))) (s (ix3 2 R k)) := by
  rw [largest_at, bottom, fold_three]

/-- The largest of the three, and `⊥`. -/
def greatestOf (u : FVec Ideal S128x512 .f32) : FVec Ideal S128x512 .f32 := maximumf (broadcastInDim S128x512 ![] bcast_S_S128x512 (constant S_ .f32 0xFF800000#32)) u

theorem greatestOf_at (u : FVec Ideal S128x512 .f32) (R : Fin 128) (k : Fin 512) : greatestOf u (ix2 R k) = max (Ideal.ofBits .f32 0xFF800000#32) (u (ix2 R k)) := by
  pointwise [greatestOf]

/-- The exponentials of the entries less another array's. -/
def lowered (u : FVec Ideal S128x512 .f32) : FVec Ideal S3x128x512 .f32 :=
  Host.exp (subf s (broadcastInDim S3x128x512 ![0, 1, 2] bcast_S1x128x512_S3x128x512_0_1_2 (broadcastInDim S1x128x512 ![1, 2] bcast_S128x512_S1x128x512_1_2 u)))

theorem lowered_at (u : FVec Ideal S128x512 .f32) (e : Fin 3) (R : Fin 128) (k : Fin 512) : lowered s u (ix3 e R k) = Ideal.exp (s (ix3 e R k) - u (ix2 R k)) := by
  pointwise [lowered]

/-- The exponentials of the entries less the largest of the three. -/
def raised : FVec Ideal S3x128x512 .f32 := lowered s (greatestOf (largest s))

theorem raised_at (e : Fin 3) (R : Fin 128) (k : Fin 512) :
    raised s (ix3 e R k) = Ideal.exp (s (ix3 e R k) - max (max (s (ix3 0 R k)) (s (ix3 1 R k))) (s (ix3 2 R k))) := by
  unfold raised
  rw [lowered_at, greatestOf_at, bottom, max_eq_right bot_le, largest_three]

/-- The sum of the three. -/
def summed (w : FVec Ideal S3x128x512 .f32) : FVec Ideal S128x512 .f32 := Host.reduceAdd w (constant S_ .f32 0x00000000#32) reducesTo_S3x128x512_S128x512_d0 h_S_

theorem summed_at (w : FVec Ideal S3x128x512 .f32) (R : Fin 128) (k : Fin 512) : summed w (ix2 R k) = w (ix3 0 R k) + w (ix3 1 R k) + w (ix3 2 R k) := by
  refine Eq.trans ?_ (Fin.sum_univ_three fun e => w (ix3 e R k))
  pointwise [summed]

/-- The entries times the shares of the total. -/
def shared (w : FVec Ideal S3x128x512 .f32) (d : FVec Ideal S128x512 .f32) : FVec Ideal S3x128x512 .f32 :=
  mulf (Host.divf w (broadcastInDim S3x128x512 ![0, 1, 2] bcast_S1x128x512_S3x128x512_0_1_2 (broadcastInDim S1x128x512 ![1, 2] bcast_S128x512_S1x128x512_1_2 d))) v

theorem shared_at (w : FVec Ideal S3x128x512 .f32) (d : FVec Ideal S128x512 .f32) (e : Fin 3) (R : Fin 128) (k : Fin 512) :
    shared v w d (ix3 e R k) = Ideal.div (w (ix3 e R k)) (d (ix2 R k)) * v (ix3 e R k) := by
  pointwise [shared]

/-- The entries weighted by the exponentials. -/
def weightedArray : FVec Ideal S128x512 .f32 := summed (shared v (raised s) (summed (raised s)))

theorem weightedArray_at (R : Fin 128) (k : Fin 512) :
    weightedArray s v (ix2 R k) = weighted (s (ix3 0 R k)) (s (ix3 1 R k)) (s (ix3 2 R k)) (v (ix3 0 R k)) (v (ix3 1 R k)) (v (ix3 2 R k)) := by
  unfold weightedArray
  rw [summed_at, shared_at, shared_at, shared_at, summed_at, raised_at, raised_at, raised_at]
  rfl
end

end Cert.SampleMixedIdeal.Value
-- ==== Proof.SampleMixed.lean ====
/-
The plain mixing's two results at an index.
-/
module

public import proofs.«01_k».proof.Proof.Gen.SampleMixedIdeal.Run
public import proofs.«01_k».proof.Proof.SampleGated
public import proofs.«01_k».proof.Proof.SampleStacked
public import proofs.«01_k».proof.Proof.SampleLargest
public import Idealize.ShloMosaic.Lib.Pointwise

@[expose] public section

set_option maxRecDepth 16384

noncomputable section

namespace Cert.SampleMixedIdeal.Value

open Idealize.ShloMosaic Idealize.ShloMosaic.TcCoe Idealize.SL.Sem
open Cert.SampleMixedIdeal Cert.SampleMixedIdeal.Gen
open Cert.Gate hiding standardised gated attended merged mixed
open Cert.SampleGate

section
variable (z : FVec Ideal S128x8704 .f32) (g b : FVec Ideal S1024 .f32)

/-- The second half's columns, standardised. -/
def standardColumns : FVec Ideal S32x4x1024 .f32 := standardArray (geluArray (columnsFrom z 1024 slices_S32x4x8704_S32x4x1024_0_0_1024)) g b

theorem standardColumns_at (i : Fin 32) (p : Fin 4) (k : Fin 1024) (R : Fin 128) (hR : (R : ℕ) = i * 4 + p) : standardColumns z g b (ix3 i p k) = standardised z g b R k := by
  unfold standardColumns standardised
  exact standardArray_at _ g b _ i p (fun l => (geluArray_at _ i p l).trans (congrArg gelu (columnsFrom_at z 1024 _ i p l R _ hR rfl))) k

variable (ws : FVec Ideal S8x128x128 .f32) (bs : FVec Ideal S8x128 .f32)

/-- The gated branch. -/
def gatedColumns : FVec Ideal S32x4x1024 .f32 := mulf (geluArray (columnsFrom z 0 slices_S32x4x8704_S32x4x1024_0_0_0)) (spatialArray ws bs (standardColumns z g b))

theorem gatedColumns_at (i : Fin 32) (p : Fin 4) (k : Fin 1024) (R : Fin 128) (hR : (R : ℕ) = i * 4 + p) : gatedColumns z g b ws bs (ix3 i p k) = gated z g b ws bs R k := by
  have hp : (p : ℕ) < 4 := p.isLt
  have e1 : (R : ℕ) % 4 = p := by omega
  have e3 : (⟨(R : ℕ) % 4, by omega⟩ : Fin 128) = ⟨p, by omega⟩ := Fin.ext e1
  unfold gated
  rw [e3, e1]
  refine congrArg₂ (· * ·) ((geluArray_at _ i p k).trans (congrArg gelu (columnsFrom_at z 0 _ i p k R _ hR (by show (k : ℕ) = 0 + k; omega)))) ?_
  rw [spatialArray_at]
  refine congrArg (fun v => spatial4 _ v _ + _) (funext fun j => ?_)
  exact standardColumns_at z g b i _ k _ (by show (R : ℕ) / 4 * 4 + j = i * 4 + j; omega)
end

section
variable (a0 a1 a2 l0 l1 l2 : FVec Ideal S128x512 .f32)

/-- The attention branch. -/
def attendedColumns : FVec Ideal S32x4x512 .f32 := shapeCast S32x4x512 (weightedArray (stacked l0 l1 l2) (stacked a0 a1 a2)) shapeCasts_S128x512_S32x4x512

theorem attendedColumns_at (i : Fin 32) (p : Fin 4) (k : Fin 512) (R : Fin 128) (hR : (R : ℕ) = i * 4 + p) : attendedColumns a0 a1 a2 l0 l1 l2 (ix3 i p k) = attended a0 a1 a2 l0 l1 l2 R k := by
  have e : attendedColumns a0 a1 a2 l0 l1 l2 (ix3 i p k) = weightedArray (stacked l0 l1 l2) (stacked a0 a1 a2) (ix2 R k) := by
    pointwise [attendedColumns]
    congr 1
    refine (ix2_inj ..).2 ⟨Fin.ext ?_, Fin.ext ?_⟩ <;> simp only [hR] <;> omega
  rw [e, weightedArray_at]
  simp only [stacked_at0, stacked_at1, stacked_at2]
  rfl
end

/-- A product over 1024 columns. -/
def productOf (t : FVec Ideal S32x4x1024 .f32) (w : FVec Ideal S1024x1024 .f32) : FVec Ideal S32x4x1024 .f32 := Host.dotGeneral dot_S32x4x1024_S1024x1024_S32x4x1024_2_0_01_1_n_n none t w

theorem productOf_at (t : FVec Ideal S32x4x1024 .f32) (w : FVec Ideal S1024x1024 .f32) (i : Fin 32) (p : Fin 4) (n : Fin 1024) : productOf t w (ix3 i p n) = ∑ k, t (ix3 i p k) * w (ix2 k n) := by
  pointwise [productOf]

/-- A product over 512 columns. -/
def productOf512 (t : FVec Ideal S32x4x512 .f32) (w : FVec Ideal S512x1024 .f32) : FVec Ideal S32x4x1024 .f32 := Host.dotGeneral dot_S32x4x512_S512x1024_S32x4x1024_2_0_01_1_n_n none t w

theorem productOf512_at (t : FVec Ideal S32x4x512 .f32) (w : FVec Ideal S512x1024 .f32) (i : Fin 32) (p : Fin 4) (n : Fin 1024) : productOf512 t w (ix3 i p n) = ∑ k, t (ix3 i p k) * w (ix2 k n) := by
  pointwise [productOf512]

section
variable (z : FVec Ideal S128x8704 .f32) (g b : FVec Ideal S1024 .f32) (ws : FVec Ideal S8x128x128 .f32) (bs : FVec Ideal S8x128 .f32) (a0 a1 a2 l0 l1 l2 : FVec Ideal S128x512 .f32)
  (wa : FVec Ideal S1024x1024 .f32) (wb : FVec Ideal S512x1024 .f32) (wo : FVec Ideal S1024x1024 .f32) (x : FVec Ideal S128x1024 .f32)

/-- The two projections, each times its gate. -/
def mergedColumns : FVec Ideal S32x4x1024 .f32 :=
  addf (mulf (sigmoidArray (columnsFrom z 6656 slices_S32x4x8704_S32x4x1024_0_0_6656)) (productOf (gatedColumns z g b ws bs) wa))
    (mulf (sigmoidArray (columnsFrom z 7680 slices_S32x4x8704_S32x4x1024_0_0_7680)) (productOf512 (attendedColumns a0 a1 a2 l0 l1 l2) wb))

theorem mergedColumns_at (i : Fin 32) (p : Fin 4) (n : Fin 1024) (R : Fin 128) (hR : (R : ℕ) = i * 4 + p) :
    mergedColumns z g b ws bs a0 a1 a2 l0 l1 l2 wa wb (ix3 i p n) = merged z g b ws bs a0 a1 a2 l0 l1 l2 wa wb R n := by
  unfold merged
  refine congrArg₂ (· + ·) (congrArg₂ (· * ·) ?_ ?_) (congrArg₂ (· * ·) ?_ ?_)
  · exact (sigmoidArray_at _ i p n).trans (congrArg sigmoid (columnsFrom_at z 6656 _ i p n R _ hR rfl))
  · rw [productOf_at]
    exact Finset.sum_congr rfl fun k _ => congrArg (· * _) (gatedColumns_at z g b ws bs i p k R hR)
  · exact (sigmoidArray_at _ i p n).trans (congrArg sigmoid (columnsFrom_at z 7680 _ i p n R _ hR rfl))
  · rw [productOf512_at]
    exact Finset.sum_congr rfl fun k _ => by rw [attendedColumns_at a0 a1 a2 l0 l1 l2 i p k R hR]

/-- The tokens plus the merged branches' projection. -/
def mixedRows : FVec Ideal S32x4x1024 .f32 :=
  addf (shapeCast S32x4x1024 x shapeCasts_S128x1024_S32x4x1024) (productOf (mergedColumns z g b ws bs a0 a1 a2 l0 l1 l2 wa wb) wo)

theorem rows_at (i : Fin 32) (p : Fin 4) (n : Fin 1024) (R : Fin 128) (hR : (R : ℕ) = i * 4 + p) :
    shapeCast S32x4x1024 x shapeCasts_S128x1024_S32x4x1024 (ix3 i p n) = x (ix2 R n) := by
  pointwise
  congr 1
  refine (ix2_inj ..).2 ⟨Fin.ext ?_, Fin.ext ?_⟩ <;> simp only [hR] <;> omega

theorem mixedRows_at (i : Fin 32) (p : Fin 4) (n : Fin 1024) (R : Fin 128) (hR : (R : ℕ) = i * 4 + p) :
    mixedRows z g b ws bs a0 a1 a2 l0 l1 l2 wa wb wo x (ix3 i p n) = mixed z g b ws bs a0 a1 a2 l0 l1 l2 wa wo wb x R n := by
  unfold mixed
  refine congrArg₂ (· + ·) (rows_at x i p n R hR) ?_
  rw [productOf_at]
  exact Finset.sum_congr rfl fun k _ => congrArg (· * _) (mergedColumns_at z g b ws bs a0 a1 a2 l0 l1 l2 wa wb i p k R hR)
end

theorem rejoin_at (y : FVec Ideal S32x4x1024 .f32) (R : Fin 128) (n : Fin 1024) :
    shapeCast S128x1024 y shapeCasts_S32x4x1024_S128x1024 (ix2 R n) = y (ix3 ⟨R / 4, by omega⟩ ⟨R % 4, by omega⟩ n) := by
  have hR : (R : ℕ) < 128 := R.isLt
  pointwise

variable (m : (ℓ : Loc nD τ sig) → Buf (Elt Ideal) ℓ) (c : Dev nD)

theorem out1_eq : res_out1 (F := Ideal) m c = shapeCast S128x1024 (standardColumns (m ((c.tc : Thread nD τ).loc main_arg0)) (m ((c.tc : Thread nD τ).loc main_arg8)) (m ((c.tc : Thread nD τ).loc main_arg9))) shapeCasts_S32x4x1024_S128x1024 := by
  unfold res_out1 res_main_v112 standardColumns standardArray centredArray meanOf everyToken geluArray everywhere columnsFrom sequences
  with_reducible_and_instances rfl

theorem out0_eq : res_out0 (F := Ideal) m c = shapeCast S128x1024 (mixedRows (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg12)) (m ((c.tc : Thread nD τ).loc main_arg13)) (m ((c.tc : Thread nD τ).loc main_arg14)) (m ((c.tc : Thread nD τ).loc main_arg7))) shapeCasts_S32x4x1024_S128x1024 := by
  unfold res_out0 res_main_v111 mixedRows mergedColumns gatedColumns attendedColumns productOf productOf512 sigmoidArray spatialArray lower weightedArray summed shared raised lowered greatestOf largest stacked
    standardColumns standardArray centredArray meanOf everyToken geluArray everywhere columnsFrom sequences
  with_reducible_and_instances rfl

/-- The first result at an index. -/
theorem out0_at (R : Fin 128) (n : Fin 1024) : res_out0 (F := Ideal) m c (ix2 R n) = mixed (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg12)) (m ((c.tc : Thread nD τ).loc main_arg14)) (m ((c.tc : Thread nD τ).loc main_arg13)) (m ((c.tc : Thread nD τ).loc main_arg7)) R n := by
  rw [out0_eq]
  exact (rejoin_at _ R n).trans (mixedRows_at _ _ _ _ _ _ _ _ _ _ _ _ _ _ _ _ _ n R (by show (R : ℕ) = R / 4 * 4 + R % 4; omega))

/-- The second result at an index. -/
theorem out1_at (R : Fin 128) (n : Fin 1024) : res_out1 (F := Ideal) m c (ix2 R n) = standardised (m ((c.tc : Thread nD τ).loc main_arg0)) (m ((c.tc : Thread nD τ).loc main_arg8)) (m ((c.tc : Thread nD τ).loc main_arg9)) R n := by
  rw [out1_eq]
  exact (rejoin_at _ R n).trans (standardColumns_at _ _ _ _ _ n R (by show (R : ℕ) = R / 4 * 4 + R % 4; omega))

end Cert.SampleMixedIdeal.Value
-- ==== Proof.Expert.lean ====
/-
What the experts answer to a token: the gate of an expert, its activation, its share of the answer, and the final normalisation.
-/
module

public import proofs.«01_k».proof.Proof.Rotary
public import proofs.«01_k».proof.Proof.Gate

@[expose] public section

set_option maxRecDepth 16384

noncomputable section

namespace Cert.Expert

open Idealize.ShloMosaic Idealize.SL.Sem

/-- One head's part of the gate of an expert: the product of the two sides' numbers where the second side's rank is below the
first side's bound, else zero. -/
def share (rank bound a b : EReal) : EReal := if rank < bound then a * b else 0

section
variable {T : ℕ} (ht : FVec Ideal ⟨2, ![1024, T]⟩ .bf16) (a nb b r1 : FVec Ideal ⟨3, ![8, 128, T]⟩ .f32) (x1 : FVec Ideal ⟨2, ![T, 1024]⟩ .f32)
  (u v : FVec Ideal ⟨2, ![16384, 1024]⟩ .f32) (g : FVec Ideal ⟨1, ![1024]⟩ .f32)

/-- The gate of expert `(i, j)` for token `t`: the sum over the heads. -/
def gate (i j : Fin 128) (t : Fin T) : EReal :=
  ∑ h : Fin 8, share (r1 (ix3 h j t)) (nb (ix3 h i t)) (a (ix3 h i t)) (b (ix3 h j t))

/-- The activation of expert `e` for token `t`. -/
def active (e : Fin 16384) (t : Fin T) : EReal := Gate.gelu (∑ k : Fin 1024, u (ix2 e k) * ht (ix2 k t))

/-- Column `k` of what expert `e` adds to token `t`; expert `e` is the pair `(e / 128, e % 128)`. -/
def part (t : Fin T) (k : Fin 1024) (e : Fin 16384) : EReal :=
  gate a nb b r1 ⟨e / 128, by omega⟩ ⟨e % 128, Nat.mod_lt _ (by decide)⟩ t * active ht u e t * v (ix2 e k)

/-- Token `t` plus what all the experts add. -/
def answered (t : Fin T) (k : Fin 1024) : EReal := x1 (ix2 t k) + ∑ e : Fin 16384, part ht a nb b r1 u v t k e

/-- That, normalised. -/
def entry (t : Fin T) (k : Fin 1024) : EReal := Rotary.normed (answered ht a nb b r1 x1 u v t) (fun l => g (ix1 l)) k

end

end Cert.Expert
-- ==== Proof.Rows.lean ====
/-
The tiles of the experts' kernel, at an index.
-/
module

public import proofs.«01_k».proof.Proof.Gen.DenseIdeal.Value
public import proofs.«01_k».proof.Proof.Expert
public import Idealize.ShloMosaic.Lib.Pointwise
public import Idealize.ShloMosaic.Lib.Pipeline.ValueKit

@[expose] public section

set_option maxRecDepth 16384

noncomputable section

namespace Cert.DenseIdeal.Value

open Idealize.ShloMosaic Idealize.ShloMosaic.TcCoe Idealize.SL.Sem
open Idealize.ShloMosaic.Pipeline (Dat)
open Cert.DenseIdeal Cert.DenseIdeal.Gen
open Cert.Expert

theorem active_at (u : Vec Ideal S1024x1024 .bf16) (h : Vec Ideal S1024x512 .bf16) (e : Fin 1024) (r : Fin 512) :
    k0_pay4 (F := Ideal) u h (ix2 e r) = Gate.gelu (∑ k : Fin 1024, u (ix2 e k) * h (ix2 k r)) := by
  pointwise [k0_pay4]
  rfl

theorem added_at (acc : Vec Ideal S1024x512 .f32) (v : Vec Ideal S1024x1024 .bf16) (w : Vec Ideal S1024x512 .bf16) (d : Fin 1024) (r : Fin 512) :
    k0_pay1 (F := Ideal) acc v w (ix2 d r) = acc (ix2 d r) + ∑ e : Fin 1024, v (ix2 d e) * w (ix2 e r) := by
  pointwise [k0_pay1]

theorem zeros_at (d : Fin 1024) (r : Fin 512) : k0_pay3 (F := Ideal) (ix2 d r) = 0 := by
  pointwise [k0_pay3]

theorem final_at (x : Vec Ideal S512x1024 .f32) (acc : Vec Ideal S1024x512 .f32) (g : Vec Ideal S1x1024 .f32) (r : Fin 512) (k : Fin 1024) :
    k0_pay2 (F := Ideal) x acc g (ix2 r k) = Rotary.normed (fun l => x (ix2 r l) + acc (ix2 l r)) (fun l => g (ix2 0 l)) k := by
  pointwise [k0_pay2]
  rfl

/-- One head's part of a row of gates. -/
def term (r : FVec Ideal S1x128x512 .f32) (n a : FVec Ideal S1x1x512 .f32) (b : FVec Ideal S1x128x512 .f32) : FVec Ideal S128x512 .f32 :=
  select (cmpf .olt (shapeCast S128x512 r shapeCasts_S1x128x512_S128x512) (broadcastTo S128x512 (shapeCast S1x512 n shapeCasts_S1x1x512_S1x512) broadcasts_S1x512_S128x512))
    (mulf (broadcastTo S128x512 (shapeCast S1x512 a shapeCasts_S1x1x512_S1x512) broadcasts_S1x512_S128x512) (shapeCast S128x512 b shapeCasts_S1x128x512_S128x512))
    (broadcast S128x512 (Scalar.ofBits (F := Ideal) .f32 0x00000000#32))

theorem term_at (r : FVec Ideal S1x128x512 .f32) (n a : FVec Ideal S1x1x512 .f32) (b : FVec Ideal S1x128x512 .f32) (j : Fin 128) (t : Fin 512) :
    term r n a b (ix2 j t) = share (r (ix3 0 j t)) (n (ix3 0 0 t)) (a (ix3 0 0 t)) (b (ix3 0 j t)) := by
  pointwise [term]
  rfl

/-- A row of gates times its activations, from the eight heads' parts. -/
def row (s0 s1 s2 s3 s4 s5 s6 s7 : FVec Ideal S128x512 .f32) (act : FVec Ideal S1024x512 .f32) (o : ℕ) (sl : S1024x512.Slices ![o, 0] S128x512) : FVec Ideal S128x512 .bf16 :=
  shapeCast S128x512 (truncf .bf16 (mulf (addf (addf (addf (addf (addf (addf (addf s0 s1) s2) s3) s4) s5) s6) s7) (extractStridedSlice S128x512 ![o, 0] act sl)) bitsLt_bf16_f32) shapeCasts_S128x512_S128x512

theorem row_at (s0 s1 s2 s3 s4 s5 s6 s7 : FVec Ideal S128x512 .f32) (act : FVec Ideal S1024x512 .f32) (o : ℕ) (sl : S1024x512.Slices ![o, 0] S128x512) (j : Fin 128) (t : Fin 512) (e : Fin 1024) (he : (e : ℕ) = o + j) :
    row s0 s1 s2 s3 s4 s5 s6 s7 act o sl (ix2 j t)
      = (s0 (ix2 j t) + s1 (ix2 j t) + s2 (ix2 j t) + s3 (ix2 j t) + s4 (ix2 j t) + s5 (ix2 j t) + s6 (ix2 j t) + s7 (ix2 j t)) * act (ix2 e t) := by
  pointwise [row]
  refine congrArg (_ * act ·) ?_
  refine congrArg₂ ix2 (Fin.ext he.symm) rfl

section
variable (U : Vec Ideal S1024x1024 .bf16) (H : Vec Ideal S1024x512 .bf16) (A N : Vec Ideal S8x8x512 .f32) (B R : Vec Ideal S8x128x512 .f32)

/-- The gate times the activation, of a block's expert `e` for a block's token `r`. -/
def weight (e : Fin 1024) (r : Fin 512) : EReal :=
  (∑ h : Fin 8, share (R (ix3 h ⟨e % 128, Nat.mod_lt _ (by decide)⟩ r)) (N (ix3 h ⟨e / 128, by omega⟩ r)) (A (ix3 h ⟨e / 128, by omega⟩ r)) (B (ix3 h ⟨e % 128, Nat.mod_lt _ (by decide)⟩ r)))
    * Gate.gelu (∑ k : Fin 1024, U (ix2 e k) * H (ix2 k r))

/-- What a block's experts add to column `d` of a block's token `r`. -/
def blockSum (V : Vec Ideal S1024x1024 .bf16) (d : Fin 1024) (r : Fin 512) : EReal :=
  ∑ e : Fin 1024, V (ix2 d e) * weight U H A N B R e r

theorem added_of (acc : Vec Ideal S1024x512 .f32) (V : Vec Ideal S1024x1024 .bf16) (w : Vec Ideal S1024x512 .bf16) (d : Fin 1024) (r : Fin 512)
    (hw : ∀ e : Fin 1024, w (ix2 e r) = weight U H A N B R e r) :
    k0_pay1 (F := Ideal) acc V w (ix2 d r) = acc (ix2 d r) + blockSum U H A N B R V d r := by
  rw [added_at]
  unfold blockSum
  simp only [hw]

/-- A load of the whole tile. -/
theorem whole_idx (e : Fin 1024) (r : Fin 512) : (Rect.unit (s := S1024x512) ![0, 0] S1024x512.size inb_S1024x512_S1024x512_0_0).toLoadRect.idx (ix2 e r) = ix2 e r := by
  funext a
  refine Fin.ext ?_
  fin_cases a
  · show 0 + 1 * (e : ℕ) = e
    omega
  · show 0 + 1 * (r : ℕ) = r
    omega

theorem read_small (x : Vec Ideal S8x8x512 .f32) (n i : ℕ) (p : ∀ a, (![n, i, 0] : Fin 3 → ℕ) a + S1x1x512.size a ≤ S8x8x512.size a) (h i' : Fin 8) (hn : (h : ℕ) = n) (hi : (i' : ℕ) = i) (r : Fin 512) :
    View.ld (Val := Elt Ideal) (e' := EltTy.f32) x (Rect.unit (s := S8x8x512) ![n, i, 0] ![1, 1, 512] p) (ix3 0 0 r) = x (ix3 h i' r) := by
  refine View.ld_unit_apply_of _ _ _ _ _ _ fun a => ?_
  fin_cases a
  · exact hn
  · exact hi
  · exact (Nat.zero_add _).symm

theorem read_large (x : Vec Ideal S8x128x512 .f32) (n : ℕ) (p : ∀ a, (![n, 0, 0] : Fin 3 → ℕ) a + S1x128x512.size a ≤ S8x128x512.size a) (h : Fin 8) (hn : (h : ℕ) = n) (j : Fin 128) (r : Fin 512) :
    View.ld (Val := Elt Ideal) (e' := EltTy.f32) x (Rect.unit (s := S8x128x512) ![n, 0, 0] ![1, 128, 512] p) (ix3 0 j r) = x (ix3 h j r) := by
  refine View.ld_unit_apply_of _ _ _ _ _ _ fun a => ?_
  fin_cases a
  · exact hn
  · exact (Nat.zero_add _).symm
  · exact (Nat.zero_add _).symm

/-- A row's tile, at an index. -/
theorem piece_at (i : ℕ) (p0 : ∀ a, (![0, i, 0] : Fin 3 → ℕ) a + S1x1x512.size a ≤ S8x8x512.size a) (p1 : ∀ a, (![1, i, 0] : Fin 3 → ℕ) a + S1x1x512.size a ≤ S8x8x512.size a) (p2 : ∀ a, (![2, i, 0] : Fin 3 → ℕ) a + S1x1x512.size a ≤ S8x8x512.size a) (p3 : ∀ a, (![3, i, 0] : Fin 3 → ℕ) a + S1x1x512.size a ≤ S8x8x512.size a) (p4 : ∀ a, (![4, i, 0] : Fin 3 → ℕ) a + S1x1x512.size a ≤ S8x8x512.size a) (p5 : ∀ a, (![5, i, 0] : Fin 3 → ℕ) a + S1x1x512.size a ≤ S8x8x512.size a) (p6 : ∀ a, (![6, i, 0] : Fin 3 → ℕ) a + S1x1x512.size a ≤ S8x8x512.size a) (p7 : ∀ a, (![7, i, 0] : Fin 3 → ℕ) a + S1x1x512.size a ≤ S8x8x512.size a) (q0 : ∀ a, (![0, 0, 0] : Fin 3 → ℕ) a + S1x128x512.size a ≤ S8x128x512.size a) (q1 : ∀ a, (![1, 0, 0] : Fin 3 → ℕ) a + S1x128x512.size a ≤ S8x128x512.size a) (q2 : ∀ a, (![2, 0, 0] : Fin 3 → ℕ) a + S1x128x512.size a ≤ S8x128x512.size a) (q3 : ∀ a, (![3, 0, 0] : Fin 3 → ℕ) a + S1x128x512.size a ≤ S8x128x512.size a) (q4 : ∀ a, (![4, 0, 0] : Fin 3 → ℕ) a + S1x128x512.size a ≤ S8x128x512.size a) (q5 : ∀ a, (![5, 0, 0] : Fin 3 → ℕ) a + S1x128x512.size a ≤ S8x128x512.size a) (q6 : ∀ a, (![6, 0, 0] : Fin 3 → ℕ) a + S1x128x512.size a ≤ S8x128x512.size a) (q7 : ∀ a, (![7, 0, 0] : Fin 3 → ℕ) a + S1x128x512.size a ≤ S8x128x512.size a) (o : ℕ) (sl : S1024x512.Slices ![o, 0] S128x512) (j : Fin 128) (r : Fin 512) (e : Fin 1024) (ho : o = 128 * i) (he : (e : ℕ) = o + j) :
    row (term (View.ld (Val := Elt Ideal) (e' := EltTy.f32) R (Rect.unit (s := S8x128x512) ![0, 0, 0] ![1, 128, 512] q0)) (View.ld (Val := Elt Ideal) (e' := EltTy.f32) N (Rect.unit (s := S8x8x512) ![0, i, 0] ![1, 1, 512] p0)) (View.ld (Val := Elt Ideal) (e' := EltTy.f32) A (Rect.unit (s := S8x8x512) ![0, i, 0] ![1, 1, 512] p0)) (View.ld (Val := Elt Ideal) (e' := EltTy.f32) B (Rect.unit (s := S8x128x512) ![0, 0, 0] ![1, 128, 512] q0)))
      (term (View.ld (Val := Elt Ideal) (e' := EltTy.f32) R (Rect.unit (s := S8x128x512) ![1, 0, 0] ![1, 128, 512] q1)) (View.ld (Val := Elt Ideal) (e' := EltTy.f32) N (Rect.unit (s := S8x8x512) ![1, i, 0] ![1, 1, 512] p1)) (View.ld (Val := Elt Ideal) (e' := EltTy.f32) A (Rect.unit (s := S8x8x512) ![1, i, 0] ![1, 1, 512] p1)) (View.ld (Val := Elt Ideal) (e' := EltTy.f32) B (Rect.unit (s := S8x128x512) ![1, 0, 0] ![1, 128, 512] q1)))
      (term (View.ld (Val := Elt Ideal) (e' := EltTy.f32) R (Rect.unit (s := S8x128x512) ![2, 0, 0] ![1, 128, 512] q2)) (View.ld (Val := Elt Ideal) (e' := EltTy.f32) N (Rect.unit (s := S8x8x512) ![2, i, 0] ![1, 1, 512] p2)) (View.ld (Val := Elt Ideal) (e' := EltTy.f32) A (Rect.unit (s := S8x8x512) ![2, i, 0] ![1, 1, 512] p2)) (View.ld (Val := Elt Ideal) (e' := EltTy.f32) B (Rect.unit (s := S8x128x512) ![2, 0, 0] ![1, 128, 512] q2)))
      (term (View.ld (Val := Elt Ideal) (e' := EltTy.f32) R (Rect.unit (s := S8x128x512) ![3, 0, 0] ![1, 128, 512] q3)) (View.ld (Val := Elt Ideal) (e' := EltTy.f32) N (Rect.unit (s := S8x8x512) ![3, i, 0] ![1, 1, 512] p3)) (View.ld (Val := Elt Ideal) (e' := EltTy.f32) A (Rect.unit (s := S8x8x512) ![3, i, 0] ![1, 1, 512] p3)) (View.ld (Val := Elt Ideal) (e' := EltTy.f32) B (Rect.unit (s := S8x128x512) ![3, 0, 0] ![1, 128, 512] q3)))
      (term (View.ld (Val := Elt Ideal) (e' := EltTy.f32) R (Rect.unit (s := S8x128x512) ![4, 0, 0] ![1, 128, 512] q4)) (View.ld (Val := Elt Ideal) (e' := EltTy.f32) N (Rect.unit (s := S8x8x512) ![4, i, 0] ![1, 1, 512] p4)) (View.ld (Val := Elt Ideal) (e' := EltTy.f32) A (Rect.unit (s := S8x8x512) ![4, i, 0] ![1, 1, 512] p4)) (View.ld (Val := Elt Ideal) (e' := EltTy.f32) B (Rect.unit (s := S8x128x512) ![4, 0, 0] ![1, 128, 512] q4)))
      (term (View.ld (Val := Elt Ideal) (e' := EltTy.f32) R (Rect.unit (s := S8x128x512) ![5, 0, 0] ![1, 128, 512] q5)) (View.ld (Val := Elt Ideal) (e' := EltTy.f32) N (Rect.unit (s := S8x8x512) ![5, i, 0] ![1, 1, 512] p5)) (View.ld (Val := Elt Ideal) (e' := EltTy.f32) A (Rect.unit (s := S8x8x512) ![5, i, 0] ![1, 1, 512] p5)) (View.ld (Val := Elt Ideal) (e' := EltTy.f32) B (Rect.unit (s := S8x128x512) ![5, 0, 0] ![1, 128, 512] q5)))
      (term (View.ld (Val := Elt Ideal) (e' := EltTy.f32) R (Rect.unit (s := S8x128x512) ![6, 0, 0] ![1, 128, 512] q6)) (View.ld (Val := Elt Ideal) (e' := EltTy.f32) N (Rect.unit (s := S8x8x512) ![6, i, 0] ![1, 1, 512] p6)) (View.ld (Val := Elt Ideal) (e' := EltTy.f32) A (Rect.unit (s := S8x8x512) ![6, i, 0] ![1, 1, 512] p6)) (View.ld (Val := Elt Ideal) (e' := EltTy.f32) B (Rect.unit (s := S8x128x512) ![6, 0, 0] ![1, 128, 512] q6)))
      (term (View.ld (Val := Elt Ideal) (e' := EltTy.f32) R (Rect.unit (s := S8x128x512) ![7, 0, 0] ![1, 128, 512] q7)) (View.ld (Val := Elt Ideal) (e' := EltTy.f32) N (Rect.unit (s := S8x8x512) ![7, i, 0] ![1, 1, 512] p7)) (View.ld (Val := Elt Ideal) (e' := EltTy.f32) A (Rect.unit (s := S8x8x512) ![7, i, 0] ![1, 1, 512] p7)) (View.ld (Val := Elt Ideal) (e' := EltTy.f32) B (Rect.unit (s := S8x128x512) ![7, 0, 0] ![1, 128, 512] q7)))
      (k0_pay4 U H) o sl (ix2 j r) = weight U H A N B R e r := by
  have hi : ((⟨e / 128, by omega⟩ : Fin 8) : ℕ) = i := by show (e : ℕ) / 128 = i; omega
  have hj : (⟨e % 128, Nat.mod_lt _ (by decide)⟩ : Fin 128) = j := Fin.ext (by show (e : ℕ) % 128 = j; omega)
  rw [row_at _ _ _ _ _ _ _ _ _ o sl j r e he, active_at]
  simp only [term_at]
  unfold weight
  rw [hj, Fin.sum_univ_eight]
  rw [read_large R 0 q0 0 rfl, read_small N 0 i p0 0 _ rfl hi, read_small A 0 i p0 0 _ rfl hi, read_large B 0 q0 0 rfl, read_large R 1 q1 1 rfl, read_small N 1 i p1 1 _ rfl hi, read_small A 1 i p1 1 _ rfl hi, read_large B 1 q1 1 rfl, read_large R 2 q2 2 rfl, read_small N 2 i p2 2 _ rfl hi, read_small A 2 i p2 2 _ rfl hi, read_large B 2 q2 2 rfl, read_large R 3 q3 3 rfl, read_small N 3 i p3 3 _ rfl hi, read_small A 3 i p3 3 _ rfl hi, read_large B 3 q3 3 rfl, read_large R 4 q4 4 rfl, read_small N 4 i p4 4 _ rfl hi, read_small A 4 i p4 4 _ rfl hi, read_large B 4 q4 4 rfl, read_large R 5 q5 5 rfl, read_small N 5 i p5 5 _ rfl hi, read_small A 5 i p5 5 _ rfl hi, read_large B 5 q5 5 rfl, read_large R 6 q6 6 rfl, read_small N 6 i p6 6 _ rfl hi, read_small A 6 i p6 6 _ rfl hi, read_large B 6 q6 6 rfl, read_large R 7 q7 7 rfl, read_small N 7 i p7 7 _ rfl hi, read_small A 7 i p7 7 _ rfl hi, read_large B 7 q7 7 rfl]

end

end Cert.DenseIdeal.Value
-- ==== Proof.Pieces.lean ====
/-
The eight rows of a block's gates times activations, as the kernel stores them, at an index.
-/
module

public import proofs.«01_k».proof.Proof.Rows
public import proofs.«01_k».proof.Proof.Expert
public import Idealize.ShloMosaic.Lib.Pointwise
public import Idealize.ShloMosaic.Lib.Pipeline.ValueKit

@[expose] public section

set_option maxRecDepth 16384

noncomputable section

namespace Cert.DenseIdeal.Value

open Idealize.ShloMosaic Idealize.ShloMosaic.TcCoe Idealize.SL.Sem
open Idealize.ShloMosaic.Pipeline (Dat)
open Cert.DenseIdeal Cert.DenseIdeal.Gen
open Cert.Expert

section
variable (U : Vec Ideal S1024x1024 .bf16) (H : Vec Ideal S1024x512 .bf16) (A N : Vec Ideal S8x8x512 .f32) (B R : Vec Ideal S8x128x512 .f32)

/-- The tile of row 0. -/
def tile0 : FVec Ideal S128x512 .bf16 :=
  k0_pay14 (k0_pay4 U H)
      (k0_pay11
        (k0_pay9
          (k0_pay8
            (k0_pay5 (View.ld (Val := Elt Ideal) (e' := EltTy.f32) R (Rect.unit ![0, 0, 0] ![1, 128, 512] inb_S8x128x512_S1x128x512_0_0_0))
              (View.ld (Val := Elt Ideal) (e' := EltTy.f32) N (Rect.unit ![0, 0, 0] ![1, 1, 512] inb_S8x8x512_S1x1x512_0_0_0)))
            (k0_pay6 (View.ld (Val := Elt Ideal) (e' := EltTy.f32) A (Rect.unit ![0, 0, 0] ![1, 1, 512] inb_S8x8x512_S1x1x512_0_0_0))
              (View.ld (Val := Elt Ideal) (e' := EltTy.f32) B (Rect.unit ![0, 0, 0] ![1, 128, 512] inb_S8x128x512_S1x128x512_0_0_0)))
            k0_pay7 (View.ld (Val := Elt Ideal) (e' := EltTy.f32) R (Rect.unit ![1, 0, 0] ![1, 128, 512] inb_S8x128x512_S1x128x512_1_0_0))
            (View.ld (Val := Elt Ideal) (e' := EltTy.f32) N (Rect.unit ![1, 0, 0] ![1, 1, 512] inb_S8x8x512_S1x1x512_1_0_0))
            (View.ld (Val := Elt Ideal) (e' := EltTy.f32) A (Rect.unit ![1, 0, 0] ![1, 1, 512] inb_S8x8x512_S1x1x512_1_0_0))
            (View.ld (Val := Elt Ideal) (e' := EltTy.f32) B (Rect.unit ![1, 0, 0] ![1, 128, 512] inb_S8x128x512_S1x128x512_1_0_0))
            (View.ld (Val := Elt Ideal) (e' := EltTy.f32) R (Rect.unit ![2, 0, 0] ![1, 128, 512] inb_S8x128x512_S1x128x512_2_0_0))
            (View.ld (Val := Elt Ideal) (e' := EltTy.f32) N (Rect.unit ![2, 0, 0] ![1, 1, 512] inb_S8x8x512_S1x1x512_2_0_0))
            (View.ld (Val := Elt Ideal) (e' := EltTy.f32) A (Rect.unit ![2, 0, 0] ![1, 1, 512] inb_S8x8x512_S1x1x512_2_0_0))
            (View.ld (Val := Elt Ideal) (e' := EltTy.f32) B (Rect.unit ![2, 0, 0] ![1, 128, 512] inb_S8x128x512_S1x128x512_2_0_0)))
          (View.ld (Val := Elt Ideal) (e' := EltTy.f32) R (Rect.unit ![3, 0, 0] ![1, 128, 512] inb_S8x128x512_S1x128x512_3_0_0))
          (View.ld (Val := Elt Ideal) (e' := EltTy.f32) N (Rect.unit ![3, 0, 0] ![1, 1, 512] inb_S8x8x512_S1x1x512_3_0_0))
          (View.ld (Val := Elt Ideal) (e' := EltTy.f32) A (Rect.unit ![3, 0, 0] ![1, 1, 512] inb_S8x8x512_S1x1x512_3_0_0))
          (View.ld (Val := Elt Ideal) (e' := EltTy.f32) B (Rect.unit ![3, 0, 0] ![1, 128, 512] inb_S8x128x512_S1x128x512_3_0_0))
          (View.ld (Val := Elt Ideal) (e' := EltTy.f32) R (Rect.unit ![4, 0, 0] ![1, 128, 512] inb_S8x128x512_S1x128x512_4_0_0))
          (View.ld (Val := Elt Ideal) (e' := EltTy.f32) N (Rect.unit ![4, 0, 0] ![1, 1, 512] inb_S8x8x512_S1x1x512_4_0_0))
          (View.ld (Val := Elt Ideal) (e' := EltTy.f32) A (Rect.unit ![4, 0, 0] ![1, 1, 512] inb_S8x8x512_S1x1x512_4_0_0))
          (View.ld (Val := Elt Ideal) (e' := EltTy.f32) B (Rect.unit ![4, 0, 0] ![1, 128, 512] inb_S8x128x512_S1x128x512_4_0_0)))
        (k0_pay10 (View.ld (Val := Elt Ideal) (e' := EltTy.f32) R (Rect.unit ![5, 0, 0] ![1, 128, 512] inb_S8x128x512_S1x128x512_5_0_0)))
        (View.ld (Val := Elt Ideal) (e' := EltTy.f32) N (Rect.unit ![5, 0, 0] ![1, 1, 512] inb_S8x8x512_S1x1x512_5_0_0))
        (View.ld (Val := Elt Ideal) (e' := EltTy.f32) A (Rect.unit ![5, 0, 0] ![1, 1, 512] inb_S8x8x512_S1x1x512_5_0_0))
        (View.ld (Val := Elt Ideal) (e' := EltTy.f32) B (Rect.unit ![5, 0, 0] ![1, 128, 512] inb_S8x128x512_S1x128x512_5_0_0))
        (View.ld (Val := Elt Ideal) (e' := EltTy.f32) R (Rect.unit ![6, 0, 0] ![1, 128, 512] inb_S8x128x512_S1x128x512_6_0_0))
        (View.ld (Val := Elt Ideal) (e' := EltTy.f32) N (Rect.unit ![6, 0, 0] ![1, 1, 512] inb_S8x8x512_S1x1x512_6_0_0))
        (View.ld (Val := Elt Ideal) (e' := EltTy.f32) A (Rect.unit ![6, 0, 0] ![1, 1, 512] inb_S8x8x512_S1x1x512_6_0_0))
        (View.ld (Val := Elt Ideal) (e' := EltTy.f32) B (Rect.unit ![6, 0, 0] ![1, 128, 512] inb_S8x128x512_S1x128x512_6_0_0)))
      (k0_pay12 (View.ld (Val := Elt Ideal) (e' := EltTy.f32) R (Rect.unit ![7, 0, 0] ![1, 128, 512] inb_S8x128x512_S1x128x512_7_0_0)))
      (k0_pay13 (View.ld (Val := Elt Ideal) (e' := EltTy.f32) N (Rect.unit ![7, 0, 0] ![1, 1, 512] inb_S8x8x512_S1x1x512_7_0_0)))
      (View.ld (Val := Elt Ideal) (e' := EltTy.f32) A (Rect.unit ![7, 0, 0] ![1, 1, 512] inb_S8x8x512_S1x1x512_7_0_0))
      (View.ld (Val := Elt Ideal) (e' := EltTy.f32) B (Rect.unit ![7, 0, 0] ![1, 128, 512] inb_S8x128x512_S1x128x512_7_0_0))

theorem tile0_eq : tile0 U H A N B R = row (term (View.ld (Val := Elt Ideal) (e' := EltTy.f32) R (Rect.unit (s := S8x128x512) ![0, 0, 0] ![1, 128, 512] inb_S8x128x512_S1x128x512_0_0_0)) (View.ld (Val := Elt Ideal) (e' := EltTy.f32) N (Rect.unit (s := S8x8x512) ![0, 0, 0] ![1, 1, 512] inb_S8x8x512_S1x1x512_0_0_0)) (View.ld (Val := Elt Ideal) (e' := EltTy.f32) A (Rect.unit (s := S8x8x512) ![0, 0, 0] ![1, 1, 512] inb_S8x8x512_S1x1x512_0_0_0)) (View.ld (Val := Elt Ideal) (e' := EltTy.f32) B (Rect.unit (s := S8x128x512) ![0, 0, 0] ![1, 128, 512] inb_S8x128x512_S1x128x512_0_0_0)))
      (term (View.ld (Val := Elt Ideal) (e' := EltTy.f32) R (Rect.unit (s := S8x128x512) ![1, 0, 0] ![1, 128, 512] inb_S8x128x512_S1x128x512_1_0_0)) (View.ld (Val := Elt Ideal) (e' := EltTy.f32) N (Rect.unit (s := S8x8x512) ![1, 0, 0] ![1, 1, 512] inb_S8x8x512_S1x1x512_1_0_0)) (View.ld (Val := Elt Ideal) (e' := EltTy.f32) A (Rect.unit (s := S8x8x512) ![1, 0, 0] ![1, 1, 512] inb_S8x8x512_S1x1x512_1_0_0)) (View.ld (Val := Elt Ideal) (e' := EltTy.f32) B (Rect.unit (s := S8x128x512) ![1, 0, 0] ![1, 128, 512] inb_S8x128x512_S1x128x512_1_0_0)))
      (term (View.ld (Val := Elt Ideal) (e' := EltTy.f32) R (Rect.unit (s := S8x128x512) ![2, 0, 0] ![1, 128, 512] inb_S8x128x512_S1x128x512_2_0_0)) (View.ld (Val := Elt Ideal) (e' := EltTy.f32) N (Rect.unit (s := S8x8x512) ![2, 0, 0] ![1, 1, 512] inb_S8x8x512_S1x1x512_2_0_0)) (View.ld (Val := Elt Ideal) (e' := EltTy.f32) A (Rect.unit (s := S8x8x512) ![2, 0, 0] ![1, 1, 512] inb_S8x8x512_S1x1x512_2_0_0)) (View.ld (Val := Elt Ideal) (e' := EltTy.f32) B (Rect.unit (s := S8x128x512) ![2, 0, 0] ![1, 128, 512] inb_S8x128x512_S1x128x512_2_0_0)))
      (term (View.ld (Val := Elt Ideal) (e' := EltTy.f32) R (Rect.unit (s := S8x128x512) ![3, 0, 0] ![1, 128, 512] inb_S8x128x512_S1x128x512_3_0_0)) (View.ld (Val := Elt Ideal) (e' := EltTy.f32) N (Rect.unit (s := S8x8x512) ![3, 0, 0] ![1, 1, 512] inb_S8x8x512_S1x1x512_3_0_0)) (View.ld (Val := Elt Ideal) (e' := EltTy.f32) A (Rect.unit (s := S8x8x512) ![3, 0, 0] ![1, 1, 512] inb_S8x8x512_S1x1x512_3_0_0)) (View.ld (Val := Elt Ideal) (e' := EltTy.f32) B (Rect.unit (s := S8x128x512) ![3, 0, 0] ![1, 128, 512] inb_S8x128x512_S1x128x512_3_0_0)))
      (term (View.ld (Val := Elt Ideal) (e' := EltTy.f32) R (Rect.unit (s := S8x128x512) ![4, 0, 0] ![1, 128, 512] inb_S8x128x512_S1x128x512_4_0_0)) (View.ld (Val := Elt Ideal) (e' := EltTy.f32) N (Rect.unit (s := S8x8x512) ![4, 0, 0] ![1, 1, 512] inb_S8x8x512_S1x1x512_4_0_0)) (View.ld (Val := Elt Ideal) (e' := EltTy.f32) A (Rect.unit (s := S8x8x512) ![4, 0, 0] ![1, 1, 512] inb_S8x8x512_S1x1x512_4_0_0)) (View.ld (Val := Elt Ideal) (e' := EltTy.f32) B (Rect.unit (s := S8x128x512) ![4, 0, 0] ![1, 128, 512] inb_S8x128x512_S1x128x512_4_0_0)))
      (term (View.ld (Val := Elt Ideal) (e' := EltTy.f32) R (Rect.unit (s := S8x128x512) ![5, 0, 0] ![1, 128, 512] inb_S8x128x512_S1x128x512_5_0_0)) (View.ld (Val := Elt Ideal) (e' := EltTy.f32) N (Rect.unit (s := S8x8x512) ![5, 0, 0] ![1, 1, 512] inb_S8x8x512_S1x1x512_5_0_0)) (View.ld (Val := Elt Ideal) (e' := EltTy.f32) A (Rect.unit (s := S8x8x512) ![5, 0, 0] ![1, 1, 512] inb_S8x8x512_S1x1x512_5_0_0)) (View.ld (Val := Elt Ideal) (e' := EltTy.f32) B (Rect.unit (s := S8x128x512) ![5, 0, 0] ![1, 128, 512] inb_S8x128x512_S1x128x512_5_0_0)))
      (term (View.ld (Val := Elt Ideal) (e' := EltTy.f32) R (Rect.unit (s := S8x128x512) ![6, 0, 0] ![1, 128, 512] inb_S8x128x512_S1x128x512_6_0_0)) (View.ld (Val := Elt Ideal) (e' := EltTy.f32) N (Rect.unit (s := S8x8x512) ![6, 0, 0] ![1, 1, 512] inb_S8x8x512_S1x1x512_6_0_0)) (View.ld (Val := Elt Ideal) (e' := EltTy.f32) A (Rect.unit (s := S8x8x512) ![6, 0, 0] ![1, 1, 512] inb_S8x8x512_S1x1x512_6_0_0)) (View.ld (Val := Elt Ideal) (e' := EltTy.f32) B (Rect.unit (s := S8x128x512) ![6, 0, 0] ![1, 128, 512] inb_S8x128x512_S1x128x512_6_0_0)))
      (term (View.ld (Val := Elt Ideal) (e' := EltTy.f32) R (Rect.unit (s := S8x128x512) ![7, 0, 0] ![1, 128, 512] inb_S8x128x512_S1x128x512_7_0_0)) (View.ld (Val := Elt Ideal) (e' := EltTy.f32) N (Rect.unit (s := S8x8x512) ![7, 0, 0] ![1, 1, 512] inb_S8x8x512_S1x1x512_7_0_0)) (View.ld (Val := Elt Ideal) (e' := EltTy.f32) A (Rect.unit (s := S8x8x512) ![7, 0, 0] ![1, 1, 512] inb_S8x8x512_S1x1x512_7_0_0)) (View.ld (Val := Elt Ideal) (e' := EltTy.f32) B (Rect.unit (s := S8x128x512) ![7, 0, 0] ![1, 128, 512] inb_S8x128x512_S1x128x512_7_0_0)))
      (k0_pay4 U H) 0 slices_S1024x512_o0_0_S128x512 := by
  unfold tile0 k0_pay10 k0_pay11 k0_pay12 k0_pay13 k0_pay14 k0_pay5 k0_pay6 k0_pay7 k0_pay8 k0_pay9 row term
  with_reducible_and_instances rfl

theorem tile0_at (x : S128x512.Idx) (e : Fin 1024) (r : Fin 512) (h0 : (e : ℕ) = 0 + (x 0 : ℕ)) (h1 : (r : ℕ) = (x 1 : ℕ)) : tile0 U H A N B R x = weight U H A N B R e r := by
  refine (congrArg _ (eq_ix2 x)).trans ?_
  rw [tile0_eq, show r = (x 1 : Fin 512) from Fin.ext h1]
  exact piece_at U H A N B R 0 _ _ _ _ _ _ _ _ _ _ _ _ _ _ _ _ 0 _ (x 0) (x 1) e rfl h0

/-- The tile of row 1. -/
def tile1 : FVec Ideal S128x512 .bf16 :=
  k0_pay25 (k0_pay4 U H)
      (k0_pay22
        (k0_pay20
          (k0_pay17
            (k0_pay15 (View.ld (Val := Elt Ideal) (e' := EltTy.f32) R (Rect.unit ![0, 0, 0] ![1, 128, 512] inb_S8x128x512_S1x128x512_0_0_0))
              (View.ld (Val := Elt Ideal) (e' := EltTy.f32) N (Rect.unit ![0, 1, 0] ![1, 1, 512] inb_S8x8x512_S1x1x512_0_1_0))
              (View.ld (Val := Elt Ideal) (e' := EltTy.f32) A (Rect.unit ![0, 1, 0] ![1, 1, 512] inb_S8x8x512_S1x1x512_0_1_0))
              (View.ld (Val := Elt Ideal) (e' := EltTy.f32) B (Rect.unit ![0, 0, 0] ![1, 128, 512] inb_S8x128x512_S1x128x512_0_0_0)))
            (k0_pay16 (View.ld (Val := Elt Ideal) (e' := EltTy.f32) R (Rect.unit ![1, 0, 0] ![1, 128, 512] inb_S8x128x512_S1x128x512_1_0_0)))
            (View.ld (Val := Elt Ideal) (e' := EltTy.f32) N (Rect.unit ![1, 1, 0] ![1, 1, 512] inb_S8x8x512_S1x1x512_1_1_0))
            (View.ld (Val := Elt Ideal) (e' := EltTy.f32) A (Rect.unit ![1, 1, 0] ![1, 1, 512] inb_S8x8x512_S1x1x512_1_1_0))
            (View.ld (Val := Elt Ideal) (e' := EltTy.f32) B (Rect.unit ![1, 0, 0] ![1, 128, 512] inb_S8x128x512_S1x128x512_1_0_0))
            (View.ld (Val := Elt Ideal) (e' := EltTy.f32) R (Rect.unit ![2, 0, 0] ![1, 128, 512] inb_S8x128x512_S1x128x512_2_0_0))
            (View.ld (Val := Elt Ideal) (e' := EltTy.f32) N (Rect.unit ![2, 1, 0] ![1, 1, 512] inb_S8x8x512_S1x1x512_2_1_0))
            (View.ld (Val := Elt Ideal) (e' := EltTy.f32) A (Rect.unit ![2, 1, 0] ![1, 1, 512] inb_S8x8x512_S1x1x512_2_1_0))
            (View.ld (Val := Elt Ideal) (e' := EltTy.f32) B (Rect.unit ![2, 0, 0] ![1, 128, 512] inb_S8x128x512_S1x128x512_2_0_0)))
          (k0_pay18 (View.ld (Val := Elt Ideal) (e' := EltTy.f32) R (Rect.unit ![3, 0, 0] ![1, 128, 512] inb_S8x128x512_S1x128x512_3_0_0)))
          (k0_pay19 (View.ld (Val := Elt Ideal) (e' := EltTy.f32) N (Rect.unit ![3, 1, 0] ![1, 1, 512] inb_S8x8x512_S1x1x512_3_1_0)))
          (View.ld (Val := Elt Ideal) (e' := EltTy.f32) A (Rect.unit ![3, 1, 0] ![1, 1, 512] inb_S8x8x512_S1x1x512_3_1_0))
          (View.ld (Val := Elt Ideal) (e' := EltTy.f32) B (Rect.unit ![3, 0, 0] ![1, 128, 512] inb_S8x128x512_S1x128x512_3_0_0))
          (View.ld (Val := Elt Ideal) (e' := EltTy.f32) R (Rect.unit ![4, 0, 0] ![1, 128, 512] inb_S8x128x512_S1x128x512_4_0_0))
          (View.ld (Val := Elt Ideal) (e' := EltTy.f32) N (Rect.unit ![4, 1, 0] ![1, 1, 512] inb_S8x8x512_S1x1x512_4_1_0))
          (View.ld (Val := Elt Ideal) (e' := EltTy.f32) A (Rect.unit ![4, 1, 0] ![1, 1, 512] inb_S8x8x512_S1x1x512_4_1_0))
          (View.ld (Val := Elt Ideal) (e' := EltTy.f32) B (Rect.unit ![4, 0, 0] ![1, 128, 512] inb_S8x128x512_S1x128x512_4_0_0)))
        (k0_pay21 (View.ld (Val := Elt Ideal) (e' := EltTy.f32) R (Rect.unit ![5, 0, 0] ![1, 128, 512] inb_S8x128x512_S1x128x512_5_0_0))
          (View.ld (Val := Elt Ideal) (e' := EltTy.f32) N (Rect.unit ![5, 1, 0] ![1, 1, 512] inb_S8x8x512_S1x1x512_5_1_0)))
        (View.ld (Val := Elt Ideal) (e' := EltTy.f32) A (Rect.unit ![5, 1, 0] ![1, 1, 512] inb_S8x8x512_S1x1x512_5_1_0))
        (View.ld (Val := Elt Ideal) (e' := EltTy.f32) B (Rect.unit ![5, 0, 0] ![1, 128, 512] inb_S8x128x512_S1x128x512_5_0_0))
        (View.ld (Val := Elt Ideal) (e' := EltTy.f32) R (Rect.unit ![6, 0, 0] ![1, 128, 512] inb_S8x128x512_S1x128x512_6_0_0))
        (View.ld (Val := Elt Ideal) (e' := EltTy.f32) N (Rect.unit ![6, 1, 0] ![1, 1, 512] inb_S8x8x512_S1x1x512_6_1_0))
        (View.ld (Val := Elt Ideal) (e' := EltTy.f32) A (Rect.unit ![6, 1, 0] ![1, 1, 512] inb_S8x8x512_S1x1x512_6_1_0))
        (View.ld (Val := Elt Ideal) (e' := EltTy.f32) B (Rect.unit ![6, 0, 0] ![1, 128, 512] inb_S8x128x512_S1x128x512_6_0_0)))
      (k0_pay23 (View.ld (Val := Elt Ideal) (e' := EltTy.f32) R (Rect.unit ![7, 0, 0] ![1, 128, 512] inb_S8x128x512_S1x128x512_7_0_0))
        (View.ld (Val := Elt Ideal) (e' := EltTy.f32) N (Rect.unit ![7, 1, 0] ![1, 1, 512] inb_S8x8x512_S1x1x512_7_1_0)))
      (k0_pay24 (View.ld (Val := Elt Ideal) (e' := EltTy.f32) A (Rect.unit ![7, 1, 0] ![1, 1, 512] inb_S8x8x512_S1x1x512_7_1_0)))
      (View.ld (Val := Elt Ideal) (e' := EltTy.f32) B (Rect.unit ![7, 0, 0] ![1, 128, 512] inb_S8x128x512_S1x128x512_7_0_0))

theorem tile1_eq : tile1 U H A N B R = row (term (View.ld (Val := Elt Ideal) (e' := EltTy.f32) R (Rect.unit (s := S8x128x512) ![0, 0, 0] ![1, 128, 512] inb_S8x128x512_S1x128x512_0_0_0)) (View.ld (Val := Elt Ideal) (e' := EltTy.f32) N (Rect.unit (s := S8x8x512) ![0, 1, 0] ![1, 1, 512] inb_S8x8x512_S1x1x512_0_1_0)) (View.ld (Val := Elt Ideal) (e' := EltTy.f32) A (Rect.unit (s := S8x8x512) ![0, 1, 0] ![1, 1, 512] inb_S8x8x512_S1x1x512_0_1_0)) (View.ld (Val := Elt Ideal) (e' := EltTy.f32) B (Rect.unit (s := S8x128x512) ![0, 0, 0] ![1, 128, 512] inb_S8x128x512_S1x128x512_0_0_0)))
      (term (View.ld (Val := Elt Ideal) (e' := EltTy.f32) R (Rect.unit (s := S8x128x512) ![1, 0, 0] ![1, 128, 512] inb_S8x128x512_S1x128x512_1_0_0)) (View.ld (Val := Elt Ideal) (e' := EltTy.f32) N (Rect.unit (s := S8x8x512) ![1, 1, 0] ![1, 1, 512] inb_S8x8x512_S1x1x512_1_1_0)) (View.ld (Val := Elt Ideal) (e' := EltTy.f32) A (Rect.unit (s := S8x8x512) ![1, 1, 0] ![1, 1, 512] inb_S8x8x512_S1x1x512_1_1_0)) (View.ld (Val := Elt Ideal) (e' := EltTy.f32) B (Rect.unit (s := S8x128x512) ![1, 0, 0] ![1, 128, 512] inb_S8x128x512_S1x128x512_1_0_0)))
      (term (View.ld (Val := Elt Ideal) (e' := EltTy.f32) R (Rect.unit (s := S8x128x512) ![2, 0, 0] ![1, 128, 512] inb_S8x128x512_S1x128x512_2_0_0)) (View.ld (Val := Elt Ideal) (e' := EltTy.f32) N (Rect.unit (s := S8x8x512) ![2, 1, 0] ![1, 1, 512] inb_S8x8x512_S1x1x512_2_1_0)) (View.ld (Val := Elt Ideal) (e' := EltTy.f32) A (Rect.unit (s := S8x8x512) ![2, 1, 0] ![1, 1, 512] inb_S8x8x512_S1x1x512_2_1_0)) (View.ld (Val := Elt Ideal) (e' := EltTy.f32) B (Rect.unit (s := S8x128x512) ![2, 0, 0] ![1, 128, 512] inb_S8x128x512_S1x128x512_2_0_0)))
      (term (View.ld (Val := Elt Ideal) (e' := EltTy.f32) R (Rect.unit (s := S8x128x512) ![3, 0, 0] ![1, 128, 512] inb_S8x128x512_S1x128x512_3_0_0)) (View.ld (Val := Elt Ideal) (e' := EltTy.f32) N (Rect.unit (s := S8x8x512) ![3, 1, 0] ![1, 1, 512] inb_S8x8x512_S1x1x512_3_1_0)) (View.ld (Val := Elt Ideal) (e' := EltTy.f32) A (Rect.unit (s := S8x8x512) ![3, 1, 0] ![1, 1, 512] inb_S8x8x512_S1x1x512_3_1_0)) (View.ld (Val := Elt Ideal) (e' := EltTy.f32) B (Rect.unit (s := S8x128x512) ![3, 0, 0] ![1, 128, 512] inb_S8x128x512_S1x128x512_3_0_0)))
      (term (View.ld (Val := Elt Ideal) (e' := EltTy.f32) R (Rect.unit (s := S8x128x512) ![4, 0, 0] ![1, 128, 512] inb_S8x128x512_S1x128x512_4_0_0)) (View.ld (Val := Elt Ideal) (e' := EltTy.f32) N (Rect.unit (s := S8x8x512) ![4, 1, 0] ![1, 1, 512] inb_S8x8x512_S1x1x512_4_1_0)) (View.ld (Val := Elt Ideal) (e' := EltTy.f32) A (Rect.unit (s := S8x8x512) ![4, 1, 0] ![1, 1, 512] inb_S8x8x512_S1x1x512_4_1_0)) (View.ld (Val := Elt Ideal) (e' := EltTy.f32) B (Rect.unit (s := S8x128x512) ![4, 0, 0] ![1, 128, 512] inb_S8x128x512_S1x128x512_4_0_0)))
      (term (View.ld (Val := Elt Ideal) (e' := EltTy.f32) R (Rect.unit (s := S8x128x512) ![5, 0, 0] ![1, 128, 512] inb_S8x128x512_S1x128x512_5_0_0)) (View.ld (Val := Elt Ideal) (e' := EltTy.f32) N (Rect.unit (s := S8x8x512) ![5, 1, 0] ![1, 1, 512] inb_S8x8x512_S1x1x512_5_1_0)) (View.ld (Val := Elt Ideal) (e' := EltTy.f32) A (Rect.unit (s := S8x8x512) ![5, 1, 0] ![1, 1, 512] inb_S8x8x512_S1x1x512_5_1_0)) (View.ld (Val := Elt Ideal) (e' := EltTy.f32) B (Rect.unit (s := S8x128x512) ![5, 0, 0] ![1, 128, 512] inb_S8x128x512_S1x128x512_5_0_0)))
      (term (View.ld (Val := Elt Ideal) (e' := EltTy.f32) R (Rect.unit (s := S8x128x512) ![6, 0, 0] ![1, 128, 512] inb_S8x128x512_S1x128x512_6_0_0)) (View.ld (Val := Elt Ideal) (e' := EltTy.f32) N (Rect.unit (s := S8x8x512) ![6, 1, 0] ![1, 1, 512] inb_S8x8x512_S1x1x512_6_1_0)) (View.ld (Val := Elt Ideal) (e' := EltTy.f32) A (Rect.unit (s := S8x8x512) ![6, 1, 0] ![1, 1, 512] inb_S8x8x512_S1x1x512_6_1_0)) (View.ld (Val := Elt Ideal) (e' := EltTy.f32) B (Rect.unit (s := S8x128x512) ![6, 0, 0] ![1, 128, 512] inb_S8x128x512_S1x128x512_6_0_0)))
      (term (View.ld (Val := Elt Ideal) (e' := EltTy.f32) R (Rect.unit (s := S8x128x512) ![7, 0, 0] ![1, 128, 512] inb_S8x128x512_S1x128x512_7_0_0)) (View.ld (Val := Elt Ideal) (e' := EltTy.f32) N (Rect.unit (s := S8x8x512) ![7, 1, 0] ![1, 1, 512] inb_S8x8x512_S1x1x512_7_1_0)) (View.ld (Val := Elt Ideal) (e' := EltTy.f32) A (Rect.unit (s := S8x8x512) ![7, 1, 0] ![1, 1, 512] inb_S8x8x512_S1x1x512_7_1_0)) (View.ld (Val := Elt Ideal) (e' := EltTy.f32) B (Rect.unit (s := S8x128x512) ![7, 0, 0] ![1, 128, 512] inb_S8x128x512_S1x128x512_7_0_0)))
      (k0_pay4 U H) 128 slices_S1024x512_o128_0_S128x512 := by
  unfold tile1 k0_pay15 k0_pay16 k0_pay17 k0_pay18 k0_pay19 k0_pay20 k0_pay21 k0_pay22 k0_pay23 k0_pay24 k0_pay25 row term
  with_reducible_and_instances rfl

theorem tile1_at (x : S128x512.Idx) (e : Fin 1024) (r : Fin 512) (h0 : (e : ℕ) = 128 + (x 0 : ℕ)) (h1 : (r : ℕ) = (x 1 : ℕ)) : tile1 U H A N B R x = weight U H A N B R e r := by
  refine (congrArg _ (eq_ix2 x)).trans ?_
  rw [tile1_eq, show r = (x 1 : Fin 512) from Fin.ext h1]
  exact piece_at U H A N B R 1 _ _ _ _ _ _ _ _ _ _ _ _ _ _ _ _ 128 _ (x 0) (x 1) e rfl h0

/-- The tile of row 2. -/
def tile2 : FVec Ideal S128x512 .bf16 :=
  k0_pay37 (k0_pay4 U H)
      (k0_pay35
        (k0_pay31
          (k0_pay28
            (k0_pay26 (View.ld (Val := Elt Ideal) (e' := EltTy.f32) R (Rect.unit ![0, 0, 0] ![1, 128, 512] inb_S8x128x512_S1x128x512_0_0_0))
              (View.ld (Val := Elt Ideal) (e' := EltTy.f32) N (Rect.unit ![0, 2, 0] ![1, 1, 512] inb_S8x8x512_S1x1x512_0_2_0))
              (View.ld (Val := Elt Ideal) (e' := EltTy.f32) A (Rect.unit ![0, 2, 0] ![1, 1, 512] inb_S8x8x512_S1x1x512_0_2_0))
              (View.ld (Val := Elt Ideal) (e' := EltTy.f32) B (Rect.unit ![0, 0, 0] ![1, 128, 512] inb_S8x128x512_S1x128x512_0_0_0)))
            (k0_pay27 (View.ld (Val := Elt Ideal) (e' := EltTy.f32) R (Rect.unit ![1, 0, 0] ![1, 128, 512] inb_S8x128x512_S1x128x512_1_0_0))
              (View.ld (Val := Elt Ideal) (e' := EltTy.f32) N (Rect.unit ![1, 2, 0] ![1, 1, 512] inb_S8x8x512_S1x1x512_1_2_0)))
            (View.ld (Val := Elt Ideal) (e' := EltTy.f32) A (Rect.unit ![1, 2, 0] ![1, 1, 512] inb_S8x8x512_S1x1x512_1_2_0))
            (View.ld (Val := Elt Ideal) (e' := EltTy.f32) B (Rect.unit ![1, 0, 0] ![1, 128, 512] inb_S8x128x512_S1x128x512_1_0_0))
            (View.ld (Val := Elt Ideal) (e' := EltTy.f32) R (Rect.unit ![2, 0, 0] ![1, 128, 512] inb_S8x128x512_S1x128x512_2_0_0))
            (View.ld (Val := Elt Ideal) (e' := EltTy.f32) N (Rect.unit ![2, 2, 0] ![1, 1, 512] inb_S8x8x512_S1x1x512_2_2_0))
            (View.ld (Val := Elt Ideal) (e' := EltTy.f32) A (Rect.unit ![2, 2, 0] ![1, 1, 512] inb_S8x8x512_S1x1x512_2_2_0))
            (View.ld (Val := Elt Ideal) (e' := EltTy.f32) B (Rect.unit ![2, 0, 0] ![1, 128, 512] inb_S8x128x512_S1x128x512_2_0_0)))
          (k0_pay29 (View.ld (Val := Elt Ideal) (e' := EltTy.f32) R (Rect.unit ![3, 0, 0] ![1, 128, 512] inb_S8x128x512_S1x128x512_3_0_0))
            (View.ld (Val := Elt Ideal) (e' := EltTy.f32) N (Rect.unit ![3, 2, 0] ![1, 1, 512] inb_S8x8x512_S1x1x512_3_2_0)))
          (k0_pay30 (View.ld (Val := Elt Ideal) (e' := EltTy.f32) A (Rect.unit ![3, 2, 0] ![1, 1, 512] inb_S8x8x512_S1x1x512_3_2_0)))
          (View.ld (Val := Elt Ideal) (e' := EltTy.f32) B (Rect.unit ![3, 0, 0] ![1, 128, 512] inb_S8x128x512_S1x128x512_3_0_0))
          (View.ld (Val := Elt Ideal) (e' := EltTy.f32) R (Rect.unit ![4, 0, 0] ![1, 128, 512] inb_S8x128x512_S1x128x512_4_0_0))
          (View.ld (Val := Elt Ideal) (e' := EltTy.f32) N (Rect.unit ![4, 2, 0] ![1, 1, 512] inb_S8x8x512_S1x1x512_4_2_0))
          (View.ld (Val := Elt Ideal) (e' := EltTy.f32) A (Rect.unit ![4, 2, 0] ![1, 1, 512] inb_S8x8x512_S1x1x512_4_2_0))
          (View.ld (Val := Elt Ideal) (e' := EltTy.f32) B (Rect.unit ![4, 0, 0] ![1, 128, 512] inb_S8x128x512_S1x128x512_4_0_0)))
        (k0_pay32 (View.ld (Val := Elt Ideal) (e' := EltTy.f32) R (Rect.unit ![5, 0, 0] ![1, 128, 512] inb_S8x128x512_S1x128x512_5_0_0))
          (View.ld (Val := Elt Ideal) (e' := EltTy.f32) N (Rect.unit ![5, 2, 0] ![1, 1, 512] inb_S8x8x512_S1x1x512_5_2_0)))
        (k0_pay33 (View.ld (Val := Elt Ideal) (e' := EltTy.f32) B (Rect.unit ![5, 0, 0] ![1, 128, 512] inb_S8x128x512_S1x128x512_5_0_0)))
        (k0_pay34 (View.ld (Val := Elt Ideal) (e' := EltTy.f32) A (Rect.unit ![5, 2, 0] ![1, 1, 512] inb_S8x8x512_S1x1x512_5_2_0)))
        (View.ld (Val := Elt Ideal) (e' := EltTy.f32) R (Rect.unit ![6, 0, 0] ![1, 128, 512] inb_S8x128x512_S1x128x512_6_0_0))
        (View.ld (Val := Elt Ideal) (e' := EltTy.f32) N (Rect.unit ![6, 2, 0] ![1, 1, 512] inb_S8x8x512_S1x1x512_6_2_0))
        (View.ld (Val := Elt Ideal) (e' := EltTy.f32) A (Rect.unit ![6, 2, 0] ![1, 1, 512] inb_S8x8x512_S1x1x512_6_2_0))
        (View.ld (Val := Elt Ideal) (e' := EltTy.f32) B (Rect.unit ![6, 0, 0] ![1, 128, 512] inb_S8x128x512_S1x128x512_6_0_0)))
      (k0_pay36 (View.ld (Val := Elt Ideal) (e' := EltTy.f32) R (Rect.unit ![7, 0, 0] ![1, 128, 512] inb_S8x128x512_S1x128x512_7_0_0))
        (View.ld (Val := Elt Ideal) (e' := EltTy.f32) N (Rect.unit ![7, 2, 0] ![1, 1, 512] inb_S8x8x512_S1x1x512_7_2_0))
        (View.ld (Val := Elt Ideal) (e' := EltTy.f32) A (Rect.unit ![7, 2, 0] ![1, 1, 512] inb_S8x8x512_S1x1x512_7_2_0))
        (View.ld (Val := Elt Ideal) (e' := EltTy.f32) B (Rect.unit ![7, 0, 0] ![1, 128, 512] inb_S8x128x512_S1x128x512_7_0_0)))

theorem tile2_eq : tile2 U H A N B R = row (term (View.ld (Val := Elt Ideal) (e' := EltTy.f32) R (Rect.unit (s := S8x128x512) ![0, 0, 0] ![1, 128, 512] inb_S8x128x512_S1x128x512_0_0_0)) (View.ld (Val := Elt Ideal) (e' := EltTy.f32) N (Rect.unit (s := S8x8x512) ![0, 2, 0] ![1, 1, 512] inb_S8x8x512_S1x1x512_0_2_0)) (View.ld (Val := Elt Ideal) (e' := EltTy.f32) A (Rect.unit (s := S8x8x512) ![0, 2, 0] ![1, 1, 512] inb_S8x8x512_S1x1x512_0_2_0)) (View.ld (Val := Elt Ideal) (e' := EltTy.f32) B (Rect.unit (s := S8x128x512) ![0, 0, 0] ![1, 128, 512] inb_S8x128x512_S1x128x512_0_0_0)))
      (term (View.ld (Val := Elt Ideal) (e' := EltTy.f32) R (Rect.unit (s := S8x128x512) ![1, 0, 0] ![1, 128, 512] inb_S8x128x512_S1x128x512_1_0_0)) (View.ld (Val := Elt Ideal) (e' := EltTy.f32) N (Rect.unit (s := S8x8x512) ![1, 2, 0] ![1, 1, 512] inb_S8x8x512_S1x1x512_1_2_0)) (View.ld (Val := Elt Ideal) (e' := EltTy.f32) A (Rect.unit (s := S8x8x512) ![1, 2, 0] ![1, 1, 512] inb_S8x8x512_S1x1x512_1_2_0)) (View.ld (Val := Elt Ideal) (e' := EltTy.f32) B (Rect.unit (s := S8x128x512) ![1, 0, 0] ![1, 128, 512] inb_S8x128x512_S1x128x512_1_0_0)))
      (term (View.ld (Val := Elt Ideal) (e' := EltTy.f32) R (Rect.unit (s := S8x128x512) ![2, 0, 0] ![1, 128, 512] inb_S8x128x512_S1x128x512_2_0_0)) (View.ld (Val := Elt Ideal) (e' := EltTy.f32) N (Rect.unit (s := S8x8x512) ![2, 2, 0] ![1, 1, 512] inb_S8x8x512_S1x1x512_2_2_0)) (View.ld (Val := Elt Ideal) (e' := EltTy.f32) A (Rect.unit (s := S8x8x512) ![2, 2, 0] ![1, 1, 512] inb_S8x8x512_S1x1x512_2_2_0)) (View.ld (Val := Elt Ideal) (e' := EltTy.f32) B (Rect.unit (s := S8x128x512) ![2, 0, 0] ![1, 128, 512] inb_S8x128x512_S1x128x512_2_0_0)))
      (term (View.ld (Val := Elt Ideal) (e' := EltTy.f32) R (Rect.unit (s := S8x128x512) ![3, 0, 0] ![1, 128, 512] inb_S8x128x512_S1x128x512_3_0_0)) (View.ld (Val := Elt Ideal) (e' := EltTy.f32) N (Rect.unit (s := S8x8x512) ![3, 2, 0] ![1, 1, 512] inb_S8x8x512_S1x1x512_3_2_0)) (View.ld (Val := Elt Ideal) (e' := EltTy.f32) A (Rect.unit (s := S8x8x512) ![3, 2, 0] ![1, 1, 512] inb_S8x8x512_S1x1x512_3_2_0)) (View.ld (Val := Elt Ideal) (e' := EltTy.f32) B (Rect.unit (s := S8x128x512) ![3, 0, 0] ![1, 128, 512] inb_S8x128x512_S1x128x512_3_0_0)))
      (term (View.ld (Val := Elt Ideal) (e' := EltTy.f32) R (Rect.unit (s := S8x128x512) ![4, 0, 0] ![1, 128, 512] inb_S8x128x512_S1x128x512_4_0_0)) (View.ld (Val := Elt Ideal) (e' := EltTy.f32) N (Rect.unit (s := S8x8x512) ![4, 2, 0] ![1, 1, 512] inb_S8x8x512_S1x1x512_4_2_0)) (View.ld (Val := Elt Ideal) (e' := EltTy.f32) A (Rect.unit (s := S8x8x512) ![4, 2, 0] ![1, 1, 512] inb_S8x8x512_S1x1x512_4_2_0)) (View.ld (Val := Elt Ideal) (e' := EltTy.f32) B (Rect.unit (s := S8x128x512) ![4, 0, 0] ![1, 128, 512] inb_S8x128x512_S1x128x512_4_0_0)))
      (term (View.ld (Val := Elt Ideal) (e' := EltTy.f32) R (Rect.unit (s := S8x128x512) ![5, 0, 0] ![1, 128, 512] inb_S8x128x512_S1x128x512_5_0_0)) (View.ld (Val := Elt Ideal) (e' := EltTy.f32) N (Rect.unit (s := S8x8x512) ![5, 2, 0] ![1, 1, 512] inb_S8x8x512_S1x1x512_5_2_0)) (View.ld (Val := Elt Ideal) (e' := EltTy.f32) A (Rect.unit (s := S8x8x512) ![5, 2, 0] ![1, 1, 512] inb_S8x8x512_S1x1x512_5_2_0)) (View.ld (Val := Elt Ideal) (e' := EltTy.f32) B (Rect.unit (s := S8x128x512) ![5, 0, 0] ![1, 128, 512] inb_S8x128x512_S1x128x512_5_0_0)))
      (term (View.ld (Val := Elt Ideal) (e' := EltTy.f32) R (Rect.unit (s := S8x128x512) ![6, 0, 0] ![1, 128, 512] inb_S8x128x512_S1x128x512_6_0_0)) (View.ld (Val := Elt Ideal) (e' := EltTy.f32) N (Rect.unit (s := S8x8x512) ![6, 2, 0] ![1, 1, 512] inb_S8x8x512_S1x1x512_6_2_0)) (View.ld (Val := Elt Ideal) (e' := EltTy.f32) A (Rect.unit (s := S8x8x512) ![6, 2, 0] ![1, 1, 512] inb_S8x8x512_S1x1x512_6_2_0)) (View.ld (Val := Elt Ideal) (e' := EltTy.f32) B (Rect.unit (s := S8x128x512) ![6, 0, 0] ![1, 128, 512] inb_S8x128x512_S1x128x512_6_0_0)))
      (term (View.ld (Val := Elt Ideal) (e' := EltTy.f32) R (Rect.unit (s := S8x128x512) ![7, 0, 0] ![1, 128, 512] inb_S8x128x512_S1x128x512_7_0_0)) (View.ld (Val := Elt Ideal) (e' := EltTy.f32) N (Rect.unit (s := S8x8x512) ![7, 2, 0] ![1, 1, 512] inb_S8x8x512_S1x1x512_7_2_0)) (View.ld (Val := Elt Ideal) (e' := EltTy.f32) A (Rect.unit (s := S8x8x512) ![7, 2, 0] ![1, 1, 512] inb_S8x8x512_S1x1x512_7_2_0)) (View.ld (Val := Elt Ideal) (e' := EltTy.f32) B (Rect.unit (s := S8x128x512) ![7, 0, 0] ![1, 128, 512] inb_S8x128x512_S1x128x512_7_0_0)))
      (k0_pay4 U H) 256 slices_S1024x512_o256_0_S128x512 := by
  unfold tile2 k0_pay26 k0_pay27 k0_pay28 k0_pay29 k0_pay30 k0_pay31 k0_pay32 k0_pay33 k0_pay34 k0_pay35 k0_pay36 k0_pay37 row term
  with_reducible_and_instances rfl

theorem tile2_at (x : S128x512.Idx) (e : Fin 1024) (r : Fin 512) (h0 : (e : ℕ) = 256 + (x 0 : ℕ)) (h1 : (r : ℕ) = (x 1 : ℕ)) : tile2 U H A N B R x = weight U H A N B R e r := by
  refine (congrArg _ (eq_ix2 x)).trans ?_
  rw [tile2_eq, show r = (x 1 : Fin 512) from Fin.ext h1]
  exact piece_at U H A N B R 2 _ _ _ _ _ _ _ _ _ _ _ _ _ _ _ _ 256 _ (x 0) (x 1) e rfl h0

/-- The tile of row 3. -/
def tile3 : FVec Ideal S128x512 .bf16 :=
  k0_pay46
      (k0_pay45 (k0_pay4 U H)
        (k0_pay44
          (k0_pay42
            (k0_pay38 (View.ld (Val := Elt Ideal) (e' := EltTy.f32) R (Rect.unit ![0, 0, 0] ![1, 128, 512] inb_S8x128x512_S1x128x512_0_0_0))
              (View.ld (Val := Elt Ideal) (e' := EltTy.f32) N (Rect.unit ![0, 3, 0] ![1, 1, 512] inb_S8x8x512_S1x1x512_0_3_0))
              (View.ld (Val := Elt Ideal) (e' := EltTy.f32) A (Rect.unit ![0, 3, 0] ![1, 1, 512] inb_S8x8x512_S1x1x512_0_3_0))
              (View.ld (Val := Elt Ideal) (e' := EltTy.f32) B (Rect.unit ![0, 0, 0] ![1, 128, 512] inb_S8x128x512_S1x128x512_0_0_0)))
            (k0_pay39 (View.ld (Val := Elt Ideal) (e' := EltTy.f32) R (Rect.unit ![1, 0, 0] ![1, 128, 512] inb_S8x128x512_S1x128x512_1_0_0))
              (View.ld (Val := Elt Ideal) (e' := EltTy.f32) N (Rect.unit ![1, 3, 0] ![1, 1, 512] inb_S8x8x512_S1x1x512_1_3_0)))
            (k0_pay40 (View.ld (Val := Elt Ideal) (e' := EltTy.f32) B (Rect.unit ![1, 0, 0] ![1, 128, 512] inb_S8x128x512_S1x128x512_1_0_0)))
            (k0_pay41 (View.ld (Val := Elt Ideal) (e' := EltTy.f32) A (Rect.unit ![1, 3, 0] ![1, 1, 512] inb_S8x8x512_S1x1x512_1_3_0)))
            (View.ld (Val := Elt Ideal) (e' := EltTy.f32) R (Rect.unit ![2, 0, 0] ![1, 128, 512] inb_S8x128x512_S1x128x512_2_0_0))
            (View.ld (Val := Elt Ideal) (e' := EltTy.f32) N (Rect.unit ![2, 3, 0] ![1, 1, 512] inb_S8x8x512_S1x1x512_2_3_0))
            (View.ld (Val := Elt Ideal) (e' := EltTy.f32) A (Rect.unit ![2, 3, 0] ![1, 1, 512] inb_S8x8x512_S1x1x512_2_3_0))
            (View.ld (Val := Elt Ideal) (e' := EltTy.f32) B (Rect.unit ![2, 0, 0] ![1, 128, 512] inb_S8x128x512_S1x128x512_2_0_0)))
          (k0_pay43 (View.ld (Val := Elt Ideal) (e' := EltTy.f32) R (Rect.unit ![3, 0, 0] ![1, 128, 512] inb_S8x128x512_S1x128x512_3_0_0))
            (View.ld (Val := Elt Ideal) (e' := EltTy.f32) N (Rect.unit ![3, 3, 0] ![1, 1, 512] inb_S8x8x512_S1x1x512_3_3_0))
            (View.ld (Val := Elt Ideal) (e' := EltTy.f32) A (Rect.unit ![3, 3, 0] ![1, 1, 512] inb_S8x8x512_S1x1x512_3_3_0))
            (View.ld (Val := Elt Ideal) (e' := EltTy.f32) B (Rect.unit ![3, 0, 0] ![1, 128, 512] inb_S8x128x512_S1x128x512_3_0_0)))
          (View.ld (Val := Elt Ideal) (e' := EltTy.f32) R (Rect.unit ![4, 0, 0] ![1, 128, 512] inb_S8x128x512_S1x128x512_4_0_0))
          (View.ld (Val := Elt Ideal) (e' := EltTy.f32) N (Rect.unit ![4, 3, 0] ![1, 1, 512] inb_S8x8x512_S1x1x512_4_3_0))
          (View.ld (Val := Elt Ideal) (e' := EltTy.f32) A (Rect.unit ![4, 3, 0] ![1, 1, 512] inb_S8x8x512_S1x1x512_4_3_0))
          (View.ld (Val := Elt Ideal) (e' := EltTy.f32) B (Rect.unit ![4, 0, 0] ![1, 128, 512] inb_S8x128x512_S1x128x512_4_0_0))
          (View.ld (Val := Elt Ideal) (e' := EltTy.f32) R (Rect.unit ![5, 0, 0] ![1, 128, 512] inb_S8x128x512_S1x128x512_5_0_0))
          (View.ld (Val := Elt Ideal) (e' := EltTy.f32) N (Rect.unit ![5, 3, 0] ![1, 1, 512] inb_S8x8x512_S1x1x512_5_3_0))
          (View.ld (Val := Elt Ideal) (e' := EltTy.f32) A (Rect.unit ![5, 3, 0] ![1, 1, 512] inb_S8x8x512_S1x1x512_5_3_0))
          (View.ld (Val := Elt Ideal) (e' := EltTy.f32) B (Rect.unit ![5, 0, 0] ![1, 128, 512] inb_S8x128x512_S1x128x512_5_0_0)))
        (View.ld (Val := Elt Ideal) (e' := EltTy.f32) R (Rect.unit ![6, 0, 0] ![1, 128, 512] inb_S8x128x512_S1x128x512_6_0_0))
        (View.ld (Val := Elt Ideal) (e' := EltTy.f32) N (Rect.unit ![6, 3, 0] ![1, 1, 512] inb_S8x8x512_S1x1x512_6_3_0))
        (View.ld (Val := Elt Ideal) (e' := EltTy.f32) A (Rect.unit ![6, 3, 0] ![1, 1, 512] inb_S8x8x512_S1x1x512_6_3_0))
        (View.ld (Val := Elt Ideal) (e' := EltTy.f32) B (Rect.unit ![6, 0, 0] ![1, 128, 512] inb_S8x128x512_S1x128x512_6_0_0))
        (View.ld (Val := Elt Ideal) (e' := EltTy.f32) R (Rect.unit ![7, 0, 0] ![1, 128, 512] inb_S8x128x512_S1x128x512_7_0_0))
        (View.ld (Val := Elt Ideal) (e' := EltTy.f32) N (Rect.unit ![7, 3, 0] ![1, 1, 512] inb_S8x8x512_S1x1x512_7_3_0))
        (View.ld (Val := Elt Ideal) (e' := EltTy.f32) A (Rect.unit ![7, 3, 0] ![1, 1, 512] inb_S8x8x512_S1x1x512_7_3_0))
        (View.ld (Val := Elt Ideal) (e' := EltTy.f32) B (Rect.unit ![7, 0, 0] ![1, 128, 512] inb_S8x128x512_S1x128x512_7_0_0)))

theorem tile3_eq : tile3 U H A N B R = row (term (View.ld (Val := Elt Ideal) (e' := EltTy.f32) R (Rect.unit (s := S8x128x512) ![0, 0, 0] ![1, 128, 512] inb_S8x128x512_S1x128x512_0_0_0)) (View.ld (Val := Elt Ideal) (e' := EltTy.f32) N (Rect.unit (s := S8x8x512) ![0, 3, 0] ![1, 1, 512] inb_S8x8x512_S1x1x512_0_3_0)) (View.ld (Val := Elt Ideal) (e' := EltTy.f32) A (Rect.unit (s := S8x8x512) ![0, 3, 0] ![1, 1, 512] inb_S8x8x512_S1x1x512_0_3_0)) (View.ld (Val := Elt Ideal) (e' := EltTy.f32) B (Rect.unit (s := S8x128x512) ![0, 0, 0] ![1, 128, 512] inb_S8x128x512_S1x128x512_0_0_0)))
      (term (View.ld (Val := Elt Ideal) (e' := EltTy.f32) R (Rect.unit (s := S8x128x512) ![1, 0, 0] ![1, 128, 512] inb_S8x128x512_S1x128x512_1_0_0)) (View.ld (Val := Elt Ideal) (e' := EltTy.f32) N (Rect.unit (s := S8x8x512) ![1, 3, 0] ![1, 1, 512] inb_S8x8x512_S1x1x512_1_3_0)) (View.ld (Val := Elt Ideal) (e' := EltTy.f32) A (Rect.unit (s := S8x8x512) ![1, 3, 0] ![1, 1, 512] inb_S8x8x512_S1x1x512_1_3_0)) (View.ld (Val := Elt Ideal) (e' := EltTy.f32) B (Rect.unit (s := S8x128x512) ![1, 0, 0] ![1, 128, 512] inb_S8x128x512_S1x128x512_1_0_0)))
      (term (View.ld (Val := Elt Ideal) (e' := EltTy.f32) R (Rect.unit (s := S8x128x512) ![2, 0, 0] ![1, 128, 512] inb_S8x128x512_S1x128x512_2_0_0)) (View.ld (Val := Elt Ideal) (e' := EltTy.f32) N (Rect.unit (s := S8x8x512) ![2, 3, 0] ![1, 1, 512] inb_S8x8x512_S1x1x512_2_3_0)) (View.ld (Val := Elt Ideal) (e' := EltTy.f32) A (Rect.unit (s := S8x8x512) ![2, 3, 0] ![1, 1, 512] inb_S8x8x512_S1x1x512_2_3_0)) (View.ld (Val := Elt Ideal) (e' := EltTy.f32) B (Rect.unit (s := S8x128x512) ![2, 0, 0] ![1, 128, 512] inb_S8x128x512_S1x128x512_2_0_0)))
      (term (View.ld (Val := Elt Ideal) (e' := EltTy.f32) R (Rect.unit (s := S8x128x512) ![3, 0, 0] ![1, 128, 512] inb_S8x128x512_S1x128x512_3_0_0)) (View.ld (Val := Elt Ideal) (e' := EltTy.f32) N (Rect.unit (s := S8x8x512) ![3, 3, 0] ![1, 1, 512] inb_S8x8x512_S1x1x512_3_3_0)) (View.ld (Val := Elt Ideal) (e' := EltTy.f32) A (Rect.unit (s := S8x8x512) ![3, 3, 0] ![1, 1, 512] inb_S8x8x512_S1x1x512_3_3_0)) (View.ld (Val := Elt Ideal) (e' := EltTy.f32) B (Rect.unit (s := S8x128x512) ![3, 0, 0] ![1, 128, 512] inb_S8x128x512_S1x128x512_3_0_0)))
      (term (View.ld (Val := Elt Ideal) (e' := EltTy.f32) R (Rect.unit (s := S8x128x512) ![4, 0, 0] ![1, 128, 512] inb_S8x128x512_S1x128x512_4_0_0)) (View.ld (Val := Elt Ideal) (e' := EltTy.f32) N (Rect.unit (s := S8x8x512) ![4, 3, 0] ![1, 1, 512] inb_S8x8x512_S1x1x512_4_3_0)) (View.ld (Val := Elt Ideal) (e' := EltTy.f32) A (Rect.unit (s := S8x8x512) ![4, 3, 0] ![1, 1, 512] inb_S8x8x512_S1x1x512_4_3_0)) (View.ld (Val := Elt Ideal) (e' := EltTy.f32) B (Rect.unit (s := S8x128x512) ![4, 0, 0] ![1, 128, 512] inb_S8x128x512_S1x128x512_4_0_0)))
      (term (View.ld (Val := Elt Ideal) (e' := EltTy.f32) R (Rect.unit (s := S8x128x512) ![5, 0, 0] ![1, 128, 512] inb_S8x128x512_S1x128x512_5_0_0)) (View.ld (Val := Elt Ideal) (e' := EltTy.f32) N (Rect.unit (s := S8x8x512) ![5, 3, 0] ![1, 1, 512] inb_S8x8x512_S1x1x512_5_3_0)) (View.ld (Val := Elt Ideal) (e' := EltTy.f32) A (Rect.unit (s := S8x8x512) ![5, 3, 0] ![1, 1, 512] inb_S8x8x512_S1x1x512_5_3_0)) (View.ld (Val := Elt Ideal) (e' := EltTy.f32) B (Rect.unit (s := S8x128x512) ![5, 0, 0] ![1, 128, 512] inb_S8x128x512_S1x128x512_5_0_0)))
      (term (View.ld (Val := Elt Ideal) (e' := EltTy.f32) R (Rect.unit (s := S8x128x512) ![6, 0, 0] ![1, 128, 512] inb_S8x128x512_S1x128x512_6_0_0)) (View.ld (Val := Elt Ideal) (e' := EltTy.f32) N (Rect.unit (s := S8x8x512) ![6, 3, 0] ![1, 1, 512] inb_S8x8x512_S1x1x512_6_3_0)) (View.ld (Val := Elt Ideal) (e' := EltTy.f32) A (Rect.unit (s := S8x8x512) ![6, 3, 0] ![1, 1, 512] inb_S8x8x512_S1x1x512_6_3_0)) (View.ld (Val := Elt Ideal) (e' := EltTy.f32) B (Rect.unit (s := S8x128x512) ![6, 0, 0] ![1, 128, 512] inb_S8x128x512_S1x128x512_6_0_0)))
      (term (View.ld (Val := Elt Ideal) (e' := EltTy.f32) R (Rect.unit (s := S8x128x512) ![7, 0, 0] ![1, 128, 512] inb_S8x128x512_S1x128x512_7_0_0)) (View.ld (Val := Elt Ideal) (e' := EltTy.f32) N (Rect.unit (s := S8x8x512) ![7, 3, 0] ![1, 1, 512] inb_S8x8x512_S1x1x512_7_3_0)) (View.ld (Val := Elt Ideal) (e' := EltTy.f32) A (Rect.unit (s := S8x8x512) ![7, 3, 0] ![1, 1, 512] inb_S8x8x512_S1x1x512_7_3_0)) (View.ld (Val := Elt Ideal) (e' := EltTy.f32) B (Rect.unit (s := S8x128x512) ![7, 0, 0] ![1, 128, 512] inb_S8x128x512_S1x128x512_7_0_0)))
      (k0_pay4 U H) 384 slices_S1024x512_o384_0_S128x512 := by
  unfold tile3 k0_pay38 k0_pay39 k0_pay40 k0_pay41 k0_pay42 k0_pay43 k0_pay44 k0_pay45 k0_pay46 row term
  with_reducible_and_instances rfl

theorem tile3_at (x : S128x512.Idx) (e : Fin 1024) (r : Fin 512) (h0 : (e : ℕ) = 384 + (x 0 : ℕ)) (h1 : (r : ℕ) = (x 1 : ℕ)) : tile3 U H A N B R x = weight U H A N B R e r := by
  refine (congrArg _ (eq_ix2 x)).trans ?_
  rw [tile3_eq, show r = (x 1 : Fin 512) from Fin.ext h1]
  exact piece_at U H A N B R 3 _ _ _ _ _ _ _ _ _ _ _ _ _ _ _ _ 384 _ (x 0) (x 1) e rfl h0

/-- The tile of row 4. -/
def tile4 : FVec Ideal S128x512 .bf16 :=
  k0_pay53 (k0_pay4 U H)
      (k0_pay50
        (k0_pay48
          (k0_pay47 (View.ld (Val := Elt Ideal) (e' := EltTy.f32) R (Rect.unit ![0, 0, 0] ![1, 128, 512] inb_S8x128x512_S1x128x512_0_0_0))
            (View.ld (Val := Elt Ideal) (e' := EltTy.f32) N (Rect.unit ![0, 4, 0] ![1, 1, 512] inb_S8x8x512_S1x1x512_0_4_0))
            (View.ld (Val := Elt Ideal) (e' := EltTy.f32) A (Rect.unit ![0, 4, 0] ![1, 1, 512] inb_S8x8x512_S1x1x512_0_4_0))
            (View.ld (Val := Elt Ideal) (e' := EltTy.f32) B (Rect.unit ![0, 0, 0] ![1, 128, 512] inb_S8x128x512_S1x128x512_0_0_0))
            (View.ld (Val := Elt Ideal) (e' := EltTy.f32) R (Rect.unit ![1, 0, 0] ![1, 128, 512] inb_S8x128x512_S1x128x512_1_0_0))
            (View.ld (Val := Elt Ideal) (e' := EltTy.f32) N (Rect.unit ![1, 4, 0] ![1, 1, 512] inb_S8x8x512_S1x1x512_1_4_0))
            (View.ld (Val := Elt Ideal) (e' := EltTy.f32) A (Rect.unit ![1, 4, 0] ![1, 1, 512] inb_S8x8x512_S1x1x512_1_4_0))
            (View.ld (Val := Elt Ideal) (e' := EltTy.f32) B (Rect.unit ![1, 0, 0] ![1, 128, 512] inb_S8x128x512_S1x128x512_1_0_0)))
          (View.ld (Val := Elt Ideal) (e' := EltTy.f32) R (Rect.unit ![2, 0, 0] ![1, 128, 512] inb_S8x128x512_S1x128x512_2_0_0))
          (View.ld (Val := Elt Ideal) (e' := EltTy.f32) N (Rect.unit ![2, 4, 0] ![1, 1, 512] inb_S8x8x512_S1x1x512_2_4_0))
          (View.ld (Val := Elt Ideal) (e' := EltTy.f32) A (Rect.unit ![2, 4, 0] ![1, 1, 512] inb_S8x8x512_S1x1x512_2_4_0))
          (View.ld (Val := Elt Ideal) (e' := EltTy.f32) B (Rect.unit ![2, 0, 0] ![1, 128, 512] inb_S8x128x512_S1x128x512_2_0_0))
          (View.ld (Val := Elt Ideal) (e' := EltTy.f32) R (Rect.unit ![3, 0, 0] ![1, 128, 512] inb_S8x128x512_S1x128x512_3_0_0))
          (View.ld (Val := Elt Ideal) (e' := EltTy.f32) N (Rect.unit ![3, 4, 0] ![1, 1, 512] inb_S8x8x512_S1x1x512_3_4_0))
          (View.ld (Val := Elt Ideal) (e' := EltTy.f32) A (Rect.unit ![3, 4, 0] ![1, 1, 512] inb_S8x8x512_S1x1x512_3_4_0))
          (View.ld (Val := Elt Ideal) (e' := EltTy.f32) B (Rect.unit ![3, 0, 0] ![1, 128, 512] inb_S8x128x512_S1x128x512_3_0_0)))
        (k0_pay49 (View.ld (Val := Elt Ideal) (e' := EltTy.f32) R (Rect.unit ![4, 0, 0] ![1, 128, 512] inb_S8x128x512_S1x128x512_4_0_0)))
        (View.ld (Val := Elt Ideal) (e' := EltTy.f32) N (Rect.unit ![4, 4, 0] ![1, 1, 512] inb_S8x8x512_S1x1x512_4_4_0))
        (View.ld (Val := Elt Ideal) (e' := EltTy.f32) A (Rect.unit ![4, 4, 0] ![1, 1, 512] inb_S8x8x512_S1x1x512_4_4_0))
        (View.ld (Val := Elt Ideal) (e' := EltTy.f32) B (Rect.unit ![4, 0, 0] ![1, 128, 512] inb_S8x128x512_S1x128x512_4_0_0))
        (View.ld (Val := Elt Ideal) (e' := EltTy.f32) R (Rect.unit ![5, 0, 0] ![1, 128, 512] inb_S8x128x512_S1x128x512_5_0_0))
        (View.ld (Val := Elt Ideal) (e' := EltTy.f32) N (Rect.unit ![5, 4, 0] ![1, 1, 512] inb_S8x8x512_S1x1x512_5_4_0))
        (View.ld (Val := Elt Ideal) (e' := EltTy.f32) A (Rect.unit ![5, 4, 0] ![1, 1, 512] inb_S8x8x512_S1x1x512_5_4_0))
        (View.ld (Val := Elt Ideal) (e' := EltTy.f32) B (Rect.unit ![5, 0, 0] ![1, 128, 512] inb_S8x128x512_S1x128x512_5_0_0)))
      (k0_pay51 (View.ld (Val := Elt Ideal) (e' := EltTy.f32) R (Rect.unit ![6, 0, 0] ![1, 128, 512] inb_S8x128x512_S1x128x512_6_0_0)))
      (k0_pay52 (View.ld (Val := Elt Ideal) (e' := EltTy.f32) N (Rect.unit ![6, 4, 0] ![1, 1, 512] inb_S8x8x512_S1x1x512_6_4_0)))
      (View.ld (Val := Elt Ideal) (e' := EltTy.f32) A (Rect.unit ![6, 4, 0] ![1, 1, 512] inb_S8x8x512_S1x1x512_6_4_0))
      (View.ld (Val := Elt Ideal) (e' := EltTy.f32) B (Rect.unit ![6, 0, 0] ![1, 128, 512] inb_S8x128x512_S1x128x512_6_0_0))
      (View.ld (Val := Elt Ideal) (e' := EltTy.f32) R (Rect.unit ![7, 0, 0] ![1, 128, 512] inb_S8x128x512_S1x128x512_7_0_0))
      (View.ld (Val := Elt Ideal) (e' := EltTy.f32) N (Rect.unit ![7, 4, 0] ![1, 1, 512] inb_S8x8x512_S1x1x512_7_4_0))
      (View.ld (Val := Elt Ideal) (e' := EltTy.f32) A (Rect.unit ![7, 4, 0] ![1, 1, 512] inb_S8x8x512_S1x1x512_7_4_0))
      (View.ld (Val := Elt Ideal) (e' := EltTy.f32) B (Rect.unit ![7, 0, 0] ![1, 128, 512] inb_S8x128x512_S1x128x512_7_0_0))

theorem tile4_eq : tile4 U H A N B R = row (term (View.ld (Val := Elt Ideal) (e' := EltTy.f32) R (Rect.unit (s := S8x128x512) ![0, 0, 0] ![1, 128, 512] inb_S8x128x512_S1x128x512_0_0_0)) (View.ld (Val := Elt Ideal) (e' := EltTy.f32) N (Rect.unit (s := S8x8x512) ![0, 4, 0] ![1, 1, 512] inb_S8x8x512_S1x1x512_0_4_0)) (View.ld (Val := Elt Ideal) (e' := EltTy.f32) A (Rect.unit (s := S8x8x512) ![0, 4, 0] ![1, 1, 512] inb_S8x8x512_S1x1x512_0_4_0)) (View.ld (Val := Elt Ideal) (e' := EltTy.f32) B (Rect.unit (s := S8x128x512) ![0, 0, 0] ![1, 128, 512] inb_S8x128x512_S1x128x512_0_0_0)))
      (term (View.ld (Val := Elt Ideal) (e' := EltTy.f32) R (Rect.unit (s := S8x128x512) ![1, 0, 0] ![1, 128, 512] inb_S8x128x512_S1x128x512_1_0_0)) (View.ld (Val := Elt Ideal) (e' := EltTy.f32) N (Rect.unit (s := S8x8x512) ![1, 4, 0] ![1, 1, 512] inb_S8x8x512_S1x1x512_1_4_0)) (View.ld (Val := Elt Ideal) (e' := EltTy.f32) A (Rect.unit (s := S8x8x512) ![1, 4, 0] ![1, 1, 512] inb_S8x8x512_S1x1x512_1_4_0)) (View.ld (Val := Elt Ideal) (e' := EltTy.f32) B (Rect.unit (s := S8x128x512) ![1, 0, 0] ![1, 128, 512] inb_S8x128x512_S1x128x512_1_0_0)))
      (term (View.ld (Val := Elt Ideal) (e' := EltTy.f32) R (Rect.unit (s := S8x128x512) ![2, 0, 0] ![1, 128, 512] inb_S8x128x512_S1x128x512_2_0_0)) (View.ld (Val := Elt Ideal) (e' := EltTy.f32) N (Rect.unit (s := S8x8x512) ![2, 4, 0] ![1, 1, 512] inb_S8x8x512_S1x1x512_2_4_0)) (View.ld (Val := Elt Ideal) (e' := EltTy.f32) A (Rect.unit (s := S8x8x512) ![2, 4, 0] ![1, 1, 512] inb_S8x8x512_S1x1x512_2_4_0)) (View.ld (Val := Elt Ideal) (e' := EltTy.f32) B (Rect.unit (s := S8x128x512) ![2, 0, 0] ![1, 128, 512] inb_S8x128x512_S1x128x512_2_0_0)))
      (term (View.ld (Val := Elt Ideal) (e' := EltTy.f32) R (Rect.unit (s := S8x128x512) ![3, 0, 0] ![1, 128, 512] inb_S8x128x512_S1x128x512_3_0_0)) (View.ld (Val := Elt Ideal) (e' := EltTy.f32) N (Rect.unit (s := S8x8x512) ![3, 4, 0] ![1, 1, 512] inb_S8x8x512_S1x1x512_3_4_0)) (View.ld (Val := Elt Ideal) (e' := EltTy.f32) A (Rect.unit (s := S8x8x512) ![3, 4, 0] ![1, 1, 512] inb_S8x8x512_S1x1x512_3_4_0)) (View.ld (Val := Elt Ideal) (e' := EltTy.f32) B (Rect.unit (s := S8x128x512) ![3, 0, 0] ![1, 128, 512] inb_S8x128x512_S1x128x512_3_0_0)))
      (term (View.ld (Val := Elt Ideal) (e' := EltTy.f32) R (Rect.unit (s := S8x128x512) ![4, 0, 0] ![1, 128, 512] inb_S8x128x512_S1x128x512_4_0_0)) (View.ld (Val := Elt Ideal) (e' := EltTy.f32) N (Rect.unit (s := S8x8x512) ![4, 4, 0] ![1, 1, 512] inb_S8x8x512_S1x1x512_4_4_0)) (View.ld (Val := Elt Ideal) (e' := EltTy.f32) A (Rect.unit (s := S8x8x512) ![4, 4, 0] ![1, 1, 512] inb_S8x8x512_S1x1x512_4_4_0)) (View.ld (Val := Elt Ideal) (e' := EltTy.f32) B (Rect.unit (s := S8x128x512) ![4, 0, 0] ![1, 128, 512] inb_S8x128x512_S1x128x512_4_0_0)))
      (term (View.ld (Val := Elt Ideal) (e' := EltTy.f32) R (Rect.unit (s := S8x128x512) ![5, 0, 0] ![1, 128, 512] inb_S8x128x512_S1x128x512_5_0_0)) (View.ld (Val := Elt Ideal) (e' := EltTy.f32) N (Rect.unit (s := S8x8x512) ![5, 4, 0] ![1, 1, 512] inb_S8x8x512_S1x1x512_5_4_0)) (View.ld (Val := Elt Ideal) (e' := EltTy.f32) A (Rect.unit (s := S8x8x512) ![5, 4, 0] ![1, 1, 512] inb_S8x8x512_S1x1x512_5_4_0)) (View.ld (Val := Elt Ideal) (e' := EltTy.f32) B (Rect.unit (s := S8x128x512) ![5, 0, 0] ![1, 128, 512] inb_S8x128x512_S1x128x512_5_0_0)))
      (term (View.ld (Val := Elt Ideal) (e' := EltTy.f32) R (Rect.unit (s := S8x128x512) ![6, 0, 0] ![1, 128, 512] inb_S8x128x512_S1x128x512_6_0_0)) (View.ld (Val := Elt Ideal) (e' := EltTy.f32) N (Rect.unit (s := S8x8x512) ![6, 4, 0] ![1, 1, 512] inb_S8x8x512_S1x1x512_6_4_0)) (View.ld (Val := Elt Ideal) (e' := EltTy.f32) A (Rect.unit (s := S8x8x512) ![6, 4, 0] ![1, 1, 512] inb_S8x8x512_S1x1x512_6_4_0)) (View.ld (Val := Elt Ideal) (e' := EltTy.f32) B (Rect.unit (s := S8x128x512) ![6, 0, 0] ![1, 128, 512] inb_S8x128x512_S1x128x512_6_0_0)))
      (term (View.ld (Val := Elt Ideal) (e' := EltTy.f32) R (Rect.unit (s := S8x128x512) ![7, 0, 0] ![1, 128, 512] inb_S8x128x512_S1x128x512_7_0_0)) (View.ld (Val := Elt Ideal) (e' := EltTy.f32) N (Rect.unit (s := S8x8x512) ![7, 4, 0] ![1, 1, 512] inb_S8x8x512_S1x1x512_7_4_0)) (View.ld (Val := Elt Ideal) (e' := EltTy.f32) A (Rect.unit (s := S8x8x512) ![7, 4, 0] ![1, 1, 512] inb_S8x8x512_S1x1x512_7_4_0)) (View.ld (Val := Elt Ideal) (e' := EltTy.f32) B (Rect.unit (s := S8x128x512) ![7, 0, 0] ![1, 128, 512] inb_S8x128x512_S1x128x512_7_0_0)))
      (k0_pay4 U H) 512 slices_S1024x512_o512_0_S128x512 := by
  unfold tile4 k0_pay47 k0_pay48 k0_pay49 k0_pay50 k0_pay51 k0_pay52 k0_pay53 row term
  with_reducible_and_instances rfl

theorem tile4_at (x : S128x512.Idx) (e : Fin 1024) (r : Fin 512) (h0 : (e : ℕ) = 512 + (x 0 : ℕ)) (h1 : (r : ℕ) = (x 1 : ℕ)) : tile4 U H A N B R x = weight U H A N B R e r := by
  refine (congrArg _ (eq_ix2 x)).trans ?_
  rw [tile4_eq, show r = (x 1 : Fin 512) from Fin.ext h1]
  exact piece_at U H A N B R 4 _ _ _ _ _ _ _ _ _ _ _ _ _ _ _ _ 512 _ (x 0) (x 1) e rfl h0

/-- The tile of row 5. -/
def tile5 : FVec Ideal S128x512 .bf16 :=
  k0_pay63 (k0_pay4 U H)
      (k0_pay60
        (k0_pay58
          (k0_pay55
            (k0_pay54 (View.ld (Val := Elt Ideal) (e' := EltTy.f32) R (Rect.unit ![0, 0, 0] ![1, 128, 512] inb_S8x128x512_S1x128x512_0_0_0)))
            (View.ld (Val := Elt Ideal) (e' := EltTy.f32) N (Rect.unit ![0, 5, 0] ![1, 1, 512] inb_S8x8x512_S1x1x512_0_5_0))
            (View.ld (Val := Elt Ideal) (e' := EltTy.f32) A (Rect.unit ![0, 5, 0] ![1, 1, 512] inb_S8x8x512_S1x1x512_0_5_0))
            (View.ld (Val := Elt Ideal) (e' := EltTy.f32) B (Rect.unit ![0, 0, 0] ![1, 128, 512] inb_S8x128x512_S1x128x512_0_0_0))
            (View.ld (Val := Elt Ideal) (e' := EltTy.f32) R (Rect.unit ![1, 0, 0] ![1, 128, 512] inb_S8x128x512_S1x128x512_1_0_0))
            (View.ld (Val := Elt Ideal) (e' := EltTy.f32) N (Rect.unit ![1, 5, 0] ![1, 1, 512] inb_S8x8x512_S1x1x512_1_5_0))
            (View.ld (Val := Elt Ideal) (e' := EltTy.f32) A (Rect.unit ![1, 5, 0] ![1, 1, 512] inb_S8x8x512_S1x1x512_1_5_0))
            (View.ld (Val := Elt Ideal) (e' := EltTy.f32) B (Rect.unit ![1, 0, 0] ![1, 128, 512] inb_S8x128x512_S1x128x512_1_0_0)))
          (k0_pay56 (View.ld (Val := Elt Ideal) (e' := EltTy.f32) R (Rect.unit ![2, 0, 0] ![1, 128, 512] inb_S8x128x512_S1x128x512_2_0_0)))
          (k0_pay57 (View.ld (Val := Elt Ideal) (e' := EltTy.f32) N (Rect.unit ![2, 5, 0] ![1, 1, 512] inb_S8x8x512_S1x1x512_2_5_0)))
          (View.ld (Val := Elt Ideal) (e' := EltTy.f32) A (Rect.unit ![2, 5, 0] ![1, 1, 512] inb_S8x8x512_S1x1x512_2_5_0))
          (View.ld (Val := Elt Ideal) (e' := EltTy.f32) B (Rect.unit ![2, 0, 0] ![1, 128, 512] inb_S8x128x512_S1x128x512_2_0_0))
          (View.ld (Val := Elt Ideal) (e' := EltTy.f32) R (Rect.unit ![3, 0, 0] ![1, 128, 512] inb_S8x128x512_S1x128x512_3_0_0))
          (View.ld (Val := Elt Ideal) (e' := EltTy.f32) N (Rect.unit ![3, 5, 0] ![1, 1, 512] inb_S8x8x512_S1x1x512_3_5_0))
          (View.ld (Val := Elt Ideal) (e' := EltTy.f32) A (Rect.unit ![3, 5, 0] ![1, 1, 512] inb_S8x8x512_S1x1x512_3_5_0))
          (View.ld (Val := Elt Ideal) (e' := EltTy.f32) B (Rect.unit ![3, 0, 0] ![1, 128, 512] inb_S8x128x512_S1x128x512_3_0_0)))
        (k0_pay59 (View.ld (Val := Elt Ideal) (e' := EltTy.f32) R (Rect.unit ![4, 0, 0] ![1, 128, 512] inb_S8x128x512_S1x128x512_4_0_0))
          (View.ld (Val := Elt Ideal) (e' := EltTy.f32) N (Rect.unit ![4, 5, 0] ![1, 1, 512] inb_S8x8x512_S1x1x512_4_5_0)))
        (View.ld (Val := Elt Ideal) (e' := EltTy.f32) A (Rect.unit ![4, 5, 0] ![1, 1, 512] inb_S8x8x512_S1x1x512_4_5_0))
        (View.ld (Val := Elt Ideal) (e' := EltTy.f32) B (Rect.unit ![4, 0, 0] ![1, 128, 512] inb_S8x128x512_S1x128x512_4_0_0))
        (View.ld (Val := Elt Ideal) (e' := EltTy.f32) R (Rect.unit ![5, 0, 0] ![1, 128, 512] inb_S8x128x512_S1x128x512_5_0_0))
        (View.ld (Val := Elt Ideal) (e' := EltTy.f32) N (Rect.unit ![5, 5, 0] ![1, 1, 512] inb_S8x8x512_S1x1x512_5_5_0))
        (View.ld (Val := Elt Ideal) (e' := EltTy.f32) A (Rect.unit ![5, 5, 0] ![1, 1, 512] inb_S8x8x512_S1x1x512_5_5_0))
        (View.ld (Val := Elt Ideal) (e' := EltTy.f32) B (Rect.unit ![5, 0, 0] ![1, 128, 512] inb_S8x128x512_S1x128x512_5_0_0)))
      (k0_pay61 (View.ld (Val := Elt Ideal) (e' := EltTy.f32) R (Rect.unit ![6, 0, 0] ![1, 128, 512] inb_S8x128x512_S1x128x512_6_0_0))
        (View.ld (Val := Elt Ideal) (e' := EltTy.f32) N (Rect.unit ![6, 5, 0] ![1, 1, 512] inb_S8x8x512_S1x1x512_6_5_0)))
      (k0_pay62 (View.ld (Val := Elt Ideal) (e' := EltTy.f32) A (Rect.unit ![6, 5, 0] ![1, 1, 512] inb_S8x8x512_S1x1x512_6_5_0)))
      (View.ld (Val := Elt Ideal) (e' := EltTy.f32) B (Rect.unit ![6, 0, 0] ![1, 128, 512] inb_S8x128x512_S1x128x512_6_0_0))
      (View.ld (Val := Elt Ideal) (e' := EltTy.f32) R (Rect.unit ![7, 0, 0] ![1, 128, 512] inb_S8x128x512_S1x128x512_7_0_0))
      (View.ld (Val := Elt Ideal) (e' := EltTy.f32) N (Rect.unit ![7, 5, 0] ![1, 1, 512] inb_S8x8x512_S1x1x512_7_5_0))
      (View.ld (Val := Elt Ideal) (e' := EltTy.f32) A (Rect.unit ![7, 5, 0] ![1, 1, 512] inb_S8x8x512_S1x1x512_7_5_0))
      (View.ld (Val := Elt Ideal) (e' := EltTy.f32) B (Rect.unit ![7, 0, 0] ![1, 128, 512] inb_S8x128x512_S1x128x512_7_0_0))

theorem tile5_eq : tile5 U H A N B R = row (term (View.ld (Val := Elt Ideal) (e' := EltTy.f32) R (Rect.unit (s := S8x128x512) ![0, 0, 0] ![1, 128, 512] inb_S8x128x512_S1x128x512_0_0_0)) (View.ld (Val := Elt Ideal) (e' := EltTy.f32) N (Rect.unit (s := S8x8x512) ![0, 5, 0] ![1, 1, 512] inb_S8x8x512_S1x1x512_0_5_0)) (View.ld (Val := Elt Ideal) (e' := EltTy.f32) A (Rect.unit (s := S8x8x512) ![0, 5, 0] ![1, 1, 512] inb_S8x8x512_S1x1x512_0_5_0)) (View.ld (Val := Elt Ideal) (e' := EltTy.f32) B (Rect.unit (s := S8x128x512) ![0, 0, 0] ![1, 128, 512] inb_S8x128x512_S1x128x512_0_0_0)))
      (term (View.ld (Val := Elt Ideal) (e' := EltTy.f32) R (Rect.unit (s := S8x128x512) ![1, 0, 0] ![1, 128, 512] inb_S8x128x512_S1x128x512_1_0_0)) (View.ld (Val := Elt Ideal) (e' := EltTy.f32) N (Rect.unit (s := S8x8x512) ![1, 5, 0] ![1, 1, 512] inb_S8x8x512_S1x1x512_1_5_0)) (View.ld (Val := Elt Ideal) (e' := EltTy.f32) A (Rect.unit (s := S8x8x512) ![1, 5, 0] ![1, 1, 512] inb_S8x8x512_S1x1x512_1_5_0)) (View.ld (Val := Elt Ideal) (e' := EltTy.f32) B (Rect.unit (s := S8x128x512) ![1, 0, 0] ![1, 128, 512] inb_S8x128x512_S1x128x512_1_0_0)))
      (term (View.ld (Val := Elt Ideal) (e' := EltTy.f32) R (Rect.unit (s := S8x128x512) ![2, 0, 0] ![1, 128, 512] inb_S8x128x512_S1x128x512_2_0_0)) (View.ld (Val := Elt Ideal) (e' := EltTy.f32) N (Rect.unit (s := S8x8x512) ![2, 5, 0] ![1, 1, 512] inb_S8x8x512_S1x1x512_2_5_0)) (View.ld (Val := Elt Ideal) (e' := EltTy.f32) A (Rect.unit (s := S8x8x512) ![2, 5, 0] ![1, 1, 512] inb_S8x8x512_S1x1x512_2_5_0)) (View.ld (Val := Elt Ideal) (e' := EltTy.f32) B (Rect.unit (s := S8x128x512) ![2, 0, 0] ![1, 128, 512] inb_S8x128x512_S1x128x512_2_0_0)))
      (term (View.ld (Val := Elt Ideal) (e' := EltTy.f32) R (Rect.unit (s := S8x128x512) ![3, 0, 0] ![1, 128, 512] inb_S8x128x512_S1x128x512_3_0_0)) (View.ld (Val := Elt Ideal) (e' := EltTy.f32) N (Rect.unit (s := S8x8x512) ![3, 5, 0] ![1, 1, 512] inb_S8x8x512_S1x1x512_3_5_0)) (View.ld (Val := Elt Ideal) (e' := EltTy.f32) A (Rect.unit (s := S8x8x512) ![3, 5, 0] ![1, 1, 512] inb_S8x8x512_S1x1x512_3_5_0)) (View.ld (Val := Elt Ideal) (e' := EltTy.f32) B (Rect.unit (s := S8x128x512) ![3, 0, 0] ![1, 128, 512] inb_S8x128x512_S1x128x512_3_0_0)))
      (term (View.ld (Val := Elt Ideal) (e' := EltTy.f32) R (Rect.unit (s := S8x128x512) ![4, 0, 0] ![1, 128, 512] inb_S8x128x512_S1x128x512_4_0_0)) (View.ld (Val := Elt Ideal) (e' := EltTy.f32) N (Rect.unit (s := S8x8x512) ![4, 5, 0] ![1, 1, 512] inb_S8x8x512_S1x1x512_4_5_0)) (View.ld (Val := Elt Ideal) (e' := EltTy.f32) A (Rect.unit (s := S8x8x512) ![4, 5, 0] ![1, 1, 512] inb_S8x8x512_S1x1x512_4_5_0)) (View.ld (Val := Elt Ideal) (e' := EltTy.f32) B (Rect.unit (s := S8x128x512) ![4, 0, 0] ![1, 128, 512] inb_S8x128x512_S1x128x512_4_0_0)))
      (term (View.ld (Val := Elt Ideal) (e' := EltTy.f32) R (Rect.unit (s := S8x128x512) ![5, 0, 0] ![1, 128, 512] inb_S8x128x512_S1x128x512_5_0_0)) (View.ld (Val := Elt Ideal) (e' := EltTy.f32) N (Rect.unit (s := S8x8x512) ![5, 5, 0] ![1, 1, 512] inb_S8x8x512_S1x1x512_5_5_0)) (View.ld (Val := Elt Ideal) (e' := EltTy.f32) A (Rect.unit (s := S8x8x512) ![5, 5, 0] ![1, 1, 512] inb_S8x8x512_S1x1x512_5_5_0)) (View.ld (Val := Elt Ideal) (e' := EltTy.f32) B (Rect.unit (s := S8x128x512) ![5, 0, 0] ![1, 128, 512] inb_S8x128x512_S1x128x512_5_0_0)))
      (term (View.ld (Val := Elt Ideal) (e' := EltTy.f32) R (Rect.unit (s := S8x128x512) ![6, 0, 0] ![1, 128, 512] inb_S8x128x512_S1x128x512_6_0_0)) (View.ld (Val := Elt Ideal) (e' := EltTy.f32) N (Rect.unit (s := S8x8x512) ![6, 5, 0] ![1, 1, 512] inb_S8x8x512_S1x1x512_6_5_0)) (View.ld (Val := Elt Ideal) (e' := EltTy.f32) A (Rect.unit (s := S8x8x512) ![6, 5, 0] ![1, 1, 512] inb_S8x8x512_S1x1x512_6_5_0)) (View.ld (Val := Elt Ideal) (e' := EltTy.f32) B (Rect.unit (s := S8x128x512) ![6, 0, 0] ![1, 128, 512] inb_S8x128x512_S1x128x512_6_0_0)))
      (term (View.ld (Val := Elt Ideal) (e' := EltTy.f32) R (Rect.unit (s := S8x128x512) ![7, 0, 0] ![1, 128, 512] inb_S8x128x512_S1x128x512_7_0_0)) (View.ld (Val := Elt Ideal) (e' := EltTy.f32) N (Rect.unit (s := S8x8x512) ![7, 5, 0] ![1, 1, 512] inb_S8x8x512_S1x1x512_7_5_0)) (View.ld (Val := Elt Ideal) (e' := EltTy.f32) A (Rect.unit (s := S8x8x512) ![7, 5, 0] ![1, 1, 512] inb_S8x8x512_S1x1x512_7_5_0)) (View.ld (Val := Elt Ideal) (e' := EltTy.f32) B (Rect.unit (s := S8x128x512) ![7, 0, 0] ![1, 128, 512] inb_S8x128x512_S1x128x512_7_0_0)))
      (k0_pay4 U H) 640 slices_S1024x512_o640_0_S128x512 := by
  unfold tile5 k0_pay54 k0_pay55 k0_pay56 k0_pay57 k0_pay58 k0_pay59 k0_pay60 k0_pay61 k0_pay62 k0_pay63 row term
  with_reducible_and_instances rfl

theorem tile5_at (x : S128x512.Idx) (e : Fin 1024) (r : Fin 512) (h0 : (e : ℕ) = 640 + (x 0 : ℕ)) (h1 : (r : ℕ) = (x 1 : ℕ)) : tile5 U H A N B R x = weight U H A N B R e r := by
  refine (congrArg _ (eq_ix2 x)).trans ?_
  rw [tile5_eq, show r = (x 1 : Fin 512) from Fin.ext h1]
  exact piece_at U H A N B R 5 _ _ _ _ _ _ _ _ _ _ _ _ _ _ _ _ 640 _ (x 0) (x 1) e rfl h0

/-- The tile of row 6. -/
def tile6 : FVec Ideal S128x512 .bf16 :=
  k0_pay74 (k0_pay4 U H)
      (k0_pay72
        (k0_pay68
          (k0_pay65
            (k0_pay64 (View.ld (Val := Elt Ideal) (e' := EltTy.f32) R (Rect.unit ![0, 0, 0] ![1, 128, 512] inb_S8x128x512_S1x128x512_0_0_0))
              (View.ld (Val := Elt Ideal) (e' := EltTy.f32) N (Rect.unit ![0, 6, 0] ![1, 1, 512] inb_S8x8x512_S1x1x512_0_6_0)))
            (View.ld (Val := Elt Ideal) (e' := EltTy.f32) A (Rect.unit ![0, 6, 0] ![1, 1, 512] inb_S8x8x512_S1x1x512_0_6_0))
            (View.ld (Val := Elt Ideal) (e' := EltTy.f32) B (Rect.unit ![0, 0, 0] ![1, 128, 512] inb_S8x128x512_S1x128x512_0_0_0))
            (View.ld (Val := Elt Ideal) (e' := EltTy.f32) R (Rect.unit ![1, 0, 0] ![1, 128, 512] inb_S8x128x512_S1x128x512_1_0_0))
            (View.ld (Val := Elt Ideal) (e' := EltTy.f32) N (Rect.unit ![1, 6, 0] ![1, 1, 512] inb_S8x8x512_S1x1x512_1_6_0))
            (View.ld (Val := Elt Ideal) (e' := EltTy.f32) A (Rect.unit ![1, 6, 0] ![1, 1, 512] inb_S8x8x512_S1x1x512_1_6_0))
            (View.ld (Val := Elt Ideal) (e' := EltTy.f32) B (Rect.unit ![1, 0, 0] ![1, 128, 512] inb_S8x128x512_S1x128x512_1_0_0)))
          (k0_pay66 (View.ld (Val := Elt Ideal) (e' := EltTy.f32) R (Rect.unit ![2, 0, 0] ![1, 128, 512] inb_S8x128x512_S1x128x512_2_0_0))
            (View.ld (Val := Elt Ideal) (e' := EltTy.f32) N (Rect.unit ![2, 6, 0] ![1, 1, 512] inb_S8x8x512_S1x1x512_2_6_0)))
          (k0_pay67 (View.ld (Val := Elt Ideal) (e' := EltTy.f32) A (Rect.unit ![2, 6, 0] ![1, 1, 512] inb_S8x8x512_S1x1x512_2_6_0)))
          (View.ld (Val := Elt Ideal) (e' := EltTy.f32) B (Rect.unit ![2, 0, 0] ![1, 128, 512] inb_S8x128x512_S1x128x512_2_0_0))
          (View.ld (Val := Elt Ideal) (e' := EltTy.f32) R (Rect.unit ![3, 0, 0] ![1, 128, 512] inb_S8x128x512_S1x128x512_3_0_0))
          (View.ld (Val := Elt Ideal) (e' := EltTy.f32) N (Rect.unit ![3, 6, 0] ![1, 1, 512] inb_S8x8x512_S1x1x512_3_6_0))
          (View.ld (Val := Elt Ideal) (e' := EltTy.f32) A (Rect.unit ![3, 6, 0] ![1, 1, 512] inb_S8x8x512_S1x1x512_3_6_0))
          (View.ld (Val := Elt Ideal) (e' := EltTy.f32) B (Rect.unit ![3, 0, 0] ![1, 128, 512] inb_S8x128x512_S1x128x512_3_0_0)))
        (k0_pay69 (View.ld (Val := Elt Ideal) (e' := EltTy.f32) R (Rect.unit ![4, 0, 0] ![1, 128, 512] inb_S8x128x512_S1x128x512_4_0_0))
          (View.ld (Val := Elt Ideal) (e' := EltTy.f32) N (Rect.unit ![4, 6, 0] ![1, 1, 512] inb_S8x8x512_S1x1x512_4_6_0)))
        (k0_pay70 (View.ld (Val := Elt Ideal) (e' := EltTy.f32) B (Rect.unit ![4, 0, 0] ![1, 128, 512] inb_S8x128x512_S1x128x512_4_0_0)))
        (k0_pay71 (View.ld (Val := Elt Ideal) (e' := EltTy.f32) A (Rect.unit ![4, 6, 0] ![1, 1, 512] inb_S8x8x512_S1x1x512_4_6_0)))
        (View.ld (Val := Elt Ideal) (e' := EltTy.f32) R (Rect.unit ![5, 0, 0] ![1, 128, 512] inb_S8x128x512_S1x128x512_5_0_0))
        (View.ld (Val := Elt Ideal) (e' := EltTy.f32) N (Rect.unit ![5, 6, 0] ![1, 1, 512] inb_S8x8x512_S1x1x512_5_6_0))
        (View.ld (Val := Elt Ideal) (e' := EltTy.f32) A (Rect.unit ![5, 6, 0] ![1, 1, 512] inb_S8x8x512_S1x1x512_5_6_0))
        (View.ld (Val := Elt Ideal) (e' := EltTy.f32) B (Rect.unit ![5, 0, 0] ![1, 128, 512] inb_S8x128x512_S1x128x512_5_0_0)))
      (k0_pay73 (View.ld (Val := Elt Ideal) (e' := EltTy.f32) R (Rect.unit ![6, 0, 0] ![1, 128, 512] inb_S8x128x512_S1x128x512_6_0_0))
        (View.ld (Val := Elt Ideal) (e' := EltTy.f32) N (Rect.unit ![6, 6, 0] ![1, 1, 512] inb_S8x8x512_S1x1x512_6_6_0))
        (View.ld (Val := Elt Ideal) (e' := EltTy.f32) A (Rect.unit ![6, 6, 0] ![1, 1, 512] inb_S8x8x512_S1x1x512_6_6_0))
        (View.ld (Val := Elt Ideal) (e' := EltTy.f32) B (Rect.unit ![6, 0, 0] ![1, 128, 512] inb_S8x128x512_S1x128x512_6_0_0)))
      (View.ld (Val := Elt Ideal) (e' := EltTy.f32) R (Rect.unit ![7, 0, 0] ![1, 128, 512] inb_S8x128x512_S1x128x512_7_0_0))
      (View.ld (Val := Elt Ideal) (e' := EltTy.f32) N (Rect.unit ![7, 6, 0] ![1, 1, 512] inb_S8x8x512_S1x1x512_7_6_0))
      (View.ld (Val := Elt Ideal) (e' := EltTy.f32) A (Rect.unit ![7, 6, 0] ![1, 1, 512] inb_S8x8x512_S1x1x512_7_6_0))
      (View.ld (Val := Elt Ideal) (e' := EltTy.f32) B (Rect.unit ![7, 0, 0] ![1, 128, 512] inb_S8x128x512_S1x128x512_7_0_0))

theorem tile6_eq : tile6 U H A N B R = row (term (View.ld (Val := Elt Ideal) (e' := EltTy.f32) R (Rect.unit (s := S8x128x512) ![0, 0, 0] ![1, 128, 512] inb_S8x128x512_S1x128x512_0_0_0)) (View.ld (Val := Elt Ideal) (e' := EltTy.f32) N (Rect.unit (s := S8x8x512) ![0, 6, 0] ![1, 1, 512] inb_S8x8x512_S1x1x512_0_6_0)) (View.ld (Val := Elt Ideal) (e' := EltTy.f32) A (Rect.unit (s := S8x8x512) ![0, 6, 0] ![1, 1, 512] inb_S8x8x512_S1x1x512_0_6_0)) (View.ld (Val := Elt Ideal) (e' := EltTy.f32) B (Rect.unit (s := S8x128x512) ![0, 0, 0] ![1, 128, 512] inb_S8x128x512_S1x128x512_0_0_0)))
      (term (View.ld (Val := Elt Ideal) (e' := EltTy.f32) R (Rect.unit (s := S8x128x512) ![1, 0, 0] ![1, 128, 512] inb_S8x128x512_S1x128x512_1_0_0)) (View.ld (Val := Elt Ideal) (e' := EltTy.f32) N (Rect.unit (s := S8x8x512) ![1, 6, 0] ![1, 1, 512] inb_S8x8x512_S1x1x512_1_6_0)) (View.ld (Val := Elt Ideal) (e' := EltTy.f32) A (Rect.unit (s := S8x8x512) ![1, 6, 0] ![1, 1, 512] inb_S8x8x512_S1x1x512_1_6_0)) (View.ld (Val := Elt Ideal) (e' := EltTy.f32) B (Rect.unit (s := S8x128x512) ![1, 0, 0] ![1, 128, 512] inb_S8x128x512_S1x128x512_1_0_0)))
      (term (View.ld (Val := Elt Ideal) (e' := EltTy.f32) R (Rect.unit (s := S8x128x512) ![2, 0, 0] ![1, 128, 512] inb_S8x128x512_S1x128x512_2_0_0)) (View.ld (Val := Elt Ideal) (e' := EltTy.f32) N (Rect.unit (s := S8x8x512) ![2, 6, 0] ![1, 1, 512] inb_S8x8x512_S1x1x512_2_6_0)) (View.ld (Val := Elt Ideal) (e' := EltTy.f32) A (Rect.unit (s := S8x8x512) ![2, 6, 0] ![1, 1, 512] inb_S8x8x512_S1x1x512_2_6_0)) (View.ld (Val := Elt Ideal) (e' := EltTy.f32) B (Rect.unit (s := S8x128x512) ![2, 0, 0] ![1, 128, 512] inb_S8x128x512_S1x128x512_2_0_0)))
      (term (View.ld (Val := Elt Ideal) (e' := EltTy.f32) R (Rect.unit (s := S8x128x512) ![3, 0, 0] ![1, 128, 512] inb_S8x128x512_S1x128x512_3_0_0)) (View.ld (Val := Elt Ideal) (e' := EltTy.f32) N (Rect.unit (s := S8x8x512) ![3, 6, 0] ![1, 1, 512] inb_S8x8x512_S1x1x512_3_6_0)) (View.ld (Val := Elt Ideal) (e' := EltTy.f32) A (Rect.unit (s := S8x8x512) ![3, 6, 0] ![1, 1, 512] inb_S8x8x512_S1x1x512_3_6_0)) (View.ld (Val := Elt Ideal) (e' := EltTy.f32) B (Rect.unit (s := S8x128x512) ![3, 0, 0] ![1, 128, 512] inb_S8x128x512_S1x128x512_3_0_0)))
      (term (View.ld (Val := Elt Ideal) (e' := EltTy.f32) R (Rect.unit (s := S8x128x512) ![4, 0, 0] ![1, 128, 512] inb_S8x128x512_S1x128x512_4_0_0)) (View.ld (Val := Elt Ideal) (e' := EltTy.f32) N (Rect.unit (s := S8x8x512) ![4, 6, 0] ![1, 1, 512] inb_S8x8x512_S1x1x512_4_6_0)) (View.ld (Val := Elt Ideal) (e' := EltTy.f32) A (Rect.unit (s := S8x8x512) ![4, 6, 0] ![1, 1, 512] inb_S8x8x512_S1x1x512_4_6_0)) (View.ld (Val := Elt Ideal) (e' := EltTy.f32) B (Rect.unit (s := S8x128x512) ![4, 0, 0] ![1, 128, 512] inb_S8x128x512_S1x128x512_4_0_0)))
      (term (View.ld (Val := Elt Ideal) (e' := EltTy.f32) R (Rect.unit (s := S8x128x512) ![5, 0, 0] ![1, 128, 512] inb_S8x128x512_S1x128x512_5_0_0)) (View.ld (Val := Elt Ideal) (e' := EltTy.f32) N (Rect.unit (s := S8x8x512) ![5, 6, 0] ![1, 1, 512] inb_S8x8x512_S1x1x512_5_6_0)) (View.ld (Val := Elt Ideal) (e' := EltTy.f32) A (Rect.unit (s := S8x8x512) ![5, 6, 0] ![1, 1, 512] inb_S8x8x512_S1x1x512_5_6_0)) (View.ld (Val := Elt Ideal) (e' := EltTy.f32) B (Rect.unit (s := S8x128x512) ![5, 0, 0] ![1, 128, 512] inb_S8x128x512_S1x128x512_5_0_0)))
      (term (View.ld (Val := Elt Ideal) (e' := EltTy.f32) R (Rect.unit (s := S8x128x512) ![6, 0, 0] ![1, 128, 512] inb_S8x128x512_S1x128x512_6_0_0)) (View.ld (Val := Elt Ideal) (e' := EltTy.f32) N (Rect.unit (s := S8x8x512) ![6, 6, 0] ![1, 1, 512] inb_S8x8x512_S1x1x512_6_6_0)) (View.ld (Val := Elt Ideal) (e' := EltTy.f32) A (Rect.unit (s := S8x8x512) ![6, 6, 0] ![1, 1, 512] inb_S8x8x512_S1x1x512_6_6_0)) (View.ld (Val := Elt Ideal) (e' := EltTy.f32) B (Rect.unit (s := S8x128x512) ![6, 0, 0] ![1, 128, 512] inb_S8x128x512_S1x128x512_6_0_0)))
      (term (View.ld (Val := Elt Ideal) (e' := EltTy.f32) R (Rect.unit (s := S8x128x512) ![7, 0, 0] ![1, 128, 512] inb_S8x128x512_S1x128x512_7_0_0)) (View.ld (Val := Elt Ideal) (e' := EltTy.f32) N (Rect.unit (s := S8x8x512) ![7, 6, 0] ![1, 1, 512] inb_S8x8x512_S1x1x512_7_6_0)) (View.ld (Val := Elt Ideal) (e' := EltTy.f32) A (Rect.unit (s := S8x8x512) ![7, 6, 0] ![1, 1, 512] inb_S8x8x512_S1x1x512_7_6_0)) (View.ld (Val := Elt Ideal) (e' := EltTy.f32) B (Rect.unit (s := S8x128x512) ![7, 0, 0] ![1, 128, 512] inb_S8x128x512_S1x128x512_7_0_0)))
      (k0_pay4 U H) 768 slices_S1024x512_o768_0_S128x512 := by
  unfold tile6 k0_pay64 k0_pay65 k0_pay66 k0_pay67 k0_pay68 k0_pay69 k0_pay70 k0_pay71 k0_pay72 k0_pay73 k0_pay74 row term
  with_reducible_and_instances rfl

theorem tile6_at (x : S128x512.Idx) (e : Fin 1024) (r : Fin 512) (h0 : (e : ℕ) = 768 + (x 0 : ℕ)) (h1 : (r : ℕ) = (x 1 : ℕ)) : tile6 U H A N B R x = weight U H A N B R e r := by
  refine (congrArg _ (eq_ix2 x)).trans ?_
  rw [tile6_eq, show r = (x 1 : Fin 512) from Fin.ext h1]
  exact piece_at U H A N B R 6 _ _ _ _ _ _ _ _ _ _ _ _ _ _ _ _ 768 _ (x 0) (x 1) e rfl h0

/-- The tile of row 7. -/
def tile7 : FVec Ideal S128x512 .bf16 :=
  k0_pay83 (k0_pay4 U H)
      (k0_pay81
        (k0_pay80
          (k0_pay78
            (k0_pay75 (View.ld (Val := Elt Ideal) (e' := EltTy.f32) R (Rect.unit ![0, 0, 0] ![1, 128, 512] inb_S8x128x512_S1x128x512_0_0_0))
              (View.ld (Val := Elt Ideal) (e' := EltTy.f32) N (Rect.unit ![0, 7, 0] ![1, 1, 512] inb_S8x8x512_S1x1x512_0_7_0)))
            (k0_pay76 (View.ld (Val := Elt Ideal) (e' := EltTy.f32) A (Rect.unit ![0, 7, 0] ![1, 1, 512] inb_S8x8x512_S1x1x512_0_7_0)))
            (k0_pay77 (View.ld (Val := Elt Ideal) (e' := EltTy.f32) B (Rect.unit ![0, 0, 0] ![1, 128, 512] inb_S8x128x512_S1x128x512_0_0_0)))
            (View.ld (Val := Elt Ideal) (e' := EltTy.f32) R (Rect.unit ![1, 0, 0] ![1, 128, 512] inb_S8x128x512_S1x128x512_1_0_0))
            (View.ld (Val := Elt Ideal) (e' := EltTy.f32) N (Rect.unit ![1, 7, 0] ![1, 1, 512] inb_S8x8x512_S1x1x512_1_7_0))
            (View.ld (Val := Elt Ideal) (e' := EltTy.f32) A (Rect.unit ![1, 7, 0] ![1, 1, 512] inb_S8x8x512_S1x1x512_1_7_0))
            (View.ld (Val := Elt Ideal) (e' := EltTy.f32) B (Rect.unit ![1, 0, 0] ![1, 128, 512] inb_S8x128x512_S1x128x512_1_0_0)))
          (k0_pay79 (View.ld (Val := Elt Ideal) (e' := EltTy.f32) R (Rect.unit ![2, 0, 0] ![1, 128, 512] inb_S8x128x512_S1x128x512_2_0_0))
            (View.ld (Val := Elt Ideal) (e' := EltTy.f32) N (Rect.unit ![2, 7, 0] ![1, 1, 512] inb_S8x8x512_S1x1x512_2_7_0))
            (View.ld (Val := Elt Ideal) (e' := EltTy.f32) A (Rect.unit ![2, 7, 0] ![1, 1, 512] inb_S8x8x512_S1x1x512_2_7_0))
            (View.ld (Val := Elt Ideal) (e' := EltTy.f32) B (Rect.unit ![2, 0, 0] ![1, 128, 512] inb_S8x128x512_S1x128x512_2_0_0)))
          (View.ld (Val := Elt Ideal) (e' := EltTy.f32) R (Rect.unit ![3, 0, 0] ![1, 128, 512] inb_S8x128x512_S1x128x512_3_0_0))
          (View.ld (Val := Elt Ideal) (e' := EltTy.f32) N (Rect.unit ![3, 7, 0] ![1, 1, 512] inb_S8x8x512_S1x1x512_3_7_0))
          (View.ld (Val := Elt Ideal) (e' := EltTy.f32) A (Rect.unit ![3, 7, 0] ![1, 1, 512] inb_S8x8x512_S1x1x512_3_7_0))
          (View.ld (Val := Elt Ideal) (e' := EltTy.f32) B (Rect.unit ![3, 0, 0] ![1, 128, 512] inb_S8x128x512_S1x128x512_3_0_0))
          (View.ld (Val := Elt Ideal) (e' := EltTy.f32) R (Rect.unit ![4, 0, 0] ![1, 128, 512] inb_S8x128x512_S1x128x512_4_0_0))
          (View.ld (Val := Elt Ideal) (e' := EltTy.f32) N (Rect.unit ![4, 7, 0] ![1, 1, 512] inb_S8x8x512_S1x1x512_4_7_0))
          (View.ld (Val := Elt Ideal) (e' := EltTy.f32) A (Rect.unit ![4, 7, 0] ![1, 1, 512] inb_S8x8x512_S1x1x512_4_7_0))
          (View.ld (Val := Elt Ideal) (e' := EltTy.f32) B (Rect.unit ![4, 0, 0] ![1, 128, 512] inb_S8x128x512_S1x128x512_4_0_0)))
        (View.ld (Val := Elt Ideal) (e' := EltTy.f32) R (Rect.unit ![5, 0, 0] ![1, 128, 512] inb_S8x128x512_S1x128x512_5_0_0))
        (View.ld (Val := Elt Ideal) (e' := EltTy.f32) N (Rect.unit ![5, 7, 0] ![1, 1, 512] inb_S8x8x512_S1x1x512_5_7_0))
        (View.ld (Val := Elt Ideal) (e' := EltTy.f32) A (Rect.unit ![5, 7, 0] ![1, 1, 512] inb_S8x8x512_S1x1x512_5_7_0))
        (View.ld (Val := Elt Ideal) (e' := EltTy.f32) B (Rect.unit ![5, 0, 0] ![1, 128, 512] inb_S8x128x512_S1x128x512_5_0_0))
        (View.ld (Val := Elt Ideal) (e' := EltTy.f32) R (Rect.unit ![6, 0, 0] ![1, 128, 512] inb_S8x128x512_S1x128x512_6_0_0))
        (View.ld (Val := Elt Ideal) (e' := EltTy.f32) N (Rect.unit ![6, 7, 0] ![1, 1, 512] inb_S8x8x512_S1x1x512_6_7_0))
        (View.ld (Val := Elt Ideal) (e' := EltTy.f32) A (Rect.unit ![6, 7, 0] ![1, 1, 512] inb_S8x8x512_S1x1x512_6_7_0))
        (View.ld (Val := Elt Ideal) (e' := EltTy.f32) B (Rect.unit ![6, 0, 0] ![1, 128, 512] inb_S8x128x512_S1x128x512_6_0_0)))
      (k0_pay82 (View.ld (Val := Elt Ideal) (e' := EltTy.f32) R (Rect.unit ![7, 0, 0] ![1, 128, 512] inb_S8x128x512_S1x128x512_7_0_0)))
      (View.ld (Val := Elt Ideal) (e' := EltTy.f32) N (Rect.unit ![7, 7, 0] ![1, 1, 512] inb_S8x8x512_S1x1x512_7_7_0))
      (View.ld (Val := Elt Ideal) (e' := EltTy.f32) A (Rect.unit ![7, 7, 0] ![1, 1, 512] inb_S8x8x512_S1x1x512_7_7_0))
      (View.ld (Val := Elt Ideal) (e' := EltTy.f32) B (Rect.unit ![7, 0, 0] ![1, 128, 512] inb_S8x128x512_S1x128x512_7_0_0))

theorem tile7_eq : tile7 U H A N B R = row (term (View.ld (Val := Elt Ideal) (e' := EltTy.f32) R (Rect.unit (s := S8x128x512) ![0, 0, 0] ![1, 128, 512] inb_S8x128x512_S1x128x512_0_0_0)) (View.ld (Val := Elt Ideal) (e' := EltTy.f32) N (Rect.unit (s := S8x8x512) ![0, 7, 0] ![1, 1, 512] inb_S8x8x512_S1x1x512_0_7_0)) (View.ld (Val := Elt Ideal) (e' := EltTy.f32) A (Rect.unit (s := S8x8x512) ![0, 7, 0] ![1, 1, 512] inb_S8x8x512_S1x1x512_0_7_0)) (View.ld (Val := Elt Ideal) (e' := EltTy.f32) B (Rect.unit (s := S8x128x512) ![0, 0, 0] ![1, 128, 512] inb_S8x128x512_S1x128x512_0_0_0)))
      (term (View.ld (Val := Elt Ideal) (e' := EltTy.f32) R (Rect.unit (s := S8x128x512) ![1, 0, 0] ![1, 128, 512] inb_S8x128x512_S1x128x512_1_0_0)) (View.ld (Val := Elt Ideal) (e' := EltTy.f32) N (Rect.unit (s := S8x8x512) ![1, 7, 0] ![1, 1, 512] inb_S8x8x512_S1x1x512_1_7_0)) (View.ld (Val := Elt Ideal) (e' := EltTy.f32) A (Rect.unit (s := S8x8x512) ![1, 7, 0] ![1, 1, 512] inb_S8x8x512_S1x1x512_1_7_0)) (View.ld (Val := Elt Ideal) (e' := EltTy.f32) B (Rect.unit (s := S8x128x512) ![1, 0, 0] ![1, 128, 512] inb_S8x128x512_S1x128x512_1_0_0)))
      (term (View.ld (Val := Elt Ideal) (e' := EltTy.f32) R (Rect.unit (s := S8x128x512) ![2, 0, 0] ![1, 128, 512] inb_S8x128x512_S1x128x512_2_0_0)) (View.ld (Val := Elt Ideal) (e' := EltTy.f32) N (Rect.unit (s := S8x8x512) ![2, 7, 0] ![1, 1, 512] inb_S8x8x512_S1x1x512_2_7_0)) (View.ld (Val := Elt Ideal) (e' := EltTy.f32) A (Rect.unit (s := S8x8x512) ![2, 7, 0] ![1, 1, 512] inb_S8x8x512_S1x1x512_2_7_0)) (View.ld (Val := Elt Ideal) (e' := EltTy.f32) B (Rect.unit (s := S8x128x512) ![2, 0, 0] ![1, 128, 512] inb_S8x128x512_S1x128x512_2_0_0)))
      (term (View.ld (Val := Elt Ideal) (e' := EltTy.f32) R (Rect.unit (s := S8x128x512) ![3, 0, 0] ![1, 128, 512] inb_S8x128x512_S1x128x512_3_0_0)) (View.ld (Val := Elt Ideal) (e' := EltTy.f32) N (Rect.unit (s := S8x8x512) ![3, 7, 0] ![1, 1, 512] inb_S8x8x512_S1x1x512_3_7_0)) (View.ld (Val := Elt Ideal) (e' := EltTy.f32) A (Rect.unit (s := S8x8x512) ![3, 7, 0] ![1, 1, 512] inb_S8x8x512_S1x1x512_3_7_0)) (View.ld (Val := Elt Ideal) (e' := EltTy.f32) B (Rect.unit (s := S8x128x512) ![3, 0, 0] ![1, 128, 512] inb_S8x128x512_S1x128x512_3_0_0)))
      (term (View.ld (Val := Elt Ideal) (e' := EltTy.f32) R (Rect.unit (s := S8x128x512) ![4, 0, 0] ![1, 128, 512] inb_S8x128x512_S1x128x512_4_0_0)) (View.ld (Val := Elt Ideal) (e' := EltTy.f32) N (Rect.unit (s := S8x8x512) ![4, 7, 0] ![1, 1, 512] inb_S8x8x512_S1x1x512_4_7_0)) (View.ld (Val := Elt Ideal) (e' := EltTy.f32) A (Rect.unit (s := S8x8x512) ![4, 7, 0] ![1, 1, 512] inb_S8x8x512_S1x1x512_4_7_0)) (View.ld (Val := Elt Ideal) (e' := EltTy.f32) B (Rect.unit (s := S8x128x512) ![4, 0, 0] ![1, 128, 512] inb_S8x128x512_S1x128x512_4_0_0)))
      (term (View.ld (Val := Elt Ideal) (e' := EltTy.f32) R (Rect.unit (s := S8x128x512) ![5, 0, 0] ![1, 128, 512] inb_S8x128x512_S1x128x512_5_0_0)) (View.ld (Val := Elt Ideal) (e' := EltTy.f32) N (Rect.unit (s := S8x8x512) ![5, 7, 0] ![1, 1, 512] inb_S8x8x512_S1x1x512_5_7_0)) (View.ld (Val := Elt Ideal) (e' := EltTy.f32) A (Rect.unit (s := S8x8x512) ![5, 7, 0] ![1, 1, 512] inb_S8x8x512_S1x1x512_5_7_0)) (View.ld (Val := Elt Ideal) (e' := EltTy.f32) B (Rect.unit (s := S8x128x512) ![5, 0, 0] ![1, 128, 512] inb_S8x128x512_S1x128x512_5_0_0)))
      (term (View.ld (Val := Elt Ideal) (e' := EltTy.f32) R (Rect.unit (s := S8x128x512) ![6, 0, 0] ![1, 128, 512] inb_S8x128x512_S1x128x512_6_0_0)) (View.ld (Val := Elt Ideal) (e' := EltTy.f32) N (Rect.unit (s := S8x8x512) ![6, 7, 0] ![1, 1, 512] inb_S8x8x512_S1x1x512_6_7_0)) (View.ld (Val := Elt Ideal) (e' := EltTy.f32) A (Rect.unit (s := S8x8x512) ![6, 7, 0] ![1, 1, 512] inb_S8x8x512_S1x1x512_6_7_0)) (View.ld (Val := Elt Ideal) (e' := EltTy.f32) B (Rect.unit (s := S8x128x512) ![6, 0, 0] ![1, 128, 512] inb_S8x128x512_S1x128x512_6_0_0)))
      (term (View.ld (Val := Elt Ideal) (e' := EltTy.f32) R (Rect.unit (s := S8x128x512) ![7, 0, 0] ![1, 128, 512] inb_S8x128x512_S1x128x512_7_0_0)) (View.ld (Val := Elt Ideal) (e' := EltTy.f32) N (Rect.unit (s := S8x8x512) ![7, 7, 0] ![1, 1, 512] inb_S8x8x512_S1x1x512_7_7_0)) (View.ld (Val := Elt Ideal) (e' := EltTy.f32) A (Rect.unit (s := S8x8x512) ![7, 7, 0] ![1, 1, 512] inb_S8x8x512_S1x1x512_7_7_0)) (View.ld (Val := Elt Ideal) (e' := EltTy.f32) B (Rect.unit (s := S8x128x512) ![7, 0, 0] ![1, 128, 512] inb_S8x128x512_S1x128x512_7_0_0)))
      (k0_pay4 U H) 896 slices_S1024x512_o896_0_S128x512 := by
  unfold tile7 k0_pay75 k0_pay76 k0_pay77 k0_pay78 k0_pay79 k0_pay80 k0_pay81 k0_pay82 k0_pay83 row term
  with_reducible_and_instances rfl

theorem tile7_at (x : S128x512.Idx) (e : Fin 1024) (r : Fin 512) (h0 : (e : ℕ) = 896 + (x 0 : ℕ)) (h1 : (r : ℕ) = (x 1 : ℕ)) : tile7 U H A N B R x = weight U H A N B R e r := by
  refine (congrArg _ (eq_ix2 x)).trans ?_
  rw [tile7_eq, show r = (x 1 : Fin 512) from Fin.ext h1]
  exact piece_at U H A N B R 7 _ _ _ _ _ _ _ _ _ _ _ _ _ _ _ _ 896 _ (x 0) (x 1) e rfl h0

end

end Cert.DenseIdeal.Value
-- ==== Proof.Sums.lean ====
/-
What the experts' kernel carries along a block of tokens, and its result at an index.
-/
module

public import proofs.«01_k».proof.Proof.Pieces
public import proofs.«01_k».proof.Proof.Expert
public import Idealize.ShloMosaic.Lib.Pointwise
public import Idealize.ShloMosaic.Lib.Pipeline.ValueKit

@[expose] public section

set_option maxRecDepth 16384

noncomputable section

namespace Cert.DenseIdeal.Value

open Idealize.ShloMosaic Idealize.ShloMosaic.TcCoe Idealize.SL.Sem
open Idealize.ShloMosaic.Pipeline (Dat)
open Cert.DenseIdeal Cert.DenseIdeal.Gen
open Cert.Expert

variable (m : (ℓ : Loc nD τ sig) → Buf (Elt Ideal) ℓ) (c : Dev nD)

/-- What a point adds. -/
def added (t : Fin cfg0.N) (d : Fin 1024) (r : Fin 512) : EReal := blockSum (iblk m c 1 t) (iblk m c 0 t) (iblk m c 3 t) (iblk m c 4 t) (iblk m c 5 t) (iblk m c 6 t) (iblk m c 2 t) d r

theorem sum_first (t : Fin cfg0.N) (g0 : t.val % 16 = 0) (d : Fin 1024) (r : Fin 512) :
    (outsAt0 m c t.val t.isLt).2 (ix2 d r) = 0 + added m c t d r := by
  rw [outsAt0_A m c t g0 (by omega)]
  frame_out
  refine (added_of (iblk m c 1 t) (iblk m c 0 t) (iblk m c 3 t) (iblk m c 4 t) (iblk m c 5 t) (iblk m c 6 t) _ _ _ d r fun e => ?_).trans ?_
  rotate_left
  · exact congrArg (· + added m c t d r) (zeros_at d r)
  · clear g0
    rw [View.readCov_eq_canon']
    refine (congrArg _ (whole_idx e r)).trans ?_
    canon_tiles x h
    case piece0 => exact tile7_at _ _ _ _ _ _ x e r (by have h : (e : ℕ) = _ := h0; omega) h1
    case piece1 => exact tile6_at _ _ _ _ _ _ x e r (by have h : (e : ℕ) = _ := h0; omega) h1
    case piece2 => exact tile5_at _ _ _ _ _ _ x e r (by have h : (e : ℕ) = _ := h0; omega) h1
    case piece3 => exact tile4_at _ _ _ _ _ _ x e r (by have h : (e : ℕ) = _ := h0; omega) h1
    case piece4 => exact tile3_at _ _ _ _ _ _ x e r (by have h : (e : ℕ) = _ := h0; omega) h1
    case piece5 => exact tile2_at _ _ _ _ _ _ x e r (by have h : (e : ℕ) = _ := h0; omega) h1
    case piece6 => exact tile1_at _ _ _ _ _ _ x e r (by have h : (e : ℕ) = _ := h0; omega) h1
    case piece7 => exact tile0_at _ _ _ _ _ _ x e r (by have h : (e : ℕ) = _ := h0; omega) h1

theorem sum_next (t : Fin cfg0.N) (g0 : ¬ t.val % 16 = 0) (d : Fin 1024) (r : Fin 512) :
    (outsAt0 m c t.val t.isLt).2 (ix2 d r) = (outsAt0 m c (t.val - 1) (Nat.lt_of_le_of_lt (Nat.sub_le _ _) t.isLt)).2 (ix2 d r) + added m c t d r := by
  by_cases g1 : t.val % 16 = 15
  · rw [outsAt0_C m c t g0 g1]
    frame_out
    refine (added_of (iblk m c 1 t) (iblk m c 0 t) (iblk m c 3 t) (iblk m c 4 t) (iblk m c 5 t) (iblk m c 6 t) _ _ _ d r fun e => ?_).trans ?_
    rotate_left
    · exact congrArg (· + added m c t d r) (congrFun (Memref.IsWhole.read_unread _ _) _)
    clear g0 g1
    rw [View.readCov_eq_canon']
    refine (congrArg _ (whole_idx e r)).trans ?_
    canon_tiles x h
    case piece0 => exact tile7_at _ _ _ _ _ _ x e r (by have h : (e : ℕ) = _ := h0; omega) h1
    case piece1 => exact tile6_at _ _ _ _ _ _ x e r (by have h : (e : ℕ) = _ := h0; omega) h1
    case piece2 => exact tile5_at _ _ _ _ _ _ x e r (by have h : (e : ℕ) = _ := h0; omega) h1
    case piece3 => exact tile4_at _ _ _ _ _ _ x e r (by have h : (e : ℕ) = _ := h0; omega) h1
    case piece4 => exact tile3_at _ _ _ _ _ _ x e r (by have h : (e : ℕ) = _ := h0; omega) h1
    case piece5 => exact tile2_at _ _ _ _ _ _ x e r (by have h : (e : ℕ) = _ := h0; omega) h1
    case piece6 => exact tile1_at _ _ _ _ _ _ x e r (by have h : (e : ℕ) = _ := h0; omega) h1
    case piece7 => exact tile0_at _ _ _ _ _ _ x e r (by have h : (e : ℕ) = _ := h0; omega) h1

  · rw [outsAt0_B m c t g0 g1]
    frame_out
    refine (added_of (iblk m c 1 t) (iblk m c 0 t) (iblk m c 3 t) (iblk m c 4 t) (iblk m c 5 t) (iblk m c 6 t) _ _ _ d r fun e => ?_).trans ?_
    rotate_left
    · exact congrArg (· + added m c t d r) (congrFun (Memref.IsWhole.read_unread _ _) _)
    clear g0 g1
    rw [View.readCov_eq_canon']
    refine (congrArg _ (whole_idx e r)).trans ?_
    canon_tiles x h
    case piece0 => exact tile7_at _ _ _ _ _ _ x e r (by have h : (e : ℕ) = _ := h0; omega) h1
    case piece1 => exact tile6_at _ _ _ _ _ _ x e r (by have h : (e : ℕ) = _ := h0; omega) h1
    case piece2 => exact tile5_at _ _ _ _ _ _ x e r (by have h : (e : ℕ) = _ := h0; omega) h1
    case piece3 => exact tile4_at _ _ _ _ _ _ x e r (by have h : (e : ℕ) = _ := h0; omega) h1
    case piece4 => exact tile3_at _ _ _ _ _ _ x e r (by have h : (e : ℕ) = _ := h0; omega) h1
    case piece5 => exact tile2_at _ _ _ _ _ _ x e r (by have h : (e : ℕ) = _ := h0; omega) h1
    case piece6 => exact tile1_at _ _ _ _ _ _ x e r (by have h : (e : ℕ) = _ := h0; omega) h1
    case piece7 => exact tile0_at _ _ _ _ _ _ x e r (by have h : (e : ℕ) = _ := h0; omega) h1

theorem tile_last (t : Fin cfg0.N) (g0 : ¬ t.val % 16 = 0) (g1 : t.val % 16 = 15) :
    (outsAt0 m c t.val t.isLt).1 = k0_pay2 (iblk m c 7 t) (outsAt0 m c t.val t.isLt).2 (iblk m c 8 t) := by
  rw [outsAt0_C m c t g0 g1]
  frame_out

end Cert.DenseIdeal.Value
-- ==== Proof.Answers.lean ====
/-
The experts' kernel: the blocks its windows read, the sum it carries along a block of tokens, and its result at an index.
-/
module

public import proofs.«01_k».proof.Proof.Sums
public import proofs.«01_k».proof.Proof.Expert
public import Idealize.ShloMosaic.Lib.Pointwise
public import Idealize.ShloMosaic.Lib.Pipeline.ValueKit

@[expose] public section

set_option maxRecDepth 16384

noncomputable section

namespace Cert.DenseIdeal.Value

open Idealize.ShloMosaic Idealize.ShloMosaic.TcCoe Idealize.SL.Sem
open Idealize.ShloMosaic.Pipeline (Dat)
open Cert.DenseIdeal Cert.DenseIdeal.Gen
open Cert.Expert

variable (m : (ℓ : Loc nD τ sig) → Buf (Elt Ideal) ℓ) (c : Dev nD)

theorem idx : ∀ t : Fin cfg0.N, win0_0.index t = ![0, t.val / 16] ∧ win0_1.index t = ![t.val % 16, 0] ∧ win0_2.index t = ![0, t.val % 16]
    ∧ win0_3.index t = ![0, t.val % 16, t.val / 16] ∧ win0_4.index t = ![0, t.val % 16, t.val / 16] ∧ win0_5.index t = ![0, 0, t.val / 16] ∧ win0_6.index t = ![0, 0, t.val / 16]
    ∧ win0_7.index t = ![t.val / 16, 0] ∧ win0_8.index t = ![0, 0] ∧ win0_9.index t = ![t.val / 16, 0] :=
  (by decide +kernel : ∀ t : Fin grid0.N, _)

/-- The normalised tokens, one a column. -/
abbrev hts : FVec Ideal S1024x16384 .bf16 := m ((c : Thread nD τ).loc main_arg0)

/-- The first side's numbers. -/
abbrev ns : FVec Ideal S8x128x16384 .f32 := m ((c : Thread nD τ).loc main_arg1)

/-- The first side's bounds. -/
abbrev nbs : FVec Ideal S8x128x16384 .f32 := m ((c : Thread nD τ).loc main_arg2)

/-- The second side's numbers. -/
abbrev bs : FVec Ideal S8x128x16384 .f32 := m ((c : Thread nD τ).loc main_arg3)

/-- The second side's ranks. -/
abbrev rs : FVec Ideal S8x128x16384 .f32 := m ((c : Thread nD τ).loc main_arg4)

/-- The tokens. -/
abbrev xs : FVec Ideal S16384x1024 .f32 := m ((c : Thread nD τ).loc main_arg5)

/-- The experts' first rows. -/
abbrev us : FVec Ideal S16384x1024 .f32 := m ((c : Thread nD τ).loc main_arg6)

/-- The experts' second rows. -/
abbrev vs : FVec Ideal S16384x1024 .f32 := m ((c : Thread nD τ).loc main_arg7)

/-- The gain of the normalisation. -/
abbrev gs : FVec Ideal S1024 .f32 := m ((c : Thread nD τ).loc main_arg8)

theorem first_at (e : Fin 16384) (k : Fin 1024) : (V m c main_v0 : FVec Ideal S16384x1024 .bf16) (ix2 e k) = us m c (ix2 e k) := by
  entry_read
  pointwise

theorem second_at (k : Fin 1024) (e : Fin 16384) : (V m c main_v2 : FVec Ideal S1024x16384 .bf16) (ix2 k e) = vs m c (ix2 e k) := by
  entry_read
  pointwise

theorem gain_at (k : Fin 1024) : (V m c main_v3 : FVec Ideal S1x1024 .f32) (ix2 0 k) = gs m c (ix1 k) := by
  entry_read
  pointwise

/-! The blocks the windows read. -/

theorem token_block (t : Fin cfg0.N) (k : Fin 1024) (r : Fin 512) (T : Fin 16384) (hT : (T : ℕ) = t.val / 16 * 512 + r) :
    (iblk m c 0 t : Vec Ideal S1024x512 .bf16) (ix2 k r) = hts m c (ix2 k T) := by
  blk_ext [iblk, V, idx t]

theorem first_block (t : Fin cfg0.N) (e k : Fin 1024) (E : Fin 16384) (hE : (E : ℕ) = t.val % 16 * 1024 + e) :
    (iblk m c 1 t : Vec Ideal S1024x1024 .bf16) (ix2 e k) = us m c (ix2 E k) := by
  refine Eq.trans ?_ (first_at m c E k)
  blk_ext [iblk, idx t]

theorem second_block (t : Fin cfg0.N) (k e : Fin 1024) (E : Fin 16384) (hE : (E : ℕ) = t.val % 16 * 1024 + e) :
    (iblk m c 2 t : Vec Ideal S1024x1024 .bf16) (ix2 k e) = vs m c (ix2 E k) := by
  refine Eq.trans ?_ (second_at m c k E)
  blk_ext [iblk, idx t]

theorem number_block (t : Fin cfg0.N) (h i : Fin 8) (r : Fin 512) (I : Fin 128) (T : Fin 16384) (hI : (I : ℕ) = t.val % 16 * 8 + i) (hT : (T : ℕ) = t.val / 16 * 512 + r) :
    (iblk m c 3 t : Vec Ideal S8x8x512 .f32) (ix3 h i r) = ns m c (ix3 h I T) := by
  blk_ext [iblk, V, idx t]

theorem bound_block (t : Fin cfg0.N) (h i : Fin 8) (r : Fin 512) (I : Fin 128) (T : Fin 16384) (hI : (I : ℕ) = t.val % 16 * 8 + i) (hT : (T : ℕ) = t.val / 16 * 512 + r) :
    (iblk m c 4 t : Vec Ideal S8x8x512 .f32) (ix3 h i r) = nbs m c (ix3 h I T) := by
  blk_ext [iblk, V, idx t]

theorem other_block (t : Fin cfg0.N) (h : Fin 8) (j : Fin 128) (r : Fin 512) (T : Fin 16384) (hT : (T : ℕ) = t.val / 16 * 512 + r) :
    (iblk m c 5 t : Vec Ideal S8x128x512 .f32) (ix3 h j r) = bs m c (ix3 h j T) := by
  blk_ext [iblk, V, idx t]

theorem rank_block (t : Fin cfg0.N) (h : Fin 8) (j : Fin 128) (r : Fin 512) (T : Fin 16384) (hT : (T : ℕ) = t.val / 16 * 512 + r) :
    (iblk m c 6 t : Vec Ideal S8x128x512 .f32) (ix3 h j r) = rs m c (ix3 h j T) := by
  blk_ext [iblk, V, idx t]

theorem old_block (t : Fin cfg0.N) (r : Fin 512) (k : Fin 1024) (T : Fin 16384) (hT : (T : ℕ) = t.val / 16 * 512 + r) :
    (iblk m c 7 t : Vec Ideal S512x1024 .f32) (ix2 r k) = xs m c (ix2 T k) := by
  blk_ext [iblk, V, idx t]

theorem gain_block (t : Fin cfg0.N) (k : Fin 1024) : (iblk m c 8 t : Vec Ideal S1x1024 .f32) (ix2 0 k) = gs m c (ix1 k) := by
  rw [← gain_at m c k]
  blk_ext [iblk, idx t]

/-- Column `d` of what expert `e` adds to token `T`. -/
def partOf (T : Fin 16384) (d : Fin 1024) (e : ℕ) : EReal :=
  if h : e < 16384 then part (hts m c) (ns m c) (nbs m c) (bs m c) (rs m c) (us m c) (vs m c) T d ⟨e, h⟩ else 0

theorem weight_block (t : Fin cfg0.N) (e : Fin 1024) (r : Fin 512) (T E : Fin 16384) (hT : (T : ℕ) = t.val / 16 * 512 + r) (hE : (E : ℕ) = t.val % 16 * 1024 + e) :
    weight (iblk m c 1 t) (iblk m c 0 t) (iblk m c 3 t) (iblk m c 4 t) (iblk m c 5 t) (iblk m c 6 t) e r
      = gate (ns m c) (nbs m c) (bs m c) (rs m c) ⟨E / 128, by omega⟩ ⟨E % 128, Nat.mod_lt _ (by decide)⟩ T * active (hts m c) (us m c) E T := by
  have hj : (⟨e % 128, Nat.mod_lt _ (by decide)⟩ : Fin 128) = ⟨E % 128, Nat.mod_lt _ (by decide)⟩ := Fin.ext (by show (e : ℕ) % 128 = E % 128; omega)
  have hi : ((⟨E / 128, by omega⟩ : Fin 128) : ℕ) = t.val % 16 * 8 + (⟨e / 128, by omega⟩ : Fin 8) := by show (E : ℕ) / 128 = t.val % 16 * 8 + (e : ℕ) / 128; omega
  unfold weight gate active
  rw [hj]
  refine congrArg₂ (· * ·) (Finset.sum_congr rfl fun h _ => ?_) (congrArg Gate.gelu (Finset.sum_congr rfl fun k _ => ?_))
  · rw [rank_block m c t h _ r T hT, bound_block m c t h _ r _ T hi hT, number_block m c t h _ r _ T hi hT, other_block m c t h _ r T hT]
  · exact congrArg₂ (· * ·) (first_block m c t e k E hE) (token_block m c t k r T hT)

theorem blockSum_eq (U : Vec Ideal S1024x1024 .bf16) (H : Vec Ideal S1024x512 .bf16) (A N : Vec Ideal S8x8x512 .f32) (B R : Vec Ideal S8x128x512 .f32) (W : Vec Ideal S1024x1024 .bf16) (d : Fin 1024) (r : Fin 512)
    (v w : Fin 1024 → EReal) (hv : ∀ e, W (ix2 d e) = v e) (hw : ∀ e, weight U H A N B R e r = w e) : blockSum U H A N B R W d r = ∑ e, w e * v e := by
  unfold blockSum
  exact Finset.sum_congr rfl fun e _ => (congrArg₂ (· * ·) (hv e) (hw e)).trans (mul_comm _ _)

theorem added_block (t : Fin cfg0.N) (d : Fin 1024) (r : Fin 512) (T : Fin 16384) (hT : (T : ℕ) = t.val / 16 * 512 + r) :
    added m c t d r = ∑ e ∈ Finset.range 1024, partOf m c T d (t.val % 16 * 1024 + e) := by
  rw [Finset.sum_range]
  have hE : ∀ e : Fin 1024, t.val % 16 * 1024 + (e : ℕ) < 16384 := fun e => by omega
  refine (blockSum_eq _ _ _ _ _ _ _ d r _ _ (fun e => second_block m c t d e ⟨_, hE e⟩ rfl) (fun e => weight_block m c t e r T ⟨_, hE e⟩ hT rfl)).trans (Finset.sum_congr rfl fun e _ => ?_)
  rw [partOf, dif_pos (hE e)]
  rfl

/-- What the scratch carries: the sum over the experts so far. -/
theorem carried : ∀ (n : ℕ) (hn : n < cfg0.N) (d : Fin 1024) (r : Fin 512) (T : Fin 16384), (T : ℕ) = n / 16 * 512 + r →
    (outsAt0 m c n hn).2 (ix2 d r) = ∑ e ∈ Finset.range ((n % 16 + 1) * 1024), partOf m c T d e := by
  intro n
  induction n with
  | zero =>
    intro hn d r T hT
    rw [sum_first m c ⟨0, hn⟩ rfl, added_block m c ⟨0, hn⟩ d r T hT, zero_add]
    exact Finset.sum_congr rfl fun e _ => congrArg (partOf m c T d) (Nat.zero_add e)
  | succ n ih =>
    intro hn d r T hT
    by_cases h0 : (n + 1) % 16 = 0
    · have e0 : ∀ e, (n + 1) % 16 * 1024 + e = e := fun e => by omega
      rw [sum_first m c ⟨n + 1, hn⟩ h0, added_block m c ⟨n + 1, hn⟩ d r T hT, zero_add, show ((n + 1) % 16 + 1) * 1024 = 1024 by omega]
      exact Finset.sum_congr rfl fun e _ => congrArg (partOf m c T d) (e0 e)
    · rw [sum_next m c ⟨n + 1, hn⟩ h0, added_block m c ⟨n + 1, hn⟩ d r T hT, show ((n + 1) % 16 + 1) * 1024 = (n + 1) % 16 * 1024 + 1024 by omega, Finset.sum_range_add]
      have e := ih (Nat.lt_of_succ_lt hn) d r T (by omega)
      rw [show (n % 16 + 1) * 1024 = (n + 1) % 16 * 1024 by omega] at e
      exact congrArg (· + _) e

theorem answer_at (t : Fin cfg0.N) (h : t.val % 16 = 15) (d : Fin 1024) (r : Fin 512) (T : Fin 16384) (hT : (T : ℕ) = t.val / 16 * 512 + r) :
    (outsAt0 m c t.val t.isLt).2 (ix2 d r) = ∑ e : Fin 16384, part (hts m c) (ns m c) (nbs m c) (bs m c) (rs m c) (us m c) (vs m c) T d e := by
  rw [carried m c t.val t.isLt d r T hT, h, Finset.sum_range]
  exact Finset.sum_congr rfl fun e _ => dif_pos e.isLt

/-- A stored tile at an index. -/
theorem tile_at (t : Fin cfg0.N) (h : t.val % 16 = 15) (r : Fin 512) (k : Fin 1024) (T : Fin 16384) (K : Fin 1024) (hT : (T : ℕ) = t.val / 16 * 512 + r) (hK : (K : ℕ) = k) :
    (outsAt0 m c t.val t.isLt).1 (ix2 r k) = entry (hts m c) (ns m c) (nbs m c) (bs m c) (rs m c) (xs m c) (us m c) (vs m c) (gs m c) T K := by
  rw [show K = k from Fin.ext hK]
  rw [tile_last m c t (by omega) h, final_at]
  unfold entry answered
  refine congrArg₂ (fun x g => Rotary.normed x g k) (funext fun l => ?_) (funext fun l => gain_block m c t l)
  exact congrArg₂ (· + ·) (old_block m c t r l T hT) (answer_at m c t h l r T hT)

/-- The array of the result. -/
theorem final9_at :
    (dats m 0 c).arrAt 9 (cfgs 0).N = fun i => entry (hts m c) (ns m c) (nbs m c) (bs m c) (rs m c) (xs m c) (us m c) (vs m c) (gs m c) (i 0 : Fin 16384) (i 1 : Fin 1024) := by
  refine (dats m 0 c).arrAt_eq_of_covers 9 _ (by decide +kernel) fun t hf y => ?_
  have h : t.val % 16 = 15 := by exact (flush0_9 t).mp hf
  blk_simp
  rw [after0_9]
  refine Eq.trans ?_ (tile_at m c t h (y 0) (y 1) _ _ ?_ ?_)
  · exact congrArg _ (eq_ix2 y)
  · blk_simp [idx t]
  · blk_simp [idx t]

end Cert.DenseIdeal.Value
-- ==== Proof.Experts.lean ====
/-
The plain experts, their result at an index.
-/
module

public import proofs.«01_k».proof.Proof.Gen.ExpertsIdeal.Run
public import proofs.«01_k».proof.Proof.Expert
public import Idealize.ShloMosaic.Lib.Pointwise

@[expose] public section

set_option maxRecDepth 16384

noncomputable section

namespace Cert.ExpertsIdeal.Value

open Idealize.ShloMosaic Idealize.ShloMosaic.TcCoe Idealize.SL.Sem
open Cert.ExpertsIdeal Cert.ExpertsIdeal.Gen
open Cert.Expert

section
variable (ht : FVec Ideal S1024x16384 .bf16) (a nb b r1 : FVec Ideal S8x128x16384 .f32) (x1 : FVec Ideal S16384x1024 .f32)
  (u v : FVec Ideal S16384x1024 .f32) (g : FVec Ideal S1024 .f32)

/-- A table of the first side, for every expert of the second. -/
def overSecond (z : FVec Ideal S8x128x16384 .f32) : FVec Ideal S8x128x128x16384 .f32 :=
  broadcastInDim S8x128x128x16384 ![0, 1, 2, 3] bcast_S8x128x1x16384_S8x128x128x16384_0_1_2_3 (broadcastInDim S8x128x1x16384 ![0, 1, 3] bcast_S8x128x16384_S8x128x1x16384_0_1_3 z)

/-- A table of the second side, for every expert of the first. -/
def overFirst (z : FVec Ideal S8x128x16384 .f32) : FVec Ideal S8x128x128x16384 .f32 :=
  broadcastInDim S8x128x128x16384 ![0, 1, 2, 3] bcast_S8x1x128x16384_S8x128x128x16384_0_1_2_3 (broadcastInDim S8x1x128x16384 ![0, 2, 3] bcast_S8x128x16384_S8x1x128x16384_0_2_3 z)

theorem overSecond_at (z : FVec Ideal S8x128x16384 .f32) (h : Fin 8) (i j : Fin 128) (t : Fin 16384) : overSecond z (ix4 h i j t) = z (ix3 h i t) := by
  pointwise [overSecond]

theorem overFirst_at (z : FVec Ideal S8x128x16384 .f32) (h : Fin 8) (i j : Fin 128) (t : Fin 16384) : overFirst z (ix4 h i j t) = z (ix3 h j t) := by
  pointwise [overFirst]

/-- Every head's part of every gate. -/
def shares : FVec Ideal S8x128x128x16384 .f32 :=
  select (cmpf .olt (overFirst r1) (overSecond nb)) (mulf (overSecond a) (overFirst b)) (broadcastInDim S8x128x128x16384 ![] bcast_S_S8x128x128x16384 (id (constant S_ .f32 0x00000000#32)))

theorem shares_at (h : Fin 8) (i j : Fin 128) (t : Fin 16384) :
    shares a nb b r1 (ix4 h i j t) = share (r1 (ix3 h j t)) (nb (ix3 h i t)) (a (ix3 h i t)) (b (ix3 h j t)) := by
  pointwise [shares, id]
  rw [overFirst_at, overFirst_at, overSecond_at, overSecond_at]
  rfl

/-- The sum over the heads. -/
def overHeads (z : FVec Ideal S8x128x128x16384 .f32) : FVec Ideal S128x128x16384 .f32 :=
  Host.reduceAdd z (constant S_ .f32 0x00000000#32) reducesTo_S8x128x128x16384_S128x128x16384_d0 h_S_

theorem overHeads_at (z : FVec Ideal S8x128x128x16384 .f32) (i j : Fin 128) (t : Fin 16384) : overHeads z (ix3 i j t) = ∑ h : Fin 8, z (ix4 h i j t) := by
  pointwise [overHeads]

/-- The gates, one row an expert. -/
def gates : FVec Ideal S16384x16384 .f32 := shapeCast S16384x16384 (overHeads (shares a nb b r1)) shapeCasts_S128x128x16384_S16384x16384

theorem gates_at (e t : Fin 16384) :
    gates a nb b r1 (ix2 e t) = gate a nb b r1 ⟨e / 128, by omega⟩ ⟨e % 128, Nat.mod_lt _ (by decide)⟩ t := by
  pointwise [gates]
  refine (overHeads_at _ _ _ _).trans ?_
  exact Finset.sum_congr rfl fun h _ => shares_at a nb b r1 h _ _ t

/-- The products of the experts' rows with the tokens. -/
def products : FVec Ideal S16384x16384 .f32 := Host.dotGeneral dot_S16384x1024_S1024x16384_S16384x16384_1_0_0_1_n_n none u (extf .f32 ht bitsLt_bf16_f32)

theorem products_at (e t : Fin 16384) : products ht u (ix2 e t) = ∑ k : Fin 1024, u (ix2 e k) * ht (ix2 k t) := by
  pointwise [products]

/-- A number at every entry. -/
def everywhere (w : BitVec 32) : FVec Ideal S16384x16384 .f32 := broadcastInDim S16384x16384 ![] bcast_S_S16384x16384 (constant S_ .f32 w)

/-- The rectifier. -/
def geluArray (z : FVec Ideal S16384x16384 .f32) : FVec Ideal S16384x16384 .f32 :=
  mulf z (mulf (everywhere 0x3F000000#32) (addf (everywhere 0x3F800000#32) (Host.tanh (mulf (everywhere 0x3F4C422A#32) (addf z (mulf (everywhere 0x3D372713#32) (mulf (mulf z z) z)))))))

theorem geluArray_at (z : FVec Ideal S16384x16384 .f32) (e t : Fin 16384) : geluArray z (ix2 e t) = Gate.gelu (z (ix2 e t)) := by
  pointwise [geluArray, everywhere]
  unfold Gate.gelu
  rw [mul_comm (z (ix2 e t)) (z (ix2 e t) * z (ix2 e t))]

/-- What the experts add. -/
def sums (z : FVec Ideal S16384x16384 .f32) : FVec Ideal S16384x1024 .f32 := Host.dotGeneral dot_S16384x16384_S16384x1024_S16384x1024_0_0_1_1_n_n none z v

theorem sums_at (z : FVec Ideal S16384x16384 .f32) (t : Fin 16384) (k : Fin 1024) : sums v z (ix2 t k) = ∑ e : Fin 16384, z (ix2 e t) * v (ix2 e k) := by
  pointwise [sums]

/-- The tokens plus what the experts add. -/
def answeredArray : FVec Ideal S16384x1024 .f32 := addf x1 (sums v (mulf (gates a nb b r1) (geluArray (products ht u))))

theorem answeredArray_at (t : Fin 16384) (k : Fin 1024) : answeredArray ht a nb b r1 x1 u v (ix2 t k) = answered ht a nb b r1 x1 u v t k := by
  pointwise [answeredArray]
  rw [sums_at]
  refine congrArg (x1 (ix2 t k) + ·) (Finset.sum_congr rfl fun e _ => ?_)
  pointwise
  rw [gates_at, geluArray_at, products_at]
  rfl

/-- The normalisation. -/
def normedArray (z : FVec Ideal S16384x1024 .f32) : FVec Ideal S16384x1024 .f32 :=
  mulf (mulf z (broadcastInDim S16384x1024 ![0, 1] bcast_S16384x1_S16384x1024_0_1 (Host.rsqrt (addf (Host.divf (broadcastInDim S16384x1 ![0] bcast_S16384_S16384x1_0 (Host.reduceAdd (mulf z z) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem normedArray_at (z : FVec Ideal S16384x1024 .f32) (t : Fin 16384) (k : Fin 1024) :
    normedArray g z (ix2 t k) = Rotary.normed (fun l => z (ix2 t l)) (fun l => g (ix1 l)) k := by
  pointwise [normedArray]
  rfl

end

section
variable (m : (ℓ : Loc nD τ sig) → Buf (Elt Ideal) ℓ) (c : Dev nD)

theorem out_eq : (res_out0 m c : FVec Ideal S16384x1024 .f32)
    = normedArray (m ((c.tc : Thread nD τ).loc main_arg8)) (answeredArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold res_out0 res_main_v43 normedArray answeredArray sums geluArray everywhere products gates overHeads shares overFirst overSecond
  with_reducible_and_instances rfl

theorem out_at (t : Fin 16384) (k : Fin 1024) : (res_out0 m c : FVec Ideal S16384x1024 .f32) (ix2 t k)
    = entry (T := 16384) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) t k := by
  rw [out_eq, normedArray_at]
  exact congrArg (fun z => Rotary.normed z _ _) (funext fun l => answeredArray_at _ _ _ _ _ _ _ _ _ l)

end

end Cert.ExpertsIdeal.Value
-- ==== Proof.SampleRows.lean ====
/-
The tiles of the sample's experts' kernel, at an index.
-/
module

public import proofs.«01_k».proof.Proof.Gen.SampleDenseIdeal.Value
public import proofs.«01_k».proof.Proof.Expert
public import Idealize.ShloMosaic.Lib.Pointwise
public import Idealize.ShloMosaic.Lib.Pipeline.ValueKit

@[expose] public section

set_option maxRecDepth 16384

noncomputable section

namespace Cert.SampleDenseIdeal.Value

open Idealize.ShloMosaic Idealize.ShloMosaic.TcCoe Idealize.SL.Sem
open Idealize.ShloMosaic.Pipeline (Dat)
open Cert.SampleDenseIdeal Cert.SampleDenseIdeal.Gen
open Cert.Expert

theorem active_at (u : Vec Ideal S1024x1024 .bf16) (h : Vec Ideal S1024x128 .bf16) (e : Fin 1024) (r : Fin 128) :
    k0_pay4 (F := Ideal) u h (ix2 e r) = Gate.gelu (∑ k : Fin 1024, u (ix2 e k) * h (ix2 k r)) := by
  pointwise [k0_pay4]
  rfl

theorem added_at (acc : Vec Ideal S1024x128 .f32) (v : Vec Ideal S1024x1024 .bf16) (w : Vec Ideal S1024x128 .bf16) (d : Fin 1024) (r : Fin 128) :
    k0_pay1 (F := Ideal) acc v w (ix2 d r) = acc (ix2 d r) + ∑ e : Fin 1024, v (ix2 d e) * w (ix2 e r) := by
  pointwise [k0_pay1]

theorem zeros_at (d : Fin 1024) (r : Fin 128) : k0_pay3 (F := Ideal) (ix2 d r) = 0 := by
  pointwise [k0_pay3]

theorem final_at (x : Vec Ideal S128x1024 .f32) (acc : Vec Ideal S1024x128 .f32) (g : Vec Ideal S1x1024 .f32) (r : Fin 128) (k : Fin 1024) :
    k0_pay2 (F := Ideal) x acc g (ix2 r k) = Rotary.normed (fun l => x (ix2 r l) + acc (ix2 l r)) (fun l => g (ix2 0 l)) k := by
  pointwise [k0_pay2]
  rfl

/-- One head's part of a row of gates. -/
def term (r : FVec Ideal S1x128x128 .f32) (n a : FVec Ideal S1x1x128 .f32) (b : FVec Ideal S1x128x128 .f32) : FVec Ideal S128x128 .f32 :=
  select (cmpf .olt (shapeCast S128x128 r shapeCasts_S1x128x128_S128x128) (broadcastTo S128x128 (shapeCast S1x128 n shapeCasts_S1x1x128_S1x128) broadcasts_S1x128_S128x128))
    (mulf (broadcastTo S128x128 (shapeCast S1x128 a shapeCasts_S1x1x128_S1x128) broadcasts_S1x128_S128x128) (shapeCast S128x128 b shapeCasts_S1x128x128_S128x128))
    (broadcast S128x128 (Scalar.ofBits (F := Ideal) .f32 0x00000000#32))

theorem term_at (r : FVec Ideal S1x128x128 .f32) (n a : FVec Ideal S1x1x128 .f32) (b : FVec Ideal S1x128x128 .f32) (j : Fin 128) (t : Fin 128) :
    term r n a b (ix2 j t) = share (r (ix3 0 j t)) (n (ix3 0 0 t)) (a (ix3 0 0 t)) (b (ix3 0 j t)) := by
  pointwise [term]
  rfl

/-- A row of gates times its activations, from the eight heads' parts. -/
def row (s0 s1 s2 s3 s4 s5 s6 s7 : FVec Ideal S128x128 .f32) (act : FVec Ideal S1024x128 .f32) (o : ℕ) (sl : S1024x128.Slices ![o, 0] S128x128) : FVec Ideal S128x128 .bf16 :=
  shapeCast S128x128 (truncf .bf16 (mulf (addf (addf (addf (addf (addf (addf (addf s0 s1) s2) s3) s4) s5) s6) s7) (extractStridedSlice S128x128 ![o, 0] act sl)) bitsLt_bf16_f32) shapeCasts_S128x128_S128x128

theorem row_at (s0 s1 s2 s3 s4 s5 s6 s7 : FVec Ideal S128x128 .f32) (act : FVec Ideal S1024x128 .f32) (o : ℕ) (sl : S1024x128.Slices ![o, 0] S128x128) (j : Fin 128) (t : Fin 128) (e : Fin 1024) (he : (e : ℕ) = o + j) :
    row s0 s1 s2 s3 s4 s5 s6 s7 act o sl (ix2 j t)
      = (s0 (ix2 j t) + s1 (ix2 j t) + s2 (ix2 j t) + s3 (ix2 j t) + s4 (ix2 j t) + s5 (ix2 j t) + s6 (ix2 j t) + s7 (ix2 j t)) * act (ix2 e t) := by
  pointwise [row]
  refine congrArg (_ * act ·) ?_
  refine congrArg₂ ix2 (Fin.ext he.symm) rfl

section
variable (U : Vec Ideal S1024x1024 .bf16) (H : Vec Ideal S1024x128 .bf16) (A N : Vec Ideal S8x8x128 .f32) (B R : Vec Ideal S8x128x128 .f32)

/-- The gate times the activation, of a block's expert `e` for a block's token `r`. -/
def weight (e : Fin 1024) (r : Fin 128) : EReal :=
  (∑ h : Fin 8, share (R (ix3 h ⟨e % 128, Nat.mod_lt _ (by decide)⟩ r)) (N (ix3 h ⟨e / 128, by omega⟩ r)) (A (ix3 h ⟨e / 128, by omega⟩ r)) (B (ix3 h ⟨e % 128, Nat.mod_lt _ (by decide)⟩ r)))
    * Gate.gelu (∑ k : Fin 1024, U (ix2 e k) * H (ix2 k r))

/-- What a block's experts add to column `d` of a block's token `r`. -/
def blockSum (V : Vec Ideal S1024x1024 .bf16) (d : Fin 1024) (r : Fin 128) : EReal :=
  ∑ e : Fin 1024, V (ix2 d e) * weight U H A N B R e r

theorem added_of (acc : Vec Ideal S1024x128 .f32) (V : Vec Ideal S1024x1024 .bf16) (w : Vec Ideal S1024x128 .bf16) (d : Fin 1024) (r : Fin 128)
    (hw : ∀ e : Fin 1024, w (ix2 e r) = weight U H A N B R e r) :
    k0_pay1 (F := Ideal) acc V w (ix2 d r) = acc (ix2 d r) + blockSum U H A N B R V d r := by
  rw [added_at]
  unfold blockSum
  simp only [hw]

/-- A load of the whole tile. -/
theorem whole_idx (e : Fin 1024) (r : Fin 128) : (Rect.unit (s := S1024x128) ![0, 0] S1024x128.size inb_S1024x128_S1024x128_0_0).toLoadRect.idx (ix2 e r) = ix2 e r := by
  funext a
  refine Fin.ext ?_
  fin_cases a
  · show 0 + 1 * (e : ℕ) = e
    omega
  · show 0 + 1 * (r : ℕ) = r
    omega

theorem read_small (x : Vec Ideal S8x8x128 .f32) (n i : ℕ) (p : ∀ a, (![n, i, 0] : Fin 3 → ℕ) a + S1x1x128.size a ≤ S8x8x128.size a) (h i' : Fin 8) (hn : (h : ℕ) = n) (hi : (i' : ℕ) = i) (r : Fin 128) :
    View.ld (Val := Elt Ideal) (e' := EltTy.f32) x (Rect.unit (s := S8x8x128) ![n, i, 0] ![1, 1, 128] p) (ix3 0 0 r) = x (ix3 h i' r) := by
  refine View.ld_unit_apply_of _ _ _ _ _ _ fun a => ?_
  fin_cases a
  · exact hn
  · exact hi
  · exact (Nat.zero_add _).symm

theorem read_large (x : Vec Ideal S8x128x128 .f32) (n : ℕ) (p : ∀ a, (![n, 0, 0] : Fin 3 → ℕ) a + S1x128x128.size a ≤ S8x128x128.size a) (h : Fin 8) (hn : (h : ℕ) = n) (j : Fin 128) (r : Fin 128) :
    View.ld (Val := Elt Ideal) (e' := EltTy.f32) x (Rect.unit (s := S8x128x128) ![n, 0, 0] ![1, 128, 128] p) (ix3 0 j r) = x (ix3 h j r) := by
  refine View.ld_unit_apply_of _ _ _ _ _ _ fun a => ?_
  fin_cases a
  · exact hn
  · exact (Nat.zero_add _).symm
  · exact (Nat.zero_add _).symm

/-- A row's tile, at an index. -/
theorem piece_at (i : ℕ) (p0 : ∀ a, (![0, i, 0] : Fin 3 → ℕ) a + S1x1x128.size a ≤ S8x8x128.size a) (p1 : ∀ a, (![1, i, 0] : Fin 3 → ℕ) a + S1x1x128.size a ≤ S8x8x128.size a) (p2 : ∀ a, (![2, i, 0] : Fin 3 → ℕ) a + S1x1x128.size a ≤ S8x8x128.size a) (p3 : ∀ a, (![3, i, 0] : Fin 3 → ℕ) a + S1x1x128.size a ≤ S8x8x128.size a) (p4 : ∀ a, (![4, i, 0] : Fin 3 → ℕ) a + S1x1x128.size a ≤ S8x8x128.size a) (p5 : ∀ a, (![5, i, 0] : Fin 3 → ℕ) a + S1x1x128.size a ≤ S8x8x128.size a) (p6 : ∀ a, (![6, i, 0] : Fin 3 → ℕ) a + S1x1x128.size a ≤ S8x8x128.size a) (p7 : ∀ a, (![7, i, 0] : Fin 3 → ℕ) a + S1x1x128.size a ≤ S8x8x128.size a) (q0 : ∀ a, (![0, 0, 0] : Fin 3 → ℕ) a + S1x128x128.size a ≤ S8x128x128.size a) (q1 : ∀ a, (![1, 0, 0] : Fin 3 → ℕ) a + S1x128x128.size a ≤ S8x128x128.size a) (q2 : ∀ a, (![2, 0, 0] : Fin 3 → ℕ) a + S1x128x128.size a ≤ S8x128x128.size a) (q3 : ∀ a, (![3, 0, 0] : Fin 3 → ℕ) a + S1x128x128.size a ≤ S8x128x128.size a) (q4 : ∀ a, (![4, 0, 0] : Fin 3 → ℕ) a + S1x128x128.size a ≤ S8x128x128.size a) (q5 : ∀ a, (![5, 0, 0] : Fin 3 → ℕ) a + S1x128x128.size a ≤ S8x128x128.size a) (q6 : ∀ a, (![6, 0, 0] : Fin 3 → ℕ) a + S1x128x128.size a ≤ S8x128x128.size a) (q7 : ∀ a, (![7, 0, 0] : Fin 3 → ℕ) a + S1x128x128.size a ≤ S8x128x128.size a) (o : ℕ) (sl : S1024x128.Slices ![o, 0] S128x128) (j : Fin 128) (r : Fin 128) (e : Fin 1024) (ho : o = 128 * i) (he : (e : ℕ) = o + j) :
    row (term (View.ld (Val := Elt Ideal) (e' := EltTy.f32) R (Rect.unit (s := S8x128x128) ![0, 0, 0] ![1, 128, 128] q0)) (View.ld (Val := Elt Ideal) (e' := EltTy.f32) N (Rect.unit (s := S8x8x128) ![0, i, 0] ![1, 1, 128] p0)) (View.ld (Val := Elt Ideal) (e' := EltTy.f32) A (Rect.unit (s := S8x8x128) ![0, i, 0] ![1, 1, 128] p0)) (View.ld (Val := Elt Ideal) (e' := EltTy.f32) B (Rect.unit (s := S8x128x128) ![0, 0, 0] ![1, 128, 128] q0)))
      (term (View.ld (Val := Elt Ideal) (e' := EltTy.f32) R (Rect.unit (s := S8x128x128) ![1, 0, 0] ![1, 128, 128] q1)) (View.ld (Val := Elt Ideal) (e' := EltTy.f32) N (Rect.unit (s := S8x8x128) ![1, i, 0] ![1, 1, 128] p1)) (View.ld (Val := Elt Ideal) (e' := EltTy.f32) A (Rect.unit (s := S8x8x128) ![1, i, 0] ![1, 1, 128] p1)) (View.ld (Val := Elt Ideal) (e' := EltTy.f32) B (Rect.unit (s := S8x128x128) ![1, 0, 0] ![1, 128, 128] q1)))
      (term (View.ld (Val := Elt Ideal) (e' := EltTy.f32) R (Rect.unit (s := S8x128x128) ![2, 0, 0] ![1, 128, 128] q2)) (View.ld (Val := Elt Ideal) (e' := EltTy.f32) N (Rect.unit (s := S8x8x128) ![2, i, 0] ![1, 1, 128] p2)) (View.ld (Val := Elt Ideal) (e' := EltTy.f32) A (Rect.unit (s := S8x8x128) ![2, i, 0] ![1, 1, 128] p2)) (View.ld (Val := Elt Ideal) (e' := EltTy.f32) B (Rect.unit (s := S8x128x128) ![2, 0, 0] ![1, 128, 128] q2)))
      (term (View.ld (Val := Elt Ideal) (e' := EltTy.f32) R (Rect.unit (s := S8x128x128) ![3, 0, 0] ![1, 128, 128] q3)) (View.ld (Val := Elt Ideal) (e' := EltTy.f32) N (Rect.unit (s := S8x8x128) ![3, i, 0] ![1, 1, 128] p3)) (View.ld (Val := Elt Ideal) (e' := EltTy.f32) A (Rect.unit (s := S8x8x128) ![3, i, 0] ![1, 1, 128] p3)) (View.ld (Val := Elt Ideal) (e' := EltTy.f32) B (Rect.unit (s := S8x128x128) ![3, 0, 0] ![1, 128, 128] q3)))
      (term (View.ld (Val := Elt Ideal) (e' := EltTy.f32) R (Rect.unit (s := S8x128x128) ![4, 0, 0] ![1, 128, 128] q4)) (View.ld (Val := Elt Ideal) (e' := EltTy.f32) N (Rect.unit (s := S8x8x128) ![4, i, 0] ![1, 1, 128] p4)) (View.ld (Val := Elt Ideal) (e' := EltTy.f32) A (Rect.unit (s := S8x8x128) ![4, i, 0] ![1, 1, 128] p4)) (View.ld (Val := Elt Ideal) (e' := EltTy.f32) B (Rect.unit (s := S8x128x128) ![4, 0, 0] ![1, 128, 128] q4)))
      (term (View.ld (Val := Elt Ideal) (e' := EltTy.f32) R (Rect.unit (s := S8x128x128) ![5, 0, 0] ![1, 128, 128] q5)) (View.ld (Val := Elt Ideal) (e' := EltTy.f32) N (Rect.unit (s := S8x8x128) ![5, i, 0] ![1, 1, 128] p5)) (View.ld (Val := Elt Ideal) (e' := EltTy.f32) A (Rect.unit (s := S8x8x128) ![5, i, 0] ![1, 1, 128] p5)) (View.ld (Val := Elt Ideal) (e' := EltTy.f32) B (Rect.unit (s := S8x128x128) ![5, 0, 0] ![1, 128, 128] q5)))
      (term (View.ld (Val := Elt Ideal) (e' := EltTy.f32) R (Rect.unit (s := S8x128x128) ![6, 0, 0] ![1, 128, 128] q6)) (View.ld (Val := Elt Ideal) (e' := EltTy.f32) N (Rect.unit (s := S8x8x128) ![6, i, 0] ![1, 1, 128] p6)) (View.ld (Val := Elt Ideal) (e' := EltTy.f32) A (Rect.unit (s := S8x8x128) ![6, i, 0] ![1, 1, 128] p6)) (View.ld (Val := Elt Ideal) (e' := EltTy.f32) B (Rect.unit (s := S8x128x128) ![6, 0, 0] ![1, 128, 128] q6)))
      (term (View.ld (Val := Elt Ideal) (e' := EltTy.f32) R (Rect.unit (s := S8x128x128) ![7, 0, 0] ![1, 128, 128] q7)) (View.ld (Val := Elt Ideal) (e' := EltTy.f32) N (Rect.unit (s := S8x8x128) ![7, i, 0] ![1, 1, 128] p7)) (View.ld (Val := Elt Ideal) (e' := EltTy.f32) A (Rect.unit (s := S8x8x128) ![7, i, 0] ![1, 1, 128] p7)) (View.ld (Val := Elt Ideal) (e' := EltTy.f32) B (Rect.unit (s := S8x128x128) ![7, 0, 0] ![1, 128, 128] q7)))
      (k0_pay4 U H) o sl (ix2 j r) = weight U H A N B R e r := by
  have hi : ((⟨e / 128, by omega⟩ : Fin 8) : ℕ) = i := by show (e : ℕ) / 128 = i; omega
  have hj : (⟨e % 128, Nat.mod_lt _ (by decide)⟩ : Fin 128) = j := Fin.ext (by show (e : ℕ) % 128 = j; omega)
  rw [row_at _ _ _ _ _ _ _ _ _ o sl j r e he, active_at]
  simp only [term_at]
  unfold weight
  rw [hj, Fin.sum_univ_eight]
  rw [read_large R 0 q0 0 rfl, read_small N 0 i p0 0 _ rfl hi, read_small A 0 i p0 0 _ rfl hi, read_large B 0 q0 0 rfl, read_large R 1 q1 1 rfl, read_small N 1 i p1 1 _ rfl hi, read_small A 1 i p1 1 _ rfl hi, read_large B 1 q1 1 rfl, read_large R 2 q2 2 rfl, read_small N 2 i p2 2 _ rfl hi, read_small A 2 i p2 2 _ rfl hi, read_large B 2 q2 2 rfl, read_large R 3 q3 3 rfl, read_small N 3 i p3 3 _ rfl hi, read_small A 3 i p3 3 _ rfl hi, read_large B 3 q3 3 rfl, read_large R 4 q4 4 rfl, read_small N 4 i p4 4 _ rfl hi, read_small A 4 i p4 4 _ rfl hi, read_large B 4 q4 4 rfl, read_large R 5 q5 5 rfl, read_small N 5 i p5 5 _ rfl hi, read_small A 5 i p5 5 _ rfl hi, read_large B 5 q5 5 rfl, read_large R 6 q6 6 rfl, read_small N 6 i p6 6 _ rfl hi, read_small A 6 i p6 6 _ rfl hi, read_large B 6 q6 6 rfl, read_large R 7 q7 7 rfl, read_small N 7 i p7 7 _ rfl hi, read_small A 7 i p7 7 _ rfl hi, read_large B 7 q7 7 rfl]

end

end Cert.SampleDenseIdeal.Value
-- ==== Proof.SamplePieces.lean ====
/-
The eight rows of a block's gates times activations, as the kernel stores them, at an index.
-/
module

public import proofs.«01_k».proof.Proof.SampleRows
public import proofs.«01_k».proof.Proof.Expert
public import Idealize.ShloMosaic.Lib.Pointwise
public import Idealize.ShloMosaic.Lib.Pipeline.ValueKit

@[expose] public section

set_option maxRecDepth 16384

noncomputable section

namespace Cert.SampleDenseIdeal.Value

open Idealize.ShloMosaic Idealize.ShloMosaic.TcCoe Idealize.SL.Sem
open Idealize.ShloMosaic.Pipeline (Dat)
open Cert.SampleDenseIdeal Cert.SampleDenseIdeal.Gen
open Cert.Expert

section
variable (U : Vec Ideal S1024x1024 .bf16) (H : Vec Ideal S1024x128 .bf16) (A N : Vec Ideal S8x8x128 .f32) (B R : Vec Ideal S8x128x128 .f32)

/-- The tile of row 0. -/
def tile0 : FVec Ideal S128x128 .bf16 :=
  k0_pay14 (k0_pay4 U H)
      (k0_pay11
        (k0_pay9
          (k0_pay8
            (k0_pay5 (View.ld (Val := Elt Ideal) (e' := EltTy.f32) R (Rect.unit ![0, 0, 0] ![1, 128, 128] inb_S8x128x128_S1x128x128_0_0_0))
              (View.ld (Val := Elt Ideal) (e' := EltTy.f32) N (Rect.unit ![0, 0, 0] ![1, 1, 128] inb_S8x8x128_S1x1x128_0_0_0)))
            (k0_pay6 (View.ld (Val := Elt Ideal) (e' := EltTy.f32) A (Rect.unit ![0, 0, 0] ![1, 1, 128] inb_S8x8x128_S1x1x128_0_0_0))
              (View.ld (Val := Elt Ideal) (e' := EltTy.f32) B (Rect.unit ![0, 0, 0] ![1, 128, 128] inb_S8x128x128_S1x128x128_0_0_0)))
            k0_pay7 (View.ld (Val := Elt Ideal) (e' := EltTy.f32) R (Rect.unit ![1, 0, 0] ![1, 128, 128] inb_S8x128x128_S1x128x128_1_0_0))
            (View.ld (Val := Elt Ideal) (e' := EltTy.f32) N (Rect.unit ![1, 0, 0] ![1, 1, 128] inb_S8x8x128_S1x1x128_1_0_0))
            (View.ld (Val := Elt Ideal) (e' := EltTy.f32) A (Rect.unit ![1, 0, 0] ![1, 1, 128] inb_S8x8x128_S1x1x128_1_0_0))
            (View.ld (Val := Elt Ideal) (e' := EltTy.f32) B (Rect.unit ![1, 0, 0] ![1, 128, 128] inb_S8x128x128_S1x128x128_1_0_0))
            (View.ld (Val := Elt Ideal) (e' := EltTy.f32) R (Rect.unit ![2, 0, 0] ![1, 128, 128] inb_S8x128x128_S1x128x128_2_0_0))
            (View.ld (Val := Elt Ideal) (e' := EltTy.f32) N (Rect.unit ![2, 0, 0] ![1, 1, 128] inb_S8x8x128_S1x1x128_2_0_0))
            (View.ld (Val := Elt Ideal) (e' := EltTy.f32) A (Rect.unit ![2, 0, 0] ![1, 1, 128] inb_S8x8x128_S1x1x128_2_0_0))
            (View.ld (Val := Elt Ideal) (e' := EltTy.f32) B (Rect.unit ![2, 0, 0] ![1, 128, 128] inb_S8x128x128_S1x128x128_2_0_0)))
          (View.ld (Val := Elt Ideal) (e' := EltTy.f32) R (Rect.unit ![3, 0, 0] ![1, 128, 128] inb_S8x128x128_S1x128x128_3_0_0))
          (View.ld (Val := Elt Ideal) (e' := EltTy.f32) N (Rect.unit ![3, 0, 0] ![1, 1, 128] inb_S8x8x128_S1x1x128_3_0_0))
          (View.ld (Val := Elt Ideal) (e' := EltTy.f32) A (Rect.unit ![3, 0, 0] ![1, 1, 128] inb_S8x8x128_S1x1x128_3_0_0))
          (View.ld (Val := Elt Ideal) (e' := EltTy.f32) B (Rect.unit ![3, 0, 0] ![1, 128, 128] inb_S8x128x128_S1x128x128_3_0_0))
          (View.ld (Val := Elt Ideal) (e' := EltTy.f32) R (Rect.unit ![4, 0, 0] ![1, 128, 128] inb_S8x128x128_S1x128x128_4_0_0))
          (View.ld (Val := Elt Ideal) (e' := EltTy.f32) N (Rect.unit ![4, 0, 0] ![1, 1, 128] inb_S8x8x128_S1x1x128_4_0_0))
          (View.ld (Val := Elt Ideal) (e' := EltTy.f32) A (Rect.unit ![4, 0, 0] ![1, 1, 128] inb_S8x8x128_S1x1x128_4_0_0))
          (View.ld (Val := Elt Ideal) (e' := EltTy.f32) B (Rect.unit ![4, 0, 0] ![1, 128, 128] inb_S8x128x128_S1x128x128_4_0_0)))
        (k0_pay10 (View.ld (Val := Elt Ideal) (e' := EltTy.f32) R (Rect.unit ![5, 0, 0] ![1, 128, 128] inb_S8x128x128_S1x128x128_5_0_0)))
        (View.ld (Val := Elt Ideal) (e' := EltTy.f32) N (Rect.unit ![5, 0, 0] ![1, 1, 128] inb_S8x8x128_S1x1x128_5_0_0))
        (View.ld (Val := Elt Ideal) (e' := EltTy.f32) A (Rect.unit ![5, 0, 0] ![1, 1, 128] inb_S8x8x128_S1x1x128_5_0_0))
        (View.ld (Val := Elt Ideal) (e' := EltTy.f32) B (Rect.unit ![5, 0, 0] ![1, 128, 128] inb_S8x128x128_S1x128x128_5_0_0))
        (View.ld (Val := Elt Ideal) (e' := EltTy.f32) R (Rect.unit ![6, 0, 0] ![1, 128, 128] inb_S8x128x128_S1x128x128_6_0_0))
        (View.ld (Val := Elt Ideal) (e' := EltTy.f32) N (Rect.unit ![6, 0, 0] ![1, 1, 128] inb_S8x8x128_S1x1x128_6_0_0))
        (View.ld (Val := Elt Ideal) (e' := EltTy.f32) A (Rect.unit ![6, 0, 0] ![1, 1, 128] inb_S8x8x128_S1x1x128_6_0_0))
        (View.ld (Val := Elt Ideal) (e' := EltTy.f32) B (Rect.unit ![6, 0, 0] ![1, 128, 128] inb_S8x128x128_S1x128x128_6_0_0)))
      (k0_pay12 (View.ld (Val := Elt Ideal) (e' := EltTy.f32) R (Rect.unit ![7, 0, 0] ![1, 128, 128] inb_S8x128x128_S1x128x128_7_0_0)))
      (k0_pay13 (View.ld (Val := Elt Ideal) (e' := EltTy.f32) N (Rect.unit ![7, 0, 0] ![1, 1, 128] inb_S8x8x128_S1x1x128_7_0_0)))
      (View.ld (Val := Elt Ideal) (e' := EltTy.f32) A (Rect.unit ![7, 0, 0] ![1, 1, 128] inb_S8x8x128_S1x1x128_7_0_0))
      (View.ld (Val := Elt Ideal) (e' := EltTy.f32) B (Rect.unit ![7, 0, 0] ![1, 128, 128] inb_S8x128x128_S1x128x128_7_0_0))

theorem tile0_eq : tile0 U H A N B R = row (term (View.ld (Val := Elt Ideal) (e' := EltTy.f32) R (Rect.unit (s := S8x128x128) ![0, 0, 0] ![1, 128, 128] inb_S8x128x128_S1x128x128_0_0_0)) (View.ld (Val := Elt Ideal) (e' := EltTy.f32) N (Rect.unit (s := S8x8x128) ![0, 0, 0] ![1, 1, 128] inb_S8x8x128_S1x1x128_0_0_0)) (View.ld (Val := Elt Ideal) (e' := EltTy.f32) A (Rect.unit (s := S8x8x128) ![0, 0, 0] ![1, 1, 128] inb_S8x8x128_S1x1x128_0_0_0)) (View.ld (Val := Elt Ideal) (e' := EltTy.f32) B (Rect.unit (s := S8x128x128) ![0, 0, 0] ![1, 128, 128] inb_S8x128x128_S1x128x128_0_0_0)))
      (term (View.ld (Val := Elt Ideal) (e' := EltTy.f32) R (Rect.unit (s := S8x128x128) ![1, 0, 0] ![1, 128, 128] inb_S8x128x128_S1x128x128_1_0_0)) (View.ld (Val := Elt Ideal) (e' := EltTy.f32) N (Rect.unit (s := S8x8x128) ![1, 0, 0] ![1, 1, 128] inb_S8x8x128_S1x1x128_1_0_0)) (View.ld (Val := Elt Ideal) (e' := EltTy.f32) A (Rect.unit (s := S8x8x128) ![1, 0, 0] ![1, 1, 128] inb_S8x8x128_S1x1x128_1_0_0)) (View.ld (Val := Elt Ideal) (e' := EltTy.f32) B (Rect.unit (s := S8x128x128) ![1, 0, 0] ![1, 128, 128] inb_S8x128x128_S1x128x128_1_0_0)))
      (term (View.ld (Val := Elt Ideal) (e' := EltTy.f32) R (Rect.unit (s := S8x128x128) ![2, 0, 0] ![1, 128, 128] inb_S8x128x128_S1x128x128_2_0_0)) (View.ld (Val := Elt Ideal) (e' := EltTy.f32) N (Rect.unit (s := S8x8x128) ![2, 0, 0] ![1, 1, 128] inb_S8x8x128_S1x1x128_2_0_0)) (View.ld (Val := Elt Ideal) (e' := EltTy.f32) A (Rect.unit (s := S8x8x128) ![2, 0, 0] ![1, 1, 128] inb_S8x8x128_S1x1x128_2_0_0)) (View.ld (Val := Elt Ideal) (e' := EltTy.f32) B (Rect.unit (s := S8x128x128) ![2, 0, 0] ![1, 128, 128] inb_S8x128x128_S1x128x128_2_0_0)))
      (term (View.ld (Val := Elt Ideal) (e' := EltTy.f32) R (Rect.unit (s := S8x128x128) ![3, 0, 0] ![1, 128, 128] inb_S8x128x128_S1x128x128_3_0_0)) (View.ld (Val := Elt Ideal) (e' := EltTy.f32) N (Rect.unit (s := S8x8x128) ![3, 0, 0] ![1, 1, 128] inb_S8x8x128_S1x1x128_3_0_0)) (View.ld (Val := Elt Ideal) (e' := EltTy.f32) A (Rect.unit (s := S8x8x128) ![3, 0, 0] ![1, 1, 128] inb_S8x8x128_S1x1x128_3_0_0)) (View.ld (Val := Elt Ideal) (e' := EltTy.f32) B (Rect.unit (s := S8x128x128) ![3, 0, 0] ![1, 128, 128] inb_S8x128x128_S1x128x128_3_0_0)))
      (term (View.ld (Val := Elt Ideal) (e' := EltTy.f32) R (Rect.unit (s := S8x128x128) ![4, 0, 0] ![1, 128, 128] inb_S8x128x128_S1x128x128_4_0_0)) (View.ld (Val := Elt Ideal) (e' := EltTy.f32) N (Rect.unit (s := S8x8x128) ![4, 0, 0] ![1, 1, 128] inb_S8x8x128_S1x1x128_4_0_0)) (View.ld (Val := Elt Ideal) (e' := EltTy.f32) A (Rect.unit (s := S8x8x128) ![4, 0, 0] ![1, 1, 128] inb_S8x8x128_S1x1x128_4_0_0)) (View.ld (Val := Elt Ideal) (e' := EltTy.f32) B (Rect.unit (s := S8x128x128) ![4, 0, 0] ![1, 128, 128] inb_S8x128x128_S1x128x128_4_0_0)))
      (term (View.ld (Val := Elt Ideal) (e' := EltTy.f32) R (Rect.unit (s := S8x128x128) ![5, 0, 0] ![1, 128, 128] inb_S8x128x128_S1x128x128_5_0_0)) (View.ld (Val := Elt Ideal) (e' := EltTy.f32) N (Rect.unit (s := S8x8x128) ![5, 0, 0] ![1, 1, 128] inb_S8x8x128_S1x1x128_5_0_0)) (View.ld (Val := Elt Ideal) (e' := EltTy.f32) A (Rect.unit (s := S8x8x128) ![5, 0, 0] ![1, 1, 128] inb_S8x8x128_S1x1x128_5_0_0)) (View.ld (Val := Elt Ideal) (e' := EltTy.f32) B (Rect.unit (s := S8x128x128) ![5, 0, 0] ![1, 128, 128] inb_S8x128x128_S1x128x128_5_0_0)))
      (term (View.ld (Val := Elt Ideal) (e' := EltTy.f32) R (Rect.unit (s := S8x128x128) ![6, 0, 0] ![1, 128, 128] inb_S8x128x128_S1x128x128_6_0_0)) (View.ld (Val := Elt Ideal) (e' := EltTy.f32) N (Rect.unit (s := S8x8x128) ![6, 0, 0] ![1, 1, 128] inb_S8x8x128_S1x1x128_6_0_0)) (View.ld (Val := Elt Ideal) (e' := EltTy.f32) A (Rect.unit (s := S8x8x128) ![6, 0, 0] ![1, 1, 128] inb_S8x8x128_S1x1x128_6_0_0)) (View.ld (Val := Elt Ideal) (e' := EltTy.f32) B (Rect.unit (s := S8x128x128) ![6, 0, 0] ![1, 128, 128] inb_S8x128x128_S1x128x128_6_0_0)))
      (term (View.ld (Val := Elt Ideal) (e' := EltTy.f32) R (Rect.unit (s := S8x128x128) ![7, 0, 0] ![1, 128, 128] inb_S8x128x128_S1x128x128_7_0_0)) (View.ld (Val := Elt Ideal) (e' := EltTy.f32) N (Rect.unit (s := S8x8x128) ![7, 0, 0] ![1, 1, 128] inb_S8x8x128_S1x1x128_7_0_0)) (View.ld (Val := Elt Ideal) (e' := EltTy.f32) A (Rect.unit (s := S8x8x128) ![7, 0, 0] ![1, 1, 128] inb_S8x8x128_S1x1x128_7_0_0)) (View.ld (Val := Elt Ideal) (e' := EltTy.f32) B (Rect.unit (s := S8x128x128) ![7, 0, 0] ![1, 128, 128] inb_S8x128x128_S1x128x128_7_0_0)))
      (k0_pay4 U H) 0 slices_S1024x128_o0_0_S128x128 := by
  unfold tile0 k0_pay10 k0_pay11 k0_pay12 k0_pay13 k0_pay14 k0_pay5 k0_pay6 k0_pay7 k0_pay8 k0_pay9 row term
  with_reducible_and_instances rfl

theorem tile0_at (x : S128x128.Idx) (e : Fin 1024) (r : Fin 128) (h0 : (e : ℕ) = 0 + (x 0 : ℕ)) (h1 : (r : ℕ) = (x 1 : ℕ)) : tile0 U H A N B R x = weight U H A N B R e r := by
  refine (congrArg _ (eq_ix2 x)).trans ?_
  rw [tile0_eq, show r = (x 1 : Fin 128) from Fin.ext h1]
  exact piece_at U H A N B R 0 _ _ _ _ _ _ _ _ _ _ _ _ _ _ _ _ 0 _ (x 0) (x 1) e rfl h0

/-- The tile of row 1. -/
def tile1 : FVec Ideal S128x128 .bf16 :=
  k0_pay25 (k0_pay4 U H)
      (k0_pay22
        (k0_pay20
          (k0_pay17
            (k0_pay15 (View.ld (Val := Elt Ideal) (e' := EltTy.f32) R (Rect.unit ![0, 0, 0] ![1, 128, 128] inb_S8x128x128_S1x128x128_0_0_0))
              (View.ld (Val := Elt Ideal) (e' := EltTy.f32) N (Rect.unit ![0, 1, 0] ![1, 1, 128] inb_S8x8x128_S1x1x128_0_1_0))
              (View.ld (Val := Elt Ideal) (e' := EltTy.f32) A (Rect.unit ![0, 1, 0] ![1, 1, 128] inb_S8x8x128_S1x1x128_0_1_0))
              (View.ld (Val := Elt Ideal) (e' := EltTy.f32) B (Rect.unit ![0, 0, 0] ![1, 128, 128] inb_S8x128x128_S1x128x128_0_0_0)))
            (k0_pay16 (View.ld (Val := Elt Ideal) (e' := EltTy.f32) R (Rect.unit ![1, 0, 0] ![1, 128, 128] inb_S8x128x128_S1x128x128_1_0_0)))
            (View.ld (Val := Elt Ideal) (e' := EltTy.f32) N (Rect.unit ![1, 1, 0] ![1, 1, 128] inb_S8x8x128_S1x1x128_1_1_0))
            (View.ld (Val := Elt Ideal) (e' := EltTy.f32) A (Rect.unit ![1, 1, 0] ![1, 1, 128] inb_S8x8x128_S1x1x128_1_1_0))
            (View.ld (Val := Elt Ideal) (e' := EltTy.f32) B (Rect.unit ![1, 0, 0] ![1, 128, 128] inb_S8x128x128_S1x128x128_1_0_0))
            (View.ld (Val := Elt Ideal) (e' := EltTy.f32) R (Rect.unit ![2, 0, 0] ![1, 128, 128] inb_S8x128x128_S1x128x128_2_0_0))
            (View.ld (Val := Elt Ideal) (e' := EltTy.f32) N (Rect.unit ![2, 1, 0] ![1, 1, 128] inb_S8x8x128_S1x1x128_2_1_0))
            (View.ld (Val := Elt Ideal) (e' := EltTy.f32) A (Rect.unit ![2, 1, 0] ![1, 1, 128] inb_S8x8x128_S1x1x128_2_1_0))
            (View.ld (Val := Elt Ideal) (e' := EltTy.f32) B (Rect.unit ![2, 0, 0] ![1, 128, 128] inb_S8x128x128_S1x128x128_2_0_0)))
          (k0_pay18 (View.ld (Val := Elt Ideal) (e' := EltTy.f32) R (Rect.unit ![3, 0, 0] ![1, 128, 128] inb_S8x128x128_S1x128x128_3_0_0)))
          (k0_pay19 (View.ld (Val := Elt Ideal) (e' := EltTy.f32) N (Rect.unit ![3, 1, 0] ![1, 1, 128] inb_S8x8x128_S1x1x128_3_1_0)))
          (View.ld (Val := Elt Ideal) (e' := EltTy.f32) A (Rect.unit ![3, 1, 0] ![1, 1, 128] inb_S8x8x128_S1x1x128_3_1_0))
          (View.ld (Val := Elt Ideal) (e' := EltTy.f32) B (Rect.unit ![3, 0, 0] ![1, 128, 128] inb_S8x128x128_S1x128x128_3_0_0))
          (View.ld (Val := Elt Ideal) (e' := EltTy.f32) R (Rect.unit ![4, 0, 0] ![1, 128, 128] inb_S8x128x128_S1x128x128_4_0_0))
          (View.ld (Val := Elt Ideal) (e' := EltTy.f32) N (Rect.unit ![4, 1, 0] ![1, 1, 128] inb_S8x8x128_S1x1x128_4_1_0))
          (View.ld (Val := Elt Ideal) (e' := EltTy.f32) A (Rect.unit ![4, 1, 0] ![1, 1, 128] inb_S8x8x128_S1x1x128_4_1_0))
          (View.ld (Val := Elt Ideal) (e' := EltTy.f32) B (Rect.unit ![4, 0, 0] ![1, 128, 128] inb_S8x128x128_S1x128x128_4_0_0)))
        (k0_pay21 (View.ld (Val := Elt Ideal) (e' := EltTy.f32) R (Rect.unit ![5, 0, 0] ![1, 128, 128] inb_S8x128x128_S1x128x128_5_0_0))
          (View.ld (Val := Elt Ideal) (e' := EltTy.f32) N (Rect.unit ![5, 1, 0] ![1, 1, 128] inb_S8x8x128_S1x1x128_5_1_0)))
        (View.ld (Val := Elt Ideal) (e' := EltTy.f32) A (Rect.unit ![5, 1, 0] ![1, 1, 128] inb_S8x8x128_S1x1x128_5_1_0))
        (View.ld (Val := Elt Ideal) (e' := EltTy.f32) B (Rect.unit ![5, 0, 0] ![1, 128, 128] inb_S8x128x128_S1x128x128_5_0_0))
        (View.ld (Val := Elt Ideal) (e' := EltTy.f32) R (Rect.unit ![6, 0, 0] ![1, 128, 128] inb_S8x128x128_S1x128x128_6_0_0))
        (View.ld (Val := Elt Ideal) (e' := EltTy.f32) N (Rect.unit ![6, 1, 0] ![1, 1, 128] inb_S8x8x128_S1x1x128_6_1_0))
        (View.ld (Val := Elt Ideal) (e' := EltTy.f32) A (Rect.unit ![6, 1, 0] ![1, 1, 128] inb_S8x8x128_S1x1x128_6_1_0))
        (View.ld (Val := Elt Ideal) (e' := EltTy.f32) B (Rect.unit ![6, 0, 0] ![1, 128, 128] inb_S8x128x128_S1x128x128_6_0_0)))
      (k0_pay23 (View.ld (Val := Elt Ideal) (e' := EltTy.f32) R (Rect.unit ![7, 0, 0] ![1, 128, 128] inb_S8x128x128_S1x128x128_7_0_0))
        (View.ld (Val := Elt Ideal) (e' := EltTy.f32) N (Rect.unit ![7, 1, 0] ![1, 1, 128] inb_S8x8x128_S1x1x128_7_1_0)))
      (k0_pay24 (View.ld (Val := Elt Ideal) (e' := EltTy.f32) A (Rect.unit ![7, 1, 0] ![1, 1, 128] inb_S8x8x128_S1x1x128_7_1_0)))
      (View.ld (Val := Elt Ideal) (e' := EltTy.f32) B (Rect.unit ![7, 0, 0] ![1, 128, 128] inb_S8x128x128_S1x128x128_7_0_0))

theorem tile1_eq : tile1 U H A N B R = row (term (View.ld (Val := Elt Ideal) (e' := EltTy.f32) R (Rect.unit (s := S8x128x128) ![0, 0, 0] ![1, 128, 128] inb_S8x128x128_S1x128x128_0_0_0)) (View.ld (Val := Elt Ideal) (e' := EltTy.f32) N (Rect.unit (s := S8x8x128) ![0, 1, 0] ![1, 1, 128] inb_S8x8x128_S1x1x128_0_1_0)) (View.ld (Val := Elt Ideal) (e' := EltTy.f32) A (Rect.unit (s := S8x8x128) ![0, 1, 0] ![1, 1, 128] inb_S8x8x128_S1x1x128_0_1_0)) (View.ld (Val := Elt Ideal) (e' := EltTy.f32) B (Rect.unit (s := S8x128x128) ![0, 0, 0] ![1, 128, 128] inb_S8x128x128_S1x128x128_0_0_0)))
      (term (View.ld (Val := Elt Ideal) (e' := EltTy.f32) R (Rect.unit (s := S8x128x128) ![1, 0, 0] ![1, 128, 128] inb_S8x128x128_S1x128x128_1_0_0)) (View.ld (Val := Elt Ideal) (e' := EltTy.f32) N (Rect.unit (s := S8x8x128) ![1, 1, 0] ![1, 1, 128] inb_S8x8x128_S1x1x128_1_1_0)) (View.ld (Val := Elt Ideal) (e' := EltTy.f32) A (Rect.unit (s := S8x8x128) ![1, 1, 0] ![1, 1, 128] inb_S8x8x128_S1x1x128_1_1_0)) (View.ld (Val := Elt Ideal) (e' := EltTy.f32) B (Rect.unit (s := S8x128x128) ![1, 0, 0] ![1, 128, 128] inb_S8x128x128_S1x128x128_1_0_0)))
      (term (View.ld (Val := Elt Ideal) (e' := EltTy.f32) R (Rect.unit (s := S8x128x128) ![2, 0, 0] ![1, 128, 128] inb_S8x128x128_S1x128x128_2_0_0)) (View.ld (Val := Elt Ideal) (e' := EltTy.f32) N (Rect.unit (s := S8x8x128) ![2, 1, 0] ![1, 1, 128] inb_S8x8x128_S1x1x128_2_1_0)) (View.ld (Val := Elt Ideal) (e' := EltTy.f32) A (Rect.unit (s := S8x8x128) ![2, 1, 0] ![1, 1, 128] inb_S8x8x128_S1x1x128_2_1_0)) (View.ld (Val := Elt Ideal) (e' := EltTy.f32) B (Rect.unit (s := S8x128x128) ![2, 0, 0] ![1, 128, 128] inb_S8x128x128_S1x128x128_2_0_0)))
      (term (View.ld (Val := Elt Ideal) (e' := EltTy.f32) R (Rect.unit (s := S8x128x128) ![3, 0, 0] ![1, 128, 128] inb_S8x128x128_S1x128x128_3_0_0)) (View.ld (Val := Elt Ideal) (e' := EltTy.f32) N (Rect.unit (s := S8x8x128) ![3, 1, 0] ![1, 1, 128] inb_S8x8x128_S1x1x128_3_1_0)) (View.ld (Val := Elt Ideal) (e' := EltTy.f32) A (Rect.unit (s := S8x8x128) ![3, 1, 0] ![1, 1, 128] inb_S8x8x128_S1x1x128_3_1_0)) (View.ld (Val := Elt Ideal) (e' := EltTy.f32) B (Rect.unit (s := S8x128x128) ![3, 0, 0] ![1, 128, 128] inb_S8x128x128_S1x128x128_3_0_0)))
      (term (View.ld (Val := Elt Ideal) (e' := EltTy.f32) R (Rect.unit (s := S8x128x128) ![4, 0, 0] ![1, 128, 128] inb_S8x128x128_S1x128x128_4_0_0)) (View.ld (Val := Elt Ideal) (e' := EltTy.f32) N (Rect.unit (s := S8x8x128) ![4, 1, 0] ![1, 1, 128] inb_S8x8x128_S1x1x128_4_1_0)) (View.ld (Val := Elt Ideal) (e' := EltTy.f32) A (Rect.unit (s := S8x8x128) ![4, 1, 0] ![1, 1, 128] inb_S8x8x128_S1x1x128_4_1_0)) (View.ld (Val := Elt Ideal) (e' := EltTy.f32) B (Rect.unit (s := S8x128x128) ![4, 0, 0] ![1, 128, 128] inb_S8x128x128_S1x128x128_4_0_0)))
      (term (View.ld (Val := Elt Ideal) (e' := EltTy.f32) R (Rect.unit (s := S8x128x128) ![5, 0, 0] ![1, 128, 128] inb_S8x128x128_S1x128x128_5_0_0)) (View.ld (Val := Elt Ideal) (e' := EltTy.f32) N (Rect.unit (s := S8x8x128) ![5, 1, 0] ![1, 1, 128] inb_S8x8x128_S1x1x128_5_1_0)) (View.ld (Val := Elt Ideal) (e' := EltTy.f32) A (Rect.unit (s := S8x8x128) ![5, 1, 0] ![1, 1, 128] inb_S8x8x128_S1x1x128_5_1_0)) (View.ld (Val := Elt Ideal) (e' := EltTy.f32) B (Rect.unit (s := S8x128x128) ![5, 0, 0] ![1, 128, 128] inb_S8x128x128_S1x128x128_5_0_0)))
      (term (View.ld (Val := Elt Ideal) (e' := EltTy.f32) R (Rect.unit (s := S8x128x128) ![6, 0, 0] ![1, 128, 128] inb_S8x128x128_S1x128x128_6_0_0)) (View.ld (Val := Elt Ideal) (e' := EltTy.f32) N (Rect.unit (s := S8x8x128) ![6, 1, 0] ![1, 1, 128] inb_S8x8x128_S1x1x128_6_1_0)) (View.ld (Val := Elt Ideal) (e' := EltTy.f32) A (Rect.unit (s := S8x8x128) ![6, 1, 0] ![1, 1, 128] inb_S8x8x128_S1x1x128_6_1_0)) (View.ld (Val := Elt Ideal) (e' := EltTy.f32) B (Rect.unit (s := S8x128x128) ![6, 0, 0] ![1, 128, 128] inb_S8x128x128_S1x128x128_6_0_0)))
      (term (View.ld (Val := Elt Ideal) (e' := EltTy.f32) R (Rect.unit (s := S8x128x128) ![7, 0, 0] ![1, 128, 128] inb_S8x128x128_S1x128x128_7_0_0)) (View.ld (Val := Elt Ideal) (e' := EltTy.f32) N (Rect.unit (s := S8x8x128) ![7, 1, 0] ![1, 1, 128] inb_S8x8x128_S1x1x128_7_1_0)) (View.ld (Val := Elt Ideal) (e' := EltTy.f32) A (Rect.unit (s := S8x8x128) ![7, 1, 0] ![1, 1, 128] inb_S8x8x128_S1x1x128_7_1_0)) (View.ld (Val := Elt Ideal) (e' := EltTy.f32) B (Rect.unit (s := S8x128x128) ![7, 0, 0] ![1, 128, 128] inb_S8x128x128_S1x128x128_7_0_0)))
      (k0_pay4 U H) 128 slices_S1024x128_o128_0_S128x128 := by
  unfold tile1 k0_pay15 k0_pay16 k0_pay17 k0_pay18 k0_pay19 k0_pay20 k0_pay21 k0_pay22 k0_pay23 k0_pay24 k0_pay25 row term
  with_reducible_and_instances rfl

theorem tile1_at (x : S128x128.Idx) (e : Fin 1024) (r : Fin 128) (h0 : (e : ℕ) = 128 + (x 0 : ℕ)) (h1 : (r : ℕ) = (x 1 : ℕ)) : tile1 U H A N B R x = weight U H A N B R e r := by
  refine (congrArg _ (eq_ix2 x)).trans ?_
  rw [tile1_eq, show r = (x 1 : Fin 128) from Fin.ext h1]
  exact piece_at U H A N B R 1 _ _ _ _ _ _ _ _ _ _ _ _ _ _ _ _ 128 _ (x 0) (x 1) e rfl h0

/-- The tile of row 2. -/
def tile2 : FVec Ideal S128x128 .bf16 :=
  k0_pay37 (k0_pay4 U H)
      (k0_pay35
        (k0_pay31
          (k0_pay28
            (k0_pay26 (View.ld (Val := Elt Ideal) (e' := EltTy.f32) R (Rect.unit ![0, 0, 0] ![1, 128, 128] inb_S8x128x128_S1x128x128_0_0_0))
              (View.ld (Val := Elt Ideal) (e' := EltTy.f32) N (Rect.unit ![0, 2, 0] ![1, 1, 128] inb_S8x8x128_S1x1x128_0_2_0))
              (View.ld (Val := Elt Ideal) (e' := EltTy.f32) A (Rect.unit ![0, 2, 0] ![1, 1, 128] inb_S8x8x128_S1x1x128_0_2_0))
              (View.ld (Val := Elt Ideal) (e' := EltTy.f32) B (Rect.unit ![0, 0, 0] ![1, 128, 128] inb_S8x128x128_S1x128x128_0_0_0)))
            (k0_pay27 (View.ld (Val := Elt Ideal) (e' := EltTy.f32) R (Rect.unit ![1, 0, 0] ![1, 128, 128] inb_S8x128x128_S1x128x128_1_0_0))
              (View.ld (Val := Elt Ideal) (e' := EltTy.f32) N (Rect.unit ![1, 2, 0] ![1, 1, 128] inb_S8x8x128_S1x1x128_1_2_0)))
            (View.ld (Val := Elt Ideal) (e' := EltTy.f32) A (Rect.unit ![1, 2, 0] ![1, 1, 128] inb_S8x8x128_S1x1x128_1_2_0))
            (View.ld (Val := Elt Ideal) (e' := EltTy.f32) B (Rect.unit ![1, 0, 0] ![1, 128, 128] inb_S8x128x128_S1x128x128_1_0_0))
            (View.ld (Val := Elt Ideal) (e' := EltTy.f32) R (Rect.unit ![2, 0, 0] ![1, 128, 128] inb_S8x128x128_S1x128x128_2_0_0))
            (View.ld (Val := Elt Ideal) (e' := EltTy.f32) N (Rect.unit ![2, 2, 0] ![1, 1, 128] inb_S8x8x128_S1x1x128_2_2_0))
            (View.ld (Val := Elt Ideal) (e' := EltTy.f32) A (Rect.unit ![2, 2, 0] ![1, 1, 128] inb_S8x8x128_S1x1x128_2_2_0))
            (View.ld (Val := Elt Ideal) (e' := EltTy.f32) B (Rect.unit ![2, 0, 0] ![1, 128, 128] inb_S8x128x128_S1x128x128_2_0_0)))
          (k0_pay29 (View.ld (Val := Elt Ideal) (e' := EltTy.f32) R (Rect.unit ![3, 0, 0] ![1, 128, 128] inb_S8x128x128_S1x128x128_3_0_0))
            (View.ld (Val := Elt Ideal) (e' := EltTy.f32) N (Rect.unit ![3, 2, 0] ![1, 1, 128] inb_S8x8x128_S1x1x128_3_2_0)))
          (k0_pay30 (View.ld (Val := Elt Ideal) (e' := EltTy.f32) A (Rect.unit ![3, 2, 0] ![1, 1, 128] inb_S8x8x128_S1x1x128_3_2_0)))
          (View.ld (Val := Elt Ideal) (e' := EltTy.f32) B (Rect.unit ![3, 0, 0] ![1, 128, 128] inb_S8x128x128_S1x128x128_3_0_0))
          (View.ld (Val := Elt Ideal) (e' := EltTy.f32) R (Rect.unit ![4, 0, 0] ![1, 128, 128] inb_S8x128x128_S1x128x128_4_0_0))
          (View.ld (Val := Elt Ideal) (e' := EltTy.f32) N (Rect.unit ![4, 2, 0] ![1, 1, 128] inb_S8x8x128_S1x1x128_4_2_0))
          (View.ld (Val := Elt Ideal) (e' := EltTy.f32) A (Rect.unit ![4, 2, 0] ![1, 1, 128] inb_S8x8x128_S1x1x128_4_2_0))
          (View.ld (Val := Elt Ideal) (e' := EltTy.f32) B (Rect.unit ![4, 0, 0] ![1, 128, 128] inb_S8x128x128_S1x128x128_4_0_0)))
        (k0_pay32 (View.ld (Val := Elt Ideal) (e' := EltTy.f32) R (Rect.unit ![5, 0, 0] ![1, 128, 128] inb_S8x128x128_S1x128x128_5_0_0))
          (View.ld (Val := Elt Ideal) (e' := EltTy.f32) N (Rect.unit ![5, 2, 0] ![1, 1, 128] inb_S8x8x128_S1x1x128_5_2_0)))
        (k0_pay33 (View.ld (Val := Elt Ideal) (e' := EltTy.f32) B (Rect.unit ![5, 0, 0] ![1, 128, 128] inb_S8x128x128_S1x128x128_5_0_0)))
        (k0_pay34 (View.ld (Val := Elt Ideal) (e' := EltTy.f32) A (Rect.unit ![5, 2, 0] ![1, 1, 128] inb_S8x8x128_S1x1x128_5_2_0)))
        (View.ld (Val := Elt Ideal) (e' := EltTy.f32) R (Rect.unit ![6, 0, 0] ![1, 128, 128] inb_S8x128x128_S1x128x128_6_0_0))
        (View.ld (Val := Elt Ideal) (e' := EltTy.f32) N (Rect.unit ![6, 2, 0] ![1, 1, 128] inb_S8x8x128_S1x1x128_6_2_0))
        (View.ld (Val := Elt Ideal) (e' := EltTy.f32) A (Rect.unit ![6, 2, 0] ![1, 1, 128] inb_S8x8x128_S1x1x128_6_2_0))
        (View.ld (Val := Elt Ideal) (e' := EltTy.f32) B (Rect.unit ![6, 0, 0] ![1, 128, 128] inb_S8x128x128_S1x128x128_6_0_0)))
      (k0_pay36 (View.ld (Val := Elt Ideal) (e' := EltTy.f32) R (Rect.unit ![7, 0, 0] ![1, 128, 128] inb_S8x128x128_S1x128x128_7_0_0))
        (View.ld (Val := Elt Ideal) (e' := EltTy.f32) N (Rect.unit ![7, 2, 0] ![1, 1, 128] inb_S8x8x128_S1x1x128_7_2_0))
        (View.ld (Val := Elt Ideal) (e' := EltTy.f32) A (Rect.unit ![7, 2, 0] ![1, 1, 128] inb_S8x8x128_S1x1x128_7_2_0))
        (View.ld (Val := Elt Ideal) (e' := EltTy.f32) B (Rect.unit ![7, 0, 0] ![1, 128, 128] inb_S8x128x128_S1x128x128_7_0_0)))

theorem tile2_eq : tile2 U H A N B R = row (term (View.ld (Val := Elt Ideal) (e' := EltTy.f32) R (Rect.unit (s := S8x128x128) ![0, 0, 0] ![1, 128, 128] inb_S8x128x128_S1x128x128_0_0_0)) (View.ld (Val := Elt Ideal) (e' := EltTy.f32) N (Rect.unit (s := S8x8x128) ![0, 2, 0] ![1, 1, 128] inb_S8x8x128_S1x1x128_0_2_0)) (View.ld (Val := Elt Ideal) (e' := EltTy.f32) A (Rect.unit (s := S8x8x128) ![0, 2, 0] ![1, 1, 128] inb_S8x8x128_S1x1x128_0_2_0)) (View.ld (Val := Elt Ideal) (e' := EltTy.f32) B (Rect.unit (s := S8x128x128) ![0, 0, 0] ![1, 128, 128] inb_S8x128x128_S1x128x128_0_0_0)))
      (term (View.ld (Val := Elt Ideal) (e' := EltTy.f32) R (Rect.unit (s := S8x128x128) ![1, 0, 0] ![1, 128, 128] inb_S8x128x128_S1x128x128_1_0_0)) (View.ld (Val := Elt Ideal) (e' := EltTy.f32) N (Rect.unit (s := S8x8x128) ![1, 2, 0] ![1, 1, 128] inb_S8x8x128_S1x1x128_1_2_0)) (View.ld (Val := Elt Ideal) (e' := EltTy.f32) A (Rect.unit (s := S8x8x128) ![1, 2, 0] ![1, 1, 128] inb_S8x8x128_S1x1x128_1_2_0)) (View.ld (Val := Elt Ideal) (e' := EltTy.f32) B (Rect.unit (s := S8x128x128) ![1, 0, 0] ![1, 128, 128] inb_S8x128x128_S1x128x128_1_0_0)))
      (term (View.ld (Val := Elt Ideal) (e' := EltTy.f32) R (Rect.unit (s := S8x128x128) ![2, 0, 0] ![1, 128, 128] inb_S8x128x128_S1x128x128_2_0_0)) (View.ld (Val := Elt Ideal) (e' := EltTy.f32) N (Rect.unit (s := S8x8x128) ![2, 2, 0] ![1, 1, 128] inb_S8x8x128_S1x1x128_2_2_0)) (View.ld (Val := Elt Ideal) (e' := EltTy.f32) A (Rect.unit (s := S8x8x128) ![2, 2, 0] ![1, 1, 128] inb_S8x8x128_S1x1x128_2_2_0)) (View.ld (Val := Elt Ideal) (e' := EltTy.f32) B (Rect.unit (s := S8x128x128) ![2, 0, 0] ![1, 128, 128] inb_S8x128x128_S1x128x128_2_0_0)))
      (term (View.ld (Val := Elt Ideal) (e' := EltTy.f32) R (Rect.unit (s := S8x128x128) ![3, 0, 0] ![1, 128, 128] inb_S8x128x128_S1x128x128_3_0_0)) (View.ld (Val := Elt Ideal) (e' := EltTy.f32) N (Rect.unit (s := S8x8x128) ![3, 2, 0] ![1, 1, 128] inb_S8x8x128_S1x1x128_3_2_0)) (View.ld (Val := Elt Ideal) (e' := EltTy.f32) A (Rect.unit (s := S8x8x128) ![3, 2, 0] ![1, 1, 128] inb_S8x8x128_S1x1x128_3_2_0)) (View.ld (Val := Elt Ideal) (e' := EltTy.f32) B (Rect.unit (s := S8x128x128) ![3, 0, 0] ![1, 128, 128] inb_S8x128x128_S1x128x128_3_0_0)))
      (term (View.ld (Val := Elt Ideal) (e' := EltTy.f32) R (Rect.unit (s := S8x128x128) ![4, 0, 0] ![1, 128, 128] inb_S8x128x128_S1x128x128_4_0_0)) (View.ld (Val := Elt Ideal) (e' := EltTy.f32) N (Rect.unit (s := S8x8x128) ![4, 2, 0] ![1, 1, 128] inb_S8x8x128_S1x1x128_4_2_0)) (View.ld (Val := Elt Ideal) (e' := EltTy.f32) A (Rect.unit (s := S8x8x128) ![4, 2, 0] ![1, 1, 128] inb_S8x8x128_S1x1x128_4_2_0)) (View.ld (Val := Elt Ideal) (e' := EltTy.f32) B (Rect.unit (s := S8x128x128) ![4, 0, 0] ![1, 128, 128] inb_S8x128x128_S1x128x128_4_0_0)))
      (term (View.ld (Val := Elt Ideal) (e' := EltTy.f32) R (Rect.unit (s := S8x128x128) ![5, 0, 0] ![1, 128, 128] inb_S8x128x128_S1x128x128_5_0_0)) (View.ld (Val := Elt Ideal) (e' := EltTy.f32) N (Rect.unit (s := S8x8x128) ![5, 2, 0] ![1, 1, 128] inb_S8x8x128_S1x1x128_5_2_0)) (View.ld (Val := Elt Ideal) (e' := EltTy.f32) A (Rect.unit (s := S8x8x128) ![5, 2, 0] ![1, 1, 128] inb_S8x8x128_S1x1x128_5_2_0)) (View.ld (Val := Elt Ideal) (e' := EltTy.f32) B (Rect.unit (s := S8x128x128) ![5, 0, 0] ![1, 128, 128] inb_S8x128x128_S1x128x128_5_0_0)))
      (term (View.ld (Val := Elt Ideal) (e' := EltTy.f32) R (Rect.unit (s := S8x128x128) ![6, 0, 0] ![1, 128, 128] inb_S8x128x128_S1x128x128_6_0_0)) (View.ld (Val := Elt Ideal) (e' := EltTy.f32) N (Rect.unit (s := S8x8x128) ![6, 2, 0] ![1, 1, 128] inb_S8x8x128_S1x1x128_6_2_0)) (View.ld (Val := Elt Ideal) (e' := EltTy.f32) A (Rect.unit (s := S8x8x128) ![6, 2, 0] ![1, 1, 128] inb_S8x8x128_S1x1x128_6_2_0)) (View.ld (Val := Elt Ideal) (e' := EltTy.f32) B (Rect.unit (s := S8x128x128) ![6, 0, 0] ![1, 128, 128] inb_S8x128x128_S1x128x128_6_0_0)))
      (term (View.ld (Val := Elt Ideal) (e' := EltTy.f32) R (Rect.unit (s := S8x128x128) ![7, 0, 0] ![1, 128, 128] inb_S8x128x128_S1x128x128_7_0_0)) (View.ld (Val := Elt Ideal) (e' := EltTy.f32) N (Rect.unit (s := S8x8x128) ![7, 2, 0] ![1, 1, 128] inb_S8x8x128_S1x1x128_7_2_0)) (View.ld (Val := Elt Ideal) (e' := EltTy.f32) A (Rect.unit (s := S8x8x128) ![7, 2, 0] ![1, 1, 128] inb_S8x8x128_S1x1x128_7_2_0)) (View.ld (Val := Elt Ideal) (e' := EltTy.f32) B (Rect.unit (s := S8x128x128) ![7, 0, 0] ![1, 128, 128] inb_S8x128x128_S1x128x128_7_0_0)))
      (k0_pay4 U H) 256 slices_S1024x128_o256_0_S128x128 := by
  unfold tile2 k0_pay26 k0_pay27 k0_pay28 k0_pay29 k0_pay30 k0_pay31 k0_pay32 k0_pay33 k0_pay34 k0_pay35 k0_pay36 k0_pay37 row term
  with_reducible_and_instances rfl

theorem tile2_at (x : S128x128.Idx) (e : Fin 1024) (r : Fin 128) (h0 : (e : ℕ) = 256 + (x 0 : ℕ)) (h1 : (r : ℕ) = (x 1 : ℕ)) : tile2 U H A N B R x = weight U H A N B R e r := by
  refine (congrArg _ (eq_ix2 x)).trans ?_
  rw [tile2_eq, show r = (x 1 : Fin 128) from Fin.ext h1]
  exact piece_at U H A N B R 2 _ _ _ _ _ _ _ _ _ _ _ _ _ _ _ _ 256 _ (x 0) (x 1) e rfl h0

/-- The tile of row 3. -/
def tile3 : FVec Ideal S128x128 .bf16 :=
  k0_pay46
      (k0_pay45 (k0_pay4 U H)
        (k0_pay44
          (k0_pay42
            (k0_pay38 (View.ld (Val := Elt Ideal) (e' := EltTy.f32) R (Rect.unit ![0, 0, 0] ![1, 128, 128] inb_S8x128x128_S1x128x128_0_0_0))
              (View.ld (Val := Elt Ideal) (e' := EltTy.f32) N (Rect.unit ![0, 3, 0] ![1, 1, 128] inb_S8x8x128_S1x1x128_0_3_0))
              (View.ld (Val := Elt Ideal) (e' := EltTy.f32) A (Rect.unit ![0, 3, 0] ![1, 1, 128] inb_S8x8x128_S1x1x128_0_3_0))
              (View.ld (Val := Elt Ideal) (e' := EltTy.f32) B (Rect.unit ![0, 0, 0] ![1, 128, 128] inb_S8x128x128_S1x128x128_0_0_0)))
            (k0_pay39 (View.ld (Val := Elt Ideal) (e' := EltTy.f32) R (Rect.unit ![1, 0, 0] ![1, 128, 128] inb_S8x128x128_S1x128x128_1_0_0))
              (View.ld (Val := Elt Ideal) (e' := EltTy.f32) N (Rect.unit ![1, 3, 0] ![1, 1, 128] inb_S8x8x128_S1x1x128_1_3_0)))
            (k0_pay40 (View.ld (Val := Elt Ideal) (e' := EltTy.f32) B (Rect.unit ![1, 0, 0] ![1, 128, 128] inb_S8x128x128_S1x128x128_1_0_0)))
            (k0_pay41 (View.ld (Val := Elt Ideal) (e' := EltTy.f32) A (Rect.unit ![1, 3, 0] ![1, 1, 128] inb_S8x8x128_S1x1x128_1_3_0)))
            (View.ld (Val := Elt Ideal) (e' := EltTy.f32) R (Rect.unit ![2, 0, 0] ![1, 128, 128] inb_S8x128x128_S1x128x128_2_0_0))
            (View.ld (Val := Elt Ideal) (e' := EltTy.f32) N (Rect.unit ![2, 3, 0] ![1, 1, 128] inb_S8x8x128_S1x1x128_2_3_0))
            (View.ld (Val := Elt Ideal) (e' := EltTy.f32) A (Rect.unit ![2, 3, 0] ![1, 1, 128] inb_S8x8x128_S1x1x128_2_3_0))
            (View.ld (Val := Elt Ideal) (e' := EltTy.f32) B (Rect.unit ![2, 0, 0] ![1, 128, 128] inb_S8x128x128_S1x128x128_2_0_0)))
          (k0_pay43 (View.ld (Val := Elt Ideal) (e' := EltTy.f32) R (Rect.unit ![3, 0, 0] ![1, 128, 128] inb_S8x128x128_S1x128x128_3_0_0))
            (View.ld (Val := Elt Ideal) (e' := EltTy.f32) N (Rect.unit ![3, 3, 0] ![1, 1, 128] inb_S8x8x128_S1x1x128_3_3_0))
            (View.ld (Val := Elt Ideal) (e' := EltTy.f32) A (Rect.unit ![3, 3, 0] ![1, 1, 128] inb_S8x8x128_S1x1x128_3_3_0))
            (View.ld (Val := Elt Ideal) (e' := EltTy.f32) B (Rect.unit ![3, 0, 0] ![1, 128, 128] inb_S8x128x128_S1x128x128_3_0_0)))
          (View.ld (Val := Elt Ideal) (e' := EltTy.f32) R (Rect.unit ![4, 0, 0] ![1, 128, 128] inb_S8x128x128_S1x128x128_4_0_0))
          (View.ld (Val := Elt Ideal) (e' := EltTy.f32) N (Rect.unit ![4, 3, 0] ![1, 1, 128] inb_S8x8x128_S1x1x128_4_3_0))
          (View.ld (Val := Elt Ideal) (e' := EltTy.f32) A (Rect.unit ![4, 3, 0] ![1, 1, 128] inb_S8x8x128_S1x1x128_4_3_0))
          (View.ld (Val := Elt Ideal) (e' := EltTy.f32) B (Rect.unit ![4, 0, 0] ![1, 128, 128] inb_S8x128x128_S1x128x128_4_0_0))
          (View.ld (Val := Elt Ideal) (e' := EltTy.f32) R (Rect.unit ![5, 0, 0] ![1, 128, 128] inb_S8x128x128_S1x128x128_5_0_0))
          (View.ld (Val := Elt Ideal) (e' := EltTy.f32) N (Rect.unit ![5, 3, 0] ![1, 1, 128] inb_S8x8x128_S1x1x128_5_3_0))
          (View.ld (Val := Elt Ideal) (e' := EltTy.f32) A (Rect.unit ![5, 3, 0] ![1, 1, 128] inb_S8x8x128_S1x1x128_5_3_0))
          (View.ld (Val := Elt Ideal) (e' := EltTy.f32) B (Rect.unit ![5, 0, 0] ![1, 128, 128] inb_S8x128x128_S1x128x128_5_0_0)))
        (View.ld (Val := Elt Ideal) (e' := EltTy.f32) R (Rect.unit ![6, 0, 0] ![1, 128, 128] inb_S8x128x128_S1x128x128_6_0_0))
        (View.ld (Val := Elt Ideal) (e' := EltTy.f32) N (Rect.unit ![6, 3, 0] ![1, 1, 128] inb_S8x8x128_S1x1x128_6_3_0))
        (View.ld (Val := Elt Ideal) (e' := EltTy.f32) A (Rect.unit ![6, 3, 0] ![1, 1, 128] inb_S8x8x128_S1x1x128_6_3_0))
        (View.ld (Val := Elt Ideal) (e' := EltTy.f32) B (Rect.unit ![6, 0, 0] ![1, 128, 128] inb_S8x128x128_S1x128x128_6_0_0))
        (View.ld (Val := Elt Ideal) (e' := EltTy.f32) R (Rect.unit ![7, 0, 0] ![1, 128, 128] inb_S8x128x128_S1x128x128_7_0_0))
        (View.ld (Val := Elt Ideal) (e' := EltTy.f32) N (Rect.unit ![7, 3, 0] ![1, 1, 128] inb_S8x8x128_S1x1x128_7_3_0))
        (View.ld (Val := Elt Ideal) (e' := EltTy.f32) A (Rect.unit ![7, 3, 0] ![1, 1, 128] inb_S8x8x128_S1x1x128_7_3_0))
        (View.ld (Val := Elt Ideal) (e' := EltTy.f32) B (Rect.unit ![7, 0, 0] ![1, 128, 128] inb_S8x128x128_S1x128x128_7_0_0)))

theorem tile3_eq : tile3 U H A N B R = row (term (View.ld (Val := Elt Ideal) (e' := EltTy.f32) R (Rect.unit (s := S8x128x128) ![0, 0, 0] ![1, 128, 128] inb_S8x128x128_S1x128x128_0_0_0)) (View.ld (Val := Elt Ideal) (e' := EltTy.f32) N (Rect.unit (s := S8x8x128) ![0, 3, 0] ![1, 1, 128] inb_S8x8x128_S1x1x128_0_3_0)) (View.ld (Val := Elt Ideal) (e' := EltTy.f32) A (Rect.unit (s := S8x8x128) ![0, 3, 0] ![1, 1, 128] inb_S8x8x128_S1x1x128_0_3_0)) (View.ld (Val := Elt Ideal) (e' := EltTy.f32) B (Rect.unit (s := S8x128x128) ![0, 0, 0] ![1, 128, 128] inb_S8x128x128_S1x128x128_0_0_0)))
      (term (View.ld (Val := Elt Ideal) (e' := EltTy.f32) R (Rect.unit (s := S8x128x128) ![1, 0, 0] ![1, 128, 128] inb_S8x128x128_S1x128x128_1_0_0)) (View.ld (Val := Elt Ideal) (e' := EltTy.f32) N (Rect.unit (s := S8x8x128) ![1, 3, 0] ![1, 1, 128] inb_S8x8x128_S1x1x128_1_3_0)) (View.ld (Val := Elt Ideal) (e' := EltTy.f32) A (Rect.unit (s := S8x8x128) ![1, 3, 0] ![1, 1, 128] inb_S8x8x128_S1x1x128_1_3_0)) (View.ld (Val := Elt Ideal) (e' := EltTy.f32) B (Rect.unit (s := S8x128x128) ![1, 0, 0] ![1, 128, 128] inb_S8x128x128_S1x128x128_1_0_0)))
      (term (View.ld (Val := Elt Ideal) (e' := EltTy.f32) R (Rect.unit (s := S8x128x128) ![2, 0, 0] ![1, 128, 128] inb_S8x128x128_S1x128x128_2_0_0)) (View.ld (Val := Elt Ideal) (e' := EltTy.f32) N (Rect.unit (s := S8x8x128) ![2, 3, 0] ![1, 1, 128] inb_S8x8x128_S1x1x128_2_3_0)) (View.ld (Val := Elt Ideal) (e' := EltTy.f32) A (Rect.unit (s := S8x8x128) ![2, 3, 0] ![1, 1, 128] inb_S8x8x128_S1x1x128_2_3_0)) (View.ld (Val := Elt Ideal) (e' := EltTy.f32) B (Rect.unit (s := S8x128x128) ![2, 0, 0] ![1, 128, 128] inb_S8x128x128_S1x128x128_2_0_0)))
      (term (View.ld (Val := Elt Ideal) (e' := EltTy.f32) R (Rect.unit (s := S8x128x128) ![3, 0, 0] ![1, 128, 128] inb_S8x128x128_S1x128x128_3_0_0)) (View.ld (Val := Elt Ideal) (e' := EltTy.f32) N (Rect.unit (s := S8x8x128) ![3, 3, 0] ![1, 1, 128] inb_S8x8x128_S1x1x128_3_3_0)) (View.ld (Val := Elt Ideal) (e' := EltTy.f32) A (Rect.unit (s := S8x8x128) ![3, 3, 0] ![1, 1, 128] inb_S8x8x128_S1x1x128_3_3_0)) (View.ld (Val := Elt Ideal) (e' := EltTy.f32) B (Rect.unit (s := S8x128x128) ![3, 0, 0] ![1, 128, 128] inb_S8x128x128_S1x128x128_3_0_0)))
      (term (View.ld (Val := Elt Ideal) (e' := EltTy.f32) R (Rect.unit (s := S8x128x128) ![4, 0, 0] ![1, 128, 128] inb_S8x128x128_S1x128x128_4_0_0)) (View.ld (Val := Elt Ideal) (e' := EltTy.f32) N (Rect.unit (s := S8x8x128) ![4, 3, 0] ![1, 1, 128] inb_S8x8x128_S1x1x128_4_3_0)) (View.ld (Val := Elt Ideal) (e' := EltTy.f32) A (Rect.unit (s := S8x8x128) ![4, 3, 0] ![1, 1, 128] inb_S8x8x128_S1x1x128_4_3_0)) (View.ld (Val := Elt Ideal) (e' := EltTy.f32) B (Rect.unit (s := S8x128x128) ![4, 0, 0] ![1, 128, 128] inb_S8x128x128_S1x128x128_4_0_0)))
      (term (View.ld (Val := Elt Ideal) (e' := EltTy.f32) R (Rect.unit (s := S8x128x128) ![5, 0, 0] ![1, 128, 128] inb_S8x128x128_S1x128x128_5_0_0)) (View.ld (Val := Elt Ideal) (e' := EltTy.f32) N (Rect.unit (s := S8x8x128) ![5, 3, 0] ![1, 1, 128] inb_S8x8x128_S1x1x128_5_3_0)) (View.ld (Val := Elt Ideal) (e' := EltTy.f32) A (Rect.unit (s := S8x8x128) ![5, 3, 0] ![1, 1, 128] inb_S8x8x128_S1x1x128_5_3_0)) (View.ld (Val := Elt Ideal) (e' := EltTy.f32) B (Rect.unit (s := S8x128x128) ![5, 0, 0] ![1, 128, 128] inb_S8x128x128_S1x128x128_5_0_0)))
      (term (View.ld (Val := Elt Ideal) (e' := EltTy.f32) R (Rect.unit (s := S8x128x128) ![6, 0, 0] ![1, 128, 128] inb_S8x128x128_S1x128x128_6_0_0)) (View.ld (Val := Elt Ideal) (e' := EltTy.f32) N (Rect.unit (s := S8x8x128) ![6, 3, 0] ![1, 1, 128] inb_S8x8x128_S1x1x128_6_3_0)) (View.ld (Val := Elt Ideal) (e' := EltTy.f32) A (Rect.unit (s := S8x8x128) ![6, 3, 0] ![1, 1, 128] inb_S8x8x128_S1x1x128_6_3_0)) (View.ld (Val := Elt Ideal) (e' := EltTy.f32) B (Rect.unit (s := S8x128x128) ![6, 0, 0] ![1, 128, 128] inb_S8x128x128_S1x128x128_6_0_0)))
      (term (View.ld (Val := Elt Ideal) (e' := EltTy.f32) R (Rect.unit (s := S8x128x128) ![7, 0, 0] ![1, 128, 128] inb_S8x128x128_S1x128x128_7_0_0)) (View.ld (Val := Elt Ideal) (e' := EltTy.f32) N (Rect.unit (s := S8x8x128) ![7, 3, 0] ![1, 1, 128] inb_S8x8x128_S1x1x128_7_3_0)) (View.ld (Val := Elt Ideal) (e' := EltTy.f32) A (Rect.unit (s := S8x8x128) ![7, 3, 0] ![1, 1, 128] inb_S8x8x128_S1x1x128_7_3_0)) (View.ld (Val := Elt Ideal) (e' := EltTy.f32) B (Rect.unit (s := S8x128x128) ![7, 0, 0] ![1, 128, 128] inb_S8x128x128_S1x128x128_7_0_0)))
      (k0_pay4 U H) 384 slices_S1024x128_o384_0_S128x128 := by
  unfold tile3 k0_pay38 k0_pay39 k0_pay40 k0_pay41 k0_pay42 k0_pay43 k0_pay44 k0_pay45 k0_pay46 row term
  with_reducible_and_instances rfl

theorem tile3_at (x : S128x128.Idx) (e : Fin 1024) (r : Fin 128) (h0 : (e : ℕ) = 384 + (x 0 : ℕ)) (h1 : (r : ℕ) = (x 1 : ℕ)) : tile3 U H A N B R x = weight U H A N B R e r := by
  refine (congrArg _ (eq_ix2 x)).trans ?_
  rw [tile3_eq, show r = (x 1 : Fin 128) from Fin.ext h1]
  exact piece_at U H A N B R 3 _ _ _ _ _ _ _ _ _ _ _ _ _ _ _ _ 384 _ (x 0) (x 1) e rfl h0

/-- The tile of row 4. -/
def tile4 : FVec Ideal S128x128 .bf16 :=
  k0_pay53 (k0_pay4 U H)
      (k0_pay50
        (k0_pay48
          (k0_pay47 (View.ld (Val := Elt Ideal) (e' := EltTy.f32) R (Rect.unit ![0, 0, 0] ![1, 128, 128] inb_S8x128x128_S1x128x128_0_0_0))
            (View.ld (Val := Elt Ideal) (e' := EltTy.f32) N (Rect.unit ![0, 4, 0] ![1, 1, 128] inb_S8x8x128_S1x1x128_0_4_0))
            (View.ld (Val := Elt Ideal) (e' := EltTy.f32) A (Rect.unit ![0, 4, 0] ![1, 1, 128] inb_S8x8x128_S1x1x128_0_4_0))
            (View.ld (Val := Elt Ideal) (e' := EltTy.f32) B (Rect.unit ![0, 0, 0] ![1, 128, 128] inb_S8x128x128_S1x128x128_0_0_0))
            (View.ld (Val := Elt Ideal) (e' := EltTy.f32) R (Rect.unit ![1, 0, 0] ![1, 128, 128] inb_S8x128x128_S1x128x128_1_0_0))
            (View.ld (Val := Elt Ideal) (e' := EltTy.f32) N (Rect.unit ![1, 4, 0] ![1, 1, 128] inb_S8x8x128_S1x1x128_1_4_0))
            (View.ld (Val := Elt Ideal) (e' := EltTy.f32) A (Rect.unit ![1, 4, 0] ![1, 1, 128] inb_S8x8x128_S1x1x128_1_4_0))
            (View.ld (Val := Elt Ideal) (e' := EltTy.f32) B (Rect.unit ![1, 0, 0] ![1, 128, 128] inb_S8x128x128_S1x128x128_1_0_0)))
          (View.ld (Val := Elt Ideal) (e' := EltTy.f32) R (Rect.unit ![2, 0, 0] ![1, 128, 128] inb_S8x128x128_S1x128x128_2_0_0))
          (View.ld (Val := Elt Ideal) (e' := EltTy.f32) N (Rect.unit ![2, 4, 0] ![1, 1, 128] inb_S8x8x128_S1x1x128_2_4_0))
          (View.ld (Val := Elt Ideal) (e' := EltTy.f32) A (Rect.unit ![2, 4, 0] ![1, 1, 128] inb_S8x8x128_S1x1x128_2_4_0))
          (View.ld (Val := Elt Ideal) (e' := EltTy.f32) B (Rect.unit ![2, 0, 0] ![1, 128, 128] inb_S8x128x128_S1x128x128_2_0_0))
          (View.ld (Val := Elt Ideal) (e' := EltTy.f32) R (Rect.unit ![3, 0, 0] ![1, 128, 128] inb_S8x128x128_S1x128x128_3_0_0))
          (View.ld (Val := Elt Ideal) (e' := EltTy.f32) N (Rect.unit ![3, 4, 0] ![1, 1, 128] inb_S8x8x128_S1x1x128_3_4_0))
          (View.ld (Val := Elt Ideal) (e' := EltTy.f32) A (Rect.unit ![3, 4, 0] ![1, 1, 128] inb_S8x8x128_S1x1x128_3_4_0))
          (View.ld (Val := Elt Ideal) (e' := EltTy.f32) B (Rect.unit ![3, 0, 0] ![1, 128, 128] inb_S8x128x128_S1x128x128_3_0_0)))
        (k0_pay49 (View.ld (Val := Elt Ideal) (e' := EltTy.f32) R (Rect.unit ![4, 0, 0] ![1, 128, 128] inb_S8x128x128_S1x128x128_4_0_0)))
        (View.ld (Val := Elt Ideal) (e' := EltTy.f32) N (Rect.unit ![4, 4, 0] ![1, 1, 128] inb_S8x8x128_S1x1x128_4_4_0))
        (View.ld (Val := Elt Ideal) (e' := EltTy.f32) A (Rect.unit ![4, 4, 0] ![1, 1, 128] inb_S8x8x128_S1x1x128_4_4_0))
        (View.ld (Val := Elt Ideal) (e' := EltTy.f32) B (Rect.unit ![4, 0, 0] ![1, 128, 128] inb_S8x128x128_S1x128x128_4_0_0))
        (View.ld (Val := Elt Ideal) (e' := EltTy.f32) R (Rect.unit ![5, 0, 0] ![1, 128, 128] inb_S8x128x128_S1x128x128_5_0_0))
        (View.ld (Val := Elt Ideal) (e' := EltTy.f32) N (Rect.unit ![5, 4, 0] ![1, 1, 128] inb_S8x8x128_S1x1x128_5_4_0))
        (View.ld (Val := Elt Ideal) (e' := EltTy.f32) A (Rect.unit ![5, 4, 0] ![1, 1, 128] inb_S8x8x128_S1x1x128_5_4_0))
        (View.ld (Val := Elt Ideal) (e' := EltTy.f32) B (Rect.unit ![5, 0, 0] ![1, 128, 128] inb_S8x128x128_S1x128x128_5_0_0)))
      (k0_pay51 (View.ld (Val := Elt Ideal) (e' := EltTy.f32) R (Rect.unit ![6, 0, 0] ![1, 128, 128] inb_S8x128x128_S1x128x128_6_0_0)))
      (k0_pay52 (View.ld (Val := Elt Ideal) (e' := EltTy.f32) N (Rect.unit ![6, 4, 0] ![1, 1, 128] inb_S8x8x128_S1x1x128_6_4_0)))
      (View.ld (Val := Elt Ideal) (e' := EltTy.f32) A (Rect.unit ![6, 4, 0] ![1, 1, 128] inb_S8x8x128_S1x1x128_6_4_0))
      (View.ld (Val := Elt Ideal) (e' := EltTy.f32) B (Rect.unit ![6, 0, 0] ![1, 128, 128] inb_S8x128x128_S1x128x128_6_0_0))
      (View.ld (Val := Elt Ideal) (e' := EltTy.f32) R (Rect.unit ![7, 0, 0] ![1, 128, 128] inb_S8x128x128_S1x128x128_7_0_0))
      (View.ld (Val := Elt Ideal) (e' := EltTy.f32) N (Rect.unit ![7, 4, 0] ![1, 1, 128] inb_S8x8x128_S1x1x128_7_4_0))
      (View.ld (Val := Elt Ideal) (e' := EltTy.f32) A (Rect.unit ![7, 4, 0] ![1, 1, 128] inb_S8x8x128_S1x1x128_7_4_0))
      (View.ld (Val := Elt Ideal) (e' := EltTy.f32) B (Rect.unit ![7, 0, 0] ![1, 128, 128] inb_S8x128x128_S1x128x128_7_0_0))

theorem tile4_eq : tile4 U H A N B R = row (term (View.ld (Val := Elt Ideal) (e' := EltTy.f32) R (Rect.unit (s := S8x128x128) ![0, 0, 0] ![1, 128, 128] inb_S8x128x128_S1x128x128_0_0_0)) (View.ld (Val := Elt Ideal) (e' := EltTy.f32) N (Rect.unit (s := S8x8x128) ![0, 4, 0] ![1, 1, 128] inb_S8x8x128_S1x1x128_0_4_0)) (View.ld (Val := Elt Ideal) (e' := EltTy.f32) A (Rect.unit (s := S8x8x128) ![0, 4, 0] ![1, 1, 128] inb_S8x8x128_S1x1x128_0_4_0)) (View.ld (Val := Elt Ideal) (e' := EltTy.f32) B (Rect.unit (s := S8x128x128) ![0, 0, 0] ![1, 128, 128] inb_S8x128x128_S1x128x128_0_0_0)))
      (term (View.ld (Val := Elt Ideal) (e' := EltTy.f32) R (Rect.unit (s := S8x128x128) ![1, 0, 0] ![1, 128, 128] inb_S8x128x128_S1x128x128_1_0_0)) (View.ld (Val := Elt Ideal) (e' := EltTy.f32) N (Rect.unit (s := S8x8x128) ![1, 4, 0] ![1, 1, 128] inb_S8x8x128_S1x1x128_1_4_0)) (View.ld (Val := Elt Ideal) (e' := EltTy.f32) A (Rect.unit (s := S8x8x128) ![1, 4, 0] ![1, 1, 128] inb_S8x8x128_S1x1x128_1_4_0)) (View.ld (Val := Elt Ideal) (e' := EltTy.f32) B (Rect.unit (s := S8x128x128) ![1, 0, 0] ![1, 128, 128] inb_S8x128x128_S1x128x128_1_0_0)))
      (term (View.ld (Val := Elt Ideal) (e' := EltTy.f32) R (Rect.unit (s := S8x128x128) ![2, 0, 0] ![1, 128, 128] inb_S8x128x128_S1x128x128_2_0_0)) (View.ld (Val := Elt Ideal) (e' := EltTy.f32) N (Rect.unit (s := S8x8x128) ![2, 4, 0] ![1, 1, 128] inb_S8x8x128_S1x1x128_2_4_0)) (View.ld (Val := Elt Ideal) (e' := EltTy.f32) A (Rect.unit (s := S8x8x128) ![2, 4, 0] ![1, 1, 128] inb_S8x8x128_S1x1x128_2_4_0)) (View.ld (Val := Elt Ideal) (e' := EltTy.f32) B (Rect.unit (s := S8x128x128) ![2, 0, 0] ![1, 128, 128] inb_S8x128x128_S1x128x128_2_0_0)))
      (term (View.ld (Val := Elt Ideal) (e' := EltTy.f32) R (Rect.unit (s := S8x128x128) ![3, 0, 0] ![1, 128, 128] inb_S8x128x128_S1x128x128_3_0_0)) (View.ld (Val := Elt Ideal) (e' := EltTy.f32) N (Rect.unit (s := S8x8x128) ![3, 4, 0] ![1, 1, 128] inb_S8x8x128_S1x1x128_3_4_0)) (View.ld (Val := Elt Ideal) (e' := EltTy.f32) A (Rect.unit (s := S8x8x128) ![3, 4, 0] ![1, 1, 128] inb_S8x8x128_S1x1x128_3_4_0)) (View.ld (Val := Elt Ideal) (e' := EltTy.f32) B (Rect.unit (s := S8x128x128) ![3, 0, 0] ![1, 128, 128] inb_S8x128x128_S1x128x128_3_0_0)))
      (term (View.ld (Val := Elt Ideal) (e' := EltTy.f32) R (Rect.unit (s := S8x128x128) ![4, 0, 0] ![1, 128, 128] inb_S8x128x128_S1x128x128_4_0_0)) (View.ld (Val := Elt Ideal) (e' := EltTy.f32) N (Rect.unit (s := S8x8x128) ![4, 4, 0] ![1, 1, 128] inb_S8x8x128_S1x1x128_4_4_0)) (View.ld (Val := Elt Ideal) (e' := EltTy.f32) A (Rect.unit (s := S8x8x128) ![4, 4, 0] ![1, 1, 128] inb_S8x8x128_S1x1x128_4_4_0)) (View.ld (Val := Elt Ideal) (e' := EltTy.f32) B (Rect.unit (s := S8x128x128) ![4, 0, 0] ![1, 128, 128] inb_S8x128x128_S1x128x128_4_0_0)))
      (term (View.ld (Val := Elt Ideal) (e' := EltTy.f32) R (Rect.unit (s := S8x128x128) ![5, 0, 0] ![1, 128, 128] inb_S8x128x128_S1x128x128_5_0_0)) (View.ld (Val := Elt Ideal) (e' := EltTy.f32) N (Rect.unit (s := S8x8x128) ![5, 4, 0] ![1, 1, 128] inb_S8x8x128_S1x1x128_5_4_0)) (View.ld (Val := Elt Ideal) (e' := EltTy.f32) A (Rect.unit (s := S8x8x128) ![5, 4, 0] ![1, 1, 128] inb_S8x8x128_S1x1x128_5_4_0)) (View.ld (Val := Elt Ideal) (e' := EltTy.f32) B (Rect.unit (s := S8x128x128) ![5, 0, 0] ![1, 128, 128] inb_S8x128x128_S1x128x128_5_0_0)))
      (term (View.ld (Val := Elt Ideal) (e' := EltTy.f32) R (Rect.unit (s := S8x128x128) ![6, 0, 0] ![1, 128, 128] inb_S8x128x128_S1x128x128_6_0_0)) (View.ld (Val := Elt Ideal) (e' := EltTy.f32) N (Rect.unit (s := S8x8x128) ![6, 4, 0] ![1, 1, 128] inb_S8x8x128_S1x1x128_6_4_0)) (View.ld (Val := Elt Ideal) (e' := EltTy.f32) A (Rect.unit (s := S8x8x128) ![6, 4, 0] ![1, 1, 128] inb_S8x8x128_S1x1x128_6_4_0)) (View.ld (Val := Elt Ideal) (e' := EltTy.f32) B (Rect.unit (s := S8x128x128) ![6, 0, 0] ![1, 128, 128] inb_S8x128x128_S1x128x128_6_0_0)))
      (term (View.ld (Val := Elt Ideal) (e' := EltTy.f32) R (Rect.unit (s := S8x128x128) ![7, 0, 0] ![1, 128, 128] inb_S8x128x128_S1x128x128_7_0_0)) (View.ld (Val := Elt Ideal) (e' := EltTy.f32) N (Rect.unit (s := S8x8x128) ![7, 4, 0] ![1, 1, 128] inb_S8x8x128_S1x1x128_7_4_0)) (View.ld (Val := Elt Ideal) (e' := EltTy.f32) A (Rect.unit (s := S8x8x128) ![7, 4, 0] ![1, 1, 128] inb_S8x8x128_S1x1x128_7_4_0)) (View.ld (Val := Elt Ideal) (e' := EltTy.f32) B (Rect.unit (s := S8x128x128) ![7, 0, 0] ![1, 128, 128] inb_S8x128x128_S1x128x128_7_0_0)))
      (k0_pay4 U H) 512 slices_S1024x128_o512_0_S128x128 := by
  unfold tile4 k0_pay47 k0_pay48 k0_pay49 k0_pay50 k0_pay51 k0_pay52 k0_pay53 row term
  with_reducible_and_instances rfl

theorem tile4_at (x : S128x128.Idx) (e : Fin 1024) (r : Fin 128) (h0 : (e : ℕ) = 512 + (x 0 : ℕ)) (h1 : (r : ℕ) = (x 1 : ℕ)) : tile4 U H A N B R x = weight U H A N B R e r := by
  refine (congrArg _ (eq_ix2 x)).trans ?_
  rw [tile4_eq, show r = (x 1 : Fin 128) from Fin.ext h1]
  exact piece_at U H A N B R 4 _ _ _ _ _ _ _ _ _ _ _ _ _ _ _ _ 512 _ (x 0) (x 1) e rfl h0

/-- The tile of row 5. -/
def tile5 : FVec Ideal S128x128 .bf16 :=
  k0_pay63 (k0_pay4 U H)
      (k0_pay60
        (k0_pay58
          (k0_pay55
            (k0_pay54 (View.ld (Val := Elt Ideal) (e' := EltTy.f32) R (Rect.unit ![0, 0, 0] ![1, 128, 128] inb_S8x128x128_S1x128x128_0_0_0)))
            (View.ld (Val := Elt Ideal) (e' := EltTy.f32) N (Rect.unit ![0, 5, 0] ![1, 1, 128] inb_S8x8x128_S1x1x128_0_5_0))
            (View.ld (Val := Elt Ideal) (e' := EltTy.f32) A (Rect.unit ![0, 5, 0] ![1, 1, 128] inb_S8x8x128_S1x1x128_0_5_0))
            (View.ld (Val := Elt Ideal) (e' := EltTy.f32) B (Rect.unit ![0, 0, 0] ![1, 128, 128] inb_S8x128x128_S1x128x128_0_0_0))
            (View.ld (Val := Elt Ideal) (e' := EltTy.f32) R (Rect.unit ![1, 0, 0] ![1, 128, 128] inb_S8x128x128_S1x128x128_1_0_0))
            (View.ld (Val := Elt Ideal) (e' := EltTy.f32) N (Rect.unit ![1, 5, 0] ![1, 1, 128] inb_S8x8x128_S1x1x128_1_5_0))
            (View.ld (Val := Elt Ideal) (e' := EltTy.f32) A (Rect.unit ![1, 5, 0] ![1, 1, 128] inb_S8x8x128_S1x1x128_1_5_0))
            (View.ld (Val := Elt Ideal) (e' := EltTy.f32) B (Rect.unit ![1, 0, 0] ![1, 128, 128] inb_S8x128x128_S1x128x128_1_0_0)))
          (k0_pay56 (View.ld (Val := Elt Ideal) (e' := EltTy.f32) R (Rect.unit ![2, 0, 0] ![1, 128, 128] inb_S8x128x128_S1x128x128_2_0_0)))
          (k0_pay57 (View.ld (Val := Elt Ideal) (e' := EltTy.f32) N (Rect.unit ![2, 5, 0] ![1, 1, 128] inb_S8x8x128_S1x1x128_2_5_0)))
          (View.ld (Val := Elt Ideal) (e' := EltTy.f32) A (Rect.unit ![2, 5, 0] ![1, 1, 128] inb_S8x8x128_S1x1x128_2_5_0))
          (View.ld (Val := Elt Ideal) (e' := EltTy.f32) B (Rect.unit ![2, 0, 0] ![1, 128, 128] inb_S8x128x128_S1x128x128_2_0_0))
          (View.ld (Val := Elt Ideal) (e' := EltTy.f32) R (Rect.unit ![3, 0, 0] ![1, 128, 128] inb_S8x128x128_S1x128x128_3_0_0))
          (View.ld (Val := Elt Ideal) (e' := EltTy.f32) N (Rect.unit ![3, 5, 0] ![1, 1, 128] inb_S8x8x128_S1x1x128_3_5_0))
          (View.ld (Val := Elt Ideal) (e' := EltTy.f32) A (Rect.unit ![3, 5, 0] ![1, 1, 128] inb_S8x8x128_S1x1x128_3_5_0))
          (View.ld (Val := Elt Ideal) (e' := EltTy.f32) B (Rect.unit ![3, 0, 0] ![1, 128, 128] inb_S8x128x128_S1x128x128_3_0_0)))
        (k0_pay59 (View.ld (Val := Elt Ideal) (e' := EltTy.f32) R (Rect.unit ![4, 0, 0] ![1, 128, 128] inb_S8x128x128_S1x128x128_4_0_0))
          (View.ld (Val := Elt Ideal) (e' := EltTy.f32) N (Rect.unit ![4, 5, 0] ![1, 1, 128] inb_S8x8x128_S1x1x128_4_5_0)))
        (View.ld (Val := Elt Ideal) (e' := EltTy.f32) A (Rect.unit ![4, 5, 0] ![1, 1, 128] inb_S8x8x128_S1x1x128_4_5_0))
        (View.ld (Val := Elt Ideal) (e' := EltTy.f32) B (Rect.unit ![4, 0, 0] ![1, 128, 128] inb_S8x128x128_S1x128x128_4_0_0))
        (View.ld (Val := Elt Ideal) (e' := EltTy.f32) R (Rect.unit ![5, 0, 0] ![1, 128, 128] inb_S8x128x128_S1x128x128_5_0_0))
        (View.ld (Val := Elt Ideal) (e' := EltTy.f32) N (Rect.unit ![5, 5, 0] ![1, 1, 128] inb_S8x8x128_S1x1x128_5_5_0))
        (View.ld (Val := Elt Ideal) (e' := EltTy.f32) A (Rect.unit ![5, 5, 0] ![1, 1, 128] inb_S8x8x128_S1x1x128_5_5_0))
        (View.ld (Val := Elt Ideal) (e' := EltTy.f32) B (Rect.unit ![5, 0, 0] ![1, 128, 128] inb_S8x128x128_S1x128x128_5_0_0)))
      (k0_pay61 (View.ld (Val := Elt Ideal) (e' := EltTy.f32) R (Rect.unit ![6, 0, 0] ![1, 128, 128] inb_S8x128x128_S1x128x128_6_0_0))
        (View.ld (Val := Elt Ideal) (e' := EltTy.f32) N (Rect.unit ![6, 5, 0] ![1, 1, 128] inb_S8x8x128_S1x1x128_6_5_0)))
      (k0_pay62 (View.ld (Val := Elt Ideal) (e' := EltTy.f32) A (Rect.unit ![6, 5, 0] ![1, 1, 128] inb_S8x8x128_S1x1x128_6_5_0)))
      (View.ld (Val := Elt Ideal) (e' := EltTy.f32) B (Rect.unit ![6, 0, 0] ![1, 128, 128] inb_S8x128x128_S1x128x128_6_0_0))
      (View.ld (Val := Elt Ideal) (e' := EltTy.f32) R (Rect.unit ![7, 0, 0] ![1, 128, 128] inb_S8x128x128_S1x128x128_7_0_0))
      (View.ld (Val := Elt Ideal) (e' := EltTy.f32) N (Rect.unit ![7, 5, 0] ![1, 1, 128] inb_S8x8x128_S1x1x128_7_5_0))
      (View.ld (Val := Elt Ideal) (e' := EltTy.f32) A (Rect.unit ![7, 5, 0] ![1, 1, 128] inb_S8x8x128_S1x1x128_7_5_0))
      (View.ld (Val := Elt Ideal) (e' := EltTy.f32) B (Rect.unit ![7, 0, 0] ![1, 128, 128] inb_S8x128x128_S1x128x128_7_0_0))

theorem tile5_eq : tile5 U H A N B R = row (term (View.ld (Val := Elt Ideal) (e' := EltTy.f32) R (Rect.unit (s := S8x128x128) ![0, 0, 0] ![1, 128, 128] inb_S8x128x128_S1x128x128_0_0_0)) (View.ld (Val := Elt Ideal) (e' := EltTy.f32) N (Rect.unit (s := S8x8x128) ![0, 5, 0] ![1, 1, 128] inb_S8x8x128_S1x1x128_0_5_0)) (View.ld (Val := Elt Ideal) (e' := EltTy.f32) A (Rect.unit (s := S8x8x128) ![0, 5, 0] ![1, 1, 128] inb_S8x8x128_S1x1x128_0_5_0)) (View.ld (Val := Elt Ideal) (e' := EltTy.f32) B (Rect.unit (s := S8x128x128) ![0, 0, 0] ![1, 128, 128] inb_S8x128x128_S1x128x128_0_0_0)))
      (term (View.ld (Val := Elt Ideal) (e' := EltTy.f32) R (Rect.unit (s := S8x128x128) ![1, 0, 0] ![1, 128, 128] inb_S8x128x128_S1x128x128_1_0_0)) (View.ld (Val := Elt Ideal) (e' := EltTy.f32) N (Rect.unit (s := S8x8x128) ![1, 5, 0] ![1, 1, 128] inb_S8x8x128_S1x1x128_1_5_0)) (View.ld (Val := Elt Ideal) (e' := EltTy.f32) A (Rect.unit (s := S8x8x128) ![1, 5, 0] ![1, 1, 128] inb_S8x8x128_S1x1x128_1_5_0)) (View.ld (Val := Elt Ideal) (e' := EltTy.f32) B (Rect.unit (s := S8x128x128) ![1, 0, 0] ![1, 128, 128] inb_S8x128x128_S1x128x128_1_0_0)))
      (term (View.ld (Val := Elt Ideal) (e' := EltTy.f32) R (Rect.unit (s := S8x128x128) ![2, 0, 0] ![1, 128, 128] inb_S8x128x128_S1x128x128_2_0_0)) (View.ld (Val := Elt Ideal) (e' := EltTy.f32) N (Rect.unit (s := S8x8x128) ![2, 5, 0] ![1, 1, 128] inb_S8x8x128_S1x1x128_2_5_0)) (View.ld (Val := Elt Ideal) (e' := EltTy.f32) A (Rect.unit (s := S8x8x128) ![2, 5, 0] ![1, 1, 128] inb_S8x8x128_S1x1x128_2_5_0)) (View.ld (Val := Elt Ideal) (e' := EltTy.f32) B (Rect.unit (s := S8x128x128) ![2, 0, 0] ![1, 128, 128] inb_S8x128x128_S1x128x128_2_0_0)))
      (term (View.ld (Val := Elt Ideal) (e' := EltTy.f32) R (Rect.unit (s := S8x128x128) ![3, 0, 0] ![1, 128, 128] inb_S8x128x128_S1x128x128_3_0_0)) (View.ld (Val := Elt Ideal) (e' := EltTy.f32) N (Rect.unit (s := S8x8x128) ![3, 5, 0] ![1, 1, 128] inb_S8x8x128_S1x1x128_3_5_0)) (View.ld (Val := Elt Ideal) (e' := EltTy.f32) A (Rect.unit (s := S8x8x128) ![3, 5, 0] ![1, 1, 128] inb_S8x8x128_S1x1x128_3_5_0)) (View.ld (Val := Elt Ideal) (e' := EltTy.f32) B (Rect.unit (s := S8x128x128) ![3, 0, 0] ![1, 128, 128] inb_S8x128x128_S1x128x128_3_0_0)))
      (term (View.ld (Val := Elt Ideal) (e' := EltTy.f32) R (Rect.unit (s := S8x128x128) ![4, 0, 0] ![1, 128, 128] inb_S8x128x128_S1x128x128_4_0_0)) (View.ld (Val := Elt Ideal) (e' := EltTy.f32) N (Rect.unit (s := S8x8x128) ![4, 5, 0] ![1, 1, 128] inb_S8x8x128_S1x1x128_4_5_0)) (View.ld (Val := Elt Ideal) (e' := EltTy.f32) A (Rect.unit (s := S8x8x128) ![4, 5, 0] ![1, 1, 128] inb_S8x8x128_S1x1x128_4_5_0)) (View.ld (Val := Elt Ideal) (e' := EltTy.f32) B (Rect.unit (s := S8x128x128) ![4, 0, 0] ![1, 128, 128] inb_S8x128x128_S1x128x128_4_0_0)))
      (term (View.ld (Val := Elt Ideal) (e' := EltTy.f32) R (Rect.unit (s := S8x128x128) ![5, 0, 0] ![1, 128, 128] inb_S8x128x128_S1x128x128_5_0_0)) (View.ld (Val := Elt Ideal) (e' := EltTy.f32) N (Rect.unit (s := S8x8x128) ![5, 5, 0] ![1, 1, 128] inb_S8x8x128_S1x1x128_5_5_0)) (View.ld (Val := Elt Ideal) (e' := EltTy.f32) A (Rect.unit (s := S8x8x128) ![5, 5, 0] ![1, 1, 128] inb_S8x8x128_S1x1x128_5_5_0)) (View.ld (Val := Elt Ideal) (e' := EltTy.f32) B (Rect.unit (s := S8x128x128) ![5, 0, 0] ![1, 128, 128] inb_S8x128x128_S1x128x128_5_0_0)))
      (term (View.ld (Val := Elt Ideal) (e' := EltTy.f32) R (Rect.unit (s := S8x128x128) ![6, 0, 0] ![1, 128, 128] inb_S8x128x128_S1x128x128_6_0_0)) (View.ld (Val := Elt Ideal) (e' := EltTy.f32) N (Rect.unit (s := S8x8x128) ![6, 5, 0] ![1, 1, 128] inb_S8x8x128_S1x1x128_6_5_0)) (View.ld (Val := Elt Ideal) (e' := EltTy.f32) A (Rect.unit (s := S8x8x128) ![6, 5, 0] ![1, 1, 128] inb_S8x8x128_S1x1x128_6_5_0)) (View.ld (Val := Elt Ideal) (e' := EltTy.f32) B (Rect.unit (s := S8x128x128) ![6, 0, 0] ![1, 128, 128] inb_S8x128x128_S1x128x128_6_0_0)))
      (term (View.ld (Val := Elt Ideal) (e' := EltTy.f32) R (Rect.unit (s := S8x128x128) ![7, 0, 0] ![1, 128, 128] inb_S8x128x128_S1x128x128_7_0_0)) (View.ld (Val := Elt Ideal) (e' := EltTy.f32) N (Rect.unit (s := S8x8x128) ![7, 5, 0] ![1, 1, 128] inb_S8x8x128_S1x1x128_7_5_0)) (View.ld (Val := Elt Ideal) (e' := EltTy.f32) A (Rect.unit (s := S8x8x128) ![7, 5, 0] ![1, 1, 128] inb_S8x8x128_S1x1x128_7_5_0)) (View.ld (Val := Elt Ideal) (e' := EltTy.f32) B (Rect.unit (s := S8x128x128) ![7, 0, 0] ![1, 128, 128] inb_S8x128x128_S1x128x128_7_0_0)))
      (k0_pay4 U H) 640 slices_S1024x128_o640_0_S128x128 := by
  unfold tile5 k0_pay54 k0_pay55 k0_pay56 k0_pay57 k0_pay58 k0_pay59 k0_pay60 k0_pay61 k0_pay62 k0_pay63 row term
  with_reducible_and_instances rfl

theorem tile5_at (x : S128x128.Idx) (e : Fin 1024) (r : Fin 128) (h0 : (e : ℕ) = 640 + (x 0 : ℕ)) (h1 : (r : ℕ) = (x 1 : ℕ)) : tile5 U H A N B R x = weight U H A N B R e r := by
  refine (congrArg _ (eq_ix2 x)).trans ?_
  rw [tile5_eq, show r = (x 1 : Fin 128) from Fin.ext h1]
  exact piece_at U H A N B R 5 _ _ _ _ _ _ _ _ _ _ _ _ _ _ _ _ 640 _ (x 0) (x 1) e rfl h0

/-- The tile of row 6. -/
def tile6 : FVec Ideal S128x128 .bf16 :=
  k0_pay74 (k0_pay4 U H)
      (k0_pay72
        (k0_pay68
          (k0_pay65
            (k0_pay64 (View.ld (Val := Elt Ideal) (e' := EltTy.f32) R (Rect.unit ![0, 0, 0] ![1, 128, 128] inb_S8x128x128_S1x128x128_0_0_0))
              (View.ld (Val := Elt Ideal) (e' := EltTy.f32) N (Rect.unit ![0, 6, 0] ![1, 1, 128] inb_S8x8x128_S1x1x128_0_6_0)))
            (View.ld (Val := Elt Ideal) (e' := EltTy.f32) A (Rect.unit ![0, 6, 0] ![1, 1, 128] inb_S8x8x128_S1x1x128_0_6_0))
            (View.ld (Val := Elt Ideal) (e' := EltTy.f32) B (Rect.unit ![0, 0, 0] ![1, 128, 128] inb_S8x128x128_S1x128x128_0_0_0))
            (View.ld (Val := Elt Ideal) (e' := EltTy.f32) R (Rect.unit ![1, 0, 0] ![1, 128, 128] inb_S8x128x128_S1x128x128_1_0_0))
            (View.ld (Val := Elt Ideal) (e' := EltTy.f32) N (Rect.unit ![1, 6, 0] ![1, 1, 128] inb_S8x8x128_S1x1x128_1_6_0))
            (View.ld (Val := Elt Ideal) (e' := EltTy.f32) A (Rect.unit ![1, 6, 0] ![1, 1, 128] inb_S8x8x128_S1x1x128_1_6_0))
            (View.ld (Val := Elt Ideal) (e' := EltTy.f32) B (Rect.unit ![1, 0, 0] ![1, 128, 128] inb_S8x128x128_S1x128x128_1_0_0)))
          (k0_pay66 (View.ld (Val := Elt Ideal) (e' := EltTy.f32) R (Rect.unit ![2, 0, 0] ![1, 128, 128] inb_S8x128x128_S1x128x128_2_0_0))
            (View.ld (Val := Elt Ideal) (e' := EltTy.f32) N (Rect.unit ![2, 6, 0] ![1, 1, 128] inb_S8x8x128_S1x1x128_2_6_0)))
          (k0_pay67 (View.ld (Val := Elt Ideal) (e' := EltTy.f32) A (Rect.unit ![2, 6, 0] ![1, 1, 128] inb_S8x8x128_S1x1x128_2_6_0)))
          (View.ld (Val := Elt Ideal) (e' := EltTy.f32) B (Rect.unit ![2, 0, 0] ![1, 128, 128] inb_S8x128x128_S1x128x128_2_0_0))
          (View.ld (Val := Elt Ideal) (e' := EltTy.f32) R (Rect.unit ![3, 0, 0] ![1, 128, 128] inb_S8x128x128_S1x128x128_3_0_0))
          (View.ld (Val := Elt Ideal) (e' := EltTy.f32) N (Rect.unit ![3, 6, 0] ![1, 1, 128] inb_S8x8x128_S1x1x128_3_6_0))
          (View.ld (Val := Elt Ideal) (e' := EltTy.f32) A (Rect.unit ![3, 6, 0] ![1, 1, 128] inb_S8x8x128_S1x1x128_3_6_0))
          (View.ld (Val := Elt Ideal) (e' := EltTy.f32) B (Rect.unit ![3, 0, 0] ![1, 128, 128] inb_S8x128x128_S1x128x128_3_0_0)))
        (k0_pay69 (View.ld (Val := Elt Ideal) (e' := EltTy.f32) R (Rect.unit ![4, 0, 0] ![1, 128, 128] inb_S8x128x128_S1x128x128_4_0_0))
          (View.ld (Val := Elt Ideal) (e' := EltTy.f32) N (Rect.unit ![4, 6, 0] ![1, 1, 128] inb_S8x8x128_S1x1x128_4_6_0)))
        (k0_pay70 (View.ld (Val := Elt Ideal) (e' := EltTy.f32) B (Rect.unit ![4, 0, 0] ![1, 128, 128] inb_S8x128x128_S1x128x128_4_0_0)))
        (k0_pay71 (View.ld (Val := Elt Ideal) (e' := EltTy.f32) A (Rect.unit ![4, 6, 0] ![1, 1, 128] inb_S8x8x128_S1x1x128_4_6_0)))
        (View.ld (Val := Elt Ideal) (e' := EltTy.f32) R (Rect.unit ![5, 0, 0] ![1, 128, 128] inb_S8x128x128_S1x128x128_5_0_0))
        (View.ld (Val := Elt Ideal) (e' := EltTy.f32) N (Rect.unit ![5, 6, 0] ![1, 1, 128] inb_S8x8x128_S1x1x128_5_6_0))
        (View.ld (Val := Elt Ideal) (e' := EltTy.f32) A (Rect.unit ![5, 6, 0] ![1, 1, 128] inb_S8x8x128_S1x1x128_5_6_0))
        (View.ld (Val := Elt Ideal) (e' := EltTy.f32) B (Rect.unit ![5, 0, 0] ![1, 128, 128] inb_S8x128x128_S1x128x128_5_0_0)))
      (k0_pay73 (View.ld (Val := Elt Ideal) (e' := EltTy.f32) R (Rect.unit ![6, 0, 0] ![1, 128, 128] inb_S8x128x128_S1x128x128_6_0_0))
        (View.ld (Val := Elt Ideal) (e' := EltTy.f32) N (Rect.unit ![6, 6, 0] ![1, 1, 128] inb_S8x8x128_S1x1x128_6_6_0))
        (View.ld (Val := Elt Ideal) (e' := EltTy.f32) A (Rect.unit ![6, 6, 0] ![1, 1, 128] inb_S8x8x128_S1x1x128_6_6_0))
        (View.ld (Val := Elt Ideal) (e' := EltTy.f32) B (Rect.unit ![6, 0, 0] ![1, 128, 128] inb_S8x128x128_S1x128x128_6_0_0)))
      (View.ld (Val := Elt Ideal) (e' := EltTy.f32) R (Rect.unit ![7, 0, 0] ![1, 128, 128] inb_S8x128x128_S1x128x128_7_0_0))
      (View.ld (Val := Elt Ideal) (e' := EltTy.f32) N (Rect.unit ![7, 6, 0] ![1, 1, 128] inb_S8x8x128_S1x1x128_7_6_0))
      (View.ld (Val := Elt Ideal) (e' := EltTy.f32) A (Rect.unit ![7, 6, 0] ![1, 1, 128] inb_S8x8x128_S1x1x128_7_6_0))
      (View.ld (Val := Elt Ideal) (e' := EltTy.f32) B (Rect.unit ![7, 0, 0] ![1, 128, 128] inb_S8x128x128_S1x128x128_7_0_0))

theorem tile6_eq : tile6 U H A N B R = row (term (View.ld (Val := Elt Ideal) (e' := EltTy.f32) R (Rect.unit (s := S8x128x128) ![0, 0, 0] ![1, 128, 128] inb_S8x128x128_S1x128x128_0_0_0)) (View.ld (Val := Elt Ideal) (e' := EltTy.f32) N (Rect.unit (s := S8x8x128) ![0, 6, 0] ![1, 1, 128] inb_S8x8x128_S1x1x128_0_6_0)) (View.ld (Val := Elt Ideal) (e' := EltTy.f32) A (Rect.unit (s := S8x8x128) ![0, 6, 0] ![1, 1, 128] inb_S8x8x128_S1x1x128_0_6_0)) (View.ld (Val := Elt Ideal) (e' := EltTy.f32) B (Rect.unit (s := S8x128x128) ![0, 0, 0] ![1, 128, 128] inb_S8x128x128_S1x128x128_0_0_0)))
      (term (View.ld (Val := Elt Ideal) (e' := EltTy.f32) R (Rect.unit (s := S8x128x128) ![1, 0, 0] ![1, 128, 128] inb_S8x128x128_S1x128x128_1_0_0)) (View.ld (Val := Elt Ideal) (e' := EltTy.f32) N (Rect.unit (s := S8x8x128) ![1, 6, 0] ![1, 1, 128] inb_S8x8x128_S1x1x128_1_6_0)) (View.ld (Val := Elt Ideal) (e' := EltTy.f32) A (Rect.unit (s := S8x8x128) ![1, 6, 0] ![1, 1, 128] inb_S8x8x128_S1x1x128_1_6_0)) (View.ld (Val := Elt Ideal) (e' := EltTy.f32) B (Rect.unit (s := S8x128x128) ![1, 0, 0] ![1, 128, 128] inb_S8x128x128_S1x128x128_1_0_0)))
      (term (View.ld (Val := Elt Ideal) (e' := EltTy.f32) R (Rect.unit (s := S8x128x128) ![2, 0, 0] ![1, 128, 128] inb_S8x128x128_S1x128x128_2_0_0)) (View.ld (Val := Elt Ideal) (e' := EltTy.f32) N (Rect.unit (s := S8x8x128) ![2, 6, 0] ![1, 1, 128] inb_S8x8x128_S1x1x128_2_6_0)) (View.ld (Val := Elt Ideal) (e' := EltTy.f32) A (Rect.unit (s := S8x8x128) ![2, 6, 0] ![1, 1, 128] inb_S8x8x128_S1x1x128_2_6_0)) (View.ld (Val := Elt Ideal) (e' := EltTy.f32) B (Rect.unit (s := S8x128x128) ![2, 0, 0] ![1, 128, 128] inb_S8x128x128_S1x128x128_2_0_0)))
      (term (View.ld (Val := Elt Ideal) (e' := EltTy.f32) R (Rect.unit (s := S8x128x128) ![3, 0, 0] ![1, 128, 128] inb_S8x128x128_S1x128x128_3_0_0)) (View.ld (Val := Elt Ideal) (e' := EltTy.f32) N (Rect.unit (s := S8x8x128) ![3, 6, 0] ![1, 1, 128] inb_S8x8x128_S1x1x128_3_6_0)) (View.ld (Val := Elt Ideal) (e' := EltTy.f32) A (Rect.unit (s := S8x8x128) ![3, 6, 0] ![1, 1, 128] inb_S8x8x128_S1x1x128_3_6_0)) (View.ld (Val := Elt Ideal) (e' := EltTy.f32) B (Rect.unit (s := S8x128x128) ![3, 0, 0] ![1, 128, 128] inb_S8x128x128_S1x128x128_3_0_0)))
      (term (View.ld (Val := Elt Ideal) (e' := EltTy.f32) R (Rect.unit (s := S8x128x128) ![4, 0, 0] ![1, 128, 128] inb_S8x128x128_S1x128x128_4_0_0)) (View.ld (Val := Elt Ideal) (e' := EltTy.f32) N (Rect.unit (s := S8x8x128) ![4, 6, 0] ![1, 1, 128] inb_S8x8x128_S1x1x128_4_6_0)) (View.ld (Val := Elt Ideal) (e' := EltTy.f32) A (Rect.unit (s := S8x8x128) ![4, 6, 0] ![1, 1, 128] inb_S8x8x128_S1x1x128_4_6_0)) (View.ld (Val := Elt Ideal) (e' := EltTy.f32) B (Rect.unit (s := S8x128x128) ![4, 0, 0] ![1, 128, 128] inb_S8x128x128_S1x128x128_4_0_0)))
      (term (View.ld (Val := Elt Ideal) (e' := EltTy.f32) R (Rect.unit (s := S8x128x128) ![5, 0, 0] ![1, 128, 128] inb_S8x128x128_S1x128x128_5_0_0)) (View.ld (Val := Elt Ideal) (e' := EltTy.f32) N (Rect.unit (s := S8x8x128) ![5, 6, 0] ![1, 1, 128] inb_S8x8x128_S1x1x128_5_6_0)) (View.ld (Val := Elt Ideal) (e' := EltTy.f32) A (Rect.unit (s := S8x8x128) ![5, 6, 0] ![1, 1, 128] inb_S8x8x128_S1x1x128_5_6_0)) (View.ld (Val := Elt Ideal) (e' := EltTy.f32) B (Rect.unit (s := S8x128x128) ![5, 0, 0] ![1, 128, 128] inb_S8x128x128_S1x128x128_5_0_0)))
      (term (View.ld (Val := Elt Ideal) (e' := EltTy.f32) R (Rect.unit (s := S8x128x128) ![6, 0, 0] ![1, 128, 128] inb_S8x128x128_S1x128x128_6_0_0)) (View.ld (Val := Elt Ideal) (e' := EltTy.f32) N (Rect.unit (s := S8x8x128) ![6, 6, 0] ![1, 1, 128] inb_S8x8x128_S1x1x128_6_6_0)) (View.ld (Val := Elt Ideal) (e' := EltTy.f32) A (Rect.unit (s := S8x8x128) ![6, 6, 0] ![1, 1, 128] inb_S8x8x128_S1x1x128_6_6_0)) (View.ld (Val := Elt Ideal) (e' := EltTy.f32) B (Rect.unit (s := S8x128x128) ![6, 0, 0] ![1, 128, 128] inb_S8x128x128_S1x128x128_6_0_0)))
      (term (View.ld (Val := Elt Ideal) (e' := EltTy.f32) R (Rect.unit (s := S8x128x128) ![7, 0, 0] ![1, 128, 128] inb_S8x128x128_S1x128x128_7_0_0)) (View.ld (Val := Elt Ideal) (e' := EltTy.f32) N (Rect.unit (s := S8x8x128) ![7, 6, 0] ![1, 1, 128] inb_S8x8x128_S1x1x128_7_6_0)) (View.ld (Val := Elt Ideal) (e' := EltTy.f32) A (Rect.unit (s := S8x8x128) ![7, 6, 0] ![1, 1, 128] inb_S8x8x128_S1x1x128_7_6_0)) (View.ld (Val := Elt Ideal) (e' := EltTy.f32) B (Rect.unit (s := S8x128x128) ![7, 0, 0] ![1, 128, 128] inb_S8x128x128_S1x128x128_7_0_0)))
      (k0_pay4 U H) 768 slices_S1024x128_o768_0_S128x128 := by
  unfold tile6 k0_pay64 k0_pay65 k0_pay66 k0_pay67 k0_pay68 k0_pay69 k0_pay70 k0_pay71 k0_pay72 k0_pay73 k0_pay74 row term
  with_reducible_and_instances rfl

theorem tile6_at (x : S128x128.Idx) (e : Fin 1024) (r : Fin 128) (h0 : (e : ℕ) = 768 + (x 0 : ℕ)) (h1 : (r : ℕ) = (x 1 : ℕ)) : tile6 U H A N B R x = weight U H A N B R e r := by
  refine (congrArg _ (eq_ix2 x)).trans ?_
  rw [tile6_eq, show r = (x 1 : Fin 128) from Fin.ext h1]
  exact piece_at U H A N B R 6 _ _ _ _ _ _ _ _ _ _ _ _ _ _ _ _ 768 _ (x 0) (x 1) e rfl h0

/-- The tile of row 7. -/
def tile7 : FVec Ideal S128x128 .bf16 :=
  k0_pay83 (k0_pay4 U H)
      (k0_pay81
        (k0_pay80
          (k0_pay78
            (k0_pay75 (View.ld (Val := Elt Ideal) (e' := EltTy.f32) R (Rect.unit ![0, 0, 0] ![1, 128, 128] inb_S8x128x128_S1x128x128_0_0_0))
              (View.ld (Val := Elt Ideal) (e' := EltTy.f32) N (Rect.unit ![0, 7, 0] ![1, 1, 128] inb_S8x8x128_S1x1x128_0_7_0)))
            (k0_pay76 (View.ld (Val := Elt Ideal) (e' := EltTy.f32) A (Rect.unit ![0, 7, 0] ![1, 1, 128] inb_S8x8x128_S1x1x128_0_7_0)))
            (k0_pay77 (View.ld (Val := Elt Ideal) (e' := EltTy.f32) B (Rect.unit ![0, 0, 0] ![1, 128, 128] inb_S8x128x128_S1x128x128_0_0_0)))
            (View.ld (Val := Elt Ideal) (e' := EltTy.f32) R (Rect.unit ![1, 0, 0] ![1, 128, 128] inb_S8x128x128_S1x128x128_1_0_0))
            (View.ld (Val := Elt Ideal) (e' := EltTy.f32) N (Rect.unit ![1, 7, 0] ![1, 1, 128] inb_S8x8x128_S1x1x128_1_7_0))
            (View.ld (Val := Elt Ideal) (e' := EltTy.f32) A (Rect.unit ![1, 7, 0] ![1, 1, 128] inb_S8x8x128_S1x1x128_1_7_0))
            (View.ld (Val := Elt Ideal) (e' := EltTy.f32) B (Rect.unit ![1, 0, 0] ![1, 128, 128] inb_S8x128x128_S1x128x128_1_0_0)))
          (k0_pay79 (View.ld (Val := Elt Ideal) (e' := EltTy.f32) R (Rect.unit ![2, 0, 0] ![1, 128, 128] inb_S8x128x128_S1x128x128_2_0_0))
            (View.ld (Val := Elt Ideal) (e' := EltTy.f32) N (Rect.unit ![2, 7, 0] ![1, 1, 128] inb_S8x8x128_S1x1x128_2_7_0))
            (View.ld (Val := Elt Ideal) (e' := EltTy.f32) A (Rect.unit ![2, 7, 0] ![1, 1, 128] inb_S8x8x128_S1x1x128_2_7_0))
            (View.ld (Val := Elt Ideal) (e' := EltTy.f32) B (Rect.unit ![2, 0, 0] ![1, 128, 128] inb_S8x128x128_S1x128x128_2_0_0)))
          (View.ld (Val := Elt Ideal) (e' := EltTy.f32) R (Rect.unit ![3, 0, 0] ![1, 128, 128] inb_S8x128x128_S1x128x128_3_0_0))
          (View.ld (Val := Elt Ideal) (e' := EltTy.f32) N (Rect.unit ![3, 7, 0] ![1, 1, 128] inb_S8x8x128_S1x1x128_3_7_0))
          (View.ld (Val := Elt Ideal) (e' := EltTy.f32) A (Rect.unit ![3, 7, 0] ![1, 1, 128] inb_S8x8x128_S1x1x128_3_7_0))
          (View.ld (Val := Elt Ideal) (e' := EltTy.f32) B (Rect.unit ![3, 0, 0] ![1, 128, 128] inb_S8x128x128_S1x128x128_3_0_0))
          (View.ld (Val := Elt Ideal) (e' := EltTy.f32) R (Rect.unit ![4, 0, 0] ![1, 128, 128] inb_S8x128x128_S1x128x128_4_0_0))
          (View.ld (Val := Elt Ideal) (e' := EltTy.f32) N (Rect.unit ![4, 7, 0] ![1, 1, 128] inb_S8x8x128_S1x1x128_4_7_0))
          (View.ld (Val := Elt Ideal) (e' := EltTy.f32) A (Rect.unit ![4, 7, 0] ![1, 1, 128] inb_S8x8x128_S1x1x128_4_7_0))
          (View.ld (Val := Elt Ideal) (e' := EltTy.f32) B (Rect.unit ![4, 0, 0] ![1, 128, 128] inb_S8x128x128_S1x128x128_4_0_0)))
        (View.ld (Val := Elt Ideal) (e' := EltTy.f32) R (Rect.unit ![5, 0, 0] ![1, 128, 128] inb_S8x128x128_S1x128x128_5_0_0))
        (View.ld (Val := Elt Ideal) (e' := EltTy.f32) N (Rect.unit ![5, 7, 0] ![1, 1, 128] inb_S8x8x128_S1x1x128_5_7_0))
        (View.ld (Val := Elt Ideal) (e' := EltTy.f32) A (Rect.unit ![5, 7, 0] ![1, 1, 128] inb_S8x8x128_S1x1x128_5_7_0))
        (View.ld (Val := Elt Ideal) (e' := EltTy.f32) B (Rect.unit ![5, 0, 0] ![1, 128, 128] inb_S8x128x128_S1x128x128_5_0_0))
        (View.ld (Val := Elt Ideal) (e' := EltTy.f32) R (Rect.unit ![6, 0, 0] ![1, 128, 128] inb_S8x128x128_S1x128x128_6_0_0))
        (View.ld (Val := Elt Ideal) (e' := EltTy.f32) N (Rect.unit ![6, 7, 0] ![1, 1, 128] inb_S8x8x128_S1x1x128_6_7_0))
        (View.ld (Val := Elt Ideal) (e' := EltTy.f32) A (Rect.unit ![6, 7, 0] ![1, 1, 128] inb_S8x8x128_S1x1x128_6_7_0))
        (View.ld (Val := Elt Ideal) (e' := EltTy.f32) B (Rect.unit ![6, 0, 0] ![1, 128, 128] inb_S8x128x128_S1x128x128_6_0_0)))
      (k0_pay82 (View.ld (Val := Elt Ideal) (e' := EltTy.f32) R (Rect.unit ![7, 0, 0] ![1, 128, 128] inb_S8x128x128_S1x128x128_7_0_0)))
      (View.ld (Val := Elt Ideal) (e' := EltTy.f32) N (Rect.unit ![7, 7, 0] ![1, 1, 128] inb_S8x8x128_S1x1x128_7_7_0))
      (View.ld (Val := Elt Ideal) (e' := EltTy.f32) A (Rect.unit ![7, 7, 0] ![1, 1, 128] inb_S8x8x128_S1x1x128_7_7_0))
      (View.ld (Val := Elt Ideal) (e' := EltTy.f32) B (Rect.unit ![7, 0, 0] ![1, 128, 128] inb_S8x128x128_S1x128x128_7_0_0))

theorem tile7_eq : tile7 U H A N B R = row (term (View.ld (Val := Elt Ideal) (e' := EltTy.f32) R (Rect.unit (s := S8x128x128) ![0, 0, 0] ![1, 128, 128] inb_S8x128x128_S1x128x128_0_0_0)) (View.ld (Val := Elt Ideal) (e' := EltTy.f32) N (Rect.unit (s := S8x8x128) ![0, 7, 0] ![1, 1, 128] inb_S8x8x128_S1x1x128_0_7_0)) (View.ld (Val := Elt Ideal) (e' := EltTy.f32) A (Rect.unit (s := S8x8x128) ![0, 7, 0] ![1, 1, 128] inb_S8x8x128_S1x1x128_0_7_0)) (View.ld (Val := Elt Ideal) (e' := EltTy.f32) B (Rect.unit (s := S8x128x128) ![0, 0, 0] ![1, 128, 128] inb_S8x128x128_S1x128x128_0_0_0)))
      (term (View.ld (Val := Elt Ideal) (e' := EltTy.f32) R (Rect.unit (s := S8x128x128) ![1, 0, 0] ![1, 128, 128] inb_S8x128x128_S1x128x128_1_0_0)) (View.ld (Val := Elt Ideal) (e' := EltTy.f32) N (Rect.unit (s := S8x8x128) ![1, 7, 0] ![1, 1, 128] inb_S8x8x128_S1x1x128_1_7_0)) (View.ld (Val := Elt Ideal) (e' := EltTy.f32) A (Rect.unit (s := S8x8x128) ![1, 7, 0] ![1, 1, 128] inb_S8x8x128_S1x1x128_1_7_0)) (View.ld (Val := Elt Ideal) (e' := EltTy.f32) B (Rect.unit (s := S8x128x128) ![1, 0, 0] ![1, 128, 128] inb_S8x128x128_S1x128x128_1_0_0)))
      (term (View.ld (Val := Elt Ideal) (e' := EltTy.f32) R (Rect.unit (s := S8x128x128) ![2, 0, 0] ![1, 128, 128] inb_S8x128x128_S1x128x128_2_0_0)) (View.ld (Val := Elt Ideal) (e' := EltTy.f32) N (Rect.unit (s := S8x8x128) ![2, 7, 0] ![1, 1, 128] inb_S8x8x128_S1x1x128_2_7_0)) (View.ld (Val := Elt Ideal) (e' := EltTy.f32) A (Rect.unit (s := S8x8x128) ![2, 7, 0] ![1, 1, 128] inb_S8x8x128_S1x1x128_2_7_0)) (View.ld (Val := Elt Ideal) (e' := EltTy.f32) B (Rect.unit (s := S8x128x128) ![2, 0, 0] ![1, 128, 128] inb_S8x128x128_S1x128x128_2_0_0)))
      (term (View.ld (Val := Elt Ideal) (e' := EltTy.f32) R (Rect.unit (s := S8x128x128) ![3, 0, 0] ![1, 128, 128] inb_S8x128x128_S1x128x128_3_0_0)) (View.ld (Val := Elt Ideal) (e' := EltTy.f32) N (Rect.unit (s := S8x8x128) ![3, 7, 0] ![1, 1, 128] inb_S8x8x128_S1x1x128_3_7_0)) (View.ld (Val := Elt Ideal) (e' := EltTy.f32) A (Rect.unit (s := S8x8x128) ![3, 7, 0] ![1, 1, 128] inb_S8x8x128_S1x1x128_3_7_0)) (View.ld (Val := Elt Ideal) (e' := EltTy.f32) B (Rect.unit (s := S8x128x128) ![3, 0, 0] ![1, 128, 128] inb_S8x128x128_S1x128x128_3_0_0)))
      (term (View.ld (Val := Elt Ideal) (e' := EltTy.f32) R (Rect.unit (s := S8x128x128) ![4, 0, 0] ![1, 128, 128] inb_S8x128x128_S1x128x128_4_0_0)) (View.ld (Val := Elt Ideal) (e' := EltTy.f32) N (Rect.unit (s := S8x8x128) ![4, 7, 0] ![1, 1, 128] inb_S8x8x128_S1x1x128_4_7_0)) (View.ld (Val := Elt Ideal) (e' := EltTy.f32) A (Rect.unit (s := S8x8x128) ![4, 7, 0] ![1, 1, 128] inb_S8x8x128_S1x1x128_4_7_0)) (View.ld (Val := Elt Ideal) (e' := EltTy.f32) B (Rect.unit (s := S8x128x128) ![4, 0, 0] ![1, 128, 128] inb_S8x128x128_S1x128x128_4_0_0)))
      (term (View.ld (Val := Elt Ideal) (e' := EltTy.f32) R (Rect.unit (s := S8x128x128) ![5, 0, 0] ![1, 128, 128] inb_S8x128x128_S1x128x128_5_0_0)) (View.ld (Val := Elt Ideal) (e' := EltTy.f32) N (Rect.unit (s := S8x8x128) ![5, 7, 0] ![1, 1, 128] inb_S8x8x128_S1x1x128_5_7_0)) (View.ld (Val := Elt Ideal) (e' := EltTy.f32) A (Rect.unit (s := S8x8x128) ![5, 7, 0] ![1, 1, 128] inb_S8x8x128_S1x1x128_5_7_0)) (View.ld (Val := Elt Ideal) (e' := EltTy.f32) B (Rect.unit (s := S8x128x128) ![5, 0, 0] ![1, 128, 128] inb_S8x128x128_S1x128x128_5_0_0)))
      (term (View.ld (Val := Elt Ideal) (e' := EltTy.f32) R (Rect.unit (s := S8x128x128) ![6, 0, 0] ![1, 128, 128] inb_S8x128x128_S1x128x128_6_0_0)) (View.ld (Val := Elt Ideal) (e' := EltTy.f32) N (Rect.unit (s := S8x8x128) ![6, 7, 0] ![1, 1, 128] inb_S8x8x128_S1x1x128_6_7_0)) (View.ld (Val := Elt Ideal) (e' := EltTy.f32) A (Rect.unit (s := S8x8x128) ![6, 7, 0] ![1, 1, 128] inb_S8x8x128_S1x1x128_6_7_0)) (View.ld (Val := Elt Ideal) (e' := EltTy.f32) B (Rect.unit (s := S8x128x128) ![6, 0, 0] ![1, 128, 128] inb_S8x128x128_S1x128x128_6_0_0)))
      (term (View.ld (Val := Elt Ideal) (e' := EltTy.f32) R (Rect.unit (s := S8x128x128) ![7, 0, 0] ![1, 128, 128] inb_S8x128x128_S1x128x128_7_0_0)) (View.ld (Val := Elt Ideal) (e' := EltTy.f32) N (Rect.unit (s := S8x8x128) ![7, 7, 0] ![1, 1, 128] inb_S8x8x128_S1x1x128_7_7_0)) (View.ld (Val := Elt Ideal) (e' := EltTy.f32) A (Rect.unit (s := S8x8x128) ![7, 7, 0] ![1, 1, 128] inb_S8x8x128_S1x1x128_7_7_0)) (View.ld (Val := Elt Ideal) (e' := EltTy.f32) B (Rect.unit (s := S8x128x128) ![7, 0, 0] ![1, 128, 128] inb_S8x128x128_S1x128x128_7_0_0)))
      (k0_pay4 U H) 896 slices_S1024x128_o896_0_S128x128 := by
  unfold tile7 k0_pay75 k0_pay76 k0_pay77 k0_pay78 k0_pay79 k0_pay80 k0_pay81 k0_pay82 k0_pay83 row term
  with_reducible_and_instances rfl

theorem tile7_at (x : S128x128.Idx) (e : Fin 1024) (r : Fin 128) (h0 : (e : ℕ) = 896 + (x 0 : ℕ)) (h1 : (r : ℕ) = (x 1 : ℕ)) : tile7 U H A N B R x = weight U H A N B R e r := by
  refine (congrArg _ (eq_ix2 x)).trans ?_
  rw [tile7_eq, show r = (x 1 : Fin 128) from Fin.ext h1]
  exact piece_at U H A N B R 7 _ _ _ _ _ _ _ _ _ _ _ _ _ _ _ _ 896 _ (x 0) (x 1) e rfl h0

end

end Cert.SampleDenseIdeal.Value
-- ==== Proof.SampleSums.lean ====
/-
What the sample's experts' kernel carries along a block of tokens, and its result at an index.
-/
module

public import proofs.«01_k».proof.Proof.SamplePieces
public import proofs.«01_k».proof.Proof.Expert
public import Idealize.ShloMosaic.Lib.Pointwise
public import Idealize.ShloMosaic.Lib.Pipeline.ValueKit

@[expose] public section

set_option maxRecDepth 16384

noncomputable section

namespace Cert.SampleDenseIdeal.Value

open Idealize.ShloMosaic Idealize.ShloMosaic.TcCoe Idealize.SL.Sem
open Idealize.ShloMosaic.Pipeline (Dat)
open Cert.SampleDenseIdeal Cert.SampleDenseIdeal.Gen
open Cert.Expert

variable (m : (ℓ : Loc nD τ sig) → Buf (Elt Ideal) ℓ) (c : Dev nD)

/-- What a point adds. -/
def added (t : Fin cfg0.N) (d : Fin 1024) (r : Fin 128) : EReal := blockSum (iblk m c 1 t) (iblk m c 0 t) (iblk m c 3 t) (iblk m c 4 t) (iblk m c 5 t) (iblk m c 6 t) (iblk m c 2 t) d r

theorem sum_first (t : Fin cfg0.N) (g0 : t.val % 16 = 0) (d : Fin 1024) (r : Fin 128) :
    (outsAt0 m c t.val t.isLt).2 (ix2 d r) = 0 + added m c t d r := by
  rw [outsAt0_A m c t g0 (by omega)]
  frame_out
  refine (added_of (iblk m c 1 t) (iblk m c 0 t) (iblk m c 3 t) (iblk m c 4 t) (iblk m c 5 t) (iblk m c 6 t) _ _ _ d r fun e => ?_).trans ?_
  rotate_left
  · exact congrArg (· + added m c t d r) (zeros_at d r)
  · clear g0
    rw [View.readCov_eq_canon']
    refine (congrArg _ (whole_idx e r)).trans ?_
    canon_tiles x h
    case piece0 => exact tile7_at _ _ _ _ _ _ x e r (by have h : (e : ℕ) = _ := h0; omega) h1
    case piece1 => exact tile6_at _ _ _ _ _ _ x e r (by have h : (e : ℕ) = _ := h0; omega) h1
    case piece2 => exact tile5_at _ _ _ _ _ _ x e r (by have h : (e : ℕ) = _ := h0; omega) h1
    case piece3 => exact tile4_at _ _ _ _ _ _ x e r (by have h : (e : ℕ) = _ := h0; omega) h1
    case piece4 => exact tile3_at _ _ _ _ _ _ x e r (by have h : (e : ℕ) = _ := h0; omega) h1
    case piece5 => exact tile2_at _ _ _ _ _ _ x e r (by have h : (e : ℕ) = _ := h0; omega) h1
    case piece6 => exact tile1_at _ _ _ _ _ _ x e r (by have h : (e : ℕ) = _ := h0; omega) h1
    case piece7 => exact tile0_at _ _ _ _ _ _ x e r (by have h : (e : ℕ) = _ := h0; omega) h1

theorem sum_next (t : Fin cfg0.N) (g0 : ¬ t.val % 16 = 0) (d : Fin 1024) (r : Fin 128) :
    (outsAt0 m c t.val t.isLt).2 (ix2 d r) = (outsAt0 m c (t.val - 1) (Nat.lt_of_le_of_lt (Nat.sub_le _ _) t.isLt)).2 (ix2 d r) + added m c t d r := by
  by_cases g1 : t.val % 16 = 15
  · rw [outsAt0_C m c t g0 g1]
    frame_out
    refine (added_of (iblk m c 1 t) (iblk m c 0 t) (iblk m c 3 t) (iblk m c 4 t) (iblk m c 5 t) (iblk m c 6 t) _ _ _ d r fun e => ?_).trans ?_
    rotate_left
    · exact congrArg (· + added m c t d r) (congrFun (Memref.IsWhole.read_unread _ _) _)
    clear g0 g1
    rw [View.readCov_eq_canon']
    refine (congrArg _ (whole_idx e r)).trans ?_
    canon_tiles x h
    case piece0 => exact tile7_at _ _ _ _ _ _ x e r (by have h : (e : ℕ) = _ := h0; omega) h1
    case piece1 => exact tile6_at _ _ _ _ _ _ x e r (by have h : (e : ℕ) = _ := h0; omega) h1
    case piece2 => exact tile5_at _ _ _ _ _ _ x e r (by have h : (e : ℕ) = _ := h0; omega) h1
    case piece3 => exact tile4_at _ _ _ _ _ _ x e r (by have h : (e : ℕ) = _ := h0; omega) h1
    case piece4 => exact tile3_at _ _ _ _ _ _ x e r (by have h : (e : ℕ) = _ := h0; omega) h1
    case piece5 => exact tile2_at _ _ _ _ _ _ x e r (by have h : (e : ℕ) = _ := h0; omega) h1
    case piece6 => exact tile1_at _ _ _ _ _ _ x e r (by have h : (e : ℕ) = _ := h0; omega) h1
    case piece7 => exact tile0_at _ _ _ _ _ _ x e r (by have h : (e : ℕ) = _ := h0; omega) h1

  · rw [outsAt0_B m c t g0 g1]
    frame_out
    refine (added_of (iblk m c 1 t) (iblk m c 0 t) (iblk m c 3 t) (iblk m c 4 t) (iblk m c 5 t) (iblk m c 6 t) _ _ _ d r fun e => ?_).trans ?_
    rotate_left
    · exact congrArg (· + added m c t d r) (congrFun (Memref.IsWhole.read_unread _ _) _)
    clear g0 g1
    rw [View.readCov_eq_canon']
    refine (congrArg _ (whole_idx e r)).trans ?_
    canon_tiles x h
    case piece0 => exact tile7_at _ _ _ _ _ _ x e r (by have h : (e : ℕ) = _ := h0; omega) h1
    case piece1 => exact tile6_at _ _ _ _ _ _ x e r (by have h : (e : ℕ) = _ := h0; omega) h1
    case piece2 => exact tile5_at _ _ _ _ _ _ x e r (by have h : (e : ℕ) = _ := h0; omega) h1
    case piece3 => exact tile4_at _ _ _ _ _ _ x e r (by have h : (e : ℕ) = _ := h0; omega) h1
    case piece4 => exact tile3_at _ _ _ _ _ _ x e r (by have h : (e : ℕ) = _ := h0; omega) h1
    case piece5 => exact tile2_at _ _ _ _ _ _ x e r (by have h : (e : ℕ) = _ := h0; omega) h1
    case piece6 => exact tile1_at _ _ _ _ _ _ x e r (by have h : (e : ℕ) = _ := h0; omega) h1
    case piece7 => exact tile0_at _ _ _ _ _ _ x e r (by have h : (e : ℕ) = _ := h0; omega) h1

theorem tile_last (t : Fin cfg0.N) (g0 : ¬ t.val % 16 = 0) (g1 : t.val % 16 = 15) :
    (outsAt0 m c t.val t.isLt).1 = k0_pay2 (iblk m c 7 t) (outsAt0 m c t.val t.isLt).2 (iblk m c 8 t) := by
  rw [outsAt0_C m c t g0 g1]
  frame_out

end Cert.SampleDenseIdeal.Value
-- ==== Proof.SampleAnswers.lean ====
/-
The sample's experts' kernel: the blocks its windows read, the sum it carries along a block of tokens, and its result at an index.
-/
module

public import proofs.«01_k».proof.Proof.SampleSums
public import proofs.«01_k».proof.Proof.Expert
public import Idealize.ShloMosaic.Lib.Pointwise
public import Idealize.ShloMosaic.Lib.Pipeline.ValueKit

@[expose] public section

set_option maxRecDepth 16384

noncomputable section

namespace Cert.SampleDenseIdeal.Value

open Idealize.ShloMosaic Idealize.ShloMosaic.TcCoe Idealize.SL.Sem
open Idealize.ShloMosaic.Pipeline (Dat)
open Cert.SampleDenseIdeal Cert.SampleDenseIdeal.Gen
open Cert.Expert

variable (m : (ℓ : Loc nD τ sig) → Buf (Elt Ideal) ℓ) (c : Dev nD)

theorem idx : ∀ t : Fin cfg0.N, win0_0.index t = ![0, t.val / 16] ∧ win0_1.index t = ![t.val % 16, 0] ∧ win0_2.index t = ![0, t.val % 16]
    ∧ win0_3.index t = ![0, t.val % 16, t.val / 16] ∧ win0_4.index t = ![0, t.val % 16, t.val / 16] ∧ win0_5.index t = ![0, 0, t.val / 16] ∧ win0_6.index t = ![0, 0, t.val / 16]
    ∧ win0_7.index t = ![t.val / 16, 0] ∧ win0_8.index t = ![0, 0] ∧ win0_9.index t = ![t.val / 16, 0] :=
  (by decide +kernel : ∀ t : Fin grid0.N, _)

/-- The normalised tokens, one a column. -/
abbrev hts : FVec Ideal S1024x128 .bf16 := m ((c : Thread nD τ).loc main_arg0)

/-- The first side's numbers. -/
abbrev ns : FVec Ideal S8x128x128 .f32 := m ((c : Thread nD τ).loc main_arg1)

/-- The first side's bounds. -/
abbrev nbs : FVec Ideal S8x128x128 .f32 := m ((c : Thread nD τ).loc main_arg2)

/-- The second side's numbers. -/
abbrev bs : FVec Ideal S8x128x128 .f32 := m ((c : Thread nD τ).loc main_arg3)

/-- The second side's ranks. -/
abbrev rs : FVec Ideal S8x128x128 .f32 := m ((c : Thread nD τ).loc main_arg4)

/-- The tokens. -/
abbrev xs : FVec Ideal S128x1024 .f32 := m ((c : Thread nD τ).loc main_arg5)

/-- The sample's experts' first rows. -/
abbrev us : FVec Ideal S16384x1024 .f32 := m ((c : Thread nD τ).loc main_arg6)

/-- The sample's experts' second rows. -/
abbrev vs : FVec Ideal S16384x1024 .f32 := m ((c : Thread nD τ).loc main_arg7)

/-- The gain of the normalisation. -/
abbrev gs : FVec Ideal S1024 .f32 := m ((c : Thread nD τ).loc main_arg8)

theorem first_at (e : Fin 16384) (k : Fin 1024) : (V m c main_v0 : FVec Ideal S16384x1024 .bf16) (ix2 e k) = us m c (ix2 e k) := by
  entry_read
  pointwise

theorem second_at (k : Fin 1024) (e : Fin 16384) : (V m c main_v2 : FVec Ideal S1024x16384 .bf16) (ix2 k e) = vs m c (ix2 e k) := by
  entry_read
  pointwise

theorem gain_at (k : Fin 1024) : (V m c main_v3 : FVec Ideal S1x1024 .f32) (ix2 0 k) = gs m c (ix1 k) := by
  entry_read
  pointwise

/-! The blocks the windows read. -/

theorem token_block (t : Fin cfg0.N) (k : Fin 1024) (r : Fin 128) (T : Fin 128) (hT : (T : ℕ) = t.val / 16 * 128 + r) :
    (iblk m c 0 t : Vec Ideal S1024x128 .bf16) (ix2 k r) = hts m c (ix2 k T) := by
  blk_ext [iblk, V, idx t]

theorem first_block (t : Fin cfg0.N) (e k : Fin 1024) (E : Fin 16384) (hE : (E : ℕ) = t.val % 16 * 1024 + e) :
    (iblk m c 1 t : Vec Ideal S1024x1024 .bf16) (ix2 e k) = us m c (ix2 E k) := by
  refine Eq.trans ?_ (first_at m c E k)
  blk_ext [iblk, idx t]

theorem second_block (t : Fin cfg0.N) (k e : Fin 1024) (E : Fin 16384) (hE : (E : ℕ) = t.val % 16 * 1024 + e) :
    (iblk m c 2 t : Vec Ideal S1024x1024 .bf16) (ix2 k e) = vs m c (ix2 E k) := by
  refine Eq.trans ?_ (second_at m c k E)
  blk_ext [iblk, idx t]

theorem number_block (t : Fin cfg0.N) (h i : Fin 8) (r : Fin 128) (I : Fin 128) (T : Fin 128) (hI : (I : ℕ) = t.val % 16 * 8 + i) (hT : (T : ℕ) = t.val / 16 * 128 + r) :
    (iblk m c 3 t : Vec Ideal S8x8x128 .f32) (ix3 h i r) = ns m c (ix3 h I T) := by
  blk_ext [iblk, V, idx t]

theorem bound_block (t : Fin cfg0.N) (h i : Fin 8) (r : Fin 128) (I : Fin 128) (T : Fin 128) (hI : (I : ℕ) = t.val % 16 * 8 + i) (hT : (T : ℕ) = t.val / 16 * 128 + r) :
    (iblk m c 4 t : Vec Ideal S8x8x128 .f32) (ix3 h i r) = nbs m c (ix3 h I T) := by
  blk_ext [iblk, V, idx t]

theorem other_block (t : Fin cfg0.N) (h : Fin 8) (j : Fin 128) (r : Fin 128) (T : Fin 128) (hT : (T : ℕ) = t.val / 16 * 128 + r) :
    (iblk m c 5 t : Vec Ideal S8x128x128 .f32) (ix3 h j r) = bs m c (ix3 h j T) := by
  blk_ext [iblk, V, idx t]

theorem rank_block (t : Fin cfg0.N) (h : Fin 8) (j : Fin 128) (r : Fin 128) (T : Fin 128) (hT : (T : ℕ) = t.val / 16 * 128 + r) :
    (iblk m c 6 t : Vec Ideal S8x128x128 .f32) (ix3 h j r) = rs m c (ix3 h j T) := by
  blk_ext [iblk, V, idx t]

theorem old_block (t : Fin cfg0.N) (r : Fin 128) (k : Fin 1024) (T : Fin 128) (hT : (T : ℕ) = t.val / 16 * 128 + r) :
    (iblk m c 7 t : Vec Ideal S128x1024 .f32) (ix2 r k) = xs m c (ix2 T k) := by
  blk_ext [iblk, V, idx t]

theorem gain_block (t : Fin cfg0.N) (k : Fin 1024) : (iblk m c 8 t : Vec Ideal S1x1024 .f32) (ix2 0 k) = gs m c (ix1 k) := by
  rw [← gain_at m c k]
  blk_ext [iblk, idx t]

/-- Column `d` of what expert `e` adds to token `T`. -/
def partOf (T : Fin 128) (d : Fin 1024) (e : ℕ) : EReal :=
  if h : e < 16384 then part (hts m c) (ns m c) (nbs m c) (bs m c) (rs m c) (us m c) (vs m c) T d ⟨e, h⟩ else 0

theorem weight_block (t : Fin cfg0.N) (e : Fin 1024) (r : Fin 128) (T : Fin 128) (E : Fin 16384) (hT : (T : ℕ) = t.val / 16 * 128 + r) (hE : (E : ℕ) = t.val % 16 * 1024 + e) :
    weight (iblk m c 1 t) (iblk m c 0 t) (iblk m c 3 t) (iblk m c 4 t) (iblk m c 5 t) (iblk m c 6 t) e r
      = gate (ns m c) (nbs m c) (bs m c) (rs m c) ⟨E / 128, by omega⟩ ⟨E % 128, Nat.mod_lt _ (by decide)⟩ T * active (hts m c) (us m c) E T := by
  have hj : (⟨e % 128, Nat.mod_lt _ (by decide)⟩ : Fin 128) = ⟨E % 128, Nat.mod_lt _ (by decide)⟩ := Fin.ext (by show (e : ℕ) % 128 = E % 128; omega)
  have hi : ((⟨E / 128, by omega⟩ : Fin 128) : ℕ) = t.val % 16 * 8 + (⟨e / 128, by omega⟩ : Fin 8) := by show (E : ℕ) / 128 = t.val % 16 * 8 + (e : ℕ) / 128; omega
  unfold weight gate active
  rw [hj]
  refine congrArg₂ (· * ·) (Finset.sum_congr rfl fun h _ => ?_) (congrArg Gate.gelu (Finset.sum_congr rfl fun k _ => ?_))
  · rw [rank_block m c t h _ r T hT, bound_block m c t h _ r _ T hi hT, number_block m c t h _ r _ T hi hT, other_block m c t h _ r T hT]
  · exact congrArg₂ (· * ·) (first_block m c t e k E hE) (token_block m c t k r T hT)

theorem blockSum_eq (U : Vec Ideal S1024x1024 .bf16) (H : Vec Ideal S1024x128 .bf16) (A N : Vec Ideal S8x8x128 .f32) (B R : Vec Ideal S8x128x128 .f32) (W : Vec Ideal S1024x1024 .bf16) (d : Fin 1024) (r : Fin 128)
    (v w : Fin 1024 → EReal) (hv : ∀ e, W (ix2 d e) = v e) (hw : ∀ e, weight U H A N B R e r = w e) : blockSum U H A N B R W d r = ∑ e, w e * v e := by
  unfold blockSum
  exact Finset.sum_congr rfl fun e _ => (congrArg₂ (· * ·) (hv e) (hw e)).trans (mul_comm _ _)

theorem added_block (t : Fin cfg0.N) (d : Fin 1024) (r : Fin 128) (T : Fin 128) (hT : (T : ℕ) = t.val / 16 * 128 + r) :
    added m c t d r = ∑ e ∈ Finset.range 1024, partOf m c T d (t.val % 16 * 1024 + e) := by
  rw [Finset.sum_range]
  have hE : ∀ e : Fin 1024, t.val % 16 * 1024 + (e : ℕ) < 16384 := fun e => by omega
  refine (blockSum_eq _ _ _ _ _ _ _ d r _ _ (fun e => second_block m c t d e ⟨_, hE e⟩ rfl) (fun e => weight_block m c t e r T ⟨_, hE e⟩ hT rfl)).trans (Finset.sum_congr rfl fun e _ => ?_)
  rw [partOf, dif_pos (hE e)]
  rfl

/-- What the scratch carries: the sum over the experts so far. -/
theorem carried : ∀ (n : ℕ) (hn : n < cfg0.N) (d : Fin 1024) (r : Fin 128) (T : Fin 128), (T : ℕ) = n / 16 * 128 + r →
    (outsAt0 m c n hn).2 (ix2 d r) = ∑ e ∈ Finset.range ((n % 16 + 1) * 1024), partOf m c T d e := by
  intro n
  induction n with
  | zero =>
    intro hn d r T hT
    rw [sum_first m c ⟨0, hn⟩ rfl, added_block m c ⟨0, hn⟩ d r T hT, zero_add]
    exact Finset.sum_congr rfl fun e _ => congrArg (partOf m c T d) (Nat.zero_add e)
  | succ n ih =>
    intro hn d r T hT
    by_cases h0 : (n + 1) % 16 = 0
    · have e0 : ∀ e, (n + 1) % 16 * 1024 + e = e := fun e => by omega
      rw [sum_first m c ⟨n + 1, hn⟩ h0, added_block m c ⟨n + 1, hn⟩ d r T hT, zero_add, show ((n + 1) % 16 + 1) * 1024 = 1024 by omega]
      exact Finset.sum_congr rfl fun e _ => congrArg (partOf m c T d) (e0 e)
    · rw [sum_next m c ⟨n + 1, hn⟩ h0, added_block m c ⟨n + 1, hn⟩ d r T hT, show ((n + 1) % 16 + 1) * 1024 = (n + 1) % 16 * 1024 + 1024 by omega, Finset.sum_range_add]
      have e := ih (Nat.lt_of_succ_lt hn) d r T (by omega)
      rw [show (n % 16 + 1) * 1024 = (n + 1) % 16 * 1024 by omega] at e
      exact congrArg (· + _) e

theorem answer_at (t : Fin cfg0.N) (h : t.val % 16 = 15) (d : Fin 1024) (r : Fin 128) (T : Fin 128) (hT : (T : ℕ) = t.val / 16 * 128 + r) :
    (outsAt0 m c t.val t.isLt).2 (ix2 d r) = ∑ e : Fin 16384, part (hts m c) (ns m c) (nbs m c) (bs m c) (rs m c) (us m c) (vs m c) T d e := by
  rw [carried m c t.val t.isLt d r T hT, h, Finset.sum_range]
  exact Finset.sum_congr rfl fun e _ => dif_pos e.isLt

/-- A stored tile at an index. -/
theorem tile_at (t : Fin cfg0.N) (h : t.val % 16 = 15) (r : Fin 128) (k : Fin 1024) (T : Fin 128) (K : Fin 1024) (hT : (T : ℕ) = t.val / 16 * 128 + r) (hK : (K : ℕ) = k) :
    (outsAt0 m c t.val t.isLt).1 (ix2 r k) = entry (hts m c) (ns m c) (nbs m c) (bs m c) (rs m c) (xs m c) (us m c) (vs m c) (gs m c) T K := by
  rw [show K = k from Fin.ext hK]
  rw [tile_last m c t (by omega) h, final_at]
  unfold entry answered
  refine congrArg₂ (fun x g => Rotary.normed x g k) (funext fun l => ?_) (funext fun l => gain_block m c t l)
  exact congrArg₂ (· + ·) (old_block m c t r l T hT) (answer_at m c t h l r T hT)

/-- The array of the result. -/
theorem final9_at :
    (dats m 0 c).arrAt 9 (cfgs 0).N = fun i => entry (hts m c) (ns m c) (nbs m c) (bs m c) (rs m c) (xs m c) (us m c) (vs m c) (gs m c) (i 0 : Fin 128) (i 1 : Fin 1024) := by
  refine (dats m 0 c).arrAt_eq_of_covers 9 _ (by decide +kernel) fun t hf y => ?_
  have h : t.val % 16 = 15 := by exact (flush0_9 t).mp hf
  blk_simp
  rw [after0_9]
  refine Eq.trans ?_ (tile_at m c t h (y 0) (y 1) _ _ ?_ ?_)
  · exact congrArg _ (eq_ix2 y)
  · blk_simp [idx t]
  · blk_simp [idx t]

end Cert.SampleDenseIdeal.Value
-- ==== Proof.SampleExperts.lean ====
/-
The plain experts of the sample, their result at an index.
-/
module

public import proofs.«01_k».proof.Proof.Gen.SampleExpertsIdeal.Run
public import proofs.«01_k».proof.Proof.Expert
public import Idealize.ShloMosaic.Lib.Pointwise

@[expose] public section

set_option maxRecDepth 16384

noncomputable section

namespace Cert.SampleExpertsIdeal.Value

open Idealize.ShloMosaic Idealize.ShloMosaic.TcCoe Idealize.SL.Sem
open Cert.SampleExpertsIdeal Cert.SampleExpertsIdeal.Gen
open Cert.Expert

section
variable (ht : FVec Ideal S1024x128 .bf16) (a nb b r1 : FVec Ideal S8x128x128 .f32) (x1 : FVec Ideal S128x1024 .f32)
  (u v : FVec Ideal S16384x1024 .f32) (g : FVec Ideal S1024 .f32)

/-- A table of the first side, for every expert of the second. -/
def overSecond (z : FVec Ideal S8x128x128 .f32) : FVec Ideal S8x128x128x128 .f32 :=
  broadcastInDim S8x128x128x128 ![0, 1, 2, 3] bcast_S8x128x1x128_S8x128x128x128_0_1_2_3 (broadcastInDim S8x128x1x128 ![0, 1, 3] bcast_S8x128x128_S8x128x1x128_0_1_3 z)

/-- A table of the second side, for every expert of the first. -/
def overFirst (z : FVec Ideal S8x128x128 .f32) : FVec Ideal S8x128x128x128 .f32 :=
  broadcastInDim S8x128x128x128 ![0, 1, 2, 3] bcast_S8x1x128x128_S8x128x128x128_0_1_2_3 (broadcastInDim S8x1x128x128 ![0, 2, 3] bcast_S8x128x128_S8x1x128x128_0_2_3 z)

theorem overSecond_at (z : FVec Ideal S8x128x128 .f32) (h : Fin 8) (i j : Fin 128) (t : Fin 128) : overSecond z (ix4 h i j t) = z (ix3 h i t) := by
  pointwise [overSecond]

theorem overFirst_at (z : FVec Ideal S8x128x128 .f32) (h : Fin 8) (i j : Fin 128) (t : Fin 128) : overFirst z (ix4 h i j t) = z (ix3 h j t) := by
  pointwise [overFirst]

/-- Every head's part of every gate. -/
def shares : FVec Ideal S8x128x128x128 .f32 :=
  select (cmpf .olt (overFirst r1) (overSecond nb)) (mulf (overSecond a) (overFirst b)) (broadcastInDim S8x128x128x128 ![] bcast_S_S8x128x128x128 (id (constant S_ .f32 0x00000000#32)))

theorem shares_at (h : Fin 8) (i j : Fin 128) (t : Fin 128) :
    shares a nb b r1 (ix4 h i j t) = share (r1 (ix3 h j t)) (nb (ix3 h i t)) (a (ix3 h i t)) (b (ix3 h j t)) := by
  pointwise [shares, id]
  rw [overFirst_at, overFirst_at, overSecond_at, overSecond_at]
  rfl

/-- The sum over the heads. -/
def overHeads (z : FVec Ideal S8x128x128x128 .f32) : FVec Ideal S128x128x128 .f32 :=
  Host.reduceAdd z (constant S_ .f32 0x00000000#32) reducesTo_S8x128x128x128_S128x128x128_d0 h_S_

theorem overHeads_at (z : FVec Ideal S8x128x128x128 .f32) (i j : Fin 128) (t : Fin 128) : overHeads z (ix3 i j t) = ∑ h : Fin 8, z (ix4 h i j t) := by
  pointwise [overHeads]

/-- The gates, one row an expert. -/
def gates : FVec Ideal S16384x128 .f32 := shapeCast S16384x128 (overHeads (shares a nb b r1)) shapeCasts_S128x128x128_S16384x128

theorem gates_at (e : Fin 16384) (t : Fin 128) :
    gates a nb b r1 (ix2 e t) = gate a nb b r1 ⟨e / 128, by omega⟩ ⟨e % 128, Nat.mod_lt _ (by decide)⟩ t := by
  pointwise [gates]
  refine (overHeads_at _ _ _ _).trans ?_
  exact Finset.sum_congr rfl fun h _ => shares_at a nb b r1 h _ _ t

/-- The products of the sample's experts' rows with the tokens. -/
def products : FVec Ideal S16384x128 .f32 := Host.dotGeneral dot_S16384x1024_S1024x128_S16384x128_1_0_0_1_n_n none u (extf .f32 ht bitsLt_bf16_f32)

theorem products_at (e : Fin 16384) (t : Fin 128) : products ht u (ix2 e t) = ∑ k : Fin 1024, u (ix2 e k) * ht (ix2 k t) := by
  pointwise [products]

/-- A number at every entry. -/
def everywhere (w : BitVec 32) : FVec Ideal S16384x128 .f32 := broadcastInDim S16384x128 ![] bcast_S_S16384x128 (constant S_ .f32 w)

/-- The rectifier. -/
def geluArray (z : FVec Ideal S16384x128 .f32) : FVec Ideal S16384x128 .f32 :=
  mulf z (mulf (everywhere 0x3F000000#32) (addf (everywhere 0x3F800000#32) (Host.tanh (mulf (everywhere 0x3F4C422A#32) (addf z (mulf (everywhere 0x3D372713#32) (mulf (mulf z z) z)))))))

theorem geluArray_at (z : FVec Ideal S16384x128 .f32) (e : Fin 16384) (t : Fin 128) : geluArray z (ix2 e t) = Gate.gelu (z (ix2 e t)) := by
  pointwise [geluArray, everywhere]
  unfold Gate.gelu
  rw [mul_comm (z (ix2 e t)) (z (ix2 e t) * z (ix2 e t))]

/-- What the experts add. -/
def sums (z : FVec Ideal S16384x128 .f32) : FVec Ideal S128x1024 .f32 := Host.dotGeneral dot_S16384x128_S16384x1024_S128x1024_0_0_1_1_n_n none z v

theorem sums_at (z : FVec Ideal S16384x128 .f32) (t : Fin 128) (k : Fin 1024) : sums v z (ix2 t k) = ∑ e : Fin 16384, z (ix2 e t) * v (ix2 e k) := by
  pointwise [sums]

/-- The tokens plus what the experts add. -/
def answeredArray : FVec Ideal S128x1024 .f32 := addf x1 (sums v (mulf (gates a nb b r1) (geluArray (products ht u))))

theorem answeredArray_at (t : Fin 128) (k : Fin 1024) : answeredArray ht a nb b r1 x1 u v (ix2 t k) = answered ht a nb b r1 x1 u v t k := by
  pointwise [answeredArray]
  rw [sums_at]
  refine congrArg (x1 (ix2 t k) + ·) (Finset.sum_congr rfl fun e _ => ?_)
  pointwise
  rw [gates_at, geluArray_at, products_at]
  rfl

/-- The normalisation. -/
def normedArray (z : FVec Ideal S128x1024 .f32) : FVec Ideal S128x1024 .f32 :=
  mulf (mulf z (broadcastInDim S128x1024 ![0, 1] bcast_S128x1_S128x1024_0_1 (Host.rsqrt (addf (Host.divf (broadcastInDim S128x1 ![0] bcast_S128_S128x1_0 (Host.reduceAdd (mulf z z) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

theorem normedArray_at (z : FVec Ideal S128x1024 .f32) (t : Fin 128) (k : Fin 1024) :
    normedArray g z (ix2 t k) = Rotary.normed (fun l => z (ix2 t l)) (fun l => g (ix1 l)) k := by
  pointwise [normedArray]
  rfl

end

section
variable (m : (ℓ : Loc nD τ sig) → Buf (Elt Ideal) ℓ) (c : Dev nD)

theorem out_eq : (res_out0 m c : FVec Ideal S128x1024 .f32)
    = normedArray (m ((c.tc : Thread nD τ).loc main_arg8)) (answeredArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold res_out0 res_main_v43 normedArray answeredArray sums geluArray everywhere products gates overHeads shares overFirst overSecond
  with_reducible_and_instances rfl

theorem out_at (t : Fin 128) (k : Fin 1024) : (res_out0 m c : FVec Ideal S128x1024 .f32) (ix2 t k)
    = entry (T := 128) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) t k := by
  rw [out_eq, normedArray_at]
  exact congrArg (fun z => Rotary.normed z _ _) (funext fun l => answeredArray_at _ _ _ _ _ _ _ _ _ l)

end

end Cert.SampleExpertsIdeal.Value
-- ==== Proof.Softmax.lean ====
/-
The softmax of a row of scores over the extended reals, and two facts the attention needs:
a column whose score is `⊥` counts for nothing, so the softmax over a window of columns is the one over the
columns of the window that are not masked; and a finite scale comes out of a dot product of finite vectors.
-/
module

public import Idealize.ShloMosaic.Lib.Pointwise

@[expose] public section

noncomputable section

namespace Cert.Attend

open Idealize.ShloMosaic

/-- The greatest score of a row, from `⊥`. -/
def top {n : ℕ} (s : Fin n → EReal) : EReal := Finset.univ.fold max ⊥ s

/-- The sum of the exponentials of a row, each score less the greatest. -/
def den {n : ℕ} (s : Fin n → EReal) : EReal := ∑ j, Ideal.exp (s j - top s)

/-- The values `v` averaged by the softmax of the scores `s`. -/
def mean {n : ℕ} (s v : Fin n → EReal) : EReal := ∑ j, Ideal.div (Ideal.exp (s j - top s)) (den s) * v j

/-- The log of the sum of the exponentials of the scores. -/
def lse {n : ℕ} (s : Fin n → EReal) : EReal := top s + Ideal.log (den s)

theorem le_top_of {n : ℕ} (s : Fin n → EReal) (j : Fin n) : s j ≤ top s :=
  (Finset.le_fold_max _).2 (Or.inr ⟨j, Finset.mem_univ j, le_rfl⟩)

theorem top_le_iff {n : ℕ} (s : Fin n → EReal) (c : EReal) : top s ≤ c ↔ ∀ j, s j ≤ c := by
  unfold top; rw [Finset.fold_max_le]; simp

theorem exp_nonneg (x : EReal) : 0 ≤ Ideal.exp x := by
  induction x using EReal.rec with
  | bot => simp
  | top => simp
  | coe r => rw [Ideal.exp_coe]; exact_mod_cast (Real.exp_pos r).le

theorem exp_self_sub {x : EReal} (hb : x ≠ ⊥) (ht : x ≠ ⊤) : Ideal.exp (x - x) = 1 := by
  lift x to ℝ using ⟨ht, hb⟩
  rw [← EReal.coe_sub, sub_self, Ideal.exp_coe, Real.exp_zero, EReal.coe_one]

/-- The greatest of finitely many scores is one of them, when one of them is above `⊥`. -/
theorem exists_eq_top {n : ℕ} (s : Fin n → EReal) (i : Fin n) (hi : s i ≠ ⊥) : ∃ j, s j = top s := by
  by_contra hne
  push Not at hne
  have hlt : ∀ j, s j < top s := fun j => lt_of_le_of_ne (le_top_of s j) (hne j)
  have : top s < top s := by
    conv_lhs => unfold top
    refine (Finset.fold_max_lt _).2 ⟨?_, fun j _ => hlt j⟩
    exact lt_of_lt_of_le (bot_lt_iff_ne_bot.2 hi) (le_top_of s i)
  exact lt_irrefl _ this

/-- The denominator of a row of scores none of which is `⊤` and one of which is above `⊥` is not zero. -/
theorem den_ne_zero {n : ℕ} (s : Fin n → EReal) (ht : ∀ j, s j ≠ ⊤) (i : Fin n) (hi : s i ≠ ⊥) : den s ≠ 0 := by
  obtain ⟨j, hj⟩ := exists_eq_top s i hi
  have hb : top s ≠ ⊥ := fun h => hi (le_bot_iff.1 (h ▸ le_top_of s i))
  have h1 : (1 : EReal) ≤ den s := by
    unfold den
    have hs := Finset.single_le_sum (f := fun j => Ideal.exp (s j - top s)) (fun k _ => exp_nonneg _) (Finset.mem_univ j)
    refine le_trans (le_of_eq ?_) hs
    show 1 = Ideal.exp (s j - top s)
    rw [hj, exp_self_sub hb (hj ▸ ht j)]
  intro h0
  rw [h0] at h1
  exact absurd h1 (not_le.2 zero_lt_one)

section Window
variable {n k : ℕ} (e : Fin k → Fin n) (he : Function.Injective e) (f : Fin n → EReal) (g : Fin k → EReal)
  (hin : ∀ m, f (e m) = g m) (hout : ∀ c, c ∉ Set.range e → f c = ⊥)
include hin hout

/-- Columns outside a window are masked: the greatest score is the window's. -/
theorem top_window : top f = top g := by
  refine le_antisymm ((top_le_iff _ _).2 fun c => ?_) ((top_le_iff _ _).2 fun m => hin m ▸ le_top_of f (e m))
  by_cases hc : c ∈ Set.range e
  · obtain ⟨m, rfl⟩ := hc
    exact hin m ▸ le_top_of g m
  · rw [hout c hc]; exact bot_le

include he

/-- Columns outside a window are masked: the denominator is the window's. -/
theorem den_window : den f = den g := by
  unfold den
  rw [top_window e f g hin hout]
  refine (Fintype.sum_of_injective e he (fun m => Ideal.exp (g m - top g)) _ (fun c hc => ?_) fun m => ?_).symm
  · rw [hout c hc, EReal.bot_sub, Ideal.exp_bot]
  · rw [hin m]

/-- Columns outside a window are masked: the log of the sum of the exponentials is the window's. -/
theorem lse_window : lse f = lse g := by
  unfold lse
  rw [top_window e f g hin hout, den_window e he f g hin hout]

/-- Columns outside a window are masked, and the values agree on the columns of the window that are not: the mean is
    the window's. -/
theorem mean_window (v : Fin n → EReal) (w : Fin k → EReal) (hv : ∀ m, g m ≠ ⊥ → v (e m) = w m) (hd : den g ≠ 0) :
    mean f v = mean g w := by
  unfold mean
  rw [top_window e f g hin hout, den_window e he f g hin hout]
  have hz : ∀ x y : EReal, x = ⊥ → Ideal.div (Ideal.exp (x - top g)) (den g) * y = 0 := fun x y hx => by
    rw [hx, EReal.bot_sub, Ideal.exp_bot, Ideal.zero_div hd, zero_mul]
  refine (Fintype.sum_of_injective e he (fun m => Ideal.div (Ideal.exp (g m - top g)) (den g) * w m) _
    (fun c hc => hz _ _ (hout c hc)) fun m => ?_).symm
  rw [hin m]
  by_cases hm : g m = ⊥
  · rw [hz _ _ hm, hz _ _ hm]
  · rw [hv m hm]

end Window

/-- A number that is neither `⊥` nor `⊤`. -/
def Finite (x : EReal) : Prop := x ≠ ⊥ ∧ x ≠ ⊤

theorem Finite.exists_coe {x : EReal} (h : Finite x) : ∃ r : ℝ, x = r := ⟨x.toReal, (EReal.coe_toReal h.2 h.1).symm⟩

theorem finite_coe (r : ℝ) : Finite (r : EReal) := ⟨EReal.coe_ne_bot r, EReal.coe_ne_top r⟩

theorem coe_sum_real {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The dot product of two finite vectors is finite. -/
theorem finite_dot {n : ℕ} (q k : Fin n → EReal) (hq : ∀ d, Finite (q d)) (hk : ∀ d, Finite (k d)) :
    Finite (∑ d, q d * k d) := by
  choose a ha using fun d => (hq d).exists_coe
  choose b hb using fun d => (hk d).exists_coe
  have : ∑ d, q d * k d = ((∑ d, a d * b d : ℝ) : EReal) := by
    rw [coe_sum_real]
    exact Finset.sum_congr rfl fun d _ => by rw [ha d, hb d, EReal.coe_mul]
  rw [this]; exact finite_coe _

theorem Finite.mul {x y : EReal} (hx : Finite x) (hy : Finite y) : Finite (x * y) := by
  obtain ⟨a, rfl⟩ := hx.exists_coe
  obtain ⟨b, rfl⟩ := hy.exists_coe
  rw [← EReal.coe_mul]; exact finite_coe _

/-- A finite scale on one of two finite vectors comes out of their dot product. -/
theorem dot_scale {n : ℕ} (q k : Fin n → EReal) (c : EReal) (hq : ∀ d, Finite (q d)) (hk : ∀ d, Finite (k d)) (hc : Finite c) :
    ∑ d, q d * c * k d = (∑ d, q d * k d) * c := by
  choose a ha using fun d => (hq d).exists_coe
  choose b hb using fun d => (hk d).exists_coe
  obtain ⟨r, rfl⟩ := hc.exists_coe
  have h1 : ∑ d, q d * k d = ((∑ d, a d * b d : ℝ) : EReal) := by
    rw [coe_sum_real]
    exact Finset.sum_congr rfl fun d _ => by rw [ha d, hb d, EReal.coe_mul]
  have h2 : ∑ d, q d * r * k d = ((∑ d, a d * r * b d : ℝ) : EReal) := by
    rw [coe_sum_real]
    exact Finset.sum_congr rfl fun d _ => by rw [ha d, hb d, EReal.coe_mul, EReal.coe_mul]
  rw [h1, h2, ← EReal.coe_mul, Finset.sum_mul]
  congr 1
  exact Finset.sum_congr rfl fun d _ => by ring

end Cert.Attend
-- ==== Proof.Block.lean ====
/-
What one block of the attention kernel computes, for one pair of heads: 128 queries against the 256 keys of the
previous and the current block. Stated over the loaded vectors and the grid coordinate that names the block, so that
the four pairs of heads and the three dilation groups are instances.
-/
module

public import proofs.«01_k».proof.Proof.Gen.Attn1Ideal.Frame
public import proofs.«01_k».proof.Proof.Softmax

@[expose] public section

set_option maxRecDepth 16384

noncomputable section

namespace Cert.Attend

open Idealize.ShloMosaic Idealize.ShloMosaic.TcCoe Idealize.SL.Sem
open Cert.Attn1Ideal Cert.Attn1Ideal.Gen

/-! ## The block, as vectors -/

/-- Which of the 256 keys each query sees: at most 128 back, none ahead, none of a block before the first. -/
def seen (w : BitVec 32) : IVec S128x256 1 :=
  andi (andi
      (cmpi .sge (subi (addi (broadcast S128x256 128#32) (iota .tc S128x256 32 [0] iota_S128x256_d0_w32)) (iota .tc S128x256 32 [1] iota_S128x256_d1_w32)) (broadcast S128x256 0#32))
      (cmpi .sle (subi (addi (broadcast S128x256 128#32) (iota .tc S128x256 32 [0] iota_S128x256_d0_w32)) (iota .tc S128x256 32 [1] iota_S128x256_d1_w32)) (broadcast S128x256 128#32)))
    (cmpi .sge (iota .tc S128x256 32 [1] iota_S128x256_d1_w32) (broadcast S128x256 (Scalar.select (Scalar.cmpi .sgt w 0#32) 0#32 128#32)))

/-- The lanes of the first head of the pair. -/
def lowHead : IVec S128x128 1 := cmpi .slt (iota .tc S128x128 32 [1] iota_S128x128_d1_w32) (broadcast S128x128 64#32)

/-- The lanes of the second. -/
def highHead : IVec S128x128 1 := xori lowHead (constantI S128x128 1 1#1)

/-- Two blocks of 128 rows, one above the other. -/
def stack (a b : FVec Ideal S128x128 .f32) : FVec Ideal S256x128 .bf16 :=
  truncf .bf16 (concatenate S256x128 0 [⟨S128x128, a⟩, ⟨S128x128, b⟩] concatenates_S128x128_S128x128_S256x128_d0) bitsLt_bf16_f32

/-- The scores of one head: the scaled queries on the head's lanes against the keys, masked. -/
def scores (w : BitVec 32) (hd : IVec S128x128 1) (q : FVec Ideal S128x128 .f32) (k : FVec Ideal S256x128 .bf16) : FVec Ideal S128x256 .f32 :=
  select (seen w)
    (matmul dot_S128x128_S256x128_S128x256_1_1_0_0_n_n none
      (truncf .bf16 (select hd (mulf q (broadcast S128x128 (Scalar.ofBits .f32 0x3E000000#32))) (broadcast S128x128 (Scalar.ofBits .f32 0x00000000#32))) bitsLt_bf16_f32)
      k (constant S128x256 .f32 0x00000000#32))
    (broadcast S128x256 (Named.named κ "mask" 0xFF7F0000#32))

/-- Each row's greatest score. -/
def greatest (s : FVec Ideal S128x256 .f32) : FVec Ideal S128x1 .f32 :=
  shapeCast S128x1 (multiReduction .maximumf [1] S128 s 0xFF800000#32 reduces_S128x256_S128 (.inl rfl) rfl) shapeCasts_S128_S128x1

/-- The exponentials. -/
def expo (s : FVec Ideal S128x256 .f32) : FVec Ideal S128x256 .f32 :=
  exp (subf s (broadcastTo S128x256 (greatest s) broadcasts_S128x1_S128x256))

/-- Their row sums. -/
def total (s : FVec Ideal S128x256 .f32) : FVec Ideal S128x1 .f32 :=
  shapeCast S128x1 (multiReduction .add [1] S128 (expo s) 0x00000000#32 reduces_S128x256_S128 (.inl rfl) rfl) shapeCasts_S128_S128x1

/-- The values averaged by one head's softmax. -/
def averaged (s : FVec Ideal S128x256 .f32) (v : FVec Ideal S256x128 .bf16) : FVec Ideal S128x128 .f32 :=
  matmul dot_S128x256_S256x128_S128x128_1_0_0_1_n_n none
    (truncf .bf16 (divf (expo s) (broadcastTo S128x256 (total s) broadcasts_S128x1_S128x256)) bitsLt_bf16_f32)
    v (constant S128x128 .f32 0x00000000#32)

/-- One head's log of the sum of the exponentials, on every lane. -/
def logged (s : FVec Ideal S128x256 .f32) : FVec Ideal S128x128 .f32 :=
  broadcastTo S128x128 (shapeCast S128x1 (addf (greatest s) (log (total s))) shapeCasts_S128x1_S128x1) broadcasts_S128x1_S128x128

/-- The pair's output: each head on its own lanes. -/
def pairO (w : BitVec 32) (q k1 k2 v1 v2 : FVec Ideal S128x128 .f32) : FVec Ideal S128x128 .f32 :=
  select lowHead (averaged (scores w lowHead q (stack k1 k2)) (stack v1 v2)) (averaged (scores w highHead q (stack k1 k2)) (stack v1 v2))

/-- The pair's log of the sum of the exponentials: each head on its own lanes. -/
def pairL (w : BitVec 32) (q k1 k2 : FVec Ideal S128x128 .f32) : FVec Ideal S128x128 .f32 :=
  select lowHead (logged (scores w lowHead q (stack k1 k2))) (logged (scores w highHead q (stack k1 k2)))

/-! ## The block, at an index -/

/-- The row of one of the 256 keys: of the previous block below 128, of the current one from there. -/
def row {α : Type} (a b : Fin 128 → α) (c : Fin 256) : α :=
  if h : (c : ℕ) < 128 then a ⟨c, h⟩ else b ⟨c - 128, by omega⟩

/-- The key `c` is seen by the query `a` of block `n`. -/
def Sees (n : ℕ) (a : Fin 128) (c : Fin 256) : Prop := ((a : ℕ) ≤ c ∧ (c : ℕ) ≤ 128 + a) ∧ (n = 0 → 128 ≤ (c : ℕ))

instance (n : ℕ) (a : Fin 128) (c : Fin 256) : Decidable (Sees n a c) := by unfold Sees; infer_instance

theorem back_bits (a : Fin 128) (c : Fin 256) :
    IntOp.andi (IntOp.cmpi CmpIPredicate.sge (IntOp.subi (IntOp.addi (128#32) (BitVec.ofNat 32 ↑a)) (BitVec.ofNat 32 ↑c)) 0#32)
        (IntOp.cmpi CmpIPredicate.sle (IntOp.subi (IntOp.addi (128#32) (BitVec.ofNat 32 ↑a)) (BitVec.ofNat 32 ↑c)) 128#32)
      = if (a : ℕ) ≤ c ∧ (c : ℕ) ≤ 128 + a then 1#1 else 0#1 := by
  have ha := a.isLt
  have hc := c.isLt
  have h1 : (IntOp.subi (IntOp.addi (128#32) (BitVec.ofNat 32 ↑a)) (BitVec.ofNat 32 ↑c)).toInt = 128 + (a : ℤ) - c := by
    simp only [IntOp.subi, IntOp.addi, BitVec.toInt_eq_toNat_cond, BitVec.toNat_sub, BitVec.toNat_add, BitVec.toNat_ofNat]
    omega
  simp only [IntOp.cmpi, BitVec.sle, h1]
  have h0 : (0#32 : BitVec 32).toInt = 0 := by decide
  have h128 : (128#32 : BitVec 32).toInt = 128 := by decide
  rw [h0, h128]
  by_cases h2 : (c : ℕ) ≤ 128 + a <;> by_cases h3 : (a : ℕ) ≤ c
  · rw [if_pos ⟨h3, h2⟩, decide_eq_true (by omega), decide_eq_true (by omega)]; rfl
  · rw [if_neg fun h => h3 h.1, decide_eq_true (by omega), decide_eq_false (by omega)]; rfl
  · rw [if_neg fun h => h2 h.2, decide_eq_false (by omega), decide_eq_true (by omega)]; rfl
  · omega

theorem first_bits : ∀ c : Fin 256, (IntOp.cmpi CmpIPredicate.sge (BitVec.ofNat 32 ↑c) 0#32 = 1#1)
    ∧ IntOp.cmpi CmpIPredicate.sge (BitVec.ofNat 32 ↑c) 128#32 = if 128 ≤ (c : ℕ) then 1#1 else 0#1 := by
  decide +kernel

theorem start_bits : ∀ n : Fin 4096, Scalar.select (Scalar.cmpi CmpIPredicate.sgt (BitVec.ofNat 32 n) 0#32) (0#32 : BitVec 32) 128#32
    = if (n : ℕ) = 0 then 128#32 else 0#32 := by
  decide +kernel

/-- The mask at an index: a query sees the keys at most 128 back, and in the first block only those of the block. -/
theorem seen_at (n : ℕ) (hn : n < 4096) (a : Fin 128) (c : Fin 256) :
    seen (BitVec.ofNat 32 n) (ix2 a c) = if Sees n a c then 1#1 else 0#1 := by
  pointwise [seen]
  rw [back_bits, start_bits ⟨n, hn⟩]
  by_cases h0 : n = 0
  · rw [if_pos (show ((⟨n, hn⟩ : Fin 4096) : ℕ) = 0 from h0), (first_bits c).2]
    by_cases h1 : (a : ℕ) ≤ c ∧ (c : ℕ) ≤ 128 + a <;> by_cases h2 : 128 ≤ (c : ℕ) <;> simp [Sees, h0, h1, h2, IntOp.andi]
  · rw [if_neg (show ¬((⟨n, hn⟩ : Fin 4096) : ℕ) = 0 from h0), (first_bits c).1]
    by_cases h1 : (a : ℕ) ≤ c ∧ (c : ℕ) ≤ 128 + a <;> simp [Sees, h0, h1, IntOp.andi]

/-- The lanes of head `u` (0 or 1) of the pair. -/
def headLanes (u : Fin 2) : IVec S128x128 1 := if u = 0 then lowHead else highHead

theorem lane_bits : ∀ l : Fin 128, IntOp.cmpi CmpIPredicate.slt (BitVec.ofNat 32 ↑l) 64#32 = if (l : ℕ) < 64 then 1#1 else 0#1 := by
  decide +kernel

theorem lowHead_at (a b : Fin 128) : lowHead (ix2 a b) = if (b : ℕ) < 64 then 1#1 else 0#1 := by
  pointwise [lowHead]
  exact lane_bits b

theorem highHead_at (a b : Fin 128) : highHead (ix2 a b) = if (b : ℕ) < 64 then 0#1 else 1#1 := by
  pointwise [highHead]
  rw [lowHead_at]
  by_cases h : (b : ℕ) < 64 <;> simp [h, IntOp.xori]

theorem headLanes_at (u : Fin 2) (a : Fin 128) (v : Fin 2) (d : Fin 64) (hl : (v : ℕ) * 64 + d < 128) :
    headLanes u (ix2 a ⟨v * 64 + d, hl⟩) = if u = v then 1#1 else 0#1 := by
  unfold headLanes
  have hd := d.isLt
  match u, v with
  | 0, 0 => rw [if_pos rfl, lowHead_at, if_pos rfl]; exact if_pos (by simp)
  | 0, 1 => rw [if_pos rfl, lowHead_at, if_neg (show ¬(0 : Fin 2) = 1 by decide)]; exact if_neg (by simp)
  | 1, 0 => rw [if_neg (show ¬(1 : Fin 2) = 0 by decide), highHead_at, if_neg (show ¬(1 : Fin 2) = 0 by decide)]; exact if_pos (by simp)
  | 1, 1 => rw [if_neg (show ¬(1 : Fin 2) = 0 by decide), highHead_at, if_pos rfl]; exact if_neg (by simp)

theorem minus_infinity : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

/-- A sum over the 128 lanes that only head `u`'s lanes enter is the sum over its 64 lanes. -/
theorem sum_headLanes (u : Fin 2) (a : Fin 128) (f : Fin 128 → EReal) :
    ∑ l : Fin 128, Scalar.select (headLanes u (ix2 a l)) (f l) 0 = ∑ d : Fin 64, f ⟨u * 64 + d, by omega⟩ := by
  rw [Fin.sum_univ_tiles 2 64 rfl, Fin.sum_univ_two]
  have h : ∀ v : Fin 2, ∑ d : Fin 64, Scalar.select (headLanes u (ix2 a ⟨v * 64 + d, by omega⟩)) (f ⟨v * 64 + d, by omega⟩) 0
      = if u = v then ∑ d : Fin 64, f ⟨v * 64 + d, by omega⟩ else 0 := fun v => by
    split
    · exact Finset.sum_congr rfl fun d _ => by rw [headLanes_at, if_pos ‹_›]; rfl
    · exact Finset.sum_eq_zero fun d _ => by rw [headLanes_at, if_neg ‹_›]; rfl
  refine (congrArg₂ (· + ·) (h 0) (h 1)).trans ?_
  match u with
  | 0 => simp
  | 1 => simp

theorem select_one (x y : EReal) : Scalar.select 1#1 x y = x := rfl

theorem select_zero (x y : EReal) : Scalar.select 0#1 x y = y := rfl

/-- One head's score at an index. -/
theorem scores_at (n : ℕ) (hn : n < 4096) (u : Fin 2) (q : FVec Ideal S128x128 .f32) (k : FVec Ideal S256x128 .bf16) (a : Fin 128) (c : Fin 256)
    (hq : ∀ l : Fin 128, Finite (q (ix2 a l))) (hk : ∀ l : Fin 128, Finite (k (ix2 c l))) :
    scores (BitVec.ofNat 32 n) (headLanes u) q k (ix2 a c) = if Sees n a c then
      (∑ d : Fin 64, q (ix2 a ⟨u * 64 + d, by omega⟩) * k (ix2 c ⟨u * 64 + d, by omega⟩)) * Ideal.ofBits .f32 0x3E000000#32 else ⊥ := by
  pointwise [scores]
  rw [seen_at n hn]
  split
  · refine (select_one _ _).trans ((sum_headLanes u a _).trans ?_)
    exact dot_scale _ _ _ (fun d => hq _) (fun d => hk _) (eighth ▸ finite_coe _)
  · refine (select_zero _ _).trans ?_
    rfl

theorem averaged_at (s : FVec Ideal S128x256 .f32) (v : FVec Ideal S256x128 .bf16) (a b : Fin 128) :
    averaged s v (ix2 a b) = mean (fun c => s (ix2 a c)) (fun c => v (ix2 c b)) := by
  pointwise [averaged, expo, total, greatest]
  rw [minus_infinity]
  rfl

theorem logged_at (s : FVec Ideal S128x256 .f32) (a b : Fin 128) :
    logged s (ix2 a b) = lse (fun c => s (ix2 a c)) := by
  pointwise [logged, expo, total, greatest]
  rw [minus_infinity]
  rfl

theorem stack_at (x y : FVec Ideal S128x128 .f32) (c : Fin 256) (b : Fin 128) :
    stack x y (ix2 c b) = row (fun r => x (ix2 r b)) (fun r => y (ix2 r b)) c := by
  pointwise [stack, row]

/-- The score of the key `c` for the query `a` of block `n`, head `u` of the pair, from the rows of the block. -/
def blockScore (n : ℕ) (q k1 k2 : FVec Ideal S128x128 .f32) (a : Fin 128) (u : Fin 2) (c : Fin 256) : EReal :=
  if Sees n a c then
    (∑ d : Fin 64, q (ix2 a ⟨u * 64 + d, by omega⟩) * row (fun r => k1 (ix2 r ⟨u * 64 + d, by omega⟩)) (fun r => k2 (ix2 r ⟨u * 64 + d, by omega⟩)) c)
      * Ideal.ofBits .f32 0x3E000000#32
  else ⊥

theorem row_finite (x y : Fin 128 → EReal) (hx : ∀ r, Finite (x r)) (hy : ∀ r, Finite (y r)) (c : Fin 256) : Finite (row x y c) := by
  unfold row; split
  · exact hx _
  · exact hy _

theorem scores_eq (n : ℕ) (hn : n < 4096) (u : Fin 2) (q k1 k2 : FVec Ideal S128x128 .f32) (hq : ∀ i, Finite (q i)) (h1 : ∀ i, Finite (k1 i)) (h2 : ∀ i, Finite (k2 i)) (a : Fin 128) :
    (fun c : Fin 256 => scores (BitVec.ofNat 32 n) (headLanes u) q (stack k1 k2) (ix2 a c)) = blockScore n q k1 k2 a u := by
  funext c
  rw [scores_at n hn u q (stack k1 k2) a c (fun l => hq _) (fun l => by rw [stack_at]; exact row_finite _ _ (fun _ => h1 _) (fun _ => h2 _) c)]
  unfold blockScore
  simp only [stack_at]

/-- The pair's output at an index: head `u`'s softmax over the 256 keys, averaging the values of the lane. -/
theorem pairO_at (n : ℕ) (hn : n < 4096) (q k1 k2 v1 v2 : FVec Ideal S128x128 .f32) (hq : ∀ i, Finite (q i)) (h1 : ∀ i, Finite (k1 i)) (h2 : ∀ i, Finite (k2 i))
    (a b : Fin 128) (u : Fin 2) (hu : (b : ℕ) / 64 = u) :
    pairO (BitVec.ofNat 32 n) q k1 k2 v1 v2 (ix2 a b)
      = mean (blockScore n q k1 k2 a u) (row (fun r => v1 (ix2 r b)) (fun r => v2 (ix2 r b))) := by
  pointwise [pairO]
  rw [lowHead_at]
  match u with
  | 0 =>
    rw [if_pos (show (b : ℕ) < 64 by simp at hu; omega), ← scores_eq n hn 0 q k1 k2 hq h1 h2 a]
    refine (averaged_at _ _ a b).trans ?_
    simp only [stack_at]
    rfl
  | 1 =>
    rw [if_neg (show ¬(b : ℕ) < 64 by simp at hu; omega), ← scores_eq n hn 1 q k1 k2 hq h1 h2 a]
    refine (averaged_at _ _ a b).trans ?_
    simp only [stack_at]
    rfl

/-- The pair's log of the sum of the exponentials at an index. -/
theorem pairL_at (n : ℕ) (hn : n < 4096) (q k1 k2 : FVec Ideal S128x128 .f32) (hq : ∀ i, Finite (q i)) (h1 : ∀ i, Finite (k1 i)) (h2 : ∀ i, Finite (k2 i))
    (a b : Fin 128) (u : Fin 2) (hu : (b : ℕ) / 64 = u) :
    pairL (BitVec.ofNat 32 n) q k1 k2 (ix2 a b) = lse (blockScore n q k1 k2 a u) := by
  pointwise [pairL]
  rw [lowHead_at]
  match u with
  | 0 =>
    rw [if_pos (show (b : ℕ) < 64 by simp at hu; omega), ← scores_eq n hn 0 q k1 k2 hq h1 h2 a]
    exact logged_at _ a b
  | 1 =>
    rw [if_neg (show ¬(b : ℕ) < 64 by simp at hu; omega), ← scores_eq n hn 1 q k1 k2 hq h1 h2 a]
    exact logged_at _ a b

end Cert.Attend
-- ==== Proof.Window.lean ====
/-
One row of a block against the problem's own row: the 129 positions back from a query, at the group's rate. A block of
the kernel works on one subsequence of the tokens (every `r`-th one), where the position `m` steps back is the key
`128 + a - m` among the 256 keys of the previous and the current block.
-/
module

public import proofs.«01_k».proof.Proof.Block

@[expose] public section

set_option maxRecDepth 16384

noncomputable section

namespace Cert.Attend

open Idealize.ShloMosaic

abbrev Tokens : Shape := ⟨2, ![16384, 8704]⟩

/-- The entry of the projected tokens in row `i`, column `j`. -/
def cell (X : FVec Ideal Tokens .f32) (i j : ℕ) : EReal :=
  X (ix2 ⟨i % 16384, Nat.mod_lt _ (by decide)⟩ ⟨j % 8704, Nat.mod_lt _ (by decide)⟩)

theorem cell_of (X : FVec Ideal Tokens .f32) (i : Fin 16384) (j : Fin 8704) : X (ix2 i j) = cell X i j := by
  unfold cell
  congr 1
  refine (ix2_inj ..).2 ⟨Fin.ext (Nat.mod_eq_of_lt i.isLt).symm, Fin.ext (Nat.mod_eq_of_lt j.isLt).symm⟩

/-- Every query and every key is finite. -/
def FiniteQK (X : FVec Ideal Tokens .f32) : Prop := ∀ i j : ℕ, 2048 ≤ j → j < 5120 → Finite (cell X i j)

/-- The score of the position `m` steps of `r` back from position `p` of sequence `b`, head `h` of group `g`; `⊥` before
    the sequence's start. -/
def score (X : FVec Ideal Tokens .f32) (r g b p h : ℕ) (m : Fin 129) : EReal :=
  if (m : ℕ) * r ≤ p then
    (∑ d : Fin 64, cell X (b * 4096 + p) (2048 + g * 512 + (h * 64 + d)) * cell X (b * 4096 + (p - m * r)) (3584 + g * 512 + (h * 64 + d)))
      * Ideal.ofBits .f32 0x3E000000#32
  else ⊥

/-- The value there, column `j` of the group's 512. -/
def value (X : FVec Ideal Tokens .f32) (r g b p j : ℕ) (m : Fin 129) : EReal :=
  cell X (b * 4096 + (p - m * r)) (5120 + g * 512 + j)

theorem score_ne_top (X : FVec Ideal Tokens .f32) (hX : FiniteQK X) (r g b p h : ℕ) (hg : g < 3) (hh : h < 8) (m : Fin 129) :
    score X r g b p h m ≠ ⊤ := by
  unfold score; split
  · exact (Finite.mul (finite_dot _ _ (fun d => hX _ _ (by omega) (by omega)) (fun d => hX _ _ (by omega) (by omega))) (eighth ▸ finite_coe _)).2
  · exact bot_ne_top

theorem score_zero_ne_bot (X : FVec Ideal Tokens .f32) (hX : FiniteQK X) (r g b p h : ℕ) (hg : g < 3) (hh : h < 8) :
    score X r g b p h 0 ≠ ⊥ := by
  unfold score; rw [if_pos (by simp)]
  exact (Finite.mul (finite_dot _ _ (fun d => hX _ _ (by omega) (by omega)) (fun d => hX _ _ (by omega) (by omega))) (eighth ▸ finite_coe _)).1

/-- The key among the 256 that lies `m` back. -/
def keyAt (a : Fin 128) (m : Fin 129) : Fin 256 := ⟨128 + a - m, by omega⟩

theorem keyAt_injective (a : Fin 128) : Function.Injective (keyAt a) := fun m m' h => by
  have := congrArg Fin.val h
  simp only [keyAt] at this
  exact Fin.ext (by omega)

theorem not_sees_of (n : ℕ) (a : Fin 128) (c : Fin 256) (hc : c ∉ Set.range (keyAt a)) : ¬Sees n a c := fun h => by
  obtain ⟨⟨h1, h2⟩, -⟩ := h
  exact hc ⟨⟨128 + a - c, by omega⟩, Fin.ext (by simp only [keyAt]; omega)⟩

theorem steps_le (A r rho m : ℕ) (hr : rho < r) : m * r ≤ A * r + rho ↔ m ≤ A := by
  constructor
  · intro h
    by_contra hlt
    have : (A + 1) * r ≤ m * r := Nat.mul_le_mul_right r (by omega)
    rw [Nat.add_mul] at this
    omega
  · intro h
    exact le_trans (Nat.mul_le_mul_right r h) (Nat.le_add_right _ _)

theorem steps_sub (A r rho m : ℕ) (h : m ≤ A) : A * r + rho - m * r = (A - m) * r + rho := by
  rw [Nat.sub_mul]
  have := Nat.mul_le_mul_right r h
  omega

section Row
variable (X : FVec Ideal Tokens .f32) (hX : FiniteQK X) (r g b rho n P : ℕ) (hr : rho < r) (hg : g < 3) (hP : P < 4)
  (q k1 k2 v1 v2 : FVec Ideal ⟨2, ![128, 128]⟩ .f32)
  (hq : ∀ a l : Fin 128, q (ix2 a l) = cell X (b * 4096 + ((n * 128 + a) * r + rho)) (2048 + g * 512 + (P * 128 + l)))
  (hk1 : ∀ a l : Fin 128, k1 (ix2 a l) = cell X (b * 4096 + (((n - 1) * 128 + a) * r + rho)) (3584 + g * 512 + (P * 128 + l)))
  (hk2 : ∀ a l : Fin 128, k2 (ix2 a l) = cell X (b * 4096 + ((n * 128 + a) * r + rho)) (3584 + g * 512 + (P * 128 + l)))
  (hv1 : ∀ a l : Fin 128, v1 (ix2 a l) = cell X (b * 4096 + (((n - 1) * 128 + a) * r + rho)) (5120 + g * 512 + (P * 128 + l)))
  (hv2 : ∀ a l : Fin 128, v2 (ix2 a l) = cell X (b * 4096 + ((n * 128 + a) * r + rho)) (5120 + g * 512 + (P * 128 + l)))

include hr in
theorem sees_iff (a : Fin 128) (m : Fin 129) : Sees n a (keyAt a m) ↔ (m : ℕ) * r ≤ (n * 128 + a) * r + rho := by
  rw [steps_le _ _ _ _ hr]
  have hm := m.isLt
  have ha := a.isLt
  simp only [Sees, keyAt]
  omega

/-- The row of keys (or values) at the key `m` back, where it is seen. -/
theorem row_at (x y : Fin 128 → EReal) (j : ℕ)
    (hx : ∀ a : Fin 128, x a = cell X (b * 4096 + (((n - 1) * 128 + a) * r + rho)) j)
    (hy : ∀ a : Fin 128, y a = cell X (b * 4096 + ((n * 128 + a) * r + rho)) j)
    (a : Fin 128) (m : Fin 129) (hm : (m : ℕ) ≤ n * 128 + a) :
    row x y (keyAt a m) = cell X (b * 4096 + ((n * 128 + a) * r + rho - m * r)) j := by
  rw [steps_sub _ _ _ _ hm]
  have hm' := m.isLt
  have ha := a.isLt
  unfold row keyAt
  split
  · rename_i h
    simp only at h
    rw [hx]
    congr 4
    simp only
    omega
  · rename_i h
    simp only at h
    rw [hy]
    congr 4
    simp only
    omega

include hr hq hk1 hk2 in
theorem blockScore_at (a : Fin 128) (u : Fin 2) (m : Fin 129) :
    blockScore n q k1 k2 a u (keyAt a m) = score X r g b ((n * 128 + a) * r + rho) (P * 2 + u) m := by
  unfold blockScore score
  by_cases h : (m : ℕ) * r ≤ (n * 128 + a) * r + rho
  · rw [if_pos ((sees_iff r rho n hr a m).2 h), if_pos h]
    congr 1
    refine Finset.sum_congr rfl fun d _ => ?_
    rw [hq, row_at X r b rho n _ _ _ (fun _ => hk1 _ _) (fun _ => hk2 _ _) a m ((steps_le _ _ _ _ hr).1 h)]
    congr 2 <;> simp only <;> omega
  · rw [if_neg fun hs => h ((sees_iff r rho n hr a m).1 hs), if_neg h]

include hX hr hg hP hq hk1 hk2 in
/-- The row's log of the sum of the exponentials is the problem's. -/
theorem lse_row (a : Fin 128) (u : Fin 2) :
    lse (blockScore n q k1 k2 a u) = lse (score X r g b ((n * 128 + a) * r + rho) (P * 2 + u)) :=
  lse_window (keyAt a) (keyAt_injective a) _ _ (blockScore_at X r g b rho n P hr q k1 k2 hq hk1 hk2 a u)
    fun c hc => if_neg (not_sees_of n a c hc)

include hX hr hg hP hq hk1 hk2 hv1 hv2 in
/-- The row's mean of a column of values is the problem's. -/
theorem mean_row (a : Fin 128) (u : Fin 2) (l : Fin 128) :
    mean (blockScore n q k1 k2 a u) (row (fun i => v1 (ix2 i l)) (fun i => v2 (ix2 i l)))
      = mean (score X r g b ((n * 128 + a) * r + rho) (P * 2 + u)) (value X r g b ((n * 128 + a) * r + rho) (P * 128 + l)) := by
  refine mean_window (keyAt a) (keyAt_injective a) _ _ (blockScore_at X r g b rho n P hr q k1 k2 hq hk1 hk2 a u)
    (fun c hc => if_neg (not_sees_of n a c hc)) _ _ (fun m hm => ?_)
    (den_ne_zero _ (score_ne_top X hX r g b _ _ hg (by omega)) 0 (score_zero_ne_bot X hX r g b _ _ hg (by omega)))
  have hs : (m : ℕ) * r ≤ (n * 128 + a) * r + rho := by
    by_contra h
    exact hm (if_neg h)
  exact row_at X r b rho n _ _ _ (fun _ => hv1 _ _) (fun _ => hv2 _ _) a m ((steps_le _ _ _ _ hr).1 hs)

end Row

/-- The entry of the first result in row `i`, column `j`: row `i` holds `r` consecutive tokens, 512 columns each. -/
def outMean (X : FVec Ideal Tokens .f32) (r g i j : ℕ) : EReal :=
  mean (score X r g ((i * r + j / 512) / 4096) ((i * r + j / 512) % 4096) (j % 512 / 64))
    (value X r g ((i * r + j / 512) / 4096) ((i * r + j / 512) % 4096) (j % 512))

/-- The entry of the second. -/
def outLse (X : FVec Ideal Tokens .f32) (r g i j : ℕ) : EReal :=
  lse (score X r g ((i * r + j / 512) / 4096) ((i * r + j / 512) % 4096) (j % 512 / 64))

end Cert.Attend
-- ==== Proof.Tile1.lean ====
/-
The kernel with stride 1: every stored tile is the pair of heads of Block.lean, so a block of a result read at an index is
that pair at the index's own lane.
-/
module

public import proofs.«01_k».proof.Proof.Gen.Attn1Ideal.Value
public import proofs.«01_k».proof.Proof.Window
public import Idealize.ShloMosaic.Lib.Pointwise
public import Idealize.ShloMosaic.Lib.Pipeline.ValueKit

@[expose] public section

set_option maxRecDepth 16384

noncomputable section

namespace Cert.Attn1Ideal.Value

open Idealize.ShloMosaic Idealize.ShloMosaic.TcCoe Idealize.SL.Sem
open Idealize.ShloMosaic.Pipeline (Dat)
open Cert.Attn1Ideal Cert.Attn1Ideal.Gen
open Cert.Attend

section
variable (i : grid0.Coords) (q k1 k2 v1 v2 : Vec Ideal S128x128 .f32)

theorem tile5_0 : k0_pay19 (F := Ideal) (k0_pay3 i) (k0_pay4) (k0_pay5 q) (k0_pay6 k1 k2) (k0_pay7 v1 v2) (k0_pay8) (k0_pay9 q k1 k2) (k0_pay10 (F := Ideal))
    = pairO (BitVec.ofNat 32 (i 2).val) q k1 k2 v1 v2 := rfl

theorem tile5_1 : k0_pay34 (F := Ideal) (k0_pay4) (k0_pay23 v1 v2) (k0_pay29 (k0_pay3 i) (k0_pay4) q (Scalar.ofBits .f32 0x3E000000#32) k1 k2 v1 v2) (k0_pay32 (k0_pay3 i) (k0_pay4) q (Scalar.ofBits .f32 0x3E000000#32) k1 k2)
    = pairO (BitVec.ofNat 32 (i 2).val) q k1 k2 v1 v2 := rfl

theorem tile5_2 : k0_pay48 (F := Ideal) (k0_pay3 i) (k0_pay4) (k0_pay36 q) (k0_pay37 k1 k2) (k0_pay38 v1 v2) (k0_pay39 (k0_pay4)) (k0_pay40 (k0_pay3 i) (k0_pay4) q k1 k2) (k0_pay41 (k0_pay3 i) (k0_pay4) q k1 k2)
    = pairO (BitVec.ofNat 32 (i 2).val) q k1 k2 v1 v2 := rfl

theorem tile5_3 : k0_pay1 (F := Ideal) (k0_pay4) (k0_pay52 v1 v2) (k0_pay58 (k0_pay3 i) (k0_pay4) (k0_pay50 q) k1 k2 v1 v2) (k0_pay61 (k0_pay3 i) (k0_pay4) (k0_pay50 q) k1 k2) (k0_pay63 (k0_pay3 i) (k0_pay4) (k0_pay50 q) k1 k2)
    = pairO (BitVec.ofNat 32 (i 2).val) q k1 k2 v1 v2 := rfl

theorem tile6_0 : k0_pay20 (F := Ideal) (k0_pay3 i) (k0_pay4) (k0_pay5 q) (k0_pay6 k1 k2) (k0_pay8) (k0_pay9 q k1 k2) (k0_pay10 (F := Ideal))
    = pairL (BitVec.ofNat 32 (i 2).val) q k1 k2 := rfl

theorem tile6_1 : k0_pay35 (F := Ideal) (k0_pay4) (k0_pay28 (k0_pay3 i) (k0_pay4) q (Scalar.ofBits .f32 0x3E000000#32) k1 k2) (k0_pay31 (k0_pay3 i) (k0_pay4) q (Scalar.ofBits .f32 0x3E000000#32) k1 k2) (k0_pay32 (k0_pay3 i) (k0_pay4) q (Scalar.ofBits .f32 0x3E000000#32) k1 k2)
    = pairL (BitVec.ofNat 32 (i 2).val) q k1 k2 := rfl

theorem tile6_2 : k0_pay49 (F := Ideal) (k0_pay3 i) (k0_pay4) (k0_pay36 q) (k0_pay37 k1 k2) (k0_pay39 (k0_pay4)) (k0_pay40 (k0_pay3 i) (k0_pay4) q k1 k2) (k0_pay41 (k0_pay3 i) (k0_pay4) q k1 k2)
    = pairL (BitVec.ofNat 32 (i 2).val) q k1 k2 := rfl

theorem tile6_3 : k0_pay2 (F := Ideal) (k0_pay4) (k0_pay57 (k0_pay3 i) (k0_pay4) (k0_pay50 q) k1 k2) (k0_pay60 (k0_pay3 i) (k0_pay4) (k0_pay50 q) k1 k2) (k0_pay62 (k0_pay3 i) (k0_pay4) (k0_pay50 q) k1 k2)
    = pairL (BitVec.ofNat 32 (i 2).val) q k1 k2 := rfl

end

/-- The 128 columns from column `P * 128` on, of a block of 512. -/
def lanes (P : ℕ) (hP : P < 4) (x : Vec Ideal S128x512 .f32) : FVec Ideal S128x128 .f32 :=
  fun j => x (ix2 (j 0 : Fin 128) ⟨P * 128 + (j 1 : Fin 128), by have h : ((j 1 : Fin 128) : ℕ) < 128 := (j 1 : Fin 128).isLt; omega⟩)

set_option maxHeartbeats 1600000 in
theorem block5 (i : grid0.Coords) (x0 x1 x2 x3 x4 : Vec Ideal S128x512 .f32) (a : Fin 128) (b : Fin 512) (P : ℕ) (hP : P < 4) (l : Fin 128) (hb : (b : ℕ) = P * 128 + l) :
    out0_5 (F := Ideal) i x0 x1 x2 x3 x4 (ix2 a b)
      = pairO (BitVec.ofNat 32 (i 2).val) (lanes P hP x0) (lanes P hP x1) (lanes P hP x2) (lanes P hP x3) (lanes P hP x4) (ix2 a l) := by
  unfold_out out0_5
  canon_tiles x h
  · obtain rfl : P = 3 := by
      have h1' : (b : ℕ) = 384 + (x 1 : Fin 128) := by simpa using h1
      omega
    obtain rfl : x = ix2 a l := by
      have h0' : (a : ℕ) = (x 0 : Fin 128) := h0
      have h1' : (b : ℕ) = 384 + (x 1 : Fin 128) := by simpa using h1
      refine (eq_ix2 x).trans ((ix2_inj ..).2 ⟨Fin.ext h0'.symm, Fin.ext ?_⟩)
      show ((x 1 : Fin 128) : ℕ) = l
      omega
    refine (congrFun (tile5_3 i _ _ _ _ _) _).trans ?_
    congr 1 <;> (funext j; pointwise [lanes])
  · obtain rfl : P = 2 := by
      have h1' : (b : ℕ) = 256 + (x 1 : Fin 128) := by simpa using h1
      omega
    obtain rfl : x = ix2 a l := by
      have h0' : (a : ℕ) = (x 0 : Fin 128) := h0
      have h1' : (b : ℕ) = 256 + (x 1 : Fin 128) := by simpa using h1
      refine (eq_ix2 x).trans ((ix2_inj ..).2 ⟨Fin.ext h0'.symm, Fin.ext ?_⟩)
      show ((x 1 : Fin 128) : ℕ) = l
      omega
    refine (congrFun (tile5_2 i _ _ _ _ _) _).trans ?_
    congr 1 <;> (funext j; pointwise [lanes])
  · obtain rfl : P = 1 := by
      have h1' : (b : ℕ) = 128 + (x 1 : Fin 128) := by simpa using h1
      omega
    obtain rfl : x = ix2 a l := by
      have h0' : (a : ℕ) = (x 0 : Fin 128) := h0
      have h1' : (b : ℕ) = 128 + (x 1 : Fin 128) := by simpa using h1
      refine (eq_ix2 x).trans ((ix2_inj ..).2 ⟨Fin.ext h0'.symm, Fin.ext ?_⟩)
      show ((x 1 : Fin 128) : ℕ) = l
      omega
    refine (congrFun (tile5_1 i _ _ _ _ _) _).trans ?_
    congr 1 <;> (funext j; pointwise [lanes])
  · obtain rfl : P = 0 := by
      have h1' : (b : ℕ) = 0 + (x 1 : Fin 128) := by simpa using h1
      omega
    obtain rfl : x = ix2 a l := by
      have h0' : (a : ℕ) = (x 0 : Fin 128) := h0
      have h1' : (b : ℕ) = 0 + (x 1 : Fin 128) := by simpa using h1
      refine (eq_ix2 x).trans ((ix2_inj ..).2 ⟨Fin.ext h0'.symm, Fin.ext ?_⟩)
      show ((x 1 : Fin 128) : ℕ) = l
      omega
    refine (congrFun (tile5_0 i _ _ _ _ _) _).trans ?_
    congr 1 <;> (funext j; pointwise [lanes])

set_option maxHeartbeats 1600000 in
theorem block6 (i : grid0.Coords) (x0 x1 x2 x3 x4 : Vec Ideal S128x512 .f32) (a : Fin 128) (b : Fin 512) (P : ℕ) (hP : P < 4) (l : Fin 128) (hb : (b : ℕ) = P * 128 + l) :
    out0_6 (F := Ideal) i x0 x1 x2 x3 x4 (ix2 a b)
      = pairL (BitVec.ofNat 32 (i 2).val) (lanes P hP x0) (lanes P hP x1) (lanes P hP x2) (ix2 a l) := by
  unfold_out out0_6
  canon_tiles x h
  · obtain rfl : P = 3 := by
      have h1' : (b : ℕ) = 384 + (x 1 : Fin 128) := by simpa using h1
      omega
    obtain rfl : x = ix2 a l := by
      have h0' : (a : ℕ) = (x 0 : Fin 128) := h0
      have h1' : (b : ℕ) = 384 + (x 1 : Fin 128) := by simpa using h1
      refine (eq_ix2 x).trans ((ix2_inj ..).2 ⟨Fin.ext h0'.symm, Fin.ext ?_⟩)
      show ((x 1 : Fin 128) : ℕ) = l
      omega
    refine (congrFun (tile6_3 i _ _ _) _).trans ?_
    congr 1 <;> (funext j; pointwise [lanes])
  · obtain rfl : P = 2 := by
      have h1' : (b : ℕ) = 256 + (x 1 : Fin 128) := by simpa using h1
      omega
    obtain rfl : x = ix2 a l := by
      have h0' : (a : ℕ) = (x 0 : Fin 128) := h0
      have h1' : (b : ℕ) = 256 + (x 1 : Fin 128) := by simpa using h1
      refine (eq_ix2 x).trans ((ix2_inj ..).2 ⟨Fin.ext h0'.symm, Fin.ext ?_⟩)
      show ((x 1 : Fin 128) : ℕ) = l
      omega
    refine (congrFun (tile6_2 i _ _ _) _).trans ?_
    congr 1 <;> (funext j; pointwise [lanes])
  · obtain rfl : P = 1 := by
      have h1' : (b : ℕ) = 128 + (x 1 : Fin 128) := by simpa using h1
      omega
    obtain rfl : x = ix2 a l := by
      have h0' : (a : ℕ) = (x 0 : Fin 128) := h0
      have h1' : (b : ℕ) = 128 + (x 1 : Fin 128) := by simpa using h1
      refine (eq_ix2 x).trans ((ix2_inj ..).2 ⟨Fin.ext h0'.symm, Fin.ext ?_⟩)
      show ((x 1 : Fin 128) : ℕ) = l
      omega
    refine (congrFun (tile6_1 i _ _ _) _).trans ?_
    congr 1 <;> (funext j; pointwise [lanes])
  · obtain rfl : P = 0 := by
      have h1' : (b : ℕ) = 0 + (x 1 : Fin 128) := by simpa using h1
      omega
    obtain rfl : x = ix2 a l := by
      have h0' : (a : ℕ) = (x 0 : Fin 128) := h0
      have h1' : (b : ℕ) = 0 + (x 1 : Fin 128) := by simpa using h1
      refine (eq_ix2 x).trans ((ix2_inj ..).2 ⟨Fin.ext h0'.symm, Fin.ext ?_⟩)
      show ((x 1 : Fin 128) : ℕ) = l
      omega
    refine (congrFun (tile6_0 i _ _ _) _).trans ?_
    congr 1 <;> (funext j; pointwise [lanes])

end Cert.Attn1Ideal.Value
-- ==== Proof.Array1.lean ====
/-
The arrays the kernel with stride 1 leaves, each entry the mean (or the log of the sum) over the problem's own row. Grid point
`t` works on batch `t / 32`, on every 1-th token from `t / 32 % 1` on, and there on block `t % 32` of 128.
-/
module

public import proofs.«01_k».proof.Proof.Tile1

@[expose] public section

set_option maxRecDepth 16384

noncomputable section

namespace Cert.Attn1Ideal.Value

open Idealize.ShloMosaic Idealize.ShloMosaic.TcCoe Idealize.SL.Sem
open Idealize.ShloMosaic.Pipeline (Dat)
open Cert.Attn1Ideal Cert.Attn1Ideal.Gen
open Cert.Attend

theorem idx : ∀ t : Fin cfg0.N, win0_0.index t = ![t.val / 32 * 32 + t.val % 32, t.val / 32 % 1 * 17 + 4]
    ∧ win0_1.index t = ![t.val / 32 * 32 + (t.val % 32 - 1), t.val / 32 % 1 * 17 + 7] ∧ win0_2.index t = ![t.val / 32 * 32 + t.val % 32, t.val / 32 % 1 * 17 + 7]
    ∧ win0_3.index t = ![t.val / 32 * 32 + (t.val % 32 - 1), t.val / 32 % 1 * 17 + 10] ∧ win0_4.index t = ![t.val / 32 * 32 + t.val % 32, t.val / 32 % 1 * 17 + 10]
    ∧ win0_5.index t = ![t.val / 32 * 32 + t.val % 32, t.val / 32 % 1] ∧ win0_6.index t = ![t.val / 32 * 32 + t.val % 32, t.val / 32 % 1]
    ∧ (grid0.coords t 2).val = t.val % 32 :=
  (by decide +kernel : ∀ t : Fin grid0.N, _)

/-- The projected tokens. -/
abbrev tokens (m : (ℓ : Loc nD τ sig) → Buf (Elt Ideal) ℓ) (c : Dev nD) : FVec Ideal Tokens .f32 := m ((c : Thread nD τ).loc main_arg0)

theorem rows_at (X : FVec Ideal Tokens .f32) (y : S16384x8704.Idx) (i j : ℕ) (h0 : ((y 0 : Fin 16384) : ℕ) = i)
    (h1 : ((y 1 : Fin 8704) : ℕ) = j) : X y = cell X i j := by
  obtain ⟨y0, y1, rfl⟩ : ∃ (y0 : Fin 16384) (y1 : Fin 8704), y = ix2 y0 y1 := ⟨y 0, y 1, eq_ix2 y⟩
  rw [← h0, ← h1]
  exact cell_of X y0 y1

variable (m : (ℓ : Loc nD τ sig) → Buf (Elt Ideal) ℓ) (c : Dev nD) (t : Fin cfg0.N)

theorem point_lt : t.val < 128 := lt_of_lt_of_eq t.isLt (by decide +kernel)

/-! The blocks the windows read. -/

theorem entry0 (P : ℕ) (hP : P < 4) (a l : Fin 128) :
    lanes P hP (iblk m c 0 t) (ix2 a l) = cell (tokens m c) (t.val / 32 * 4096 + ((t.val % 32 * 128 + a) * 1 + t.val / 32 % 1)) (2048 + 0 * 512 + (P * 128 + l)) := by
  have ht := point_lt t
  rw [show t.val / 32 * 4096 + ((t.val % 32 * 128 + a) * 1 + t.val / 32 % 1) = (t.val / 32 * 4096 + (t.val % 32 * 128 + a)) * 1 + t.val / 32 % 1 by omega]
  obtain ⟨b, hb⟩ : ∃ b : Fin 512, (b : ℕ) = P * 128 + l := ⟨⟨P * 128 + l, by omega⟩, rfl⟩
  refine (congrArg (fun k => (iblk m c 0 t : Vec Ideal S128x512 .f32) (ix2 a k)) (Fin.ext hb.symm : (⟨P * 128 + l, by omega⟩ : Fin 512) = b)).trans ?_
  rw [← hb]
  dsimp only
  blk_simp [iblk]
  rw [V_main_arg0]
  refine rows_at (tokens m c) _ _ _ ?_ ?_
  · blk_simp [idx t]
    omega
  · blk_simp [idx t]
    omega

theorem entry1 (P : ℕ) (hP : P < 4) (a l : Fin 128) :
    lanes P hP (iblk m c 1 t) (ix2 a l) = cell (tokens m c) (t.val / 32 * 4096 + (((t.val % 32 - 1) * 128 + a) * 1 + t.val / 32 % 1)) (3584 + 0 * 512 + (P * 128 + l)) := by
  have ht := point_lt t
  rw [show t.val / 32 * 4096 + (((t.val % 32 - 1) * 128 + a) * 1 + t.val / 32 % 1) = (t.val / 32 * 4096 + ((t.val % 32 - 1) * 128 + a)) * 1 + t.val / 32 % 1 by omega]
  obtain ⟨b, hb⟩ : ∃ b : Fin 512, (b : ℕ) = P * 128 + l := ⟨⟨P * 128 + l, by omega⟩, rfl⟩
  refine (congrArg (fun k => (iblk m c 1 t : Vec Ideal S128x512 .f32) (ix2 a k)) (Fin.ext hb.symm : (⟨P * 128 + l, by omega⟩ : Fin 512) = b)).trans ?_
  rw [← hb]
  dsimp only
  blk_simp [iblk]
  rw [V_main_arg0]
  refine rows_at (tokens m c) _ _ _ ?_ ?_
  · blk_simp [idx t]
    omega
  · blk_simp [idx t]
    omega

theorem entry2 (P : ℕ) (hP : P < 4) (a l : Fin 128) :
    lanes P hP (iblk m c 2 t) (ix2 a l) = cell (tokens m c) (t.val / 32 * 4096 + ((t.val % 32 * 128 + a) * 1 + t.val / 32 % 1)) (3584 + 0 * 512 + (P * 128 + l)) := by
  have ht := point_lt t
  rw [show t.val / 32 * 4096 + ((t.val % 32 * 128 + a) * 1 + t.val / 32 % 1) = (t.val / 32 * 4096 + (t.val % 32 * 128 + a)) * 1 + t.val / 32 % 1 by omega]
  obtain ⟨b, hb⟩ : ∃ b : Fin 512, (b : ℕ) = P * 128 + l := ⟨⟨P * 128 + l, by omega⟩, rfl⟩
  refine (congrArg (fun k => (iblk m c 2 t : Vec Ideal S128x512 .f32) (ix2 a k)) (Fin.ext hb.symm : (⟨P * 128 + l, by omega⟩ : Fin 512) = b)).trans ?_
  rw [← hb]
  dsimp only
  blk_simp [iblk]
  rw [V_main_arg0]
  refine rows_at (tokens m c) _ _ _ ?_ ?_
  · blk_simp [idx t]
    omega
  · blk_simp [idx t]
    omega

theorem entry3 (P : ℕ) (hP : P < 4) (a l : Fin 128) :
    lanes P hP (iblk m c 3 t) (ix2 a l) = cell (tokens m c) (t.val / 32 * 4096 + (((t.val % 32 - 1) * 128 + a) * 1 + t.val / 32 % 1)) (5120 + 0 * 512 + (P * 128 + l)) := by
  have ht := point_lt t
  rw [show t.val / 32 * 4096 + (((t.val % 32 - 1) * 128 + a) * 1 + t.val / 32 % 1) = (t.val / 32 * 4096 + ((t.val % 32 - 1) * 128 + a)) * 1 + t.val / 32 % 1 by omega]
  obtain ⟨b, hb⟩ : ∃ b : Fin 512, (b : ℕ) = P * 128 + l := ⟨⟨P * 128 + l, by omega⟩, rfl⟩
  refine (congrArg (fun k => (iblk m c 3 t : Vec Ideal S128x512 .f32) (ix2 a k)) (Fin.ext hb.symm : (⟨P * 128 + l, by omega⟩ : Fin 512) = b)).trans ?_
  rw [← hb]
  dsimp only
  blk_simp [iblk]
  rw [V_main_arg0]
  refine rows_at (tokens m c) _ _ _ ?_ ?_
  · blk_simp [idx t]
    omega
  · blk_simp [idx t]
    omega

theorem entry4 (P : ℕ) (hP : P < 4) (a l : Fin 128) :
    lanes P hP (iblk m c 4 t) (ix2 a l) = cell (tokens m c) (t.val / 32 * 4096 + ((t.val % 32 * 128 + a) * 1 + t.val / 32 % 1)) (5120 + 0 * 512 + (P * 128 + l)) := by
  have ht := point_lt t
  rw [show t.val / 32 * 4096 + ((t.val % 32 * 128 + a) * 1 + t.val / 32 % 1) = (t.val / 32 * 4096 + (t.val % 32 * 128 + a)) * 1 + t.val / 32 % 1 by omega]
  obtain ⟨b, hb⟩ : ∃ b : Fin 512, (b : ℕ) = P * 128 + l := ⟨⟨P * 128 + l, by omega⟩, rfl⟩
  refine (congrArg (fun k => (iblk m c 4 t : Vec Ideal S128x512 .f32) (ix2 a k)) (Fin.ext hb.symm : (⟨P * 128 + l, by omega⟩ : Fin 512) = b)).trans ?_
  rw [← hb]
  dsimp only
  blk_simp [iblk]
  rw [V_main_arg0]
  refine rows_at (tokens m c) _ _ _ ?_ ?_
  · blk_simp [idx t]
    omega
  · blk_simp [idx t]
    omega

theorem point5 (hX : FiniteQK (tokens m c)) (a : Fin 128) (b : Fin 512) :
    out0_5 (F := Ideal) (grid0.coords t) (iblk m c 0 t) (iblk m c 1 t) (iblk m c 2 t) (iblk m c 3 t) (iblk m c 4 t) (ix2 a b)
      = outMean (tokens m c) 1 0 ((t.val / 32 * 32 + t.val % 32) * 128 + a) (t.val / 32 % 1 * 512 + b) := by
  have ht := point_lt t
  have hP : (b : ℕ) / 128 < 4 := by omega
  have hb : (b : ℕ) = b / 128 * 128 + ((⟨b % 128, by omega⟩ : Fin 128) : ℕ) := by show (b : ℕ) = b / 128 * 128 + b % 128; omega
  rw [block5 (grid0.coords t) _ _ _ _ _ a b (b / 128) hP ⟨b % 128, by omega⟩ hb, (idx t).2.2.2.2.2.2.2]
  have hq : ∀ i, Finite (lanes (b / 128) hP (iblk m c 0 t) i) := fun i => by
    rw [eq_ix2 i]; exact (entry0 m c t (b / 128) hP (i 0) (i 1)).symm ▸ hX _ _ (by omega) (by have h : ((i 1 : Fin 128) : ℕ) < 128 := (i 1 : Fin 128).isLt; omega)
  have h1 : ∀ i, Finite (lanes (b / 128) hP (iblk m c 1 t) i) := fun i => by
    rw [eq_ix2 i]; exact (entry1 m c t (b / 128) hP (i 0) (i 1)).symm ▸ hX _ _ (by omega) (by have h : ((i 1 : Fin 128) : ℕ) < 128 := (i 1 : Fin 128).isLt; omega)
  have h2 : ∀ i, Finite (lanes (b / 128) hP (iblk m c 2 t) i) := fun i => by
    rw [eq_ix2 i]; exact (entry2 m c t (b / 128) hP (i 0) (i 1)).symm ▸ hX _ _ (by omega) (by have h : ((i 1 : Fin 128) : ℕ) < 128 := (i 1 : Fin 128).isLt; omega)
  refine (pairO_at (t.val % 32) (by omega) _ _ _ _ _ hq h1 h2 a _ ⟨b % 128 / 64, by omega⟩ rfl).trans ?_
  refine (mean_row (tokens m c) hX 1 0 (t.val / 32) (t.val / 32 % 1) (t.val % 32) (b / 128) (by omega) (by omega) hP _ _ _ _ _
    (entry0 m c t (b / 128) hP) (entry1 m c t (b / 128) hP) (entry2 m c t (b / 128) hP) (entry3 m c t (b / 128) hP) (entry4 m c t (b / 128) hP) a ⟨b % 128 / 64, by omega⟩ _).trans ?_
  unfold outMean
  rw [show (((t.val / 32 * 32 + t.val % 32) * 128 + a) * 1 + (t.val / 32 % 1 * 512 + b) / 512) / 4096 = t.val / 32 by omega,
    show (((t.val / 32 * 32 + t.val % 32) * 128 + a) * 1 + (t.val / 32 % 1 * 512 + b) / 512) % 4096 = (t.val % 32 * 128 + a) * 1 + t.val / 32 % 1 by omega,
    show (t.val / 32 % 1 * 512 + b) % 512 / 64 = b / 128 * 2 + b % 128 / 64 by omega]
  rw [show (t.val / 32 % 1 * 512 + b) % 512 = b / 128 * 128 + b % 128 by omega]

/-- The array of result 0. -/
theorem final5 (hX : FiniteQK (tokens m c)) :
    (dats m 0 c).arrAt 5 (cfgs 0).N = fun i => outMean (tokens m c) 1 0 ((i 0 : Fin 16384) : ℕ) ((i 1 : Fin 512) : ℕ) := by
  refine (dats m 0 c).arrAt_eq_of_covers 5 _ (by decide +kernel) fun t _ y => ?_
  blk_simp
  rw [after0_5]
  refine Eq.trans ?_ ((point5 m c t hX (y 0) (y 1)).trans ?_)
  · exact congrArg _ (eq_ix2 y)
  · refine congrArg₂ (outMean (tokens m c) 1 0) ?_ ?_
    · blk_simp [idx t]
    · blk_simp [idx t]

theorem point6 (hX : FiniteQK (tokens m c)) (a : Fin 128) (b : Fin 512) :
    out0_6 (F := Ideal) (grid0.coords t) (iblk m c 0 t) (iblk m c 1 t) (iblk m c 2 t) (iblk m c 3 t) (iblk m c 4 t) (ix2 a b)
      = outLse (tokens m c) 1 0 ((t.val / 32 * 32 + t.val % 32) * 128 + a) (t.val / 32 % 1 * 512 + b) := by
  have ht := point_lt t
  have hP : (b : ℕ) / 128 < 4 := by omega
  have hb : (b : ℕ) = b / 128 * 128 + ((⟨b % 128, by omega⟩ : Fin 128) : ℕ) := by show (b : ℕ) = b / 128 * 128 + b % 128; omega
  rw [block6 (grid0.coords t) _ _ _ _ _ a b (b / 128) hP ⟨b % 128, by omega⟩ hb, (idx t).2.2.2.2.2.2.2]
  have hq : ∀ i, Finite (lanes (b / 128) hP (iblk m c 0 t) i) := fun i => by
    rw [eq_ix2 i]; exact (entry0 m c t (b / 128) hP (i 0) (i 1)).symm ▸ hX _ _ (by omega) (by have h : ((i 1 : Fin 128) : ℕ) < 128 := (i 1 : Fin 128).isLt; omega)
  have h1 : ∀ i, Finite (lanes (b / 128) hP (iblk m c 1 t) i) := fun i => by
    rw [eq_ix2 i]; exact (entry1 m c t (b / 128) hP (i 0) (i 1)).symm ▸ hX _ _ (by omega) (by have h : ((i 1 : Fin 128) : ℕ) < 128 := (i 1 : Fin 128).isLt; omega)
  have h2 : ∀ i, Finite (lanes (b / 128) hP (iblk m c 2 t) i) := fun i => by
    rw [eq_ix2 i]; exact (entry2 m c t (b / 128) hP (i 0) (i 1)).symm ▸ hX _ _ (by omega) (by have h : ((i 1 : Fin 128) : ℕ) < 128 := (i 1 : Fin 128).isLt; omega)
  refine (pairL_at (t.val % 32) (by omega) _ _ _ hq h1 h2 a _ ⟨b % 128 / 64, by omega⟩ rfl).trans ?_
  refine (lse_row (tokens m c) hX 1 0 (t.val / 32) (t.val / 32 % 1) (t.val % 32) (b / 128) (by omega) (by omega) hP _ _ _
    (entry0 m c t (b / 128) hP) (entry1 m c t (b / 128) hP) (entry2 m c t (b / 128) hP) a ⟨b % 128 / 64, by omega⟩).trans ?_
  unfold outLse
  rw [show (((t.val / 32 * 32 + t.val % 32) * 128 + a) * 1 + (t.val / 32 % 1 * 512 + b) / 512) / 4096 = t.val / 32 by omega,
    show (((t.val / 32 * 32 + t.val % 32) * 128 + a) * 1 + (t.val / 32 % 1 * 512 + b) / 512) % 4096 = (t.val % 32 * 128 + a) * 1 + t.val / 32 % 1 by omega,
    show (t.val / 32 % 1 * 512 + b) % 512 / 64 = b / 128 * 2 + b % 128 / 64 by omega]

/-- The array of result 1. -/
theorem final6 (hX : FiniteQK (tokens m c)) :
    (dats m 0 c).arrAt 6 (cfgs 0).N = fun i => outLse (tokens m c) 1 0 ((i 0 : Fin 16384) : ℕ) ((i 1 : Fin 512) : ℕ) := by
  refine (dats m 0 c).arrAt_eq_of_covers 6 _ (by decide +kernel) fun t _ y => ?_
  blk_simp
  rw [after0_6]
  refine Eq.trans ?_ ((point6 m c t hX (y 0) (y 1)).trans ?_)
  · exact congrArg _ (eq_ix2 y)
  · refine congrArg₂ (outLse (tokens m c) 1 0) ?_ ?_
    · blk_simp [idx t]
    · blk_simp [idx t]

end Cert.Attn1Ideal.Value
-- ==== Proof.Dilated.lean ====
/-
The plain dilated attention of one group: 129 positions back from every query, fetched by a gather, masked before the
sequence's start, a softmax and a mean. Its operations are named here once, over a stride and the group's queries, keys
and values, and each is read at an index.
-/
module

public import proofs.«01_k».proof.Proof.Gen.Dilated4Ideal.Run
public import proofs.«01_k».proof.Proof.Window
public import Idealize.ShloMosaic.Lib.Pointwise

@[expose] public section

set_option maxRecDepth 16384

noncomputable section

namespace Cert.Attend.Plain

open Idealize.ShloMosaic Idealize.ShloMosaic.TcCoe Idealize.SL.Sem
open Cert.Dilated4Ideal Cert.Dilated4Ideal.Gen

/-- Position `p - m * w` as a word, negative before the start. -/
def steps (w : BitVec 32) : IVec S4096x129 32 :=
  subi (broadcastInDim S4096x129 ![0, 1] bcast_S4096x1_S4096x129_0_1 (broadcastInDim S4096x1 ![0] bcast_S4096_S4096x1_0 (iotaInDim S4096 32 0)))
    (broadcastInDim S4096x129 ![0, 1] bcast_S1x129_S4096x129_0_1 (broadcastInDim S1x129 ![1] bcast_S129_S1x129_1
      (muli (iotaInDim S129 32 0) (broadcastInDim S129 ![] bcast_S_S129 (constantI S_ 32 w)))))

def nonneg (w : BitVec 32) : IVec S4096x129 32 :=
  maxsi (steps w) (broadcastInDim S4096x129 ![] bcast_S_S4096x129 (constantI S_ 32 0#32))

def starts (w : BitVec 32) : IVec S4096x129x1 32 :=
  broadcastInDim S4096x129x1 ![0, 1] bcast_S4096x129_S4096x129x1_0_1
    (select (cmpi .slt (nonneg w) (broadcastInDim S4096x129 ![] bcast_S_S4096x129 (constantI S_ 32 0#32)))
      (addi (nonneg w) (broadcastInDim S4096x129 ![] bcast_S_S4096x129 (constantI S_ 32 4096#32))) (nonneg w))

def fetched (w : BitVec 32) (x : FVec Ideal S4x4096x8x64 .f32) : FVec Ideal S4x4096x129x8x64 .f32 :=
  Host.gather gather_S4x4096x8x64_S4096x129x1_S4x4096x129x8x64_034_1_n_n_1_2_41864 x (starts w)

def masked (w : BitVec 32) (q k : FVec Ideal S4x4096x8x64 .f32) : FVec Ideal S4x8x4096x129 .f32 :=
  select (broadcastInDim S4x8x4096x129 ![0, 1, 2, 3] bcast_S1x1x4096x129_S4x8x4096x129_0_1_2_3
      (broadcastInDim S1x1x4096x129 ![2, 3] bcast_S4096x129_S1x1x4096x129_2_3
        (cmpi .sge (steps w) (broadcastInDim S4096x129 ![] bcast_S_S4096x129 (constantI S_ 32 0#32)))))
    (mulf (Host.dotGeneral dot_S4x4096x8x64_S4x4096x129x8x64_S4x8x4096x129_3_4_n_2_021_031 none q (fetched w k))
      (broadcastInDim S4x8x4096x129 ![] bcast_S_S4x8x4096x129 (constant S_ .f32 0x3E000000#32)))
    (broadcastInDim S4x8x4096x129 ![] bcast_S_S4x8x4096x129 (id (constant S_ .f32 0xFF800000#32)))

def greatest (s : FVec Ideal S4x8x4096x129 .f32) : FVec Ideal S4x8x4096x1 .f32 :=
  broadcastInDim S4x8x4096x1 ![0, 1, 2] bcast_S4x8x4096_S4x8x4096x1_0_1_2
    (Host.reduce FloatOps.maximumf s (constant S_ .f32 0xFF800000#32) reducesTo_S4x8x4096x129_S4x8x4096_d3 h_S_)

def weights (s : FVec Ideal S4x8x4096x129 .f32) : FVec Ideal S4x8x4096x129 .f32 :=
  Host.exp (subf s (broadcastInDim S4x8x4096x129 ![0, 1, 2, 3] bcast_S4x8x4096x1_S4x8x4096x129_0_1_2_3 (greatest s)))

def total (s : FVec Ideal S4x8x4096x129 .f32) : FVec Ideal S4x8x4096 .f32 :=
  Host.reduceAdd (weights s) (constant S_ .f32 0x00000000#32) reducesTo_S4x8x4096x129_S4x8x4096_d3 h_S_

def averaged (w : BitVec 32) (q k v : FVec Ideal S4x4096x8x64 .f32) : FVec Ideal S4x4096x8x64 .f32 :=
  Host.dotGeneral dot_S4x8x4096x129_S4x4096x129x8x64_S4x4096x8x64_3_2_n_4_021_013 none
    (Host.divf (weights (masked w q k)) (broadcastInDim S4x8x4096x129 ![0, 1, 2, 3] bcast_S4x8x4096x1_S4x8x4096x129_0_1_2_3
      (broadcastInDim S4x8x4096x1 ![0, 1, 2] bcast_S4x8x4096_S4x8x4096x1_0_1_2 (total (masked w q k)))))
    (fetched w v)

def logged (w : BitVec 32) (q k : FVec Ideal S4x4096x8x64 .f32) : FVec Ideal S4x4096x8x64 .f32 :=
  broadcastInDim S4x4096x8x64 ![0, 1, 2, 3] bcast_S4x4096x8x1_S4x4096x8x64_0_1_2_3
    (broadcastInDim S4x4096x8x1 ![0, 1, 2] bcast_S4x4096x8_S4x4096x8x1_0_1_2
      (transpose S4x4096x8 [0, 2, 1] (addf (shapeCast S4x8x4096 (greatest (masked w q k)) shapeCasts_S4x8x4096x1_S4x8x4096)
        (Host.log (total (masked w q k)))) transposes_S4x8x4096_S4x4096x8_0_2_1))

/-! At an index. -/

theorem word_back (r p m : ℕ) (hr : r ≤ 16) (hp : p < 4096) (hm : m < 129) :
    (BitVec.ofNat 32 p - BitVec.ofNat 32 m * BitVec.ofNat 32 r).toInt = (p : ℤ) - m * r := by
  have h : m * r ≤ 128 * 16 := Nat.mul_le_mul (by omega) hr
  rw [BitVec.toInt_sub, BitVec.toInt_mul, BitVec.toInt_ofNat', BitVec.toInt_ofNat', BitVec.toInt_ofNat']
  rw [Int.bmod_eq_of_le (n := (p : ℤ)) (by omega) (by omega), Int.bmod_eq_of_le (n := (m : ℤ)) (by omega) (by omega),
    Int.bmod_eq_of_le (n := (r : ℤ)) (by omega) (by omega)]
  have h' : (m : ℤ) * r ≤ 128 * 16 := by exact_mod_cast h
  have h0 : (0 : ℤ) ≤ (m : ℤ) * r := by positivity
  rw [Int.bmod_eq_of_le (n := (m : ℤ) * r) (by omega) (by omega), Int.bmod_eq_of_le (by omega) (by omega)]

theorem steps_at (r : ℕ) (hr : r ≤ 16) (p : Fin 4096) (m : Fin 129) :
    (steps (BitVec.ofNat 32 r) (ix2 p m)).toInt = (p : ℤ) - m * r := by
  rw [← word_back r p m hr p.isLt m.isLt]
  pointwise [steps]
  rfl

theorem nonneg_at (r : ℕ) (hr : r ≤ 16) (p : Fin 4096) (m : Fin 129) :
    (nonneg (BitVec.ofNat 32 r) (ix2 p m)).toInt = max ((p : ℤ) - m * r) 0 := by
  rw [← steps_at r hr p m]
  show (IntOp.maxsi (steps (BitVec.ofNat 32 r) (ix2 p m)) 0#32).toInt = _
  generalize steps (BitVec.ofNat 32 r) (ix2 p m) = w
  unfold IntOp.maxsi
  have h0 : (0#32 : BitVec 32).toInt = 0 := rfl
  split
  · rename_i h
    rw [BitVec.slt_iff_toInt_lt, h0] at h
    omega
  · rename_i h
    rw [BitVec.slt_iff_toInt_lt, h0] at h
    omega

theorem starts_at (r : ℕ) (hr : r ≤ 16) (p : Fin 4096) (m : Fin 129) :
    (starts (BitVec.ofNat 32 r) (ix3 p m 0)).toInt.toNat = (p : ℕ) - m * r := by
  have hn := nonneg_at r hr p m
  have hs : IntOp.cmpi .slt (nonneg (BitVec.ofNat 32 r) (ix2 p m)) 0#32 = 0#1 := by
    rw [WordCmp.cmpi_slt_eq, hn]
    have h0 : (0#32 : BitVec 32).toInt = 0 := rfl
    rw [h0, decide_eq_false (by omega)]
    rfl
  pointwise [starts]
  rw [hs]
  show (nonneg (BitVec.ofNat 32 r) (ix2 p m)).toInt.toNat = _
  rw [hn]
  have h' : ((m * r : ℕ) : ℤ) = (m : ℤ) * r := by push_cast; rfl
  omega

theorem axes4 : ∀ a : Fin 4, a = 0 ∨ a = 1 ∨ a = 2 ∨ a = 3 := by decide

theorem fetched_at (r : ℕ) (hr : r ≤ 16) (x : FVec Ideal S4x4096x8x64 .f32) (b : Fin 4) (p : Fin 4096) (m : Fin 129) (h : Fin 8) (d : Fin 64) :
    fetched (BitVec.ofNat 32 r) x (ix5 b p m h d) = x (ix4 b ⟨p - m * r, by omega⟩ h d) := by
  unfold fetched Host.gather
  congr 1
  funext a
  refine Fin.ext ?_
  show GatherDims.start _ _ _ a + GatherDims.batchCoord _ _ a + GatherDims.offCoord _ _ a = _
  rw [GatherDims.batchCoord_eq_zero _ _ _ List.not_mem_nil]
  unfold GatherDims.start GatherDims.offCoord
  obtain rfl | rfl | rfl | rfl := axes4 a
  · rw [dif_neg (by decide), dif_pos (by decide)]
    simp only [Nat.zero_add, Nat.add_zero]
    rfl
  · rw [dif_pos (by decide), dif_neg (by decide)]
    have hsi : gather_S4x4096x8x64_S4096x129x1_S4x4096x129x8x64_034_1_n_n_1_2_41864.siIdx (ix5 b p m h d)
        ⟨List.idxOf (1 : Fin 4) gather_S4x4096x8x64_S4096x129x1_S4x4096x129x8x64_034_1_n_n_1_2_41864.startIndexMap, by decide⟩ = ix3 p m 0 := by
      funext b; refine Fin.ext ?_
      match b with
      | ⟨0, _⟩ => rfl
      | ⟨1, _⟩ => rfl
      | ⟨2, _⟩ => rfl
    show min (starts (BitVec.ofNat 32 r) (gather_S4x4096x8x64_S4096x129x1_S4x4096x129x8x64_034_1_n_n_1_2_41864.siIdx (ix5 b p m h d)
        ⟨List.idxOf (1 : Fin 4) gather_S4x4096x8x64_S4096x129x1_S4x4096x129x8x64_034_1_n_n_1_2_41864.startIndexMap, by decide⟩)).toInt.toNat (4096 - 1) + 0 + 0 = p - m * r
    rw [hsi, starts_at r hr]
    omega
  · rw [dif_neg (by decide), dif_pos (by decide)]
    simp only [Nat.zero_add, Nat.add_zero]
    rfl
  · rw [dif_neg (by decide), dif_pos (by decide)]
    simp only [Nat.zero_add, Nat.add_zero]
    rfl

theorem masked_at (r : ℕ) (hr : r ≤ 16) (q k : FVec Ideal S4x4096x8x64 .f32) (b : Fin 4) (h : Fin 8) (p : Fin 4096) (m : Fin 129) :
    masked (BitVec.ofNat 32 r) q k (ix4 b h p m)
      = if (m : ℕ) * r ≤ p then (∑ d : Fin 64, q (ix4 b p h d) * k (ix4 b ⟨p - m * r, by omega⟩ h d)) * Ideal.ofBits .f32 0x3E000000#32 else ⊥ := by
  have hs := steps_at r hr p m
  have hc : IntOp.cmpi .sge (steps (BitVec.ofNat 32 r) (ix2 p m)) 0#32 = BitVec.ofBool (decide ((m : ℕ) * r ≤ p)) := by
    rw [WordCmp.cmpi_sge_eq, hs]
    have h0 : (0#32 : BitVec 32).toInt = 0 := rfl
    have h' : ((m * r : ℕ) : ℤ) = (m : ℤ) * r := by push_cast; rfl
    rw [h0]
    congr 1
    exact decide_eq_decide.2 (by omega)
  pointwise [masked]
  rw [hc]
  by_cases hm : (m : ℕ) * r ≤ p
  · rw [if_pos hm, decide_eq_true hm]
    refine (select_one _ _).trans ?_
    congr 1
    exact Finset.sum_congr rfl fun d _ => congrArg _ (fetched_at r hr k b p m h d)
  · rw [if_neg hm, decide_eq_false hm]
    exact (select_zero _ _).trans minus_infinity

theorem greatest_at (s : FVec Ideal S4x8x4096x129 .f32) (b : Fin 4) (h : Fin 8) (p : Fin 4096) :
    greatest s (ix4 b h p 0) = top fun m => s (ix4 b h p m) := by
  pointwise [greatest]
  rw [minus_infinity]
  rfl

theorem weights_at (s : FVec Ideal S4x8x4096x129 .f32) (b : Fin 4) (h : Fin 8) (p : Fin 4096) (m : Fin 129) :
    weights s (ix4 b h p m) = Ideal.exp (s (ix4 b h p m) - top fun m => s (ix4 b h p m)) := by
  rw [← greatest_at]
  pointwise [weights]

theorem total_at (s : FVec Ideal S4x8x4096x129 .f32) (b : Fin 4) (h : Fin 8) (p : Fin 4096) :
    total s (ix3 b h p) = den fun m => s (ix4 b h p m) := by
  pointwise [total]
  exact Finset.sum_congr rfl fun m _ => weights_at s b h p m

/-- The mean and the logarithm, of the problem's row. -/
theorem averaged_at (r : ℕ) (hr : r ≤ 16) (q k v : FVec Ideal S4x4096x8x64 .f32) (b : Fin 4) (h : Fin 8) (p : Fin 4096) (d : Fin 64) :
    averaged (BitVec.ofNat 32 r) q k v (ix4 b p h d)
      = mean (fun m => masked (BitVec.ofNat 32 r) q k (ix4 b h p m)) (fun m => v (ix4 b ⟨p - m * r, by omega⟩ h d)) := by
  pointwise [averaged]
  refine Finset.sum_congr rfl fun m _ => ?_
  rw [fetched_at r hr, weights_at, total_at]

theorem dropLast_at (x : FVec Ideal S4x8x4096x1 .f32) (b : Fin 4) (h : Fin 8) (p : Fin 4096) :
    shapeCast S4x8x4096 x shapeCasts_S4x8x4096x1_S4x8x4096 (ix3 b h p) = x (ix4 b h p 0) := by
  pointwise

theorem spread_at (x : FVec Ideal S4x8x4096 .f32) (b : Fin 4) (h : Fin 8) (p : Fin 4096) (d : Fin 64) :
    broadcastInDim S4x4096x8x64 ![0, 1, 2, 3] bcast_S4x4096x8x1_S4x4096x8x64_0_1_2_3
      (broadcastInDim S4x4096x8x1 ![0, 1, 2] bcast_S4x4096x8_S4x4096x8x1_0_1_2
        (transpose S4x4096x8 [0, 2, 1] x transposes_S4x8x4096_S4x4096x8_0_2_1)) (ix4 b p h d) = x (ix3 b h p) := by
  pointwise

theorem addLog_at (x : FVec Ideal S4x8x4096x1 .f32) (y : FVec Ideal S4x8x4096 .f32) (b : Fin 4) (h : Fin 8) (p : Fin 4096) :
    addf (shapeCast S4x8x4096 x shapeCasts_S4x8x4096x1_S4x8x4096) (Host.log y) (ix3 b h p) = x (ix4 b h p 0) + Ideal.log (y (ix3 b h p)) := by
  rw [← dropLast_at x]
  rfl

theorem logged_at (w : BitVec 32) (q k : FVec Ideal S4x4096x8x64 .f32) (b : Fin 4) (h : Fin 8) (p : Fin 4096) (d : Fin 64) :
    logged w q k (ix4 b p h d) = lse (fun m => masked w q k (ix4 b h p m)) := by
  unfold lse logged
  rw [← greatest_at, ← total_at, spread_at]
  exact addLog_at (greatest (masked w q k)) (total (masked w q k)) b h p

/-! The queries, keys and values of a group, cut out of the projected tokens. -/

def part (s g : ℕ) (hs : S4x4096x3x3x8x64.Slices ![0, 0, s, g, 0, 0] S4x4096x1x1x8x64) (X : FVec Ideal Tokens .f32) : FVec Ideal S4x4096x8x64 .f32 :=
  shapeCast S4x4096x8x64 (extractStridedSlice S4x4096x1x1x8x64 ![0, 0, s, g, 0, 0]
    (shapeCast S4x4096x3x3x8x64 (extractStridedSlice S16384x4608 ![0, 2048] X slices_S16384x8704_S16384x4608_0_2048)
      shapeCasts_S16384x4608_S4x4096x3x3x8x64) hs) shapeCasts_S4x4096x1x1x8x64_S4x4096x8x64

theorem part_at (s g : ℕ) (hs' : s < 3) (hg : g < 3) (hs : S4x4096x3x3x8x64.Slices ![0, 0, s, g, 0, 0] S4x4096x1x1x8x64) (X : FVec Ideal Tokens .f32)
    (b : Fin 4) (p : Fin 4096) (h : Fin 8) (d : Fin 64) :
    part s g hs X (ix4 b p h d) = cell X (b * 4096 + p) (2048 + s * 1536 + g * 512 + (h * 64 + d)) := by
  unfold cell
  pointwise [part]
  congr 1
  refine (ix2_inj ..).2 ⟨Fin.ext ?_, Fin.ext ?_⟩
  · show (b : ℕ) * 4096 + p = ((b : ℕ) * 4096 + p) % 16384
    omega
  · show 2048 + (s * 1536 + g * 512 + h * 64 + d) = (2048 + s * 1536 + g * 512 + (h * 64 + d)) % 8704
    omega

section
variable (X : FVec Ideal Tokens .f32) (r g : ℕ) (hr : r ≤ 16) (hg : g < 3)
  (h0 : S4x4096x3x3x8x64.Slices ![0, 0, 0, g, 0, 0] S4x4096x1x1x8x64) (h1 : S4x4096x3x3x8x64.Slices ![0, 0, 1, g, 0, 0] S4x4096x1x1x8x64)
  (h2 : S4x4096x3x3x8x64.Slices ![0, 0, 2, g, 0, 0] S4x4096x1x1x8x64) (b : Fin 4) (p : Fin 4096) (h : Fin 8) (d : Fin 64)
include hr hg

theorem masked_score :
    (fun m => masked (BitVec.ofNat 32 r) (part 0 g h0 X) (part 1 g h1 X) (ix4 b h p m)) = score X r g b p h := by
  funext m
  rw [masked_at r hr]
  unfold score
  refine if_congr Iff.rfl (congrArg (· * _) (Finset.sum_congr rfl fun d _ => ?_)) rfl
  rw [part_at 0 g (by omega) hg, part_at 1 g (by omega) hg]

theorem averaged_score :
    averaged (BitVec.ofNat 32 r) (part 0 g h0 X) (part 1 g h1 X) (part 2 g h2 X) (ix4 b p h d)
      = mean (score X r g b p h) (value X r g b p (h * 64 + d)) := by
  rw [averaged_at r hr, masked_score X r g hr hg]
  congr 1
  funext m
  rw [part_at 2 g (by omega) hg]
  rfl

theorem logged_score :
    logged (BitVec.ofNat 32 r) (part 0 g h0 X) (part 1 g h1 X) (ix4 b p h d) = lse (score X r g b p h) := by
  rw [logged_at, masked_score X r g hr hg]

end

end Cert.Attend.Plain
-- ==== Proof.Plain1.lean ====
/-
The plain attention of the group with stride 1, its two results at an index: row `R` of a result holds 1 consecutive
token, 512 columns each.
-/
module

public import proofs.«01_k».proof.Proof.Gen.Dilated1Ideal.Run
public import proofs.«01_k».proof.Proof.Dilated

@[expose] public section

set_option maxRecDepth 16384

noncomputable section

namespace Cert.Dilated1Ideal.Value

open Idealize.ShloMosaic Idealize.ShloMosaic.TcCoe Idealize.SL.Sem
open Cert.Dilated1Ideal Cert.Dilated1Ideal.Gen
open Cert.Attend

/-- The projected tokens. -/
abbrev tokens (m : (ℓ : Loc nD τ sig) → Buf (Elt Ideal) ℓ) (c : Dev nD) : FVec Ideal Tokens .f32 := m ((c.tc : Thread nD τ).loc main_arg0)

theorem out0_eq (m : (ℓ : Loc nD τ sig) → Buf (Elt Ideal) ℓ) (c : Dev nD) :
    res_out0 (F := Ideal) m c = shapeCast S16384x512 (Plain.averaged (BitVec.ofNat 32 1) (Plain.part 0 0 slices_S4x4096x3x3x8x64_S4x4096x1x1x8x64_0_0_0_0_0_0 (tokens m c))
      (Plain.part 1 0 slices_S4x4096x3x3x8x64_S4x4096x1x1x8x64_0_0_1_0_0_0 (tokens m c))
      (Plain.part 2 0 slices_S4x4096x3x3x8x64_S4x4096x1x1x8x64_0_0_2_0_0_0 (tokens m c))) shapeCasts_S4x4096x8x64_S16384x512 := by
  unfold res_out0 res_main_v56
  rfl

theorem out1_eq (m : (ℓ : Loc nD τ sig) → Buf (Elt Ideal) ℓ) (c : Dev nD) :
    res_out1 (F := Ideal) m c = shapeCast S16384x512 (Plain.logged (BitVec.ofNat 32 1) (Plain.part 0 0 slices_S4x4096x3x3x8x64_S4x4096x1x1x8x64_0_0_0_0_0_0 (tokens m c))
      (Plain.part 1 0 slices_S4x4096x3x3x8x64_S4x4096x1x1x8x64_0_0_1_0_0_0 (tokens m c))) shapeCasts_S4x4096x8x64_S16384x512 := by
  unfold res_out1 res_main_v57
  rfl

theorem flat_at (x : FVec Ideal S4x4096x8x64 .f32) (i : Fin 16384) (j : Fin 512) (b : Fin 4) (p : Fin 4096) (h : Fin 8) (d : Fin 64)
    (hb : (b : ℕ) = (i * 1 + j / 512) / 4096) (hp : (p : ℕ) = (i * 1 + j / 512) % 4096) (hh : (h : ℕ) = j % 512 / 64) (hd : (d : ℕ) = j % 64) :
    shapeCast S16384x512 x shapeCasts_S4x4096x8x64_S16384x512 (ix2 i j) = x (ix4 b p h d) := by
  pointwise
  congr 1
  refine (ix4_inj ..).2 ⟨Fin.ext ?_, Fin.ext ?_, Fin.ext ?_, Fin.ext ?_⟩ <;> simp only [hb, hp, hh, hd] <;> omega

theorem out0_at (m : (ℓ : Loc nD τ sig) → Buf (Elt Ideal) ℓ) (c : Dev nD) (i : Fin 16384) (j : Fin 512) :
    res_out0 (F := Ideal) m c (ix2 i j) = mean (score (tokens m c) 1 0 ((i * 1 + j / 512) / 4096) ((i * 1 + j / 512) % 4096) (j % 512 / 64))
      (value (tokens m c) 1 0 ((i * 1 + j / 512) / 4096) ((i * 1 + j / 512) % 4096) (j % 512)) := by
  rw [out0_eq]
  refine (flat_at _ i j ⟨(i * 1 + j / 512) / 4096, by omega⟩ ⟨(i * 1 + j / 512) % 4096, by omega⟩ ⟨j % 512 / 64, by omega⟩ ⟨j % 64, by omega⟩ rfl rfl rfl rfl).trans ?_
  refine (Plain.averaged_score (tokens m c) 1 0 (by omega) (by omega) _ _ _ _ _ _ _).trans ?_
  rw [show (j : ℕ) % 512 / 64 * 64 + j % 64 = j % 512 by omega]

theorem out1_at (m : (ℓ : Loc nD τ sig) → Buf (Elt Ideal) ℓ) (c : Dev nD) (i : Fin 16384) (j : Fin 512) :
    res_out1 (F := Ideal) m c (ix2 i j) = lse (score (tokens m c) 1 0 ((i * 1 + j / 512) / 4096) ((i * 1 + j / 512) % 4096) (j % 512 / 64)) := by
  rw [out1_eq]
  refine (flat_at _ i j ⟨(i * 1 + j / 512) / 4096, by omega⟩ ⟨(i * 1 + j / 512) % 4096, by omega⟩ ⟨j % 512 / 64, by omega⟩ ⟨j % 64, by omega⟩ rfl rfl rfl rfl).trans ?_
  exact Plain.logged_score (tokens m c) 1 0 (by omega) (by omega) _ _ _ _ _ _

end Cert.Dilated1Ideal.Value
-- ==== Proof.Tile4.lean ====
/-
The kernel with stride 4: every stored tile is the pair of heads of Block.lean, so a block of a result read at an index is
that pair at the index's own lane.
-/
module

public import proofs.«01_k».proof.Proof.Gen.Attn4Ideal.Value
public import proofs.«01_k».proof.Proof.Window
public import Idealize.ShloMosaic.Lib.Pointwise
public import Idealize.ShloMosaic.Lib.Pipeline.ValueKit

@[expose] public section

set_option maxRecDepth 16384

noncomputable section

namespace Cert.Attn4Ideal.Value

open Idealize.ShloMosaic Idealize.ShloMosaic.TcCoe Idealize.SL.Sem
open Idealize.ShloMosaic.Pipeline (Dat)
open Cert.Attn4Ideal Cert.Attn4Ideal.Gen
open Cert.Attend

/-- A loaded tile goes through a reshape to its own shape. -/
def loaded (x : FVec Ideal S128x128 .f32) : FVec Ideal S128x128 .f32 := shapeCast S128x128 x shapeCasts_S128x128_S128x128

section
variable (i : grid0.Coords) (q k1 k2 v1 v2 : Vec Ideal S128x128 .f32)

theorem tile5_0 : k0_pay22 (F := Ideal) (k0_pay7 i) (k0_pay8) (k0_pay9 q) (k0_pay10 k1 k2) (k0_pay11 v1 v2) (k0_pay12) (k0_pay13 q)
    = pairO (BitVec.ofNat 32 (i 2).val) q k1 k2 v1 v2 := by
  refine Eq.trans (b := pairO (BitVec.ofNat 32 (i 2).val) (loaded q) (loaded k1) (loaded k2) (loaded v1) (loaded v2)) rfl ?_
  simp only [loaded, shapeCast_id]

theorem tile5_1 : k0_pay38 (F := Ideal) (k0_pay7 i) (k0_pay8) (k0_pay25 k1 k2) (k0_pay26 v1 v2) (k0_pay32 (k0_pay7 i) (k0_pay8) q k1 k2 v1 v2) (k0_pay33 (k0_pay8) q) (constant S128x256 .f32 0x00000000#32)
    = pairO (BitVec.ofNat 32 (i 2).val) q k1 k2 v1 v2 := by
  refine Eq.trans (b := pairO (BitVec.ofNat 32 (i 2).val) (loaded q) (loaded k1) (loaded k2) (loaded v1) (loaded v2)) rfl ?_
  simp only [loaded, shapeCast_id]

theorem tile5_2 : k0_pay52 (F := Ideal) (k0_pay7 i) (k0_pay8) (k0_pay40 q) (k0_pay41 k1 k2) (k0_pay42 v1 v2)
    = pairO (BitVec.ofNat 32 (i 2).val) q k1 k2 v1 v2 := by
  refine Eq.trans (b := pairO (BitVec.ofNat 32 (i 2).val) (loaded q) (loaded k1) (loaded k2) (loaded v1) (loaded v2)) rfl ?_
  simp only [loaded, shapeCast_id]

theorem tile5_3 : k0_pay5 (F := Ideal) (k0_pay7 i) (k0_pay8) (k0_pay55 q) (k0_pay56 k1 k2) (k0_pay57 v1 v2) (k0_pay58 (k0_pay8)) (k0_pay64 (k0_pay7 i) (k0_pay8) q k1 k2) (constant S128x128 .f32 0x00000000#32)
    = pairO (BitVec.ofNat 32 (i 2).val) q k1 k2 v1 v2 := by
  refine Eq.trans (b := pairO (BitVec.ofNat 32 (i 2).val) (loaded q) (loaded k1) (loaded k2) (loaded v1) (loaded v2)) rfl ?_
  simp only [loaded, shapeCast_id]

theorem tile6_0 : k0_pay23 (F := Ideal) (k0_pay7 i) (k0_pay8) (k0_pay9 q) (k0_pay10 k1 k2) (k0_pay12) (k0_pay13 q)
    = pairL (BitVec.ofNat 32 (i 2).val) q k1 k2 := by
  refine Eq.trans (b := pairL (BitVec.ofNat 32 (i 2).val) (loaded q) (loaded k1) (loaded k2)) rfl ?_
  simp only [loaded, shapeCast_id]

theorem tile6_1 : k0_pay39 (F := Ideal) (k0_pay7 i) (k0_pay8) (k0_pay25 k1 k2) (k0_pay31 (k0_pay7 i) (k0_pay8) q k1 k2) (k0_pay33 (k0_pay8) q) (constant S128x256 .f32 0x00000000#32)
    = pairL (BitVec.ofNat 32 (i 2).val) q k1 k2 := by
  refine Eq.trans (b := pairL (BitVec.ofNat 32 (i 2).val) (loaded q) (loaded k1) (loaded k2)) rfl ?_
  simp only [loaded, shapeCast_id]

theorem tile6_2 : k0_pay54 (F := Ideal) (k0_pay8) (k0_pay51 (k0_pay7 i) (k0_pay8) (k0_pay40 q) (k0_pay41 k1 k2)) (k0_pay53 (k0_pay7 i) (k0_pay8) (k0_pay40 q) (k0_pay41 k1 k2))
    = pairL (BitVec.ofNat 32 (i 2).val) q k1 k2 := by
  refine Eq.trans (b := pairL (BitVec.ofNat 32 (i 2).val) (loaded q) (loaded k1) (loaded k2)) rfl ?_
  simp only [loaded, shapeCast_id]

theorem tile6_3 : k0_pay6 (F := Ideal) (k0_pay7 i) (k0_pay8) (k0_pay55 q) (k0_pay56 k1 k2) (k0_pay58 (k0_pay8)) (k0_pay63 (k0_pay7 i) (k0_pay8) q k1 k2)
    = pairL (BitVec.ofNat 32 (i 2).val) q k1 k2 := by
  refine Eq.trans (b := pairL (BitVec.ofNat 32 (i 2).val) (loaded q) (loaded k1) (loaded k2)) rfl ?_
  simp only [loaded, shapeCast_id]

end

/-- The 128 columns from column `P * 128` on, of a block of 512. -/
def lanes (P : ℕ) (hP : P < 4) (x : Vec Ideal S128x512 .f32) : FVec Ideal S128x128 .f32 :=
  fun j => x (ix2 (j 0 : Fin 128) ⟨P * 128 + (j 1 : Fin 128), by have h : ((j 1 : Fin 128) : ℕ) < 128 := (j 1 : Fin 128).isLt; omega⟩)

set_option maxHeartbeats 1600000 in
theorem block5 (i : grid0.Coords) (x0 x1 x2 x3 x4 : Vec Ideal S128x512 .f32) (a : Fin 128) (b : Fin 512) (P : ℕ) (hP : P < 4) (l : Fin 128) (hb : (b : ℕ) = P * 128 + l) :
    out0_5 (F := Ideal) i x0 x1 x2 x3 x4 (ix2 a b)
      = pairO (BitVec.ofNat 32 (i 2).val) (lanes P hP x0) (lanes P hP x1) (lanes P hP x2) (lanes P hP x3) (lanes P hP x4) (ix2 a l) := by
  unfold_out out0_5
  canon_tiles x h
  · obtain rfl : P = 3 := by
      have h1' : (b : ℕ) = 384 + (x 1 : Fin 128) := by simpa using h1
      omega
    obtain rfl : x = ix2 a l := by
      have h0' : (a : ℕ) = (x 0 : Fin 128) := h0
      have h1' : (b : ℕ) = 384 + (x 1 : Fin 128) := by simpa using h1
      refine (eq_ix2 x).trans ((ix2_inj ..).2 ⟨Fin.ext h0'.symm, Fin.ext ?_⟩)
      show ((x 1 : Fin 128) : ℕ) = l
      omega
    refine (congrFun (tile5_3 i _ _ _ _ _) _).trans ?_
    congr 1 <;> (funext j; pointwise [lanes])
  · obtain rfl : P = 2 := by
      have h1' : (b : ℕ) = 256 + (x 1 : Fin 128) := by simpa using h1
      omega
    obtain rfl : x = ix2 a l := by
      have h0' : (a : ℕ) = (x 0 : Fin 128) := h0
      have h1' : (b : ℕ) = 256 + (x 1 : Fin 128) := by simpa using h1
      refine (eq_ix2 x).trans ((ix2_inj ..).2 ⟨Fin.ext h0'.symm, Fin.ext ?_⟩)
      show ((x 1 : Fin 128) : ℕ) = l
      omega
    refine (congrFun (tile5_2 i _ _ _ _ _) _).trans ?_
    congr 1 <;> (funext j; pointwise [lanes])
  · obtain rfl : P = 1 := by
      have h1' : (b : ℕ) = 128 + (x 1 : Fin 128) := by simpa using h1
      omega
    obtain rfl : x = ix2 a l := by
      have h0' : (a : ℕ) = (x 0 : Fin 128) := h0
      have h1' : (b : ℕ) = 128 + (x 1 : Fin 128) := by simpa using h1
      refine (eq_ix2 x).trans ((ix2_inj ..).2 ⟨Fin.ext h0'.symm, Fin.ext ?_⟩)
      show ((x 1 : Fin 128) : ℕ) = l
      omega
    refine (congrFun (tile5_1 i _ _ _ _ _) _).trans ?_
    congr 1 <;> (funext j; pointwise [lanes])
  · obtain rfl : P = 0 := by
      have h1' : (b : ℕ) = 0 + (x 1 : Fin 128) := by simpa using h1
      omega
    obtain rfl : x = ix2 a l := by
      have h0' : (a : ℕ) = (x 0 : Fin 128) := h0
      have h1' : (b : ℕ) = 0 + (x 1 : Fin 128) := by simpa using h1
      refine (eq_ix2 x).trans ((ix2_inj ..).2 ⟨Fin.ext h0'.symm, Fin.ext ?_⟩)
      show ((x 1 : Fin 128) : ℕ) = l
      omega
    refine (congrFun (tile5_0 i _ _ _ _ _) _).trans ?_
    congr 1 <;> (funext j; pointwise [lanes])

set_option maxHeartbeats 1600000 in
theorem block6 (i : grid0.Coords) (x0 x1 x2 x3 x4 : Vec Ideal S128x512 .f32) (a : Fin 128) (b : Fin 512) (P : ℕ) (hP : P < 4) (l : Fin 128) (hb : (b : ℕ) = P * 128 + l) :
    out0_6 (F := Ideal) i x0 x1 x2 x3 x4 (ix2 a b)
      = pairL (BitVec.ofNat 32 (i 2).val) (lanes P hP x0) (lanes P hP x1) (lanes P hP x2) (ix2 a l) := by
  unfold_out out0_6
  canon_tiles x h
  · obtain rfl : P = 3 := by
      have h1' : (b : ℕ) = 384 + (x 1 : Fin 128) := by simpa using h1
      omega
    obtain rfl : x = ix2 a l := by
      have h0' : (a : ℕ) = (x 0 : Fin 128) := h0
      have h1' : (b : ℕ) = 384 + (x 1 : Fin 128) := by simpa using h1
      refine (eq_ix2 x).trans ((ix2_inj ..).2 ⟨Fin.ext h0'.symm, Fin.ext ?_⟩)
      show ((x 1 : Fin 128) : ℕ) = l
      omega
    refine (congrFun (tile6_3 i _ _ _) _).trans ?_
    congr 1 <;> (funext j; pointwise [lanes])
  · obtain rfl : P = 2 := by
      have h1' : (b : ℕ) = 256 + (x 1 : Fin 128) := by simpa using h1
      omega
    obtain rfl : x = ix2 a l := by
      have h0' : (a : ℕ) = (x 0 : Fin 128) := h0
      have h1' : (b : ℕ) = 256 + (x 1 : Fin 128) := by simpa using h1
      refine (eq_ix2 x).trans ((ix2_inj ..).2 ⟨Fin.ext h0'.symm, Fin.ext ?_⟩)
      show ((x 1 : Fin 128) : ℕ) = l
      omega
    refine (congrFun (tile6_2 i _ _ _) _).trans ?_
    congr 1 <;> (funext j; pointwise [lanes])
  · obtain rfl : P = 1 := by
      have h1' : (b : ℕ) = 128 + (x 1 : Fin 128) := by simpa using h1
      omega
    obtain rfl : x = ix2 a l := by
      have h0' : (a : ℕ) = (x 0 : Fin 128) := h0
      have h1' : (b : ℕ) = 128 + (x 1 : Fin 128) := by simpa using h1
      refine (eq_ix2 x).trans ((ix2_inj ..).2 ⟨Fin.ext h0'.symm, Fin.ext ?_⟩)
      show ((x 1 : Fin 128) : ℕ) = l
      omega
    refine (congrFun (tile6_1 i _ _ _) _).trans ?_
    congr 1 <;> (funext j; pointwise [lanes])
  · obtain rfl : P = 0 := by
      have h1' : (b : ℕ) = 0 + (x 1 : Fin 128) := by simpa using h1
      omega
    obtain rfl : x = ix2 a l := by
      have h0' : (a : ℕ) = (x 0 : Fin 128) := h0
      have h1' : (b : ℕ) = 0 + (x 1 : Fin 128) := by simpa using h1
      refine (eq_ix2 x).trans ((ix2_inj ..).2 ⟨Fin.ext h0'.symm, Fin.ext ?_⟩)
      show ((x 1 : Fin 128) : ℕ) = l
      omega
    refine (congrFun (tile6_0 i _ _ _) _).trans ?_
    congr 1 <;> (funext j; pointwise [lanes])

end Cert.Attn4Ideal.Value
-- ==== Proof.Array4.lean ====
/-
The arrays the kernel with stride 4 leaves, each entry the mean (or the log of the sum) over the problem's own row. Grid point
`t` works on batch `t / 32`, on every 4-th token from `t / 8 % 4` on, and there on block `t % 8` of 128.
-/
module

public import proofs.«01_k».proof.Proof.Tile4

@[expose] public section

set_option maxRecDepth 16384

noncomputable section

namespace Cert.Attn4Ideal.Value

open Idealize.ShloMosaic Idealize.ShloMosaic.TcCoe Idealize.SL.Sem
open Idealize.ShloMosaic.Pipeline (Dat)
open Cert.Attn4Ideal Cert.Attn4Ideal.Gen
open Cert.Attend

theorem idx : ∀ t : Fin cfg0.N, win0_0.index t = ![t.val / 32 * 8 + t.val % 8, t.val / 8 % 4 * 17 + 5]
    ∧ win0_1.index t = ![t.val / 32 * 8 + (t.val % 8 - 1), t.val / 8 % 4 * 17 + 8] ∧ win0_2.index t = ![t.val / 32 * 8 + t.val % 8, t.val / 8 % 4 * 17 + 8]
    ∧ win0_3.index t = ![t.val / 32 * 8 + (t.val % 8 - 1), t.val / 8 % 4 * 17 + 11] ∧ win0_4.index t = ![t.val / 32 * 8 + t.val % 8, t.val / 8 % 4 * 17 + 11]
    ∧ win0_5.index t = ![t.val / 32 * 8 + t.val % 8, t.val / 8 % 4] ∧ win0_6.index t = ![t.val / 32 * 8 + t.val % 8, t.val / 8 % 4]
    ∧ (grid0.coords t 2).val = t.val % 8 :=
  (by decide +kernel : ∀ t : Fin grid0.N, _)

/-- The projected tokens. -/
abbrev tokens (m : (ℓ : Loc nD τ sig) → Buf (Elt Ideal) ℓ) (c : Dev nD) : FVec Ideal Tokens .f32 := m ((c : Thread nD τ).loc main_arg0)

/-- A row of the reshaped tokens holds 4 consecutive tokens. -/
theorem rows_at (X : FVec Ideal Tokens .f32) (y : S4096x34816.Idx) (i j k : ℕ) (h0 : ((y 0 : Fin 4096) : ℕ) = i)
    (h1 : ((y 1 : Fin 34816) : ℕ) = k * 8704 + j) (hj : j < 8704) :
    shapeCast S4096x34816 X shapeCasts_S16384x8704_S4096x34816 y = cell X (i * 4 + k) j := by
  have l0 : ((y 0 : Fin 4096) : ℕ) < 4096 := (y 0 : Fin 4096).isLt
  have l1 : ((y 1 : Fin 34816) : ℕ) < 34816 := (y 1 : Fin 34816).isLt
  have hk : k < 4 := by omega
  obtain ⟨y0, y1, rfl⟩ : ∃ (y0 : Fin 4096) (y1 : Fin 34816), y = ix2 y0 y1 := ⟨y 0, y 1, eq_ix2 y⟩
  replace h0 : (y0 : ℕ) = i := h0
  replace h1 : (y1 : ℕ) = k * 8704 + j := h1
  unfold cell
  pointwise
  congr 1
  refine (ix2_inj ..).2 ⟨Fin.ext ?_, Fin.ext ?_⟩
  · show (y0 : ℕ) * 4 + y1 / 8704 = (i * 4 + k) % 16384
    omega
  · show (y1 : ℕ) % 8704 = j % 8704
    omega

variable (m : (ℓ : Loc nD τ sig) → Buf (Elt Ideal) ℓ) (c : Dev nD) (t : Fin cfg0.N)

theorem point_lt : t.val < 128 := lt_of_lt_of_eq t.isLt (by decide +kernel)

/-! The blocks the windows read. -/

theorem entry0 (P : ℕ) (hP : P < 4) (a l : Fin 128) :
    lanes P hP (iblk m c 0 t) (ix2 a l) = cell (tokens m c) (t.val / 32 * 4096 + ((t.val % 8 * 128 + a) * 4 + t.val / 8 % 4)) (2048 + 1 * 512 + (P * 128 + l)) := by
  have ht := point_lt t
  rw [show t.val / 32 * 4096 + ((t.val % 8 * 128 + a) * 4 + t.val / 8 % 4) = (t.val / 32 * 1024 + (t.val % 8 * 128 + a)) * 4 + t.val / 8 % 4 by omega]
  obtain ⟨b, hb⟩ : ∃ b : Fin 512, (b : ℕ) = P * 128 + l := ⟨⟨P * 128 + l, by omega⟩, rfl⟩
  refine (congrArg (fun k => (iblk m c 0 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem entry1 (P : ℕ) (hP : P < 4) (a l : Fin 128) :
    lanes P hP (iblk m c 1 t) (ix2 a l) = cell (tokens m c) (t.val / 32 * 4096 + (((t.val % 8 - 1) * 128 + a) * 4 + t.val / 8 % 4)) (3584 + 1 * 512 + (P * 128 + l)) := by
  have ht := point_lt t
  rw [show t.val / 32 * 4096 + (((t.val % 8 - 1) * 128 + a) * 4 + t.val / 8 % 4) = (t.val / 32 * 1024 + ((t.val % 8 - 1) * 128 + a)) * 4 + t.val / 8 % 4 by omega]
  obtain ⟨b, hb⟩ : ∃ b : Fin 512, (b : ℕ) = P * 128 + l := ⟨⟨P * 128 + l, by omega⟩, rfl⟩
  refine (congrArg (fun k => (iblk m c 1 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem entry2 (P : ℕ) (hP : P < 4) (a l : Fin 128) :
    lanes P hP (iblk m c 2 t) (ix2 a l) = cell (tokens m c) (t.val / 32 * 4096 + ((t.val % 8 * 128 + a) * 4 + t.val / 8 % 4)) (3584 + 1 * 512 + (P * 128 + l)) := by
  have ht := point_lt t
  rw [show t.val / 32 * 4096 + ((t.val % 8 * 128 + a) * 4 + t.val / 8 % 4) = (t.val / 32 * 1024 + (t.val % 8 * 128 + a)) * 4 + t.val / 8 % 4 by omega]
  obtain ⟨b, hb⟩ : ∃ b : Fin 512, (b : ℕ) = P * 128 + l := ⟨⟨P * 128 + l, by omega⟩, rfl⟩
  refine (congrArg (fun k => (iblk m c 2 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem entry3 (P : ℕ) (hP : P < 4) (a l : Fin 128) :
    lanes P hP (iblk m c 3 t) (ix2 a l) = cell (tokens m c) (t.val / 32 * 4096 + (((t.val % 8 - 1) * 128 + a) * 4 + t.val / 8 % 4)) (5120 + 1 * 512 + (P * 128 + l)) := by
  have ht := point_lt t
  rw [show t.val / 32 * 4096 + (((t.val % 8 - 1) * 128 + a) * 4 + t.val / 8 % 4) = (t.val / 32 * 1024 + ((t.val % 8 - 1) * 128 + a)) * 4 + t.val / 8 % 4 by omega]
  obtain ⟨b, hb⟩ : ∃ b : Fin 512, (b : ℕ) = P * 128 + l := ⟨⟨P * 128 + l, by omega⟩, rfl⟩
  refine (congrArg (fun k => (iblk m c 3 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem entry4 (P : ℕ) (hP : P < 4) (a l : Fin 128) :
    lanes P hP (iblk m c 4 t) (ix2 a l) = cell (tokens m c) (t.val / 32 * 4096 + ((t.val % 8 * 128 + a) * 4 + t.val / 8 % 4)) (5120 + 1 * 512 + (P * 128 + l)) := by
  have ht := point_lt t
  rw [show t.val / 32 * 4096 + ((t.val % 8 * 128 + a) * 4 + t.val / 8 % 4) = (t.val / 32 * 1024 + (t.val % 8 * 128 + a)) * 4 + t.val / 8 % 4 by omega]
  obtain ⟨b, hb⟩ : ∃ b : Fin 512, (b : ℕ) = P * 128 + l := ⟨⟨P * 128 + l, by omega⟩, rfl⟩
  refine (congrArg (fun k => (iblk m c 4 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem point5 (hX : FiniteQK (tokens m c)) (a : Fin 128) (b : Fin 512) :
    out0_5 (F := Ideal) (grid0.coords t) (iblk m c 0 t) (iblk m c 1 t) (iblk m c 2 t) (iblk m c 3 t) (iblk m c 4 t) (ix2 a b)
      = outMean (tokens m c) 4 1 ((t.val / 32 * 8 + t.val % 8) * 128 + a) (t.val / 8 % 4 * 512 + b) := by
  have ht := point_lt t
  have hP : (b : ℕ) / 128 < 4 := by omega
  have hb : (b : ℕ) = b / 128 * 128 + ((⟨b % 128, by omega⟩ : Fin 128) : ℕ) := by show (b : ℕ) = b / 128 * 128 + b % 128; omega
  rw [block5 (grid0.coords t) _ _ _ _ _ a b (b / 128) hP ⟨b % 128, by omega⟩ hb, (idx t).2.2.2.2.2.2.2]
  have hq : ∀ i, Finite (lanes (b / 128) hP (iblk m c 0 t) i) := fun i => by
    rw [eq_ix2 i]; exact (entry0 m c t (b / 128) hP (i 0) (i 1)).symm ▸ hX _ _ (by omega) (by have h : ((i 1 : Fin 128) : ℕ) < 128 := (i 1 : Fin 128).isLt; omega)
  have h1 : ∀ i, Finite (lanes (b / 128) hP (iblk m c 1 t) i) := fun i => by
    rw [eq_ix2 i]; exact (entry1 m c t (b / 128) hP (i 0) (i 1)).symm ▸ hX _ _ (by omega) (by have h : ((i 1 : Fin 128) : ℕ) < 128 := (i 1 : Fin 128).isLt; omega)
  have h2 : ∀ i, Finite (lanes (b / 128) hP (iblk m c 2 t) i) := fun i => by
    rw [eq_ix2 i]; exact (entry2 m c t (b / 128) hP (i 0) (i 1)).symm ▸ hX _ _ (by omega) (by have h : ((i 1 : Fin 128) : ℕ) < 128 := (i 1 : Fin 128).isLt; omega)
  refine (pairO_at (t.val % 8) (by omega) _ _ _ _ _ hq h1 h2 a _ ⟨b % 128 / 64, by omega⟩ rfl).trans ?_
  refine (mean_row (tokens m c) hX 4 1 (t.val / 32) (t.val / 8 % 4) (t.val % 8) (b / 128) (by omega) (by omega) hP _ _ _ _ _
    (entry0 m c t (b / 128) hP) (entry1 m c t (b / 128) hP) (entry2 m c t (b / 128) hP) (entry3 m c t (b / 128) hP) (entry4 m c t (b / 128) hP) a ⟨b % 128 / 64, by omega⟩ _).trans ?_
  unfold outMean
  rw [show (((t.val / 32 * 8 + t.val % 8) * 128 + a) * 4 + (t.val / 8 % 4 * 512 + b) / 512) / 4096 = t.val / 32 by omega,
    show (((t.val / 32 * 8 + t.val % 8) * 128 + a) * 4 + (t.val / 8 % 4 * 512 + b) / 512) % 4096 = (t.val % 8 * 128 + a) * 4 + t.val / 8 % 4 by omega,
    show (t.val / 8 % 4 * 512 + b) % 512 / 64 = b / 128 * 2 + b % 128 / 64 by omega]
  rw [show (t.val / 8 % 4 * 512 + b) % 512 = b / 128 * 128 + b % 128 by omega]

/-- The array of result 0. -/
theorem final5 (hX : FiniteQK (tokens m c)) :
    (dats m 0 c).arrAt 5 (cfgs 0).N = fun i => outMean (tokens m c) 4 1 ((i 0 : Fin 4096) : ℕ) ((i 1 : Fin 2048) : ℕ) := by
  refine (dats m 0 c).arrAt_eq_of_covers 5 _ (by decide +kernel) fun t _ y => ?_
  blk_simp
  rw [after0_5]
  refine Eq.trans ?_ ((point5 m c t hX (y 0) (y 1)).trans ?_)
  · exact congrArg _ (eq_ix2 y)
  · refine congrArg₂ (outMean (tokens m c) 4 1) ?_ ?_
    · blk_simp [idx t]
    · blk_simp [idx t]

theorem point6 (hX : FiniteQK (tokens m c)) (a : Fin 128) (b : Fin 512) :
    out0_6 (F := Ideal) (grid0.coords t) (iblk m c 0 t) (iblk m c 1 t) (iblk m c 2 t) (iblk m c 3 t) (iblk m c 4 t) (ix2 a b)
      = outLse (tokens m c) 4 1 ((t.val / 32 * 8 + t.val % 8) * 128 + a) (t.val / 8 % 4 * 512 + b) := by
  have ht := point_lt t
  have hP : (b : ℕ) / 128 < 4 := by omega
  have hb : (b : ℕ) = b / 128 * 128 + ((⟨b % 128, by omega⟩ : Fin 128) : ℕ) := by show (b : ℕ) = b / 128 * 128 + b % 128; omega
  rw [block6 (grid0.coords t) _ _ _ _ _ a b (b / 128) hP ⟨b % 128, by omega⟩ hb, (idx t).2.2.2.2.2.2.2]
  have hq : ∀ i, Finite (lanes (b / 128) hP (iblk m c 0 t) i) := fun i => by
    rw [eq_ix2 i]; exact (entry0 m c t (b / 128) hP (i 0) (i 1)).symm ▸ hX _ _ (by omega) (by have h : ((i 1 : Fin 128) : ℕ) < 128 := (i 1 : Fin 128).isLt; omega)
  have h1 : ∀ i, Finite (lanes (b / 128) hP (iblk m c 1 t) i) := fun i => by
    rw [eq_ix2 i]; exact (entry1 m c t (b / 128) hP (i 0) (i 1)).symm ▸ hX _ _ (by omega) (by have h : ((i 1 : Fin 128) : ℕ) < 128 := (i 1 : Fin 128).isLt; omega)
  have h2 : ∀ i, Finite (lanes (b / 128) hP (iblk m c 2 t) i) := fun i => by
    rw [eq_ix2 i]; exact (entry2 m c t (b / 128) hP (i 0) (i 1)).symm ▸ hX _ _ (by omega) (by have h : ((i 1 : Fin 128) : ℕ) < 128 := (i 1 : Fin 128).isLt; omega)
  refine (pairL_at (t.val % 8) (by omega) _ _ _ hq h1 h2 a _ ⟨b % 128 / 64, by omega⟩ rfl).trans ?_
  refine (lse_row (tokens m c) hX 4 1 (t.val / 32) (t.val / 8 % 4) (t.val % 8) (b / 128) (by omega) (by omega) hP _ _ _
    (entry0 m c t (b / 128) hP) (entry1 m c t (b / 128) hP) (entry2 m c t (b / 128) hP) a ⟨b % 128 / 64, by omega⟩).trans ?_
  unfold outLse
  rw [show (((t.val / 32 * 8 + t.val % 8) * 128 + a) * 4 + (t.val / 8 % 4 * 512 + b) / 512) / 4096 = t.val / 32 by omega,
    show (((t.val / 32 * 8 + t.val % 8) * 128 + a) * 4 + (t.val / 8 % 4 * 512 + b) / 512) % 4096 = (t.val % 8 * 128 + a) * 4 + t.val / 8 % 4 by omega,
    show (t.val / 8 % 4 * 512 + b) % 512 / 64 = b / 128 * 2 + b % 128 / 64 by omega]

/-- The array of result 1. -/
theorem final6 (hX : FiniteQK (tokens m c)) :
    (dats m 0 c).arrAt 6 (cfgs 0).N = fun i => outLse (tokens m c) 4 1 ((i 0 : Fin 4096) : ℕ) ((i 1 : Fin 2048) : ℕ) := by
  refine (dats m 0 c).arrAt_eq_of_covers 6 _ (by decide +kernel) fun t _ y => ?_
  blk_simp
  rw [after0_6]
  refine Eq.trans ?_ ((point6 m c t hX (y 0) (y 1)).trans ?_)
  · exact congrArg _ (eq_ix2 y)
  · refine congrArg₂ (outLse (tokens m c) 4 1) ?_ ?_
    · blk_simp [idx t]
    · blk_simp [idx t]

end Cert.Attn4Ideal.Value
-- ==== Proof.Plain4.lean ====
/-
The plain attention of the group with stride 4, its two results at an index: row `R` of a result holds 4 consecutive
tokens, 512 columns each.
-/
module

public import proofs.«01_k».proof.Proof.Gen.Dilated4Ideal.Run
public import proofs.«01_k».proof.Proof.Dilated

@[expose] public section

set_option maxRecDepth 16384

noncomputable section

namespace Cert.Dilated4Ideal.Value

open Idealize.ShloMosaic Idealize.ShloMosaic.TcCoe Idealize.SL.Sem
open Cert.Dilated4Ideal Cert.Dilated4Ideal.Gen
open Cert.Attend

/-- The projected tokens. -/
abbrev tokens (m : (ℓ : Loc nD τ sig) → Buf (Elt Ideal) ℓ) (c : Dev nD) : FVec Ideal Tokens .f32 := m ((c.tc : Thread nD τ).loc main_arg0)

theorem out0_eq (m : (ℓ : Loc nD τ sig) → Buf (Elt Ideal) ℓ) (c : Dev nD) :
    res_out0 (F := Ideal) m c = shapeCast S4096x2048 (Plain.averaged (BitVec.ofNat 32 4) (Plain.part 0 1 slices_S4x4096x3x3x8x64_S4x4096x1x1x8x64_0_0_0_1_0_0 (tokens m c))
      (Plain.part 1 1 slices_S4x4096x3x3x8x64_S4x4096x1x1x8x64_0_0_1_1_0_0 (tokens m c))
      (Plain.part 2 1 slices_S4x4096x3x3x8x64_S4x4096x1x1x8x64_0_0_2_1_0_0 (tokens m c))) shapeCasts_S4x4096x8x64_S4096x2048 := by
  unfold res_out0 res_main_v56
  rfl

theorem out1_eq (m : (ℓ : Loc nD τ sig) → Buf (Elt Ideal) ℓ) (c : Dev nD) :
    res_out1 (F := Ideal) m c = shapeCast S4096x2048 (Plain.logged (BitVec.ofNat 32 4) (Plain.part 0 1 slices_S4x4096x3x3x8x64_S4x4096x1x1x8x64_0_0_0_1_0_0 (tokens m c))
      (Plain.part 1 1 slices_S4x4096x3x3x8x64_S4x4096x1x1x8x64_0_0_1_1_0_0 (tokens m c))) shapeCasts_S4x4096x8x64_S4096x2048 := by
  unfold res_out1 res_main_v57
  rfl

theorem flat_at (x : FVec Ideal S4x4096x8x64 .f32) (i : Fin 4096) (j : Fin 2048) (b : Fin 4) (p : Fin 4096) (h : Fin 8) (d : Fin 64)
    (hb : (b : ℕ) = (i * 4 + j / 512) / 4096) (hp : (p : ℕ) = (i * 4 + j / 512) % 4096) (hh : (h : ℕ) = j % 512 / 64) (hd : (d : ℕ) = j % 64) :
    shapeCast S4096x2048 x shapeCasts_S4x4096x8x64_S4096x2048 (ix2 i j) = x (ix4 b p h d) := by
  pointwise
  congr 1
  refine (ix4_inj ..).2 ⟨Fin.ext ?_, Fin.ext ?_, Fin.ext ?_, Fin.ext ?_⟩ <;> simp only [hb, hp, hh, hd] <;> omega

theorem out0_at (m : (ℓ : Loc nD τ sig) → Buf (Elt Ideal) ℓ) (c : Dev nD) (i : Fin 4096) (j : Fin 2048) :
    res_out0 (F := Ideal) m c (ix2 i j) = mean (score (tokens m c) 4 1 ((i * 4 + j / 512) / 4096) ((i * 4 + j / 512) % 4096) (j % 512 / 64))
      (value (tokens m c) 4 1 ((i * 4 + j / 512) / 4096) ((i * 4 + j / 512) % 4096) (j % 512)) := by
  rw [out0_eq]
  refine (flat_at _ i j ⟨(i * 4 + j / 512) / 4096, by omega⟩ ⟨(i * 4 + j / 512) % 4096, by omega⟩ ⟨j % 512 / 64, by omega⟩ ⟨j % 64, by omega⟩ rfl rfl rfl rfl).trans ?_
  refine (Plain.averaged_score (tokens m c) 4 1 (by omega) (by omega) _ _ _ _ _ _ _).trans ?_
  rw [show (j : ℕ) % 512 / 64 * 64 + j % 64 = j % 512 by omega]

theorem out1_at (m : (ℓ : Loc nD τ sig) → Buf (Elt Ideal) ℓ) (c : Dev nD) (i : Fin 4096) (j : Fin 2048) :
    res_out1 (F := Ideal) m c (ix2 i j) = lse (score (tokens m c) 4 1 ((i * 4 + j / 512) / 4096) ((i * 4 + j / 512) % 4096) (j % 512 / 64)) := by
  rw [out1_eq]
  refine (flat_at _ i j ⟨(i * 4 + j / 512) / 4096, by omega⟩ ⟨(i * 4 + j / 512) % 4096, by omega⟩ ⟨j % 512 / 64, by omega⟩ ⟨j % 64, by omega⟩ rfl rfl rfl rfl).trans ?_
  exact Plain.logged_score (tokens m c) 4 1 (by omega) (by omega) _ _ _ _ _ _

end Cert.Dilated4Ideal.Value
-- ==== Proof.Tile16.lean ====
/-
The kernel with stride 16: every stored tile is the pair of heads of Block.lean, so a block of a result read at an index is
that pair at the index's own lane.
-/
module

public import proofs.«01_k».proof.Proof.Gen.Attn16Ideal.Value
public import proofs.«01_k».proof.Proof.Window
public import Idealize.ShloMosaic.Lib.Pointwise
public import Idealize.ShloMosaic.Lib.Pipeline.ValueKit

@[expose] public section

set_option maxRecDepth 16384

noncomputable section

namespace Cert.Attn16Ideal.Value

open Idealize.ShloMosaic Idealize.ShloMosaic.TcCoe Idealize.SL.Sem
open Idealize.ShloMosaic.Pipeline (Dat)
open Cert.Attn16Ideal Cert.Attn16Ideal.Gen
open Cert.Attend

/-- A loaded tile goes through a reshape to its own shape. -/
def loaded (x : FVec Ideal S128x128 .f32) : FVec Ideal S128x128 .f32 := shapeCast S128x128 x shapeCasts_S128x128_S128x128

section
variable (i : grid0.Coords) (q k1 k2 v1 v2 : Vec Ideal S128x128 .f32)

theorem tile5_0 : k0_pay22 (F := Ideal) (k0_pay7 i) (k0_pay8) (k0_pay9 q) (k0_pay10 k1 k2) (k0_pay11 v1 v2) (k0_pay12) (k0_pay13 q)
    = pairO (BitVec.ofNat 32 (i 2).val) q k1 k2 v1 v2 := by
  refine Eq.trans (b := pairO (BitVec.ofNat 32 (i 2).val) (loaded q) (loaded k1) (loaded k2) (loaded v1) (loaded v2)) rfl ?_
  simp only [loaded, shapeCast_id]

theorem tile5_1 : k0_pay38 (F := Ideal) (k0_pay7 i) (k0_pay8) (k0_pay25 k1 k2) (k0_pay26 v1 v2) (k0_pay32 (k0_pay7 i) (k0_pay8) q k1 k2 v1 v2) (k0_pay33 (k0_pay8) q) (constant S128x256 .f32 0x00000000#32)
    = pairO (BitVec.ofNat 32 (i 2).val) q k1 k2 v1 v2 := by
  refine Eq.trans (b := pairO (BitVec.ofNat 32 (i 2).val) (loaded q) (loaded k1) (loaded k2) (loaded v1) (loaded v2)) rfl ?_
  simp only [loaded, shapeCast_id]

theorem tile5_2 : k0_pay52 (F := Ideal) (k0_pay7 i) (k0_pay8) (k0_pay40 q) (k0_pay41 k1 k2) (k0_pay42 v1 v2)
    = pairO (BitVec.ofNat 32 (i 2).val) q k1 k2 v1 v2 := by
  refine Eq.trans (b := pairO (BitVec.ofNat 32 (i 2).val) (loaded q) (loaded k1) (loaded k2) (loaded v1) (loaded v2)) rfl ?_
  simp only [loaded, shapeCast_id]

theorem tile5_3 : k0_pay5 (F := Ideal) (k0_pay7 i) (k0_pay8) (k0_pay55 q) (k0_pay56 k1 k2) (k0_pay57 v1 v2) (k0_pay58 (k0_pay8)) (k0_pay64 (k0_pay7 i) (k0_pay8) q k1 k2) (constant S128x128 .f32 0x00000000#32)
    = pairO (BitVec.ofNat 32 (i 2).val) q k1 k2 v1 v2 := by
  refine Eq.trans (b := pairO (BitVec.ofNat 32 (i 2).val) (loaded q) (loaded k1) (loaded k2) (loaded v1) (loaded v2)) rfl ?_
  simp only [loaded, shapeCast_id]

theorem tile6_0 : k0_pay23 (F := Ideal) (k0_pay7 i) (k0_pay8) (k0_pay9 q) (k0_pay10 k1 k2) (k0_pay12) (k0_pay13 q)
    = pairL (BitVec.ofNat 32 (i 2).val) q k1 k2 := by
  refine Eq.trans (b := pairL (BitVec.ofNat 32 (i 2).val) (loaded q) (loaded k1) (loaded k2)) rfl ?_
  simp only [loaded, shapeCast_id]

theorem tile6_1 : k0_pay39 (F := Ideal) (k0_pay7 i) (k0_pay8) (k0_pay25 k1 k2) (k0_pay31 (k0_pay7 i) (k0_pay8) q k1 k2) (k0_pay33 (k0_pay8) q) (constant S128x256 .f32 0x00000000#32)
    = pairL (BitVec.ofNat 32 (i 2).val) q k1 k2 := by
  refine Eq.trans (b := pairL (BitVec.ofNat 32 (i 2).val) (loaded q) (loaded k1) (loaded k2)) rfl ?_
  simp only [loaded, shapeCast_id]

theorem tile6_2 : k0_pay54 (F := Ideal) (k0_pay8) (k0_pay51 (k0_pay7 i) (k0_pay8) (k0_pay40 q) (k0_pay41 k1 k2)) (k0_pay53 (k0_pay7 i) (k0_pay8) (k0_pay40 q) (k0_pay41 k1 k2))
    = pairL (BitVec.ofNat 32 (i 2).val) q k1 k2 := by
  refine Eq.trans (b := pairL (BitVec.ofNat 32 (i 2).val) (loaded q) (loaded k1) (loaded k2)) rfl ?_
  simp only [loaded, shapeCast_id]

theorem tile6_3 : k0_pay6 (F := Ideal) (k0_pay7 i) (k0_pay8) (k0_pay55 q) (k0_pay56 k1 k2) (k0_pay58 (k0_pay8)) (k0_pay63 (k0_pay7 i) (k0_pay8) q k1 k2)
    = pairL (BitVec.ofNat 32 (i 2).val) q k1 k2 := by
  refine Eq.trans (b := pairL (BitVec.ofNat 32 (i 2).val) (loaded q) (loaded k1) (loaded k2)) rfl ?_
  simp only [loaded, shapeCast_id]

end

/-- The 128 columns from column `P * 128` on, of a block of 512. -/
def lanes (P : ℕ) (hP : P < 4) (x : Vec Ideal S128x512 .f32) : FVec Ideal S128x128 .f32 :=
  fun j => x (ix2 (j 0 : Fin 128) ⟨P * 128 + (j 1 : Fin 128), by have h : ((j 1 : Fin 128) : ℕ) < 128 := (j 1 : Fin 128).isLt; omega⟩)

set_option maxHeartbeats 1600000 in
theorem block5 (i : grid0.Coords) (x0 x1 x2 x3 x4 : Vec Ideal S128x512 .f32) (a : Fin 128) (b : Fin 512) (P : ℕ) (hP : P < 4) (l : Fin 128) (hb : (b : ℕ) = P * 128 + l) :
    out0_5 (F := Ideal) i x0 x1 x2 x3 x4 (ix2 a b)
      = pairO (BitVec.ofNat 32 (i 2).val) (lanes P hP x0) (lanes P hP x1) (lanes P hP x2) (lanes P hP x3) (lanes P hP x4) (ix2 a l) := by
  unfold_out out0_5
  canon_tiles x h
  · obtain rfl : P = 3 := by
      have h1' : (b : ℕ) = 384 + (x 1 : Fin 128) := by simpa using h1
      omega
    obtain rfl : x = ix2 a l := by
      have h0' : (a : ℕ) = (x 0 : Fin 128) := h0
      have h1' : (b : ℕ) = 384 + (x 1 : Fin 128) := by simpa using h1
      refine (eq_ix2 x).trans ((ix2_inj ..).2 ⟨Fin.ext h0'.symm, Fin.ext ?_⟩)
      show ((x 1 : Fin 128) : ℕ) = l
      omega
    refine (congrFun (tile5_3 i _ _ _ _ _) _).trans ?_
    congr 1 <;> (funext j; pointwise [lanes])
  · obtain rfl : P = 2 := by
      have h1' : (b : ℕ) = 256 + (x 1 : Fin 128) := by simpa using h1
      omega
    obtain rfl : x = ix2 a l := by
      have h0' : (a : ℕ) = (x 0 : Fin 128) := h0
      have h1' : (b : ℕ) = 256 + (x 1 : Fin 128) := by simpa using h1
      refine (eq_ix2 x).trans ((ix2_inj ..).2 ⟨Fin.ext h0'.symm, Fin.ext ?_⟩)
      show ((x 1 : Fin 128) : ℕ) = l
      omega
    refine (congrFun (tile5_2 i _ _ _ _ _) _).trans ?_
    congr 1 <;> (funext j; pointwise [lanes])
  · obtain rfl : P = 1 := by
      have h1' : (b : ℕ) = 128 + (x 1 : Fin 128) := by simpa using h1
      omega
    obtain rfl : x = ix2 a l := by
      have h0' : (a : ℕ) = (x 0 : Fin 128) := h0
      have h1' : (b : ℕ) = 128 + (x 1 : Fin 128) := by simpa using h1
      refine (eq_ix2 x).trans ((ix2_inj ..).2 ⟨Fin.ext h0'.symm, Fin.ext ?_⟩)
      show ((x 1 : Fin 128) : ℕ) = l
      omega
    refine (congrFun (tile5_1 i _ _ _ _ _) _).trans ?_
    congr 1 <;> (funext j; pointwise [lanes])
  · obtain rfl : P = 0 := by
      have h1' : (b : ℕ) = 0 + (x 1 : Fin 128) := by simpa using h1
      omega
    obtain rfl : x = ix2 a l := by
      have h0' : (a : ℕ) = (x 0 : Fin 128) := h0
      have h1' : (b : ℕ) = 0 + (x 1 : Fin 128) := by simpa using h1
      refine (eq_ix2 x).trans ((ix2_inj ..).2 ⟨Fin.ext h0'.symm, Fin.ext ?_⟩)
      show ((x 1 : Fin 128) : ℕ) = l
      omega
    refine (congrFun (tile5_0 i _ _ _ _ _) _).trans ?_
    congr 1 <;> (funext j; pointwise [lanes])

set_option maxHeartbeats 1600000 in
theorem block6 (i : grid0.Coords) (x0 x1 x2 x3 x4 : Vec Ideal S128x512 .f32) (a : Fin 128) (b : Fin 512) (P : ℕ) (hP : P < 4) (l : Fin 128) (hb : (b : ℕ) = P * 128 + l) :
    out0_6 (F := Ideal) i x0 x1 x2 x3 x4 (ix2 a b)
      = pairL (BitVec.ofNat 32 (i 2).val) (lanes P hP x0) (lanes P hP x1) (lanes P hP x2) (ix2 a l) := by
  unfold_out out0_6
  canon_tiles x h
  · obtain rfl : P = 3 := by
      have h1' : (b : ℕ) = 384 + (x 1 : Fin 128) := by simpa using h1
      omega
    obtain rfl : x = ix2 a l := by
      have h0' : (a : ℕ) = (x 0 : Fin 128) := h0
      have h1' : (b : ℕ) = 384 + (x 1 : Fin 128) := by simpa using h1
      refine (eq_ix2 x).trans ((ix2_inj ..).2 ⟨Fin.ext h0'.symm, Fin.ext ?_⟩)
      show ((x 1 : Fin 128) : ℕ) = l
      omega
    refine (congrFun (tile6_3 i _ _ _) _).trans ?_
    congr 1 <;> (funext j; pointwise [lanes])
  · obtain rfl : P = 2 := by
      have h1' : (b : ℕ) = 256 + (x 1 : Fin 128) := by simpa using h1
      omega
    obtain rfl : x = ix2 a l := by
      have h0' : (a : ℕ) = (x 0 : Fin 128) := h0
      have h1' : (b : ℕ) = 256 + (x 1 : Fin 128) := by simpa using h1
      refine (eq_ix2 x).trans ((ix2_inj ..).2 ⟨Fin.ext h0'.symm, Fin.ext ?_⟩)
      show ((x 1 : Fin 128) : ℕ) = l
      omega
    refine (congrFun (tile6_2 i _ _ _) _).trans ?_
    congr 1 <;> (funext j; pointwise [lanes])
  · obtain rfl : P = 1 := by
      have h1' : (b : ℕ) = 128 + (x 1 : Fin 128) := by simpa using h1
      omega
    obtain rfl : x = ix2 a l := by
      have h0' : (a : ℕ) = (x 0 : Fin 128) := h0
      have h1' : (b : ℕ) = 128 + (x 1 : Fin 128) := by simpa using h1
      refine (eq_ix2 x).trans ((ix2_inj ..).2 ⟨Fin.ext h0'.symm, Fin.ext ?_⟩)
      show ((x 1 : Fin 128) : ℕ) = l
      omega
    refine (congrFun (tile6_1 i _ _ _) _).trans ?_
    congr 1 <;> (funext j; pointwise [lanes])
  · obtain rfl : P = 0 := by
      have h1' : (b : ℕ) = 0 + (x 1 : Fin 128) := by simpa using h1
      omega
    obtain rfl : x = ix2 a l := by
      have h0' : (a : ℕ) = (x 0 : Fin 128) := h0
      have h1' : (b : ℕ) = 0 + (x 1 : Fin 128) := by simpa using h1
      refine (eq_ix2 x).trans ((ix2_inj ..).2 ⟨Fin.ext h0'.symm, Fin.ext ?_⟩)
      show ((x 1 : Fin 128) : ℕ) = l
      omega
    refine (congrFun (tile6_0 i _ _ _) _).trans ?_
    congr 1 <;> (funext j; pointwise [lanes])

end Cert.Attn16Ideal.Value
-- ==== Proof.Array16.lean ====
/-
The arrays the kernel with stride 16 leaves, each entry the mean (or the log of the sum) over the problem's own row. Grid point
`t` works on batch `t / 32`, on every 16-th token from `t / 2 % 16` on, and there on block `t % 2` of 128.
-/
module

public import proofs.«01_k».proof.Proof.Tile16

@[expose] public section

set_option maxRecDepth 16384

noncomputable section

namespace Cert.Attn16Ideal.Value

open Idealize.ShloMosaic Idealize.ShloMosaic.TcCoe Idealize.SL.Sem
open Idealize.ShloMosaic.Pipeline (Dat)
open Cert.Attn16Ideal Cert.Attn16Ideal.Gen
open Cert.Attend

theorem idx : ∀ t : Fin cfg0.N, win0_0.index t = ![t.val / 32 * 2 + t.val % 2, t.val / 2 % 16 * 17 + 6]
    ∧ win0_1.index t = ![t.val / 32 * 2 + (t.val % 2 - 1), t.val / 2 % 16 * 17 + 9] ∧ win0_2.index t = ![t.val / 32 * 2 + t.val % 2, t.val / 2 % 16 * 17 + 9]
    ∧ win0_3.index t = ![t.val / 32 * 2 + (t.val % 2 - 1), t.val / 2 % 16 * 17 + 12] ∧ win0_4.index t = ![t.val / 32 * 2 + t.val % 2, t.val / 2 % 16 * 17 + 12]
    ∧ win0_5.index t = ![t.val / 32 * 2 + t.val % 2, t.val / 2 % 16] ∧ win0_6.index t = ![t.val / 32 * 2 + t.val % 2, t.val / 2 % 16]
    ∧ (grid0.coords t 2).val = t.val % 2 :=
  (by decide +kernel : ∀ t : Fin grid0.N, _)

/-- The projected tokens. -/
abbrev tokens (m : (ℓ : Loc nD τ sig) → Buf (Elt Ideal) ℓ) (c : Dev nD) : FVec Ideal Tokens .f32 := m ((c : Thread nD τ).loc main_arg0)

/-- A row of the reshaped tokens holds 16 consecutive tokens. -/
theorem rows_at (X : FVec Ideal Tokens .f32) (y : S1024x139264.Idx) (i j k : ℕ) (h0 : ((y 0 : Fin 1024) : ℕ) = i)
    (h1 : ((y 1 : Fin 139264) : ℕ) = k * 8704 + j) (hj : j < 8704) :
    shapeCast S1024x139264 X shapeCasts_S16384x8704_S1024x139264 y = cell X (i * 16 + k) j := by
  have l0 : ((y 0 : Fin 1024) : ℕ) < 1024 := (y 0 : Fin 1024).isLt
  have l1 : ((y 1 : Fin 139264) : ℕ) < 139264 := (y 1 : Fin 139264).isLt
  have hk : k < 16 := by omega
  obtain ⟨y0, y1, rfl⟩ : ∃ (y0 : Fin 1024) (y1 : Fin 139264), y = ix2 y0 y1 := ⟨y 0, y 1, eq_ix2 y⟩
  replace h0 : (y0 : ℕ) = i := h0
  replace h1 : (y1 : ℕ) = k * 8704 + j := h1
  unfold cell
  pointwise
  congr 1
  refine (ix2_inj ..).2 ⟨Fin.ext ?_, Fin.ext ?_⟩
  · show (y0 : ℕ) * 16 + y1 / 8704 = (i * 16 + k) % 16384
    omega
  · show (y1 : ℕ) % 8704 = j % 8704
    omega

variable (m : (ℓ : Loc nD τ sig) → Buf (Elt Ideal) ℓ) (c : Dev nD) (t : Fin cfg0.N)

theorem point_lt : t.val < 128 := lt_of_lt_of_eq t.isLt (by decide +kernel)

/-! The blocks the windows read. -/

theorem entry0 (P : ℕ) (hP : P < 4) (a l : Fin 128) :
    lanes P hP (iblk m c 0 t) (ix2 a l) = cell (tokens m c) (t.val / 32 * 4096 + ((t.val % 2 * 128 + a) * 16 + t.val / 2 % 16)) (2048 + 2 * 512 + (P * 128 + l)) := by
  have ht := point_lt t
  rw [show t.val / 32 * 4096 + ((t.val % 2 * 128 + a) * 16 + t.val / 2 % 16) = (t.val / 32 * 256 + (t.val % 2 * 128 + a)) * 16 + t.val / 2 % 16 by omega]
  obtain ⟨b, hb⟩ : ∃ b : Fin 512, (b : ℕ) = P * 128 + l := ⟨⟨P * 128 + l, by omega⟩, rfl⟩
  refine (congrArg (fun k => (iblk m c 0 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem entry1 (P : ℕ) (hP : P < 4) (a l : Fin 128) :
    lanes P hP (iblk m c 1 t) (ix2 a l) = cell (tokens m c) (t.val / 32 * 4096 + (((t.val % 2 - 1) * 128 + a) * 16 + t.val / 2 % 16)) (3584 + 2 * 512 + (P * 128 + l)) := by
  have ht := point_lt t
  rw [show t.val / 32 * 4096 + (((t.val % 2 - 1) * 128 + a) * 16 + t.val / 2 % 16) = (t.val / 32 * 256 + ((t.val % 2 - 1) * 128 + a)) * 16 + t.val / 2 % 16 by omega]
  obtain ⟨b, hb⟩ : ∃ b : Fin 512, (b : ℕ) = P * 128 + l := ⟨⟨P * 128 + l, by omega⟩, rfl⟩
  refine (congrArg (fun k => (iblk m c 1 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem entry2 (P : ℕ) (hP : P < 4) (a l : Fin 128) :
    lanes P hP (iblk m c 2 t) (ix2 a l) = cell (tokens m c) (t.val / 32 * 4096 + ((t.val % 2 * 128 + a) * 16 + t.val / 2 % 16)) (3584 + 2 * 512 + (P * 128 + l)) := by
  have ht := point_lt t
  rw [show t.val / 32 * 4096 + ((t.val % 2 * 128 + a) * 16 + t.val / 2 % 16) = (t.val / 32 * 256 + (t.val % 2 * 128 + a)) * 16 + t.val / 2 % 16 by omega]
  obtain ⟨b, hb⟩ : ∃ b : Fin 512, (b : ℕ) = P * 128 + l := ⟨⟨P * 128 + l, by omega⟩, rfl⟩
  refine (congrArg (fun k => (iblk m c 2 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem entry3 (P : ℕ) (hP : P < 4) (a l : Fin 128) :
    lanes P hP (iblk m c 3 t) (ix2 a l) = cell (tokens m c) (t.val / 32 * 4096 + (((t.val % 2 - 1) * 128 + a) * 16 + t.val / 2 % 16)) (5120 + 2 * 512 + (P * 128 + l)) := by
  have ht := point_lt t
  rw [show t.val / 32 * 4096 + (((t.val % 2 - 1) * 128 + a) * 16 + t.val / 2 % 16) = (t.val / 32 * 256 + ((t.val % 2 - 1) * 128 + a)) * 16 + t.val / 2 % 16 by omega]
  obtain ⟨b, hb⟩ : ∃ b : Fin 512, (b : ℕ) = P * 128 + l := ⟨⟨P * 128 + l, by omega⟩, rfl⟩
  refine (congrArg (fun k => (iblk m c 3 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem entry4 (P : ℕ) (hP : P < 4) (a l : Fin 128) :
    lanes P hP (iblk m c 4 t) (ix2 a l) = cell (tokens m c) (t.val / 32 * 4096 + ((t.val % 2 * 128 + a) * 16 + t.val / 2 % 16)) (5120 + 2 * 512 + (P * 128 + l)) := by
  have ht := point_lt t
  rw [show t.val / 32 * 4096 + ((t.val % 2 * 128 + a) * 16 + t.val / 2 % 16) = (t.val / 32 * 256 + (t.val % 2 * 128 + a)) * 16 + t.val / 2 % 16 by omega]
  obtain ⟨b, hb⟩ : ∃ b : Fin 512, (b : ℕ) = P * 128 + l := ⟨⟨P * 128 + l, by omega⟩, rfl⟩
  refine (congrArg (fun k => (iblk m c 4 t : Vec Ideal S128x512 .f32) (ix2 a k)) (Fin.ext hb.symm : (⟨P * 128 + l, by omega⟩ : Fin 512) = b)).trans ?_
  rw [← hb]
  dsimp only
  blk_simp [iblk]
  entry_read
  refine rows_at (tokens m c) _ _ _ _ ?_ ?_ (by omega)
  · blk_simp [idx t]
    omega
  · blk_simp [idx t]
    omega

theorem point5 (hX : FiniteQK (tokens m c)) (a : Fin 128) (b : Fin 512) :
    out0_5 (F := Ideal) (grid0.coords t) (iblk m c 0 t) (iblk m c 1 t) (iblk m c 2 t) (iblk m c 3 t) (iblk m c 4 t) (ix2 a b)
      = outMean (tokens m c) 16 2 ((t.val / 32 * 2 + t.val % 2) * 128 + a) (t.val / 2 % 16 * 512 + b) := by
  have ht := point_lt t
  have hP : (b : ℕ) / 128 < 4 := by omega
  have hb : (b : ℕ) = b / 128 * 128 + ((⟨b % 128, by omega⟩ : Fin 128) : ℕ) := by show (b : ℕ) = b / 128 * 128 + b % 128; omega
  rw [block5 (grid0.coords t) _ _ _ _ _ a b (b / 128) hP ⟨b % 128, by omega⟩ hb, (idx t).2.2.2.2.2.2.2]
  have hq : ∀ i, Finite (lanes (b / 128) hP (iblk m c 0 t) i) := fun i => by
    rw [eq_ix2 i]; exact (entry0 m c t (b / 128) hP (i 0) (i 1)).symm ▸ hX _ _ (by omega) (by have h : ((i 1 : Fin 128) : ℕ) < 128 := (i 1 : Fin 128).isLt; omega)
  have h1 : ∀ i, Finite (lanes (b / 128) hP (iblk m c 1 t) i) := fun i => by
    rw [eq_ix2 i]; exact (entry1 m c t (b / 128) hP (i 0) (i 1)).symm ▸ hX _ _ (by omega) (by have h : ((i 1 : Fin 128) : ℕ) < 128 := (i 1 : Fin 128).isLt; omega)
  have h2 : ∀ i, Finite (lanes (b / 128) hP (iblk m c 2 t) i) := fun i => by
    rw [eq_ix2 i]; exact (entry2 m c t (b / 128) hP (i 0) (i 1)).symm ▸ hX _ _ (by omega) (by have h : ((i 1 : Fin 128) : ℕ) < 128 := (i 1 : Fin 128).isLt; omega)
  refine (pairO_at (t.val % 2) (by omega) _ _ _ _ _ hq h1 h2 a _ ⟨b % 128 / 64, by omega⟩ rfl).trans ?_
  refine (mean_row (tokens m c) hX 16 2 (t.val / 32) (t.val / 2 % 16) (t.val % 2) (b / 128) (by omega) (by omega) hP _ _ _ _ _
    (entry0 m c t (b / 128) hP) (entry1 m c t (b / 128) hP) (entry2 m c t (b / 128) hP) (entry3 m c t (b / 128) hP) (entry4 m c t (b / 128) hP) a ⟨b % 128 / 64, by omega⟩ _).trans ?_
  unfold outMean
  rw [show (((t.val / 32 * 2 + t.val % 2) * 128 + a) * 16 + (t.val / 2 % 16 * 512 + b) / 512) / 4096 = t.val / 32 by omega,
    show (((t.val / 32 * 2 + t.val % 2) * 128 + a) * 16 + (t.val / 2 % 16 * 512 + b) / 512) % 4096 = (t.val % 2 * 128 + a) * 16 + t.val / 2 % 16 by omega,
    show (t.val / 2 % 16 * 512 + b) % 512 / 64 = b / 128 * 2 + b % 128 / 64 by omega]
  rw [show (t.val / 2 % 16 * 512 + b) % 512 = b / 128 * 128 + b % 128 by omega]

/-- The array of result 0. -/
theorem final5 (hX : FiniteQK (tokens m c)) :
    (dats m 0 c).arrAt 5 (cfgs 0).N = fun i => outMean (tokens m c) 16 2 ((i 0 : Fin 1024) : ℕ) ((i 1 : Fin 8192) : ℕ) := by
  refine (dats m 0 c).arrAt_eq_of_covers 5 _ (by decide +kernel) fun t _ y => ?_
  blk_simp
  rw [after0_5]
  refine Eq.trans ?_ ((point5 m c t hX (y 0) (y 1)).trans ?_)
  · exact congrArg _ (eq_ix2 y)
  · refine congrArg₂ (outMean (tokens m c) 16 2) ?_ ?_
    · blk_simp [idx t]
    · blk_simp [idx t]

theorem point6 (hX : FiniteQK (tokens m c)) (a : Fin 128) (b : Fin 512) :
    out0_6 (F := Ideal) (grid0.coords t) (iblk m c 0 t) (iblk m c 1 t) (iblk m c 2 t) (iblk m c 3 t) (iblk m c 4 t) (ix2 a b)
      = outLse (tokens m c) 16 2 ((t.val / 32 * 2 + t.val % 2) * 128 + a) (t.val / 2 % 16 * 512 + b) := by
  have ht := point_lt t
  have hP : (b : ℕ) / 128 < 4 := by omega
  have hb : (b : ℕ) = b / 128 * 128 + ((⟨b % 128, by omega⟩ : Fin 128) : ℕ) := by show (b : ℕ) = b / 128 * 128 + b % 128; omega
  rw [block6 (grid0.coords t) _ _ _ _ _ a b (b / 128) hP ⟨b % 128, by omega⟩ hb, (idx t).2.2.2.2.2.2.2]
  have hq : ∀ i, Finite (lanes (b / 128) hP (iblk m c 0 t) i) := fun i => by
    rw [eq_ix2 i]; exact (entry0 m c t (b / 128) hP (i 0) (i 1)).symm ▸ hX _ _ (by omega) (by have h : ((i 1 : Fin 128) : ℕ) < 128 := (i 1 : Fin 128).isLt; omega)
  have h1 : ∀ i, Finite (lanes (b / 128) hP (iblk m c 1 t) i) := fun i => by
    rw [eq_ix2 i]; exact (entry1 m c t (b / 128) hP (i 0) (i 1)).symm ▸ hX _ _ (by omega) (by have h : ((i 1 : Fin 128) : ℕ) < 128 := (i 1 : Fin 128).isLt; omega)
  have h2 : ∀ i, Finite (lanes (b / 128) hP (iblk m c 2 t) i) := fun i => by
    rw [eq_ix2 i]; exact (entry2 m c t (b / 128) hP (i 0) (i 1)).symm ▸ hX _ _ (by omega) (by have h : ((i 1 : Fin 128) : ℕ) < 128 := (i 1 : Fin 128).isLt; omega)
  refine (pairL_at (t.val % 2) (by omega) _ _ _ hq h1 h2 a _ ⟨b % 128 / 64, by omega⟩ rfl).trans ?_
  refine (lse_row (tokens m c) hX 16 2 (t.val / 32) (t.val / 2 % 16) (t.val % 2) (b / 128) (by omega) (by omega) hP _ _ _
    (entry0 m c t (b / 128) hP) (entry1 m c t (b / 128) hP) (entry2 m c t (b / 128) hP) a ⟨b % 128 / 64, by omega⟩).trans ?_
  unfold outLse
  rw [show (((t.val / 32 * 2 + t.val % 2) * 128 + a) * 16 + (t.val / 2 % 16 * 512 + b) / 512) / 4096 = t.val / 32 by omega,
    show (((t.val / 32 * 2 + t.val % 2) * 128 + a) * 16 + (t.val / 2 % 16 * 512 + b) / 512) % 4096 = (t.val % 2 * 128 + a) * 16 + t.val / 2 % 16 by omega,
    show (t.val / 2 % 16 * 512 + b) % 512 / 64 = b / 128 * 2 + b % 128 / 64 by omega]

/-- The array of result 1. -/
theorem final6 (hX : FiniteQK (tokens m c)) :
    (dats m 0 c).arrAt 6 (cfgs 0).N = fun i => outLse (tokens m c) 16 2 ((i 0 : Fin 1024) : ℕ) ((i 1 : Fin 8192) : ℕ) := by
  refine (dats m 0 c).arrAt_eq_of_covers 6 _ (by decide +kernel) fun t _ y => ?_
  blk_simp
  rw [after0_6]
  refine Eq.trans ?_ ((point6 m c t hX (y 0) (y 1)).trans ?_)
  · exact congrArg _ (eq_ix2 y)
  · refine congrArg₂ (outLse (tokens m c) 16 2) ?_ ?_
    · blk_simp [idx t]
    · blk_simp [idx t]

end Cert.Attn16Ideal.Value
-- ==== Proof.Plain16.lean ====
/-
The plain attention of the group with stride 16, its two results at an index: row `R` of a result holds 16 consecutive
tokens, 512 columns each.
-/
module

public import proofs.«01_k».proof.Proof.Gen.Dilated16Ideal.Run
public import proofs.«01_k».proof.Proof.Dilated

@[expose] public section

set_option maxRecDepth 16384

noncomputable section

namespace Cert.Dilated16Ideal.Value

open Idealize.ShloMosaic Idealize.ShloMosaic.TcCoe Idealize.SL.Sem
open Cert.Dilated16Ideal Cert.Dilated16Ideal.Gen
open Cert.Attend

/-- The projected tokens. -/
abbrev tokens (m : (ℓ : Loc nD τ sig) → Buf (Elt Ideal) ℓ) (c : Dev nD) : FVec Ideal Tokens .f32 := m ((c.tc : Thread nD τ).loc main_arg0)

theorem out0_eq (m : (ℓ : Loc nD τ sig) → Buf (Elt Ideal) ℓ) (c : Dev nD) :
    res_out0 (F := Ideal) m c = shapeCast S1024x8192 (Plain.averaged (BitVec.ofNat 32 16) (Plain.part 0 2 slices_S4x4096x3x3x8x64_S4x4096x1x1x8x64_0_0_0_2_0_0 (tokens m c))
      (Plain.part 1 2 slices_S4x4096x3x3x8x64_S4x4096x1x1x8x64_0_0_1_2_0_0 (tokens m c))
      (Plain.part 2 2 slices_S4x4096x3x3x8x64_S4x4096x1x1x8x64_0_0_2_2_0_0 (tokens m c))) shapeCasts_S4x4096x8x64_S1024x8192 := by
  unfold res_out0 res_main_v56
  rfl

theorem out1_eq (m : (ℓ : Loc nD τ sig) → Buf (Elt Ideal) ℓ) (c : Dev nD) :
    res_out1 (F := Ideal) m c = shapeCast S1024x8192 (Plain.logged (BitVec.ofNat 32 16) (Plain.part 0 2 slices_S4x4096x3x3x8x64_S4x4096x1x1x8x64_0_0_0_2_0_0 (tokens m c))
      (Plain.part 1 2 slices_S4x4096x3x3x8x64_S4x4096x1x1x8x64_0_0_1_2_0_0 (tokens m c))) shapeCasts_S4x4096x8x64_S1024x8192 := by
  unfold res_out1 res_main_v57
  rfl

theorem flat_at (x : FVec Ideal S4x4096x8x64 .f32) (i : Fin 1024) (j : Fin 8192) (b : Fin 4) (p : Fin 4096) (h : Fin 8) (d : Fin 64)
    (hb : (b : ℕ) = (i * 16 + j / 512) / 4096) (hp : (p : ℕ) = (i * 16 + j / 512) % 4096) (hh : (h : ℕ) = j % 512 / 64) (hd : (d : ℕ) = j % 64) :
    shapeCast S1024x8192 x shapeCasts_S4x4096x8x64_S1024x8192 (ix2 i j) = x (ix4 b p h d) := by
  pointwise
  congr 1
  refine (ix4_inj ..).2 ⟨Fin.ext ?_, Fin.ext ?_, Fin.ext ?_, Fin.ext ?_⟩ <;> simp only [hb, hp, hh, hd] <;> omega

theorem out0_at (m : (ℓ : Loc nD τ sig) → Buf (Elt Ideal) ℓ) (c : Dev nD) (i : Fin 1024) (j : Fin 8192) :
    res_out0 (F := Ideal) m c (ix2 i j) = mean (score (tokens m c) 16 2 ((i * 16 + j / 512) / 4096) ((i * 16 + j / 512) % 4096) (j % 512 / 64))
      (value (tokens m c) 16 2 ((i * 16 + j / 512) / 4096) ((i * 16 + j / 512) % 4096) (j % 512)) := by
  rw [out0_eq]
  refine (flat_at _ i j ⟨(i * 16 + j / 512) / 4096, by omega⟩ ⟨(i * 16 + j / 512) % 4096, by omega⟩ ⟨j % 512 / 64, by omega⟩ ⟨j % 64, by omega⟩ rfl rfl rfl rfl).trans ?_
  refine (Plain.averaged_score (tokens m c) 16 2 (by omega) (by omega) _ _ _ _ _ _ _).trans ?_
  rw [show (j : ℕ) % 512 / 64 * 64 + j % 64 = j % 512 by omega]

theorem out1_at (m : (ℓ : Loc nD τ sig) → Buf (Elt Ideal) ℓ) (c : Dev nD) (i : Fin 1024) (j : Fin 8192) :
    res_out1 (F := Ideal) m c (ix2 i j) = lse (score (tokens m c) 16 2 ((i * 16 + j / 512) / 4096) ((i * 16 + j / 512) % 4096) (j % 512 / 64)) := by
  rw [out1_eq]
  refine (flat_at _ i j ⟨(i * 16 + j / 512) / 4096, by omega⟩ ⟨(i * 16 + j / 512) % 4096, by omega⟩ ⟨j % 512 / 64, by omega⟩ ⟨j % 64, by omega⟩ rfl rfl rfl rfl).trans ?_
  exact Plain.logged_score (tokens m c) 16 2 (by omega) (by omega) _ _ _ _ _ _

end Cert.Dilated16Ideal.Value
-- ==== Proof.Precondition.lean ====
/-
What the precondition says of the tokens: their queries and keys are neither `⊥` nor `⊤`.
-/
module

public import proofs.«01_k».proof.Pre_finite_queries_and_keys
public import proofs.«01_k».proof.Proof.Window

@[expose] public section

set_option maxRecDepth 16384

noncomputable section

namespace Cert.Attend

open Idealize.ShloMosaic Idealize.ShloMosaic.TcCoe Idealize.SL.Sem

theorem preconditionFacts : Cert.Pre_finite_queries_and_keys.Facts := ⟨by decide, by decide⟩

theorem finite_of_abs (x : EReal) (h : max x (-x) < ⊤) : Finite x :=
  ⟨fun e => by subst e; simp at h, fun e => by subst e; simp at h⟩

theorem finiteQK_of (hF : Cert.Pre_finite_queries_and_keys.Facts) (X : FVec Ideal Tokens .f32)
    (h : Cert.Pre_finite_queries_and_keys.fn (F := Ideal) X = fun _ => 1#1) : FiniteQK X := by
  intro i j h0 h1
  have e := congrFun h (ix2 (⟨i % 16384, by omega⟩ : Fin 16384) (⟨j - 2048, by omega⟩ : Fin 3072))
  unfold Cert.Pre_finite_queries_and_keys.fn at e
  pointwise at e
  have inf : Ideal.ofBits .f32 2139095040#32 = ⊤ := by simp [Ideal.ofBits, Ideal.ieee]
  rw [inf] at e
  have lt := of_decide_eq_true (BitVec.ofBool_eq_iff_eq.1 (e.trans (by rfl : (1#1 : BitVec 1) = BitVec.ofBool true)))
  have at_j : (⟨2048 + (j - 2048), by omega⟩ : Fin 8704) = ⟨j % 8704, Nat.mod_lt _ (by omega)⟩ := Fin.ext (by show 2048 + (j - 2048) = j % 8704; omega)
  unfold cell
  rw [← at_j]
  exact finite_of_abs _ lt

end Cert.Attend
-- ==== Proof.lean ====
module

public import proofs.«01_k».proof.Defs
public import proofs.«01_k».proof.Proof.Gen.Project.Frame
public import proofs.«01_k».proof.Proof.Tokens
public import proofs.«01_k».proof.Proof.Projected
public import proofs.«01_k».proof.Proof.Gen.Mix.Frame
public import proofs.«01_k».proof.Proof.Mixture
public import proofs.«01_k».proof.Proof.Mixed
public import proofs.«01_k».proof.Proof.Gen.SampleProject.Frame
public import proofs.«01_k».proof.Proof.SampleTokens
public import proofs.«01_k».proof.Proof.SampleProjected
public import proofs.«01_k».proof.Proof.Gen.SampleMix.Frame
public import proofs.«01_k».proof.Proof.SampleMixture
public import proofs.«01_k».proof.Proof.SampleMixed
public import proofs.«01_k».proof.Proof.Gen.Dense.Frame
public import proofs.«01_k».proof.Proof.Answers
public import proofs.«01_k».proof.Proof.Experts
public import proofs.«01_k».proof.Proof.Gen.SampleDense.Frame
public import proofs.«01_k».proof.Proof.SampleAnswers
public import proofs.«01_k».proof.Proof.SampleExperts
public import proofs.«01_k».proof.Proof.Gen.Attn1.Frame
public import proofs.«01_k».proof.Proof.Array1
public import proofs.«01_k».proof.Proof.Plain1
public import proofs.«01_k».proof.Proof.Gen.Attn4.Frame
public import proofs.«01_k».proof.Proof.Array4
public import proofs.«01_k».proof.Proof.Plain4
public import proofs.«01_k».proof.Proof.Gen.Attn16.Frame
public import proofs.«01_k».proof.Proof.Array16
public import proofs.«01_k».proof.Proof.Plain16
public import proofs.«01_k».proof.Proof.Precondition
public import Idealize.ShloMosaic.Lib.Quiescent

@[expose] public section

set_option maxRecDepth 16384

open Idealize.ShloMosaic Idealize.ShloMosaic.TcCoe Idealize.SL.Sem
open Cert.Attend

namespace Cert.Proof

attribute [local instance] Cert.Project.Gen.facts Cert.ProjectIdeal.Gen.facts Cert.ProjectedIdeal.Gen.facts Cert.Mix.Gen.facts Cert.MixIdeal.Gen.facts Cert.MixedIdeal.Gen.facts Cert.SampleProject.Gen.facts Cert.SampleProjectIdeal.Gen.facts Cert.SampleProjectedIdeal.Gen.facts Cert.SampleMix.Gen.facts Cert.SampleMixIdeal.Gen.facts Cert.SampleMixedIdeal.Gen.facts Cert.Dense.Gen.facts Cert.DenseIdeal.Gen.facts Cert.ExpertsIdeal.Gen.facts Cert.SampleDense.Gen.facts Cert.SampleDenseIdeal.Gen.facts Cert.SampleExpertsIdeal.Gen.facts Cert.Attn1.Gen.facts Cert.Attn1Ideal.Gen.facts Cert.Dilated1Ideal.Gen.facts Cert.Attn4.Gen.facts Cert.Attn4Ideal.Gen.facts Cert.Dilated4Ideal.Gen.facts Cert.Attn16.Gen.facts Cert.Attn16Ideal.Gen.facts Cert.Dilated16Ideal.Gen.facts Cert.Attend.preconditionFacts

/-! The projection. -/

theorem plainProject (m : (ℓ : Loc Cert.ProjectedIdeal.nD Cert.ProjectedIdeal.τ Cert.ProjectedIdeal.sig) → Buf (Elt Ideal) ℓ) (g : Dev Cert.ProjectedIdeal.nD → PrngReg) :
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2))
      ∧ r.2.sem = fun _ => 0) :=
  (θ_run _ _ _).mono (fun r h => ⟨fun c => (h c).2, sem_eq_zero_of_no_sems (by decide) r.2⟩) (Cert.ProjectedIdeal.Value.run m g)

theorem sameProject (m : (ℓ : Loc Cert.ProjectIdeal.nD Cert.ProjectIdeal.τ Cert.ProjectIdeal.sig) → Buf (Elt Ideal) ℓ) (m' : (ℓ : Loc Cert.ProjectedIdeal.nD Cert.ProjectedIdeal.τ Cert.ProjectedIdeal.sig) → Buf (Elt Ideal) ℓ) (c : Dev Cert.ProjectIdeal.nD)
    (e0 : m' ((c.tc : Thread Cert.ProjectedIdeal.nD Cert.ProjectedIdeal.τ).loc Cert.ProjectedIdeal.main_arg0) = m ((c.tc : Thread Cert.ProjectIdeal.nD Cert.ProjectIdeal.τ).loc Cert.ProjectIdeal.main_arg0))
    (e1 : m' ((c.tc : Thread Cert.ProjectedIdeal.nD Cert.ProjectedIdeal.τ).loc Cert.ProjectedIdeal.main_arg1) = m ((c.tc : Thread Cert.ProjectIdeal.nD Cert.ProjectIdeal.τ).loc Cert.ProjectIdeal.main_arg1))
    (e2 : m' ((c.tc : Thread Cert.ProjectedIdeal.nD Cert.ProjectedIdeal.τ).loc Cert.ProjectedIdeal.main_arg2) = m ((c.tc : Thread Cert.ProjectIdeal.nD Cert.ProjectIdeal.τ).loc Cert.ProjectIdeal.main_arg2)) :
    Cert.ProjectedIdeal.Value.res_out0 (F := Ideal) m' c = (Cert.ProjectIdeal.Gen.dats m 0 c).arrAt 5 (Cert.ProjectIdeal.cfgs 0).N := by
  refine Eq.trans (funext fun i => ?_) (Cert.ProjectIdeal.Value.final5_at m c).symm
  refine (congrArg _ (eq_ix2 i)).trans ((Cert.ProjectedIdeal.Value.out0_at m' c (i 0) (i 1)).trans ?_)
  rw [e0, e1, e2]

theorem equalProject : algebraic_ProjectIdeal_ProjectedIdeal := by
  intro m g m' g' _ agree
  refine ⟨fun c => (Cert.ProjectIdeal.Gen.dats m 0 c).arrAt 5 (Cert.ProjectIdeal.cfgs 0).N,
    Cert.ProjectIdeal.Value.run_blocks m g, (θ_run _ _ _).mono (fun r h c => ?_) (Cert.ProjectedIdeal.Value.run m' g')⟩
  exact ⟨(h c).1.trans (sameProject m m' c (agree c).1 (agree c).2.1 (agree c).2.2), (h c).2⟩

/-! The mixing. -/

theorem plainMix (m : (ℓ : Loc Cert.MixedIdeal.nD Cert.MixedIdeal.τ Cert.MixedIdeal.sig) → Buf (Elt Ideal) ℓ) (g : Dev Cert.MixedIdeal.nD → PrngReg) :
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
      ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
      ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9)
      ∧ r.2.mem ((c.tc : Thread Cert.MixedIdeal.nD Cert.MixedIdeal.τ).loc Cert.MixedIdeal.main_arg10) = m ((c.tc : Thread Cert.MixedIdeal.nD Cert.MixedIdeal.τ).loc Cert.MixedIdeal.main_arg10)
      ∧ r.2.mem ((c.tc : Thread Cert.MixedIdeal.nD Cert.MixedIdeal.τ).loc Cert.MixedIdeal.main_arg11) = m ((c.tc : Thread Cert.MixedIdeal.nD Cert.MixedIdeal.τ).loc Cert.MixedIdeal.main_arg11)
      ∧ r.2.mem ((c.tc : Thread Cert.MixedIdeal.nD Cert.MixedIdeal.τ).loc Cert.MixedIdeal.main_arg12) = m ((c.tc : Thread Cert.MixedIdeal.nD Cert.MixedIdeal.τ).loc Cert.MixedIdeal.main_arg12)
      ∧ r.2.mem ((c.tc : Thread Cert.MixedIdeal.nD Cert.MixedIdeal.τ).loc Cert.MixedIdeal.main_arg13) = m ((c.tc : Thread Cert.MixedIdeal.nD Cert.MixedIdeal.τ).loc Cert.MixedIdeal.main_arg13)
      ∧ r.2.mem ((c.tc : Thread Cert.MixedIdeal.nD Cert.MixedIdeal.τ).loc Cert.MixedIdeal.main_arg14) = m ((c.tc : Thread Cert.MixedIdeal.nD Cert.MixedIdeal.τ).loc Cert.MixedIdeal.main_arg14))
      ∧ r.2.sem = fun _ => 0) :=
  (θ_run _ _ _).mono (fun r h => ⟨fun c => (h c).2.2, sem_eq_zero_of_no_sems (by decide) r.2⟩) (Cert.MixedIdeal.Value.run m g)

theorem sameMix (m : (ℓ : Loc Cert.MixIdeal.nD Cert.MixIdeal.τ Cert.MixIdeal.sig) → Buf (Elt Ideal) ℓ) (m' : (ℓ : Loc Cert.MixedIdeal.nD Cert.MixedIdeal.τ Cert.MixedIdeal.sig) → Buf (Elt Ideal) ℓ) (c : Dev Cert.MixIdeal.nD)
    (e0 : m' ((c.tc : Thread Cert.MixedIdeal.nD Cert.MixedIdeal.τ).loc Cert.MixedIdeal.main_arg0) = m ((c.tc : Thread Cert.MixIdeal.nD Cert.MixIdeal.τ).loc Cert.MixIdeal.main_arg0))
    (e1 : m' ((c.tc : Thread Cert.MixedIdeal.nD Cert.MixedIdeal.τ).loc Cert.MixedIdeal.main_arg1) = m ((c.tc : Thread Cert.MixIdeal.nD Cert.MixIdeal.τ).loc Cert.MixIdeal.main_arg1))
    (e2 : m' ((c.tc : Thread Cert.MixedIdeal.nD Cert.MixedIdeal.τ).loc Cert.MixedIdeal.main_arg2) = m ((c.tc : Thread Cert.MixIdeal.nD Cert.MixIdeal.τ).loc Cert.MixIdeal.main_arg2))
    (e3 : m' ((c.tc : Thread Cert.MixedIdeal.nD Cert.MixedIdeal.τ).loc Cert.MixedIdeal.main_arg3) = m ((c.tc : Thread Cert.MixIdeal.nD Cert.MixIdeal.τ).loc Cert.MixIdeal.main_arg3))
    (e4 : m' ((c.tc : Thread Cert.MixedIdeal.nD Cert.MixedIdeal.τ).loc Cert.MixedIdeal.main_arg4) = m ((c.tc : Thread Cert.MixIdeal.nD Cert.MixIdeal.τ).loc Cert.MixIdeal.main_arg4))
    (e5 : m' ((c.tc : Thread Cert.MixedIdeal.nD Cert.MixedIdeal.τ).loc Cert.MixedIdeal.main_arg5) = m ((c.tc : Thread Cert.MixIdeal.nD Cert.MixIdeal.τ).loc Cert.MixIdeal.main_arg5))
    (e6 : m' ((c.tc : Thread Cert.MixedIdeal.nD Cert.MixedIdeal.τ).loc Cert.MixedIdeal.main_arg6) = m ((c.tc : Thread Cert.MixIdeal.nD Cert.MixIdeal.τ).loc Cert.MixIdeal.main_arg6))
    (e7 : m' ((c.tc : Thread Cert.MixedIdeal.nD Cert.MixedIdeal.τ).loc Cert.MixedIdeal.main_arg7) = m ((c.tc : Thread Cert.MixIdeal.nD Cert.MixIdeal.τ).loc Cert.MixIdeal.main_arg7))
    (e8 : m' ((c.tc : Thread Cert.MixedIdeal.nD Cert.MixedIdeal.τ).loc Cert.MixedIdeal.main_arg8) = m ((c.tc : Thread Cert.MixIdeal.nD Cert.MixIdeal.τ).loc Cert.MixIdeal.main_arg8))
    (e9 : m' ((c.tc : Thread Cert.MixedIdeal.nD Cert.MixedIdeal.τ).loc Cert.MixedIdeal.main_arg9) = m ((c.tc : Thread Cert.MixIdeal.nD Cert.MixIdeal.τ).loc Cert.MixIdeal.main_arg9))
    (e10 : m' ((c.tc : Thread Cert.MixedIdeal.nD Cert.MixedIdeal.τ).loc Cert.MixedIdeal.main_arg10) = m ((c.tc : Thread Cert.MixIdeal.nD Cert.MixIdeal.τ).loc Cert.MixIdeal.main_arg10))
    (e11 : m' ((c.tc : Thread Cert.MixedIdeal.nD Cert.MixedIdeal.τ).loc Cert.MixedIdeal.main_arg11) = m ((c.tc : Thread Cert.MixIdeal.nD Cert.MixIdeal.τ).loc Cert.MixIdeal.main_arg11))
    (e12 : m' ((c.tc : Thread Cert.MixedIdeal.nD Cert.MixedIdeal.τ).loc Cert.MixedIdeal.main_arg12) = m ((c.tc : Thread Cert.MixIdeal.nD Cert.MixIdeal.τ).loc Cert.MixIdeal.main_arg12))
    (e13 : m' ((c.tc : Thread Cert.MixedIdeal.nD Cert.MixedIdeal.τ).loc Cert.MixedIdeal.main_arg13) = m ((c.tc : Thread Cert.MixIdeal.nD Cert.MixIdeal.τ).loc Cert.MixIdeal.main_arg13))
    (e14 : m' ((c.tc : Thread Cert.MixedIdeal.nD Cert.MixedIdeal.τ).loc Cert.MixedIdeal.main_arg14) = m ((c.tc : Thread Cert.MixIdeal.nD Cert.MixIdeal.τ).loc Cert.MixIdeal.main_arg14)) :
    Cert.MixedIdeal.Value.res_out0 (F := Ideal) m' c = (Cert.MixIdeal.Gen.dats m 0 c).arrAt 20 (Cert.MixIdeal.cfgs 0).N
      ∧ Cert.MixedIdeal.Value.res_out1 (F := Ideal) m' c = (Cert.MixIdeal.Gen.dats m 0 c).arrAt 21 (Cert.MixIdeal.cfgs 0).N := by
  refine ⟨Eq.trans (funext fun i => ?_) (Cert.MixIdeal.Value.final20_at m c).symm, Eq.trans (funext fun i => ?_) (Cert.MixIdeal.Value.final21_at m c).symm⟩
  · refine (congrArg _ (eq_ix2 i)).trans ((Cert.MixedIdeal.Value.out0_at m' c (i 0) (i 1)).trans ?_)
    rw [e0, e1, e2, e3, e4, e5, e6, e7, e8, e9, e10, e11, e12, e13, e14]
  · refine (congrArg _ (eq_ix2 i)).trans ((Cert.MixedIdeal.Value.out1_at m' c (i 0) (i 1)).trans ?_)
    rw [e0, e8, e9]

theorem equalMix : algebraic_MixIdeal_MixedIdeal := by
  intro m g m' g' _ agree
  refine ⟨fun c => (Cert.MixIdeal.Gen.dats m 0 c).arrAt 20 (Cert.MixIdeal.cfgs 0).N, fun c => (Cert.MixIdeal.Gen.dats m 0 c).arrAt 21 (Cert.MixIdeal.cfgs 0).N,
    Cert.MixIdeal.Value.run_blocks m g, (θ_run _ _ _).mono (fun r h c => ?_) (Cert.MixedIdeal.Value.run m' g')⟩
  obtain ⟨a0, a1, a2, a3, a4, a5, a6, a7, a8, a9, a10, a11, a12, a13, a14⟩ := agree c
  have e := sameMix m m' c a0 a1 a2 a3 a4 a5 a6 a7 a8 a9 a10 a11 a12 a13 a14
  exact ⟨(h c).1.trans e.1, (h c).2.1.trans e.2, (h c).2.2⟩

/-! The sample's projection. -/

theorem plainSampleProject (m : (ℓ : Loc Cert.SampleProjectedIdeal.nD Cert.SampleProjectedIdeal.τ Cert.SampleProjectedIdeal.sig) → Buf (Elt Ideal) ℓ) (g : Dev Cert.SampleProjectedIdeal.nD → PrngReg) :
    θ_run (Cert.SampleProjectedIdeal.defs (F := Ideal)) (onTc (τ := Cert.SampleProjectedIdeal.τ) (Cert.SampleProjectedIdeal.main (F := Ideal))) ⟨m, fun _ => 0, g⟩ (fun r => (∀ c : Dev Cert.SampleProjectedIdeal.nD,
      r.2.mem ((c.tc : Thread Cert.SampleProjectedIdeal.nD Cert.SampleProjectedIdeal.τ).loc Cert.SampleProjectedIdeal.main_arg0) = m ((c.tc : Thread Cert.SampleProjectedIdeal.nD Cert.SampleProjectedIdeal.τ).loc Cert.SampleProjectedIdeal.main_arg0)
      ∧ r.2.mem ((c.tc : Thread Cert.SampleProjectedIdeal.nD Cert.SampleProjectedIdeal.τ).loc Cert.SampleProjectedIdeal.main_arg1) = m ((c.tc : Thread Cert.SampleProjectedIdeal.nD Cert.SampleProjectedIdeal.τ).loc Cert.SampleProjectedIdeal.main_arg1)
      ∧ r.2.mem ((c.tc : Thread Cert.SampleProjectedIdeal.nD Cert.SampleProjectedIdeal.τ).loc Cert.SampleProjectedIdeal.main_arg2) = m ((c.tc : Thread Cert.SampleProjectedIdeal.nD Cert.SampleProjectedIdeal.τ).loc Cert.SampleProjectedIdeal.main_arg2))
      ∧ r.2.sem = fun _ => 0) :=
  (θ_run _ _ _).mono (fun r h => ⟨fun c => (h c).2, sem_eq_zero_of_no_sems (by decide) r.2⟩) (Cert.SampleProjectedIdeal.Value.run m g)

theorem sameSampleProject (m : (ℓ : Loc Cert.SampleProjectIdeal.nD Cert.SampleProjectIdeal.τ Cert.SampleProjectIdeal.sig) → Buf (Elt Ideal) ℓ) (m' : (ℓ : Loc Cert.SampleProjectedIdeal.nD Cert.SampleProjectedIdeal.τ Cert.SampleProjectedIdeal.sig) → Buf (Elt Ideal) ℓ) (c : Dev Cert.SampleProjectIdeal.nD)
    (e0 : m' ((c.tc : Thread Cert.SampleProjectedIdeal.nD Cert.SampleProjectedIdeal.τ).loc Cert.SampleProjectedIdeal.main_arg0) = m ((c.tc : Thread Cert.SampleProjectIdeal.nD Cert.SampleProjectIdeal.τ).loc Cert.SampleProjectIdeal.main_arg0))
    (e1 : m' ((c.tc : Thread Cert.SampleProjectedIdeal.nD Cert.SampleProjectedIdeal.τ).loc Cert.SampleProjectedIdeal.main_arg1) = m ((c.tc : Thread Cert.SampleProjectIdeal.nD Cert.SampleProjectIdeal.τ).loc Cert.SampleProjectIdeal.main_arg1))
    (e2 : m' ((c.tc : Thread Cert.SampleProjectedIdeal.nD Cert.SampleProjectedIdeal.τ).loc Cert.SampleProjectedIdeal.main_arg2) = m ((c.tc : Thread Cert.SampleProjectIdeal.nD Cert.SampleProjectIdeal.τ).loc Cert.SampleProjectIdeal.main_arg2)) :
    Cert.SampleProjectedIdeal.Value.res_out0 (F := Ideal) m' c = (Cert.SampleProjectIdeal.Gen.dats m 0 c).arrAt 5 (Cert.SampleProjectIdeal.cfgs 0).N := by
  refine Eq.trans (funext fun i => ?_) (Cert.SampleProjectIdeal.Value.final5_at m c).symm
  refine (congrArg _ (eq_ix2 i)).trans ((Cert.SampleProjectedIdeal.Value.out0_at m' c (i 0) (i 1)).trans ?_)
  rw [e0, e1, e2]

theorem equalSampleProject : algebraic_SampleProjectIdeal_SampleProjectedIdeal := by
  intro m g m' g' _ agree
  refine ⟨fun c => (Cert.SampleProjectIdeal.Gen.dats m 0 c).arrAt 5 (Cert.SampleProjectIdeal.cfgs 0).N,
    Cert.SampleProjectIdeal.Value.run_blocks m g, (θ_run _ _ _).mono (fun r h c => ?_) (Cert.SampleProjectedIdeal.Value.run m' g')⟩
  exact ⟨(h c).1.trans (sameSampleProject m m' c (agree c).1 (agree c).2.1 (agree c).2.2), (h c).2⟩

/-! The sample's mixing. -/

theorem plainSampleMix (m : (ℓ : Loc Cert.SampleMixedIdeal.nD Cert.SampleMixedIdeal.τ Cert.SampleMixedIdeal.sig) → Buf (Elt Ideal) ℓ) (g : Dev Cert.SampleMixedIdeal.nD → PrngReg) :
    θ_run (Cert.SampleMixedIdeal.defs (F := Ideal)) (onTc (τ := Cert.SampleMixedIdeal.τ) (Cert.SampleMixedIdeal.main (F := Ideal))) ⟨m, fun _ => 0, g⟩ (fun r => (∀ c : Dev Cert.SampleMixedIdeal.nD,
      r.2.mem ((c.tc : Thread Cert.SampleMixedIdeal.nD Cert.SampleMixedIdeal.τ).loc Cert.SampleMixedIdeal.main_arg0) = m ((c.tc : Thread Cert.SampleMixedIdeal.nD Cert.SampleMixedIdeal.τ).loc Cert.SampleMixedIdeal.main_arg0)
      ∧ r.2.mem ((c.tc : Thread Cert.SampleMixedIdeal.nD Cert.SampleMixedIdeal.τ).loc Cert.SampleMixedIdeal.main_arg1) = m ((c.tc : Thread Cert.SampleMixedIdeal.nD Cert.SampleMixedIdeal.τ).loc Cert.SampleMixedIdeal.main_arg1)
      ∧ r.2.mem ((c.tc : Thread Cert.SampleMixedIdeal.nD Cert.SampleMixedIdeal.τ).loc Cert.SampleMixedIdeal.main_arg2) = m ((c.tc : Thread Cert.SampleMixedIdeal.nD Cert.SampleMixedIdeal.τ).loc Cert.SampleMixedIdeal.main_arg2)
      ∧ r.2.mem ((c.tc : Thread Cert.SampleMixedIdeal.nD Cert.SampleMixedIdeal.τ).loc Cert.SampleMixedIdeal.main_arg3) = m ((c.tc : Thread Cert.SampleMixedIdeal.nD Cert.SampleMixedIdeal.τ).loc Cert.SampleMixedIdeal.main_arg3)
      ∧ r.2.mem ((c.tc : Thread Cert.SampleMixedIdeal.nD Cert.SampleMixedIdeal.τ).loc Cert.SampleMixedIdeal.main_arg4) = m ((c.tc : Thread Cert.SampleMixedIdeal.nD Cert.SampleMixedIdeal.τ).loc Cert.SampleMixedIdeal.main_arg4)
      ∧ r.2.mem ((c.tc : Thread Cert.SampleMixedIdeal.nD Cert.SampleMixedIdeal.τ).loc Cert.SampleMixedIdeal.main_arg5) = m ((c.tc : Thread Cert.SampleMixedIdeal.nD Cert.SampleMixedIdeal.τ).loc Cert.SampleMixedIdeal.main_arg5)
      ∧ r.2.mem ((c.tc : Thread Cert.SampleMixedIdeal.nD Cert.SampleMixedIdeal.τ).loc Cert.SampleMixedIdeal.main_arg6) = m ((c.tc : Thread Cert.SampleMixedIdeal.nD Cert.SampleMixedIdeal.τ).loc Cert.SampleMixedIdeal.main_arg6)
      ∧ r.2.mem ((c.tc : Thread Cert.SampleMixedIdeal.nD Cert.SampleMixedIdeal.τ).loc Cert.SampleMixedIdeal.main_arg7) = m ((c.tc : Thread Cert.SampleMixedIdeal.nD Cert.SampleMixedIdeal.τ).loc Cert.SampleMixedIdeal.main_arg7)
      ∧ r.2.mem ((c.tc : Thread Cert.SampleMixedIdeal.nD Cert.SampleMixedIdeal.τ).loc Cert.SampleMixedIdeal.main_arg8) = m ((c.tc : Thread Cert.SampleMixedIdeal.nD Cert.SampleMixedIdeal.τ).loc Cert.SampleMixedIdeal.main_arg8)
      ∧ r.2.mem ((c.tc : Thread Cert.SampleMixedIdeal.nD Cert.SampleMixedIdeal.τ).loc Cert.SampleMixedIdeal.main_arg9) = m ((c.tc : Thread Cert.SampleMixedIdeal.nD Cert.SampleMixedIdeal.τ).loc Cert.SampleMixedIdeal.main_arg9)
      ∧ r.2.mem ((c.tc : Thread Cert.SampleMixedIdeal.nD Cert.SampleMixedIdeal.τ).loc Cert.SampleMixedIdeal.main_arg10) = m ((c.tc : Thread Cert.SampleMixedIdeal.nD Cert.SampleMixedIdeal.τ).loc Cert.SampleMixedIdeal.main_arg10)
      ∧ r.2.mem ((c.tc : Thread Cert.SampleMixedIdeal.nD Cert.SampleMixedIdeal.τ).loc Cert.SampleMixedIdeal.main_arg11) = m ((c.tc : Thread Cert.SampleMixedIdeal.nD Cert.SampleMixedIdeal.τ).loc Cert.SampleMixedIdeal.main_arg11)
      ∧ r.2.mem ((c.tc : Thread Cert.SampleMixedIdeal.nD Cert.SampleMixedIdeal.τ).loc Cert.SampleMixedIdeal.main_arg12) = m ((c.tc : Thread Cert.SampleMixedIdeal.nD Cert.SampleMixedIdeal.τ).loc Cert.SampleMixedIdeal.main_arg12)
      ∧ r.2.mem ((c.tc : Thread Cert.SampleMixedIdeal.nD Cert.SampleMixedIdeal.τ).loc Cert.SampleMixedIdeal.main_arg13) = m ((c.tc : Thread Cert.SampleMixedIdeal.nD Cert.SampleMixedIdeal.τ).loc Cert.SampleMixedIdeal.main_arg13)
      ∧ r.2.mem ((c.tc : Thread Cert.SampleMixedIdeal.nD Cert.SampleMixedIdeal.τ).loc Cert.SampleMixedIdeal.main_arg14) = m ((c.tc : Thread Cert.SampleMixedIdeal.nD Cert.SampleMixedIdeal.τ).loc Cert.SampleMixedIdeal.main_arg14))
      ∧ r.2.sem = fun _ => 0) :=
  (θ_run _ _ _).mono (fun r h => ⟨fun c => (h c).2.2, sem_eq_zero_of_no_sems (by decide) r.2⟩) (Cert.SampleMixedIdeal.Value.run m g)

theorem sameSampleMix (m : (ℓ : Loc Cert.SampleMixIdeal.nD Cert.SampleMixIdeal.τ Cert.SampleMixIdeal.sig) → Buf (Elt Ideal) ℓ) (m' : (ℓ : Loc Cert.SampleMixedIdeal.nD Cert.SampleMixedIdeal.τ Cert.SampleMixedIdeal.sig) → Buf (Elt Ideal) ℓ) (c : Dev Cert.SampleMixIdeal.nD)
    (e0 : m' ((c.tc : Thread Cert.SampleMixedIdeal.nD Cert.SampleMixedIdeal.τ).loc Cert.SampleMixedIdeal.main_arg0) = m ((c.tc : Thread Cert.SampleMixIdeal.nD Cert.SampleMixIdeal.τ).loc Cert.SampleMixIdeal.main_arg0))
    (e1 : m' ((c.tc : Thread Cert.SampleMixedIdeal.nD Cert.SampleMixedIdeal.τ).loc Cert.SampleMixedIdeal.main_arg1) = m ((c.tc : Thread Cert.SampleMixIdeal.nD Cert.SampleMixIdeal.τ).loc Cert.SampleMixIdeal.main_arg1))
    (e2 : m' ((c.tc : Thread Cert.SampleMixedIdeal.nD Cert.SampleMixedIdeal.τ).loc Cert.SampleMixedIdeal.main_arg2) = m ((c.tc : Thread Cert.SampleMixIdeal.nD Cert.SampleMixIdeal.τ).loc Cert.SampleMixIdeal.main_arg2))
    (e3 : m' ((c.tc : Thread Cert.SampleMixedIdeal.nD Cert.SampleMixedIdeal.τ).loc Cert.SampleMixedIdeal.main_arg3) = m ((c.tc : Thread Cert.SampleMixIdeal.nD Cert.SampleMixIdeal.τ).loc Cert.SampleMixIdeal.main_arg3))
    (e4 : m' ((c.tc : Thread Cert.SampleMixedIdeal.nD Cert.SampleMixedIdeal.τ).loc Cert.SampleMixedIdeal.main_arg4) = m ((c.tc : Thread Cert.SampleMixIdeal.nD Cert.SampleMixIdeal.τ).loc Cert.SampleMixIdeal.main_arg4))
    (e5 : m' ((c.tc : Thread Cert.SampleMixedIdeal.nD Cert.SampleMixedIdeal.τ).loc Cert.SampleMixedIdeal.main_arg5) = m ((c.tc : Thread Cert.SampleMixIdeal.nD Cert.SampleMixIdeal.τ).loc Cert.SampleMixIdeal.main_arg5))
    (e6 : m' ((c.tc : Thread Cert.SampleMixedIdeal.nD Cert.SampleMixedIdeal.τ).loc Cert.SampleMixedIdeal.main_arg6) = m ((c.tc : Thread Cert.SampleMixIdeal.nD Cert.SampleMixIdeal.τ).loc Cert.SampleMixIdeal.main_arg6))
    (e7 : m' ((c.tc : Thread Cert.SampleMixedIdeal.nD Cert.SampleMixedIdeal.τ).loc Cert.SampleMixedIdeal.main_arg7) = m ((c.tc : Thread Cert.SampleMixIdeal.nD Cert.SampleMixIdeal.τ).loc Cert.SampleMixIdeal.main_arg7))
    (e8 : m' ((c.tc : Thread Cert.SampleMixedIdeal.nD Cert.SampleMixedIdeal.τ).loc Cert.SampleMixedIdeal.main_arg8) = m ((c.tc : Thread Cert.SampleMixIdeal.nD Cert.SampleMixIdeal.τ).loc Cert.SampleMixIdeal.main_arg8))
    (e9 : m' ((c.tc : Thread Cert.SampleMixedIdeal.nD Cert.SampleMixedIdeal.τ).loc Cert.SampleMixedIdeal.main_arg9) = m ((c.tc : Thread Cert.SampleMixIdeal.nD Cert.SampleMixIdeal.τ).loc Cert.SampleMixIdeal.main_arg9))
    (e10 : m' ((c.tc : Thread Cert.SampleMixedIdeal.nD Cert.SampleMixedIdeal.τ).loc Cert.SampleMixedIdeal.main_arg10) = m ((c.tc : Thread Cert.SampleMixIdeal.nD Cert.SampleMixIdeal.τ).loc Cert.SampleMixIdeal.main_arg10))
    (e11 : m' ((c.tc : Thread Cert.SampleMixedIdeal.nD Cert.SampleMixedIdeal.τ).loc Cert.SampleMixedIdeal.main_arg11) = m ((c.tc : Thread Cert.SampleMixIdeal.nD Cert.SampleMixIdeal.τ).loc Cert.SampleMixIdeal.main_arg11))
    (e12 : m' ((c.tc : Thread Cert.SampleMixedIdeal.nD Cert.SampleMixedIdeal.τ).loc Cert.SampleMixedIdeal.main_arg12) = m ((c.tc : Thread Cert.SampleMixIdeal.nD Cert.SampleMixIdeal.τ).loc Cert.SampleMixIdeal.main_arg12))
    (e13 : m' ((c.tc : Thread Cert.SampleMixedIdeal.nD Cert.SampleMixedIdeal.τ).loc Cert.SampleMixedIdeal.main_arg13) = m ((c.tc : Thread Cert.SampleMixIdeal.nD Cert.SampleMixIdeal.τ).loc Cert.SampleMixIdeal.main_arg13))
    (e14 : m' ((c.tc : Thread Cert.SampleMixedIdeal.nD Cert.SampleMixedIdeal.τ).loc Cert.SampleMixedIdeal.main_arg14) = m ((c.tc : Thread Cert.SampleMixIdeal.nD Cert.SampleMixIdeal.τ).loc Cert.SampleMixIdeal.main_arg14)) :
    Cert.SampleMixedIdeal.Value.res_out0 (F := Ideal) m' c = (Cert.SampleMixIdeal.Gen.dats m 0 c).arrAt 20 (Cert.SampleMixIdeal.cfgs 0).N
      ∧ Cert.SampleMixedIdeal.Value.res_out1 (F := Ideal) m' c = (Cert.SampleMixIdeal.Gen.dats m 0 c).arrAt 21 (Cert.SampleMixIdeal.cfgs 0).N := by
  refine ⟨Eq.trans (funext fun i => ?_) (Cert.SampleMixIdeal.Value.final20_at m c).symm, Eq.trans (funext fun i => ?_) (Cert.SampleMixIdeal.Value.final21_at m c).symm⟩
  · refine (congrArg _ (eq_ix2 i)).trans ((Cert.SampleMixedIdeal.Value.out0_at m' c (i 0) (i 1)).trans ?_)
    rw [e0, e1, e2, e3, e4, e5, e6, e7, e8, e9, e10, e11, e12, e13, e14]
  · refine (congrArg _ (eq_ix2 i)).trans ((Cert.SampleMixedIdeal.Value.out1_at m' c (i 0) (i 1)).trans ?_)
    rw [e0, e8, e9]

theorem equalSampleMix : algebraic_SampleMixIdeal_SampleMixedIdeal := by
  intro m g m' g' _ agree
  refine ⟨fun c => (Cert.SampleMixIdeal.Gen.dats m 0 c).arrAt 20 (Cert.SampleMixIdeal.cfgs 0).N, fun c => (Cert.SampleMixIdeal.Gen.dats m 0 c).arrAt 21 (Cert.SampleMixIdeal.cfgs 0).N,
    Cert.SampleMixIdeal.Value.run_blocks m g, (θ_run _ _ _).mono (fun r h c => ?_) (Cert.SampleMixedIdeal.Value.run m' g')⟩
  obtain ⟨a0, a1, a2, a3, a4, a5, a6, a7, a8, a9, a10, a11, a12, a13, a14⟩ := agree c
  have e := sameSampleMix m m' c a0 a1 a2 a3 a4 a5 a6 a7 a8 a9 a10 a11 a12 a13 a14
  exact ⟨(h c).1.trans e.1, (h c).2.1.trans e.2, (h c).2.2⟩

/-! The experts. -/

theorem plainDense (m : (ℓ : Loc Cert.ExpertsIdeal.nD Cert.ExpertsIdeal.τ Cert.ExpertsIdeal.sig) → Buf (Elt Ideal) ℓ) (g : Dev Cert.ExpertsIdeal.nD → PrngReg) :
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0) :=
  (θ_run _ _ _).mono (fun r h => ⟨fun c => (h c).2, sem_eq_zero_of_no_sems (by decide) r.2⟩) (Cert.ExpertsIdeal.Value.run m g)

theorem sameDense (m : (ℓ : Loc Cert.DenseIdeal.nD Cert.DenseIdeal.τ Cert.DenseIdeal.sig) → Buf (Elt Ideal) ℓ) (m' : (ℓ : Loc Cert.ExpertsIdeal.nD Cert.ExpertsIdeal.τ Cert.ExpertsIdeal.sig) → Buf (Elt Ideal) ℓ) (c : Dev Cert.DenseIdeal.nD)
    (e0 : m' ((c.tc : Thread Cert.ExpertsIdeal.nD Cert.ExpertsIdeal.τ).loc Cert.ExpertsIdeal.main_arg0) = m ((c.tc : Thread Cert.DenseIdeal.nD Cert.DenseIdeal.τ).loc Cert.DenseIdeal.main_arg0))
    (e1 : m' ((c.tc : Thread Cert.ExpertsIdeal.nD Cert.ExpertsIdeal.τ).loc Cert.ExpertsIdeal.main_arg1) = m ((c.tc : Thread Cert.DenseIdeal.nD Cert.DenseIdeal.τ).loc Cert.DenseIdeal.main_arg1))
    (e2 : m' ((c.tc : Thread Cert.ExpertsIdeal.nD Cert.ExpertsIdeal.τ).loc Cert.ExpertsIdeal.main_arg2) = m ((c.tc : Thread Cert.DenseIdeal.nD Cert.DenseIdeal.τ).loc Cert.DenseIdeal.main_arg2))
    (e3 : m' ((c.tc : Thread Cert.ExpertsIdeal.nD Cert.ExpertsIdeal.τ).loc Cert.ExpertsIdeal.main_arg3) = m ((c.tc : Thread Cert.DenseIdeal.nD Cert.DenseIdeal.τ).loc Cert.DenseIdeal.main_arg3))
    (e4 : m' ((c.tc : Thread Cert.ExpertsIdeal.nD Cert.ExpertsIdeal.τ).loc Cert.ExpertsIdeal.main_arg4) = m ((c.tc : Thread Cert.DenseIdeal.nD Cert.DenseIdeal.τ).loc Cert.DenseIdeal.main_arg4))
    (e5 : m' ((c.tc : Thread Cert.ExpertsIdeal.nD Cert.ExpertsIdeal.τ).loc Cert.ExpertsIdeal.main_arg5) = m ((c.tc : Thread Cert.DenseIdeal.nD Cert.DenseIdeal.τ).loc Cert.DenseIdeal.main_arg5))
    (e6 : m' ((c.tc : Thread Cert.ExpertsIdeal.nD Cert.ExpertsIdeal.τ).loc Cert.ExpertsIdeal.main_arg6) = m ((c.tc : Thread Cert.DenseIdeal.nD Cert.DenseIdeal.τ).loc Cert.DenseIdeal.main_arg6))
    (e7 : m' ((c.tc : Thread Cert.ExpertsIdeal.nD Cert.ExpertsIdeal.τ).loc Cert.ExpertsIdeal.main_arg7) = m ((c.tc : Thread Cert.DenseIdeal.nD Cert.DenseIdeal.τ).loc Cert.DenseIdeal.main_arg7))
    (e8 : m' ((c.tc : Thread Cert.ExpertsIdeal.nD Cert.ExpertsIdeal.τ).loc Cert.ExpertsIdeal.main_arg8) = m ((c.tc : Thread Cert.DenseIdeal.nD Cert.DenseIdeal.τ).loc Cert.DenseIdeal.main_arg8)) :
    Cert.ExpertsIdeal.Value.res_out0 (F := Ideal) m' c = (Cert.DenseIdeal.Gen.dats m 0 c).arrAt 9 (Cert.DenseIdeal.cfgs 0).N := by
  refine Eq.trans (funext fun i => ?_) (Cert.DenseIdeal.Value.final9_at m c).symm
  refine (congrArg _ (eq_ix2 i)).trans ((Cert.ExpertsIdeal.Value.out_at m' c (i 0) (i 1)).trans ?_)
  rw [e0, e1, e2, e3, e4, e5, e6, e7, e8]

theorem equalDense : algebraic_DenseIdeal_ExpertsIdeal := by
  intro m g m' g' _ agree
  refine ⟨fun c => (Cert.DenseIdeal.Gen.dats m 0 c).arrAt 9 (Cert.DenseIdeal.cfgs 0).N,
    Cert.DenseIdeal.Value.run_blocks m g, (θ_run _ _ _).mono (fun r h c => ?_) (Cert.ExpertsIdeal.Value.run m' g')⟩
  obtain ⟨a0, a1, a2, a3, a4, a5, a6, a7, a8⟩ := agree c
  exact ⟨(h c).1.trans (sameDense m m' c a0 a1 a2 a3 a4 a5 a6 a7 a8), (h c).2⟩

/-! The sample's experts. -/

theorem plainSampleDense (m : (ℓ : Loc Cert.SampleExpertsIdeal.nD Cert.SampleExpertsIdeal.τ Cert.SampleExpertsIdeal.sig) → Buf (Elt Ideal) ℓ) (g : Dev Cert.SampleExpertsIdeal.nD → PrngReg) :
    θ_run (Cert.SampleExpertsIdeal.defs (F := Ideal)) (onTc (τ := Cert.SampleExpertsIdeal.τ) (Cert.SampleExpertsIdeal.main (F := Ideal))) ⟨m, fun _ => 0, g⟩ (fun r => (∀ c : Dev Cert.SampleExpertsIdeal.nD,
      r.2.mem ((c.tc : Thread Cert.SampleExpertsIdeal.nD Cert.SampleExpertsIdeal.τ).loc Cert.SampleExpertsIdeal.main_arg0) = m ((c.tc : Thread Cert.SampleExpertsIdeal.nD Cert.SampleExpertsIdeal.τ).loc Cert.SampleExpertsIdeal.main_arg0)
      ∧ r.2.mem ((c.tc : Thread Cert.SampleExpertsIdeal.nD Cert.SampleExpertsIdeal.τ).loc Cert.SampleExpertsIdeal.main_arg1) = m ((c.tc : Thread Cert.SampleExpertsIdeal.nD Cert.SampleExpertsIdeal.τ).loc Cert.SampleExpertsIdeal.main_arg1)
      ∧ r.2.mem ((c.tc : Thread Cert.SampleExpertsIdeal.nD Cert.SampleExpertsIdeal.τ).loc Cert.SampleExpertsIdeal.main_arg2) = m ((c.tc : Thread Cert.SampleExpertsIdeal.nD Cert.SampleExpertsIdeal.τ).loc Cert.SampleExpertsIdeal.main_arg2)
      ∧ r.2.mem ((c.tc : Thread Cert.SampleExpertsIdeal.nD Cert.SampleExpertsIdeal.τ).loc Cert.SampleExpertsIdeal.main_arg3) = m ((c.tc : Thread Cert.SampleExpertsIdeal.nD Cert.SampleExpertsIdeal.τ).loc Cert.SampleExpertsIdeal.main_arg3)
      ∧ r.2.mem ((c.tc : Thread Cert.SampleExpertsIdeal.nD Cert.SampleExpertsIdeal.τ).loc Cert.SampleExpertsIdeal.main_arg4) = m ((c.tc : Thread Cert.SampleExpertsIdeal.nD Cert.SampleExpertsIdeal.τ).loc Cert.SampleExpertsIdeal.main_arg4)
      ∧ r.2.mem ((c.tc : Thread Cert.SampleExpertsIdeal.nD Cert.SampleExpertsIdeal.τ).loc Cert.SampleExpertsIdeal.main_arg5) = m ((c.tc : Thread Cert.SampleExpertsIdeal.nD Cert.SampleExpertsIdeal.τ).loc Cert.SampleExpertsIdeal.main_arg5)
      ∧ r.2.mem ((c.tc : Thread Cert.SampleExpertsIdeal.nD Cert.SampleExpertsIdeal.τ).loc Cert.SampleExpertsIdeal.main_arg6) = m ((c.tc : Thread Cert.SampleExpertsIdeal.nD Cert.SampleExpertsIdeal.τ).loc Cert.SampleExpertsIdeal.main_arg6)
      ∧ r.2.mem ((c.tc : Thread Cert.SampleExpertsIdeal.nD Cert.SampleExpertsIdeal.τ).loc Cert.SampleExpertsIdeal.main_arg7) = m ((c.tc : Thread Cert.SampleExpertsIdeal.nD Cert.SampleExpertsIdeal.τ).loc Cert.SampleExpertsIdeal.main_arg7)
      ∧ r.2.mem ((c.tc : Thread Cert.SampleExpertsIdeal.nD Cert.SampleExpertsIdeal.τ).loc Cert.SampleExpertsIdeal.main_arg8) = m ((c.tc : Thread Cert.SampleExpertsIdeal.nD Cert.SampleExpertsIdeal.τ).loc Cert.SampleExpertsIdeal.main_arg8))
      ∧ r.2.sem = fun _ => 0) :=
  (θ_run _ _ _).mono (fun r h => ⟨fun c => (h c).2, sem_eq_zero_of_no_sems (by decide) r.2⟩) (Cert.SampleExpertsIdeal.Value.run m g)

theorem sameSampleDense (m : (ℓ : Loc Cert.SampleDenseIdeal.nD Cert.SampleDenseIdeal.τ Cert.SampleDenseIdeal.sig) → Buf (Elt Ideal) ℓ) (m' : (ℓ : Loc Cert.SampleExpertsIdeal.nD Cert.SampleExpertsIdeal.τ Cert.SampleExpertsIdeal.sig) → Buf (Elt Ideal) ℓ) (c : Dev Cert.SampleDenseIdeal.nD)
    (e0 : m' ((c.tc : Thread Cert.SampleExpertsIdeal.nD Cert.SampleExpertsIdeal.τ).loc Cert.SampleExpertsIdeal.main_arg0) = m ((c.tc : Thread Cert.SampleDenseIdeal.nD Cert.SampleDenseIdeal.τ).loc Cert.SampleDenseIdeal.main_arg0))
    (e1 : m' ((c.tc : Thread Cert.SampleExpertsIdeal.nD Cert.SampleExpertsIdeal.τ).loc Cert.SampleExpertsIdeal.main_arg1) = m ((c.tc : Thread Cert.SampleDenseIdeal.nD Cert.SampleDenseIdeal.τ).loc Cert.SampleDenseIdeal.main_arg1))
    (e2 : m' ((c.tc : Thread Cert.SampleExpertsIdeal.nD Cert.SampleExpertsIdeal.τ).loc Cert.SampleExpertsIdeal.main_arg2) = m ((c.tc : Thread Cert.SampleDenseIdeal.nD Cert.SampleDenseIdeal.τ).loc Cert.SampleDenseIdeal.main_arg2))
    (e3 : m' ((c.tc : Thread Cert.SampleExpertsIdeal.nD Cert.SampleExpertsIdeal.τ).loc Cert.SampleExpertsIdeal.main_arg3) = m ((c.tc : Thread Cert.SampleDenseIdeal.nD Cert.SampleDenseIdeal.τ).loc Cert.SampleDenseIdeal.main_arg3))
    (e4 : m' ((c.tc : Thread Cert.SampleExpertsIdeal.nD Cert.SampleExpertsIdeal.τ).loc Cert.SampleExpertsIdeal.main_arg4) = m ((c.tc : Thread Cert.SampleDenseIdeal.nD Cert.SampleDenseIdeal.τ).loc Cert.SampleDenseIdeal.main_arg4))
    (e5 : m' ((c.tc : Thread Cert.SampleExpertsIdeal.nD Cert.SampleExpertsIdeal.τ).loc Cert.SampleExpertsIdeal.main_arg5) = m ((c.tc : Thread Cert.SampleDenseIdeal.nD Cert.SampleDenseIdeal.τ).loc Cert.SampleDenseIdeal.main_arg5))
    (e6 : m' ((c.tc : Thread Cert.SampleExpertsIdeal.nD Cert.SampleExpertsIdeal.τ).loc Cert.SampleExpertsIdeal.main_arg6) = m ((c.tc : Thread Cert.SampleDenseIdeal.nD Cert.SampleDenseIdeal.τ).loc Cert.SampleDenseIdeal.main_arg6))
    (e7 : m' ((c.tc : Thread Cert.SampleExpertsIdeal.nD Cert.SampleExpertsIdeal.τ).loc Cert.SampleExpertsIdeal.main_arg7) = m ((c.tc : Thread Cert.SampleDenseIdeal.nD Cert.SampleDenseIdeal.τ).loc Cert.SampleDenseIdeal.main_arg7))
    (e8 : m' ((c.tc : Thread Cert.SampleExpertsIdeal.nD Cert.SampleExpertsIdeal.τ).loc Cert.SampleExpertsIdeal.main_arg8) = m ((c.tc : Thread Cert.SampleDenseIdeal.nD Cert.SampleDenseIdeal.τ).loc Cert.SampleDenseIdeal.main_arg8)) :
    Cert.SampleExpertsIdeal.Value.res_out0 (F := Ideal) m' c = (Cert.SampleDenseIdeal.Gen.dats m 0 c).arrAt 9 (Cert.SampleDenseIdeal.cfgs 0).N := by
  refine Eq.trans (funext fun i => ?_) (Cert.SampleDenseIdeal.Value.final9_at m c).symm
  refine (congrArg _ (eq_ix2 i)).trans ((Cert.SampleExpertsIdeal.Value.out_at m' c (i 0) (i 1)).trans ?_)
  rw [e0, e1, e2, e3, e4, e5, e6, e7, e8]

theorem equalSampleDense : algebraic_SampleDenseIdeal_SampleExpertsIdeal := by
  intro m g m' g' _ agree
  refine ⟨fun c => (Cert.SampleDenseIdeal.Gen.dats m 0 c).arrAt 9 (Cert.SampleDenseIdeal.cfgs 0).N,
    Cert.SampleDenseIdeal.Value.run_blocks m g, (θ_run _ _ _).mono (fun r h c => ?_) (Cert.SampleExpertsIdeal.Value.run m' g')⟩
  obtain ⟨a0, a1, a2, a3, a4, a5, a6, a7, a8⟩ := agree c
  exact ⟨(h c).1.trans (sameSampleDense m m' c a0 a1 a2 a3 a4 a5 a6 a7 a8), (h c).2⟩

/-! Stride 1. -/

theorem plain1 (m : (ℓ : Loc Cert.Dilated1Ideal.nD Cert.Dilated1Ideal.τ Cert.Dilated1Ideal.sig) → Buf (Elt Ideal) ℓ) (g : Dev Cert.Dilated1Ideal.nD → PrngReg) :
    θ_run (Cert.Dilated1Ideal.defs (F := Ideal)) (onTc (τ := Cert.Dilated1Ideal.τ) (Cert.Dilated1Ideal.main (F := Ideal))) ⟨m, fun _ => 0, g⟩ (fun r => (∀ c : Dev Cert.Dilated1Ideal.nD,
      r.2.mem ((c.tc : Thread Cert.Dilated1Ideal.nD Cert.Dilated1Ideal.τ).loc Cert.Dilated1Ideal.main_arg0) = m ((c.tc : Thread Cert.Dilated1Ideal.nD Cert.Dilated1Ideal.τ).loc Cert.Dilated1Ideal.main_arg0))
      ∧ r.2.sem = fun _ => 0) :=
  (θ_run _ _ _).mono (fun r h => ⟨fun c => (h c).2.2, sem_eq_zero_of_no_sems (by decide) r.2⟩) (Cert.Dilated1Ideal.Value.run m g)

theorem same1 (m : (ℓ : Loc Cert.Attn1Ideal.nD Cert.Attn1Ideal.τ Cert.Attn1Ideal.sig) → Buf (Elt Ideal) ℓ) (m' : (ℓ : Loc Cert.Dilated1Ideal.nD Cert.Dilated1Ideal.τ Cert.Dilated1Ideal.sig) → Buf (Elt Ideal) ℓ)
    (hm : Pre_Attn1Ideal_finite_queries_and_keys m) (c : Dev Cert.Attn1Ideal.nD)
    (e : m' ((c.tc : Thread Cert.Dilated1Ideal.nD Cert.Dilated1Ideal.τ).loc Cert.Dilated1Ideal.main_arg0) = m ((c.tc : Thread Cert.Attn1Ideal.nD Cert.Attn1Ideal.τ).loc Cert.Attn1Ideal.main_arg0)) :
    Cert.Dilated1Ideal.Value.res_out0 (F := Ideal) m' c = (Cert.Attn1Ideal.Gen.dats m 0 c).arrAt 5 (Cert.Attn1Ideal.cfgs 0).N
      ∧ Cert.Dilated1Ideal.Value.res_out1 (F := Ideal) m' c = (Cert.Attn1Ideal.Gen.dats m 0 c).arrAt 6 (Cert.Attn1Ideal.cfgs 0).N := by
  have hX : FiniteQK (Cert.Attn1Ideal.Value.tokens m c) := finiteQK_of _ _ (hm c)
  have ht : Cert.Dilated1Ideal.Value.tokens m' c = Cert.Attn1Ideal.Value.tokens m c := e
  refine ⟨Eq.trans (funext fun i => ?_) (Cert.Attn1Ideal.Value.final5 m c hX).symm, Eq.trans (funext fun i => ?_) (Cert.Attn1Ideal.Value.final6 m c hX).symm⟩
  · rw [← ht]
    exact (congrArg _ (eq_ix2 i)).trans (Cert.Dilated1Ideal.Value.out0_at m' c (i 0) (i 1))
  · rw [← ht]
    exact (congrArg _ (eq_ix2 i)).trans (Cert.Dilated1Ideal.Value.out1_at m' c (i 0) (i 1))

theorem equal1 : algebraic_Attn1Ideal_Dilated1Ideal_pre_finite_queries_and_keys := by
  intro m g m' g' hm agree
  refine ⟨fun c => (Cert.Attn1Ideal.Gen.dats m 0 c).arrAt 5 (Cert.Attn1Ideal.cfgs 0).N, fun c => (Cert.Attn1Ideal.Gen.dats m 0 c).arrAt 6 (Cert.Attn1Ideal.cfgs 0).N,
    Cert.Attn1Ideal.Value.run_blocks m g, (θ_run _ _ _).mono (fun r h c => ?_) (Cert.Dilated1Ideal.Value.run m' g')⟩
  exact ⟨(h c).1.trans (same1 m m' hm c (agree c)).1, (h c).2.1.trans (same1 m m' hm c (agree c)).2, (h c).2.2⟩

/-! Stride 4. -/

theorem plain4 (m : (ℓ : Loc Cert.Dilated4Ideal.nD Cert.Dilated4Ideal.τ Cert.Dilated4Ideal.sig) → Buf (Elt Ideal) ℓ) (g : Dev Cert.Dilated4Ideal.nD → PrngReg) :
    θ_run (Cert.Dilated4Ideal.defs (F := Ideal)) (onTc (τ := Cert.Dilated4Ideal.τ) (Cert.Dilated4Ideal.main (F := Ideal))) ⟨m, fun _ => 0, g⟩ (fun r => (∀ c : Dev Cert.Dilated4Ideal.nD,
      r.2.mem ((c.tc : Thread Cert.Dilated4Ideal.nD Cert.Dilated4Ideal.τ).loc Cert.Dilated4Ideal.main_arg0) = m ((c.tc : Thread Cert.Dilated4Ideal.nD Cert.Dilated4Ideal.τ).loc Cert.Dilated4Ideal.main_arg0))
      ∧ r.2.sem = fun _ => 0) :=
  (θ_run _ _ _).mono (fun r h => ⟨fun c => (h c).2.2, sem_eq_zero_of_no_sems (by decide) r.2⟩) (Cert.Dilated4Ideal.Value.run m g)

theorem same4 (m : (ℓ : Loc Cert.Attn4Ideal.nD Cert.Attn4Ideal.τ Cert.Attn4Ideal.sig) → Buf (Elt Ideal) ℓ) (m' : (ℓ : Loc Cert.Dilated4Ideal.nD Cert.Dilated4Ideal.τ Cert.Dilated4Ideal.sig) → Buf (Elt Ideal) ℓ)
    (hm : Pre_Attn4Ideal_finite_queries_and_keys m) (c : Dev Cert.Attn4Ideal.nD)
    (e : m' ((c.tc : Thread Cert.Dilated4Ideal.nD Cert.Dilated4Ideal.τ).loc Cert.Dilated4Ideal.main_arg0) = m ((c.tc : Thread Cert.Attn4Ideal.nD Cert.Attn4Ideal.τ).loc Cert.Attn4Ideal.main_arg0)) :
    Cert.Dilated4Ideal.Value.res_out0 (F := Ideal) m' c = (Cert.Attn4Ideal.Gen.dats m 0 c).arrAt 5 (Cert.Attn4Ideal.cfgs 0).N
      ∧ Cert.Dilated4Ideal.Value.res_out1 (F := Ideal) m' c = (Cert.Attn4Ideal.Gen.dats m 0 c).arrAt 6 (Cert.Attn4Ideal.cfgs 0).N := by
  have hX : FiniteQK (Cert.Attn4Ideal.Value.tokens m c) := finiteQK_of _ _ (hm c)
  have ht : Cert.Dilated4Ideal.Value.tokens m' c = Cert.Attn4Ideal.Value.tokens m c := e
  refine ⟨Eq.trans (funext fun i => ?_) (Cert.Attn4Ideal.Value.final5 m c hX).symm, Eq.trans (funext fun i => ?_) (Cert.Attn4Ideal.Value.final6 m c hX).symm⟩
  · rw [← ht]
    exact (congrArg _ (eq_ix2 i)).trans (Cert.Dilated4Ideal.Value.out0_at m' c (i 0) (i 1))
  · rw [← ht]
    exact (congrArg _ (eq_ix2 i)).trans (Cert.Dilated4Ideal.Value.out1_at m' c (i 0) (i 1))

theorem equal4 : algebraic_Attn4Ideal_Dilated4Ideal_pre_finite_queries_and_keys := by
  intro m g m' g' hm agree
  refine ⟨fun c => (Cert.Attn4Ideal.Gen.dats m 0 c).arrAt 5 (Cert.Attn4Ideal.cfgs 0).N, fun c => (Cert.Attn4Ideal.Gen.dats m 0 c).arrAt 6 (Cert.Attn4Ideal.cfgs 0).N,
    Cert.Attn4Ideal.Value.run_blocks m g, (θ_run _ _ _).mono (fun r h c => ?_) (Cert.Dilated4Ideal.Value.run m' g')⟩
  exact ⟨(h c).1.trans (same4 m m' hm c (agree c)).1, (h c).2.1.trans (same4 m m' hm c (agree c)).2, (h c).2.2⟩

/-! Stride 16. -/

theorem plain16 (m : (ℓ : Loc Cert.Dilated16Ideal.nD Cert.Dilated16Ideal.τ Cert.Dilated16Ideal.sig) → Buf (Elt Ideal) ℓ) (g : Dev Cert.Dilated16Ideal.nD → PrngReg) :
    θ_run (Cert.Dilated16Ideal.defs (F := Ideal)) (onTc (τ := Cert.Dilated16Ideal.τ) (Cert.Dilated16Ideal.main (F := Ideal))) ⟨m, fun _ => 0, g⟩ (fun r => (∀ c : Dev Cert.Dilated16Ideal.nD,
      r.2.mem ((c.tc : Thread Cert.Dilated16Ideal.nD Cert.Dilated16Ideal.τ).loc Cert.Dilated16Ideal.main_arg0) = m ((c.tc : Thread Cert.Dilated16Ideal.nD Cert.Dilated16Ideal.τ).loc Cert.Dilated16Ideal.main_arg0))
      ∧ r.2.sem = fun _ => 0) :=
  (θ_run _ _ _).mono (fun r h => ⟨fun c => (h c).2.2, sem_eq_zero_of_no_sems (by decide) r.2⟩) (Cert.Dilated16Ideal.Value.run m g)

theorem same16 (m : (ℓ : Loc Cert.Attn16Ideal.nD Cert.Attn16Ideal.τ Cert.Attn16Ideal.sig) → Buf (Elt Ideal) ℓ) (m' : (ℓ : Loc Cert.Dilated16Ideal.nD Cert.Dilated16Ideal.τ Cert.Dilated16Ideal.sig) → Buf (Elt Ideal) ℓ)
    (hm : Pre_Attn16Ideal_finite_queries_and_keys m) (c : Dev Cert.Attn16Ideal.nD)
    (e : m' ((c.tc : Thread Cert.Dilated16Ideal.nD Cert.Dilated16Ideal.τ).loc Cert.Dilated16Ideal.main_arg0) = m ((c.tc : Thread Cert.Attn16Ideal.nD Cert.Attn16Ideal.τ).loc Cert.Attn16Ideal.main_arg0)) :
    Cert.Dilated16Ideal.Value.res_out0 (F := Ideal) m' c = (Cert.Attn16Ideal.Gen.dats m 0 c).arrAt 5 (Cert.Attn16Ideal.cfgs 0).N
      ∧ Cert.Dilated16Ideal.Value.res_out1 (F := Ideal) m' c = (Cert.Attn16Ideal.Gen.dats m 0 c).arrAt 6 (Cert.Attn16Ideal.cfgs 0).N := by
  have hX : FiniteQK (Cert.Attn16Ideal.Value.tokens m c) := finiteQK_of _ _ (hm c)
  have ht : Cert.Dilated16Ideal.Value.tokens m' c = Cert.Attn16Ideal.Value.tokens m c := e
  refine ⟨Eq.trans (funext fun i => ?_) (Cert.Attn16Ideal.Value.final5 m c hX).symm, Eq.trans (funext fun i => ?_) (Cert.Attn16Ideal.Value.final6 m c hX).symm⟩
  · rw [← ht]
    exact (congrArg _ (eq_ix2 i)).trans (Cert.Dilated16Ideal.Value.out0_at m' c (i 0) (i 1))
  · rw [← ht]
    exact (congrArg _ (eq_ix2 i)).trans (Cert.Dilated16Ideal.Value.out1_at m' c (i 0) (i 1))

theorem equal16 : algebraic_Attn16Ideal_Dilated16Ideal_pre_finite_queries_and_keys := by
  intro m g m' g' hm agree
  refine ⟨fun c => (Cert.Attn16Ideal.Gen.dats m 0 c).arrAt 5 (Cert.Attn16Ideal.cfgs 0).N, fun c => (Cert.Attn16Ideal.Gen.dats m 0 c).arrAt 6 (Cert.Attn16Ideal.cfgs 0).N,
    Cert.Attn16Ideal.Value.run_blocks m g, (θ_run _ _ _).mono (fun r h c => ?_) (Cert.Dilated16Ideal.Value.run m' g')⟩
  exact ⟨(h c).1.trans (same16 m m' hm c (agree c)).1, (h c).2.1.trans (same16 m m' hm c (agree c)).2, (h c).2.2⟩

theorem claim : Cert.Claim :=
  ⟨Cert.Project.Gen.facts, Cert.ProjectIdeal.Gen.facts, Cert.ProjectedIdeal.Gen.facts, Cert.Mix.Gen.facts, Cert.MixIdeal.Gen.facts, Cert.MixedIdeal.Gen.facts,
    Cert.SampleProject.Gen.facts, Cert.SampleProjectIdeal.Gen.facts, Cert.SampleProjectedIdeal.Gen.facts, Cert.SampleMix.Gen.facts, Cert.SampleMixIdeal.Gen.facts, Cert.SampleMixedIdeal.Gen.facts,
    Cert.Dense.Gen.facts, Cert.DenseIdeal.Gen.facts, Cert.ExpertsIdeal.Gen.facts,
    Cert.SampleDense.Gen.facts, Cert.SampleDenseIdeal.Gen.facts, Cert.SampleExpertsIdeal.Gen.facts,
    Cert.Attn1.Gen.facts,
    Cert.Attn1Ideal.Gen.facts, Cert.Dilated1Ideal.Gen.facts, Cert.Attn4.Gen.facts, Cert.Attn4Ideal.Gen.facts, Cert.Dilated4Ideal.Gen.facts, Cert.Attn16.Gen.facts, Cert.Attn16Ideal.Gen.facts, Cert.Dilated16Ideal.Gen.facts, Cert.Attend.preconditionFacts,
    fun m g _ => Cert.Project.Gen.frame m g, fun m g _ => Cert.ProjectIdeal.Gen.frame m g, fun m g _ => plainProject m g,
    fun m g _ => Cert.Mix.Gen.frame m g, fun m g _ => Cert.MixIdeal.Gen.frame m g, fun m g _ => plainMix m g,
    fun m g _ => Cert.SampleProject.Gen.frame m g, fun m g _ => Cert.SampleProjectIdeal.Gen.frame m g, fun m g _ => plainSampleProject m g,
    fun m g _ => Cert.SampleMix.Gen.frame m g, fun m g _ => Cert.SampleMixIdeal.Gen.frame m g, fun m g _ => plainSampleMix m g,
    fun m g _ => Cert.Dense.Gen.frame m g, fun m g _ => Cert.DenseIdeal.Gen.frame m g, fun m g _ => plainDense m g,
    fun m g _ => Cert.SampleDense.Gen.frame m g, fun m g _ => Cert.SampleDenseIdeal.Gen.frame m g, fun m g _ => plainSampleDense m g,
    fun m g _ => Cert.Attn1.Gen.frame m g, fun m g _ => Cert.Attn1Ideal.Gen.frame m g, fun m g _ => Cert.Attn1Ideal.Gen.frame m g, fun m g _ => plain1 m g, fun m g _ => plain1 m g,
    fun m g _ => Cert.Attn4.Gen.frame m g, fun m g _ => Cert.Attn4Ideal.Gen.frame m g, fun m g _ => Cert.Attn4Ideal.Gen.frame m g, fun m g _ => plain4 m g, fun m g _ => plain4 m g,
    fun m g _ => Cert.Attn16.Gen.frame m g, fun m g _ => Cert.Attn16Ideal.Gen.frame m g, fun m g _ => Cert.Attn16Ideal.Gen.frame m g, fun m g _ => plain16 m g, fun m g _ => plain16 m g,
    trivial, equalProject, trivial, equalMix, trivial, equalSampleProject, trivial, equalSampleMix, trivial, equalDense, trivial, equalSampleDense,
    IdealRules.named_const.statement Cert.Attn1Ideal.κ "mask" .f32 0xFF7F0000#32 ⊥ rfl, equal1,
    IdealRules.named_const.statement Cert.Attn4Ideal.κ "mask" .f32 0xFF7F0000#32 ⊥ rfl, equal4,
    IdealRules.named_const.statement Cert.Attn16Ideal.κ "mask" .f32 0xFF7F0000#32 ⊥ rfl, equal16⟩

end Cert.Proof
